-- ==== Defs.lean ====
def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_scores [hPre_finite_scores : Cert.Pre_finite_scores.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_scores.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).1 = (fun _ => 1#1)
    ∧ (Cert.Pre_finite_scores.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3))).2 = (fun _ => 1#1)

def Pre_AttnBwdRefIdeal (m : (ℓ : Loc Cert.AttnBwdRefIdeal.nD Cert.AttnBwdRefIdeal.τ Cert.AttnBwdRefIdeal.sig) → Buf (Elt Ideal) ℓ) : Prop :=
  True

def Pre_AttnBwdRefIdeal_finite_scores [hPre_finite_scores : Cert.Pre_finite_scores.Facts] (m : (ℓ : Loc Cert.AttnBwdRefIdeal.nD Cert.AttnBwdRefIdeal.τ Cert.AttnBwdRefIdeal.sig) → Buf (Elt Ideal) ℓ) : Prop :=
  ∀ c : Dev Cert.AttnBwdRefIdeal.nD,
    (Cert.Pre_finite_scores.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).1 = (fun _ => 1#1)
    ∧ (Cert.Pre_finite_scores.fn (F := Ideal) (m ((c.tc : Thread Cert.AttnBwdRefIdeal.nD Cert.AttnBwdRefIdeal.τ).loc Cert.AttnBwdRefIdeal.main_arg0)) (m ((c.tc : Thread Cert.AttnBwdRefIdeal.nD Cert.AttnBwdRefIdeal.τ).loc Cert.AttnBwdRefIdeal.main_arg1)) (m ((c.tc : Thread Cert.AttnBwdRefIdeal.nD Cert.AttnBwdRefIdeal.τ).loc Cert.AttnBwdRefIdeal.main_arg2)) (m ((c.tc : Thread Cert.AttnBwdRefIdeal.nD Cert.AttnBwdRefIdeal.τ).loc Cert.AttnBwdRefIdeal.main_arg3))).2 = (fun _ => 1#1)

def Pre_FfnDhid (m : (ℓ : Loc Cert.FfnDhid.nD Cert.FfnDhid.τ Cert.FfnDhid.sig) → Buf (Elt Bits) ℓ) : Prop :=
  True

def Pre_FfnDhidIdeal (m : (ℓ : Loc Cert.FfnDhidIdeal.nD Cert.FfnDhidIdeal.τ Cert.FfnDhidIdeal.sig) → Buf (Elt Ideal) ℓ) : Prop :=
  True

def Pre_FfnDhidIdeal_finite_hidden [hPre_finite_hidden : Cert.Pre_finite_hidden.Facts] (m : (ℓ : Loc Cert.FfnDhidIdeal.nD Cert.FfnDhidIdeal.τ Cert.FfnDhidIdeal.sig) → Buf (Elt Ideal) ℓ) : Prop :=
  ∀ c : Dev Cert.FfnDhidIdeal.nD,
    (Cert.Pre_finite_hidden.fn (F := Ideal) (m ((c.tc : Thread Cert.FfnDhidIdeal.nD Cert.FfnDhidIdeal.τ).loc Cert.FfnDhidIdeal.main_arg0)) (m ((c.tc : Thread Cert.FfnDhidIdeal.nD Cert.FfnDhidIdeal.τ).loc Cert.FfnDhidIdeal.main_arg1)) (m ((c.tc : Thread Cert.FfnDhidIdeal.nD Cert.FfnDhidIdeal.τ).loc Cert.FfnDhidIdeal.main_arg2)) (m ((c.tc : Thread Cert.FfnDhidIdeal.nD Cert.FfnDhidIdeal.τ).loc Cert.FfnDhidIdeal.main_arg3))).1 = (fun _ => 1#1)
    ∧ (Cert.Pre_finite_hidden.fn (F := Ideal) (m ((c.tc : Thread Cert.FfnDhidIdeal.nD Cert.FfnDhidIdeal.τ).loc Cert.FfnDhidIdeal.main_arg0)) (m ((c.tc : Thread Cert.FfnDhidIdeal.nD Cert.FfnDhidIdeal.τ).loc Cert.FfnDhidIdeal.main_arg1)) (m ((c.tc : Thread Cert.FfnDhidIdeal.nD Cert.FfnDhidIdeal.τ).loc Cert.FfnDhidIdeal.main_arg2)) (m ((c.tc : Thread Cert.FfnDhidIdeal.nD Cert.FfnDhidIdeal.τ).loc Cert.FfnDhidIdeal.main_arg3))).2.1 = (fun _ => 1#1)
    ∧ (Cert.Pre_finite_hidden.fn (F := Ideal) (m ((c.tc : Thread Cert.FfnDhidIdeal.nD Cert.FfnDhidIdeal.τ).loc Cert.FfnDhidIdeal.main_arg0)) (m ((c.tc : Thread Cert.FfnDhidIdeal.nD Cert.FfnDhidIdeal.τ).loc Cert.FfnDhidIdeal.main_arg1)) (m ((c.tc : Thread Cert.FfnDhidIdeal.nD Cert.FfnDhidIdeal.τ).loc Cert.FfnDhidIdeal.main_arg2)) (m ((c.tc : Thread Cert.FfnDhidIdeal.nD Cert.FfnDhidIdeal.τ).loc Cert.FfnDhidIdeal.main_arg3))).2.2 = (fun _ => 1#1)

def Pre_FfnDhidRefIdeal (m : (ℓ : Loc Cert.FfnDhidRefIdeal.nD Cert.FfnDhidRefIdeal.τ Cert.FfnDhidRefIdeal.sig) → Buf (Elt Ideal) ℓ) : Prop :=
  True

def Pre_FfnDhidRefIdeal_finite_hidden [hPre_finite_hidden : Cert.Pre_finite_hidden.Facts] (m : (ℓ : Loc Cert.FfnDhidRefIdeal.nD Cert.FfnDhidRefIdeal.τ Cert.FfnDhidRefIdeal.sig) → Buf (Elt Ideal) ℓ) : Prop :=
  ∀ c : Dev Cert.FfnDhidRefIdeal.nD,
    (Cert.Pre_finite_hidden.fn (F := Ideal) (m ((c.tc : Thread Cert.FfnDhidRefIdeal.nD Cert.FfnDhidRefIdeal.τ).loc Cert.FfnDhidRefIdeal.main_arg0)) (m ((c.tc : Thread Cert.FfnDhidRefIdeal.nD Cert.FfnDhidRefIdeal.τ).loc Cert.FfnDhidRefIdeal.main_arg1)) (m ((c.tc : Thread Cert.FfnDhidRefIdeal.nD Cert.FfnDhidRefIdeal.τ).loc Cert.FfnDhidRefIdeal.main_arg2)) (m ((c.tc : Thread Cert.FfnDhidRefIdeal.nD Cert.FfnDhidRefIdeal.τ).loc Cert.FfnDhidRefIdeal.main_arg3))).1 = (fun _ => 1#1)
    ∧ (Cert.Pre_finite_hidden.fn (F := Ideal) (m ((c.tc : Thread Cert.FfnDhidRefIdeal.nD Cert.FfnDhidRefIdeal.τ).loc Cert.FfnDhidRefIdeal.main_arg0)) (m ((c.tc : Thread Cert.FfnDhidRefIdeal.nD Cert.FfnDhidRefIdeal.τ).loc Cert.FfnDhidRefIdeal.main_arg1)) (m ((c.tc : Thread Cert.FfnDhidRefIdeal.nD Cert.FfnDhidRefIdeal.τ).loc Cert.FfnDhidRefIdeal.main_arg2)) (m ((c.tc : Thread Cert.FfnDhidRefIdeal.nD Cert.FfnDhidRefIdeal.τ).loc Cert.FfnDhidRefIdeal.main_arg3))).2.1 = (fun _ => 1#1)
    ∧ (Cert.Pre_finite_hidden.fn (F := Ideal) (m ((c.tc : Thread Cert.FfnDhidRefIdeal.nD Cert.FfnDhidRefIdeal.τ).loc Cert.FfnDhidRefIdeal.main_arg0)) (m ((c.tc : Thread Cert.FfnDhidRefIdeal.nD Cert.FfnDhidRefIdeal.τ).loc Cert.FfnDhidRefIdeal.main_arg1)) (m ((c.tc : Thread Cert.FfnDhidRefIdeal.nD Cert.FfnDhidRefIdeal.τ).loc Cert.FfnDhidRefIdeal.main_arg2)) (m ((c.tc : Thread Cert.FfnDhidRefIdeal.nD Cert.FfnDhidRefIdeal.τ).loc Cert.FfnDhidRefIdeal.main_arg3))).2.2 = (fun _ => 1#1)

def Pre_FfnDn (m : (ℓ : Loc Cert.FfnDn.nD Cert.FfnDn.τ Cert.FfnDn.sig) → Buf (Elt Bits) ℓ) : Prop :=
  True

def Pre_FfnDnIdeal (m : (ℓ : Loc Cert.FfnDnIdeal.nD Cert.FfnDnIdeal.τ Cert.FfnDnIdeal.sig) → Buf (Elt Ideal) ℓ) : Prop :=
  True

def Pre_FfnDnRefIdeal (m : (ℓ : Loc Cert.FfnDnRefIdeal.nD Cert.FfnDnRefIdeal.τ Cert.FfnDnRefIdeal.sig) → Buf (Elt Ideal) ℓ) : Prop :=
  True

def Pre_OdDn (m : (ℓ : Loc Cert.OdDn.nD Cert.OdDn.τ Cert.OdDn.sig) → Buf (Elt Bits) ℓ) : Prop :=
  True

def Pre_OdDnIdeal (m : (ℓ : Loc Cert.OdDnIdeal.nD Cert.OdDnIdeal.τ Cert.OdDnIdeal.sig) → Buf (Elt Ideal) ℓ) : Prop :=
  True

def Pre_OdDnRefIdeal (m : (ℓ : Loc Cert.OdDnRefIdeal.nD Cert.OdDnRefIdeal.τ Cert.OdDnRefIdeal.sig) → Buf (Elt Ideal) ℓ) : Prop :=
  True

def Pre_EvDn (m : (ℓ : Loc Cert.EvDn.nD Cert.EvDn.τ Cert.EvDn.sig) → Buf (Elt Bits) ℓ) : Prop :=
  True

def Pre_EvDnIdeal (m : (ℓ : Loc Cert.EvDnIdeal.nD Cert.EvDnIdeal.τ Cert.EvDnIdeal.sig) → Buf (Elt Ideal) ℓ) : Prop :=
  True

def Pre_EvDnRefIdeal (m : (ℓ : Loc Cert.EvDnRefIdeal.nD Cert.EvDnRefIdeal.τ Cert.EvDnRefIdeal.sig) → Buf (Elt Ideal) ℓ) : Prop :=
  True

def Pre_XaDnq (m : (ℓ : Loc Cert.XaDnq.nD Cert.XaDnq.τ Cert.XaDnq.sig) → Buf (Elt Bits) ℓ) : Prop :=
  True

def Pre_XaDnqIdeal (m : (ℓ : Loc Cert.XaDnqIdeal.nD Cert.XaDnqIdeal.τ Cert.XaDnqIdeal.sig) → Buf (Elt Ideal) ℓ) : Prop :=
  True

def Pre_XaDnqRefIdeal (m : (ℓ : Loc Cert.XaDnqRefIdeal.nD Cert.XaDnqRefIdeal.τ Cert.XaDnqRefIdeal.sig) → Buf (Elt Ideal) ℓ) : Prop :=
  True

def Pre_FfnDwd (m : (ℓ : Loc Cert.FfnDwd.nD Cert.FfnDwd.τ Cert.FfnDwd.sig) → Buf (Elt Bits) ℓ) : Prop :=
  True

def Pre_FfnDwdIdeal (m : (ℓ : Loc Cert.FfnDwdIdeal.nD Cert.FfnDwdIdeal.τ Cert.FfnDwdIdeal.sig) → Buf (Elt Ideal) ℓ) : Prop :=
  True

def Pre_FfnDwdRefIdeal (m : (ℓ : Loc Cert.FfnDwdRefIdeal.nD Cert.FfnDwdRefIdeal.τ Cert.FfnDwdRefIdeal.sig) → Buf (Elt Ideal) ℓ) : Prop :=
  True

def Pre_FfnDwg (m : (ℓ : Loc Cert.FfnDwg.nD Cert.FfnDwg.τ Cert.FfnDwg.sig) → Buf (Elt Bits) ℓ) : Prop :=
  True

def Pre_FfnDwgIdeal (m : (ℓ : Loc Cert.FfnDwgIdeal.nD Cert.FfnDwgIdeal.τ Cert.FfnDwgIdeal.sig) → Buf (Elt Ideal) ℓ) : Prop :=
  True

def Pre_FfnDwgRefIdeal (m : (ℓ : Loc Cert.FfnDwgRefIdeal.nD Cert.FfnDwgRefIdeal.τ Cert.FfnDwgRefIdeal.sig) → Buf (Elt Ideal) ℓ) : Prop :=
  True

def Pre_XaDwo (m : (ℓ : Loc Cert.XaDwo.nD Cert.XaDwo.τ Cert.XaDwo.sig) → Buf (Elt Bits) ℓ) : Prop :=
  True

def Pre_XaDwoIdeal (m : (ℓ : Loc Cert.XaDwoIdeal.nD Cert.XaDwoIdeal.τ Cert.XaDwoIdeal.sig) → Buf (Elt Ideal) ℓ) : Prop :=
  True

def Pre_XaDwoRefIdeal (m : (ℓ : Loc Cert.XaDwoRefIdeal.nD Cert.XaDwoRefIdeal.τ Cert.XaDwoRefIdeal.sig) → Buf (Elt Ideal) ℓ) : Prop :=
  True

def Pre_XaDwq (m : (ℓ : Loc Cert.XaDwq.nD Cert.XaDwq.τ Cert.XaDwq.sig) → Buf (Elt Bits) ℓ) : Prop :=
  True

def Pre_XaDwqIdeal (m : (ℓ : Loc Cert.XaDwqIdeal.nD Cert.XaDwqIdeal.τ Cert.XaDwqIdeal.sig) → Buf (Elt Ideal) ℓ) : Prop :=
  True

def Pre_XaDwqRefIdeal (m : (ℓ : Loc Cert.XaDwqRefIdeal.nD Cert.XaDwqRefIdeal.τ Cert.XaDwqRefIdeal.sig) → Buf (Elt Ideal) ℓ) : Prop :=
  True

def Pre_OdDwin (m : (ℓ : Loc Cert.OdDwin.nD Cert.OdDwin.τ Cert.OdDwin.sig) → Buf (Elt Bits) ℓ) : Prop :=
  True

def Pre_OdDwinIdeal (m : (ℓ : Loc Cert.OdDwinIdeal.nD Cert.OdDwinIdeal.τ Cert.OdDwinIdeal.sig) → Buf (Elt Ideal) ℓ) : Prop :=
  True

def Pre_OdDwinRefIdeal (m : (ℓ : Loc Cert.OdDwinRefIdeal.nD Cert.OdDwinRefIdeal.τ Cert.OdDwinRefIdeal.sig) → Buf (Elt Ideal) ℓ) : Prop :=
  True

def Pre_EvDwin (m : (ℓ : Loc Cert.EvDwin.nD Cert.EvDwin.τ Cert.EvDwin.sig) → Buf (Elt Bits) ℓ) : Prop :=
  True

def Pre_EvDwinIdeal (m : (ℓ : Loc Cert.EvDwinIdeal.nD Cert.EvDwinIdeal.τ Cert.EvDwinIdeal.sig) → Buf (Elt Ideal) ℓ) : Prop :=
  True

def Pre_EvDwinRefIdeal (m : (ℓ : Loc Cert.EvDwinRefIdeal.nD Cert.EvDwinRefIdeal.τ Cert.EvDwinRefIdeal.sig) → Buf (Elt Ideal) ℓ) : Prop :=
  True

def Pre_XaDo (m : (ℓ : Loc Cert.XaDo.nD Cert.XaDo.τ Cert.XaDo.sig) → Buf (Elt Bits) ℓ) : Prop :=
  True

def Pre_XaDoIdeal (m : (ℓ : Loc Cert.XaDoIdeal.nD Cert.XaDoIdeal.τ Cert.XaDoIdeal.sig) → Buf (Elt Ideal) ℓ) : Prop :=
  True

def Pre_XaDoRefIdeal (m : (ℓ : Loc Cert.XaDoRefIdeal.nD Cert.XaDoRefIdeal.τ Cert.XaDoRefIdeal.sig) → Buf (Elt Ideal) ℓ) : Prop :=
  True

def Pre_XaQ (m : (ℓ : Loc Cert.XaQ.nD Cert.XaQ.τ Cert.XaQ.sig) → Buf (Elt Bits) ℓ) : Prop :=
  True

def Pre_XaQIdeal (m : (ℓ : Loc Cert.XaQIdeal.nD Cert.XaQIdeal.τ Cert.XaQIdeal.sig) → Buf (Elt Ideal) ℓ) : Prop :=
  True

def Pre_XaQRefIdeal (m : (ℓ : Loc Cert.XaQRefIdeal.nD Cert.XaQRefIdeal.τ Cert.XaQRefIdeal.sig) → Buf (Elt Ideal) ℓ) : Prop :=
  True

def Pre_EvIn (m : (ℓ : Loc Cert.EvIn.nD Cert.EvIn.τ Cert.EvIn.sig) → Buf (Elt Bits) ℓ) : Prop :=
  True

def Pre_EvInIdeal (m : (ℓ : Loc Cert.EvInIdeal.nD Cert.EvInIdeal.τ Cert.EvInIdeal.sig) → Buf (Elt Ideal) ℓ) : Prop :=
  True

def Pre_EvInRefIdeal (m : (ℓ : Loc Cert.EvInRefIdeal.nD Cert.EvInRefIdeal.τ Cert.EvInRefIdeal.sig) → Buf (Elt Ideal) ℓ) : Prop :=
  True

def Pre_OdIn (m : (ℓ : Loc Cert.OdIn.nD Cert.OdIn.τ Cert.OdIn.sig) → Buf (Elt Bits) ℓ) : Prop :=
  True

def Pre_OdInIdeal (m : (ℓ : Loc Cert.OdInIdeal.nD Cert.OdInIdeal.τ Cert.OdInIdeal.sig) → Buf (Elt Ideal) ℓ) : Prop :=
  True

def Pre_OdInRefIdeal (m : (ℓ : Loc Cert.OdInRefIdeal.nD Cert.OdInRefIdeal.τ Cert.OdInRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_XaO (m : (ℓ : Loc Cert.XaO.nD Cert.XaO.τ Cert.XaO.sig) → Buf (Elt Bits) ℓ) : Prop :=
  True

def Pre_XaOIdeal (m : (ℓ : Loc Cert.XaOIdeal.nD Cert.XaOIdeal.τ Cert.XaOIdeal.sig) → Buf (Elt Ideal) ℓ) : Prop :=
  True

def Pre_XaORefIdeal (m : (ℓ : Loc Cert.XaORefIdeal.nD Cert.XaORefIdeal.τ Cert.XaORefIdeal.sig) → Buf (Elt Ideal) ℓ) : Prop :=
  True

def Pre_FfnLoss (m : (ℓ : Loc Cert.FfnLoss.nD Cert.FfnLoss.τ Cert.FfnLoss.sig) → Buf (Elt Bits) ℓ) : Prop :=
  True

def Pre_FfnLossIdeal (m : (ℓ : Loc Cert.FfnLossIdeal.nD Cert.FfnLossIdeal.τ Cert.FfnLossIdeal.sig) → Buf (Elt Ideal) ℓ) : Prop :=
  True

def Pre_FfnLossRefIdeal (m : (ℓ : Loc Cert.FfnLossRefIdeal.nD Cert.FfnLossRefIdeal.τ Cert.FfnLossRefIdeal.sig) → Buf (Elt Ideal) ℓ) : Prop :=
  True

def Pre_AdamwNorms (m : (ℓ : Loc Cert.AdamwNorms.nD Cert.AdamwNorms.τ Cert.AdamwNorms.sig) → Buf (Elt Bits) ℓ) : Prop :=
  True

def Pre_AdamwNormsIdeal (m : (ℓ : Loc Cert.AdamwNormsIdeal.nD Cert.AdamwNormsIdeal.τ Cert.AdamwNormsIdeal.sig) → Buf (Elt Ideal) ℓ) : Prop :=
  True

def Pre_AdamwNormsRefIdeal (m : (ℓ : Loc Cert.AdamwNormsRefIdeal.nD Cert.AdamwNormsRefIdeal.τ Cert.AdamwNormsRefIdeal.sig) → Buf (Elt Ideal) ℓ) : Prop :=
  True

def Pre_AdamwMixed (m : (ℓ : Loc Cert.AdamwMixed.nD Cert.AdamwMixed.τ Cert.AdamwMixed.sig) → Buf (Elt Bits) ℓ) : Prop :=
  True

def Pre_AdamwMixedIdeal (m : (ℓ : Loc Cert.AdamwMixedIdeal.nD Cert.AdamwMixedIdeal.τ Cert.AdamwMixedIdeal.sig) → Buf (Elt Ideal) ℓ) : Prop :=
  True

def Pre_AdamwMixedRefIdeal (m : (ℓ : Loc Cert.AdamwMixedRefIdeal.nD Cert.AdamwMixedRefIdeal.τ Cert.AdamwMixedRefIdeal.sig) → Buf (Elt Ideal) ℓ) : Prop :=
  True

def Pre_AdamwEven (m : (ℓ : Loc Cert.AdamwEven.nD Cert.AdamwEven.τ Cert.AdamwEven.sig) → Buf (Elt Bits) ℓ) : Prop :=
  True

def Pre_AdamwEvenIdeal (m : (ℓ : Loc Cert.AdamwEvenIdeal.nD Cert.AdamwEvenIdeal.τ Cert.AdamwEvenIdeal.sig) → Buf (Elt Ideal) ℓ) : Prop :=
  True

def Pre_AdamwEvenRefIdeal (m : (ℓ : Loc Cert.AdamwEvenRefIdeal.nD Cert.AdamwEvenRefIdeal.τ Cert.AdamwEvenRefIdeal.sig) → Buf (Elt Ideal) ℓ) : Prop :=
  True

def Pre_AdamwTaps (m : (ℓ : Loc Cert.AdamwTaps.nD Cert.AdamwTaps.τ Cert.AdamwTaps.sig) → Buf (Elt Bits) ℓ) : Prop :=
  True

def Pre_AdamwTapsIdeal (m : (ℓ : Loc Cert.AdamwTapsIdeal.nD Cert.AdamwTapsIdeal.τ Cert.AdamwTapsIdeal.sig) → Buf (Elt Ideal) ℓ) : Prop :=
  True

def Pre_AdamwTapsRefIdeal (m : (ℓ : Loc Cert.AdamwTapsRefIdeal.nD Cert.AdamwTapsRefIdeal.τ Cert.AdamwTapsRefIdeal.sig) → Buf (Elt Ideal) ℓ) : Prop :=
  True

def Pre_AdamwRest (m : (ℓ : Loc Cert.AdamwRest.nD Cert.AdamwRest.τ Cert.AdamwRest.sig) → Buf (Elt Bits) ℓ) : Prop :=
  True

def Pre_AdamwRestIdeal (m : (ℓ : Loc Cert.AdamwRestIdeal.nD Cert.AdamwRestIdeal.τ Cert.AdamwRestIdeal.sig) → Buf (Elt Ideal) ℓ) : Prop :=
  True

def Pre_AdamwRestRefIdeal (m : (ℓ : Loc Cert.AdamwRestRefIdeal.nD Cert.AdamwRestRefIdeal.τ Cert.AdamwRestRefIdeal.sig) → Buf (Elt Ideal) ℓ) : Prop :=
  True

def Pre_FinishEvIn [hPre_own_block_ev_in : Cert.Pre_own_block_ev_in.Facts] (m : (ℓ : Loc Cert.FinishEvIn.nD Cert.FinishEvIn.τ Cert.FinishEvIn.sig) → Buf (Elt Bits) ℓ) : Prop :=
  ∀ c : Dev Cert.FinishEvIn.nD,
    (Cert.Pre_own_block_ev_in.fn (F := Bits) (m ((c.tc : Thread Cert.FinishEvIn.nD Cert.FinishEvIn.τ).loc Cert.FinishEvIn.main_arg0)) (m ((c.tc : Thread Cert.FinishEvIn.nD Cert.FinishEvIn.τ).loc Cert.FinishEvIn.main_arg1)) (m ((c.tc : Thread Cert.FinishEvIn.nD Cert.FinishEvIn.τ).loc Cert.FinishEvIn.main_arg2)) (m ((c.tc : Thread Cert.FinishEvIn.nD Cert.FinishEvIn.τ).loc Cert.FinishEvIn.main_arg3)) (m ((c.tc : Thread Cert.FinishEvIn.nD Cert.FinishEvIn.τ).loc Cert.FinishEvIn.main_arg4)) (m ((c.tc : Thread Cert.FinishEvIn.nD Cert.FinishEvIn.τ).loc Cert.FinishEvIn.main_arg5))) = (fun _ => 1#1)

def Pre_FinishEvInIdeal [hPre_own_block_ev_in : Cert.Pre_own_block_ev_in.Facts] (m : (ℓ : Loc Cert.FinishEvInIdeal.nD Cert.FinishEvInIdeal.τ Cert.FinishEvInIdeal.sig) → Buf (Elt Ideal) ℓ) : Prop :=
  ∀ c : Dev Cert.FinishEvInIdeal.nD,
    (Cert.Pre_own_block_ev_in.fn (F := Ideal) (m ((c.tc : Thread Cert.FinishEvInIdeal.nD Cert.FinishEvInIdeal.τ).loc Cert.FinishEvInIdeal.main_arg0)) (m ((c.tc : Thread Cert.FinishEvInIdeal.nD Cert.FinishEvInIdeal.τ).loc Cert.FinishEvInIdeal.main_arg1)) (m ((c.tc : Thread Cert.FinishEvInIdeal.nD Cert.FinishEvInIdeal.τ).loc Cert.FinishEvInIdeal.main_arg2)) (m ((c.tc : Thread Cert.FinishEvInIdeal.nD Cert.FinishEvInIdeal.τ).loc Cert.FinishEvInIdeal.main_arg3)) (m ((c.tc : Thread Cert.FinishEvInIdeal.nD Cert.FinishEvInIdeal.τ).loc Cert.FinishEvInIdeal.main_arg4)) (m ((c.tc : Thread Cert.FinishEvInIdeal.nD Cert.FinishEvInIdeal.τ).loc Cert.FinishEvInIdeal.main_arg5))) = (fun _ => 1#1)

def Pre_FinishEvInRefIdeal (m : (ℓ : Loc Cert.FinishEvInRefIdeal.nD Cert.FinishEvInRefIdeal.τ Cert.FinishEvInRefIdeal.sig) → Buf (Elt Ideal) ℓ) : Prop :=
  True

def Pre_FinishEvInRefIdeal_own_block_ev_in [hPre_own_block_ev_in : Cert.Pre_own_block_ev_in.Facts] (m : (ℓ : Loc Cert.FinishEvInRefIdeal.nD Cert.FinishEvInRefIdeal.τ Cert.FinishEvInRefIdeal.sig) → Buf (Elt Ideal) ℓ) : Prop :=
  ∀ c : Dev Cert.FinishEvInRefIdeal.nD,
    (Cert.Pre_own_block_ev_in.fn (F := Ideal) (m ((c.tc : Thread Cert.FinishEvInRefIdeal.nD Cert.FinishEvInRefIdeal.τ).loc Cert.FinishEvInRefIdeal.main_arg0)) (m ((c.tc : Thread Cert.FinishEvInRefIdeal.nD Cert.FinishEvInRefIdeal.τ).loc Cert.FinishEvInRefIdeal.main_arg1)) (m ((c.tc : Thread Cert.FinishEvInRefIdeal.nD Cert.FinishEvInRefIdeal.τ).loc Cert.FinishEvInRefIdeal.main_arg2)) (m ((c.tc : Thread Cert.FinishEvInRefIdeal.nD Cert.FinishEvInRefIdeal.τ).loc Cert.FinishEvInRefIdeal.main_arg3)) (m ((c.tc : Thread Cert.FinishEvInRefIdeal.nD Cert.FinishEvInRefIdeal.τ).loc Cert.FinishEvInRefIdeal.main_arg4)) (m ((c.tc : Thread Cert.FinishEvInRefIdeal.nD Cert.FinishEvInRefIdeal.τ).loc Cert.FinishEvInRefIdeal.main_arg5))) = (fun _ => 1#1)

def Pre_FinishOdIn [hPre_own_block_od_in : Cert.Pre_own_block_od_in.Facts] (m : (ℓ : Loc Cert.FinishOdIn.nD Cert.FinishOdIn.τ Cert.FinishOdIn.sig) → Buf (Elt Bits) ℓ) : Prop :=
  ∀ c : Dev Cert.FinishOdIn.nD,
    (Cert.Pre_own_block_od_in.fn (F := Bits) (m ((c.tc : Thread Cert.FinishOdIn.nD Cert.FinishOdIn.τ).loc Cert.FinishOdIn.main_arg0)) (m ((c.tc : Thread Cert.FinishOdIn.nD Cert.FinishOdIn.τ).loc Cert.FinishOdIn.main_arg1)) (m ((c.tc : Thread Cert.FinishOdIn.nD Cert.FinishOdIn.τ).loc Cert.FinishOdIn.main_arg2)) (m ((c.tc : Thread Cert.FinishOdIn.nD Cert.FinishOdIn.τ).loc Cert.FinishOdIn.main_arg3)) (m ((c.tc : Thread Cert.FinishOdIn.nD Cert.FinishOdIn.τ).loc Cert.FinishOdIn.main_arg4)) (m ((c.tc : Thread Cert.FinishOdIn.nD Cert.FinishOdIn.τ).loc Cert.FinishOdIn.main_arg5))) = (fun _ => 1#1)

def Pre_FinishOdInIdeal [hPre_own_block_od_in : Cert.Pre_own_block_od_in.Facts] (m : (ℓ : Loc Cert.FinishOdInIdeal.nD Cert.FinishOdInIdeal.τ Cert.FinishOdInIdeal.sig) → Buf (Elt Ideal) ℓ) : Prop :=
  ∀ c : Dev Cert.FinishOdInIdeal.nD,
    (Cert.Pre_own_block_od_in.fn (F := Ideal) (m ((c.tc : Thread Cert.FinishOdInIdeal.nD Cert.FinishOdInIdeal.τ).loc Cert.FinishOdInIdeal.main_arg0)) (m ((c.tc : Thread Cert.FinishOdInIdeal.nD Cert.FinishOdInIdeal.τ).loc Cert.FinishOdInIdeal.main_arg1)) (m ((c.tc : Thread Cert.FinishOdInIdeal.nD Cert.FinishOdInIdeal.τ).loc Cert.FinishOdInIdeal.main_arg2)) (m ((c.tc : Thread Cert.FinishOdInIdeal.nD Cert.FinishOdInIdeal.τ).loc Cert.FinishOdInIdeal.main_arg3)) (m ((c.tc : Thread Cert.FinishOdInIdeal.nD Cert.FinishOdInIdeal.τ).loc Cert.FinishOdInIdeal.main_arg4)) (m ((c.tc : Thread Cert.FinishOdInIdeal.nD Cert.FinishOdInIdeal.τ).loc Cert.FinishOdInIdeal.main_arg5))) = (fun _ => 1#1)

def Pre_FinishOdInRefIdeal (m : (ℓ : Loc Cert.FinishOdInRefIdeal.nD Cert.FinishOdInRefIdeal.τ Cert.FinishOdInRefIdeal.sig) → Buf (Elt Ideal) ℓ) : Prop :=
  True

def Pre_FinishOdInRefIdeal_own_block_od_in [hPre_own_block_od_in : Cert.Pre_own_block_od_in.Facts] (m : (ℓ : Loc Cert.FinishOdInRefIdeal.nD Cert.FinishOdInRefIdeal.τ Cert.FinishOdInRefIdeal.sig) → Buf (Elt Ideal) ℓ) : Prop :=
  ∀ c : Dev Cert.FinishOdInRefIdeal.nD,
    (Cert.Pre_own_block_od_in.fn (F := Ideal) (m ((c.tc : Thread Cert.FinishOdInRefIdeal.nD Cert.FinishOdInRefIdeal.τ).loc Cert.FinishOdInRefIdeal.main_arg0)) (m ((c.tc : Thread Cert.FinishOdInRefIdeal.nD Cert.FinishOdInRefIdeal.τ).loc Cert.FinishOdInRefIdeal.main_arg1)) (m ((c.tc : Thread Cert.FinishOdInRefIdeal.nD Cert.FinishOdInRefIdeal.τ).loc Cert.FinishOdInRefIdeal.main_arg2)) (m ((c.tc : Thread Cert.FinishOdInRefIdeal.nD Cert.FinishOdInRefIdeal.τ).loc Cert.FinishOdInRefIdeal.main_arg3)) (m ((c.tc : Thread Cert.FinishOdInRefIdeal.nD Cert.FinishOdInRefIdeal.τ).loc Cert.FinishOdInRefIdeal.main_arg4)) (m ((c.tc : Thread Cert.FinishOdInRefIdeal.nD Cert.FinishOdInRefIdeal.τ).loc Cert.FinishOdInRefIdeal.main_arg5))) = (fun _ => 1#1)

def Pre_FinishOut [hPre_own_block_out : Cert.Pre_own_block_out.Facts] (m : (ℓ : Loc Cert.FinishOut.nD Cert.FinishOut.τ Cert.FinishOut.sig) → Buf (Elt Bits) ℓ) : Prop :=
  ∀ c : Dev Cert.FinishOut.nD,
    (Cert.Pre_own_block_out.fn (F := Bits) (m ((c.tc : Thread Cert.FinishOut.nD Cert.FinishOut.τ).loc Cert.FinishOut.main_arg0)) (m ((c.tc : Thread Cert.FinishOut.nD Cert.FinishOut.τ).loc Cert.FinishOut.main_arg1)) (m ((c.tc : Thread Cert.FinishOut.nD Cert.FinishOut.τ).loc Cert.FinishOut.main_arg2)) (m ((c.tc : Thread Cert.FinishOut.nD Cert.FinishOut.τ).loc Cert.FinishOut.main_arg3)) (m ((c.tc : Thread Cert.FinishOut.nD Cert.FinishOut.τ).loc Cert.FinishOut.main_arg4)) (m ((c.tc : Thread Cert.FinishOut.nD Cert.FinishOut.τ).loc Cert.FinishOut.main_arg5))) = (fun _ => 1#1)

def Pre_FinishOutIdeal [hPre_own_block_out : Cert.Pre_own_block_out.Facts] (m : (ℓ : Loc Cert.FinishOutIdeal.nD Cert.FinishOutIdeal.τ Cert.FinishOutIdeal.sig) → Buf (Elt Ideal) ℓ) : Prop :=
  ∀ c : Dev Cert.FinishOutIdeal.nD,
    (Cert.Pre_own_block_out.fn (F := Ideal) (m ((c.tc : Thread Cert.FinishOutIdeal.nD Cert.FinishOutIdeal.τ).loc Cert.FinishOutIdeal.main_arg0)) (m ((c.tc : Thread Cert.FinishOutIdeal.nD Cert.FinishOutIdeal.τ).loc Cert.FinishOutIdeal.main_arg1)) (m ((c.tc : Thread Cert.FinishOutIdeal.nD Cert.FinishOutIdeal.τ).loc Cert.FinishOutIdeal.main_arg2)) (m ((c.tc : Thread Cert.FinishOutIdeal.nD Cert.FinishOutIdeal.τ).loc Cert.FinishOutIdeal.main_arg3)) (m ((c.tc : Thread Cert.FinishOutIdeal.nD Cert.FinishOutIdeal.τ).loc Cert.FinishOutIdeal.main_arg4)) (m ((c.tc : Thread Cert.FinishOutIdeal.nD Cert.FinishOutIdeal.τ).loc Cert.FinishOutIdeal.main_arg5))) = (fun _ => 1#1)

def Pre_FinishOutRefIdeal (m : (ℓ : Loc Cert.FinishOutRefIdeal.nD Cert.FinishOutRefIdeal.τ Cert.FinishOutRefIdeal.sig) → Buf (Elt Ideal) ℓ) : Prop :=
  True

def Pre_FinishOutRefIdeal_own_block_out [hPre_own_block_out : Cert.Pre_own_block_out.Facts] (m : (ℓ : Loc Cert.FinishOutRefIdeal.nD Cert.FinishOutRefIdeal.τ Cert.FinishOutRefIdeal.sig) → Buf (Elt Ideal) ℓ) : Prop :=
  ∀ c : Dev Cert.FinishOutRefIdeal.nD,
    (Cert.Pre_own_block_out.fn (F := Ideal) (m ((c.tc : Thread Cert.FinishOutRefIdeal.nD Cert.FinishOutRefIdeal.τ).loc Cert.FinishOutRefIdeal.main_arg0)) (m ((c.tc : Thread Cert.FinishOutRefIdeal.nD Cert.FinishOutRefIdeal.τ).loc Cert.FinishOutRefIdeal.main_arg1)) (m ((c.tc : Thread Cert.FinishOutRefIdeal.nD Cert.FinishOutRefIdeal.τ).loc Cert.FinishOutRefIdeal.main_arg2)) (m ((c.tc : Thread Cert.FinishOutRefIdeal.nD Cert.FinishOutRefIdeal.τ).loc Cert.FinishOutRefIdeal.main_arg3)) (m ((c.tc : Thread Cert.FinishOutRefIdeal.nD Cert.FinishOutRefIdeal.τ).loc Cert.FinishOutRefIdeal.main_arg4)) (m ((c.tc : Thread Cert.FinishOutRefIdeal.nD Cert.FinishOutRefIdeal.τ).loc Cert.FinishOutRefIdeal.main_arg5))) = (fun _ => 1#1)

def Pre_FinishXa [hPre_own_block_xa : Cert.Pre_own_block_xa.Facts] (m : (ℓ : Loc Cert.FinishXa.nD Cert.FinishXa.τ Cert.FinishXa.sig) → Buf (Elt Bits) ℓ) : Prop :=
  ∀ c : Dev Cert.FinishXa.nD,
    (Cert.Pre_own_block_xa.fn (F := Bits) (m ((c.tc : Thread Cert.FinishXa.nD Cert.FinishXa.τ).loc Cert.FinishXa.main_arg0)) (m ((c.tc : Thread Cert.FinishXa.nD Cert.FinishXa.τ).loc Cert.FinishXa.main_arg1)) (m ((c.tc : Thread Cert.FinishXa.nD Cert.FinishXa.τ).loc Cert.FinishXa.main_arg2)) (m ((c.tc : Thread Cert.FinishXa.nD Cert.FinishXa.τ).loc Cert.FinishXa.main_arg3)) (m ((c.tc : Thread Cert.FinishXa.nD Cert.FinishXa.τ).loc Cert.FinishXa.main_arg4)) (m ((c.tc : Thread Cert.FinishXa.nD Cert.FinishXa.τ).loc Cert.FinishXa.main_arg5)) (m ((c.tc : Thread Cert.FinishXa.nD Cert.FinishXa.τ).loc Cert.FinishXa.main_arg6)) (m ((c.tc : Thread Cert.FinishXa.nD Cert.FinishXa.τ).loc Cert.FinishXa.main_arg7))) = (fun _ => 1#1)

def Pre_FinishXaIdeal [hPre_own_block_xa : Cert.Pre_own_block_xa.Facts] (m : (ℓ : Loc Cert.FinishXaIdeal.nD Cert.FinishXaIdeal.τ Cert.FinishXaIdeal.sig) → Buf (Elt Ideal) ℓ) : Prop :=
  ∀ c : Dev Cert.FinishXaIdeal.nD,
    (Cert.Pre_own_block_xa.fn (F := Ideal) (m ((c.tc : Thread Cert.FinishXaIdeal.nD Cert.FinishXaIdeal.τ).loc Cert.FinishXaIdeal.main_arg0)) (m ((c.tc : Thread Cert.FinishXaIdeal.nD Cert.FinishXaIdeal.τ).loc Cert.FinishXaIdeal.main_arg1)) (m ((c.tc : Thread Cert.FinishXaIdeal.nD Cert.FinishXaIdeal.τ).loc Cert.FinishXaIdeal.main_arg2)) (m ((c.tc : Thread Cert.FinishXaIdeal.nD Cert.FinishXaIdeal.τ).loc Cert.FinishXaIdeal.main_arg3)) (m ((c.tc : Thread Cert.FinishXaIdeal.nD Cert.FinishXaIdeal.τ).loc Cert.FinishXaIdeal.main_arg4)) (m ((c.tc : Thread Cert.FinishXaIdeal.nD Cert.FinishXaIdeal.τ).loc Cert.FinishXaIdeal.main_arg5)) (m ((c.tc : Thread Cert.FinishXaIdeal.nD Cert.FinishXaIdeal.τ).loc Cert.FinishXaIdeal.main_arg6)) (m ((c.tc : Thread Cert.FinishXaIdeal.nD Cert.FinishXaIdeal.τ).loc Cert.FinishXaIdeal.main_arg7))) = (fun _ => 1#1)

def Pre_FinishXaRefIdeal (m : (ℓ : Loc Cert.FinishXaRefIdeal.nD Cert.FinishXaRefIdeal.τ Cert.FinishXaRefIdeal.sig) → Buf (Elt Ideal) ℓ) : Prop :=
  True

def Pre_FinishXaRefIdeal_own_block_xa [hPre_own_block_xa : Cert.Pre_own_block_xa.Facts] (m : (ℓ : Loc Cert.FinishXaRefIdeal.nD Cert.FinishXaRefIdeal.τ Cert.FinishXaRefIdeal.sig) → Buf (Elt Ideal) ℓ) : Prop :=
  ∀ c : Dev Cert.FinishXaRefIdeal.nD,
    (Cert.Pre_own_block_xa.fn (F := Ideal) (m ((c.tc : Thread Cert.FinishXaRefIdeal.nD Cert.FinishXaRefIdeal.τ).loc Cert.FinishXaRefIdeal.main_arg0)) (m ((c.tc : Thread Cert.FinishXaRefIdeal.nD Cert.FinishXaRefIdeal.τ).loc Cert.FinishXaRefIdeal.main_arg1)) (m ((c.tc : Thread Cert.FinishXaRefIdeal.nD Cert.FinishXaRefIdeal.τ).loc Cert.FinishXaRefIdeal.main_arg2)) (m ((c.tc : Thread Cert.FinishXaRefIdeal.nD Cert.FinishXaRefIdeal.τ).loc Cert.FinishXaRefIdeal.main_arg3)) (m ((c.tc : Thread Cert.FinishXaRefIdeal.nD Cert.FinishXaRefIdeal.τ).loc Cert.FinishXaRefIdeal.main_arg4)) (m ((c.tc : Thread Cert.FinishXaRefIdeal.nD Cert.FinishXaRefIdeal.τ).loc Cert.FinishXaRefIdeal.main_arg5)) (m ((c.tc : Thread Cert.FinishXaRefIdeal.nD Cert.FinishXaRefIdeal.τ).loc Cert.FinishXaRefIdeal.main_arg6)) (m ((c.tc : Thread Cert.FinishXaRefIdeal.nD Cert.FinishXaRefIdeal.τ).loc Cert.FinishXaRefIdeal.main_arg7))) = (fun _ => 1#1)

def Pre_FinishFfn [hPre_own_block_ffn : Cert.Pre_own_block_ffn.Facts] (m : (ℓ : Loc Cert.FinishFfn.nD Cert.FinishFfn.τ Cert.FinishFfn.sig) → Buf (Elt Bits) ℓ) : Prop :=
  ∀ c : Dev Cert.FinishFfn.nD,
    (Cert.Pre_own_block_ffn.fn (F := Bits) (m ((c.tc : Thread Cert.FinishFfn.nD Cert.FinishFfn.τ).loc Cert.FinishFfn.main_arg0)) (m ((c.tc : Thread Cert.FinishFfn.nD Cert.FinishFfn.τ).loc Cert.FinishFfn.main_arg1)) (m ((c.tc : Thread Cert.FinishFfn.nD Cert.FinishFfn.τ).loc Cert.FinishFfn.main_arg2)) (m ((c.tc : Thread Cert.FinishFfn.nD Cert.FinishFfn.τ).loc Cert.FinishFfn.main_arg3)) (m ((c.tc : Thread Cert.FinishFfn.nD Cert.FinishFfn.τ).loc Cert.FinishFfn.main_arg4)) (m ((c.tc : Thread Cert.FinishFfn.nD Cert.FinishFfn.τ).loc Cert.FinishFfn.main_arg5)) (m ((c.tc : Thread Cert.FinishFfn.nD Cert.FinishFfn.τ).loc Cert.FinishFfn.main_arg6)) (m ((c.tc : Thread Cert.FinishFfn.nD Cert.FinishFfn.τ).loc Cert.FinishFfn.main_arg7))) = (fun _ => 1#1)

def Pre_FinishFfnIdeal [hPre_own_block_ffn : Cert.Pre_own_block_ffn.Facts] (m : (ℓ : Loc Cert.FinishFfnIdeal.nD Cert.FinishFfnIdeal.τ Cert.FinishFfnIdeal.sig) → Buf (Elt Ideal) ℓ) : Prop :=
  ∀ c : Dev Cert.FinishFfnIdeal.nD,
    (Cert.Pre_own_block_ffn.fn (F := Ideal) (m ((c.tc : Thread Cert.FinishFfnIdeal.nD Cert.FinishFfnIdeal.τ).loc Cert.FinishFfnIdeal.main_arg0)) (m ((c.tc : Thread Cert.FinishFfnIdeal.nD Cert.FinishFfnIdeal.τ).loc Cert.FinishFfnIdeal.main_arg1)) (m ((c.tc : Thread Cert.FinishFfnIdeal.nD Cert.FinishFfnIdeal.τ).loc Cert.FinishFfnIdeal.main_arg2)) (m ((c.tc : Thread Cert.FinishFfnIdeal.nD Cert.FinishFfnIdeal.τ).loc Cert.FinishFfnIdeal.main_arg3)) (m ((c.tc : Thread Cert.FinishFfnIdeal.nD Cert.FinishFfnIdeal.τ).loc Cert.FinishFfnIdeal.main_arg4)) (m ((c.tc : Thread Cert.FinishFfnIdeal.nD Cert.FinishFfnIdeal.τ).loc Cert.FinishFfnIdeal.main_arg5)) (m ((c.tc : Thread Cert.FinishFfnIdeal.nD Cert.FinishFfnIdeal.τ).loc Cert.FinishFfnIdeal.main_arg6)) (m ((c.tc : Thread Cert.FinishFfnIdeal.nD Cert.FinishFfnIdeal.τ).loc Cert.FinishFfnIdeal.main_arg7))) = (fun _ => 1#1)

def Pre_FinishFfnRefIdeal (m : (ℓ : Loc Cert.FinishFfnRefIdeal.nD Cert.FinishFfnRefIdeal.τ Cert.FinishFfnRefIdeal.sig) → Buf (Elt Ideal) ℓ) : Prop :=
  True

def Pre_FinishFfnRefIdeal_own_block_ffn [hPre_own_block_ffn : Cert.Pre_own_block_ffn.Facts] (m : (ℓ : Loc Cert.FinishFfnRefIdeal.nD Cert.FinishFfnRefIdeal.τ Cert.FinishFfnRefIdeal.sig) → Buf (Elt Ideal) ℓ) : Prop :=
  ∀ c : Dev Cert.FinishFfnRefIdeal.nD,
    (Cert.Pre_own_block_ffn.fn (F := Ideal) (m ((c.tc : Thread Cert.FinishFfnRefIdeal.nD Cert.FinishFfnRefIdeal.τ).loc Cert.FinishFfnRefIdeal.main_arg0)) (m ((c.tc : Thread Cert.FinishFfnRefIdeal.nD Cert.FinishFfnRefIdeal.τ).loc Cert.FinishFfnRefIdeal.main_arg1)) (m ((c.tc : Thread Cert.FinishFfnRefIdeal.nD Cert.FinishFfnRefIdeal.τ).loc Cert.FinishFfnRefIdeal.main_arg2)) (m ((c.tc : Thread Cert.FinishFfnRefIdeal.nD Cert.FinishFfnRefIdeal.τ).loc Cert.FinishFfnRefIdeal.main_arg3)) (m ((c.tc : Thread Cert.FinishFfnRefIdeal.nD Cert.FinishFfnRefIdeal.τ).loc Cert.FinishFfnRefIdeal.main_arg4)) (m ((c.tc : Thread Cert.FinishFfnRefIdeal.nD Cert.FinishFfnRefIdeal.τ).loc Cert.FinishFfnRefIdeal.main_arg5)) (m ((c.tc : Thread Cert.FinishFfnRefIdeal.nD Cert.FinishFfnRefIdeal.τ).loc Cert.FinishFfnRefIdeal.main_arg6)) (m ((c.tc : Thread Cert.FinishFfnRefIdeal.nD Cert.FinishFfnRefIdeal.τ).loc Cert.FinishFfnRefIdeal.main_arg7))) = (fun _ => 1#1)

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemBwd (m : (ℓ : Loc Cert.MemBwd.nD Cert.MemBwd.τ Cert.MemBwd.sig) → Buf (Elt Bits) ℓ) : Prop :=
  True

def Pre_MemBwdIdeal (m : (ℓ : Loc Cert.MemBwdIdeal.nD Cert.MemBwdIdeal.τ Cert.MemBwdIdeal.sig) → Buf (Elt Ideal) ℓ) : Prop :=
  True

def Pre_MemBwdRefIdeal (m : (ℓ : Loc Cert.MemBwdRefIdeal.nD Cert.MemBwdRefIdeal.τ Cert.MemBwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def Pre_SumSlots (m : (ℓ : Loc Cert.SumSlots.nD Cert.SumSlots.τ Cert.SumSlots.sig) → Buf (Elt Bits) ℓ) : Prop :=
  True

def Pre_SumSlotsIdeal (m : (ℓ : Loc Cert.SumSlotsIdeal.nD Cert.SumSlotsIdeal.τ Cert.SumSlotsIdeal.sig) → Buf (Elt Ideal) ℓ) : Prop :=
  True

def Pre_SumSlotsRefIdeal (m : (ℓ : Loc Cert.SumSlotsRefIdeal.nD Cert.SumSlotsRefIdeal.τ Cert.SumSlotsRefIdeal.sig) → Buf (Elt Ideal) ℓ) : Prop :=
  True

def Pre_GroupSum (m : (ℓ : Loc Cert.GroupSum.nD Cert.GroupSum.τ Cert.GroupSum.sig) → Buf (Elt Bits) ℓ) : Prop :=
  True

def Pre_GroupSumIdeal (m : (ℓ : Loc Cert.GroupSumIdeal.nD Cert.GroupSumIdeal.τ Cert.GroupSumIdeal.sig) → Buf (Elt Ideal) ℓ) : Prop :=
  True

def Pre_GroupSumRefIdeal (m : (ℓ : Loc Cert.GroupSumRefIdeal.nD Cert.GroupSumRefIdeal.τ Cert.GroupSumRefIdeal.sig) → Buf (Elt Ideal) ℓ) : Prop :=
  True

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdIdeal_pre_finite_scores [hAttnBwdIdeal : Cert.AttnBwdIdeal.Facts] [hPre_finite_scores : Cert.Pre_finite_scores.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_scores m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_AttnBwdRefIdeal_pre_finite_scores [hAttnBwdRefIdeal : Cert.AttnBwdRefIdeal.Facts] [hPre_finite_scores : Cert.Pre_finite_scores.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal_finite_scores m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3))
      ∧ r.2.sem = fun _ => 0)

def quiescent_FfnDhid [hFfnDhid : Cert.FfnDhid.Facts] : Prop :=
  ∀ (m : (ℓ : Loc Cert.FfnDhid.nD Cert.FfnDhid.τ Cert.FfnDhid.sig) → Buf (Elt Bits) ℓ) (g : Dev Cert.FfnDhid.nD → PrngReg), Pre_FfnDhid m →
    θ_run (Cert.FfnDhid.defs (F := Bits)) (onTc (τ := Cert.FfnDhid.τ) (Cert.FfnDhid.main (F := Bits))) ⟨m, fun _ => 0, g⟩ (fun r => (∀ c : Dev Cert.FfnDhid.nD,
      r.2.mem ((c.tc : Thread Cert.FfnDhid.nD Cert.FfnDhid.τ).loc Cert.FfnDhid.main_arg0) = m ((c.tc : Thread Cert.FfnDhid.nD Cert.FfnDhid.τ).loc Cert.FfnDhid.main_arg0)
      ∧ r.2.mem ((c.tc : Thread Cert.FfnDhid.nD Cert.FfnDhid.τ).loc Cert.FfnDhid.main_arg1) = m ((c.tc : Thread Cert.FfnDhid.nD Cert.FfnDhid.τ).loc Cert.FfnDhid.main_arg1)
      ∧ r.2.mem ((c.tc : Thread Cert.FfnDhid.nD Cert.FfnDhid.τ).loc Cert.FfnDhid.main_arg2) = m ((c.tc : Thread Cert.FfnDhid.nD Cert.FfnDhid.τ).loc Cert.FfnDhid.main_arg2)
      ∧ r.2.mem ((c.tc : Thread Cert.FfnDhid.nD Cert.FfnDhid.τ).loc Cert.FfnDhid.main_arg3) = m ((c.tc : Thread Cert.FfnDhid.nD Cert.FfnDhid.τ).loc Cert.FfnDhid.main_arg3))
      ∧ r.2.sem = fun _ => 0)

def quiescent_FfnDhidIdeal [hFfnDhidIdeal : Cert.FfnDhidIdeal.Facts] : Prop :=
  ∀ (m : (ℓ : Loc Cert.FfnDhidIdeal.nD Cert.FfnDhidIdeal.τ Cert.FfnDhidIdeal.sig) → Buf (Elt Ideal) ℓ) (g : Dev Cert.FfnDhidIdeal.nD → PrngReg), Pre_FfnDhidIdeal m →
    θ_run (Cert.FfnDhidIdeal.defs (F := Ideal)) (onTc (τ := Cert.FfnDhidIdeal.τ) (Cert.FfnDhidIdeal.main (F := Ideal))) ⟨m, fun _ => 0, g⟩ (fun r => (∀ c : Dev Cert.FfnDhidIdeal.nD,
      r.2.mem ((c.tc : Thread Cert.FfnDhidIdeal.nD Cert.FfnDhidIdeal.τ).loc Cert.FfnDhidIdeal.main_arg0) = m ((c.tc : Thread Cert.FfnDhidIdeal.nD Cert.FfnDhidIdeal.τ).loc Cert.FfnDhidIdeal.main_arg0)
      ∧ r.2.mem ((c.tc : Thread Cert.FfnDhidIdeal.nD Cert.FfnDhidIdeal.τ).loc Cert.FfnDhidIdeal.main_arg1) = m ((c.tc : Thread Cert.FfnDhidIdeal.nD Cert.FfnDhidIdeal.τ).loc Cert.FfnDhidIdeal.main_arg1)
      ∧ r.2.mem ((c.tc : Thread Cert.FfnDhidIdeal.nD Cert.FfnDhidIdeal.τ).loc Cert.FfnDhidIdeal.main_arg2) = m ((c.tc : Thread Cert.FfnDhidIdeal.nD Cert.FfnDhidIdeal.τ).loc Cert.FfnDhidIdeal.main_arg2)
      ∧ r.2.mem ((c.tc : Thread Cert.FfnDhidIdeal.nD Cert.FfnDhidIdeal.τ).loc Cert.FfnDhidIdeal.main_arg3) = m ((c.tc : Thread Cert.FfnDhidIdeal.nD Cert.FfnDhidIdeal.τ).loc Cert.FfnDhidIdeal.main_arg3))
      ∧ r.2.sem = fun _ => 0)

def quiescent_FfnDhidIdeal_pre_finite_hidden [hFfnDhidIdeal : Cert.FfnDhidIdeal.Facts] [hPre_finite_hidden : Cert.Pre_finite_hidden.Facts] : Prop :=
  ∀ (m : (ℓ : Loc Cert.FfnDhidIdeal.nD Cert.FfnDhidIdeal.τ Cert.FfnDhidIdeal.sig) → Buf (Elt Ideal) ℓ) (g : Dev Cert.FfnDhidIdeal.nD → PrngReg), Pre_FfnDhidIdeal_finite_hidden m →
    θ_run (Cert.FfnDhidIdeal.defs (F := Ideal)) (onTc (τ := Cert.FfnDhidIdeal.τ) (Cert.FfnDhidIdeal.main (F := Ideal))) ⟨m, fun _ => 0, g⟩ (fun r => (∀ c : Dev Cert.FfnDhidIdeal.nD,
      r.2.mem ((c.tc : Thread Cert.FfnDhidIdeal.nD Cert.FfnDhidIdeal.τ).loc Cert.FfnDhidIdeal.main_arg0) = m ((c.tc : Thread Cert.FfnDhidIdeal.nD Cert.FfnDhidIdeal.τ).loc Cert.FfnDhidIdeal.main_arg0)
      ∧ r.2.mem ((c.tc : Thread Cert.FfnDhidIdeal.nD Cert.FfnDhidIdeal.τ).loc Cert.FfnDhidIdeal.main_arg1) = m ((c.tc : Thread Cert.FfnDhidIdeal.nD Cert.FfnDhidIdeal.τ).loc Cert.FfnDhidIdeal.main_arg1)
      ∧ r.2.mem ((c.tc : Thread Cert.FfnDhidIdeal.nD Cert.FfnDhidIdeal.τ).loc Cert.FfnDhidIdeal.main_arg2) = m ((c.tc : Thread Cert.FfnDhidIdeal.nD Cert.FfnDhidIdeal.τ).loc Cert.FfnDhidIdeal.main_arg2)
      ∧ r.2.mem ((c.tc : Thread Cert.FfnDhidIdeal.nD Cert.FfnDhidIdeal.τ).loc Cert.FfnDhidIdeal.main_arg3) = m ((c.tc : Thread Cert.FfnDhidIdeal.nD Cert.FfnDhidIdeal.τ).loc Cert.FfnDhidIdeal.main_arg3))
      ∧ r.2.sem = fun _ => 0)

def quiescent_FfnDhidRefIdeal [hFfnDhidRefIdeal : Cert.FfnDhidRefIdeal.Facts] : Prop :=
  ∀ (m : (ℓ : Loc Cert.FfnDhidRefIdeal.nD Cert.FfnDhidRefIdeal.τ Cert.FfnDhidRefIdeal.sig) → Buf (Elt Ideal) ℓ) (g : Dev Cert.FfnDhidRefIdeal.nD → PrngReg), Pre_FfnDhidRefIdeal m →
    θ_run (Cert.FfnDhidRefIdeal.defs (F := Ideal)) (onTc (τ := Cert.FfnDhidRefIdeal.τ) (Cert.FfnDhidRefIdeal.main (F := Ideal))) ⟨m, fun _ => 0, g⟩ (fun r => (∀ c : Dev Cert.FfnDhidRefIdeal.nD,
      r.2.mem ((c.tc : Thread Cert.FfnDhidRefIdeal.nD Cert.FfnDhidRefIdeal.τ).loc Cert.FfnDhidRefIdeal.main_arg0) = m ((c.tc : Thread Cert.FfnDhidRefIdeal.nD Cert.FfnDhidRefIdeal.τ).loc Cert.FfnDhidRefIdeal.main_arg0)
      ∧ r.2.mem ((c.tc : Thread Cert.FfnDhidRefIdeal.nD Cert.FfnDhidRefIdeal.τ).loc Cert.FfnDhidRefIdeal.main_arg1) = m ((c.tc : Thread Cert.FfnDhidRefIdeal.nD Cert.FfnDhidRefIdeal.τ).loc Cert.FfnDhidRefIdeal.main_arg1)
      ∧ r.2.mem ((c.tc : Thread Cert.FfnDhidRefIdeal.nD Cert.FfnDhidRefIdeal.τ).loc Cert.FfnDhidRefIdeal.main_arg2) = m ((c.tc : Thread Cert.FfnDhidRefIdeal.nD Cert.FfnDhidRefIdeal.τ).loc Cert.FfnDhidRefIdeal.main_arg2)
      ∧ r.2.mem ((c.tc : Thread Cert.FfnDhidRefIdeal.nD Cert.FfnDhidRefIdeal.τ).loc Cert.FfnDhidRefIdeal.main_arg3) = m ((c.tc : Thread Cert.FfnDhidRefIdeal.nD Cert.FfnDhidRefIdeal.τ).loc Cert.FfnDhidRefIdeal.main_arg3))
      ∧ r.2.sem = fun _ => 0)

def quiescent_FfnDhidRefIdeal_pre_finite_hidden [hFfnDhidRefIdeal : Cert.FfnDhidRefIdeal.Facts] [hPre_finite_hidden : Cert.Pre_finite_hidden.Facts] : Prop :=
  ∀ (m : (ℓ : Loc Cert.FfnDhidRefIdeal.nD Cert.FfnDhidRefIdeal.τ Cert.FfnDhidRefIdeal.sig) → Buf (Elt Ideal) ℓ) (g : Dev Cert.FfnDhidRefIdeal.nD → PrngReg), Pre_FfnDhidRefIdeal_finite_hidden m →
    θ_run (Cert.FfnDhidRefIdeal.defs (F := Ideal)) (onTc (τ := Cert.FfnDhidRefIdeal.τ) (Cert.FfnDhidRefIdeal.main (F := Ideal))) ⟨m, fun _ => 0, g⟩ (fun r => (∀ c : Dev Cert.FfnDhidRefIdeal.nD,
      r.2.mem ((c.tc : Thread Cert.FfnDhidRefIdeal.nD Cert.FfnDhidRefIdeal.τ).loc Cert.FfnDhidRefIdeal.main_arg0) = m ((c.tc : Thread Cert.FfnDhidRefIdeal.nD Cert.FfnDhidRefIdeal.τ).loc Cert.FfnDhidRefIdeal.main_arg0)
      ∧ r.2.mem ((c.tc : Thread Cert.FfnDhidRefIdeal.nD Cert.FfnDhidRefIdeal.τ).loc Cert.FfnDhidRefIdeal.main_arg1) = m ((c.tc : Thread Cert.FfnDhidRefIdeal.nD Cert.FfnDhidRefIdeal.τ).loc Cert.FfnDhidRefIdeal.main_arg1)
      ∧ r.2.mem ((c.tc : Thread Cert.FfnDhidRefIdeal.nD Cert.FfnDhidRefIdeal.τ).loc Cert.FfnDhidRefIdeal.main_arg2) = m ((c.tc : Thread Cert.FfnDhidRefIdeal.nD Cert.FfnDhidRefIdeal.τ).loc Cert.FfnDhidRefIdeal.main_arg2)
      ∧ r.2.mem ((c.tc : Thread Cert.FfnDhidRefIdeal.nD Cert.FfnDhidRefIdeal.τ).loc Cert.FfnDhidRefIdeal.main_arg3) = m ((c.tc : Thread Cert.FfnDhidRefIdeal.nD Cert.FfnDhidRefIdeal.τ).loc Cert.FfnDhidRefIdeal.main_arg3))
      ∧ r.2.sem = fun _ => 0)

def quiescent_FfnDn [hFfnDn : Cert.FfnDn.Facts] : Prop :=
  ∀ (m : (ℓ : Loc Cert.FfnDn.nD Cert.FfnDn.τ Cert.FfnDn.sig) → Buf (Elt Bits) ℓ) (g : Dev Cert.FfnDn.nD → PrngReg), Pre_FfnDn m →
    θ_run (Cert.FfnDn.defs (F := Bits)) (onTc (τ := Cert.FfnDn.τ) (Cert.FfnDn.main (F := Bits))) ⟨m, fun _ => 0, g⟩ (fun r => (∀ c : Dev Cert.FfnDn.nD,
      r.2.mem ((c.tc : Thread Cert.FfnDn.nD Cert.FfnDn.τ).loc Cert.FfnDn.main_arg0) = m ((c.tc : Thread Cert.FfnDn.nD Cert.FfnDn.τ).loc Cert.FfnDn.main_arg0)
      ∧ r.2.mem ((c.tc : Thread Cert.FfnDn.nD Cert.FfnDn.τ).loc Cert.FfnDn.main_arg1) = m ((c.tc : Thread Cert.FfnDn.nD Cert.FfnDn.τ).loc Cert.FfnDn.main_arg1)
      ∧ r.2.mem ((c.tc : Thread Cert.FfnDn.nD Cert.FfnDn.τ).loc Cert.FfnDn.main_arg2) = m ((c.tc : Thread Cert.FfnDn.nD Cert.FfnDn.τ).loc Cert.FfnDn.main_arg2)
      ∧ r.2.mem ((c.tc : Thread Cert.FfnDn.nD Cert.FfnDn.τ).loc Cert.FfnDn.main_arg3) = m ((c.tc : Thread Cert.FfnDn.nD Cert.FfnDn.τ).loc Cert.FfnDn.main_arg3)
      ∧ r.2.mem ((c.tc : Thread Cert.FfnDn.nD Cert.FfnDn.τ).loc Cert.FfnDn.main_arg4) = m ((c.tc : Thread Cert.FfnDn.nD Cert.FfnDn.τ).loc Cert.FfnDn.main_arg4)
      ∧ r.2.mem ((c.tc : Thread Cert.FfnDn.nD Cert.FfnDn.τ).loc Cert.FfnDn.main_arg5) = m ((c.tc : Thread Cert.FfnDn.nD Cert.FfnDn.τ).loc Cert.FfnDn.main_arg5)
      ∧ r.2.mem ((c.tc : Thread Cert.FfnDn.nD Cert.FfnDn.τ).loc Cert.FfnDn.main_arg6) = m ((c.tc : Thread Cert.FfnDn.nD Cert.FfnDn.τ).loc Cert.FfnDn.main_arg6))
      ∧ r.2.sem = fun _ => 0)

def quiescent_FfnDnIdeal [hFfnDnIdeal : Cert.FfnDnIdeal.Facts] : Prop :=
  ∀ (m : (ℓ : Loc Cert.FfnDnIdeal.nD Cert.FfnDnIdeal.τ Cert.FfnDnIdeal.sig) → Buf (Elt Ideal) ℓ) (g : Dev Cert.FfnDnIdeal.nD → PrngReg), Pre_FfnDnIdeal m →
    θ_run (Cert.FfnDnIdeal.defs (F := Ideal)) (onTc (τ := Cert.FfnDnIdeal.τ) (Cert.FfnDnIdeal.main (F := Ideal))) ⟨m, fun _ => 0, g⟩ (fun r => (∀ c : Dev Cert.FfnDnIdeal.nD,
      r.2.mem ((c.tc : Thread Cert.FfnDnIdeal.nD Cert.FfnDnIdeal.τ).loc Cert.FfnDnIdeal.main_arg0) = m ((c.tc : Thread Cert.FfnDnIdeal.nD Cert.FfnDnIdeal.τ).loc Cert.FfnDnIdeal.main_arg0)
      ∧ r.2.mem ((c.tc : Thread Cert.FfnDnIdeal.nD Cert.FfnDnIdeal.τ).loc Cert.FfnDnIdeal.main_arg1) = m ((c.tc : Thread Cert.FfnDnIdeal.nD Cert.FfnDnIdeal.τ).loc Cert.FfnDnIdeal.main_arg1)
      ∧ r.2.mem ((c.tc : Thread Cert.FfnDnIdeal.nD Cert.FfnDnIdeal.τ).loc Cert.FfnDnIdeal.main_arg2) = m ((c.tc : Thread Cert.FfnDnIdeal.nD Cert.FfnDnIdeal.τ).loc Cert.FfnDnIdeal.main_arg2)
      ∧ r.2.mem ((c.tc : Thread Cert.FfnDnIdeal.nD Cert.FfnDnIdeal.τ).loc Cert.FfnDnIdeal.main_arg3) = m ((c.tc : Thread Cert.FfnDnIdeal.nD Cert.FfnDnIdeal.τ).loc Cert.FfnDnIdeal.main_arg3)
      ∧ r.2.mem ((c.tc : Thread Cert.FfnDnIdeal.nD Cert.FfnDnIdeal.τ).loc Cert.FfnDnIdeal.main_arg4) = m ((c.tc : Thread Cert.FfnDnIdeal.nD Cert.FfnDnIdeal.τ).loc Cert.FfnDnIdeal.main_arg4)
      ∧ r.2.mem ((c.tc : Thread Cert.FfnDnIdeal.nD Cert.FfnDnIdeal.τ).loc Cert.FfnDnIdeal.main_arg5) = m ((c.tc : Thread Cert.FfnDnIdeal.nD Cert.FfnDnIdeal.τ).loc Cert.FfnDnIdeal.main_arg5)
      ∧ r.2.mem ((c.tc : Thread Cert.FfnDnIdeal.nD Cert.FfnDnIdeal.τ).loc Cert.FfnDnIdeal.main_arg6) = m ((c.tc : Thread Cert.FfnDnIdeal.nD Cert.FfnDnIdeal.τ).loc Cert.FfnDnIdeal.main_arg6))
      ∧ r.2.sem = fun _ => 0)

def quiescent_FfnDnRefIdeal [hFfnDnRefIdeal : Cert.FfnDnRefIdeal.Facts] : Prop :=
  ∀ (m : (ℓ : Loc Cert.FfnDnRefIdeal.nD Cert.FfnDnRefIdeal.τ Cert.FfnDnRefIdeal.sig) → Buf (Elt Ideal) ℓ) (g : Dev Cert.FfnDnRefIdeal.nD → PrngReg), Pre_FfnDnRefIdeal m →
    θ_run (Cert.FfnDnRefIdeal.defs (F := Ideal)) (onTc (τ := Cert.FfnDnRefIdeal.τ) (Cert.FfnDnRefIdeal.main (F := Ideal))) ⟨m, fun _ => 0, g⟩ (fun r => (∀ c : Dev Cert.FfnDnRefIdeal.nD,
      r.2.mem ((c.tc : Thread Cert.FfnDnRefIdeal.nD Cert.FfnDnRefIdeal.τ).loc Cert.FfnDnRefIdeal.main_arg0) = m ((c.tc : Thread Cert.FfnDnRefIdeal.nD Cert.FfnDnRefIdeal.τ).loc Cert.FfnDnRefIdeal.main_arg0)
      ∧ r.2.mem ((c.tc : Thread Cert.FfnDnRefIdeal.nD Cert.FfnDnRefIdeal.τ).loc Cert.FfnDnRefIdeal.main_arg1) = m ((c.tc : Thread Cert.FfnDnRefIdeal.nD Cert.FfnDnRefIdeal.τ).loc Cert.FfnDnRefIdeal.main_arg1)
      ∧ r.2.mem ((c.tc : Thread Cert.FfnDnRefIdeal.nD Cert.FfnDnRefIdeal.τ).loc Cert.FfnDnRefIdeal.main_arg2) = m ((c.tc : Thread Cert.FfnDnRefIdeal.nD Cert.FfnDnRefIdeal.τ).loc Cert.FfnDnRefIdeal.main_arg2)
      ∧ r.2.mem ((c.tc : Thread Cert.FfnDnRefIdeal.nD Cert.FfnDnRefIdeal.τ).loc Cert.FfnDnRefIdeal.main_arg3) = m ((c.tc : Thread Cert.FfnDnRefIdeal.nD Cert.FfnDnRefIdeal.τ).loc Cert.FfnDnRefIdeal.main_arg3)
      ∧ r.2.mem ((c.tc : Thread Cert.FfnDnRefIdeal.nD Cert.FfnDnRefIdeal.τ).loc Cert.FfnDnRefIdeal.main_arg4) = m ((c.tc : Thread Cert.FfnDnRefIdeal.nD Cert.FfnDnRefIdeal.τ).loc Cert.FfnDnRefIdeal.main_arg4)
      ∧ r.2.mem ((c.tc : Thread Cert.FfnDnRefIdeal.nD Cert.FfnDnRefIdeal.τ).loc Cert.FfnDnRefIdeal.main_arg5) = m ((c.tc : Thread Cert.FfnDnRefIdeal.nD Cert.FfnDnRefIdeal.τ).loc Cert.FfnDnRefIdeal.main_arg5)
      ∧ r.2.mem ((c.tc : Thread Cert.FfnDnRefIdeal.nD Cert.FfnDnRefIdeal.τ).loc Cert.FfnDnRefIdeal.main_arg6) = m ((c.tc : Thread Cert.FfnDnRefIdeal.nD Cert.FfnDnRefIdeal.τ).loc Cert.FfnDnRefIdeal.main_arg6))
      ∧ r.2.sem = fun _ => 0)

def quiescent_OdDn [hOdDn : Cert.OdDn.Facts] : Prop :=
  ∀ (m : (ℓ : Loc Cert.OdDn.nD Cert.OdDn.τ Cert.OdDn.sig) → Buf (Elt Bits) ℓ) (g : Dev Cert.OdDn.nD → PrngReg), Pre_OdDn m →
    θ_run (Cert.OdDn.defs (F := Bits)) (onTc (τ := Cert.OdDn.τ) (Cert.OdDn.main (F := Bits))) ⟨m, fun _ => 0, g⟩ (fun r => (∀ c : Dev Cert.OdDn.nD,
      r.2.mem ((c.tc : Thread Cert.OdDn.nD Cert.OdDn.τ).loc Cert.OdDn.main_arg0) = m ((c.tc : Thread Cert.OdDn.nD Cert.OdDn.τ).loc Cert.OdDn.main_arg0)
      ∧ r.2.mem ((c.tc : Thread Cert.OdDn.nD Cert.OdDn.τ).loc Cert.OdDn.main_arg1) = m ((c.tc : Thread Cert.OdDn.nD Cert.OdDn.τ).loc Cert.OdDn.main_arg1)
      ∧ r.2.mem ((c.tc : Thread Cert.OdDn.nD Cert.OdDn.τ).loc Cert.OdDn.main_arg2) = m ((c.tc : Thread Cert.OdDn.nD Cert.OdDn.τ).loc Cert.OdDn.main_arg2)
      ∧ r.2.mem ((c.tc : Thread Cert.OdDn.nD Cert.OdDn.τ).loc Cert.OdDn.main_arg3) = m ((c.tc : Thread Cert.OdDn.nD Cert.OdDn.τ).loc Cert.OdDn.main_arg3)
      ∧ r.2.mem ((c.tc : Thread Cert.OdDn.nD Cert.OdDn.τ).loc Cert.OdDn.main_arg4) = m ((c.tc : Thread Cert.OdDn.nD Cert.OdDn.τ).loc Cert.OdDn.main_arg4))
      ∧ r.2.sem = fun _ => 0)

def quiescent_OdDnIdeal [hOdDnIdeal : Cert.OdDnIdeal.Facts] : Prop :=
  ∀ (m : (ℓ : Loc Cert.OdDnIdeal.nD Cert.OdDnIdeal.τ Cert.OdDnIdeal.sig) → Buf (Elt Ideal) ℓ) (g : Dev Cert.OdDnIdeal.nD → PrngReg), Pre_OdDnIdeal m →
    θ_run (Cert.OdDnIdeal.defs (F := Ideal)) (onTc (τ := Cert.OdDnIdeal.τ) (Cert.OdDnIdeal.main (F := Ideal))) ⟨m, fun _ => 0, g⟩ (fun r => (∀ c : Dev Cert.OdDnIdeal.nD,
      r.2.mem ((c.tc : Thread Cert.OdDnIdeal.nD Cert.OdDnIdeal.τ).loc Cert.OdDnIdeal.main_arg0) = m ((c.tc : Thread Cert.OdDnIdeal.nD Cert.OdDnIdeal.τ).loc Cert.OdDnIdeal.main_arg0)
      ∧ r.2.mem ((c.tc : Thread Cert.OdDnIdeal.nD Cert.OdDnIdeal.τ).loc Cert.OdDnIdeal.main_arg1) = m ((c.tc : Thread Cert.OdDnIdeal.nD Cert.OdDnIdeal.τ).loc Cert.OdDnIdeal.main_arg1)
      ∧ r.2.mem ((c.tc : Thread Cert.OdDnIdeal.nD Cert.OdDnIdeal.τ).loc Cert.OdDnIdeal.main_arg2) = m ((c.tc : Thread Cert.OdDnIdeal.nD Cert.OdDnIdeal.τ).loc Cert.OdDnIdeal.main_arg2)
      ∧ r.2.mem ((c.tc : Thread Cert.OdDnIdeal.nD Cert.OdDnIdeal.τ).loc Cert.OdDnIdeal.main_arg3) = m ((c.tc : Thread Cert.OdDnIdeal.nD Cert.OdDnIdeal.τ).loc Cert.OdDnIdeal.main_arg3)
      ∧ r.2.mem ((c.tc : Thread Cert.OdDnIdeal.nD Cert.OdDnIdeal.τ).loc Cert.OdDnIdeal.main_arg4) = m ((c.tc : Thread Cert.OdDnIdeal.nD Cert.OdDnIdeal.τ).loc Cert.OdDnIdeal.main_arg4))
      ∧ r.2.sem = fun _ => 0)

def quiescent_OdDnRefIdeal [hOdDnRefIdeal : Cert.OdDnRefIdeal.Facts] : Prop :=
  ∀ (m : (ℓ : Loc Cert.OdDnRefIdeal.nD Cert.OdDnRefIdeal.τ Cert.OdDnRefIdeal.sig) → Buf (Elt Ideal) ℓ) (g : Dev Cert.OdDnRefIdeal.nD → PrngReg), Pre_OdDnRefIdeal m →
    θ_run (Cert.OdDnRefIdeal.defs (F := Ideal)) (onTc (τ := Cert.OdDnRefIdeal.τ) (Cert.OdDnRefIdeal.main (F := Ideal))) ⟨m, fun _ => 0, g⟩ (fun r => (∀ c : Dev Cert.OdDnRefIdeal.nD,
      r.2.mem ((c.tc : Thread Cert.OdDnRefIdeal.nD Cert.OdDnRefIdeal.τ).loc Cert.OdDnRefIdeal.main_arg0) = m ((c.tc : Thread Cert.OdDnRefIdeal.nD Cert.OdDnRefIdeal.τ).loc Cert.OdDnRefIdeal.main_arg0)
      ∧ r.2.mem ((c.tc : Thread Cert.OdDnRefIdeal.nD Cert.OdDnRefIdeal.τ).loc Cert.OdDnRefIdeal.main_arg1) = m ((c.tc : Thread Cert.OdDnRefIdeal.nD Cert.OdDnRefIdeal.τ).loc Cert.OdDnRefIdeal.main_arg1)
      ∧ r.2.mem ((c.tc : Thread Cert.OdDnRefIdeal.nD Cert.OdDnRefIdeal.τ).loc Cert.OdDnRefIdeal.main_arg2) = m ((c.tc : Thread Cert.OdDnRefIdeal.nD Cert.OdDnRefIdeal.τ).loc Cert.OdDnRefIdeal.main_arg2)
      ∧ r.2.mem ((c.tc : Thread Cert.OdDnRefIdeal.nD Cert.OdDnRefIdeal.τ).loc Cert.OdDnRefIdeal.main_arg3) = m ((c.tc : Thread Cert.OdDnRefIdeal.nD Cert.OdDnRefIdeal.τ).loc Cert.OdDnRefIdeal.main_arg3)
      ∧ r.2.mem ((c.tc : Thread Cert.OdDnRefIdeal.nD Cert.OdDnRefIdeal.τ).loc Cert.OdDnRefIdeal.main_arg4) = m ((c.tc : Thread Cert.OdDnRefIdeal.nD Cert.OdDnRefIdeal.τ).loc Cert.OdDnRefIdeal.main_arg4))
      ∧ r.2.sem = fun _ => 0)

def quiescent_EvDn [hEvDn : Cert.EvDn.Facts] : Prop :=
  ∀ (m : (ℓ : Loc Cert.EvDn.nD Cert.EvDn.τ Cert.EvDn.sig) → Buf (Elt Bits) ℓ) (g : Dev Cert.EvDn.nD → PrngReg), Pre_EvDn m →
    θ_run (Cert.EvDn.defs (F := Bits)) (onTc (τ := Cert.EvDn.τ) (Cert.EvDn.main (F := Bits))) ⟨m, fun _ => 0, g⟩ (fun r => (∀ c : Dev Cert.EvDn.nD,
      r.2.mem ((c.tc : Thread Cert.EvDn.nD Cert.EvDn.τ).loc Cert.EvDn.main_arg0) = m ((c.tc : Thread Cert.EvDn.nD Cert.EvDn.τ).loc Cert.EvDn.main_arg0)
      ∧ r.2.mem ((c.tc : Thread Cert.EvDn.nD Cert.EvDn.τ).loc Cert.EvDn.main_arg1) = m ((c.tc : Thread Cert.EvDn.nD Cert.EvDn.τ).loc Cert.EvDn.main_arg1)
      ∧ r.2.mem ((c.tc : Thread Cert.EvDn.nD Cert.EvDn.τ).loc Cert.EvDn.main_arg2) = m ((c.tc : Thread Cert.EvDn.nD Cert.EvDn.τ).loc Cert.EvDn.main_arg2)
      ∧ r.2.mem ((c.tc : Thread Cert.EvDn.nD Cert.EvDn.τ).loc Cert.EvDn.main_arg3) = m ((c.tc : Thread Cert.EvDn.nD Cert.EvDn.τ).loc Cert.EvDn.main_arg3)
      ∧ r.2.mem ((c.tc : Thread Cert.EvDn.nD Cert.EvDn.τ).loc Cert.EvDn.main_arg4) = m ((c.tc : Thread Cert.EvDn.nD Cert.EvDn.τ).loc Cert.EvDn.main_arg4))
      ∧ r.2.sem = fun _ => 0)

def quiescent_EvDnIdeal [hEvDnIdeal : Cert.EvDnIdeal.Facts] : Prop :=
  ∀ (m : (ℓ : Loc Cert.EvDnIdeal.nD Cert.EvDnIdeal.τ Cert.EvDnIdeal.sig) → Buf (Elt Ideal) ℓ) (g : Dev Cert.EvDnIdeal.nD → PrngReg), Pre_EvDnIdeal m →
    θ_run (Cert.EvDnIdeal.defs (F := Ideal)) (onTc (τ := Cert.EvDnIdeal.τ) (Cert.EvDnIdeal.main (F := Ideal))) ⟨m, fun _ => 0, g⟩ (fun r => (∀ c : Dev Cert.EvDnIdeal.nD,
      r.2.mem ((c.tc : Thread Cert.EvDnIdeal.nD Cert.EvDnIdeal.τ).loc Cert.EvDnIdeal.main_arg0) = m ((c.tc : Thread Cert.EvDnIdeal.nD Cert.EvDnIdeal.τ).loc Cert.EvDnIdeal.main_arg0)
      ∧ r.2.mem ((c.tc : Thread Cert.EvDnIdeal.nD Cert.EvDnIdeal.τ).loc Cert.EvDnIdeal.main_arg1) = m ((c.tc : Thread Cert.EvDnIdeal.nD Cert.EvDnIdeal.τ).loc Cert.EvDnIdeal.main_arg1)
      ∧ r.2.mem ((c.tc : Thread Cert.EvDnIdeal.nD Cert.EvDnIdeal.τ).loc Cert.EvDnIdeal.main_arg2) = m ((c.tc : Thread Cert.EvDnIdeal.nD Cert.EvDnIdeal.τ).loc Cert.EvDnIdeal.main_arg2)
      ∧ r.2.mem ((c.tc : Thread Cert.EvDnIdeal.nD Cert.EvDnIdeal.τ).loc Cert.EvDnIdeal.main_arg3) = m ((c.tc : Thread Cert.EvDnIdeal.nD Cert.EvDnIdeal.τ).loc Cert.EvDnIdeal.main_arg3)
      ∧ r.2.mem ((c.tc : Thread Cert.EvDnIdeal.nD Cert.EvDnIdeal.τ).loc Cert.EvDnIdeal.main_arg4) = m ((c.tc : Thread Cert.EvDnIdeal.nD Cert.EvDnIdeal.τ).loc Cert.EvDnIdeal.main_arg4))
      ∧ r.2.sem = fun _ => 0)

def quiescent_EvDnRefIdeal [hEvDnRefIdeal : Cert.EvDnRefIdeal.Facts] : Prop :=
  ∀ (m : (ℓ : Loc Cert.EvDnRefIdeal.nD Cert.EvDnRefIdeal.τ Cert.EvDnRefIdeal.sig) → Buf (Elt Ideal) ℓ) (g : Dev Cert.EvDnRefIdeal.nD → PrngReg), Pre_EvDnRefIdeal m →
    θ_run (Cert.EvDnRefIdeal.defs (F := Ideal)) (onTc (τ := Cert.EvDnRefIdeal.τ) (Cert.EvDnRefIdeal.main (F := Ideal))) ⟨m, fun _ => 0, g⟩ (fun r => (∀ c : Dev Cert.EvDnRefIdeal.nD,
      r.2.mem ((c.tc : Thread Cert.EvDnRefIdeal.nD Cert.EvDnRefIdeal.τ).loc Cert.EvDnRefIdeal.main_arg0) = m ((c.tc : Thread Cert.EvDnRefIdeal.nD Cert.EvDnRefIdeal.τ).loc Cert.EvDnRefIdeal.main_arg0)
      ∧ r.2.mem ((c.tc : Thread Cert.EvDnRefIdeal.nD Cert.EvDnRefIdeal.τ).loc Cert.EvDnRefIdeal.main_arg1) = m ((c.tc : Thread Cert.EvDnRefIdeal.nD Cert.EvDnRefIdeal.τ).loc Cert.EvDnRefIdeal.main_arg1)
      ∧ r.2.mem ((c.tc : Thread Cert.EvDnRefIdeal.nD Cert.EvDnRefIdeal.τ).loc Cert.EvDnRefIdeal.main_arg2) = m ((c.tc : Thread Cert.EvDnRefIdeal.nD Cert.EvDnRefIdeal.τ).loc Cert.EvDnRefIdeal.main_arg2)
      ∧ r.2.mem ((c.tc : Thread Cert.EvDnRefIdeal.nD Cert.EvDnRefIdeal.τ).loc Cert.EvDnRefIdeal.main_arg3) = m ((c.tc : Thread Cert.EvDnRefIdeal.nD Cert.EvDnRefIdeal.τ).loc Cert.EvDnRefIdeal.main_arg3)
      ∧ r.2.mem ((c.tc : Thread Cert.EvDnRefIdeal.nD Cert.EvDnRefIdeal.τ).loc Cert.EvDnRefIdeal.main_arg4) = m ((c.tc : Thread Cert.EvDnRefIdeal.nD Cert.EvDnRefIdeal.τ).loc Cert.EvDnRefIdeal.main_arg4))
      ∧ r.2.sem = fun _ => 0)

def quiescent_XaDnq [hXaDnq : Cert.XaDnq.Facts] : Prop :=
  ∀ (m : (ℓ : Loc Cert.XaDnq.nD Cert.XaDnq.τ Cert.XaDnq.sig) → Buf (Elt Bits) ℓ) (g : Dev Cert.XaDnq.nD → PrngReg), Pre_XaDnq m →
    θ_run (Cert.XaDnq.defs (F := Bits)) (onTc (τ := Cert.XaDnq.τ) (Cert.XaDnq.main (F := Bits))) ⟨m, fun _ => 0, g⟩ (fun r => (∀ c : Dev Cert.XaDnq.nD,
      r.2.mem ((c.tc : Thread Cert.XaDnq.nD Cert.XaDnq.τ).loc Cert.XaDnq.main_arg0) = m ((c.tc : Thread Cert.XaDnq.nD Cert.XaDnq.τ).loc Cert.XaDnq.main_arg0)
      ∧ r.2.mem ((c.tc : Thread Cert.XaDnq.nD Cert.XaDnq.τ).loc Cert.XaDnq.main_arg1) = m ((c.tc : Thread Cert.XaDnq.nD Cert.XaDnq.τ).loc Cert.XaDnq.main_arg1)
      ∧ r.2.mem ((c.tc : Thread Cert.XaDnq.nD Cert.XaDnq.τ).loc Cert.XaDnq.main_arg2) = m ((c.tc : Thread Cert.XaDnq.nD Cert.XaDnq.τ).loc Cert.XaDnq.main_arg2)
      ∧ r.2.mem ((c.tc : Thread Cert.XaDnq.nD Cert.XaDnq.τ).loc Cert.XaDnq.main_arg3) = m ((c.tc : Thread Cert.XaDnq.nD Cert.XaDnq.τ).loc Cert.XaDnq.main_arg3)
      ∧ r.2.mem ((c.tc : Thread Cert.XaDnq.nD Cert.XaDnq.τ).loc Cert.XaDnq.main_arg4) = m ((c.tc : Thread Cert.XaDnq.nD Cert.XaDnq.τ).loc Cert.XaDnq.main_arg4))
      ∧ r.2.sem = fun _ => 0)

def quiescent_XaDnqIdeal [hXaDnqIdeal : Cert.XaDnqIdeal.Facts] : Prop :=
  ∀ (m : (ℓ : Loc Cert.XaDnqIdeal.nD Cert.XaDnqIdeal.τ Cert.XaDnqIdeal.sig) → Buf (Elt Ideal) ℓ) (g : Dev Cert.XaDnqIdeal.nD → PrngReg), Pre_XaDnqIdeal m →
    θ_run (Cert.XaDnqIdeal.defs (F := Ideal)) (onTc (τ := Cert.XaDnqIdeal.τ) (Cert.XaDnqIdeal.main (F := Ideal))) ⟨m, fun _ => 0, g⟩ (fun r => (∀ c : Dev Cert.XaDnqIdeal.nD,
      r.2.mem ((c.tc : Thread Cert.XaDnqIdeal.nD Cert.XaDnqIdeal.τ).loc Cert.XaDnqIdeal.main_arg0) = m ((c.tc : Thread Cert.XaDnqIdeal.nD Cert.XaDnqIdeal.τ).loc Cert.XaDnqIdeal.main_arg0)
      ∧ r.2.mem ((c.tc : Thread Cert.XaDnqIdeal.nD Cert.XaDnqIdeal.τ).loc Cert.XaDnqIdeal.main_arg1) = m ((c.tc : Thread Cert.XaDnqIdeal.nD Cert.XaDnqIdeal.τ).loc Cert.XaDnqIdeal.main_arg1)
      ∧ r.2.mem ((c.tc : Thread Cert.XaDnqIdeal.nD Cert.XaDnqIdeal.τ).loc Cert.XaDnqIdeal.main_arg2) = m ((c.tc : Thread Cert.XaDnqIdeal.nD Cert.XaDnqIdeal.τ).loc Cert.XaDnqIdeal.main_arg2)
      ∧ r.2.mem ((c.tc : Thread Cert.XaDnqIdeal.nD Cert.XaDnqIdeal.τ).loc Cert.XaDnqIdeal.main_arg3) = m ((c.tc : Thread Cert.XaDnqIdeal.nD Cert.XaDnqIdeal.τ).loc Cert.XaDnqIdeal.main_arg3)
      ∧ r.2.mem ((c.tc : Thread Cert.XaDnqIdeal.nD Cert.XaDnqIdeal.τ).loc Cert.XaDnqIdeal.main_arg4) = m ((c.tc : Thread Cert.XaDnqIdeal.nD Cert.XaDnqIdeal.τ).loc Cert.XaDnqIdeal.main_arg4))
      ∧ r.2.sem = fun _ => 0)

def quiescent_XaDnqRefIdeal [hXaDnqRefIdeal : Cert.XaDnqRefIdeal.Facts] : Prop :=
  ∀ (m : (ℓ : Loc Cert.XaDnqRefIdeal.nD Cert.XaDnqRefIdeal.τ Cert.XaDnqRefIdeal.sig) → Buf (Elt Ideal) ℓ) (g : Dev Cert.XaDnqRefIdeal.nD → PrngReg), Pre_XaDnqRefIdeal m →
    θ_run (Cert.XaDnqRefIdeal.defs (F := Ideal)) (onTc (τ := Cert.XaDnqRefIdeal.τ) (Cert.XaDnqRefIdeal.main (F := Ideal))) ⟨m, fun _ => 0, g⟩ (fun r => (∀ c : Dev Cert.XaDnqRefIdeal.nD,
      r.2.mem ((c.tc : Thread Cert.XaDnqRefIdeal.nD Cert.XaDnqRefIdeal.τ).loc Cert.XaDnqRefIdeal.main_arg0) = m ((c.tc : Thread Cert.XaDnqRefIdeal.nD Cert.XaDnqRefIdeal.τ).loc Cert.XaDnqRefIdeal.main_arg0)
      ∧ r.2.mem ((c.tc : Thread Cert.XaDnqRefIdeal.nD Cert.XaDnqRefIdeal.τ).loc Cert.XaDnqRefIdeal.main_arg1) = m ((c.tc : Thread Cert.XaDnqRefIdeal.nD Cert.XaDnqRefIdeal.τ).loc Cert.XaDnqRefIdeal.main_arg1)
      ∧ r.2.mem ((c.tc : Thread Cert.XaDnqRefIdeal.nD Cert.XaDnqRefIdeal.τ).loc Cert.XaDnqRefIdeal.main_arg2) = m ((c.tc : Thread Cert.XaDnqRefIdeal.nD Cert.XaDnqRefIdeal.τ).loc Cert.XaDnqRefIdeal.main_arg2)
      ∧ r.2.mem ((c.tc : Thread Cert.XaDnqRefIdeal.nD Cert.XaDnqRefIdeal.τ).loc Cert.XaDnqRefIdeal.main_arg3) = m ((c.tc : Thread Cert.XaDnqRefIdeal.nD Cert.XaDnqRefIdeal.τ).loc Cert.XaDnqRefIdeal.main_arg3)
      ∧ r.2.mem ((c.tc : Thread Cert.XaDnqRefIdeal.nD Cert.XaDnqRefIdeal.τ).loc Cert.XaDnqRefIdeal.main_arg4) = m ((c.tc : Thread Cert.XaDnqRefIdeal.nD Cert.XaDnqRefIdeal.τ).loc Cert.XaDnqRefIdeal.main_arg4))
      ∧ r.2.sem = fun _ => 0)

def quiescent_FfnDwd [hFfnDwd : Cert.FfnDwd.Facts] : Prop :=
  ∀ (m : (ℓ : Loc Cert.FfnDwd.nD Cert.FfnDwd.τ Cert.FfnDwd.sig) → Buf (Elt Bits) ℓ) (g : Dev Cert.FfnDwd.nD → PrngReg), Pre_FfnDwd m →
    θ_run (Cert.FfnDwd.defs (F := Bits)) (onTc (τ := Cert.FfnDwd.τ) (Cert.FfnDwd.main (F := Bits))) ⟨m, fun _ => 0, g⟩ (fun r => (∀ c : Dev Cert.FfnDwd.nD,
      r.2.mem ((c.tc : Thread Cert.FfnDwd.nD Cert.FfnDwd.τ).loc Cert.FfnDwd.main_arg0) = m ((c.tc : Thread Cert.FfnDwd.nD Cert.FfnDwd.τ).loc Cert.FfnDwd.main_arg0)
      ∧ r.2.mem ((c.tc : Thread Cert.FfnDwd.nD Cert.FfnDwd.τ).loc Cert.FfnDwd.main_arg1) = m ((c.tc : Thread Cert.FfnDwd.nD Cert.FfnDwd.τ).loc Cert.FfnDwd.main_arg1))
      ∧ r.2.sem = fun _ => 0)

def quiescent_FfnDwdIdeal [hFfnDwdIdeal : Cert.FfnDwdIdeal.Facts] : Prop :=
  ∀ (m : (ℓ : Loc Cert.FfnDwdIdeal.nD Cert.FfnDwdIdeal.τ Cert.FfnDwdIdeal.sig) → Buf (Elt Ideal) ℓ) (g : Dev Cert.FfnDwdIdeal.nD → PrngReg), Pre_FfnDwdIdeal m →
    θ_run (Cert.FfnDwdIdeal.defs (F := Ideal)) (onTc (τ := Cert.FfnDwdIdeal.τ) (Cert.FfnDwdIdeal.main (F := Ideal))) ⟨m, fun _ => 0, g⟩ (fun r => (∀ c : Dev Cert.FfnDwdIdeal.nD,
      r.2.mem ((c.tc : Thread Cert.FfnDwdIdeal.nD Cert.FfnDwdIdeal.τ).loc Cert.FfnDwdIdeal.main_arg0) = m ((c.tc : Thread Cert.FfnDwdIdeal.nD Cert.FfnDwdIdeal.τ).loc Cert.FfnDwdIdeal.main_arg0)
      ∧ r.2.mem ((c.tc : Thread Cert.FfnDwdIdeal.nD Cert.FfnDwdIdeal.τ).loc Cert.FfnDwdIdeal.main_arg1) = m ((c.tc : Thread Cert.FfnDwdIdeal.nD Cert.FfnDwdIdeal.τ).loc Cert.FfnDwdIdeal.main_arg1))
      ∧ r.2.sem = fun _ => 0)

def quiescent_FfnDwdRefIdeal [hFfnDwdRefIdeal : Cert.FfnDwdRefIdeal.Facts] : Prop :=
  ∀ (m : (ℓ : Loc Cert.FfnDwdRefIdeal.nD Cert.FfnDwdRefIdeal.τ Cert.FfnDwdRefIdeal.sig) → Buf (Elt Ideal) ℓ) (g : Dev Cert.FfnDwdRefIdeal.nD → PrngReg), Pre_FfnDwdRefIdeal m →
    θ_run (Cert.FfnDwdRefIdeal.defs (F := Ideal)) (onTc (τ := Cert.FfnDwdRefIdeal.τ) (Cert.FfnDwdRefIdeal.main (F := Ideal))) ⟨m, fun _ => 0, g⟩ (fun r => (∀ c : Dev Cert.FfnDwdRefIdeal.nD,
      r.2.mem ((c.tc : Thread Cert.FfnDwdRefIdeal.nD Cert.FfnDwdRefIdeal.τ).loc Cert.FfnDwdRefIdeal.main_arg0) = m ((c.tc : Thread Cert.FfnDwdRefIdeal.nD Cert.FfnDwdRefIdeal.τ).loc Cert.FfnDwdRefIdeal.main_arg0)
      ∧ r.2.mem ((c.tc : Thread Cert.FfnDwdRefIdeal.nD Cert.FfnDwdRefIdeal.τ).loc Cert.FfnDwdRefIdeal.main_arg1) = m ((c.tc : Thread Cert.FfnDwdRefIdeal.nD Cert.FfnDwdRefIdeal.τ).loc Cert.FfnDwdRefIdeal.main_arg1))
      ∧ r.2.sem = fun _ => 0)

def quiescent_FfnDwg [hFfnDwg : Cert.FfnDwg.Facts] : Prop :=
  ∀ (m : (ℓ : Loc Cert.FfnDwg.nD Cert.FfnDwg.τ Cert.FfnDwg.sig) → Buf (Elt Bits) ℓ) (g : Dev Cert.FfnDwg.nD → PrngReg), Pre_FfnDwg m →
    θ_run (Cert.FfnDwg.defs (F := Bits)) (onTc (τ := Cert.FfnDwg.τ) (Cert.FfnDwg.main (F := Bits))) ⟨m, fun _ => 0, g⟩ (fun r => (∀ c : Dev Cert.FfnDwg.nD,
      r.2.mem ((c.tc : Thread Cert.FfnDwg.nD Cert.FfnDwg.τ).loc Cert.FfnDwg.main_arg0) = m ((c.tc : Thread Cert.FfnDwg.nD Cert.FfnDwg.τ).loc Cert.FfnDwg.main_arg0)
      ∧ r.2.mem ((c.tc : Thread Cert.FfnDwg.nD Cert.FfnDwg.τ).loc Cert.FfnDwg.main_arg1) = m ((c.tc : Thread Cert.FfnDwg.nD Cert.FfnDwg.τ).loc Cert.FfnDwg.main_arg1))
      ∧ r.2.sem = fun _ => 0)

def quiescent_FfnDwgIdeal [hFfnDwgIdeal : Cert.FfnDwgIdeal.Facts] : Prop :=
  ∀ (m : (ℓ : Loc Cert.FfnDwgIdeal.nD Cert.FfnDwgIdeal.τ Cert.FfnDwgIdeal.sig) → Buf (Elt Ideal) ℓ) (g : Dev Cert.FfnDwgIdeal.nD → PrngReg), Pre_FfnDwgIdeal m →
    θ_run (Cert.FfnDwgIdeal.defs (F := Ideal)) (onTc (τ := Cert.FfnDwgIdeal.τ) (Cert.FfnDwgIdeal.main (F := Ideal))) ⟨m, fun _ => 0, g⟩ (fun r => (∀ c : Dev Cert.FfnDwgIdeal.nD,
      r.2.mem ((c.tc : Thread Cert.FfnDwgIdeal.nD Cert.FfnDwgIdeal.τ).loc Cert.FfnDwgIdeal.main_arg0) = m ((c.tc : Thread Cert.FfnDwgIdeal.nD Cert.FfnDwgIdeal.τ).loc Cert.FfnDwgIdeal.main_arg0)
      ∧ r.2.mem ((c.tc : Thread Cert.FfnDwgIdeal.nD Cert.FfnDwgIdeal.τ).loc Cert.FfnDwgIdeal.main_arg1) = m ((c.tc : Thread Cert.FfnDwgIdeal.nD Cert.FfnDwgIdeal.τ).loc Cert.FfnDwgIdeal.main_arg1))
      ∧ r.2.sem = fun _ => 0)

def quiescent_FfnDwgRefIdeal [hFfnDwgRefIdeal : Cert.FfnDwgRefIdeal.Facts] : Prop :=
  ∀ (m : (ℓ : Loc Cert.FfnDwgRefIdeal.nD Cert.FfnDwgRefIdeal.τ Cert.FfnDwgRefIdeal.sig) → Buf (Elt Ideal) ℓ) (g : Dev Cert.FfnDwgRefIdeal.nD → PrngReg), Pre_FfnDwgRefIdeal m →
    θ_run (Cert.FfnDwgRefIdeal.defs (F := Ideal)) (onTc (τ := Cert.FfnDwgRefIdeal.τ) (Cert.FfnDwgRefIdeal.main (F := Ideal))) ⟨m, fun _ => 0, g⟩ (fun r => (∀ c : Dev Cert.FfnDwgRefIdeal.nD,
      r.2.mem ((c.tc : Thread Cert.FfnDwgRefIdeal.nD Cert.FfnDwgRefIdeal.τ).loc Cert.FfnDwgRefIdeal.main_arg0) = m ((c.tc : Thread Cert.FfnDwgRefIdeal.nD Cert.FfnDwgRefIdeal.τ).loc Cert.FfnDwgRefIdeal.main_arg0)
      ∧ r.2.mem ((c.tc : Thread Cert.FfnDwgRefIdeal.nD Cert.FfnDwgRefIdeal.τ).loc Cert.FfnDwgRefIdeal.main_arg1) = m ((c.tc : Thread Cert.FfnDwgRefIdeal.nD Cert.FfnDwgRefIdeal.τ).loc Cert.FfnDwgRefIdeal.main_arg1))
      ∧ r.2.sem = fun _ => 0)

def quiescent_XaDwo [hXaDwo : Cert.XaDwo.Facts] : Prop :=
  ∀ (m : (ℓ : Loc Cert.XaDwo.nD Cert.XaDwo.τ Cert.XaDwo.sig) → Buf (Elt Bits) ℓ) (g : Dev Cert.XaDwo.nD → PrngReg), Pre_XaDwo m →
    θ_run (Cert.XaDwo.defs (F := Bits)) (onTc (τ := Cert.XaDwo.τ) (Cert.XaDwo.main (F := Bits))) ⟨m, fun _ => 0, g⟩ (fun r => (∀ c : Dev Cert.XaDwo.nD,
      r.2.mem ((c.tc : Thread Cert.XaDwo.nD Cert.XaDwo.τ).loc Cert.XaDwo.main_arg0) = m ((c.tc : Thread Cert.XaDwo.nD Cert.XaDwo.τ).loc Cert.XaDwo.main_arg0)
      ∧ r.2.mem ((c.tc : Thread Cert.XaDwo.nD Cert.XaDwo.τ).loc Cert.XaDwo.main_arg1) = m ((c.tc : Thread Cert.XaDwo.nD Cert.XaDwo.τ).loc Cert.XaDwo.main_arg1))
      ∧ r.2.sem = fun _ => 0)

def quiescent_XaDwoIdeal [hXaDwoIdeal : Cert.XaDwoIdeal.Facts] : Prop :=
  ∀ (m : (ℓ : Loc Cert.XaDwoIdeal.nD Cert.XaDwoIdeal.τ Cert.XaDwoIdeal.sig) → Buf (Elt Ideal) ℓ) (g : Dev Cert.XaDwoIdeal.nD → PrngReg), Pre_XaDwoIdeal m →
    θ_run (Cert.XaDwoIdeal.defs (F := Ideal)) (onTc (τ := Cert.XaDwoIdeal.τ) (Cert.XaDwoIdeal.main (F := Ideal))) ⟨m, fun _ => 0, g⟩ (fun r => (∀ c : Dev Cert.XaDwoIdeal.nD,
      r.2.mem ((c.tc : Thread Cert.XaDwoIdeal.nD Cert.XaDwoIdeal.τ).loc Cert.XaDwoIdeal.main_arg0) = m ((c.tc : Thread Cert.XaDwoIdeal.nD Cert.XaDwoIdeal.τ).loc Cert.XaDwoIdeal.main_arg0)
      ∧ r.2.mem ((c.tc : Thread Cert.XaDwoIdeal.nD Cert.XaDwoIdeal.τ).loc Cert.XaDwoIdeal.main_arg1) = m ((c.tc : Thread Cert.XaDwoIdeal.nD Cert.XaDwoIdeal.τ).loc Cert.XaDwoIdeal.main_arg1))
      ∧ r.2.sem = fun _ => 0)

def quiescent_XaDwoRefIdeal [hXaDwoRefIdeal : Cert.XaDwoRefIdeal.Facts] : Prop :=
  ∀ (m : (ℓ : Loc Cert.XaDwoRefIdeal.nD Cert.XaDwoRefIdeal.τ Cert.XaDwoRefIdeal.sig) → Buf (Elt Ideal) ℓ) (g : Dev Cert.XaDwoRefIdeal.nD → PrngReg), Pre_XaDwoRefIdeal m →
    θ_run (Cert.XaDwoRefIdeal.defs (F := Ideal)) (onTc (τ := Cert.XaDwoRefIdeal.τ) (Cert.XaDwoRefIdeal.main (F := Ideal))) ⟨m, fun _ => 0, g⟩ (fun r => (∀ c : Dev Cert.XaDwoRefIdeal.nD,
      r.2.mem ((c.tc : Thread Cert.XaDwoRefIdeal.nD Cert.XaDwoRefIdeal.τ).loc Cert.XaDwoRefIdeal.main_arg0) = m ((c.tc : Thread Cert.XaDwoRefIdeal.nD Cert.XaDwoRefIdeal.τ).loc Cert.XaDwoRefIdeal.main_arg0)
      ∧ r.2.mem ((c.tc : Thread Cert.XaDwoRefIdeal.nD Cert.XaDwoRefIdeal.τ).loc Cert.XaDwoRefIdeal.main_arg1) = m ((c.tc : Thread Cert.XaDwoRefIdeal.nD Cert.XaDwoRefIdeal.τ).loc Cert.XaDwoRefIdeal.main_arg1))
      ∧ r.2.sem = fun _ => 0)

def quiescent_XaDwq [hXaDwq : Cert.XaDwq.Facts] : Prop :=
  ∀ (m : (ℓ : Loc Cert.XaDwq.nD Cert.XaDwq.τ Cert.XaDwq.sig) → Buf (Elt Bits) ℓ) (g : Dev Cert.XaDwq.nD → PrngReg), Pre_XaDwq m →
    θ_run (Cert.XaDwq.defs (F := Bits)) (onTc (τ := Cert.XaDwq.τ) (Cert.XaDwq.main (F := Bits))) ⟨m, fun _ => 0, g⟩ (fun r => (∀ c : Dev Cert.XaDwq.nD,
      r.2.mem ((c.tc : Thread Cert.XaDwq.nD Cert.XaDwq.τ).loc Cert.XaDwq.main_arg0) = m ((c.tc : Thread Cert.XaDwq.nD Cert.XaDwq.τ).loc Cert.XaDwq.main_arg0)
      ∧ r.2.mem ((c.tc : Thread Cert.XaDwq.nD Cert.XaDwq.τ).loc Cert.XaDwq.main_arg1) = m ((c.tc : Thread Cert.XaDwq.nD Cert.XaDwq.τ).loc Cert.XaDwq.main_arg1))
      ∧ r.2.sem = fun _ => 0)

def quiescent_XaDwqIdeal [hXaDwqIdeal : Cert.XaDwqIdeal.Facts] : Prop :=
  ∀ (m : (ℓ : Loc Cert.XaDwqIdeal.nD Cert.XaDwqIdeal.τ Cert.XaDwqIdeal.sig) → Buf (Elt Ideal) ℓ) (g : Dev Cert.XaDwqIdeal.nD → PrngReg), Pre_XaDwqIdeal m →
    θ_run (Cert.XaDwqIdeal.defs (F := Ideal)) (onTc (τ := Cert.XaDwqIdeal.τ) (Cert.XaDwqIdeal.main (F := Ideal))) ⟨m, fun _ => 0, g⟩ (fun r => (∀ c : Dev Cert.XaDwqIdeal.nD,
      r.2.mem ((c.tc : Thread Cert.XaDwqIdeal.nD Cert.XaDwqIdeal.τ).loc Cert.XaDwqIdeal.main_arg0) = m ((c.tc : Thread Cert.XaDwqIdeal.nD Cert.XaDwqIdeal.τ).loc Cert.XaDwqIdeal.main_arg0)
      ∧ r.2.mem ((c.tc : Thread Cert.XaDwqIdeal.nD Cert.XaDwqIdeal.τ).loc Cert.XaDwqIdeal.main_arg1) = m ((c.tc : Thread Cert.XaDwqIdeal.nD Cert.XaDwqIdeal.τ).loc Cert.XaDwqIdeal.main_arg1))
      ∧ r.2.sem = fun _ => 0)

def quiescent_XaDwqRefIdeal [hXaDwqRefIdeal : Cert.XaDwqRefIdeal.Facts] : Prop :=
  ∀ (m : (ℓ : Loc Cert.XaDwqRefIdeal.nD Cert.XaDwqRefIdeal.τ Cert.XaDwqRefIdeal.sig) → Buf (Elt Ideal) ℓ) (g : Dev Cert.XaDwqRefIdeal.nD → PrngReg), Pre_XaDwqRefIdeal m →
    θ_run (Cert.XaDwqRefIdeal.defs (F := Ideal)) (onTc (τ := Cert.XaDwqRefIdeal.τ) (Cert.XaDwqRefIdeal.main (F := Ideal))) ⟨m, fun _ => 0, g⟩ (fun r => (∀ c : Dev Cert.XaDwqRefIdeal.nD,
      r.2.mem ((c.tc : Thread Cert.XaDwqRefIdeal.nD Cert.XaDwqRefIdeal.τ).loc Cert.XaDwqRefIdeal.main_arg0) = m ((c.tc : Thread Cert.XaDwqRefIdeal.nD Cert.XaDwqRefIdeal.τ).loc Cert.XaDwqRefIdeal.main_arg0)
      ∧ r.2.mem ((c.tc : Thread Cert.XaDwqRefIdeal.nD Cert.XaDwqRefIdeal.τ).loc Cert.XaDwqRefIdeal.main_arg1) = m ((c.tc : Thread Cert.XaDwqRefIdeal.nD Cert.XaDwqRefIdeal.τ).loc Cert.XaDwqRefIdeal.main_arg1))
      ∧ r.2.sem = fun _ => 0)

def quiescent_OdDwin [hOdDwin : Cert.OdDwin.Facts] : Prop :=
  ∀ (m : (ℓ : Loc Cert.OdDwin.nD Cert.OdDwin.τ Cert.OdDwin.sig) → Buf (Elt Bits) ℓ) (g : Dev Cert.OdDwin.nD → PrngReg), Pre_OdDwin m →
    θ_run (Cert.OdDwin.defs (F := Bits)) (onTc (τ := Cert.OdDwin.τ) (Cert.OdDwin.main (F := Bits))) ⟨m, fun _ => 0, g⟩ (fun r => (∀ c : Dev Cert.OdDwin.nD,
      r.2.mem ((c.tc : Thread Cert.OdDwin.nD Cert.OdDwin.τ).loc Cert.OdDwin.main_arg0) = m ((c.tc : Thread Cert.OdDwin.nD Cert.OdDwin.τ).loc Cert.OdDwin.main_arg0)
      ∧ r.2.mem ((c.tc : Thread Cert.OdDwin.nD Cert.OdDwin.τ).loc Cert.OdDwin.main_arg1) = m ((c.tc : Thread Cert.OdDwin.nD Cert.OdDwin.τ).loc Cert.OdDwin.main_arg1))
      ∧ r.2.sem = fun _ => 0)

def quiescent_OdDwinIdeal [hOdDwinIdeal : Cert.OdDwinIdeal.Facts] : Prop :=
  ∀ (m : (ℓ : Loc Cert.OdDwinIdeal.nD Cert.OdDwinIdeal.τ Cert.OdDwinIdeal.sig) → Buf (Elt Ideal) ℓ) (g : Dev Cert.OdDwinIdeal.nD → PrngReg), Pre_OdDwinIdeal m →
    θ_run (Cert.OdDwinIdeal.defs (F := Ideal)) (onTc (τ := Cert.OdDwinIdeal.τ) (Cert.OdDwinIdeal.main (F := Ideal))) ⟨m, fun _ => 0, g⟩ (fun r => (∀ c : Dev Cert.OdDwinIdeal.nD,
      r.2.mem ((c.tc : Thread Cert.OdDwinIdeal.nD Cert.OdDwinIdeal.τ).loc Cert.OdDwinIdeal.main_arg0) = m ((c.tc : Thread Cert.OdDwinIdeal.nD Cert.OdDwinIdeal.τ).loc Cert.OdDwinIdeal.main_arg0)
      ∧ r.2.mem ((c.tc : Thread Cert.OdDwinIdeal.nD Cert.OdDwinIdeal.τ).loc Cert.OdDwinIdeal.main_arg1) = m ((c.tc : Thread Cert.OdDwinIdeal.nD Cert.OdDwinIdeal.τ).loc Cert.OdDwinIdeal.main_arg1))
      ∧ r.2.sem = fun _ => 0)

def quiescent_OdDwinRefIdeal [hOdDwinRefIdeal : Cert.OdDwinRefIdeal.Facts] : Prop :=
  ∀ (m : (ℓ : Loc Cert.OdDwinRefIdeal.nD Cert.OdDwinRefIdeal.τ Cert.OdDwinRefIdeal.sig) → Buf (Elt Ideal) ℓ) (g : Dev Cert.OdDwinRefIdeal.nD → PrngReg), Pre_OdDwinRefIdeal m →
    θ_run (Cert.OdDwinRefIdeal.defs (F := Ideal)) (onTc (τ := Cert.OdDwinRefIdeal.τ) (Cert.OdDwinRefIdeal.main (F := Ideal))) ⟨m, fun _ => 0, g⟩ (fun r => (∀ c : Dev Cert.OdDwinRefIdeal.nD,
      r.2.mem ((c.tc : Thread Cert.OdDwinRefIdeal.nD Cert.OdDwinRefIdeal.τ).loc Cert.OdDwinRefIdeal.main_arg0) = m ((c.tc : Thread Cert.OdDwinRefIdeal.nD Cert.OdDwinRefIdeal.τ).loc Cert.OdDwinRefIdeal.main_arg0)
      ∧ r.2.mem ((c.tc : Thread Cert.OdDwinRefIdeal.nD Cert.OdDwinRefIdeal.τ).loc Cert.OdDwinRefIdeal.main_arg1) = m ((c.tc : Thread Cert.OdDwinRefIdeal.nD Cert.OdDwinRefIdeal.τ).loc Cert.OdDwinRefIdeal.main_arg1))
      ∧ r.2.sem = fun _ => 0)

def quiescent_EvDwin [hEvDwin : Cert.EvDwin.Facts] : Prop :=
  ∀ (m : (ℓ : Loc Cert.EvDwin.nD Cert.EvDwin.τ Cert.EvDwin.sig) → Buf (Elt Bits) ℓ) (g : Dev Cert.EvDwin.nD → PrngReg), Pre_EvDwin m →
    θ_run (Cert.EvDwin.defs (F := Bits)) (onTc (τ := Cert.EvDwin.τ) (Cert.EvDwin.main (F := Bits))) ⟨m, fun _ => 0, g⟩ (fun r => (∀ c : Dev Cert.EvDwin.nD,
      r.2.mem ((c.tc : Thread Cert.EvDwin.nD Cert.EvDwin.τ).loc Cert.EvDwin.main_arg0) = m ((c.tc : Thread Cert.EvDwin.nD Cert.EvDwin.τ).loc Cert.EvDwin.main_arg0)
      ∧ r.2.mem ((c.tc : Thread Cert.EvDwin.nD Cert.EvDwin.τ).loc Cert.EvDwin.main_arg1) = m ((c.tc : Thread Cert.EvDwin.nD Cert.EvDwin.τ).loc Cert.EvDwin.main_arg1))
      ∧ r.2.sem = fun _ => 0)

def quiescent_EvDwinIdeal [hEvDwinIdeal : Cert.EvDwinIdeal.Facts] : Prop :=
  ∀ (m : (ℓ : Loc Cert.EvDwinIdeal.nD Cert.EvDwinIdeal.τ Cert.EvDwinIdeal.sig) → Buf (Elt Ideal) ℓ) (g : Dev Cert.EvDwinIdeal.nD → PrngReg), Pre_EvDwinIdeal m →
    θ_run (Cert.EvDwinIdeal.defs (F := Ideal)) (onTc (τ := Cert.EvDwinIdeal.τ) (Cert.EvDwinIdeal.main (F := Ideal))) ⟨m, fun _ => 0, g⟩ (fun r => (∀ c : Dev Cert.EvDwinIdeal.nD,
      r.2.mem ((c.tc : Thread Cert.EvDwinIdeal.nD Cert.EvDwinIdeal.τ).loc Cert.EvDwinIdeal.main_arg0) = m ((c.tc : Thread Cert.EvDwinIdeal.nD Cert.EvDwinIdeal.τ).loc Cert.EvDwinIdeal.main_arg0)
      ∧ r.2.mem ((c.tc : Thread Cert.EvDwinIdeal.nD Cert.EvDwinIdeal.τ).loc Cert.EvDwinIdeal.main_arg1) = m ((c.tc : Thread Cert.EvDwinIdeal.nD Cert.EvDwinIdeal.τ).loc Cert.EvDwinIdeal.main_arg1))
      ∧ r.2.sem = fun _ => 0)

def quiescent_EvDwinRefIdeal [hEvDwinRefIdeal : Cert.EvDwinRefIdeal.Facts] : Prop :=
  ∀ (m : (ℓ : Loc Cert.EvDwinRefIdeal.nD Cert.EvDwinRefIdeal.τ Cert.EvDwinRefIdeal.sig) → Buf (Elt Ideal) ℓ) (g : Dev Cert.EvDwinRefIdeal.nD → PrngReg), Pre_EvDwinRefIdeal m →
    θ_run (Cert.EvDwinRefIdeal.defs (F := Ideal)) (onTc (τ := Cert.EvDwinRefIdeal.τ) (Cert.EvDwinRefIdeal.main (F := Ideal))) ⟨m, fun _ => 0, g⟩ (fun r => (∀ c : Dev Cert.EvDwinRefIdeal.nD,
      r.2.mem ((c.tc : Thread Cert.EvDwinRefIdeal.nD Cert.EvDwinRefIdeal.τ).loc Cert.EvDwinRefIdeal.main_arg0) = m ((c.tc : Thread Cert.EvDwinRefIdeal.nD Cert.EvDwinRefIdeal.τ).loc Cert.EvDwinRefIdeal.main_arg0)
      ∧ r.2.mem ((c.tc : Thread Cert.EvDwinRefIdeal.nD Cert.EvDwinRefIdeal.τ).loc Cert.EvDwinRefIdeal.main_arg1) = m ((c.tc : Thread Cert.EvDwinRefIdeal.nD Cert.EvDwinRefIdeal.τ).loc Cert.EvDwinRefIdeal.main_arg1))
      ∧ r.2.sem = fun _ => 0)

def quiescent_XaDo [hXaDo : Cert.XaDo.Facts] : Prop :=
  ∀ (m : (ℓ : Loc Cert.XaDo.nD Cert.XaDo.τ Cert.XaDo.sig) → Buf (Elt Bits) ℓ) (g : Dev Cert.XaDo.nD → PrngReg), Pre_XaDo m →
    θ_run (Cert.XaDo.defs (F := Bits)) (onTc (τ := Cert.XaDo.τ) (Cert.XaDo.main (F := Bits))) ⟨m, fun _ => 0, g⟩ (fun r => (∀ c : Dev Cert.XaDo.nD,
      r.2.mem ((c.tc : Thread Cert.XaDo.nD Cert.XaDo.τ).loc Cert.XaDo.main_arg0) = m ((c.tc : Thread Cert.XaDo.nD Cert.XaDo.τ).loc Cert.XaDo.main_arg0)
      ∧ r.2.mem ((c.tc : Thread Cert.XaDo.nD Cert.XaDo.τ).loc Cert.XaDo.main_arg1) = m ((c.tc : Thread Cert.XaDo.nD Cert.XaDo.τ).loc Cert.XaDo.main_arg1))
      ∧ r.2.sem = fun _ => 0)

def quiescent_XaDoIdeal [hXaDoIdeal : Cert.XaDoIdeal.Facts] : Prop :=
  ∀ (m : (ℓ : Loc Cert.XaDoIdeal.nD Cert.XaDoIdeal.τ Cert.XaDoIdeal.sig) → Buf (Elt Ideal) ℓ) (g : Dev Cert.XaDoIdeal.nD → PrngReg), Pre_XaDoIdeal m →
    θ_run (Cert.XaDoIdeal.defs (F := Ideal)) (onTc (τ := Cert.XaDoIdeal.τ) (Cert.XaDoIdeal.main (F := Ideal))) ⟨m, fun _ => 0, g⟩ (fun r => (∀ c : Dev Cert.XaDoIdeal.nD,
      r.2.mem ((c.tc : Thread Cert.XaDoIdeal.nD Cert.XaDoIdeal.τ).loc Cert.XaDoIdeal.main_arg0) = m ((c.tc : Thread Cert.XaDoIdeal.nD Cert.XaDoIdeal.τ).loc Cert.XaDoIdeal.main_arg0)
      ∧ r.2.mem ((c.tc : Thread Cert.XaDoIdeal.nD Cert.XaDoIdeal.τ).loc Cert.XaDoIdeal.main_arg1) = m ((c.tc : Thread Cert.XaDoIdeal.nD Cert.XaDoIdeal.τ).loc Cert.XaDoIdeal.main_arg1))
      ∧ r.2.sem = fun _ => 0)

def quiescent_XaDoRefIdeal [hXaDoRefIdeal : Cert.XaDoRefIdeal.Facts] : Prop :=
  ∀ (m : (ℓ : Loc Cert.XaDoRefIdeal.nD Cert.XaDoRefIdeal.τ Cert.XaDoRefIdeal.sig) → Buf (Elt Ideal) ℓ) (g : Dev Cert.XaDoRefIdeal.nD → PrngReg), Pre_XaDoRefIdeal m →
    θ_run (Cert.XaDoRefIdeal.defs (F := Ideal)) (onTc (τ := Cert.XaDoRefIdeal.τ) (Cert.XaDoRefIdeal.main (F := Ideal))) ⟨m, fun _ => 0, g⟩ (fun r => (∀ c : Dev Cert.XaDoRefIdeal.nD,
      r.2.mem ((c.tc : Thread Cert.XaDoRefIdeal.nD Cert.XaDoRefIdeal.τ).loc Cert.XaDoRefIdeal.main_arg0) = m ((c.tc : Thread Cert.XaDoRefIdeal.nD Cert.XaDoRefIdeal.τ).loc Cert.XaDoRefIdeal.main_arg0)
      ∧ r.2.mem ((c.tc : Thread Cert.XaDoRefIdeal.nD Cert.XaDoRefIdeal.τ).loc Cert.XaDoRefIdeal.main_arg1) = m ((c.tc : Thread Cert.XaDoRefIdeal.nD Cert.XaDoRefIdeal.τ).loc Cert.XaDoRefIdeal.main_arg1))
      ∧ r.2.sem = fun _ => 0)

def quiescent_XaQ [hXaQ : Cert.XaQ.Facts] : Prop :=
  ∀ (m : (ℓ : Loc Cert.XaQ.nD Cert.XaQ.τ Cert.XaQ.sig) → Buf (Elt Bits) ℓ) (g : Dev Cert.XaQ.nD → PrngReg), Pre_XaQ m →
    θ_run (Cert.XaQ.defs (F := Bits)) (onTc (τ := Cert.XaQ.τ) (Cert.XaQ.main (F := Bits))) ⟨m, fun _ => 0, g⟩ (fun r => (∀ c : Dev Cert.XaQ.nD,
      r.2.mem ((c.tc : Thread Cert.XaQ.nD Cert.XaQ.τ).loc Cert.XaQ.main_arg0) = m ((c.tc : Thread Cert.XaQ.nD Cert.XaQ.τ).loc Cert.XaQ.main_arg0)
      ∧ r.2.mem ((c.tc : Thread Cert.XaQ.nD Cert.XaQ.τ).loc Cert.XaQ.main_arg1) = m ((c.tc : Thread Cert.XaQ.nD Cert.XaQ.τ).loc Cert.XaQ.main_arg1))
      ∧ r.2.sem = fun _ => 0)

def quiescent_XaQIdeal [hXaQIdeal : Cert.XaQIdeal.Facts] : Prop :=
  ∀ (m : (ℓ : Loc Cert.XaQIdeal.nD Cert.XaQIdeal.τ Cert.XaQIdeal.sig) → Buf (Elt Ideal) ℓ) (g : Dev Cert.XaQIdeal.nD → PrngReg), Pre_XaQIdeal m →
    θ_run (Cert.XaQIdeal.defs (F := Ideal)) (onTc (τ := Cert.XaQIdeal.τ) (Cert.XaQIdeal.main (F := Ideal))) ⟨m, fun _ => 0, g⟩ (fun r => (∀ c : Dev Cert.XaQIdeal.nD,
      r.2.mem ((c.tc : Thread Cert.XaQIdeal.nD Cert.XaQIdeal.τ).loc Cert.XaQIdeal.main_arg0) = m ((c.tc : Thread Cert.XaQIdeal.nD Cert.XaQIdeal.τ).loc Cert.XaQIdeal.main_arg0)
      ∧ r.2.mem ((c.tc : Thread Cert.XaQIdeal.nD Cert.XaQIdeal.τ).loc Cert.XaQIdeal.main_arg1) = m ((c.tc : Thread Cert.XaQIdeal.nD Cert.XaQIdeal.τ).loc Cert.XaQIdeal.main_arg1))
      ∧ r.2.sem = fun _ => 0)

def quiescent_XaQRefIdeal [hXaQRefIdeal : Cert.XaQRefIdeal.Facts] : Prop :=
  ∀ (m : (ℓ : Loc Cert.XaQRefIdeal.nD Cert.XaQRefIdeal.τ Cert.XaQRefIdeal.sig) → Buf (Elt Ideal) ℓ) (g : Dev Cert.XaQRefIdeal.nD → PrngReg), Pre_XaQRefIdeal m →
    θ_run (Cert.XaQRefIdeal.defs (F := Ideal)) (onTc (τ := Cert.XaQRefIdeal.τ) (Cert.XaQRefIdeal.main (F := Ideal))) ⟨m, fun _ => 0, g⟩ (fun r => (∀ c : Dev Cert.XaQRefIdeal.nD,
      r.2.mem ((c.tc : Thread Cert.XaQRefIdeal.nD Cert.XaQRefIdeal.τ).loc Cert.XaQRefIdeal.main_arg0) = m ((c.tc : Thread Cert.XaQRefIdeal.nD Cert.XaQRefIdeal.τ).loc Cert.XaQRefIdeal.main_arg0)
      ∧ r.2.mem ((c.tc : Thread Cert.XaQRefIdeal.nD Cert.XaQRefIdeal.τ).loc Cert.XaQRefIdeal.main_arg1) = m ((c.tc : Thread Cert.XaQRefIdeal.nD Cert.XaQRefIdeal.τ).loc Cert.XaQRefIdeal.main_arg1))
      ∧ r.2.sem = fun _ => 0)

def quiescent_EvIn [hEvIn : Cert.EvIn.Facts] : Prop :=
  ∀ (m : (ℓ : Loc Cert.EvIn.nD Cert.EvIn.τ Cert.EvIn.sig) → Buf (Elt Bits) ℓ) (g : Dev Cert.EvIn.nD → PrngReg), Pre_EvIn m →
    θ_run (Cert.EvIn.defs (F := Bits)) (onTc (τ := Cert.EvIn.τ) (Cert.EvIn.main (F := Bits))) ⟨m, fun _ => 0, g⟩ (fun r => (∀ c : Dev Cert.EvIn.nD,
      r.2.mem ((c.tc : Thread Cert.EvIn.nD Cert.EvIn.τ).loc Cert.EvIn.main_arg0) = m ((c.tc : Thread Cert.EvIn.nD Cert.EvIn.τ).loc Cert.EvIn.main_arg0)
      ∧ r.2.mem ((c.tc : Thread Cert.EvIn.nD Cert.EvIn.τ).loc Cert.EvIn.main_arg1) = m ((c.tc : Thread Cert.EvIn.nD Cert.EvIn.τ).loc Cert.EvIn.main_arg1))
      ∧ r.2.sem = fun _ => 0)

def quiescent_EvInIdeal [hEvInIdeal : Cert.EvInIdeal.Facts] : Prop :=
  ∀ (m : (ℓ : Loc Cert.EvInIdeal.nD Cert.EvInIdeal.τ Cert.EvInIdeal.sig) → Buf (Elt Ideal) ℓ) (g : Dev Cert.EvInIdeal.nD → PrngReg), Pre_EvInIdeal m →
    θ_run (Cert.EvInIdeal.defs (F := Ideal)) (onTc (τ := Cert.EvInIdeal.τ) (Cert.EvInIdeal.main (F := Ideal))) ⟨m, fun _ => 0, g⟩ (fun r => (∀ c : Dev Cert.EvInIdeal.nD,
      r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
      ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ r.2.sem = fun _ => 0)

def quiescent_EvInRefIdeal [hEvInRefIdeal : Cert.EvInRefIdeal.Facts] : Prop :=
  ∀ (m : (ℓ : Loc Cert.EvInRefIdeal.nD Cert.EvInRefIdeal.τ Cert.EvInRefIdeal.sig) → Buf (Elt Ideal) ℓ) (g : Dev Cert.EvInRefIdeal.nD → PrngReg), Pre_EvInRefIdeal m →
    θ_run (Cert.EvInRefIdeal.defs (F := Ideal)) (onTc (τ := Cert.EvInRefIdeal.τ) (Cert.EvInRefIdeal.main (F := Ideal))) ⟨m, fun _ => 0, g⟩ (fun r => (∀ c : Dev Cert.EvInRefIdeal.nD,
      r.2.mem ((c.tc : Thread Cert.EvInRefIdeal.nD Cert.EvInRefIdeal.τ).loc Cert.EvInRefIdeal.main_arg0) = m ((c.tc : Thread Cert.EvInRefIdeal.nD Cert.EvInRefIdeal.τ).loc Cert.EvInRefIdeal.main_arg0)
      ∧ r.2.mem ((c.tc : Thread Cert.EvInRefIdeal.nD Cert.EvInRefIdeal.τ).loc Cert.EvInRefIdeal.main_arg1) = m ((c.tc : Thread Cert.EvInRefIdeal.nD Cert.EvInRefIdeal.τ).loc Cert.EvInRefIdeal.main_arg1))
      ∧ r.2.sem = fun _ => 0)

def quiescent_OdIn [hOdIn : Cert.OdIn.Facts] : Prop :=
  ∀ (m : (ℓ : Loc Cert.OdIn.nD Cert.OdIn.τ Cert.OdIn.sig) → Buf (Elt Bits) ℓ) (g : Dev Cert.OdIn.nD → PrngReg), Pre_OdIn m →
    θ_run (Cert.OdIn.defs (F := Bits)) (onTc (τ := Cert.OdIn.τ) (Cert.OdIn.main (F := Bits))) ⟨m, fun _ => 0, g⟩ (fun r => (∀ c : Dev Cert.OdIn.nD,
      r.2.mem ((c.tc : Thread Cert.OdIn.nD Cert.OdIn.τ).loc Cert.OdIn.main_arg0) = m ((c.tc : Thread Cert.OdIn.nD Cert.OdIn.τ).loc Cert.OdIn.main_arg0)
      ∧ r.2.mem ((c.tc : Thread Cert.OdIn.nD Cert.OdIn.τ).loc Cert.OdIn.main_arg1) = m ((c.tc : Thread Cert.OdIn.nD Cert.OdIn.τ).loc Cert.OdIn.main_arg1))
      ∧ r.2.sem = fun _ => 0)

def quiescent_OdInIdeal [hOdInIdeal : Cert.OdInIdeal.Facts] : Prop :=
  ∀ (m : (ℓ : Loc Cert.OdInIdeal.nD Cert.OdInIdeal.τ Cert.OdInIdeal.sig) → Buf (Elt Ideal) ℓ) (g : Dev Cert.OdInIdeal.nD → PrngReg), Pre_OdInIdeal m →
    θ_run (Cert.OdInIdeal.defs (F := Ideal)) (onTc (τ := Cert.OdInIdeal.τ) (Cert.OdInIdeal.main (F := Ideal))) ⟨m, fun _ => 0, g⟩ (fun r => (∀ c : Dev Cert.OdInIdeal.nD,
      r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
      ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1))
      ∧ r.2.sem = fun _ => 0)

def quiescent_OdInRefIdeal [hOdInRefIdeal : Cert.OdInRefIdeal.Facts] : Prop :=
  ∀ (m : (ℓ : Loc Cert.OdInRefIdeal.nD Cert.OdInRefIdeal.τ Cert.OdInRefIdeal.sig) → Buf (Elt Ideal) ℓ) (g : Dev Cert.OdInRefIdeal.nD → PrngReg), Pre_OdInRefIdeal m →
    θ_run (Cert.OdInRefIdeal.defs (F := Ideal)) (onTc (τ := Cert.OdInRefIdeal.τ) (Cert.OdInRefIdeal.main (F := Ideal))) ⟨m, fun _ => 0, g⟩ (fun r => (∀ c : Dev Cert.OdInRefIdeal.nD,
      r.2.mem ((c.tc : Thread Cert.OdInRefIdeal.nD Cert.OdInRefIdeal.τ).loc Cert.OdInRefIdeal.main_arg0) = m ((c.tc : Thread Cert.OdInRefIdeal.nD Cert.OdInRefIdeal.τ).loc Cert.OdInRefIdeal.main_arg0)
      ∧ r.2.mem ((c.tc : Thread Cert.OdInRefIdeal.nD Cert.OdInRefIdeal.τ).loc Cert.OdInRefIdeal.main_arg1) = m ((c.tc : Thread Cert.OdInRefIdeal.nD Cert.OdInRefIdeal.τ).loc Cert.OdInRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_XaO [hXaO : Cert.XaO.Facts] : Prop :=
  ∀ (m : (ℓ : Loc Cert.XaO.nD Cert.XaO.τ Cert.XaO.sig) → Buf (Elt Bits) ℓ) (g : Dev Cert.XaO.nD → PrngReg), Pre_XaO m →
    θ_run (Cert.XaO.defs (F := Bits)) (onTc (τ := Cert.XaO.τ) (Cert.XaO.main (F := Bits))) ⟨m, fun _ => 0, g⟩ (fun r => (∀ c : Dev Cert.XaO.nD,
      r.2.mem ((c.tc : Thread Cert.XaO.nD Cert.XaO.τ).loc Cert.XaO.main_arg0) = m ((c.tc : Thread Cert.XaO.nD Cert.XaO.τ).loc Cert.XaO.main_arg0)
      ∧ r.2.mem ((c.tc : Thread Cert.XaO.nD Cert.XaO.τ).loc Cert.XaO.main_arg1) = m ((c.tc : Thread Cert.XaO.nD Cert.XaO.τ).loc Cert.XaO.main_arg1)
      ∧ r.2.mem ((c.tc : Thread Cert.XaO.nD Cert.XaO.τ).loc Cert.XaO.main_arg2) = m ((c.tc : Thread Cert.XaO.nD Cert.XaO.τ).loc Cert.XaO.main_arg2)
      ∧ r.2.mem ((c.tc : Thread Cert.XaO.nD Cert.XaO.τ).loc Cert.XaO.main_arg3) = m ((c.tc : Thread Cert.XaO.nD Cert.XaO.τ).loc Cert.XaO.main_arg3))
      ∧ r.2.sem = fun _ => 0)

def quiescent_XaOIdeal [hXaOIdeal : Cert.XaOIdeal.Facts] : Prop :=
  ∀ (m : (ℓ : Loc Cert.XaOIdeal.nD Cert.XaOIdeal.τ Cert.XaOIdeal.sig) → Buf (Elt Ideal) ℓ) (g : Dev Cert.XaOIdeal.nD → PrngReg), Pre_XaOIdeal m →
    θ_run (Cert.XaOIdeal.defs (F := Ideal)) (onTc (τ := Cert.XaOIdeal.τ) (Cert.XaOIdeal.main (F := Ideal))) ⟨m, fun _ => 0, g⟩ (fun r => (∀ c : Dev Cert.XaOIdeal.nD,
      r.2.mem ((c.tc : Thread Cert.XaOIdeal.nD Cert.XaOIdeal.τ).loc Cert.XaOIdeal.main_arg0) = m ((c.tc : Thread Cert.XaOIdeal.nD Cert.XaOIdeal.τ).loc Cert.XaOIdeal.main_arg0)
      ∧ r.2.mem ((c.tc : Thread Cert.XaOIdeal.nD Cert.XaOIdeal.τ).loc Cert.XaOIdeal.main_arg1) = m ((c.tc : Thread Cert.XaOIdeal.nD Cert.XaOIdeal.τ).loc Cert.XaOIdeal.main_arg1)
      ∧ r.2.mem ((c.tc : Thread Cert.XaOIdeal.nD Cert.XaOIdeal.τ).loc Cert.XaOIdeal.main_arg2) = m ((c.tc : Thread Cert.XaOIdeal.nD Cert.XaOIdeal.τ).loc Cert.XaOIdeal.main_arg2)
      ∧ r.2.mem ((c.tc : Thread Cert.XaOIdeal.nD Cert.XaOIdeal.τ).loc Cert.XaOIdeal.main_arg3) = m ((c.tc : Thread Cert.XaOIdeal.nD Cert.XaOIdeal.τ).loc Cert.XaOIdeal.main_arg3))
      ∧ r.2.sem = fun _ => 0)

def quiescent_XaORefIdeal [hXaORefIdeal : Cert.XaORefIdeal.Facts] : Prop :=
  ∀ (m : (ℓ : Loc Cert.XaORefIdeal.nD Cert.XaORefIdeal.τ Cert.XaORefIdeal.sig) → Buf (Elt Ideal) ℓ) (g : Dev Cert.XaORefIdeal.nD → PrngReg), Pre_XaORefIdeal m →
    θ_run (Cert.XaORefIdeal.defs (F := Ideal)) (onTc (τ := Cert.XaORefIdeal.τ) (Cert.XaORefIdeal.main (F := Ideal))) ⟨m, fun _ => 0, g⟩ (fun r => (∀ c : Dev Cert.XaORefIdeal.nD,
      r.2.mem ((c.tc : Thread Cert.XaORefIdeal.nD Cert.XaORefIdeal.τ).loc Cert.XaORefIdeal.main_arg0) = m ((c.tc : Thread Cert.XaORefIdeal.nD Cert.XaORefIdeal.τ).loc Cert.XaORefIdeal.main_arg0)
      ∧ r.2.mem ((c.tc : Thread Cert.XaORefIdeal.nD Cert.XaORefIdeal.τ).loc Cert.XaORefIdeal.main_arg1) = m ((c.tc : Thread Cert.XaORefIdeal.nD Cert.XaORefIdeal.τ).loc Cert.XaORefIdeal.main_arg1)
      ∧ r.2.mem ((c.tc : Thread Cert.XaORefIdeal.nD Cert.XaORefIdeal.τ).loc Cert.XaORefIdeal.main_arg2) = m ((c.tc : Thread Cert.XaORefIdeal.nD Cert.XaORefIdeal.τ).loc Cert.XaORefIdeal.main_arg2)
      ∧ r.2.mem ((c.tc : Thread Cert.XaORefIdeal.nD Cert.XaORefIdeal.τ).loc Cert.XaORefIdeal.main_arg3) = m ((c.tc : Thread Cert.XaORefIdeal.nD Cert.XaORefIdeal.τ).loc Cert.XaORefIdeal.main_arg3))
      ∧ r.2.sem = fun _ => 0)

def quiescent_FfnLoss [hFfnLoss : Cert.FfnLoss.Facts] : Prop :=
  ∀ (m : (ℓ : Loc Cert.FfnLoss.nD Cert.FfnLoss.τ Cert.FfnLoss.sig) → Buf (Elt Bits) ℓ) (g : Dev Cert.FfnLoss.nD → PrngReg), Pre_FfnLoss m →
    θ_run (Cert.FfnLoss.defs (F := Bits)) (onTc (τ := Cert.FfnLoss.τ) (Cert.FfnLoss.main (F := Bits))) ⟨m, fun _ => 0, g⟩ (fun r => (∀ c : Dev Cert.FfnLoss.nD,
      r.2.mem ((c.tc : Thread Cert.FfnLoss.nD Cert.FfnLoss.τ).loc Cert.FfnLoss.main_arg0) = m ((c.tc : Thread Cert.FfnLoss.nD Cert.FfnLoss.τ).loc Cert.FfnLoss.main_arg0)
      ∧ r.2.mem ((c.tc : Thread Cert.FfnLoss.nD Cert.FfnLoss.τ).loc Cert.FfnLoss.main_arg1) = m ((c.tc : Thread Cert.FfnLoss.nD Cert.FfnLoss.τ).loc Cert.FfnLoss.main_arg1)
      ∧ r.2.mem ((c.tc : Thread Cert.FfnLoss.nD Cert.FfnLoss.τ).loc Cert.FfnLoss.main_arg2) = m ((c.tc : Thread Cert.FfnLoss.nD Cert.FfnLoss.τ).loc Cert.FfnLoss.main_arg2)
      ∧ r.2.mem ((c.tc : Thread Cert.FfnLoss.nD Cert.FfnLoss.τ).loc Cert.FfnLoss.main_arg3) = m ((c.tc : Thread Cert.FfnLoss.nD Cert.FfnLoss.τ).loc Cert.FfnLoss.main_arg3)
      ∧ r.2.mem ((c.tc : Thread Cert.FfnLoss.nD Cert.FfnLoss.τ).loc Cert.FfnLoss.main_arg4) = m ((c.tc : Thread Cert.FfnLoss.nD Cert.FfnLoss.τ).loc Cert.FfnLoss.main_arg4))
      ∧ r.2.sem = fun _ => 0)

def quiescent_FfnLossIdeal [hFfnLossIdeal : Cert.FfnLossIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg), Pre_FfnLossIdeal m →
    θ_run (Cert.FfnLossIdeal.defs (F := Ideal)) (onTc (τ := Cert.FfnLossIdeal.τ) (Cert.FfnLossIdeal.main (F := Ideal))) ⟨m, fun _ => 0, g⟩ (fun r => (∀ c : Dev Cert.FfnLossIdeal.nD,
      r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
      ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
      ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
      ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
      ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4))
      ∧ r.2.sem = fun _ => 0)

def quiescent_FfnLossRefIdeal [hFfnLossRefIdeal : Cert.FfnLossRefIdeal.Facts] : Prop :=
  ∀ (m : (ℓ : Loc Cert.FfnLossRefIdeal.nD Cert.FfnLossRefIdeal.τ Cert.FfnLossRefIdeal.sig) → Buf (Elt Ideal) ℓ) (g : Dev Cert.FfnLossRefIdeal.nD → PrngReg), Pre_FfnLossRefIdeal m →
    θ_run (Cert.FfnLossRefIdeal.defs (F := Ideal)) (onTc (τ := Cert.FfnLossRefIdeal.τ) (Cert.FfnLossRefIdeal.main (F := Ideal))) ⟨m, fun _ => 0, g⟩ (fun r => (∀ c : Dev Cert.FfnLossRefIdeal.nD,
      r.2.mem ((c.tc : Thread Cert.FfnLossRefIdeal.nD Cert.FfnLossRefIdeal.τ).loc Cert.FfnLossRefIdeal.main_arg0) = m ((c.tc : Thread Cert.FfnLossRefIdeal.nD Cert.FfnLossRefIdeal.τ).loc Cert.FfnLossRefIdeal.main_arg0)
      ∧ r.2.mem ((c.tc : Thread Cert.FfnLossRefIdeal.nD Cert.FfnLossRefIdeal.τ).loc Cert.FfnLossRefIdeal.main_arg1) = m ((c.tc : Thread Cert.FfnLossRefIdeal.nD Cert.FfnLossRefIdeal.τ).loc Cert.FfnLossRefIdeal.main_arg1)
      ∧ r.2.mem ((c.tc : Thread Cert.FfnLossRefIdeal.nD Cert.FfnLossRefIdeal.τ).loc Cert.FfnLossRefIdeal.main_arg2) = m ((c.tc : Thread Cert.FfnLossRefIdeal.nD Cert.FfnLossRefIdeal.τ).loc Cert.FfnLossRefIdeal.main_arg2)
      ∧ r.2.mem ((c.tc : Thread Cert.FfnLossRefIdeal.nD Cert.FfnLossRefIdeal.τ).loc Cert.FfnLossRefIdeal.main_arg3) = m ((c.tc : Thread Cert.FfnLossRefIdeal.nD Cert.FfnLossRefIdeal.τ).loc Cert.FfnLossRefIdeal.main_arg3)
      ∧ r.2.mem ((c.tc : Thread Cert.FfnLossRefIdeal.nD Cert.FfnLossRefIdeal.τ).loc Cert.FfnLossRefIdeal.main_arg4) = m ((c.tc : Thread Cert.FfnLossRefIdeal.nD Cert.FfnLossRefIdeal.τ).loc Cert.FfnLossRefIdeal.main_arg4))
      ∧ r.2.sem = fun _ => 0)

def quiescent_AdamwNorms [hAdamwNorms : Cert.AdamwNorms.Facts] : Prop :=
  ∀ (m : (ℓ : Loc Cert.AdamwNorms.nD Cert.AdamwNorms.τ Cert.AdamwNorms.sig) → Buf (Elt Bits) ℓ) (g : Dev Cert.AdamwNorms.nD → PrngReg), Pre_AdamwNorms m →
    θ_run (Cert.AdamwNorms.defs (F := Bits)) (onTc (τ := Cert.AdamwNorms.τ) (Cert.AdamwNorms.main (F := Bits))) ⟨m, fun _ => 0, g⟩ (fun r => (∀ c : Dev Cert.AdamwNorms.nD,
      r.2.mem ((c.tc : Thread Cert.AdamwNorms.nD Cert.AdamwNorms.τ).loc Cert.AdamwNorms.main_arg0) = m ((c.tc : Thread Cert.AdamwNorms.nD Cert.AdamwNorms.τ).loc Cert.AdamwNorms.main_arg0)
      ∧ r.2.mem ((c.tc : Thread Cert.AdamwNorms.nD Cert.AdamwNorms.τ).loc Cert.AdamwNorms.main_arg1) = m ((c.tc : Thread Cert.AdamwNorms.nD Cert.AdamwNorms.τ).loc Cert.AdamwNorms.main_arg1)
      ∧ r.2.mem ((c.tc : Thread Cert.AdamwNorms.nD Cert.AdamwNorms.τ).loc Cert.AdamwNorms.main_arg2) = m ((c.tc : Thread Cert.AdamwNorms.nD Cert.AdamwNorms.τ).loc Cert.AdamwNorms.main_arg2)
      ∧ r.2.mem ((c.tc : Thread Cert.AdamwNorms.nD Cert.AdamwNorms.τ).loc Cert.AdamwNorms.main_arg3) = m ((c.tc : Thread Cert.AdamwNorms.nD Cert.AdamwNorms.τ).loc Cert.AdamwNorms.main_arg3)
      ∧ r.2.mem ((c.tc : Thread Cert.AdamwNorms.nD Cert.AdamwNorms.τ).loc Cert.AdamwNorms.main_arg4) = m ((c.tc : Thread Cert.AdamwNorms.nD Cert.AdamwNorms.τ).loc Cert.AdamwNorms.main_arg4)
      ∧ r.2.mem ((c.tc : Thread Cert.AdamwNorms.nD Cert.AdamwNorms.τ).loc Cert.AdamwNorms.main_arg5) = m ((c.tc : Thread Cert.AdamwNorms.nD Cert.AdamwNorms.τ).loc Cert.AdamwNorms.main_arg5)
      ∧ r.2.mem ((c.tc : Thread Cert.AdamwNorms.nD Cert.AdamwNorms.τ).loc Cert.AdamwNorms.main_arg6) = m ((c.tc : Thread Cert.AdamwNorms.nD Cert.AdamwNorms.τ).loc Cert.AdamwNorms.main_arg6)
      ∧ r.2.mem ((c.tc : Thread Cert.AdamwNorms.nD Cert.AdamwNorms.τ).loc Cert.AdamwNorms.main_arg7) = m ((c.tc : Thread Cert.AdamwNorms.nD Cert.AdamwNorms.τ).loc Cert.AdamwNorms.main_arg7)
      ∧ r.2.mem ((c.tc : Thread Cert.AdamwNorms.nD Cert.AdamwNorms.τ).loc Cert.AdamwNorms.main_arg8) = m ((c.tc : Thread Cert.AdamwNorms.nD Cert.AdamwNorms.τ).loc Cert.AdamwNorms.main_arg8)
      ∧ r.2.mem ((c.tc : Thread Cert.AdamwNorms.nD Cert.AdamwNorms.τ).loc Cert.AdamwNorms.main_arg9) = m ((c.tc : Thread Cert.AdamwNorms.nD Cert.AdamwNorms.τ).loc Cert.AdamwNorms.main_arg9)
      ∧ r.2.mem ((c.tc : Thread Cert.AdamwNorms.nD Cert.AdamwNorms.τ).loc Cert.AdamwNorms.main_arg10) = m ((c.tc : Thread Cert.AdamwNorms.nD Cert.AdamwNorms.τ).loc Cert.AdamwNorms.main_arg10)
      ∧ r.2.mem ((c.tc : Thread Cert.AdamwNorms.nD Cert.AdamwNorms.τ).loc Cert.AdamwNorms.main_arg11) = m ((c.tc : Thread Cert.AdamwNorms.nD Cert.AdamwNorms.τ).loc Cert.AdamwNorms.main_arg11))
      ∧ r.2.sem = fun _ => 0)

def quiescent_AdamwNormsIdeal [hAdamwNormsIdeal : Cert.AdamwNormsIdeal.Facts] : Prop :=
  ∀ (m : (ℓ : Loc Cert.AdamwNormsIdeal.nD Cert.AdamwNormsIdeal.τ Cert.AdamwNormsIdeal.sig) → Buf (Elt Ideal) ℓ) (g : Dev Cert.AdamwNormsIdeal.nD → PrngReg), Pre_AdamwNormsIdeal m →
    θ_run (Cert.AdamwNormsIdeal.defs (F := Ideal)) (onTc (τ := Cert.AdamwNormsIdeal.τ) (Cert.AdamwNormsIdeal.main (F := Ideal))) ⟨m, fun _ => 0, g⟩ (fun r => (∀ c : Dev Cert.AdamwNormsIdeal.nD,
      r.2.mem ((c.tc : Thread Cert.AdamwNormsIdeal.nD Cert.AdamwNormsIdeal.τ).loc Cert.AdamwNormsIdeal.main_arg0) = m ((c.tc : Thread Cert.AdamwNormsIdeal.nD Cert.AdamwNormsIdeal.τ).loc Cert.AdamwNormsIdeal.main_arg0)
      ∧ r.2.mem ((c.tc : Thread Cert.AdamwNormsIdeal.nD Cert.AdamwNormsIdeal.τ).loc Cert.AdamwNormsIdeal.main_arg1) = m ((c.tc : Thread Cert.AdamwNormsIdeal.nD Cert.AdamwNormsIdeal.τ).loc Cert.AdamwNormsIdeal.main_arg1)
      ∧ r.2.mem ((c.tc : Thread Cert.AdamwNormsIdeal.nD Cert.AdamwNormsIdeal.τ).loc Cert.AdamwNormsIdeal.main_arg2) = m ((c.tc : Thread Cert.AdamwNormsIdeal.nD Cert.AdamwNormsIdeal.τ).loc Cert.AdamwNormsIdeal.main_arg2)
      ∧ r.2.mem ((c.tc : Thread Cert.AdamwNormsIdeal.nD Cert.AdamwNormsIdeal.τ).loc Cert.AdamwNormsIdeal.main_arg3) = m ((c.tc : Thread Cert.AdamwNormsIdeal.nD Cert.AdamwNormsIdeal.τ).loc Cert.AdamwNormsIdeal.main_arg3)
      ∧ r.2.mem ((c.tc : Thread Cert.AdamwNormsIdeal.nD Cert.AdamwNormsIdeal.τ).loc Cert.AdamwNormsIdeal.main_arg4) = m ((c.tc : Thread Cert.AdamwNormsIdeal.nD Cert.AdamwNormsIdeal.τ).loc Cert.AdamwNormsIdeal.main_arg4)
      ∧ r.2.mem ((c.tc : Thread Cert.AdamwNormsIdeal.nD Cert.AdamwNormsIdeal.τ).loc Cert.AdamwNormsIdeal.main_arg5) = m ((c.tc : Thread Cert.AdamwNormsIdeal.nD Cert.AdamwNormsIdeal.τ).loc Cert.AdamwNormsIdeal.main_arg5)
      ∧ r.2.mem ((c.tc : Thread Cert.AdamwNormsIdeal.nD Cert.AdamwNormsIdeal.τ).loc Cert.AdamwNormsIdeal.main_arg6) = m ((c.tc : Thread Cert.AdamwNormsIdeal.nD Cert.AdamwNormsIdeal.τ).loc Cert.AdamwNormsIdeal.main_arg6)
      ∧ r.2.mem ((c.tc : Thread Cert.AdamwNormsIdeal.nD Cert.AdamwNormsIdeal.τ).loc Cert.AdamwNormsIdeal.main_arg7) = m ((c.tc : Thread Cert.AdamwNormsIdeal.nD Cert.AdamwNormsIdeal.τ).loc Cert.AdamwNormsIdeal.main_arg7)
      ∧ r.2.mem ((c.tc : Thread Cert.AdamwNormsIdeal.nD Cert.AdamwNormsIdeal.τ).loc Cert.AdamwNormsIdeal.main_arg8) = m ((c.tc : Thread Cert.AdamwNormsIdeal.nD Cert.AdamwNormsIdeal.τ).loc Cert.AdamwNormsIdeal.main_arg8)
      ∧ r.2.mem ((c.tc : Thread Cert.AdamwNormsIdeal.nD Cert.AdamwNormsIdeal.τ).loc Cert.AdamwNormsIdeal.main_arg9) = m ((c.tc : Thread Cert.AdamwNormsIdeal.nD Cert.AdamwNormsIdeal.τ).loc Cert.AdamwNormsIdeal.main_arg9)
      ∧ r.2.mem ((c.tc : Thread Cert.AdamwNormsIdeal.nD Cert.AdamwNormsIdeal.τ).loc Cert.AdamwNormsIdeal.main_arg10) = m ((c.tc : Thread Cert.AdamwNormsIdeal.nD Cert.AdamwNormsIdeal.τ).loc Cert.AdamwNormsIdeal.main_arg10)
      ∧ r.2.mem ((c.tc : Thread Cert.AdamwNormsIdeal.nD Cert.AdamwNormsIdeal.τ).loc Cert.AdamwNormsIdeal.main_arg11) = m ((c.tc : Thread Cert.AdamwNormsIdeal.nD Cert.AdamwNormsIdeal.τ).loc Cert.AdamwNormsIdeal.main_arg11))
      ∧ r.2.sem = fun _ => 0)

def quiescent_AdamwNormsRefIdeal [hAdamwNormsRefIdeal : Cert.AdamwNormsRefIdeal.Facts] : Prop :=
  ∀ (m : (ℓ : Loc Cert.AdamwNormsRefIdeal.nD Cert.AdamwNormsRefIdeal.τ Cert.AdamwNormsRefIdeal.sig) → Buf (Elt Ideal) ℓ) (g : Dev Cert.AdamwNormsRefIdeal.nD → PrngReg), Pre_AdamwNormsRefIdeal m →
    θ_run (Cert.AdamwNormsRefIdeal.defs (F := Ideal)) (onTc (τ := Cert.AdamwNormsRefIdeal.τ) (Cert.AdamwNormsRefIdeal.main (F := Ideal))) ⟨m, fun _ => 0, g⟩ (fun r => (∀ c : Dev Cert.AdamwNormsRefIdeal.nD,
      r.2.mem ((c.tc : Thread Cert.AdamwNormsRefIdeal.nD Cert.AdamwNormsRefIdeal.τ).loc Cert.AdamwNormsRefIdeal.main_arg0) = m ((c.tc : Thread Cert.AdamwNormsRefIdeal.nD Cert.AdamwNormsRefIdeal.τ).loc Cert.AdamwNormsRefIdeal.main_arg0)
      ∧ r.2.mem ((c.tc : Thread Cert.AdamwNormsRefIdeal.nD Cert.AdamwNormsRefIdeal.τ).loc Cert.AdamwNormsRefIdeal.main_arg1) = m ((c.tc : Thread Cert.AdamwNormsRefIdeal.nD Cert.AdamwNormsRefIdeal.τ).loc Cert.AdamwNormsRefIdeal.main_arg1)
      ∧ r.2.mem ((c.tc : Thread Cert.AdamwNormsRefIdeal.nD Cert.AdamwNormsRefIdeal.τ).loc Cert.AdamwNormsRefIdeal.main_arg2) = m ((c.tc : Thread Cert.AdamwNormsRefIdeal.nD Cert.AdamwNormsRefIdeal.τ).loc Cert.AdamwNormsRefIdeal.main_arg2)
      ∧ r.2.mem ((c.tc : Thread Cert.AdamwNormsRefIdeal.nD Cert.AdamwNormsRefIdeal.τ).loc Cert.AdamwNormsRefIdeal.main_arg3) = m ((c.tc : Thread Cert.AdamwNormsRefIdeal.nD Cert.AdamwNormsRefIdeal.τ).loc Cert.AdamwNormsRefIdeal.main_arg3)
      ∧ r.2.mem ((c.tc : Thread Cert.AdamwNormsRefIdeal.nD Cert.AdamwNormsRefIdeal.τ).loc Cert.AdamwNormsRefIdeal.main_arg4) = m ((c.tc : Thread Cert.AdamwNormsRefIdeal.nD Cert.AdamwNormsRefIdeal.τ).loc Cert.AdamwNormsRefIdeal.main_arg4)
      ∧ r.2.mem ((c.tc : Thread Cert.AdamwNormsRefIdeal.nD Cert.AdamwNormsRefIdeal.τ).loc Cert.AdamwNormsRefIdeal.main_arg5) = m ((c.tc : Thread Cert.AdamwNormsRefIdeal.nD Cert.AdamwNormsRefIdeal.τ).loc Cert.AdamwNormsRefIdeal.main_arg5)
      ∧ r.2.mem ((c.tc : Thread Cert.AdamwNormsRefIdeal.nD Cert.AdamwNormsRefIdeal.τ).loc Cert.AdamwNormsRefIdeal.main_arg6) = m ((c.tc : Thread Cert.AdamwNormsRefIdeal.nD Cert.AdamwNormsRefIdeal.τ).loc Cert.AdamwNormsRefIdeal.main_arg6)
      ∧ r.2.mem ((c.tc : Thread Cert.AdamwNormsRefIdeal.nD Cert.AdamwNormsRefIdeal.τ).loc Cert.AdamwNormsRefIdeal.main_arg7) = m ((c.tc : Thread Cert.AdamwNormsRefIdeal.nD Cert.AdamwNormsRefIdeal.τ).loc Cert.AdamwNormsRefIdeal.main_arg7)
      ∧ r.2.mem ((c.tc : Thread Cert.AdamwNormsRefIdeal.nD Cert.AdamwNormsRefIdeal.τ).loc Cert.AdamwNormsRefIdeal.main_arg8) = m ((c.tc : Thread Cert.AdamwNormsRefIdeal.nD Cert.AdamwNormsRefIdeal.τ).loc Cert.AdamwNormsRefIdeal.main_arg8)
      ∧ r.2.mem ((c.tc : Thread Cert.AdamwNormsRefIdeal.nD Cert.AdamwNormsRefIdeal.τ).loc Cert.AdamwNormsRefIdeal.main_arg9) = m ((c.tc : Thread Cert.AdamwNormsRefIdeal.nD Cert.AdamwNormsRefIdeal.τ).loc Cert.AdamwNormsRefIdeal.main_arg9)
      ∧ r.2.mem ((c.tc : Thread Cert.AdamwNormsRefIdeal.nD Cert.AdamwNormsRefIdeal.τ).loc Cert.AdamwNormsRefIdeal.main_arg10) = m ((c.tc : Thread Cert.AdamwNormsRefIdeal.nD Cert.AdamwNormsRefIdeal.τ).loc Cert.AdamwNormsRefIdeal.main_arg10)
      ∧ r.2.mem ((c.tc : Thread Cert.AdamwNormsRefIdeal.nD Cert.AdamwNormsRefIdeal.τ).loc Cert.AdamwNormsRefIdeal.main_arg11) = m ((c.tc : Thread Cert.AdamwNormsRefIdeal.nD Cert.AdamwNormsRefIdeal.τ).loc Cert.AdamwNormsRefIdeal.main_arg11))
      ∧ r.2.sem = fun _ => 0)

def quiescent_AdamwMixed [hAdamwMixed : Cert.AdamwMixed.Facts] : Prop :=
  ∀ (m : (ℓ : Loc Cert.AdamwMixed.nD Cert.AdamwMixed.τ Cert.AdamwMixed.sig) → Buf (Elt Bits) ℓ) (g : Dev Cert.AdamwMixed.nD → PrngReg), Pre_AdamwMixed m →
    θ_run (Cert.AdamwMixed.defs (F := Bits)) (onTc (τ := Cert.AdamwMixed.τ) (Cert.AdamwMixed.main (F := Bits))) ⟨m, fun _ => 0, g⟩ (fun r => (∀ c : Dev Cert.AdamwMixed.nD,
      r.2.mem ((c.tc : Thread Cert.AdamwMixed.nD Cert.AdamwMixed.τ).loc Cert.AdamwMixed.main_arg0) = m ((c.tc : Thread Cert.AdamwMixed.nD Cert.AdamwMixed.τ).loc Cert.AdamwMixed.main_arg0)
      ∧ r.2.mem ((c.tc : Thread Cert.AdamwMixed.nD Cert.AdamwMixed.τ).loc Cert.AdamwMixed.main_arg1) = m ((c.tc : Thread Cert.AdamwMixed.nD Cert.AdamwMixed.τ).loc Cert.AdamwMixed.main_arg1)
      ∧ r.2.mem ((c.tc : Thread Cert.AdamwMixed.nD Cert.AdamwMixed.τ).loc Cert.AdamwMixed.main_arg2) = m ((c.tc : Thread Cert.AdamwMixed.nD Cert.AdamwMixed.τ).loc Cert.AdamwMixed.main_arg2)
      ∧ r.2.mem ((c.tc : Thread Cert.AdamwMixed.nD Cert.AdamwMixed.τ).loc Cert.AdamwMixed.main_arg3) = m ((c.tc : Thread Cert.AdamwMixed.nD Cert.AdamwMixed.τ).loc Cert.AdamwMixed.main_arg3)
      ∧ r.2.mem ((c.tc : Thread Cert.AdamwMixed.nD Cert.AdamwMixed.τ).loc Cert.AdamwMixed.main_arg4) = m ((c.tc : Thread Cert.AdamwMixed.nD Cert.AdamwMixed.τ).loc Cert.AdamwMixed.main_arg4)
      ∧ r.2.mem ((c.tc : Thread Cert.AdamwMixed.nD Cert.AdamwMixed.τ).loc Cert.AdamwMixed.main_arg5) = m ((c.tc : Thread Cert.AdamwMixed.nD Cert.AdamwMixed.τ).loc Cert.AdamwMixed.main_arg5)
      ∧ r.2.mem ((c.tc : Thread Cert.AdamwMixed.nD Cert.AdamwMixed.τ).loc Cert.AdamwMixed.main_arg6) = m ((c.tc : Thread Cert.AdamwMixed.nD Cert.AdamwMixed.τ).loc Cert.AdamwMixed.main_arg6)
      ∧ r.2.mem ((c.tc : Thread Cert.AdamwMixed.nD Cert.AdamwMixed.τ).loc Cert.AdamwMixed.main_arg7) = m ((c.tc : Thread Cert.AdamwMixed.nD Cert.AdamwMixed.τ).loc Cert.AdamwMixed.main_arg7)
      ∧ r.2.mem ((c.tc : Thread Cert.AdamwMixed.nD Cert.AdamwMixed.τ).loc Cert.AdamwMixed.main_arg8) = m ((c.tc : Thread Cert.AdamwMixed.nD Cert.AdamwMixed.τ).loc Cert.AdamwMixed.main_arg8)
      ∧ r.2.mem ((c.tc : Thread Cert.AdamwMixed.nD Cert.AdamwMixed.τ).loc Cert.AdamwMixed.main_arg9) = m ((c.tc : Thread Cert.AdamwMixed.nD Cert.AdamwMixed.τ).loc Cert.AdamwMixed.main_arg9)
      ∧ r.2.mem ((c.tc : Thread Cert.AdamwMixed.nD Cert.AdamwMixed.τ).loc Cert.AdamwMixed.main_arg10) = m ((c.tc : Thread Cert.AdamwMixed.nD Cert.AdamwMixed.τ).loc Cert.AdamwMixed.main_arg10)
      ∧ r.2.mem ((c.tc : Thread Cert.AdamwMixed.nD Cert.AdamwMixed.τ).loc Cert.AdamwMixed.main_arg11) = m ((c.tc : Thread Cert.AdamwMixed.nD Cert.AdamwMixed.τ).loc Cert.AdamwMixed.main_arg11))
      ∧ r.2.sem = fun _ => 0)

def quiescent_AdamwMixedIdeal [hAdamwMixedIdeal : Cert.AdamwMixedIdeal.Facts] : Prop :=
  ∀ (m : (ℓ : Loc Cert.AdamwMixedIdeal.nD Cert.AdamwMixedIdeal.τ Cert.AdamwMixedIdeal.sig) → Buf (Elt Ideal) ℓ) (g : Dev Cert.AdamwMixedIdeal.nD → PrngReg), Pre_AdamwMixedIdeal m →
    θ_run (Cert.AdamwMixedIdeal.defs (F := Ideal)) (onTc (τ := Cert.AdamwMixedIdeal.τ) (Cert.AdamwMixedIdeal.main (F := Ideal))) ⟨m, fun _ => 0, g⟩ (fun r => (∀ c : Dev Cert.AdamwMixedIdeal.nD,
      r.2.mem ((c.tc : Thread Cert.AdamwMixedIdeal.nD Cert.AdamwMixedIdeal.τ).loc Cert.AdamwMixedIdeal.main_arg0) = m ((c.tc : Thread Cert.AdamwMixedIdeal.nD Cert.AdamwMixedIdeal.τ).loc Cert.AdamwMixedIdeal.main_arg0)
      ∧ r.2.mem ((c.tc : Thread Cert.AdamwMixedIdeal.nD Cert.AdamwMixedIdeal.τ).loc Cert.AdamwMixedIdeal.main_arg1) = m ((c.tc : Thread Cert.AdamwMixedIdeal.nD Cert.AdamwMixedIdeal.τ).loc Cert.AdamwMixedIdeal.main_arg1)
      ∧ r.2.mem ((c.tc : Thread Cert.AdamwMixedIdeal.nD Cert.AdamwMixedIdeal.τ).loc Cert.AdamwMixedIdeal.main_arg2) = m ((c.tc : Thread Cert.AdamwMixedIdeal.nD Cert.AdamwMixedIdeal.τ).loc Cert.AdamwMixedIdeal.main_arg2)
      ∧ r.2.mem ((c.tc : Thread Cert.AdamwMixedIdeal.nD Cert.AdamwMixedIdeal.τ).loc Cert.AdamwMixedIdeal.main_arg3) = m ((c.tc : Thread Cert.AdamwMixedIdeal.nD Cert.AdamwMixedIdeal.τ).loc Cert.AdamwMixedIdeal.main_arg3)
      ∧ r.2.mem ((c.tc : Thread Cert.AdamwMixedIdeal.nD Cert.AdamwMixedIdeal.τ).loc Cert.AdamwMixedIdeal.main_arg4) = m ((c.tc : Thread Cert.AdamwMixedIdeal.nD Cert.AdamwMixedIdeal.τ).loc Cert.AdamwMixedIdeal.main_arg4)
      ∧ r.2.mem ((c.tc : Thread Cert.AdamwMixedIdeal.nD Cert.AdamwMixedIdeal.τ).loc Cert.AdamwMixedIdeal.main_arg5) = m ((c.tc : Thread Cert.AdamwMixedIdeal.nD Cert.AdamwMixedIdeal.τ).loc Cert.AdamwMixedIdeal.main_arg5)
      ∧ r.2.mem ((c.tc : Thread Cert.AdamwMixedIdeal.nD Cert.AdamwMixedIdeal.τ).loc Cert.AdamwMixedIdeal.main_arg6) = m ((c.tc : Thread Cert.AdamwMixedIdeal.nD Cert.AdamwMixedIdeal.τ).loc Cert.AdamwMixedIdeal.main_arg6)
      ∧ r.2.mem ((c.tc : Thread Cert.AdamwMixedIdeal.nD Cert.AdamwMixedIdeal.τ).loc Cert.AdamwMixedIdeal.main_arg7) = m ((c.tc : Thread Cert.AdamwMixedIdeal.nD Cert.AdamwMixedIdeal.τ).loc Cert.AdamwMixedIdeal.main_arg7)
      ∧ r.2.mem ((c.tc : Thread Cert.AdamwMixedIdeal.nD Cert.AdamwMixedIdeal.τ).loc Cert.AdamwMixedIdeal.main_arg8) = m ((c.tc : Thread Cert.AdamwMixedIdeal.nD Cert.AdamwMixedIdeal.τ).loc Cert.AdamwMixedIdeal.main_arg8)
      ∧ r.2.mem ((c.tc : Thread Cert.AdamwMixedIdeal.nD Cert.AdamwMixedIdeal.τ).loc Cert.AdamwMixedIdeal.main_arg9) = m ((c.tc : Thread Cert.AdamwMixedIdeal.nD Cert.AdamwMixedIdeal.τ).loc Cert.AdamwMixedIdeal.main_arg9)
      ∧ r.2.mem ((c.tc : Thread Cert.AdamwMixedIdeal.nD Cert.AdamwMixedIdeal.τ).loc Cert.AdamwMixedIdeal.main_arg10) = m ((c.tc : Thread Cert.AdamwMixedIdeal.nD Cert.AdamwMixedIdeal.τ).loc Cert.AdamwMixedIdeal.main_arg10)
      ∧ r.2.mem ((c.tc : Thread Cert.AdamwMixedIdeal.nD Cert.AdamwMixedIdeal.τ).loc Cert.AdamwMixedIdeal.main_arg11) = m ((c.tc : Thread Cert.AdamwMixedIdeal.nD Cert.AdamwMixedIdeal.τ).loc Cert.AdamwMixedIdeal.main_arg11))
      ∧ r.2.sem = fun _ => 0)

def quiescent_AdamwMixedRefIdeal [hAdamwMixedRefIdeal : Cert.AdamwMixedRefIdeal.Facts] : Prop :=
  ∀ (m : (ℓ : Loc Cert.AdamwMixedRefIdeal.nD Cert.AdamwMixedRefIdeal.τ Cert.AdamwMixedRefIdeal.sig) → Buf (Elt Ideal) ℓ) (g : Dev Cert.AdamwMixedRefIdeal.nD → PrngReg), Pre_AdamwMixedRefIdeal m →
    θ_run (Cert.AdamwMixedRefIdeal.defs (F := Ideal)) (onTc (τ := Cert.AdamwMixedRefIdeal.τ) (Cert.AdamwMixedRefIdeal.main (F := Ideal))) ⟨m, fun _ => 0, g⟩ (fun r => (∀ c : Dev Cert.AdamwMixedRefIdeal.nD,
      r.2.mem ((c.tc : Thread Cert.AdamwMixedRefIdeal.nD Cert.AdamwMixedRefIdeal.τ).loc Cert.AdamwMixedRefIdeal.main_arg0) = m ((c.tc : Thread Cert.AdamwMixedRefIdeal.nD Cert.AdamwMixedRefIdeal.τ).loc Cert.AdamwMixedRefIdeal.main_arg0)
      ∧ r.2.mem ((c.tc : Thread Cert.AdamwMixedRefIdeal.nD Cert.AdamwMixedRefIdeal.τ).loc Cert.AdamwMixedRefIdeal.main_arg1) = m ((c.tc : Thread Cert.AdamwMixedRefIdeal.nD Cert.AdamwMixedRefIdeal.τ).loc Cert.AdamwMixedRefIdeal.main_arg1)
      ∧ r.2.mem ((c.tc : Thread Cert.AdamwMixedRefIdeal.nD Cert.AdamwMixedRefIdeal.τ).loc Cert.AdamwMixedRefIdeal.main_arg2) = m ((c.tc : Thread Cert.AdamwMixedRefIdeal.nD Cert.AdamwMixedRefIdeal.τ).loc Cert.AdamwMixedRefIdeal.main_arg2)
      ∧ r.2.mem ((c.tc : Thread Cert.AdamwMixedRefIdeal.nD Cert.AdamwMixedRefIdeal.τ).loc Cert.AdamwMixedRefIdeal.main_arg3) = m ((c.tc : Thread Cert.AdamwMixedRefIdeal.nD Cert.AdamwMixedRefIdeal.τ).loc Cert.AdamwMixedRefIdeal.main_arg3)
      ∧ r.2.mem ((c.tc : Thread Cert.AdamwMixedRefIdeal.nD Cert.AdamwMixedRefIdeal.τ).loc Cert.AdamwMixedRefIdeal.main_arg4) = m ((c.tc : Thread Cert.AdamwMixedRefIdeal.nD Cert.AdamwMixedRefIdeal.τ).loc Cert.AdamwMixedRefIdeal.main_arg4)
      ∧ r.2.mem ((c.tc : Thread Cert.AdamwMixedRefIdeal.nD Cert.AdamwMixedRefIdeal.τ).loc Cert.AdamwMixedRefIdeal.main_arg5) = m ((c.tc : Thread Cert.AdamwMixedRefIdeal.nD Cert.AdamwMixedRefIdeal.τ).loc Cert.AdamwMixedRefIdeal.main_arg5)
      ∧ r.2.mem ((c.tc : Thread Cert.AdamwMixedRefIdeal.nD Cert.AdamwMixedRefIdeal.τ).loc Cert.AdamwMixedRefIdeal.main_arg6) = m ((c.tc : Thread Cert.AdamwMixedRefIdeal.nD Cert.AdamwMixedRefIdeal.τ).loc Cert.AdamwMixedRefIdeal.main_arg6)
      ∧ r.2.mem ((c.tc : Thread Cert.AdamwMixedRefIdeal.nD Cert.AdamwMixedRefIdeal.τ).loc Cert.AdamwMixedRefIdeal.main_arg7) = m ((c.tc : Thread Cert.AdamwMixedRefIdeal.nD Cert.AdamwMixedRefIdeal.τ).loc Cert.AdamwMixedRefIdeal.main_arg7)
      ∧ r.2.mem ((c.tc : Thread Cert.AdamwMixedRefIdeal.nD Cert.AdamwMixedRefIdeal.τ).loc Cert.AdamwMixedRefIdeal.main_arg8) = m ((c.tc : Thread Cert.AdamwMixedRefIdeal.nD Cert.AdamwMixedRefIdeal.τ).loc Cert.AdamwMixedRefIdeal.main_arg8)
      ∧ r.2.mem ((c.tc : Thread Cert.AdamwMixedRefIdeal.nD Cert.AdamwMixedRefIdeal.τ).loc Cert.AdamwMixedRefIdeal.main_arg9) = m ((c.tc : Thread Cert.AdamwMixedRefIdeal.nD Cert.AdamwMixedRefIdeal.τ).loc Cert.AdamwMixedRefIdeal.main_arg9)
      ∧ r.2.mem ((c.tc : Thread Cert.AdamwMixedRefIdeal.nD Cert.AdamwMixedRefIdeal.τ).loc Cert.AdamwMixedRefIdeal.main_arg10) = m ((c.tc : Thread Cert.AdamwMixedRefIdeal.nD Cert.AdamwMixedRefIdeal.τ).loc Cert.AdamwMixedRefIdeal.main_arg10)
      ∧ r.2.mem ((c.tc : Thread Cert.AdamwMixedRefIdeal.nD Cert.AdamwMixedRefIdeal.τ).loc Cert.AdamwMixedRefIdeal.main_arg11) = m ((c.tc : Thread Cert.AdamwMixedRefIdeal.nD Cert.AdamwMixedRefIdeal.τ).loc Cert.AdamwMixedRefIdeal.main_arg11))
      ∧ r.2.sem = fun _ => 0)

def quiescent_AdamwEven [hAdamwEven : Cert.AdamwEven.Facts] : Prop :=
  ∀ (m : (ℓ : Loc Cert.AdamwEven.nD Cert.AdamwEven.τ Cert.AdamwEven.sig) → Buf (Elt Bits) ℓ) (g : Dev Cert.AdamwEven.nD → PrngReg), Pre_AdamwEven m →
    θ_run (Cert.AdamwEven.defs (F := Bits)) (onTc (τ := Cert.AdamwEven.τ) (Cert.AdamwEven.main (F := Bits))) ⟨m, fun _ => 0, g⟩ (fun r => (∀ c : Dev Cert.AdamwEven.nD,
      r.2.mem ((c.tc : Thread Cert.AdamwEven.nD Cert.AdamwEven.τ).loc Cert.AdamwEven.main_arg0) = m ((c.tc : Thread Cert.AdamwEven.nD Cert.AdamwEven.τ).loc Cert.AdamwEven.main_arg0)
      ∧ r.2.mem ((c.tc : Thread Cert.AdamwEven.nD Cert.AdamwEven.τ).loc Cert.AdamwEven.main_arg1) = m ((c.tc : Thread Cert.AdamwEven.nD Cert.AdamwEven.τ).loc Cert.AdamwEven.main_arg1)
      ∧ r.2.mem ((c.tc : Thread Cert.AdamwEven.nD Cert.AdamwEven.τ).loc Cert.AdamwEven.main_arg2) = m ((c.tc : Thread Cert.AdamwEven.nD Cert.AdamwEven.τ).loc Cert.AdamwEven.main_arg2)
      ∧ r.2.mem ((c.tc : Thread Cert.AdamwEven.nD Cert.AdamwEven.τ).loc Cert.AdamwEven.main_arg3) = m ((c.tc : Thread Cert.AdamwEven.nD Cert.AdamwEven.τ).loc Cert.AdamwEven.main_arg3)
      ∧ r.2.mem ((c.tc : Thread Cert.AdamwEven.nD Cert.AdamwEven.τ).loc Cert.AdamwEven.main_arg4) = m ((c.tc : Thread Cert.AdamwEven.nD Cert.AdamwEven.τ).loc Cert.AdamwEven.main_arg4)
      ∧ r.2.mem ((c.tc : Thread Cert.AdamwEven.nD Cert.AdamwEven.τ).loc Cert.AdamwEven.main_arg5) = m ((c.tc : Thread Cert.AdamwEven.nD Cert.AdamwEven.τ).loc Cert.AdamwEven.main_arg5)
      ∧ r.2.mem ((c.tc : Thread Cert.AdamwEven.nD Cert.AdamwEven.τ).loc Cert.AdamwEven.main_arg6) = m ((c.tc : Thread Cert.AdamwEven.nD Cert.AdamwEven.τ).loc Cert.AdamwEven.main_arg6)
      ∧ r.2.mem ((c.tc : Thread Cert.AdamwEven.nD Cert.AdamwEven.τ).loc Cert.AdamwEven.main_arg7) = m ((c.tc : Thread Cert.AdamwEven.nD Cert.AdamwEven.τ).loc Cert.AdamwEven.main_arg7)
      ∧ r.2.mem ((c.tc : Thread Cert.AdamwEven.nD Cert.AdamwEven.τ).loc Cert.AdamwEven.main_arg8) = m ((c.tc : Thread Cert.AdamwEven.nD Cert.AdamwEven.τ).loc Cert.AdamwEven.main_arg8)
      ∧ r.2.mem ((c.tc : Thread Cert.AdamwEven.nD Cert.AdamwEven.τ).loc Cert.AdamwEven.main_arg9) = m ((c.tc : Thread Cert.AdamwEven.nD Cert.AdamwEven.τ).loc Cert.AdamwEven.main_arg9)
      ∧ r.2.mem ((c.tc : Thread Cert.AdamwEven.nD Cert.AdamwEven.τ).loc Cert.AdamwEven.main_arg10) = m ((c.tc : Thread Cert.AdamwEven.nD Cert.AdamwEven.τ).loc Cert.AdamwEven.main_arg10)
      ∧ r.2.mem ((c.tc : Thread Cert.AdamwEven.nD Cert.AdamwEven.τ).loc Cert.AdamwEven.main_arg11) = m ((c.tc : Thread Cert.AdamwEven.nD Cert.AdamwEven.τ).loc Cert.AdamwEven.main_arg11))
      ∧ r.2.sem = fun _ => 0)

def quiescent_AdamwEvenIdeal [hAdamwEvenIdeal : Cert.AdamwEvenIdeal.Facts] : Prop :=
  ∀ (m : (ℓ : Loc Cert.AdamwEvenIdeal.nD Cert.AdamwEvenIdeal.τ Cert.AdamwEvenIdeal.sig) → Buf (Elt Ideal) ℓ) (g : Dev Cert.AdamwEvenIdeal.nD → PrngReg), Pre_AdamwEvenIdeal m →
    θ_run (Cert.AdamwEvenIdeal.defs (F := Ideal)) (onTc (τ := Cert.AdamwEvenIdeal.τ) (Cert.AdamwEvenIdeal.main (F := Ideal))) ⟨m, fun _ => 0, g⟩ (fun r => (∀ c : Dev Cert.AdamwEvenIdeal.nD,
      r.2.mem ((c.tc : Thread Cert.AdamwEvenIdeal.nD Cert.AdamwEvenIdeal.τ).loc Cert.AdamwEvenIdeal.main_arg0) = m ((c.tc : Thread Cert.AdamwEvenIdeal.nD Cert.AdamwEvenIdeal.τ).loc Cert.AdamwEvenIdeal.main_arg0)
      ∧ r.2.mem ((c.tc : Thread Cert.AdamwEvenIdeal.nD Cert.AdamwEvenIdeal.τ).loc Cert.AdamwEvenIdeal.main_arg1) = m ((c.tc : Thread Cert.AdamwEvenIdeal.nD Cert.AdamwEvenIdeal.τ).loc Cert.AdamwEvenIdeal.main_arg1)
      ∧ r.2.mem ((c.tc : Thread Cert.AdamwEvenIdeal.nD Cert.AdamwEvenIdeal.τ).loc Cert.AdamwEvenIdeal.main_arg2) = m ((c.tc : Thread Cert.AdamwEvenIdeal.nD Cert.AdamwEvenIdeal.τ).loc Cert.AdamwEvenIdeal.main_arg2)
      ∧ r.2.mem ((c.tc : Thread Cert.AdamwEvenIdeal.nD Cert.AdamwEvenIdeal.τ).loc Cert.AdamwEvenIdeal.main_arg3) = m ((c.tc : Thread Cert.AdamwEvenIdeal.nD Cert.AdamwEvenIdeal.τ).loc Cert.AdamwEvenIdeal.main_arg3)
      ∧ r.2.mem ((c.tc : Thread Cert.AdamwEvenIdeal.nD Cert.AdamwEvenIdeal.τ).loc Cert.AdamwEvenIdeal.main_arg4) = m ((c.tc : Thread Cert.AdamwEvenIdeal.nD Cert.AdamwEvenIdeal.τ).loc Cert.AdamwEvenIdeal.main_arg4)
      ∧ r.2.mem ((c.tc : Thread Cert.AdamwEvenIdeal.nD Cert.AdamwEvenIdeal.τ).loc Cert.AdamwEvenIdeal.main_arg5) = m ((c.tc : Thread Cert.AdamwEvenIdeal.nD Cert.AdamwEvenIdeal.τ).loc Cert.AdamwEvenIdeal.main_arg5)
      ∧ r.2.mem ((c.tc : Thread Cert.AdamwEvenIdeal.nD Cert.AdamwEvenIdeal.τ).loc Cert.AdamwEvenIdeal.main_arg6) = m ((c.tc : Thread Cert.AdamwEvenIdeal.nD Cert.AdamwEvenIdeal.τ).loc Cert.AdamwEvenIdeal.main_arg6)
      ∧ r.2.mem ((c.tc : Thread Cert.AdamwEvenIdeal.nD Cert.AdamwEvenIdeal.τ).loc Cert.AdamwEvenIdeal.main_arg7) = m ((c.tc : Thread Cert.AdamwEvenIdeal.nD Cert.AdamwEvenIdeal.τ).loc Cert.AdamwEvenIdeal.main_arg7)
      ∧ r.2.mem ((c.tc : Thread Cert.AdamwEvenIdeal.nD Cert.AdamwEvenIdeal.τ).loc Cert.AdamwEvenIdeal.main_arg8) = m ((c.tc : Thread Cert.AdamwEvenIdeal.nD Cert.AdamwEvenIdeal.τ).loc Cert.AdamwEvenIdeal.main_arg8)
      ∧ r.2.mem ((c.tc : Thread Cert.AdamwEvenIdeal.nD Cert.AdamwEvenIdeal.τ).loc Cert.AdamwEvenIdeal.main_arg9) = m ((c.tc : Thread Cert.AdamwEvenIdeal.nD Cert.AdamwEvenIdeal.τ).loc Cert.AdamwEvenIdeal.main_arg9)
      ∧ r.2.mem ((c.tc : Thread Cert.AdamwEvenIdeal.nD Cert.AdamwEvenIdeal.τ).loc Cert.AdamwEvenIdeal.main_arg10) = m ((c.tc : Thread Cert.AdamwEvenIdeal.nD Cert.AdamwEvenIdeal.τ).loc Cert.AdamwEvenIdeal.main_arg10)
      ∧ r.2.mem ((c.tc : Thread Cert.AdamwEvenIdeal.nD Cert.AdamwEvenIdeal.τ).loc Cert.AdamwEvenIdeal.main_arg11) = m ((c.tc : Thread Cert.AdamwEvenIdeal.nD Cert.AdamwEvenIdeal.τ).loc Cert.AdamwEvenIdeal.main_arg11))
      ∧ r.2.sem = fun _ => 0)

def quiescent_AdamwEvenRefIdeal [hAdamwEvenRefIdeal : Cert.AdamwEvenRefIdeal.Facts] : Prop :=
  ∀ (m : (ℓ : Loc Cert.AdamwEvenRefIdeal.nD Cert.AdamwEvenRefIdeal.τ Cert.AdamwEvenRefIdeal.sig) → Buf (Elt Ideal) ℓ) (g : Dev Cert.AdamwEvenRefIdeal.nD → PrngReg), Pre_AdamwEvenRefIdeal m →
    θ_run (Cert.AdamwEvenRefIdeal.defs (F := Ideal)) (onTc (τ := Cert.AdamwEvenRefIdeal.τ) (Cert.AdamwEvenRefIdeal.main (F := Ideal))) ⟨m, fun _ => 0, g⟩ (fun r => (∀ c : Dev Cert.AdamwEvenRefIdeal.nD,
      r.2.mem ((c.tc : Thread Cert.AdamwEvenRefIdeal.nD Cert.AdamwEvenRefIdeal.τ).loc Cert.AdamwEvenRefIdeal.main_arg0) = m ((c.tc : Thread Cert.AdamwEvenRefIdeal.nD Cert.AdamwEvenRefIdeal.τ).loc Cert.AdamwEvenRefIdeal.main_arg0)
      ∧ r.2.mem ((c.tc : Thread Cert.AdamwEvenRefIdeal.nD Cert.AdamwEvenRefIdeal.τ).loc Cert.AdamwEvenRefIdeal.main_arg1) = m ((c.tc : Thread Cert.AdamwEvenRefIdeal.nD Cert.AdamwEvenRefIdeal.τ).loc Cert.AdamwEvenRefIdeal.main_arg1)
      ∧ r.2.mem ((c.tc : Thread Cert.AdamwEvenRefIdeal.nD Cert.AdamwEvenRefIdeal.τ).loc Cert.AdamwEvenRefIdeal.main_arg2) = m ((c.tc : Thread Cert.AdamwEvenRefIdeal.nD Cert.AdamwEvenRefIdeal.τ).loc Cert.AdamwEvenRefIdeal.main_arg2)
      ∧ r.2.mem ((c.tc : Thread Cert.AdamwEvenRefIdeal.nD Cert.AdamwEvenRefIdeal.τ).loc Cert.AdamwEvenRefIdeal.main_arg3) = m ((c.tc : Thread Cert.AdamwEvenRefIdeal.nD Cert.AdamwEvenRefIdeal.τ).loc Cert.AdamwEvenRefIdeal.main_arg3)
      ∧ r.2.mem ((c.tc : Thread Cert.AdamwEvenRefIdeal.nD Cert.AdamwEvenRefIdeal.τ).loc Cert.AdamwEvenRefIdeal.main_arg4) = m ((c.tc : Thread Cert.AdamwEvenRefIdeal.nD Cert.AdamwEvenRefIdeal.τ).loc Cert.AdamwEvenRefIdeal.main_arg4)
      ∧ r.2.mem ((c.tc : Thread Cert.AdamwEvenRefIdeal.nD Cert.AdamwEvenRefIdeal.τ).loc Cert.AdamwEvenRefIdeal.main_arg5) = m ((c.tc : Thread Cert.AdamwEvenRefIdeal.nD Cert.AdamwEvenRefIdeal.τ).loc Cert.AdamwEvenRefIdeal.main_arg5)
      ∧ r.2.mem ((c.tc : Thread Cert.AdamwEvenRefIdeal.nD Cert.AdamwEvenRefIdeal.τ).loc Cert.AdamwEvenRefIdeal.main_arg6) = m ((c.tc : Thread Cert.AdamwEvenRefIdeal.nD Cert.AdamwEvenRefIdeal.τ).loc Cert.AdamwEvenRefIdeal.main_arg6)
      ∧ r.2.mem ((c.tc : Thread Cert.AdamwEvenRefIdeal.nD Cert.AdamwEvenRefIdeal.τ).loc Cert.AdamwEvenRefIdeal.main_arg7) = m ((c.tc : Thread Cert.AdamwEvenRefIdeal.nD Cert.AdamwEvenRefIdeal.τ).loc Cert.AdamwEvenRefIdeal.main_arg7)
      ∧ r.2.mem ((c.tc : Thread Cert.AdamwEvenRefIdeal.nD Cert.AdamwEvenRefIdeal.τ).loc Cert.AdamwEvenRefIdeal.main_arg8) = m ((c.tc : Thread Cert.AdamwEvenRefIdeal.nD Cert.AdamwEvenRefIdeal.τ).loc Cert.AdamwEvenRefIdeal.main_arg8)
      ∧ r.2.mem ((c.tc : Thread Cert.AdamwEvenRefIdeal.nD Cert.AdamwEvenRefIdeal.τ).loc Cert.AdamwEvenRefIdeal.main_arg9) = m ((c.tc : Thread Cert.AdamwEvenRefIdeal.nD Cert.AdamwEvenRefIdeal.τ).loc Cert.AdamwEvenRefIdeal.main_arg9)
      ∧ r.2.mem ((c.tc : Thread Cert.AdamwEvenRefIdeal.nD Cert.AdamwEvenRefIdeal.τ).loc Cert.AdamwEvenRefIdeal.main_arg10) = m ((c.tc : Thread Cert.AdamwEvenRefIdeal.nD Cert.AdamwEvenRefIdeal.τ).loc Cert.AdamwEvenRefIdeal.main_arg10)
      ∧ r.2.mem ((c.tc : Thread Cert.AdamwEvenRefIdeal.nD Cert.AdamwEvenRefIdeal.τ).loc Cert.AdamwEvenRefIdeal.main_arg11) = m ((c.tc : Thread Cert.AdamwEvenRefIdeal.nD Cert.AdamwEvenRefIdeal.τ).loc Cert.AdamwEvenRefIdeal.main_arg11))
      ∧ r.2.sem = fun _ => 0)

def quiescent_AdamwTaps [hAdamwTaps : Cert.AdamwTaps.Facts] : Prop :=
  ∀ (m : (ℓ : Loc Cert.AdamwTaps.nD Cert.AdamwTaps.τ Cert.AdamwTaps.sig) → Buf (Elt Bits) ℓ) (g : Dev Cert.AdamwTaps.nD → PrngReg), Pre_AdamwTaps m →
    θ_run (Cert.AdamwTaps.defs (F := Bits)) (onTc (τ := Cert.AdamwTaps.τ) (Cert.AdamwTaps.main (F := Bits))) ⟨m, fun _ => 0, g⟩ (fun r => (∀ c : Dev Cert.AdamwTaps.nD,
      r.2.mem ((c.tc : Thread Cert.AdamwTaps.nD Cert.AdamwTaps.τ).loc Cert.AdamwTaps.main_arg0) = m ((c.tc : Thread Cert.AdamwTaps.nD Cert.AdamwTaps.τ).loc Cert.AdamwTaps.main_arg0)
      ∧ r.2.mem ((c.tc : Thread Cert.AdamwTaps.nD Cert.AdamwTaps.τ).loc Cert.AdamwTaps.main_arg1) = m ((c.tc : Thread Cert.AdamwTaps.nD Cert.AdamwTaps.τ).loc Cert.AdamwTaps.main_arg1)
      ∧ r.2.mem ((c.tc : Thread Cert.AdamwTaps.nD Cert.AdamwTaps.τ).loc Cert.AdamwTaps.main_arg2) = m ((c.tc : Thread Cert.AdamwTaps.nD Cert.AdamwTaps.τ).loc Cert.AdamwTaps.main_arg2)
      ∧ r.2.mem ((c.tc : Thread Cert.AdamwTaps.nD Cert.AdamwTaps.τ).loc Cert.AdamwTaps.main_arg3) = m ((c.tc : Thread Cert.AdamwTaps.nD Cert.AdamwTaps.τ).loc Cert.AdamwTaps.main_arg3)
      ∧ r.2.mem ((c.tc : Thread Cert.AdamwTaps.nD Cert.AdamwTaps.τ).loc Cert.AdamwTaps.main_arg4) = m ((c.tc : Thread Cert.AdamwTaps.nD Cert.AdamwTaps.τ).loc Cert.AdamwTaps.main_arg4)
      ∧ r.2.mem ((c.tc : Thread Cert.AdamwTaps.nD Cert.AdamwTaps.τ).loc Cert.AdamwTaps.main_arg5) = m ((c.tc : Thread Cert.AdamwTaps.nD Cert.AdamwTaps.τ).loc Cert.AdamwTaps.main_arg5)
      ∧ r.2.mem ((c.tc : Thread Cert.AdamwTaps.nD Cert.AdamwTaps.τ).loc Cert.AdamwTaps.main_arg6) = m ((c.tc : Thread Cert.AdamwTaps.nD Cert.AdamwTaps.τ).loc Cert.AdamwTaps.main_arg6)
      ∧ r.2.mem ((c.tc : Thread Cert.AdamwTaps.nD Cert.AdamwTaps.τ).loc Cert.AdamwTaps.main_arg7) = m ((c.tc : Thread Cert.AdamwTaps.nD Cert.AdamwTaps.τ).loc Cert.AdamwTaps.main_arg7)
      ∧ r.2.mem ((c.tc : Thread Cert.AdamwTaps.nD Cert.AdamwTaps.τ).loc Cert.AdamwTaps.main_arg8) = m ((c.tc : Thread Cert.AdamwTaps.nD Cert.AdamwTaps.τ).loc Cert.AdamwTaps.main_arg8)
      ∧ r.2.mem ((c.tc : Thread Cert.AdamwTaps.nD Cert.AdamwTaps.τ).loc Cert.AdamwTaps.main_arg9) = m ((c.tc : Thread Cert.AdamwTaps.nD Cert.AdamwTaps.τ).loc Cert.AdamwTaps.main_arg9)
      ∧ r.2.mem ((c.tc : Thread Cert.AdamwTaps.nD Cert.AdamwTaps.τ).loc Cert.AdamwTaps.main_arg10) = m ((c.tc : Thread Cert.AdamwTaps.nD Cert.AdamwTaps.τ).loc Cert.AdamwTaps.main_arg10)
      ∧ r.2.mem ((c.tc : Thread Cert.AdamwTaps.nD Cert.AdamwTaps.τ).loc Cert.AdamwTaps.main_arg11) = m ((c.tc : Thread Cert.AdamwTaps.nD Cert.AdamwTaps.τ).loc Cert.AdamwTaps.main_arg11))
      ∧ r.2.sem = fun _ => 0)

def quiescent_AdamwTapsIdeal [hAdamwTapsIdeal : Cert.AdamwTapsIdeal.Facts] : Prop :=
  ∀ (m : (ℓ : Loc Cert.AdamwTapsIdeal.nD Cert.AdamwTapsIdeal.τ Cert.AdamwTapsIdeal.sig) → Buf (Elt Ideal) ℓ) (g : Dev Cert.AdamwTapsIdeal.nD → PrngReg), Pre_AdamwTapsIdeal m →
    θ_run (Cert.AdamwTapsIdeal.defs (F := Ideal)) (onTc (τ := Cert.AdamwTapsIdeal.τ) (Cert.AdamwTapsIdeal.main (F := Ideal))) ⟨m, fun _ => 0, g⟩ (fun r => (∀ c : Dev Cert.AdamwTapsIdeal.nD,
      r.2.mem ((c.tc : Thread Cert.AdamwTapsIdeal.nD Cert.AdamwTapsIdeal.τ).loc Cert.AdamwTapsIdeal.main_arg0) = m ((c.tc : Thread Cert.AdamwTapsIdeal.nD Cert.AdamwTapsIdeal.τ).loc Cert.AdamwTapsIdeal.main_arg0)
      ∧ r.2.mem ((c.tc : Thread Cert.AdamwTapsIdeal.nD Cert.AdamwTapsIdeal.τ).loc Cert.AdamwTapsIdeal.main_arg1) = m ((c.tc : Thread Cert.AdamwTapsIdeal.nD Cert.AdamwTapsIdeal.τ).loc Cert.AdamwTapsIdeal.main_arg1)
      ∧ r.2.mem ((c.tc : Thread Cert.AdamwTapsIdeal.nD Cert.AdamwTapsIdeal.τ).loc Cert.AdamwTapsIdeal.main_arg2) = m ((c.tc : Thread Cert.AdamwTapsIdeal.nD Cert.AdamwTapsIdeal.τ).loc Cert.AdamwTapsIdeal.main_arg2)
      ∧ r.2.mem ((c.tc : Thread Cert.AdamwTapsIdeal.nD Cert.AdamwTapsIdeal.τ).loc Cert.AdamwTapsIdeal.main_arg3) = m ((c.tc : Thread Cert.AdamwTapsIdeal.nD Cert.AdamwTapsIdeal.τ).loc Cert.AdamwTapsIdeal.main_arg3)
      ∧ r.2.mem ((c.tc : Thread Cert.AdamwTapsIdeal.nD Cert.AdamwTapsIdeal.τ).loc Cert.AdamwTapsIdeal.main_arg4) = m ((c.tc : Thread Cert.AdamwTapsIdeal.nD Cert.AdamwTapsIdeal.τ).loc Cert.AdamwTapsIdeal.main_arg4)
      ∧ r.2.mem ((c.tc : Thread Cert.AdamwTapsIdeal.nD Cert.AdamwTapsIdeal.τ).loc Cert.AdamwTapsIdeal.main_arg5) = m ((c.tc : Thread Cert.AdamwTapsIdeal.nD Cert.AdamwTapsIdeal.τ).loc Cert.AdamwTapsIdeal.main_arg5)
      ∧ r.2.mem ((c.tc : Thread Cert.AdamwTapsIdeal.nD Cert.AdamwTapsIdeal.τ).loc Cert.AdamwTapsIdeal.main_arg6) = m ((c.tc : Thread Cert.AdamwTapsIdeal.nD Cert.AdamwTapsIdeal.τ).loc Cert.AdamwTapsIdeal.main_arg6)
      ∧ r.2.mem ((c.tc : Thread Cert.AdamwTapsIdeal.nD Cert.AdamwTapsIdeal.τ).loc Cert.AdamwTapsIdeal.main_arg7) = m ((c.tc : Thread Cert.AdamwTapsIdeal.nD Cert.AdamwTapsIdeal.τ).loc Cert.AdamwTapsIdeal.main_arg7)
      ∧ r.2.mem ((c.tc : Thread Cert.AdamwTapsIdeal.nD Cert.AdamwTapsIdeal.τ).loc Cert.AdamwTapsIdeal.main_arg8) = m ((c.tc : Thread Cert.AdamwTapsIdeal.nD Cert.AdamwTapsIdeal.τ).loc Cert.AdamwTapsIdeal.main_arg8)
      ∧ r.2.mem ((c.tc : Thread Cert.AdamwTapsIdeal.nD Cert.AdamwTapsIdeal.τ).loc Cert.AdamwTapsIdeal.main_arg9) = m ((c.tc : Thread Cert.AdamwTapsIdeal.nD Cert.AdamwTapsIdeal.τ).loc Cert.AdamwTapsIdeal.main_arg9)
      ∧ r.2.mem ((c.tc : Thread Cert.AdamwTapsIdeal.nD Cert.AdamwTapsIdeal.τ).loc Cert.AdamwTapsIdeal.main_arg10) = m ((c.tc : Thread Cert.AdamwTapsIdeal.nD Cert.AdamwTapsIdeal.τ).loc Cert.AdamwTapsIdeal.main_arg10)
      ∧ r.2.mem ((c.tc : Thread Cert.AdamwTapsIdeal.nD Cert.AdamwTapsIdeal.τ).loc Cert.AdamwTapsIdeal.main_arg11) = m ((c.tc : Thread Cert.AdamwTapsIdeal.nD Cert.AdamwTapsIdeal.τ).loc Cert.AdamwTapsIdeal.main_arg11))
      ∧ r.2.sem = fun _ => 0)

def quiescent_AdamwTapsRefIdeal [hAdamwTapsRefIdeal : Cert.AdamwTapsRefIdeal.Facts] : Prop :=
  ∀ (m : (ℓ : Loc Cert.AdamwTapsRefIdeal.nD Cert.AdamwTapsRefIdeal.τ Cert.AdamwTapsRefIdeal.sig) → Buf (Elt Ideal) ℓ) (g : Dev Cert.AdamwTapsRefIdeal.nD → PrngReg), Pre_AdamwTapsRefIdeal m →
    θ_run (Cert.AdamwTapsRefIdeal.defs (F := Ideal)) (onTc (τ := Cert.AdamwTapsRefIdeal.τ) (Cert.AdamwTapsRefIdeal.main (F := Ideal))) ⟨m, fun _ => 0, g⟩ (fun r => (∀ c : Dev Cert.AdamwTapsRefIdeal.nD,
      r.2.mem ((c.tc : Thread Cert.AdamwTapsRefIdeal.nD Cert.AdamwTapsRefIdeal.τ).loc Cert.AdamwTapsRefIdeal.main_arg0) = m ((c.tc : Thread Cert.AdamwTapsRefIdeal.nD Cert.AdamwTapsRefIdeal.τ).loc Cert.AdamwTapsRefIdeal.main_arg0)
      ∧ r.2.mem ((c.tc : Thread Cert.AdamwTapsRefIdeal.nD Cert.AdamwTapsRefIdeal.τ).loc Cert.AdamwTapsRefIdeal.main_arg1) = m ((c.tc : Thread Cert.AdamwTapsRefIdeal.nD Cert.AdamwTapsRefIdeal.τ).loc Cert.AdamwTapsRefIdeal.main_arg1)
      ∧ r.2.mem ((c.tc : Thread Cert.AdamwTapsRefIdeal.nD Cert.AdamwTapsRefIdeal.τ).loc Cert.AdamwTapsRefIdeal.main_arg2) = m ((c.tc : Thread Cert.AdamwTapsRefIdeal.nD Cert.AdamwTapsRefIdeal.τ).loc Cert.AdamwTapsRefIdeal.main_arg2)
      ∧ r.2.mem ((c.tc : Thread Cert.AdamwTapsRefIdeal.nD Cert.AdamwTapsRefIdeal.τ).loc Cert.AdamwTapsRefIdeal.main_arg3) = m ((c.tc : Thread Cert.AdamwTapsRefIdeal.nD Cert.AdamwTapsRefIdeal.τ).loc Cert.AdamwTapsRefIdeal.main_arg3)
      ∧ r.2.mem ((c.tc : Thread Cert.AdamwTapsRefIdeal.nD Cert.AdamwTapsRefIdeal.τ).loc Cert.AdamwTapsRefIdeal.main_arg4) = m ((c.tc : Thread Cert.AdamwTapsRefIdeal.nD Cert.AdamwTapsRefIdeal.τ).loc Cert.AdamwTapsRefIdeal.main_arg4)
      ∧ r.2.mem ((c.tc : Thread Cert.AdamwTapsRefIdeal.nD Cert.AdamwTapsRefIdeal.τ).loc Cert.AdamwTapsRefIdeal.main_arg5) = m ((c.tc : Thread Cert.AdamwTapsRefIdeal.nD Cert.AdamwTapsRefIdeal.τ).loc Cert.AdamwTapsRefIdeal.main_arg5)
      ∧ r.2.mem ((c.tc : Thread Cert.AdamwTapsRefIdeal.nD Cert.AdamwTapsRefIdeal.τ).loc Cert.AdamwTapsRefIdeal.main_arg6) = m ((c.tc : Thread Cert.AdamwTapsRefIdeal.nD Cert.AdamwTapsRefIdeal.τ).loc Cert.AdamwTapsRefIdeal.main_arg6)
      ∧ r.2.mem ((c.tc : Thread Cert.AdamwTapsRefIdeal.nD Cert.AdamwTapsRefIdeal.τ).loc Cert.AdamwTapsRefIdeal.main_arg7) = m ((c.tc : Thread Cert.AdamwTapsRefIdeal.nD Cert.AdamwTapsRefIdeal.τ).loc Cert.AdamwTapsRefIdeal.main_arg7)
      ∧ r.2.mem ((c.tc : Thread Cert.AdamwTapsRefIdeal.nD Cert.AdamwTapsRefIdeal.τ).loc Cert.AdamwTapsRefIdeal.main_arg8) = m ((c.tc : Thread Cert.AdamwTapsRefIdeal.nD Cert.AdamwTapsRefIdeal.τ).loc Cert.AdamwTapsRefIdeal.main_arg8)
      ∧ r.2.mem ((c.tc : Thread Cert.AdamwTapsRefIdeal.nD Cert.AdamwTapsRefIdeal.τ).loc Cert.AdamwTapsRefIdeal.main_arg9) = m ((c.tc : Thread Cert.AdamwTapsRefIdeal.nD Cert.AdamwTapsRefIdeal.τ).loc Cert.AdamwTapsRefIdeal.main_arg9)
      ∧ r.2.mem ((c.tc : Thread Cert.AdamwTapsRefIdeal.nD Cert.AdamwTapsRefIdeal.τ).loc Cert.AdamwTapsRefIdeal.main_arg10) = m ((c.tc : Thread Cert.AdamwTapsRefIdeal.nD Cert.AdamwTapsRefIdeal.τ).loc Cert.AdamwTapsRefIdeal.main_arg10)
      ∧ r.2.mem ((c.tc : Thread Cert.AdamwTapsRefIdeal.nD Cert.AdamwTapsRefIdeal.τ).loc Cert.AdamwTapsRefIdeal.main_arg11) = m ((c.tc : Thread Cert.AdamwTapsRefIdeal.nD Cert.AdamwTapsRefIdeal.τ).loc Cert.AdamwTapsRefIdeal.main_arg11))
      ∧ r.2.sem = fun _ => 0)

def quiescent_AdamwRest [hAdamwRest : Cert.AdamwRest.Facts] : Prop :=
  ∀ (m : (ℓ : Loc Cert.AdamwRest.nD Cert.AdamwRest.τ Cert.AdamwRest.sig) → Buf (Elt Bits) ℓ) (g : Dev Cert.AdamwRest.nD → PrngReg), Pre_AdamwRest m →
    θ_run (Cert.AdamwRest.defs (F := Bits)) (onTc (τ := Cert.AdamwRest.τ) (Cert.AdamwRest.main (F := Bits))) ⟨m, fun _ => 0, g⟩ (fun r => (∀ c : Dev Cert.AdamwRest.nD,
      r.2.mem ((c.tc : Thread Cert.AdamwRest.nD Cert.AdamwRest.τ).loc Cert.AdamwRest.main_arg0) = m ((c.tc : Thread Cert.AdamwRest.nD Cert.AdamwRest.τ).loc Cert.AdamwRest.main_arg0)
      ∧ r.2.mem ((c.tc : Thread Cert.AdamwRest.nD Cert.AdamwRest.τ).loc Cert.AdamwRest.main_arg1) = m ((c.tc : Thread Cert.AdamwRest.nD Cert.AdamwRest.τ).loc Cert.AdamwRest.main_arg1)
      ∧ r.2.mem ((c.tc : Thread Cert.AdamwRest.nD Cert.AdamwRest.τ).loc Cert.AdamwRest.main_arg2) = m ((c.tc : Thread Cert.AdamwRest.nD Cert.AdamwRest.τ).loc Cert.AdamwRest.main_arg2)
      ∧ r.2.mem ((c.tc : Thread Cert.AdamwRest.nD Cert.AdamwRest.τ).loc Cert.AdamwRest.main_arg3) = m ((c.tc : Thread Cert.AdamwRest.nD Cert.AdamwRest.τ).loc Cert.AdamwRest.main_arg3)
      ∧ r.2.mem ((c.tc : Thread Cert.AdamwRest.nD Cert.AdamwRest.τ).loc Cert.AdamwRest.main_arg4) = m ((c.tc : Thread Cert.AdamwRest.nD Cert.AdamwRest.τ).loc Cert.AdamwRest.main_arg4)
      ∧ r.2.mem ((c.tc : Thread Cert.AdamwRest.nD Cert.AdamwRest.τ).loc Cert.AdamwRest.main_arg5) = m ((c.tc : Thread Cert.AdamwRest.nD Cert.AdamwRest.τ).loc Cert.AdamwRest.main_arg5)
      ∧ r.2.mem ((c.tc : Thread Cert.AdamwRest.nD Cert.AdamwRest.τ).loc Cert.AdamwRest.main_arg6) = m ((c.tc : Thread Cert.AdamwRest.nD Cert.AdamwRest.τ).loc Cert.AdamwRest.main_arg6)
      ∧ r.2.mem ((c.tc : Thread Cert.AdamwRest.nD Cert.AdamwRest.τ).loc Cert.AdamwRest.main_arg7) = m ((c.tc : Thread Cert.AdamwRest.nD Cert.AdamwRest.τ).loc Cert.AdamwRest.main_arg7)
      ∧ r.2.mem ((c.tc : Thread Cert.AdamwRest.nD Cert.AdamwRest.τ).loc Cert.AdamwRest.main_arg8) = m ((c.tc : Thread Cert.AdamwRest.nD Cert.AdamwRest.τ).loc Cert.AdamwRest.main_arg8)
      ∧ r.2.mem ((c.tc : Thread Cert.AdamwRest.nD Cert.AdamwRest.τ).loc Cert.AdamwRest.main_arg9) = m ((c.tc : Thread Cert.AdamwRest.nD Cert.AdamwRest.τ).loc Cert.AdamwRest.main_arg9)
      ∧ r.2.mem ((c.tc : Thread Cert.AdamwRest.nD Cert.AdamwRest.τ).loc Cert.AdamwRest.main_arg10) = m ((c.tc : Thread Cert.AdamwRest.nD Cert.AdamwRest.τ).loc Cert.AdamwRest.main_arg10)
      ∧ r.2.mem ((c.tc : Thread Cert.AdamwRest.nD Cert.AdamwRest.τ).loc Cert.AdamwRest.main_arg11) = m ((c.tc : Thread Cert.AdamwRest.nD Cert.AdamwRest.τ).loc Cert.AdamwRest.main_arg11))
      ∧ r.2.sem = fun _ => 0)

def quiescent_AdamwRestIdeal [hAdamwRestIdeal : Cert.AdamwRestIdeal.Facts] : Prop :=
  ∀ (m : (ℓ : Loc Cert.AdamwRestIdeal.nD Cert.AdamwRestIdeal.τ Cert.AdamwRestIdeal.sig) → Buf (Elt Ideal) ℓ) (g : Dev Cert.AdamwRestIdeal.nD → PrngReg), Pre_AdamwRestIdeal m →
    θ_run (Cert.AdamwRestIdeal.defs (F := Ideal)) (onTc (τ := Cert.AdamwRestIdeal.τ) (Cert.AdamwRestIdeal.main (F := Ideal))) ⟨m, fun _ => 0, g⟩ (fun r => (∀ c : Dev Cert.AdamwRestIdeal.nD,
      r.2.mem ((c.tc : Thread Cert.AdamwRestIdeal.nD Cert.AdamwRestIdeal.τ).loc Cert.AdamwRestIdeal.main_arg0) = m ((c.tc : Thread Cert.AdamwRestIdeal.nD Cert.AdamwRestIdeal.τ).loc Cert.AdamwRestIdeal.main_arg0)
      ∧ r.2.mem ((c.tc : Thread Cert.AdamwRestIdeal.nD Cert.AdamwRestIdeal.τ).loc Cert.AdamwRestIdeal.main_arg1) = m ((c.tc : Thread Cert.AdamwRestIdeal.nD Cert.AdamwRestIdeal.τ).loc Cert.AdamwRestIdeal.main_arg1)
      ∧ r.2.mem ((c.tc : Thread Cert.AdamwRestIdeal.nD Cert.AdamwRestIdeal.τ).loc Cert.AdamwRestIdeal.main_arg2) = m ((c.tc : Thread Cert.AdamwRestIdeal.nD Cert.AdamwRestIdeal.τ).loc Cert.AdamwRestIdeal.main_arg2)
      ∧ r.2.mem ((c.tc : Thread Cert.AdamwRestIdeal.nD Cert.AdamwRestIdeal.τ).loc Cert.AdamwRestIdeal.main_arg3) = m ((c.tc : Thread Cert.AdamwRestIdeal.nD Cert.AdamwRestIdeal.τ).loc Cert.AdamwRestIdeal.main_arg3)
      ∧ r.2.mem ((c.tc : Thread Cert.AdamwRestIdeal.nD Cert.AdamwRestIdeal.τ).loc Cert.AdamwRestIdeal.main_arg4) = m ((c.tc : Thread Cert.AdamwRestIdeal.nD Cert.AdamwRestIdeal.τ).loc Cert.AdamwRestIdeal.main_arg4)
      ∧ r.2.mem ((c.tc : Thread Cert.AdamwRestIdeal.nD Cert.AdamwRestIdeal.τ).loc Cert.AdamwRestIdeal.main_arg5) = m ((c.tc : Thread Cert.AdamwRestIdeal.nD Cert.AdamwRestIdeal.τ).loc Cert.AdamwRestIdeal.main_arg5)
      ∧ r.2.mem ((c.tc : Thread Cert.AdamwRestIdeal.nD Cert.AdamwRestIdeal.τ).loc Cert.AdamwRestIdeal.main_arg6) = m ((c.tc : Thread Cert.AdamwRestIdeal.nD Cert.AdamwRestIdeal.τ).loc Cert.AdamwRestIdeal.main_arg6)
      ∧ r.2.mem ((c.tc : Thread Cert.AdamwRestIdeal.nD Cert.AdamwRestIdeal.τ).loc Cert.AdamwRestIdeal.main_arg7) = m ((c.tc : Thread Cert.AdamwRestIdeal.nD Cert.AdamwRestIdeal.τ).loc Cert.AdamwRestIdeal.main_arg7)
      ∧ r.2.mem ((c.tc : Thread Cert.AdamwRestIdeal.nD Cert.AdamwRestIdeal.τ).loc Cert.AdamwRestIdeal.main_arg8) = m ((c.tc : Thread Cert.AdamwRestIdeal.nD Cert.AdamwRestIdeal.τ).loc Cert.AdamwRestIdeal.main_arg8)
      ∧ r.2.mem ((c.tc : Thread Cert.AdamwRestIdeal.nD Cert.AdamwRestIdeal.τ).loc Cert.AdamwRestIdeal.main_arg9) = m ((c.tc : Thread Cert.AdamwRestIdeal.nD Cert.AdamwRestIdeal.τ).loc Cert.AdamwRestIdeal.main_arg9)
      ∧ r.2.mem ((c.tc : Thread Cert.AdamwRestIdeal.nD Cert.AdamwRestIdeal.τ).loc Cert.AdamwRestIdeal.main_arg10) = m ((c.tc : Thread Cert.AdamwRestIdeal.nD Cert.AdamwRestIdeal.τ).loc Cert.AdamwRestIdeal.main_arg10)
      ∧ r.2.mem ((c.tc : Thread Cert.AdamwRestIdeal.nD Cert.AdamwRestIdeal.τ).loc Cert.AdamwRestIdeal.main_arg11) = m ((c.tc : Thread Cert.AdamwRestIdeal.nD Cert.AdamwRestIdeal.τ).loc Cert.AdamwRestIdeal.main_arg11))
      ∧ r.2.sem = fun _ => 0)

def quiescent_AdamwRestRefIdeal [hAdamwRestRefIdeal : Cert.AdamwRestRefIdeal.Facts] : Prop :=
  ∀ (m : (ℓ : Loc Cert.AdamwRestRefIdeal.nD Cert.AdamwRestRefIdeal.τ Cert.AdamwRestRefIdeal.sig) → Buf (Elt Ideal) ℓ) (g : Dev Cert.AdamwRestRefIdeal.nD → PrngReg), Pre_AdamwRestRefIdeal m →
    θ_run (Cert.AdamwRestRefIdeal.defs (F := Ideal)) (onTc (τ := Cert.AdamwRestRefIdeal.τ) (Cert.AdamwRestRefIdeal.main (F := Ideal))) ⟨m, fun _ => 0, g⟩ (fun r => (∀ c : Dev Cert.AdamwRestRefIdeal.nD,
      r.2.mem ((c.tc : Thread Cert.AdamwRestRefIdeal.nD Cert.AdamwRestRefIdeal.τ).loc Cert.AdamwRestRefIdeal.main_arg0) = m ((c.tc : Thread Cert.AdamwRestRefIdeal.nD Cert.AdamwRestRefIdeal.τ).loc Cert.AdamwRestRefIdeal.main_arg0)
      ∧ r.2.mem ((c.tc : Thread Cert.AdamwRestRefIdeal.nD Cert.AdamwRestRefIdeal.τ).loc Cert.AdamwRestRefIdeal.main_arg1) = m ((c.tc : Thread Cert.AdamwRestRefIdeal.nD Cert.AdamwRestRefIdeal.τ).loc Cert.AdamwRestRefIdeal.main_arg1)
      ∧ r.2.mem ((c.tc : Thread Cert.AdamwRestRefIdeal.nD Cert.AdamwRestRefIdeal.τ).loc Cert.AdamwRestRefIdeal.main_arg2) = m ((c.tc : Thread Cert.AdamwRestRefIdeal.nD Cert.AdamwRestRefIdeal.τ).loc Cert.AdamwRestRefIdeal.main_arg2)
      ∧ r.2.mem ((c.tc : Thread Cert.AdamwRestRefIdeal.nD Cert.AdamwRestRefIdeal.τ).loc Cert.AdamwRestRefIdeal.main_arg3) = m ((c.tc : Thread Cert.AdamwRestRefIdeal.nD Cert.AdamwRestRefIdeal.τ).loc Cert.AdamwRestRefIdeal.main_arg3)
      ∧ r.2.mem ((c.tc : Thread Cert.AdamwRestRefIdeal.nD Cert.AdamwRestRefIdeal.τ).loc Cert.AdamwRestRefIdeal.main_arg4) = m ((c.tc : Thread Cert.AdamwRestRefIdeal.nD Cert.AdamwRestRefIdeal.τ).loc Cert.AdamwRestRefIdeal.main_arg4)
      ∧ r.2.mem ((c.tc : Thread Cert.AdamwRestRefIdeal.nD Cert.AdamwRestRefIdeal.τ).loc Cert.AdamwRestRefIdeal.main_arg5) = m ((c.tc : Thread Cert.AdamwRestRefIdeal.nD Cert.AdamwRestRefIdeal.τ).loc Cert.AdamwRestRefIdeal.main_arg5)
      ∧ r.2.mem ((c.tc : Thread Cert.AdamwRestRefIdeal.nD Cert.AdamwRestRefIdeal.τ).loc Cert.AdamwRestRefIdeal.main_arg6) = m ((c.tc : Thread Cert.AdamwRestRefIdeal.nD Cert.AdamwRestRefIdeal.τ).loc Cert.AdamwRestRefIdeal.main_arg6)
      ∧ r.2.mem ((c.tc : Thread Cert.AdamwRestRefIdeal.nD Cert.AdamwRestRefIdeal.τ).loc Cert.AdamwRestRefIdeal.main_arg7) = m ((c.tc : Thread Cert.AdamwRestRefIdeal.nD Cert.AdamwRestRefIdeal.τ).loc Cert.AdamwRestRefIdeal.main_arg7)
      ∧ r.2.mem ((c.tc : Thread Cert.AdamwRestRefIdeal.nD Cert.AdamwRestRefIdeal.τ).loc Cert.AdamwRestRefIdeal.main_arg8) = m ((c.tc : Thread Cert.AdamwRestRefIdeal.nD Cert.AdamwRestRefIdeal.τ).loc Cert.AdamwRestRefIdeal.main_arg8)
      ∧ r.2.mem ((c.tc : Thread Cert.AdamwRestRefIdeal.nD Cert.AdamwRestRefIdeal.τ).loc Cert.AdamwRestRefIdeal.main_arg9) = m ((c.tc : Thread Cert.AdamwRestRefIdeal.nD Cert.AdamwRestRefIdeal.τ).loc Cert.AdamwRestRefIdeal.main_arg9)
      ∧ r.2.mem ((c.tc : Thread Cert.AdamwRestRefIdeal.nD Cert.AdamwRestRefIdeal.τ).loc Cert.AdamwRestRefIdeal.main_arg10) = m ((c.tc : Thread Cert.AdamwRestRefIdeal.nD Cert.AdamwRestRefIdeal.τ).loc Cert.AdamwRestRefIdeal.main_arg10)
      ∧ r.2.mem ((c.tc : Thread Cert.AdamwRestRefIdeal.nD Cert.AdamwRestRefIdeal.τ).loc Cert.AdamwRestRefIdeal.main_arg11) = m ((c.tc : Thread Cert.AdamwRestRefIdeal.nD Cert.AdamwRestRefIdeal.τ).loc Cert.AdamwRestRefIdeal.main_arg11))
      ∧ r.2.sem = fun _ => 0)

def quiescent_FinishEvIn [hFinishEvIn : Cert.FinishEvIn.Facts] [hPre_own_block_ev_in : Cert.Pre_own_block_ev_in.Facts] : Prop :=
  ∀ (m : (ℓ : Loc Cert.FinishEvIn.nD Cert.FinishEvIn.τ Cert.FinishEvIn.sig) → Buf (Elt Bits) ℓ) (g : Dev Cert.FinishEvIn.nD → PrngReg), Pre_FinishEvIn m →
    θ_run (Cert.FinishEvIn.defs (F := Bits)) (onTc (τ := Cert.FinishEvIn.τ) (Cert.FinishEvIn.main (F := Bits))) ⟨m, fun _ => 0, g⟩ (fun r => (∀ c : Dev Cert.FinishEvIn.nD,
      r.2.mem ((c.tc : Thread Cert.FinishEvIn.nD Cert.FinishEvIn.τ).loc Cert.FinishEvIn.main_arg0) = m ((c.tc : Thread Cert.FinishEvIn.nD Cert.FinishEvIn.τ).loc Cert.FinishEvIn.main_arg0)
      ∧ r.2.mem ((c.tc : Thread Cert.FinishEvIn.nD Cert.FinishEvIn.τ).loc Cert.FinishEvIn.main_arg1) = m ((c.tc : Thread Cert.FinishEvIn.nD Cert.FinishEvIn.τ).loc Cert.FinishEvIn.main_arg1)
      ∧ r.2.mem ((c.tc : Thread Cert.FinishEvIn.nD Cert.FinishEvIn.τ).loc Cert.FinishEvIn.main_arg2) = m ((c.tc : Thread Cert.FinishEvIn.nD Cert.FinishEvIn.τ).loc Cert.FinishEvIn.main_arg2)
      ∧ r.2.mem ((c.tc : Thread Cert.FinishEvIn.nD Cert.FinishEvIn.τ).loc Cert.FinishEvIn.main_arg3) = m ((c.tc : Thread Cert.FinishEvIn.nD Cert.FinishEvIn.τ).loc Cert.FinishEvIn.main_arg3)
      ∧ r.2.mem ((c.tc : Thread Cert.FinishEvIn.nD Cert.FinishEvIn.τ).loc Cert.FinishEvIn.main_arg4) = m ((c.tc : Thread Cert.FinishEvIn.nD Cert.FinishEvIn.τ).loc Cert.FinishEvIn.main_arg4)
      ∧ r.2.mem ((c.tc : Thread Cert.FinishEvIn.nD Cert.FinishEvIn.τ).loc Cert.FinishEvIn.main_arg5) = m ((c.tc : Thread Cert.FinishEvIn.nD Cert.FinishEvIn.τ).loc Cert.FinishEvIn.main_arg5))
      ∧ r.2.sem = fun _ => 0)

def quiescent_FinishEvInIdeal [hFinishEvInIdeal : Cert.FinishEvInIdeal.Facts] [hPre_own_block_ev_in : Cert.Pre_own_block_ev_in.Facts] : Prop :=
  ∀ (m : (ℓ : Loc Cert.FinishEvInIdeal.nD Cert.FinishEvInIdeal.τ Cert.FinishEvInIdeal.sig) → Buf (Elt Ideal) ℓ) (g : Dev Cert.FinishEvInIdeal.nD → PrngReg), Pre_FinishEvInIdeal m →
    θ_run (Cert.FinishEvInIdeal.defs (F := Ideal)) (onTc (τ := Cert.FinishEvInIdeal.τ) (Cert.FinishEvInIdeal.main (F := Ideal))) ⟨m, fun _ => 0, g⟩ (fun r => (∀ c : Dev Cert.FinishEvInIdeal.nD,
      r.2.mem ((c.tc : Thread Cert.FinishEvInIdeal.nD Cert.FinishEvInIdeal.τ).loc Cert.FinishEvInIdeal.main_arg0) = m ((c.tc : Thread Cert.FinishEvInIdeal.nD Cert.FinishEvInIdeal.τ).loc Cert.FinishEvInIdeal.main_arg0)
      ∧ r.2.mem ((c.tc : Thread Cert.FinishEvInIdeal.nD Cert.FinishEvInIdeal.τ).loc Cert.FinishEvInIdeal.main_arg1) = m ((c.tc : Thread Cert.FinishEvInIdeal.nD Cert.FinishEvInIdeal.τ).loc Cert.FinishEvInIdeal.main_arg1)
      ∧ r.2.mem ((c.tc : Thread Cert.FinishEvInIdeal.nD Cert.FinishEvInIdeal.τ).loc Cert.FinishEvInIdeal.main_arg2) = m ((c.tc : Thread Cert.FinishEvInIdeal.nD Cert.FinishEvInIdeal.τ).loc Cert.FinishEvInIdeal.main_arg2)
      ∧ r.2.mem ((c.tc : Thread Cert.FinishEvInIdeal.nD Cert.FinishEvInIdeal.τ).loc Cert.FinishEvInIdeal.main_arg3) = m ((c.tc : Thread Cert.FinishEvInIdeal.nD Cert.FinishEvInIdeal.τ).loc Cert.FinishEvInIdeal.main_arg3)
      ∧ r.2.mem ((c.tc : Thread Cert.FinishEvInIdeal.nD Cert.FinishEvInIdeal.τ).loc Cert.FinishEvInIdeal.main_arg4) = m ((c.tc : Thread Cert.FinishEvInIdeal.nD Cert.FinishEvInIdeal.τ).loc Cert.FinishEvInIdeal.main_arg4)
      ∧ r.2.mem ((c.tc : Thread Cert.FinishEvInIdeal.nD Cert.FinishEvInIdeal.τ).loc Cert.FinishEvInIdeal.main_arg5) = m ((c.tc : Thread Cert.FinishEvInIdeal.nD Cert.FinishEvInIdeal.τ).loc Cert.FinishEvInIdeal.main_arg5))
      ∧ r.2.sem = fun _ => 0)

def quiescent_FinishEvInRefIdeal [hFinishEvInRefIdeal : Cert.FinishEvInRefIdeal.Facts] : Prop :=
  ∀ (m : (ℓ : Loc Cert.FinishEvInRefIdeal.nD Cert.FinishEvInRefIdeal.τ Cert.FinishEvInRefIdeal.sig) → Buf (Elt Ideal) ℓ) (g : Dev Cert.FinishEvInRefIdeal.nD → PrngReg), Pre_FinishEvInRefIdeal m →
    θ_run (Cert.FinishEvInRefIdeal.defs (F := Ideal)) (onTc (τ := Cert.FinishEvInRefIdeal.τ) (Cert.FinishEvInRefIdeal.main (F := Ideal))) ⟨m, fun _ => 0, g⟩ (fun r => (∀ c : Dev Cert.FinishEvInRefIdeal.nD,
      r.2.mem ((c.tc : Thread Cert.FinishEvInRefIdeal.nD Cert.FinishEvInRefIdeal.τ).loc Cert.FinishEvInRefIdeal.main_arg0) = m ((c.tc : Thread Cert.FinishEvInRefIdeal.nD Cert.FinishEvInRefIdeal.τ).loc Cert.FinishEvInRefIdeal.main_arg0)
      ∧ r.2.mem ((c.tc : Thread Cert.FinishEvInRefIdeal.nD Cert.FinishEvInRefIdeal.τ).loc Cert.FinishEvInRefIdeal.main_arg1) = m ((c.tc : Thread Cert.FinishEvInRefIdeal.nD Cert.FinishEvInRefIdeal.τ).loc Cert.FinishEvInRefIdeal.main_arg1)
      ∧ r.2.mem ((c.tc : Thread Cert.FinishEvInRefIdeal.nD Cert.FinishEvInRefIdeal.τ).loc Cert.FinishEvInRefIdeal.main_arg2) = m ((c.tc : Thread Cert.FinishEvInRefIdeal.nD Cert.FinishEvInRefIdeal.τ).loc Cert.FinishEvInRefIdeal.main_arg2)
      ∧ r.2.mem ((c.tc : Thread Cert.FinishEvInRefIdeal.nD Cert.FinishEvInRefIdeal.τ).loc Cert.FinishEvInRefIdeal.main_arg3) = m ((c.tc : Thread Cert.FinishEvInRefIdeal.nD Cert.FinishEvInRefIdeal.τ).loc Cert.FinishEvInRefIdeal.main_arg3)
      ∧ r.2.mem ((c.tc : Thread Cert.FinishEvInRefIdeal.nD Cert.FinishEvInRefIdeal.τ).loc Cert.FinishEvInRefIdeal.main_arg4) = m ((c.tc : Thread Cert.FinishEvInRefIdeal.nD Cert.FinishEvInRefIdeal.τ).loc Cert.FinishEvInRefIdeal.main_arg4)
      ∧ r.2.mem ((c.tc : Thread Cert.FinishEvInRefIdeal.nD Cert.FinishEvInRefIdeal.τ).loc Cert.FinishEvInRefIdeal.main_arg5) = m ((c.tc : Thread Cert.FinishEvInRefIdeal.nD Cert.FinishEvInRefIdeal.τ).loc Cert.FinishEvInRefIdeal.main_arg5))
      ∧ r.2.sem = fun _ => 0)

def quiescent_FinishEvInRefIdeal_pre_own_block_ev_in [hFinishEvInRefIdeal : Cert.FinishEvInRefIdeal.Facts] [hPre_own_block_ev_in : Cert.Pre_own_block_ev_in.Facts] : Prop :=
  ∀ (m : (ℓ : Loc Cert.FinishEvInRefIdeal.nD Cert.FinishEvInRefIdeal.τ Cert.FinishEvInRefIdeal.sig) → Buf (Elt Ideal) ℓ) (g : Dev Cert.FinishEvInRefIdeal.nD → PrngReg), Pre_FinishEvInRefIdeal_own_block_ev_in m →
    θ_run (Cert.FinishEvInRefIdeal.defs (F := Ideal)) (onTc (τ := Cert.FinishEvInRefIdeal.τ) (Cert.FinishEvInRefIdeal.main (F := Ideal))) ⟨m, fun _ => 0, g⟩ (fun r => (∀ c : Dev Cert.FinishEvInRefIdeal.nD,
      r.2.mem ((c.tc : Thread Cert.FinishEvInRefIdeal.nD Cert.FinishEvInRefIdeal.τ).loc Cert.FinishEvInRefIdeal.main_arg0) = m ((c.tc : Thread Cert.FinishEvInRefIdeal.nD Cert.FinishEvInRefIdeal.τ).loc Cert.FinishEvInRefIdeal.main_arg0)
      ∧ r.2.mem ((c.tc : Thread Cert.FinishEvInRefIdeal.nD Cert.FinishEvInRefIdeal.τ).loc Cert.FinishEvInRefIdeal.main_arg1) = m ((c.tc : Thread Cert.FinishEvInRefIdeal.nD Cert.FinishEvInRefIdeal.τ).loc Cert.FinishEvInRefIdeal.main_arg1)
      ∧ r.2.mem ((c.tc : Thread Cert.FinishEvInRefIdeal.nD Cert.FinishEvInRefIdeal.τ).loc Cert.FinishEvInRefIdeal.main_arg2) = m ((c.tc : Thread Cert.FinishEvInRefIdeal.nD Cert.FinishEvInRefIdeal.τ).loc Cert.FinishEvInRefIdeal.main_arg2)
      ∧ r.2.mem ((c.tc : Thread Cert.FinishEvInRefIdeal.nD Cert.FinishEvInRefIdeal.τ).loc Cert.FinishEvInRefIdeal.main_arg3) = m ((c.tc : Thread Cert.FinishEvInRefIdeal.nD Cert.FinishEvInRefIdeal.τ).loc Cert.FinishEvInRefIdeal.main_arg3)
      ∧ r.2.mem ((c.tc : Thread Cert.FinishEvInRefIdeal.nD Cert.FinishEvInRefIdeal.τ).loc Cert.FinishEvInRefIdeal.main_arg4) = m ((c.tc : Thread Cert.FinishEvInRefIdeal.nD Cert.FinishEvInRefIdeal.τ).loc Cert.FinishEvInRefIdeal.main_arg4)
      ∧ r.2.mem ((c.tc : Thread Cert.FinishEvInRefIdeal.nD Cert.FinishEvInRefIdeal.τ).loc Cert.FinishEvInRefIdeal.main_arg5) = m ((c.tc : Thread Cert.FinishEvInRefIdeal.nD Cert.FinishEvInRefIdeal.τ).loc Cert.FinishEvInRefIdeal.main_arg5))
      ∧ r.2.sem = fun _ => 0)

def quiescent_FinishOdIn [hFinishOdIn : Cert.FinishOdIn.Facts] [hPre_own_block_od_in : Cert.Pre_own_block_od_in.Facts] : Prop :=
  ∀ (m : (ℓ : Loc Cert.FinishOdIn.nD Cert.FinishOdIn.τ Cert.FinishOdIn.sig) → Buf (Elt Bits) ℓ) (g : Dev Cert.FinishOdIn.nD → PrngReg), Pre_FinishOdIn m →
    θ_run (Cert.FinishOdIn.defs (F := Bits)) (onTc (τ := Cert.FinishOdIn.τ) (Cert.FinishOdIn.main (F := Bits))) ⟨m, fun _ => 0, g⟩ (fun r => (∀ c : Dev Cert.FinishOdIn.nD,
      r.2.mem ((c.tc : Thread Cert.FinishOdIn.nD Cert.FinishOdIn.τ).loc Cert.FinishOdIn.main_arg0) = m ((c.tc : Thread Cert.FinishOdIn.nD Cert.FinishOdIn.τ).loc Cert.FinishOdIn.main_arg0)
      ∧ r.2.mem ((c.tc : Thread Cert.FinishOdIn.nD Cert.FinishOdIn.τ).loc Cert.FinishOdIn.main_arg1) = m ((c.tc : Thread Cert.FinishOdIn.nD Cert.FinishOdIn.τ).loc Cert.FinishOdIn.main_arg1)
      ∧ r.2.mem ((c.tc : Thread Cert.FinishOdIn.nD Cert.FinishOdIn.τ).loc Cert.FinishOdIn.main_arg2) = m ((c.tc : Thread Cert.FinishOdIn.nD Cert.FinishOdIn.τ).loc Cert.FinishOdIn.main_arg2)
      ∧ r.2.mem ((c.tc : Thread Cert.FinishOdIn.nD Cert.FinishOdIn.τ).loc Cert.FinishOdIn.main_arg3) = m ((c.tc : Thread Cert.FinishOdIn.nD Cert.FinishOdIn.τ).loc Cert.FinishOdIn.main_arg3)
      ∧ r.2.mem ((c.tc : Thread Cert.FinishOdIn.nD Cert.FinishOdIn.τ).loc Cert.FinishOdIn.main_arg4) = m ((c.tc : Thread Cert.FinishOdIn.nD Cert.FinishOdIn.τ).loc Cert.FinishOdIn.main_arg4)
      ∧ r.2.mem ((c.tc : Thread Cert.FinishOdIn.nD Cert.FinishOdIn.τ).loc Cert.FinishOdIn.main_arg5) = m ((c.tc : Thread Cert.FinishOdIn.nD Cert.FinishOdIn.τ).loc Cert.FinishOdIn.main_arg5))
      ∧ r.2.sem = fun _ => 0)

def quiescent_FinishOdInIdeal [hFinishOdInIdeal : Cert.FinishOdInIdeal.Facts] [hPre_own_block_od_in : Cert.Pre_own_block_od_in.Facts] : Prop :=
  ∀ (m : (ℓ : Loc Cert.FinishOdInIdeal.nD Cert.FinishOdInIdeal.τ Cert.FinishOdInIdeal.sig) → Buf (Elt Ideal) ℓ) (g : Dev Cert.FinishOdInIdeal.nD → PrngReg), Pre_FinishOdInIdeal m →
    θ_run (Cert.FinishOdInIdeal.defs (F := Ideal)) (onTc (τ := Cert.FinishOdInIdeal.τ) (Cert.FinishOdInIdeal.main (F := Ideal))) ⟨m, fun _ => 0, g⟩ (fun r => (∀ c : Dev Cert.FinishOdInIdeal.nD,
      r.2.mem ((c.tc : Thread Cert.FinishOdInIdeal.nD Cert.FinishOdInIdeal.τ).loc Cert.FinishOdInIdeal.main_arg0) = m ((c.tc : Thread Cert.FinishOdInIdeal.nD Cert.FinishOdInIdeal.τ).loc Cert.FinishOdInIdeal.main_arg0)
      ∧ r.2.mem ((c.tc : Thread Cert.FinishOdInIdeal.nD Cert.FinishOdInIdeal.τ).loc Cert.FinishOdInIdeal.main_arg1) = m ((c.tc : Thread Cert.FinishOdInIdeal.nD Cert.FinishOdInIdeal.τ).loc Cert.FinishOdInIdeal.main_arg1)
      ∧ r.2.mem ((c.tc : Thread Cert.FinishOdInIdeal.nD Cert.FinishOdInIdeal.τ).loc Cert.FinishOdInIdeal.main_arg2) = m ((c.tc : Thread Cert.FinishOdInIdeal.nD Cert.FinishOdInIdeal.τ).loc Cert.FinishOdInIdeal.main_arg2)
      ∧ r.2.mem ((c.tc : Thread Cert.FinishOdInIdeal.nD Cert.FinishOdInIdeal.τ).loc Cert.FinishOdInIdeal.main_arg3) = m ((c.tc : Thread Cert.FinishOdInIdeal.nD Cert.FinishOdInIdeal.τ).loc Cert.FinishOdInIdeal.main_arg3)
      ∧ r.2.mem ((c.tc : Thread Cert.FinishOdInIdeal.nD Cert.FinishOdInIdeal.τ).loc Cert.FinishOdInIdeal.main_arg4) = m ((c.tc : Thread Cert.FinishOdInIdeal.nD Cert.FinishOdInIdeal.τ).loc Cert.FinishOdInIdeal.main_arg4)
      ∧ r.2.mem ((c.tc : Thread Cert.FinishOdInIdeal.nD Cert.FinishOdInIdeal.τ).loc Cert.FinishOdInIdeal.main_arg5) = m ((c.tc : Thread Cert.FinishOdInIdeal.nD Cert.FinishOdInIdeal.τ).loc Cert.FinishOdInIdeal.main_arg5))
      ∧ r.2.sem = fun _ => 0)

def quiescent_FinishOdInRefIdeal [hFinishOdInRefIdeal : Cert.FinishOdInRefIdeal.Facts] : Prop :=
  ∀ (m : (ℓ : Loc Cert.FinishOdInRefIdeal.nD Cert.FinishOdInRefIdeal.τ Cert.FinishOdInRefIdeal.sig) → Buf (Elt Ideal) ℓ) (g : Dev Cert.FinishOdInRefIdeal.nD → PrngReg), Pre_FinishOdInRefIdeal m →
    θ_run (Cert.FinishOdInRefIdeal.defs (F := Ideal)) (onTc (τ := Cert.FinishOdInRefIdeal.τ) (Cert.FinishOdInRefIdeal.main (F := Ideal))) ⟨m, fun _ => 0, g⟩ (fun r => (∀ c : Dev Cert.FinishOdInRefIdeal.nD,
      r.2.mem ((c.tc : Thread Cert.FinishOdInRefIdeal.nD Cert.FinishOdInRefIdeal.τ).loc Cert.FinishOdInRefIdeal.main_arg0) = m ((c.tc : Thread Cert.FinishOdInRefIdeal.nD Cert.FinishOdInRefIdeal.τ).loc Cert.FinishOdInRefIdeal.main_arg0)
      ∧ r.2.mem ((c.tc : Thread Cert.FinishOdInRefIdeal.nD Cert.FinishOdInRefIdeal.τ).loc Cert.FinishOdInRefIdeal.main_arg1) = m ((c.tc : Thread Cert.FinishOdInRefIdeal.nD Cert.FinishOdInRefIdeal.τ).loc Cert.FinishOdInRefIdeal.main_arg1)
      ∧ r.2.mem ((c.tc : Thread Cert.FinishOdInRefIdeal.nD Cert.FinishOdInRefIdeal.τ).loc Cert.FinishOdInRefIdeal.main_arg2) = m ((c.tc : Thread Cert.FinishOdInRefIdeal.nD Cert.FinishOdInRefIdeal.τ).loc Cert.FinishOdInRefIdeal.main_arg2)
      ∧ r.2.mem ((c.tc : Thread Cert.FinishOdInRefIdeal.nD Cert.FinishOdInRefIdeal.τ).loc Cert.FinishOdInRefIdeal.main_arg3) = m ((c.tc : Thread Cert.FinishOdInRefIdeal.nD Cert.FinishOdInRefIdeal.τ).loc Cert.FinishOdInRefIdeal.main_arg3)
      ∧ r.2.mem ((c.tc : Thread Cert.FinishOdInRefIdeal.nD Cert.FinishOdInRefIdeal.τ).loc Cert.FinishOdInRefIdeal.main_arg4) = m ((c.tc : Thread Cert.FinishOdInRefIdeal.nD Cert.FinishOdInRefIdeal.τ).loc Cert.FinishOdInRefIdeal.main_arg4)
      ∧ r.2.mem ((c.tc : Thread Cert.FinishOdInRefIdeal.nD Cert.FinishOdInRefIdeal.τ).loc Cert.FinishOdInRefIdeal.main_arg5) = m ((c.tc : Thread Cert.FinishOdInRefIdeal.nD Cert.FinishOdInRefIdeal.τ).loc Cert.FinishOdInRefIdeal.main_arg5))
      ∧ r.2.sem = fun _ => 0)

def quiescent_FinishOdInRefIdeal_pre_own_block_od_in [hFinishOdInRefIdeal : Cert.FinishOdInRefIdeal.Facts] [hPre_own_block_od_in : Cert.Pre_own_block_od_in.Facts] : Prop :=
  ∀ (m : (ℓ : Loc Cert.FinishOdInRefIdeal.nD Cert.FinishOdInRefIdeal.τ Cert.FinishOdInRefIdeal.sig) → Buf (Elt Ideal) ℓ) (g : Dev Cert.FinishOdInRefIdeal.nD → PrngReg), Pre_FinishOdInRefIdeal_own_block_od_in m →
    θ_run (Cert.FinishOdInRefIdeal.defs (F := Ideal)) (onTc (τ := Cert.FinishOdInRefIdeal.τ) (Cert.FinishOdInRefIdeal.main (F := Ideal))) ⟨m, fun _ => 0, g⟩ (fun r => (∀ c : Dev Cert.FinishOdInRefIdeal.nD,
      r.2.mem ((c.tc : Thread Cert.FinishOdInRefIdeal.nD Cert.FinishOdInRefIdeal.τ).loc Cert.FinishOdInRefIdeal.main_arg0) = m ((c.tc : Thread Cert.FinishOdInRefIdeal.nD Cert.FinishOdInRefIdeal.τ).loc Cert.FinishOdInRefIdeal.main_arg0)
      ∧ r.2.mem ((c.tc : Thread Cert.FinishOdInRefIdeal.nD Cert.FinishOdInRefIdeal.τ).loc Cert.FinishOdInRefIdeal.main_arg1) = m ((c.tc : Thread Cert.FinishOdInRefIdeal.nD Cert.FinishOdInRefIdeal.τ).loc Cert.FinishOdInRefIdeal.main_arg1)
      ∧ r.2.mem ((c.tc : Thread Cert.FinishOdInRefIdeal.nD Cert.FinishOdInRefIdeal.τ).loc Cert.FinishOdInRefIdeal.main_arg2) = m ((c.tc : Thread Cert.FinishOdInRefIdeal.nD Cert.FinishOdInRefIdeal.τ).loc Cert.FinishOdInRefIdeal.main_arg2)
      ∧ r.2.mem ((c.tc : Thread Cert.FinishOdInRefIdeal.nD Cert.FinishOdInRefIdeal.τ).loc Cert.FinishOdInRefIdeal.main_arg3) = m ((c.tc : Thread Cert.FinishOdInRefIdeal.nD Cert.FinishOdInRefIdeal.τ).loc Cert.FinishOdInRefIdeal.main_arg3)
      ∧ r.2.mem ((c.tc : Thread Cert.FinishOdInRefIdeal.nD Cert.FinishOdInRefIdeal.τ).loc Cert.FinishOdInRefIdeal.main_arg4) = m ((c.tc : Thread Cert.FinishOdInRefIdeal.nD Cert.FinishOdInRefIdeal.τ).loc Cert.FinishOdInRefIdeal.main_arg4)
      ∧ r.2.mem ((c.tc : Thread Cert.FinishOdInRefIdeal.nD Cert.FinishOdInRefIdeal.τ).loc Cert.FinishOdInRefIdeal.main_arg5) = m ((c.tc : Thread Cert.FinishOdInRefIdeal.nD Cert.FinishOdInRefIdeal.τ).loc Cert.FinishOdInRefIdeal.main_arg5))
      ∧ r.2.sem = fun _ => 0)

def quiescent_FinishOut [hFinishOut : Cert.FinishOut.Facts] [hPre_own_block_out : Cert.Pre_own_block_out.Facts] : Prop :=
  ∀ (m : (ℓ : Loc Cert.FinishOut.nD Cert.FinishOut.τ Cert.FinishOut.sig) → Buf (Elt Bits) ℓ) (g : Dev Cert.FinishOut.nD → PrngReg), Pre_FinishOut m →
    θ_run (Cert.FinishOut.defs (F := Bits)) (onTc (τ := Cert.FinishOut.τ) (Cert.FinishOut.main (F := Bits))) ⟨m, fun _ => 0, g⟩ (fun r => (∀ c : Dev Cert.FinishOut.nD,
      r.2.mem ((c.tc : Thread Cert.FinishOut.nD Cert.FinishOut.τ).loc Cert.FinishOut.main_arg0) = m ((c.tc : Thread Cert.FinishOut.nD Cert.FinishOut.τ).loc Cert.FinishOut.main_arg0)
      ∧ r.2.mem ((c.tc : Thread Cert.FinishOut.nD Cert.FinishOut.τ).loc Cert.FinishOut.main_arg1) = m ((c.tc : Thread Cert.FinishOut.nD Cert.FinishOut.τ).loc Cert.FinishOut.main_arg1)
      ∧ r.2.mem ((c.tc : Thread Cert.FinishOut.nD Cert.FinishOut.τ).loc Cert.FinishOut.main_arg2) = m ((c.tc : Thread Cert.FinishOut.nD Cert.FinishOut.τ).loc Cert.FinishOut.main_arg2)
      ∧ r.2.mem ((c.tc : Thread Cert.FinishOut.nD Cert.FinishOut.τ).loc Cert.FinishOut.main_arg3) = m ((c.tc : Thread Cert.FinishOut.nD Cert.FinishOut.τ).loc Cert.FinishOut.main_arg3)
      ∧ r.2.mem ((c.tc : Thread Cert.FinishOut.nD Cert.FinishOut.τ).loc Cert.FinishOut.main_arg4) = m ((c.tc : Thread Cert.FinishOut.nD Cert.FinishOut.τ).loc Cert.FinishOut.main_arg4)
      ∧ r.2.mem ((c.tc : Thread Cert.FinishOut.nD Cert.FinishOut.τ).loc Cert.FinishOut.main_arg5) = m ((c.tc : Thread Cert.FinishOut.nD Cert.FinishOut.τ).loc Cert.FinishOut.main_arg5))
      ∧ r.2.sem = fun _ => 0)

def quiescent_FinishOutIdeal [hFinishOutIdeal : Cert.FinishOutIdeal.Facts] [hPre_own_block_out : Cert.Pre_own_block_out.Facts] : Prop :=
  ∀ (m : (ℓ : Loc Cert.FinishOutIdeal.nD Cert.FinishOutIdeal.τ Cert.FinishOutIdeal.sig) → Buf (Elt Ideal) ℓ) (g : Dev Cert.FinishOutIdeal.nD → PrngReg), Pre_FinishOutIdeal m →
    θ_run (Cert.FinishOutIdeal.defs (F := Ideal)) (onTc (τ := Cert.FinishOutIdeal.τ) (Cert.FinishOutIdeal.main (F := Ideal))) ⟨m, fun _ => 0, g⟩ (fun r => (∀ c : Dev Cert.FinishOutIdeal.nD,
      r.2.mem ((c.tc : Thread Cert.FinishOutIdeal.nD Cert.FinishOutIdeal.τ).loc Cert.FinishOutIdeal.main_arg0) = m ((c.tc : Thread Cert.FinishOutIdeal.nD Cert.FinishOutIdeal.τ).loc Cert.FinishOutIdeal.main_arg0)
      ∧ r.2.mem ((c.tc : Thread Cert.FinishOutIdeal.nD Cert.FinishOutIdeal.τ).loc Cert.FinishOutIdeal.main_arg1) = m ((c.tc : Thread Cert.FinishOutIdeal.nD Cert.FinishOutIdeal.τ).loc Cert.FinishOutIdeal.main_arg1)
      ∧ r.2.mem ((c.tc : Thread Cert.FinishOutIdeal.nD Cert.FinishOutIdeal.τ).loc Cert.FinishOutIdeal.main_arg2) = m ((c.tc : Thread Cert.FinishOutIdeal.nD Cert.FinishOutIdeal.τ).loc Cert.FinishOutIdeal.main_arg2)
      ∧ r.2.mem ((c.tc : Thread Cert.FinishOutIdeal.nD Cert.FinishOutIdeal.τ).loc Cert.FinishOutIdeal.main_arg3) = m ((c.tc : Thread Cert.FinishOutIdeal.nD Cert.FinishOutIdeal.τ).loc Cert.FinishOutIdeal.main_arg3)
      ∧ r.2.mem ((c.tc : Thread Cert.FinishOutIdeal.nD Cert.FinishOutIdeal.τ).loc Cert.FinishOutIdeal.main_arg4) = m ((c.tc : Thread Cert.FinishOutIdeal.nD Cert.FinishOutIdeal.τ).loc Cert.FinishOutIdeal.main_arg4)
      ∧ r.2.mem ((c.tc : Thread Cert.FinishOutIdeal.nD Cert.FinishOutIdeal.τ).loc Cert.FinishOutIdeal.main_arg5) = m ((c.tc : Thread Cert.FinishOutIdeal.nD Cert.FinishOutIdeal.τ).loc Cert.FinishOutIdeal.main_arg5))
      ∧ r.2.sem = fun _ => 0)

def quiescent_FinishOutRefIdeal [hFinishOutRefIdeal : Cert.FinishOutRefIdeal.Facts] : Prop :=
  ∀ (m : (ℓ : Loc Cert.FinishOutRefIdeal.nD Cert.FinishOutRefIdeal.τ Cert.FinishOutRefIdeal.sig) → Buf (Elt Ideal) ℓ) (g : Dev Cert.FinishOutRefIdeal.nD → PrngReg), Pre_FinishOutRefIdeal m →
    θ_run (Cert.FinishOutRefIdeal.defs (F := Ideal)) (onTc (τ := Cert.FinishOutRefIdeal.τ) (Cert.FinishOutRefIdeal.main (F := Ideal))) ⟨m, fun _ => 0, g⟩ (fun r => (∀ c : Dev Cert.FinishOutRefIdeal.nD,
      r.2.mem ((c.tc : Thread Cert.FinishOutRefIdeal.nD Cert.FinishOutRefIdeal.τ).loc Cert.FinishOutRefIdeal.main_arg0) = m ((c.tc : Thread Cert.FinishOutRefIdeal.nD Cert.FinishOutRefIdeal.τ).loc Cert.FinishOutRefIdeal.main_arg0)
      ∧ r.2.mem ((c.tc : Thread Cert.FinishOutRefIdeal.nD Cert.FinishOutRefIdeal.τ).loc Cert.FinishOutRefIdeal.main_arg1) = m ((c.tc : Thread Cert.FinishOutRefIdeal.nD Cert.FinishOutRefIdeal.τ).loc Cert.FinishOutRefIdeal.main_arg1)
      ∧ r.2.mem ((c.tc : Thread Cert.FinishOutRefIdeal.nD Cert.FinishOutRefIdeal.τ).loc Cert.FinishOutRefIdeal.main_arg2) = m ((c.tc : Thread Cert.FinishOutRefIdeal.nD Cert.FinishOutRefIdeal.τ).loc Cert.FinishOutRefIdeal.main_arg2)
      ∧ r.2.mem ((c.tc : Thread Cert.FinishOutRefIdeal.nD Cert.FinishOutRefIdeal.τ).loc Cert.FinishOutRefIdeal.main_arg3) = m ((c.tc : Thread Cert.FinishOutRefIdeal.nD Cert.FinishOutRefIdeal.τ).loc Cert.FinishOutRefIdeal.main_arg3)
      ∧ r.2.mem ((c.tc : Thread Cert.FinishOutRefIdeal.nD Cert.FinishOutRefIdeal.τ).loc Cert.FinishOutRefIdeal.main_arg4) = m ((c.tc : Thread Cert.FinishOutRefIdeal.nD Cert.FinishOutRefIdeal.τ).loc Cert.FinishOutRefIdeal.main_arg4)
      ∧ r.2.mem ((c.tc : Thread Cert.FinishOutRefIdeal.nD Cert.FinishOutRefIdeal.τ).loc Cert.FinishOutRefIdeal.main_arg5) = m ((c.tc : Thread Cert.FinishOutRefIdeal.nD Cert.FinishOutRefIdeal.τ).loc Cert.FinishOutRefIdeal.main_arg5))
      ∧ r.2.sem = fun _ => 0)

def quiescent_FinishOutRefIdeal_pre_own_block_out [hFinishOutRefIdeal : Cert.FinishOutRefIdeal.Facts] [hPre_own_block_out : Cert.Pre_own_block_out.Facts] : Prop :=
  ∀ (m : (ℓ : Loc Cert.FinishOutRefIdeal.nD Cert.FinishOutRefIdeal.τ Cert.FinishOutRefIdeal.sig) → Buf (Elt Ideal) ℓ) (g : Dev Cert.FinishOutRefIdeal.nD → PrngReg), Pre_FinishOutRefIdeal_own_block_out m →
    θ_run (Cert.FinishOutRefIdeal.defs (F := Ideal)) (onTc (τ := Cert.FinishOutRefIdeal.τ) (Cert.FinishOutRefIdeal.main (F := Ideal))) ⟨m, fun _ => 0, g⟩ (fun r => (∀ c : Dev Cert.FinishOutRefIdeal.nD,
      r.2.mem ((c.tc : Thread Cert.FinishOutRefIdeal.nD Cert.FinishOutRefIdeal.τ).loc Cert.FinishOutRefIdeal.main_arg0) = m ((c.tc : Thread Cert.FinishOutRefIdeal.nD Cert.FinishOutRefIdeal.τ).loc Cert.FinishOutRefIdeal.main_arg0)
      ∧ r.2.mem ((c.tc : Thread Cert.FinishOutRefIdeal.nD Cert.FinishOutRefIdeal.τ).loc Cert.FinishOutRefIdeal.main_arg1) = m ((c.tc : Thread Cert.FinishOutRefIdeal.nD Cert.FinishOutRefIdeal.τ).loc Cert.FinishOutRefIdeal.main_arg1)
      ∧ r.2.mem ((c.tc : Thread Cert.FinishOutRefIdeal.nD Cert.FinishOutRefIdeal.τ).loc Cert.FinishOutRefIdeal.main_arg2) = m ((c.tc : Thread Cert.FinishOutRefIdeal.nD Cert.FinishOutRefIdeal.τ).loc Cert.FinishOutRefIdeal.main_arg2)
      ∧ r.2.mem ((c.tc : Thread Cert.FinishOutRefIdeal.nD Cert.FinishOutRefIdeal.τ).loc Cert.FinishOutRefIdeal.main_arg3) = m ((c.tc : Thread Cert.FinishOutRefIdeal.nD Cert.FinishOutRefIdeal.τ).loc Cert.FinishOutRefIdeal.main_arg3)
      ∧ r.2.mem ((c.tc : Thread Cert.FinishOutRefIdeal.nD Cert.FinishOutRefIdeal.τ).loc Cert.FinishOutRefIdeal.main_arg4) = m ((c.tc : Thread Cert.FinishOutRefIdeal.nD Cert.FinishOutRefIdeal.τ).loc Cert.FinishOutRefIdeal.main_arg4)
      ∧ r.2.mem ((c.tc : Thread Cert.FinishOutRefIdeal.nD Cert.FinishOutRefIdeal.τ).loc Cert.FinishOutRefIdeal.main_arg5) = m ((c.tc : Thread Cert.FinishOutRefIdeal.nD Cert.FinishOutRefIdeal.τ).loc Cert.FinishOutRefIdeal.main_arg5))
      ∧ r.2.sem = fun _ => 0)

def quiescent_FinishXa [hFinishXa : Cert.FinishXa.Facts] [hPre_own_block_xa : Cert.Pre_own_block_xa.Facts] : Prop :=
  ∀ (m : (ℓ : Loc Cert.FinishXa.nD Cert.FinishXa.τ Cert.FinishXa.sig) → Buf (Elt Bits) ℓ) (g : Dev Cert.FinishXa.nD → PrngReg), Pre_FinishXa m →
    θ_run (Cert.FinishXa.defs (F := Bits)) (onTc (τ := Cert.FinishXa.τ) (Cert.FinishXa.main (F := Bits))) ⟨m, fun _ => 0, g⟩ (fun r => (∀ c : Dev Cert.FinishXa.nD,
      r.2.mem ((c.tc : Thread Cert.FinishXa.nD Cert.FinishXa.τ).loc Cert.FinishXa.main_arg0) = m ((c.tc : Thread Cert.FinishXa.nD Cert.FinishXa.τ).loc Cert.FinishXa.main_arg0)
      ∧ r.2.mem ((c.tc : Thread Cert.FinishXa.nD Cert.FinishXa.τ).loc Cert.FinishXa.main_arg1) = m ((c.tc : Thread Cert.FinishXa.nD Cert.FinishXa.τ).loc Cert.FinishXa.main_arg1)
      ∧ r.2.mem ((c.tc : Thread Cert.FinishXa.nD Cert.FinishXa.τ).loc Cert.FinishXa.main_arg2) = m ((c.tc : Thread Cert.FinishXa.nD Cert.FinishXa.τ).loc Cert.FinishXa.main_arg2)
      ∧ r.2.mem ((c.tc : Thread Cert.FinishXa.nD Cert.FinishXa.τ).loc Cert.FinishXa.main_arg3) = m ((c.tc : Thread Cert.FinishXa.nD Cert.FinishXa.τ).loc Cert.FinishXa.main_arg3)
      ∧ r.2.mem ((c.tc : Thread Cert.FinishXa.nD Cert.FinishXa.τ).loc Cert.FinishXa.main_arg4) = m ((c.tc : Thread Cert.FinishXa.nD Cert.FinishXa.τ).loc Cert.FinishXa.main_arg4)
      ∧ r.2.mem ((c.tc : Thread Cert.FinishXa.nD Cert.FinishXa.τ).loc Cert.FinishXa.main_arg5) = m ((c.tc : Thread Cert.FinishXa.nD Cert.FinishXa.τ).loc Cert.FinishXa.main_arg5)
      ∧ r.2.mem ((c.tc : Thread Cert.FinishXa.nD Cert.FinishXa.τ).loc Cert.FinishXa.main_arg6) = m ((c.tc : Thread Cert.FinishXa.nD Cert.FinishXa.τ).loc Cert.FinishXa.main_arg6)
      ∧ r.2.mem ((c.tc : Thread Cert.FinishXa.nD Cert.FinishXa.τ).loc Cert.FinishXa.main_arg7) = m ((c.tc : Thread Cert.FinishXa.nD Cert.FinishXa.τ).loc Cert.FinishXa.main_arg7))
      ∧ r.2.sem = fun _ => 0)

def quiescent_FinishXaIdeal [hFinishXaIdeal : Cert.FinishXaIdeal.Facts] [hPre_own_block_xa : Cert.Pre_own_block_xa.Facts] : Prop :=
  ∀ (m : (ℓ : Loc Cert.FinishXaIdeal.nD Cert.FinishXaIdeal.τ Cert.FinishXaIdeal.sig) → Buf (Elt Ideal) ℓ) (g : Dev Cert.FinishXaIdeal.nD → PrngReg), Pre_FinishXaIdeal m →
    θ_run (Cert.FinishXaIdeal.defs (F := Ideal)) (onTc (τ := Cert.FinishXaIdeal.τ) (Cert.FinishXaIdeal.main (F := Ideal))) ⟨m, fun _ => 0, g⟩ (fun r => (∀ c : Dev Cert.FinishXaIdeal.nD,
      r.2.mem ((c.tc : Thread Cert.FinishXaIdeal.nD Cert.FinishXaIdeal.τ).loc Cert.FinishXaIdeal.main_arg0) = m ((c.tc : Thread Cert.FinishXaIdeal.nD Cert.FinishXaIdeal.τ).loc Cert.FinishXaIdeal.main_arg0)
      ∧ r.2.mem ((c.tc : Thread Cert.FinishXaIdeal.nD Cert.FinishXaIdeal.τ).loc Cert.FinishXaIdeal.main_arg1) = m ((c.tc : Thread Cert.FinishXaIdeal.nD Cert.FinishXaIdeal.τ).loc Cert.FinishXaIdeal.main_arg1)
      ∧ r.2.mem ((c.tc : Thread Cert.FinishXaIdeal.nD Cert.FinishXaIdeal.τ).loc Cert.FinishXaIdeal.main_arg2) = m ((c.tc : Thread Cert.FinishXaIdeal.nD Cert.FinishXaIdeal.τ).loc Cert.FinishXaIdeal.main_arg2)
      ∧ r.2.mem ((c.tc : Thread Cert.FinishXaIdeal.nD Cert.FinishXaIdeal.τ).loc Cert.FinishXaIdeal.main_arg3) = m ((c.tc : Thread Cert.FinishXaIdeal.nD Cert.FinishXaIdeal.τ).loc Cert.FinishXaIdeal.main_arg3)
      ∧ r.2.mem ((c.tc : Thread Cert.FinishXaIdeal.nD Cert.FinishXaIdeal.τ).loc Cert.FinishXaIdeal.main_arg4) = m ((c.tc : Thread Cert.FinishXaIdeal.nD Cert.FinishXaIdeal.τ).loc Cert.FinishXaIdeal.main_arg4)
      ∧ r.2.mem ((c.tc : Thread Cert.FinishXaIdeal.nD Cert.FinishXaIdeal.τ).loc Cert.FinishXaIdeal.main_arg5) = m ((c.tc : Thread Cert.FinishXaIdeal.nD Cert.FinishXaIdeal.τ).loc Cert.FinishXaIdeal.main_arg5)
      ∧ r.2.mem ((c.tc : Thread Cert.FinishXaIdeal.nD Cert.FinishXaIdeal.τ).loc Cert.FinishXaIdeal.main_arg6) = m ((c.tc : Thread Cert.FinishXaIdeal.nD Cert.FinishXaIdeal.τ).loc Cert.FinishXaIdeal.main_arg6)
      ∧ r.2.mem ((c.tc : Thread Cert.FinishXaIdeal.nD Cert.FinishXaIdeal.τ).loc Cert.FinishXaIdeal.main_arg7) = m ((c.tc : Thread Cert.FinishXaIdeal.nD Cert.FinishXaIdeal.τ).loc Cert.FinishXaIdeal.main_arg7))
      ∧ r.2.sem = fun _ => 0)

def quiescent_FinishXaRefIdeal [hFinishXaRefIdeal : Cert.FinishXaRefIdeal.Facts] : Prop :=
  ∀ (m : (ℓ : Loc Cert.FinishXaRefIdeal.nD Cert.FinishXaRefIdeal.τ Cert.FinishXaRefIdeal.sig) → Buf (Elt Ideal) ℓ) (g : Dev Cert.FinishXaRefIdeal.nD → PrngReg), Pre_FinishXaRefIdeal m →
    θ_run (Cert.FinishXaRefIdeal.defs (F := Ideal)) (onTc (τ := Cert.FinishXaRefIdeal.τ) (Cert.FinishXaRefIdeal.main (F := Ideal))) ⟨m, fun _ => 0, g⟩ (fun r => (∀ c : Dev Cert.FinishXaRefIdeal.nD,
      r.2.mem ((c.tc : Thread Cert.FinishXaRefIdeal.nD Cert.FinishXaRefIdeal.τ).loc Cert.FinishXaRefIdeal.main_arg0) = m ((c.tc : Thread Cert.FinishXaRefIdeal.nD Cert.FinishXaRefIdeal.τ).loc Cert.FinishXaRefIdeal.main_arg0)
      ∧ r.2.mem ((c.tc : Thread Cert.FinishXaRefIdeal.nD Cert.FinishXaRefIdeal.τ).loc Cert.FinishXaRefIdeal.main_arg1) = m ((c.tc : Thread Cert.FinishXaRefIdeal.nD Cert.FinishXaRefIdeal.τ).loc Cert.FinishXaRefIdeal.main_arg1)
      ∧ r.2.mem ((c.tc : Thread Cert.FinishXaRefIdeal.nD Cert.FinishXaRefIdeal.τ).loc Cert.FinishXaRefIdeal.main_arg2) = m ((c.tc : Thread Cert.FinishXaRefIdeal.nD Cert.FinishXaRefIdeal.τ).loc Cert.FinishXaRefIdeal.main_arg2)
      ∧ r.2.mem ((c.tc : Thread Cert.FinishXaRefIdeal.nD Cert.FinishXaRefIdeal.τ).loc Cert.FinishXaRefIdeal.main_arg3) = m ((c.tc : Thread Cert.FinishXaRefIdeal.nD Cert.FinishXaRefIdeal.τ).loc Cert.FinishXaRefIdeal.main_arg3)
      ∧ r.2.mem ((c.tc : Thread Cert.FinishXaRefIdeal.nD Cert.FinishXaRefIdeal.τ).loc Cert.FinishXaRefIdeal.main_arg4) = m ((c.tc : Thread Cert.FinishXaRefIdeal.nD Cert.FinishXaRefIdeal.τ).loc Cert.FinishXaRefIdeal.main_arg4)
      ∧ r.2.mem ((c.tc : Thread Cert.FinishXaRefIdeal.nD Cert.FinishXaRefIdeal.τ).loc Cert.FinishXaRefIdeal.main_arg5) = m ((c.tc : Thread Cert.FinishXaRefIdeal.nD Cert.FinishXaRefIdeal.τ).loc Cert.FinishXaRefIdeal.main_arg5)
      ∧ r.2.mem ((c.tc : Thread Cert.FinishXaRefIdeal.nD Cert.FinishXaRefIdeal.τ).loc Cert.FinishXaRefIdeal.main_arg6) = m ((c.tc : Thread Cert.FinishXaRefIdeal.nD Cert.FinishXaRefIdeal.τ).loc Cert.FinishXaRefIdeal.main_arg6)
      ∧ r.2.mem ((c.tc : Thread Cert.FinishXaRefIdeal.nD Cert.FinishXaRefIdeal.τ).loc Cert.FinishXaRefIdeal.main_arg7) = m ((c.tc : Thread Cert.FinishXaRefIdeal.nD Cert.FinishXaRefIdeal.τ).loc Cert.FinishXaRefIdeal.main_arg7))
      ∧ r.2.sem = fun _ => 0)

def quiescent_FinishXaRefIdeal_pre_own_block_xa [hFinishXaRefIdeal : Cert.FinishXaRefIdeal.Facts] [hPre_own_block_xa : Cert.Pre_own_block_xa.Facts] : Prop :=
  ∀ (m : (ℓ : Loc Cert.FinishXaRefIdeal.nD Cert.FinishXaRefIdeal.τ Cert.FinishXaRefIdeal.sig) → Buf (Elt Ideal) ℓ) (g : Dev Cert.FinishXaRefIdeal.nD → PrngReg), Pre_FinishXaRefIdeal_own_block_xa m →
    θ_run (Cert.FinishXaRefIdeal.defs (F := Ideal)) (onTc (τ := Cert.FinishXaRefIdeal.τ) (Cert.FinishXaRefIdeal.main (F := Ideal))) ⟨m, fun _ => 0, g⟩ (fun r => (∀ c : Dev Cert.FinishXaRefIdeal.nD,
      r.2.mem ((c.tc : Thread Cert.FinishXaRefIdeal.nD Cert.FinishXaRefIdeal.τ).loc Cert.FinishXaRefIdeal.main_arg0) = m ((c.tc : Thread Cert.FinishXaRefIdeal.nD Cert.FinishXaRefIdeal.τ).loc Cert.FinishXaRefIdeal.main_arg0)
      ∧ r.2.mem ((c.tc : Thread Cert.FinishXaRefIdeal.nD Cert.FinishXaRefIdeal.τ).loc Cert.FinishXaRefIdeal.main_arg1) = m ((c.tc : Thread Cert.FinishXaRefIdeal.nD Cert.FinishXaRefIdeal.τ).loc Cert.FinishXaRefIdeal.main_arg1)
      ∧ r.2.mem ((c.tc : Thread Cert.FinishXaRefIdeal.nD Cert.FinishXaRefIdeal.τ).loc Cert.FinishXaRefIdeal.main_arg2) = m ((c.tc : Thread Cert.FinishXaRefIdeal.nD Cert.FinishXaRefIdeal.τ).loc Cert.FinishXaRefIdeal.main_arg2)
      ∧ r.2.mem ((c.tc : Thread Cert.FinishXaRefIdeal.nD Cert.FinishXaRefIdeal.τ).loc Cert.FinishXaRefIdeal.main_arg3) = m ((c.tc : Thread Cert.FinishXaRefIdeal.nD Cert.FinishXaRefIdeal.τ).loc Cert.FinishXaRefIdeal.main_arg3)
      ∧ r.2.mem ((c.tc : Thread Cert.FinishXaRefIdeal.nD Cert.FinishXaRefIdeal.τ).loc Cert.FinishXaRefIdeal.main_arg4) = m ((c.tc : Thread Cert.FinishXaRefIdeal.nD Cert.FinishXaRefIdeal.τ).loc Cert.FinishXaRefIdeal.main_arg4)
      ∧ r.2.mem ((c.tc : Thread Cert.FinishXaRefIdeal.nD Cert.FinishXaRefIdeal.τ).loc Cert.FinishXaRefIdeal.main_arg5) = m ((c.tc : Thread Cert.FinishXaRefIdeal.nD Cert.FinishXaRefIdeal.τ).loc Cert.FinishXaRefIdeal.main_arg5)
      ∧ r.2.mem ((c.tc : Thread Cert.FinishXaRefIdeal.nD Cert.FinishXaRefIdeal.τ).loc Cert.FinishXaRefIdeal.main_arg6) = m ((c.tc : Thread Cert.FinishXaRefIdeal.nD Cert.FinishXaRefIdeal.τ).loc Cert.FinishXaRefIdeal.main_arg6)
      ∧ r.2.mem ((c.tc : Thread Cert.FinishXaRefIdeal.nD Cert.FinishXaRefIdeal.τ).loc Cert.FinishXaRefIdeal.main_arg7) = m ((c.tc : Thread Cert.FinishXaRefIdeal.nD Cert.FinishXaRefIdeal.τ).loc Cert.FinishXaRefIdeal.main_arg7))
      ∧ r.2.sem = fun _ => 0)

def quiescent_FinishFfn [hFinishFfn : Cert.FinishFfn.Facts] [hPre_own_block_ffn : Cert.Pre_own_block_ffn.Facts] : Prop :=
  ∀ (m : (ℓ : Loc Cert.FinishFfn.nD Cert.FinishFfn.τ Cert.FinishFfn.sig) → Buf (Elt Bits) ℓ) (g : Dev Cert.FinishFfn.nD → PrngReg), Pre_FinishFfn m →
    θ_run (Cert.FinishFfn.defs (F := Bits)) (onTc (τ := Cert.FinishFfn.τ) (Cert.FinishFfn.main (F := Bits))) ⟨m, fun _ => 0, g⟩ (fun r => (∀ c : Dev Cert.FinishFfn.nD,
      r.2.mem ((c.tc : Thread Cert.FinishFfn.nD Cert.FinishFfn.τ).loc Cert.FinishFfn.main_arg0) = m ((c.tc : Thread Cert.FinishFfn.nD Cert.FinishFfn.τ).loc Cert.FinishFfn.main_arg0)
      ∧ r.2.mem ((c.tc : Thread Cert.FinishFfn.nD Cert.FinishFfn.τ).loc Cert.FinishFfn.main_arg1) = m ((c.tc : Thread Cert.FinishFfn.nD Cert.FinishFfn.τ).loc Cert.FinishFfn.main_arg1)
      ∧ r.2.mem ((c.tc : Thread Cert.FinishFfn.nD Cert.FinishFfn.τ).loc Cert.FinishFfn.main_arg2) = m ((c.tc : Thread Cert.FinishFfn.nD Cert.FinishFfn.τ).loc Cert.FinishFfn.main_arg2)
      ∧ r.2.mem ((c.tc : Thread Cert.FinishFfn.nD Cert.FinishFfn.τ).loc Cert.FinishFfn.main_arg3) = m ((c.tc : Thread Cert.FinishFfn.nD Cert.FinishFfn.τ).loc Cert.FinishFfn.main_arg3)
      ∧ r.2.mem ((c.tc : Thread Cert.FinishFfn.nD Cert.FinishFfn.τ).loc Cert.FinishFfn.main_arg4) = m ((c.tc : Thread Cert.FinishFfn.nD Cert.FinishFfn.τ).loc Cert.FinishFfn.main_arg4)
      ∧ r.2.mem ((c.tc : Thread Cert.FinishFfn.nD Cert.FinishFfn.τ).loc Cert.FinishFfn.main_arg5) = m ((c.tc : Thread Cert.FinishFfn.nD Cert.FinishFfn.τ).loc Cert.FinishFfn.main_arg5)
      ∧ r.2.mem ((c.tc : Thread Cert.FinishFfn.nD Cert.FinishFfn.τ).loc Cert.FinishFfn.main_arg6) = m ((c.tc : Thread Cert.FinishFfn.nD Cert.FinishFfn.τ).loc Cert.FinishFfn.main_arg6)
      ∧ r.2.mem ((c.tc : Thread Cert.FinishFfn.nD Cert.FinishFfn.τ).loc Cert.FinishFfn.main_arg7) = m ((c.tc : Thread Cert.FinishFfn.nD Cert.FinishFfn.τ).loc Cert.FinishFfn.main_arg7))
      ∧ r.2.sem = fun _ => 0)

def quiescent_FinishFfnIdeal [hFinishFfnIdeal : Cert.FinishFfnIdeal.Facts] [hPre_own_block_ffn : Cert.Pre_own_block_ffn.Facts] : Prop :=
  ∀ (m : (ℓ : Loc Cert.FinishFfnIdeal.nD Cert.FinishFfnIdeal.τ Cert.FinishFfnIdeal.sig) → Buf (Elt Ideal) ℓ) (g : Dev Cert.FinishFfnIdeal.nD → PrngReg), Pre_FinishFfnIdeal m →
    θ_run (Cert.FinishFfnIdeal.defs (F := Ideal)) (onTc (τ := Cert.FinishFfnIdeal.τ) (Cert.FinishFfnIdeal.main (F := Ideal))) ⟨m, fun _ => 0, g⟩ (fun r => (∀ c : Dev Cert.FinishFfnIdeal.nD,
      r.2.mem ((c.tc : Thread Cert.FinishFfnIdeal.nD Cert.FinishFfnIdeal.τ).loc Cert.FinishFfnIdeal.main_arg0) = m ((c.tc : Thread Cert.FinishFfnIdeal.nD Cert.FinishFfnIdeal.τ).loc Cert.FinishFfnIdeal.main_arg0)
      ∧ r.2.mem ((c.tc : Thread Cert.FinishFfnIdeal.nD Cert.FinishFfnIdeal.τ).loc Cert.FinishFfnIdeal.main_arg1) = m ((c.tc : Thread Cert.FinishFfnIdeal.nD Cert.FinishFfnIdeal.τ).loc Cert.FinishFfnIdeal.main_arg1)
      ∧ r.2.mem ((c.tc : Thread Cert.FinishFfnIdeal.nD Cert.FinishFfnIdeal.τ).loc Cert.FinishFfnIdeal.main_arg2) = m ((c.tc : Thread Cert.FinishFfnIdeal.nD Cert.FinishFfnIdeal.τ).loc Cert.FinishFfnIdeal.main_arg2)
      ∧ r.2.mem ((c.tc : Thread Cert.FinishFfnIdeal.nD Cert.FinishFfnIdeal.τ).loc Cert.FinishFfnIdeal.main_arg3) = m ((c.tc : Thread Cert.FinishFfnIdeal.nD Cert.FinishFfnIdeal.τ).loc Cert.FinishFfnIdeal.main_arg3)
      ∧ r.2.mem ((c.tc : Thread Cert.FinishFfnIdeal.nD Cert.FinishFfnIdeal.τ).loc Cert.FinishFfnIdeal.main_arg4) = m ((c.tc : Thread Cert.FinishFfnIdeal.nD Cert.FinishFfnIdeal.τ).loc Cert.FinishFfnIdeal.main_arg4)
      ∧ r.2.mem ((c.tc : Thread Cert.FinishFfnIdeal.nD Cert.FinishFfnIdeal.τ).loc Cert.FinishFfnIdeal.main_arg5) = m ((c.tc : Thread Cert.FinishFfnIdeal.nD Cert.FinishFfnIdeal.τ).loc Cert.FinishFfnIdeal.main_arg5)
      ∧ r.2.mem ((c.tc : Thread Cert.FinishFfnIdeal.nD Cert.FinishFfnIdeal.τ).loc Cert.FinishFfnIdeal.main_arg6) = m ((c.tc : Thread Cert.FinishFfnIdeal.nD Cert.FinishFfnIdeal.τ).loc Cert.FinishFfnIdeal.main_arg6)
      ∧ r.2.mem ((c.tc : Thread Cert.FinishFfnIdeal.nD Cert.FinishFfnIdeal.τ).loc Cert.FinishFfnIdeal.main_arg7) = m ((c.tc : Thread Cert.FinishFfnIdeal.nD Cert.FinishFfnIdeal.τ).loc Cert.FinishFfnIdeal.main_arg7))
      ∧ r.2.sem = fun _ => 0)

def quiescent_FinishFfnRefIdeal [hFinishFfnRefIdeal : Cert.FinishFfnRefIdeal.Facts] : Prop :=
  ∀ (m : (ℓ : Loc Cert.FinishFfnRefIdeal.nD Cert.FinishFfnRefIdeal.τ Cert.FinishFfnRefIdeal.sig) → Buf (Elt Ideal) ℓ) (g : Dev Cert.FinishFfnRefIdeal.nD → PrngReg), Pre_FinishFfnRefIdeal m →
    θ_run (Cert.FinishFfnRefIdeal.defs (F := Ideal)) (onTc (τ := Cert.FinishFfnRefIdeal.τ) (Cert.FinishFfnRefIdeal.main (F := Ideal))) ⟨m, fun _ => 0, g⟩ (fun r => (∀ c : Dev Cert.FinishFfnRefIdeal.nD,
      r.2.mem ((c.tc : Thread Cert.FinishFfnRefIdeal.nD Cert.FinishFfnRefIdeal.τ).loc Cert.FinishFfnRefIdeal.main_arg0) = m ((c.tc : Thread Cert.FinishFfnRefIdeal.nD Cert.FinishFfnRefIdeal.τ).loc Cert.FinishFfnRefIdeal.main_arg0)
      ∧ r.2.mem ((c.tc : Thread Cert.FinishFfnRefIdeal.nD Cert.FinishFfnRefIdeal.τ).loc Cert.FinishFfnRefIdeal.main_arg1) = m ((c.tc : Thread Cert.FinishFfnRefIdeal.nD Cert.FinishFfnRefIdeal.τ).loc Cert.FinishFfnRefIdeal.main_arg1)
      ∧ r.2.mem ((c.tc : Thread Cert.FinishFfnRefIdeal.nD Cert.FinishFfnRefIdeal.τ).loc Cert.FinishFfnRefIdeal.main_arg2) = m ((c.tc : Thread Cert.FinishFfnRefIdeal.nD Cert.FinishFfnRefIdeal.τ).loc Cert.FinishFfnRefIdeal.main_arg2)
      ∧ r.2.mem ((c.tc : Thread Cert.FinishFfnRefIdeal.nD Cert.FinishFfnRefIdeal.τ).loc Cert.FinishFfnRefIdeal.main_arg3) = m ((c.tc : Thread Cert.FinishFfnRefIdeal.nD Cert.FinishFfnRefIdeal.τ).loc Cert.FinishFfnRefIdeal.main_arg3)
      ∧ r.2.mem ((c.tc : Thread Cert.FinishFfnRefIdeal.nD Cert.FinishFfnRefIdeal.τ).loc Cert.FinishFfnRefIdeal.main_arg4) = m ((c.tc : Thread Cert.FinishFfnRefIdeal.nD Cert.FinishFfnRefIdeal.τ).loc Cert.FinishFfnRefIdeal.main_arg4)
      ∧ r.2.mem ((c.tc : Thread Cert.FinishFfnRefIdeal.nD Cert.FinishFfnRefIdeal.τ).loc Cert.FinishFfnRefIdeal.main_arg5) = m ((c.tc : Thread Cert.FinishFfnRefIdeal.nD Cert.FinishFfnRefIdeal.τ).loc Cert.FinishFfnRefIdeal.main_arg5)
      ∧ r.2.mem ((c.tc : Thread Cert.FinishFfnRefIdeal.nD Cert.FinishFfnRefIdeal.τ).loc Cert.FinishFfnRefIdeal.main_arg6) = m ((c.tc : Thread Cert.FinishFfnRefIdeal.nD Cert.FinishFfnRefIdeal.τ).loc Cert.FinishFfnRefIdeal.main_arg6)
      ∧ r.2.mem ((c.tc : Thread Cert.FinishFfnRefIdeal.nD Cert.FinishFfnRefIdeal.τ).loc Cert.FinishFfnRefIdeal.main_arg7) = m ((c.tc : Thread Cert.FinishFfnRefIdeal.nD Cert.FinishFfnRefIdeal.τ).loc Cert.FinishFfnRefIdeal.main_arg7))
      ∧ r.2.sem = fun _ => 0)

def quiescent_FinishFfnRefIdeal_pre_own_block_ffn [hFinishFfnRefIdeal : Cert.FinishFfnRefIdeal.Facts] [hPre_own_block_ffn : Cert.Pre_own_block_ffn.Facts] : Prop :=
  ∀ (m : (ℓ : Loc Cert.FinishFfnRefIdeal.nD Cert.FinishFfnRefIdeal.τ Cert.FinishFfnRefIdeal.sig) → Buf (Elt Ideal) ℓ) (g : Dev Cert.FinishFfnRefIdeal.nD → PrngReg), Pre_FinishFfnRefIdeal_own_block_ffn m →
    θ_run (Cert.FinishFfnRefIdeal.defs (F := Ideal)) (onTc (τ := Cert.FinishFfnRefIdeal.τ) (Cert.FinishFfnRefIdeal.main (F := Ideal))) ⟨m, fun _ => 0, g⟩ (fun r => (∀ c : Dev Cert.FinishFfnRefIdeal.nD,
      r.2.mem ((c.tc : Thread Cert.FinishFfnRefIdeal.nD Cert.FinishFfnRefIdeal.τ).loc Cert.FinishFfnRefIdeal.main_arg0) = m ((c.tc : Thread Cert.FinishFfnRefIdeal.nD Cert.FinishFfnRefIdeal.τ).loc Cert.FinishFfnRefIdeal.main_arg0)
      ∧ r.2.mem ((c.tc : Thread Cert.FinishFfnRefIdeal.nD Cert.FinishFfnRefIdeal.τ).loc Cert.FinishFfnRefIdeal.main_arg1) = m ((c.tc : Thread Cert.FinishFfnRefIdeal.nD Cert.FinishFfnRefIdeal.τ).loc Cert.FinishFfnRefIdeal.main_arg1)
      ∧ r.2.mem ((c.tc : Thread Cert.FinishFfnRefIdeal.nD Cert.FinishFfnRefIdeal.τ).loc Cert.FinishFfnRefIdeal.main_arg2) = m ((c.tc : Thread Cert.FinishFfnRefIdeal.nD Cert.FinishFfnRefIdeal.τ).loc Cert.FinishFfnRefIdeal.main_arg2)
      ∧ r.2.mem ((c.tc : Thread Cert.FinishFfnRefIdeal.nD Cert.FinishFfnRefIdeal.τ).loc Cert.FinishFfnRefIdeal.main_arg3) = m ((c.tc : Thread Cert.FinishFfnRefIdeal.nD Cert.FinishFfnRefIdeal.τ).loc Cert.FinishFfnRefIdeal.main_arg3)
      ∧ r.2.mem ((c.tc : Thread Cert.FinishFfnRefIdeal.nD Cert.FinishFfnRefIdeal.τ).loc Cert.FinishFfnRefIdeal.main_arg4) = m ((c.tc : Thread Cert.FinishFfnRefIdeal.nD Cert.FinishFfnRefIdeal.τ).loc Cert.FinishFfnRefIdeal.main_arg4)
      ∧ r.2.mem ((c.tc : Thread Cert.FinishFfnRefIdeal.nD Cert.FinishFfnRefIdeal.τ).loc Cert.FinishFfnRefIdeal.main_arg5) = m ((c.tc : Thread Cert.FinishFfnRefIdeal.nD Cert.FinishFfnRefIdeal.τ).loc Cert.FinishFfnRefIdeal.main_arg5)
      ∧ r.2.mem ((c.tc : Thread Cert.FinishFfnRefIdeal.nD Cert.FinishFfnRefIdeal.τ).loc Cert.FinishFfnRefIdeal.main_arg6) = m ((c.tc : Thread Cert.FinishFfnRefIdeal.nD Cert.FinishFfnRefIdeal.τ).loc Cert.FinishFfnRefIdeal.main_arg6)
      ∧ r.2.mem ((c.tc : Thread Cert.FinishFfnRefIdeal.nD Cert.FinishFfnRefIdeal.τ).loc Cert.FinishFfnRefIdeal.main_arg7) = m ((c.tc : Thread Cert.FinishFfnRefIdeal.nD Cert.FinishFfnRefIdeal.τ).loc Cert.FinishFfnRefIdeal.main_arg7))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1)
      ∧ r.2.mem ((c.tc : Thread Cert.MemKv.nD Cert.MemKv.τ).loc Cert.MemKv.main_arg2) = m ((c.tc : Thread Cert.MemKv.nD Cert.MemKv.τ).loc Cert.MemKv.main_arg2)
      ∧ r.2.mem ((c.tc : Thread Cert.MemKv.nD Cert.MemKv.τ).loc Cert.MemKv.main_arg3) = m ((c.tc : Thread Cert.MemKv.nD Cert.MemKv.τ).loc Cert.MemKv.main_arg3))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
      ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
      ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1)
      ∧ r.2.mem ((c.tc : Thread Cert.MemKvRefIdeal.nD Cert.MemKvRefIdeal.τ).loc Cert.MemKvRefIdeal.main_arg2) = m ((c.tc : Thread Cert.MemKvRefIdeal.nD Cert.MemKvRefIdeal.τ).loc Cert.MemKvRefIdeal.main_arg2)
      ∧ r.2.mem ((c.tc : Thread Cert.MemKvRefIdeal.nD Cert.MemKvRefIdeal.τ).loc Cert.MemKvRefIdeal.main_arg3) = m ((c.tc : Thread Cert.MemKvRefIdeal.nD Cert.MemKvRefIdeal.τ).loc Cert.MemKvRefIdeal.main_arg3))
      ∧ r.2.sem = fun _ => 0)

def quiescent_MemBwd [hMemBwd : Cert.MemBwd.Facts] : Prop :=
  ∀ (m : (ℓ : Loc Cert.MemBwd.nD Cert.MemBwd.τ Cert.MemBwd.sig) → Buf (Elt Bits) ℓ) (g : Dev Cert.MemBwd.nD → PrngReg), Pre_MemBwd m →
    θ_run (Cert.MemBwd.defs (F := Bits)) (onTc (τ := Cert.MemBwd.τ) (Cert.MemBwd.main (F := Bits))) ⟨m, fun _ => 0, g⟩ (fun r => (∀ c : Dev Cert.MemBwd.nD,
      r.2.mem ((c.tc : Thread Cert.MemBwd.nD Cert.MemBwd.τ).loc Cert.MemBwd.main_arg0) = m ((c.tc : Thread Cert.MemBwd.nD Cert.MemBwd.τ).loc Cert.MemBwd.main_arg0)
      ∧ r.2.mem ((c.tc : Thread Cert.MemBwd.nD Cert.MemBwd.τ).loc Cert.MemBwd.main_arg1) = m ((c.tc : Thread Cert.MemBwd.nD Cert.MemBwd.τ).loc Cert.MemBwd.main_arg1)
      ∧ r.2.mem ((c.tc : Thread Cert.MemBwd.nD Cert.MemBwd.τ).loc Cert.MemBwd.main_arg2) = m ((c.tc : Thread Cert.MemBwd.nD Cert.MemBwd.τ).loc Cert.MemBwd.main_arg2)
      ∧ r.2.mem ((c.tc : Thread Cert.MemBwd.nD Cert.MemBwd.τ).loc Cert.MemBwd.main_arg3) = m ((c.tc : Thread Cert.MemBwd.nD Cert.MemBwd.τ).loc Cert.MemBwd.main_arg3)
      ∧ r.2.mem ((c.tc : Thread Cert.MemBwd.nD Cert.MemBwd.τ).loc Cert.MemBwd.main_arg4) = m ((c.tc : Thread Cert.MemBwd.nD Cert.MemBwd.τ).loc Cert.MemBwd.main_arg4)
      ∧ r.2.mem ((c.tc : Thread Cert.MemBwd.nD Cert.MemBwd.τ).loc Cert.MemBwd.main_arg5) = m ((c.tc : Thread Cert.MemBwd.nD Cert.MemBwd.τ).loc Cert.MemBwd.main_arg5)
      ∧ r.2.mem ((c.tc : Thread Cert.MemBwd.nD Cert.MemBwd.τ).loc Cert.MemBwd.main_arg6) = m ((c.tc : Thread Cert.MemBwd.nD Cert.MemBwd.τ).loc Cert.MemBwd.main_arg6))
      ∧ r.2.sem = fun _ => 0)

def quiescent_MemBwdIdeal [hMemBwdIdeal : Cert.MemBwdIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg), Pre_MemBwdIdeal m →
    θ_run (Cert.MemBwdIdeal.defs (F := Ideal)) (onTc (τ := Cert.MemBwdIdeal.τ) (Cert.MemBwdIdeal.main (F := Ideal))) ⟨m, fun _ => 0, g⟩ (fun r => (∀ c : Dev Cert.MemBwdIdeal.nD,
      r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
      ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
      ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
      ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3)
      ∧ r.2.mem ((c.tc : Thread Cert.MemBwdIdeal.nD Cert.MemBwdIdeal.τ).loc Cert.MemBwdIdeal.main_arg4) = m ((c.tc : Thread Cert.MemBwdIdeal.nD Cert.MemBwdIdeal.τ).loc Cert.MemBwdIdeal.main_arg4)
      ∧ r.2.mem ((c.tc : Thread Cert.MemBwdIdeal.nD Cert.MemBwdIdeal.τ).loc Cert.MemBwdIdeal.main_arg5) = m ((c.tc : Thread Cert.MemBwdIdeal.nD Cert.MemBwdIdeal.τ).loc Cert.MemBwdIdeal.main_arg5)
      ∧ r.2.mem ((c.tc : Thread Cert.MemBwdIdeal.nD Cert.MemBwdIdeal.τ).loc Cert.MemBwdIdeal.main_arg6) = m ((c.tc : Thread Cert.MemBwdIdeal.nD Cert.MemBwdIdeal.τ).loc Cert.MemBwdIdeal.main_arg6))
      ∧ r.2.sem = fun _ => 0)

def quiescent_MemBwdRefIdeal [hMemBwdRefIdeal : Cert.MemBwdRefIdeal.Facts] : Prop :=
  ∀ (m : (ℓ : Loc Cert.MemBwdRefIdeal.nD Cert.MemBwdRefIdeal.τ Cert.MemBwdRefIdeal.sig) → Buf (Elt Ideal) ℓ) (g : Dev Cert.MemBwdRefIdeal.nD → PrngReg), Pre_MemBwdRefIdeal m →
    θ_run (Cert.MemBwdRefIdeal.defs (F := Ideal)) (onTc (τ := Cert.MemBwdRefIdeal.τ) (Cert.MemBwdRefIdeal.main (F := Ideal))) ⟨m, fun _ => 0, g⟩ (fun r => (∀ c : Dev Cert.MemBwdRefIdeal.nD,
      r.2.mem ((c.tc : Thread Cert.MemBwdRefIdeal.nD Cert.MemBwdRefIdeal.τ).loc Cert.MemBwdRefIdeal.main_arg0) = m ((c.tc : Thread Cert.MemBwdRefIdeal.nD Cert.MemBwdRefIdeal.τ).loc Cert.MemBwdRefIdeal.main_arg0)
      ∧ r.2.mem ((c.tc : Thread Cert.MemBwdRefIdeal.nD Cert.MemBwdRefIdeal.τ).loc Cert.MemBwdRefIdeal.main_arg1) = m ((c.tc : Thread Cert.MemBwdRefIdeal.nD Cert.MemBwdRefIdeal.τ).loc Cert.MemBwdRefIdeal.main_arg1)
      ∧ r.2.mem ((c.tc : Thread Cert.MemBwdRefIdeal.nD Cert.MemBwdRefIdeal.τ).loc Cert.MemBwdRefIdeal.main_arg2) = m ((c.tc : Thread Cert.MemBwdRefIdeal.nD Cert.MemBwdRefIdeal.τ).loc Cert.MemBwdRefIdeal.main_arg2)
      ∧ r.2.mem ((c.tc : Thread Cert.MemBwdRefIdeal.nD Cert.MemBwdRefIdeal.τ).loc Cert.MemBwdRefIdeal.main_arg3) = m ((c.tc : Thread Cert.MemBwdRefIdeal.nD Cert.MemBwdRefIdeal.τ).loc Cert.MemBwdRefIdeal.main_arg3)
      ∧ r.2.mem ((c.tc : Thread Cert.MemBwdRefIdeal.nD Cert.MemBwdRefIdeal.τ).loc Cert.MemBwdRefIdeal.main_arg4) = m ((c.tc : Thread Cert.MemBwdRefIdeal.nD Cert.MemBwdRefIdeal.τ).loc Cert.MemBwdRefIdeal.main_arg4)
      ∧ r.2.mem ((c.tc : Thread Cert.MemBwdRefIdeal.nD Cert.MemBwdRefIdeal.τ).loc Cert.MemBwdRefIdeal.main_arg5) = m ((c.tc : Thread Cert.MemBwdRefIdeal.nD Cert.MemBwdRefIdeal.τ).loc Cert.MemBwdRefIdeal.main_arg5)
      ∧ r.2.mem ((c.tc : Thread Cert.MemBwdRefIdeal.nD Cert.MemBwdRefIdeal.τ).loc Cert.MemBwdRefIdeal.main_arg6) = m ((c.tc : Thread Cert.MemBwdRefIdeal.nD Cert.MemBwdRefIdeal.τ).loc Cert.MemBwdRefIdeal.main_arg6))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def quiescent_SumSlots [hSumSlots : Cert.SumSlots.Facts] : Prop :=
  ∀ (m : (ℓ : Loc Cert.SumSlots.nD Cert.SumSlots.τ Cert.SumSlots.sig) → Buf (Elt Bits) ℓ) (g : Dev Cert.SumSlots.nD → PrngReg), Pre_SumSlots m →
    θ_run (Cert.SumSlots.defs (F := Bits)) (onTc (τ := Cert.SumSlots.τ) (Cert.SumSlots.main (F := Bits))) ⟨m, fun _ => 0, g⟩ (fun r => (∀ c : Dev Cert.SumSlots.nD,
      r.2.mem ((c.tc : Thread Cert.SumSlots.nD Cert.SumSlots.τ).loc Cert.SumSlots.main_arg0) = m ((c.tc : Thread Cert.SumSlots.nD Cert.SumSlots.τ).loc Cert.SumSlots.main_arg0))
      ∧ r.2.sem = fun _ => 0)

def quiescent_SumSlotsIdeal [hSumSlotsIdeal : Cert.SumSlotsIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg), Pre_SumSlotsIdeal m →
    θ_run (Cert.SumSlotsIdeal.defs (F := Ideal)) (onTc (τ := Cert.SumSlotsIdeal.τ) (Cert.SumSlotsIdeal.main (F := Ideal))) ⟨m, fun _ => 0, g⟩ (fun r => (∀ c : Dev Cert.SumSlotsIdeal.nD,
      r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ r.2.sem = fun _ => 0)

def quiescent_SumSlotsRefIdeal [hSumSlotsRefIdeal : Cert.SumSlotsRefIdeal.Facts] : Prop :=
  ∀ (m : (ℓ : Loc Cert.SumSlotsRefIdeal.nD Cert.SumSlotsRefIdeal.τ Cert.SumSlotsRefIdeal.sig) → Buf (Elt Ideal) ℓ) (g : Dev Cert.SumSlotsRefIdeal.nD → PrngReg), Pre_SumSlotsRefIdeal m →
    θ_run (Cert.SumSlotsRefIdeal.defs (F := Ideal)) (onTc (τ := Cert.SumSlotsRefIdeal.τ) (Cert.SumSlotsRefIdeal.main (F := Ideal))) ⟨m, fun _ => 0, g⟩ (fun r => (∀ c : Dev Cert.SumSlotsRefIdeal.nD,
      r.2.mem ((c.tc : Thread Cert.SumSlotsRefIdeal.nD Cert.SumSlotsRefIdeal.τ).loc Cert.SumSlotsRefIdeal.main_arg0) = m ((c.tc : Thread Cert.SumSlotsRefIdeal.nD Cert.SumSlotsRefIdeal.τ).loc Cert.SumSlotsRefIdeal.main_arg0))
      ∧ r.2.sem = fun _ => 0)

def quiescent_GroupSum [hGroupSum : Cert.GroupSum.Facts] : Prop :=
  ∀ (m : (ℓ : Loc Cert.GroupSum.nD Cert.GroupSum.τ Cert.GroupSum.sig) → Buf (Elt Bits) ℓ) (g : Dev Cert.GroupSum.nD → PrngReg), Pre_GroupSum m →
    θ_run (Cert.GroupSum.defs (F := Bits)) (onTc (τ := Cert.GroupSum.τ) (Cert.GroupSum.main (F := Bits))) ⟨m, fun _ => 0, g⟩ (fun r => (∀ c : Dev Cert.GroupSum.nD,
      r.2.mem ((c.tc : Thread Cert.GroupSum.nD Cert.GroupSum.τ).loc Cert.GroupSum.main_arg0) = m ((c.tc : Thread Cert.GroupSum.nD Cert.GroupSum.τ).loc Cert.GroupSum.main_arg0))
      ∧ r.2.sem = fun _ => 0)

def quiescent_GroupSumIdeal [hGroupSumIdeal : Cert.GroupSumIdeal.Facts] : Prop :=
  ∀ (m : (ℓ : Loc Cert.GroupSumIdeal.nD Cert.GroupSumIdeal.τ Cert.GroupSumIdeal.sig) → Buf (Elt Ideal) ℓ) (g : Dev Cert.GroupSumIdeal.nD → PrngReg), Pre_GroupSumIdeal m →
    θ_run (Cert.GroupSumIdeal.defs (F := Ideal)) (onTc (τ := Cert.GroupSumIdeal.τ) (Cert.GroupSumIdeal.main (F := Ideal))) ⟨m, fun _ => 0, g⟩ (fun r => (∀ c : Dev Cert.GroupSumIdeal.nD,
      r.2.mem ((c.tc : Thread Cert.GroupSumIdeal.nD Cert.GroupSumIdeal.τ).loc Cert.GroupSumIdeal.main_arg0) = m ((c.tc : Thread Cert.GroupSumIdeal.nD Cert.GroupSumIdeal.τ).loc Cert.GroupSumIdeal.main_arg0))
      ∧ r.2.sem = fun _ => 0)

def quiescent_GroupSumRefIdeal [hGroupSumRefIdeal : Cert.GroupSumRefIdeal.Facts] : Prop :=
  ∀ (m : (ℓ : Loc Cert.GroupSumRefIdeal.nD Cert.GroupSumRefIdeal.τ Cert.GroupSumRefIdeal.sig) → Buf (Elt Ideal) ℓ) (g : Dev Cert.GroupSumRefIdeal.nD → PrngReg), Pre_GroupSumRefIdeal m →
    θ_run (Cert.GroupSumRefIdeal.defs (F := Ideal)) (onTc (τ := Cert.GroupSumRefIdeal.τ) (Cert.GroupSumRefIdeal.main (F := Ideal))) ⟨m, fun _ => 0, g⟩ (fun r => (∀ c : Dev Cert.GroupSumRefIdeal.nD,
      r.2.mem ((c.tc : Thread Cert.GroupSumRefIdeal.nD Cert.GroupSumRefIdeal.τ).loc Cert.GroupSumRefIdeal.main_arg0) = m ((c.tc : Thread Cert.GroupSumRefIdeal.nD Cert.GroupSumRefIdeal.τ).loc Cert.GroupSumRefIdeal.main_arg0))
      ∧ r.2.sem = fun _ => 0)

def preserves_AttnBwd_AttnBwdIdeal : Prop :=
  True

def algebraic_AttnBwdIdeal_AttnBwdRefIdeal_pre_finite_scores [hAttnBwdIdeal : Cert.AttnBwdIdeal.Facts] [hAttnBwdRefIdeal : Cert.AttnBwdRefIdeal.Facts] [hPre_finite_scores : Cert.Pre_finite_scores.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdRefIdeal.nD Cert.AttnBwdRefIdeal.τ Cert.AttnBwdRefIdeal.sig) → Buf (Elt Ideal) ℓ) (g' : Dev Cert.AttnBwdRefIdeal.nD → PrngReg), Pre_AttnBwdIdeal_finite_scores m →
    (∀ c : Dev Cert.AttnBwdIdeal.nD,
      m' ((c.tc : Thread Cert.AttnBwdRefIdeal.nD Cert.AttnBwdRefIdeal.τ).loc Cert.AttnBwdRefIdeal.main_arg0) = m ((c.tc : Thread Cert.AttnBwdIdeal.nD Cert.AttnBwdIdeal.τ).loc Cert.AttnBwdIdeal.main_arg0)
      ∧ m' ((c.tc : Thread Cert.AttnBwdRefIdeal.nD Cert.AttnBwdRefIdeal.τ).loc Cert.AttnBwdRefIdeal.main_arg1) = m ((c.tc : Thread Cert.AttnBwdIdeal.nD Cert.AttnBwdIdeal.τ).loc Cert.AttnBwdIdeal.main_arg1)
      ∧ m' ((c.tc : Thread Cert.AttnBwdRefIdeal.nD Cert.AttnBwdRefIdeal.τ).loc Cert.AttnBwdRefIdeal.main_arg2) = m ((c.tc : Thread Cert.AttnBwdIdeal.nD Cert.AttnBwdIdeal.τ).loc Cert.AttnBwdIdeal.main_arg2)
      ∧ m' ((c.tc : Thread Cert.AttnBwdRefIdeal.nD Cert.AttnBwdRefIdeal.τ).loc Cert.AttnBwdRefIdeal.main_arg3) = m ((c.tc : Thread Cert.AttnBwdIdeal.nD Cert.AttnBwdIdeal.τ).loc Cert.AttnBwdIdeal.main_arg3)) →
    ∃ (v0 : (c : Dev Cert.AttnBwdIdeal.nD) → Buf (Elt Ideal) ((c.tc : Thread Cert.AttnBwdIdeal.nD Cert.AttnBwdIdeal.τ).loc Cert.AttnBwdIdeal.main_v0_0)) (v1 : (c : Dev Cert.AttnBwdIdeal.nD) → Buf (Elt Ideal) ((c.tc : Thread Cert.AttnBwdIdeal.nD Cert.AttnBwdIdeal.τ).loc Cert.AttnBwdIdeal.main_v0_1)) (v2 : (c : Dev Cert.AttnBwdIdeal.nD) → Buf (Elt Ideal) ((c.tc : Thread Cert.AttnBwdIdeal.nD Cert.AttnBwdIdeal.τ).loc Cert.AttnBwdIdeal.main_v0_2)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v0_0) = v0 c
          ∧ r.2.mem ((c.tc : Thread Cert.AttnBwdIdeal.nD Cert.AttnBwdIdeal.τ).loc Cert.AttnBwdIdeal.main_v0_1) = v1 c
          ∧ r.2.mem ((c.tc : Thread Cert.AttnBwdIdeal.nD Cert.AttnBwdIdeal.τ).loc Cert.AttnBwdIdeal.main_v0_2) = v2 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3))
      ∧ θ_run (Cert.AttnBwdRefIdeal.defs (F := Ideal)) (onTc (τ := Cert.AttnBwdRefIdeal.τ) (Cert.AttnBwdRefIdeal.main (F := Ideal))) ⟨m', fun _ => 0, g'⟩ (fun r => ∀ c : Dev Cert.AttnBwdRefIdeal.nD,
          r.2.mem ((c.tc : Thread Cert.AttnBwdRefIdeal.nD Cert.AttnBwdRefIdeal.τ).loc Cert.AttnBwdRefIdeal.main_v67) = v0 c
          ∧ r.2.mem ((c.tc : Thread Cert.AttnBwdRefIdeal.nD Cert.AttnBwdRefIdeal.τ).loc Cert.AttnBwdRefIdeal.main_v65) = v1 c
          ∧ r.2.mem ((c.tc : Thread Cert.AttnBwdRefIdeal.nD Cert.AttnBwdRefIdeal.τ).loc Cert.AttnBwdRefIdeal.main_v64) = v2 c
          ∧ r.2.mem ((c.tc : Thread Cert.AttnBwdRefIdeal.nD Cert.AttnBwdRefIdeal.τ).loc Cert.AttnBwdRefIdeal.main_arg0) = m' ((c.tc : Thread Cert.AttnBwdRefIdeal.nD Cert.AttnBwdRefIdeal.τ).loc Cert.AttnBwdRefIdeal.main_arg0)
          ∧ r.2.mem ((c.tc : Thread Cert.AttnBwdRefIdeal.nD Cert.AttnBwdRefIdeal.τ).loc Cert.AttnBwdRefIdeal.main_arg1) = m' ((c.tc : Thread Cert.AttnBwdRefIdeal.nD Cert.AttnBwdRefIdeal.τ).loc Cert.AttnBwdRefIdeal.main_arg1)
          ∧ r.2.mem ((c.tc : Thread Cert.AttnBwdRefIdeal.nD Cert.AttnBwdRefIdeal.τ).loc Cert.AttnBwdRefIdeal.main_arg2) = m' ((c.tc : Thread Cert.AttnBwdRefIdeal.nD Cert.AttnBwdRefIdeal.τ).loc Cert.AttnBwdRefIdeal.main_arg2)
          ∧ r.2.mem ((c.tc : Thread Cert.AttnBwdRefIdeal.nD Cert.AttnBwdRefIdeal.τ).loc Cert.AttnBwdRefIdeal.main_arg3) = m' ((c.tc : Thread Cert.AttnBwdRefIdeal.nD Cert.AttnBwdRefIdeal.τ).loc Cert.AttnBwdRefIdeal.main_arg3))

def preserves_FfnDhid_FfnDhidIdeal : Prop :=
  True

def algebraic_FfnDhidIdeal_FfnDhidRefIdeal_pre_finite_hidden [hFfnDhidIdeal : Cert.FfnDhidIdeal.Facts] [hFfnDhidRefIdeal : Cert.FfnDhidRefIdeal.Facts] [hPre_finite_hidden : Cert.Pre_finite_hidden.Facts] : Prop :=
  ∀ (m : (ℓ : Loc Cert.FfnDhidIdeal.nD Cert.FfnDhidIdeal.τ Cert.FfnDhidIdeal.sig) → Buf (Elt Ideal) ℓ) (g : Dev Cert.FfnDhidIdeal.nD → PrngReg)
    (m' : (ℓ : Loc Cert.FfnDhidRefIdeal.nD Cert.FfnDhidRefIdeal.τ Cert.FfnDhidRefIdeal.sig) → Buf (Elt Ideal) ℓ) (g' : Dev Cert.FfnDhidRefIdeal.nD → PrngReg), Pre_FfnDhidIdeal_finite_hidden m →
    (∀ c : Dev Cert.FfnDhidIdeal.nD,
      m' ((c.tc : Thread Cert.FfnDhidRefIdeal.nD Cert.FfnDhidRefIdeal.τ).loc Cert.FfnDhidRefIdeal.main_arg0) = m ((c.tc : Thread Cert.FfnDhidIdeal.nD Cert.FfnDhidIdeal.τ).loc Cert.FfnDhidIdeal.main_arg0)
      ∧ m' ((c.tc : Thread Cert.FfnDhidRefIdeal.nD Cert.FfnDhidRefIdeal.τ).loc Cert.FfnDhidRefIdeal.main_arg1) = m ((c.tc : Thread Cert.FfnDhidIdeal.nD Cert.FfnDhidIdeal.τ).loc Cert.FfnDhidIdeal.main_arg1)
      ∧ m' ((c.tc : Thread Cert.FfnDhidRefIdeal.nD Cert.FfnDhidRefIdeal.τ).loc Cert.FfnDhidRefIdeal.main_arg2) = m ((c.tc : Thread Cert.FfnDhidIdeal.nD Cert.FfnDhidIdeal.τ).loc Cert.FfnDhidIdeal.main_arg2)
      ∧ m' ((c.tc : Thread Cert.FfnDhidRefIdeal.nD Cert.FfnDhidRefIdeal.τ).loc Cert.FfnDhidRefIdeal.main_arg3) = m ((c.tc : Thread Cert.FfnDhidIdeal.nD Cert.FfnDhidIdeal.τ).loc Cert.FfnDhidIdeal.main_arg3)) →
    ∃ (v0 : (c : Dev Cert.FfnDhidIdeal.nD) → Buf (Elt Ideal) ((c.tc : Thread Cert.FfnDhidIdeal.nD Cert.FfnDhidIdeal.τ).loc Cert.FfnDhidIdeal.main_v0_0)) (v1 : (c : Dev Cert.FfnDhidIdeal.nD) → Buf (Elt Ideal) ((c.tc : Thread Cert.FfnDhidIdeal.nD Cert.FfnDhidIdeal.τ).loc Cert.FfnDhidIdeal.main_v0_1)),
      θ_run (Cert.FfnDhidIdeal.defs (F := Ideal)) (onTc (τ := Cert.FfnDhidIdeal.τ) (Cert.FfnDhidIdeal.main (F := Ideal))) ⟨m, fun _ => 0, g⟩ (fun r => ∀ c : Dev Cert.FfnDhidIdeal.nD,
          r.2.mem ((c.tc : Thread Cert.FfnDhidIdeal.nD Cert.FfnDhidIdeal.τ).loc Cert.FfnDhidIdeal.main_v0_0) = v0 c
          ∧ r.2.mem ((c.tc : Thread Cert.FfnDhidIdeal.nD Cert.FfnDhidIdeal.τ).loc Cert.FfnDhidIdeal.main_v0_1) = v1 c
          ∧ r.2.mem ((c.tc : Thread Cert.FfnDhidIdeal.nD Cert.FfnDhidIdeal.τ).loc Cert.FfnDhidIdeal.main_arg0) = m ((c.tc : Thread Cert.FfnDhidIdeal.nD Cert.FfnDhidIdeal.τ).loc Cert.FfnDhidIdeal.main_arg0)
          ∧ r.2.mem ((c.tc : Thread Cert.FfnDhidIdeal.nD Cert.FfnDhidIdeal.τ).loc Cert.FfnDhidIdeal.main_arg1) = m ((c.tc : Thread Cert.FfnDhidIdeal.nD Cert.FfnDhidIdeal.τ).loc Cert.FfnDhidIdeal.main_arg1)
          ∧ r.2.mem ((c.tc : Thread Cert.FfnDhidIdeal.nD Cert.FfnDhidIdeal.τ).loc Cert.FfnDhidIdeal.main_arg2) = m ((c.tc : Thread Cert.FfnDhidIdeal.nD Cert.FfnDhidIdeal.τ).loc Cert.FfnDhidIdeal.main_arg2)
          ∧ r.2.mem ((c.tc : Thread Cert.FfnDhidIdeal.nD Cert.FfnDhidIdeal.τ).loc Cert.FfnDhidIdeal.main_arg3) = m ((c.tc : Thread Cert.FfnDhidIdeal.nD Cert.FfnDhidIdeal.τ).loc Cert.FfnDhidIdeal.main_arg3))
      ∧ θ_run (Cert.FfnDhidRefIdeal.defs (F := Ideal)) (onTc (τ := Cert.FfnDhidRefIdeal.τ) (Cert.FfnDhidRefIdeal.main (F := Ideal))) ⟨m', fun _ => 0, g'⟩ (fun r => ∀ c : Dev Cert.FfnDhidRefIdeal.nD,
          r.2.mem ((c.tc : Thread Cert.FfnDhidRefIdeal.nD Cert.FfnDhidRefIdeal.τ).loc Cert.FfnDhidRefIdeal.main_v10) = v0 c
          ∧ r.2.mem ((c.tc : Thread Cert.FfnDhidRefIdeal.nD Cert.FfnDhidRefIdeal.τ).loc Cert.FfnDhidRefIdeal.main_v11) = v1 c
          ∧ r.2.mem ((c.tc : Thread Cert.FfnDhidRefIdeal.nD Cert.FfnDhidRefIdeal.τ).loc Cert.FfnDhidRefIdeal.main_arg0) = m' ((c.tc : Thread Cert.FfnDhidRefIdeal.nD Cert.FfnDhidRefIdeal.τ).loc Cert.FfnDhidRefIdeal.main_arg0)
          ∧ r.2.mem ((c.tc : Thread Cert.FfnDhidRefIdeal.nD Cert.FfnDhidRefIdeal.τ).loc Cert.FfnDhidRefIdeal.main_arg1) = m' ((c.tc : Thread Cert.FfnDhidRefIdeal.nD Cert.FfnDhidRefIdeal.τ).loc Cert.FfnDhidRefIdeal.main_arg1)
          ∧ r.2.mem ((c.tc : Thread Cert.FfnDhidRefIdeal.nD Cert.FfnDhidRefIdeal.τ).loc Cert.FfnDhidRefIdeal.main_arg2) = m' ((c.tc : Thread Cert.FfnDhidRefIdeal.nD Cert.FfnDhidRefIdeal.τ).loc Cert.FfnDhidRefIdeal.main_arg2)
          ∧ r.2.mem ((c.tc : Thread Cert.FfnDhidRefIdeal.nD Cert.FfnDhidRefIdeal.τ).loc Cert.FfnDhidRefIdeal.main_arg3) = m' ((c.tc : Thread Cert.FfnDhidRefIdeal.nD Cert.FfnDhidRefIdeal.τ).loc Cert.FfnDhidRefIdeal.main_arg3))

def preserves_FfnDn_FfnDnIdeal : Prop :=
  True

def algebraic_FfnDnIdeal_FfnDnRefIdeal [hFfnDnIdeal : Cert.FfnDnIdeal.Facts] [hFfnDnRefIdeal : Cert.FfnDnRefIdeal.Facts] : Prop :=
  ∀ (m : (ℓ : Loc Cert.FfnDnIdeal.nD Cert.FfnDnIdeal.τ Cert.FfnDnIdeal.sig) → Buf (Elt Ideal) ℓ) (g : Dev Cert.FfnDnIdeal.nD → PrngReg)
    (m' : (ℓ : Loc Cert.FfnDnRefIdeal.nD Cert.FfnDnRefIdeal.τ Cert.FfnDnRefIdeal.sig) → Buf (Elt Ideal) ℓ) (g' : Dev Cert.FfnDnRefIdeal.nD → PrngReg), Pre_FfnDnIdeal m →
    (∀ c : Dev Cert.FfnDnIdeal.nD,
      m' ((c.tc : Thread Cert.FfnDnRefIdeal.nD Cert.FfnDnRefIdeal.τ).loc Cert.FfnDnRefIdeal.main_arg0) = m ((c.tc : Thread Cert.FfnDnIdeal.nD Cert.FfnDnIdeal.τ).loc Cert.FfnDnIdeal.main_arg0)
      ∧ m' ((c.tc : Thread Cert.FfnDnRefIdeal.nD Cert.FfnDnRefIdeal.τ).loc Cert.FfnDnRefIdeal.main_arg1) = m ((c.tc : Thread Cert.FfnDnIdeal.nD Cert.FfnDnIdeal.τ).loc Cert.FfnDnIdeal.main_arg1)
      ∧ m' ((c.tc : Thread Cert.FfnDnRefIdeal.nD Cert.FfnDnRefIdeal.τ).loc Cert.FfnDnRefIdeal.main_arg2) = m ((c.tc : Thread Cert.FfnDnIdeal.nD Cert.FfnDnIdeal.τ).loc Cert.FfnDnIdeal.main_arg2)
      ∧ m' ((c.tc : Thread Cert.FfnDnRefIdeal.nD Cert.FfnDnRefIdeal.τ).loc Cert.FfnDnRefIdeal.main_arg3) = m ((c.tc : Thread Cert.FfnDnIdeal.nD Cert.FfnDnIdeal.τ).loc Cert.FfnDnIdeal.main_arg3)
      ∧ m' ((c.tc : Thread Cert.FfnDnRefIdeal.nD Cert.FfnDnRefIdeal.τ).loc Cert.FfnDnRefIdeal.main_arg4) = m ((c.tc : Thread Cert.FfnDnIdeal.nD Cert.FfnDnIdeal.τ).loc Cert.FfnDnIdeal.main_arg4)
      ∧ m' ((c.tc : Thread Cert.FfnDnRefIdeal.nD Cert.FfnDnRefIdeal.τ).loc Cert.FfnDnRefIdeal.main_arg5) = m ((c.tc : Thread Cert.FfnDnIdeal.nD Cert.FfnDnIdeal.τ).loc Cert.FfnDnIdeal.main_arg5)
      ∧ m' ((c.tc : Thread Cert.FfnDnRefIdeal.nD Cert.FfnDnRefIdeal.τ).loc Cert.FfnDnRefIdeal.main_arg6) = m ((c.tc : Thread Cert.FfnDnIdeal.nD Cert.FfnDnIdeal.τ).loc Cert.FfnDnIdeal.main_arg6)) →
    ∃ (v0 : (c : Dev Cert.FfnDnIdeal.nD) → Buf (Elt Ideal) ((c.tc : Thread Cert.FfnDnIdeal.nD Cert.FfnDnIdeal.τ).loc Cert.FfnDnIdeal.main_v0_0)) (v1 : (c : Dev Cert.FfnDnIdeal.nD) → Buf (Elt Ideal) ((c.tc : Thread Cert.FfnDnIdeal.nD Cert.FfnDnIdeal.τ).loc Cert.FfnDnIdeal.main_v0_1)),
      θ_run (Cert.FfnDnIdeal.defs (F := Ideal)) (onTc (τ := Cert.FfnDnIdeal.τ) (Cert.FfnDnIdeal.main (F := Ideal))) ⟨m, fun _ => 0, g⟩ (fun r => ∀ c : Dev Cert.FfnDnIdeal.nD,
          r.2.mem ((c.tc : Thread Cert.FfnDnIdeal.nD Cert.FfnDnIdeal.τ).loc Cert.FfnDnIdeal.main_v0_0) = v0 c
          ∧ r.2.mem ((c.tc : Thread Cert.FfnDnIdeal.nD Cert.FfnDnIdeal.τ).loc Cert.FfnDnIdeal.main_v0_1) = v1 c
          ∧ r.2.mem ((c.tc : Thread Cert.FfnDnIdeal.nD Cert.FfnDnIdeal.τ).loc Cert.FfnDnIdeal.main_arg0) = m ((c.tc : Thread Cert.FfnDnIdeal.nD Cert.FfnDnIdeal.τ).loc Cert.FfnDnIdeal.main_arg0)
          ∧ r.2.mem ((c.tc : Thread Cert.FfnDnIdeal.nD Cert.FfnDnIdeal.τ).loc Cert.FfnDnIdeal.main_arg1) = m ((c.tc : Thread Cert.FfnDnIdeal.nD Cert.FfnDnIdeal.τ).loc Cert.FfnDnIdeal.main_arg1)
          ∧ r.2.mem ((c.tc : Thread Cert.FfnDnIdeal.nD Cert.FfnDnIdeal.τ).loc Cert.FfnDnIdeal.main_arg2) = m ((c.tc : Thread Cert.FfnDnIdeal.nD Cert.FfnDnIdeal.τ).loc Cert.FfnDnIdeal.main_arg2)
          ∧ r.2.mem ((c.tc : Thread Cert.FfnDnIdeal.nD Cert.FfnDnIdeal.τ).loc Cert.FfnDnIdeal.main_arg3) = m ((c.tc : Thread Cert.FfnDnIdeal.nD Cert.FfnDnIdeal.τ).loc Cert.FfnDnIdeal.main_arg3)
          ∧ r.2.mem ((c.tc : Thread Cert.FfnDnIdeal.nD Cert.FfnDnIdeal.τ).loc Cert.FfnDnIdeal.main_arg4) = m ((c.tc : Thread Cert.FfnDnIdeal.nD Cert.FfnDnIdeal.τ).loc Cert.FfnDnIdeal.main_arg4)
          ∧ r.2.mem ((c.tc : Thread Cert.FfnDnIdeal.nD Cert.FfnDnIdeal.τ).loc Cert.FfnDnIdeal.main_arg5) = m ((c.tc : Thread Cert.FfnDnIdeal.nD Cert.FfnDnIdeal.τ).loc Cert.FfnDnIdeal.main_arg5)
          ∧ r.2.mem ((c.tc : Thread Cert.FfnDnIdeal.nD Cert.FfnDnIdeal.τ).loc Cert.FfnDnIdeal.main_arg6) = m ((c.tc : Thread Cert.FfnDnIdeal.nD Cert.FfnDnIdeal.τ).loc Cert.FfnDnIdeal.main_arg6))
      ∧ θ_run (Cert.FfnDnRefIdeal.defs (F := Ideal)) (onTc (τ := Cert.FfnDnRefIdeal.τ) (Cert.FfnDnRefIdeal.main (F := Ideal))) ⟨m', fun _ => 0, g'⟩ (fun r => ∀ c : Dev Cert.FfnDnRefIdeal.nD,
          r.2.mem ((c.tc : Thread Cert.FfnDnRefIdeal.nD Cert.FfnDnRefIdeal.τ).loc Cert.FfnDnRefIdeal.main_v45) = v0 c
          ∧ r.2.mem ((c.tc : Thread Cert.FfnDnRefIdeal.nD Cert.FfnDnRefIdeal.τ).loc Cert.FfnDnRefIdeal.main_v28) = v1 c
          ∧ r.2.mem ((c.tc : Thread Cert.FfnDnRefIdeal.nD Cert.FfnDnRefIdeal.τ).loc Cert.FfnDnRefIdeal.main_arg0) = m' ((c.tc : Thread Cert.FfnDnRefIdeal.nD Cert.FfnDnRefIdeal.τ).loc Cert.FfnDnRefIdeal.main_arg0)
          ∧ r.2.mem ((c.tc : Thread Cert.FfnDnRefIdeal.nD Cert.FfnDnRefIdeal.τ).loc Cert.FfnDnRefIdeal.main_arg1) = m' ((c.tc : Thread Cert.FfnDnRefIdeal.nD Cert.FfnDnRefIdeal.τ).loc Cert.FfnDnRefIdeal.main_arg1)
          ∧ r.2.mem ((c.tc : Thread Cert.FfnDnRefIdeal.nD Cert.FfnDnRefIdeal.τ).loc Cert.FfnDnRefIdeal.main_arg2) = m' ((c.tc : Thread Cert.FfnDnRefIdeal.nD Cert.FfnDnRefIdeal.τ).loc Cert.FfnDnRefIdeal.main_arg2)
          ∧ r.2.mem ((c.tc : Thread Cert.FfnDnRefIdeal.nD Cert.FfnDnRefIdeal.τ).loc Cert.FfnDnRefIdeal.main_arg3) = m' ((c.tc : Thread Cert.FfnDnRefIdeal.nD Cert.FfnDnRefIdeal.τ).loc Cert.FfnDnRefIdeal.main_arg3)
          ∧ r.2.mem ((c.tc : Thread Cert.FfnDnRefIdeal.nD Cert.FfnDnRefIdeal.τ).loc Cert.FfnDnRefIdeal.main_arg4) = m' ((c.tc : Thread Cert.FfnDnRefIdeal.nD Cert.FfnDnRefIdeal.τ).loc Cert.FfnDnRefIdeal.main_arg4)
          ∧ r.2.mem ((c.tc : Thread Cert.FfnDnRefIdeal.nD Cert.FfnDnRefIdeal.τ).loc Cert.FfnDnRefIdeal.main_arg5) = m' ((c.tc : Thread Cert.FfnDnRefIdeal.nD Cert.FfnDnRefIdeal.τ).loc Cert.FfnDnRefIdeal.main_arg5)
          ∧ r.2.mem ((c.tc : Thread Cert.FfnDnRefIdeal.nD Cert.FfnDnRefIdeal.τ).loc Cert.FfnDnRefIdeal.main_arg6) = m' ((c.tc : Thread Cert.FfnDnRefIdeal.nD Cert.FfnDnRefIdeal.τ).loc Cert.FfnDnRefIdeal.main_arg6))

def preserves_OdDn_OdDnIdeal : Prop :=
  True

def algebraic_OdDnIdeal_OdDnRefIdeal [hOdDnIdeal : Cert.OdDnIdeal.Facts] [hOdDnRefIdeal : Cert.OdDnRefIdeal.Facts] : Prop :=
  ∀ (m : (ℓ : Loc Cert.OdDnIdeal.nD Cert.OdDnIdeal.τ Cert.OdDnIdeal.sig) → Buf (Elt Ideal) ℓ) (g : Dev Cert.OdDnIdeal.nD → PrngReg)
    (m' : (ℓ : Loc Cert.OdDnRefIdeal.nD Cert.OdDnRefIdeal.τ Cert.OdDnRefIdeal.sig) → Buf (Elt Ideal) ℓ) (g' : Dev Cert.OdDnRefIdeal.nD → PrngReg), Pre_OdDnIdeal m →
    (∀ c : Dev Cert.OdDnIdeal.nD,
      m' ((c.tc : Thread Cert.OdDnRefIdeal.nD Cert.OdDnRefIdeal.τ).loc Cert.OdDnRefIdeal.main_arg0) = m ((c.tc : Thread Cert.OdDnIdeal.nD Cert.OdDnIdeal.τ).loc Cert.OdDnIdeal.main_arg0)
      ∧ m' ((c.tc : Thread Cert.OdDnRefIdeal.nD Cert.OdDnRefIdeal.τ).loc Cert.OdDnRefIdeal.main_arg1) = m ((c.tc : Thread Cert.OdDnIdeal.nD Cert.OdDnIdeal.τ).loc Cert.OdDnIdeal.main_arg1)
      ∧ m' ((c.tc : Thread Cert.OdDnRefIdeal.nD Cert.OdDnRefIdeal.τ).loc Cert.OdDnRefIdeal.main_arg2) = m ((c.tc : Thread Cert.OdDnIdeal.nD Cert.OdDnIdeal.τ).loc Cert.OdDnIdeal.main_arg2)
      ∧ m' ((c.tc : Thread Cert.OdDnRefIdeal.nD Cert.OdDnRefIdeal.τ).loc Cert.OdDnRefIdeal.main_arg3) = m ((c.tc : Thread Cert.OdDnIdeal.nD Cert.OdDnIdeal.τ).loc Cert.OdDnIdeal.main_arg3)
      ∧ m' ((c.tc : Thread Cert.OdDnRefIdeal.nD Cert.OdDnRefIdeal.τ).loc Cert.OdDnRefIdeal.main_arg4) = m ((c.tc : Thread Cert.OdDnIdeal.nD Cert.OdDnIdeal.τ).loc Cert.OdDnIdeal.main_arg4)) →
    ∃ (v0 : (c : Dev Cert.OdDnIdeal.nD) → Buf (Elt Ideal) ((c.tc : Thread Cert.OdDnIdeal.nD Cert.OdDnIdeal.τ).loc Cert.OdDnIdeal.main_v0_0)) (v1 : (c : Dev Cert.OdDnIdeal.nD) → Buf (Elt Ideal) ((c.tc : Thread Cert.OdDnIdeal.nD Cert.OdDnIdeal.τ).loc Cert.OdDnIdeal.main_v0_1)),
      θ_run (Cert.OdDnIdeal.defs (F := Ideal)) (onTc (τ := Cert.OdDnIdeal.τ) (Cert.OdDnIdeal.main (F := Ideal))) ⟨m, fun _ => 0, g⟩ (fun r => ∀ c : Dev Cert.OdDnIdeal.nD,
          r.2.mem ((c.tc : Thread Cert.OdDnIdeal.nD Cert.OdDnIdeal.τ).loc Cert.OdDnIdeal.main_v0_0) = v0 c
          ∧ r.2.mem ((c.tc : Thread Cert.OdDnIdeal.nD Cert.OdDnIdeal.τ).loc Cert.OdDnIdeal.main_v0_1) = v1 c
          ∧ r.2.mem ((c.tc : Thread Cert.OdDnIdeal.nD Cert.OdDnIdeal.τ).loc Cert.OdDnIdeal.main_arg0) = m ((c.tc : Thread Cert.OdDnIdeal.nD Cert.OdDnIdeal.τ).loc Cert.OdDnIdeal.main_arg0)
          ∧ r.2.mem ((c.tc : Thread Cert.OdDnIdeal.nD Cert.OdDnIdeal.τ).loc Cert.OdDnIdeal.main_arg1) = m ((c.tc : Thread Cert.OdDnIdeal.nD Cert.OdDnIdeal.τ).loc Cert.OdDnIdeal.main_arg1)
          ∧ r.2.mem ((c.tc : Thread Cert.OdDnIdeal.nD Cert.OdDnIdeal.τ).loc Cert.OdDnIdeal.main_arg2) = m ((c.tc : Thread Cert.OdDnIdeal.nD Cert.OdDnIdeal.τ).loc Cert.OdDnIdeal.main_arg2)
          ∧ r.2.mem ((c.tc : Thread Cert.OdDnIdeal.nD Cert.OdDnIdeal.τ).loc Cert.OdDnIdeal.main_arg3) = m ((c.tc : Thread Cert.OdDnIdeal.nD Cert.OdDnIdeal.τ).loc Cert.OdDnIdeal.main_arg3)
          ∧ r.2.mem ((c.tc : Thread Cert.OdDnIdeal.nD Cert.OdDnIdeal.τ).loc Cert.OdDnIdeal.main_arg4) = m ((c.tc : Thread Cert.OdDnIdeal.nD Cert.OdDnIdeal.τ).loc Cert.OdDnIdeal.main_arg4))
      ∧ θ_run (Cert.OdDnRefIdeal.defs (F := Ideal)) (onTc (τ := Cert.OdDnRefIdeal.τ) (Cert.OdDnRefIdeal.main (F := Ideal))) ⟨m', fun _ => 0, g'⟩ (fun r => ∀ c : Dev Cert.OdDnRefIdeal.nD,
          r.2.mem ((c.tc : Thread Cert.OdDnRefIdeal.nD Cert.OdDnRefIdeal.τ).loc Cert.OdDnRefIdeal.main_v39) = v0 c
          ∧ r.2.mem ((c.tc : Thread Cert.OdDnRefIdeal.nD Cert.OdDnRefIdeal.τ).loc Cert.OdDnRefIdeal.main_v22) = v1 c
          ∧ r.2.mem ((c.tc : Thread Cert.OdDnRefIdeal.nD Cert.OdDnRefIdeal.τ).loc Cert.OdDnRefIdeal.main_arg0) = m' ((c.tc : Thread Cert.OdDnRefIdeal.nD Cert.OdDnRefIdeal.τ).loc Cert.OdDnRefIdeal.main_arg0)
          ∧ r.2.mem ((c.tc : Thread Cert.OdDnRefIdeal.nD Cert.OdDnRefIdeal.τ).loc Cert.OdDnRefIdeal.main_arg1) = m' ((c.tc : Thread Cert.OdDnRefIdeal.nD Cert.OdDnRefIdeal.τ).loc Cert.OdDnRefIdeal.main_arg1)
          ∧ r.2.mem ((c.tc : Thread Cert.OdDnRefIdeal.nD Cert.OdDnRefIdeal.τ).loc Cert.OdDnRefIdeal.main_arg2) = m' ((c.tc : Thread Cert.OdDnRefIdeal.nD Cert.OdDnRefIdeal.τ).loc Cert.OdDnRefIdeal.main_arg2)
          ∧ r.2.mem ((c.tc : Thread Cert.OdDnRefIdeal.nD Cert.OdDnRefIdeal.τ).loc Cert.OdDnRefIdeal.main_arg3) = m' ((c.tc : Thread Cert.OdDnRefIdeal.nD Cert.OdDnRefIdeal.τ).loc Cert.OdDnRefIdeal.main_arg3)
          ∧ r.2.mem ((c.tc : Thread Cert.OdDnRefIdeal.nD Cert.OdDnRefIdeal.τ).loc Cert.OdDnRefIdeal.main_arg4) = m' ((c.tc : Thread Cert.OdDnRefIdeal.nD Cert.OdDnRefIdeal.τ).loc Cert.OdDnRefIdeal.main_arg4))

def preserves_EvDn_EvDnIdeal : Prop :=
  True

def algebraic_EvDnIdeal_EvDnRefIdeal [hEvDnIdeal : Cert.EvDnIdeal.Facts] [hEvDnRefIdeal : Cert.EvDnRefIdeal.Facts] : Prop :=
  ∀ (m : (ℓ : Loc Cert.EvDnIdeal.nD Cert.EvDnIdeal.τ Cert.EvDnIdeal.sig) → Buf (Elt Ideal) ℓ) (g : Dev Cert.EvDnIdeal.nD → PrngReg)
    (m' : (ℓ : Loc Cert.EvDnRefIdeal.nD Cert.EvDnRefIdeal.τ Cert.EvDnRefIdeal.sig) → Buf (Elt Ideal) ℓ) (g' : Dev Cert.EvDnRefIdeal.nD → PrngReg), Pre_EvDnIdeal m →
    (∀ c : Dev Cert.EvDnIdeal.nD,
      m' ((c.tc : Thread Cert.EvDnRefIdeal.nD Cert.EvDnRefIdeal.τ).loc Cert.EvDnRefIdeal.main_arg0) = m ((c.tc : Thread Cert.EvDnIdeal.nD Cert.EvDnIdeal.τ).loc Cert.EvDnIdeal.main_arg0)
      ∧ m' ((c.tc : Thread Cert.EvDnRefIdeal.nD Cert.EvDnRefIdeal.τ).loc Cert.EvDnRefIdeal.main_arg1) = m ((c.tc : Thread Cert.EvDnIdeal.nD Cert.EvDnIdeal.τ).loc Cert.EvDnIdeal.main_arg1)
      ∧ m' ((c.tc : Thread Cert.EvDnRefIdeal.nD Cert.EvDnRefIdeal.τ).loc Cert.EvDnRefIdeal.main_arg2) = m ((c.tc : Thread Cert.EvDnIdeal.nD Cert.EvDnIdeal.τ).loc Cert.EvDnIdeal.main_arg2)
      ∧ m' ((c.tc : Thread Cert.EvDnRefIdeal.nD Cert.EvDnRefIdeal.τ).loc Cert.EvDnRefIdeal.main_arg3) = m ((c.tc : Thread Cert.EvDnIdeal.nD Cert.EvDnIdeal.τ).loc Cert.EvDnIdeal.main_arg3)
      ∧ m' ((c.tc : Thread Cert.EvDnRefIdeal.nD Cert.EvDnRefIdeal.τ).loc Cert.EvDnRefIdeal.main_arg4) = m ((c.tc : Thread Cert.EvDnIdeal.nD Cert.EvDnIdeal.τ).loc Cert.EvDnIdeal.main_arg4)) →
    ∃ (v0 : (c : Dev Cert.EvDnIdeal.nD) → Buf (Elt Ideal) ((c.tc : Thread Cert.EvDnIdeal.nD Cert.EvDnIdeal.τ).loc Cert.EvDnIdeal.main_v0_0)) (v1 : (c : Dev Cert.EvDnIdeal.nD) → Buf (Elt Ideal) ((c.tc : Thread Cert.EvDnIdeal.nD Cert.EvDnIdeal.τ).loc Cert.EvDnIdeal.main_v0_1)),
      θ_run (Cert.EvDnIdeal.defs (F := Ideal)) (onTc (τ := Cert.EvDnIdeal.τ) (Cert.EvDnIdeal.main (F := Ideal))) ⟨m, fun _ => 0, g⟩ (fun r => ∀ c : Dev Cert.EvDnIdeal.nD,
          r.2.mem ((c.tc : Thread Cert.EvDnIdeal.nD Cert.EvDnIdeal.τ).loc Cert.EvDnIdeal.main_v0_0) = v0 c
          ∧ r.2.mem ((c.tc : Thread Cert.EvDnIdeal.nD Cert.EvDnIdeal.τ).loc Cert.EvDnIdeal.main_v0_1) = v1 c
          ∧ r.2.mem ((c.tc : Thread Cert.EvDnIdeal.nD Cert.EvDnIdeal.τ).loc Cert.EvDnIdeal.main_arg0) = m ((c.tc : Thread Cert.EvDnIdeal.nD Cert.EvDnIdeal.τ).loc Cert.EvDnIdeal.main_arg0)
          ∧ r.2.mem ((c.tc : Thread Cert.EvDnIdeal.nD Cert.EvDnIdeal.τ).loc Cert.EvDnIdeal.main_arg1) = m ((c.tc : Thread Cert.EvDnIdeal.nD Cert.EvDnIdeal.τ).loc Cert.EvDnIdeal.main_arg1)
          ∧ r.2.mem ((c.tc : Thread Cert.EvDnIdeal.nD Cert.EvDnIdeal.τ).loc Cert.EvDnIdeal.main_arg2) = m ((c.tc : Thread Cert.EvDnIdeal.nD Cert.EvDnIdeal.τ).loc Cert.EvDnIdeal.main_arg2)
          ∧ r.2.mem ((c.tc : Thread Cert.EvDnIdeal.nD Cert.EvDnIdeal.τ).loc Cert.EvDnIdeal.main_arg3) = m ((c.tc : Thread Cert.EvDnIdeal.nD Cert.EvDnIdeal.τ).loc Cert.EvDnIdeal.main_arg3)
          ∧ r.2.mem ((c.tc : Thread Cert.EvDnIdeal.nD Cert.EvDnIdeal.τ).loc Cert.EvDnIdeal.main_arg4) = m ((c.tc : Thread Cert.EvDnIdeal.nD Cert.EvDnIdeal.τ).loc Cert.EvDnIdeal.main_arg4))
      ∧ θ_run (Cert.EvDnRefIdeal.defs (F := Ideal)) (onTc (τ := Cert.EvDnRefIdeal.τ) (Cert.EvDnRefIdeal.main (F := Ideal))) ⟨m', fun _ => 0, g'⟩ (fun r => ∀ c : Dev Cert.EvDnRefIdeal.nD,
          r.2.mem ((c.tc : Thread Cert.EvDnRefIdeal.nD Cert.EvDnRefIdeal.τ).loc Cert.EvDnRefIdeal.main_v39) = v0 c
          ∧ r.2.mem ((c.tc : Thread Cert.EvDnRefIdeal.nD Cert.EvDnRefIdeal.τ).loc Cert.EvDnRefIdeal.main_v22) = v1 c
          ∧ r.2.mem ((c.tc : Thread Cert.EvDnRefIdeal.nD Cert.EvDnRefIdeal.τ).loc Cert.EvDnRefIdeal.main_arg0) = m' ((c.tc : Thread Cert.EvDnRefIdeal.nD Cert.EvDnRefIdeal.τ).loc Cert.EvDnRefIdeal.main_arg0)
          ∧ r.2.mem ((c.tc : Thread Cert.EvDnRefIdeal.nD Cert.EvDnRefIdeal.τ).loc Cert.EvDnRefIdeal.main_arg1) = m' ((c.tc : Thread Cert.EvDnRefIdeal.nD Cert.EvDnRefIdeal.τ).loc Cert.EvDnRefIdeal.main_arg1)
          ∧ r.2.mem ((c.tc : Thread Cert.EvDnRefIdeal.nD Cert.EvDnRefIdeal.τ).loc Cert.EvDnRefIdeal.main_arg2) = m' ((c.tc : Thread Cert.EvDnRefIdeal.nD Cert.EvDnRefIdeal.τ).loc Cert.EvDnRefIdeal.main_arg2)
          ∧ r.2.mem ((c.tc : Thread Cert.EvDnRefIdeal.nD Cert.EvDnRefIdeal.τ).loc Cert.EvDnRefIdeal.main_arg3) = m' ((c.tc : Thread Cert.EvDnRefIdeal.nD Cert.EvDnRefIdeal.τ).loc Cert.EvDnRefIdeal.main_arg3)
          ∧ r.2.mem ((c.tc : Thread Cert.EvDnRefIdeal.nD Cert.EvDnRefIdeal.τ).loc Cert.EvDnRefIdeal.main_arg4) = m' ((c.tc : Thread Cert.EvDnRefIdeal.nD Cert.EvDnRefIdeal.τ).loc Cert.EvDnRefIdeal.main_arg4))

def preserves_XaDnq_XaDnqIdeal : Prop :=
  True

def algebraic_XaDnqIdeal_XaDnqRefIdeal [hXaDnqIdeal : Cert.XaDnqIdeal.Facts] [hXaDnqRefIdeal : Cert.XaDnqRefIdeal.Facts] : Prop :=
  ∀ (m : (ℓ : Loc Cert.XaDnqIdeal.nD Cert.XaDnqIdeal.τ Cert.XaDnqIdeal.sig) → Buf (Elt Ideal) ℓ) (g : Dev Cert.XaDnqIdeal.nD → PrngReg)
    (m' : (ℓ : Loc Cert.XaDnqRefIdeal.nD Cert.XaDnqRefIdeal.τ Cert.XaDnqRefIdeal.sig) → Buf (Elt Ideal) ℓ) (g' : Dev Cert.XaDnqRefIdeal.nD → PrngReg), Pre_XaDnqIdeal m →
    (∀ c : Dev Cert.XaDnqIdeal.nD,
      m' ((c.tc : Thread Cert.XaDnqRefIdeal.nD Cert.XaDnqRefIdeal.τ).loc Cert.XaDnqRefIdeal.main_arg0) = m ((c.tc : Thread Cert.XaDnqIdeal.nD Cert.XaDnqIdeal.τ).loc Cert.XaDnqIdeal.main_arg0)
      ∧ m' ((c.tc : Thread Cert.XaDnqRefIdeal.nD Cert.XaDnqRefIdeal.τ).loc Cert.XaDnqRefIdeal.main_arg1) = m ((c.tc : Thread Cert.XaDnqIdeal.nD Cert.XaDnqIdeal.τ).loc Cert.XaDnqIdeal.main_arg1)
      ∧ m' ((c.tc : Thread Cert.XaDnqRefIdeal.nD Cert.XaDnqRefIdeal.τ).loc Cert.XaDnqRefIdeal.main_arg2) = m ((c.tc : Thread Cert.XaDnqIdeal.nD Cert.XaDnqIdeal.τ).loc Cert.XaDnqIdeal.main_arg2)
      ∧ m' ((c.tc : Thread Cert.XaDnqRefIdeal.nD Cert.XaDnqRefIdeal.τ).loc Cert.XaDnqRefIdeal.main_arg3) = m ((c.tc : Thread Cert.XaDnqIdeal.nD Cert.XaDnqIdeal.τ).loc Cert.XaDnqIdeal.main_arg3)
      ∧ m' ((c.tc : Thread Cert.XaDnqRefIdeal.nD Cert.XaDnqRefIdeal.τ).loc Cert.XaDnqRefIdeal.main_arg4) = m ((c.tc : Thread Cert.XaDnqIdeal.nD Cert.XaDnqIdeal.τ).loc Cert.XaDnqIdeal.main_arg4)) →
    ∃ (v0 : (c : Dev Cert.XaDnqIdeal.nD) → Buf (Elt Ideal) ((c.tc : Thread Cert.XaDnqIdeal.nD Cert.XaDnqIdeal.τ).loc Cert.XaDnqIdeal.main_v0_0)) (v1 : (c : Dev Cert.XaDnqIdeal.nD) → Buf (Elt Ideal) ((c.tc : Thread Cert.XaDnqIdeal.nD Cert.XaDnqIdeal.τ).loc Cert.XaDnqIdeal.main_v0_1)),
      θ_run (Cert.XaDnqIdeal.defs (F := Ideal)) (onTc (τ := Cert.XaDnqIdeal.τ) (Cert.XaDnqIdeal.main (F := Ideal))) ⟨m, fun _ => 0, g⟩ (fun r => ∀ c : Dev Cert.XaDnqIdeal.nD,
          r.2.mem ((c.tc : Thread Cert.XaDnqIdeal.nD Cert.XaDnqIdeal.τ).loc Cert.XaDnqIdeal.main_v0_0) = v0 c
          ∧ r.2.mem ((c.tc : Thread Cert.XaDnqIdeal.nD Cert.XaDnqIdeal.τ).loc Cert.XaDnqIdeal.main_v0_1) = v1 c
          ∧ r.2.mem ((c.tc : Thread Cert.XaDnqIdeal.nD Cert.XaDnqIdeal.τ).loc Cert.XaDnqIdeal.main_arg0) = m ((c.tc : Thread Cert.XaDnqIdeal.nD Cert.XaDnqIdeal.τ).loc Cert.XaDnqIdeal.main_arg0)
          ∧ r.2.mem ((c.tc : Thread Cert.XaDnqIdeal.nD Cert.XaDnqIdeal.τ).loc Cert.XaDnqIdeal.main_arg1) = m ((c.tc : Thread Cert.XaDnqIdeal.nD Cert.XaDnqIdeal.τ).loc Cert.XaDnqIdeal.main_arg1)
          ∧ r.2.mem ((c.tc : Thread Cert.XaDnqIdeal.nD Cert.XaDnqIdeal.τ).loc Cert.XaDnqIdeal.main_arg2) = m ((c.tc : Thread Cert.XaDnqIdeal.nD Cert.XaDnqIdeal.τ).loc Cert.XaDnqIdeal.main_arg2)
          ∧ r.2.mem ((c.tc : Thread Cert.XaDnqIdeal.nD Cert.XaDnqIdeal.τ).loc Cert.XaDnqIdeal.main_arg3) = m ((c.tc : Thread Cert.XaDnqIdeal.nD Cert.XaDnqIdeal.τ).loc Cert.XaDnqIdeal.main_arg3)
          ∧ r.2.mem ((c.tc : Thread Cert.XaDnqIdeal.nD Cert.XaDnqIdeal.τ).loc Cert.XaDnqIdeal.main_arg4) = m ((c.tc : Thread Cert.XaDnqIdeal.nD Cert.XaDnqIdeal.τ).loc Cert.XaDnqIdeal.main_arg4))
      ∧ θ_run (Cert.XaDnqRefIdeal.defs (F := Ideal)) (onTc (τ := Cert.XaDnqRefIdeal.τ) (Cert.XaDnqRefIdeal.main (F := Ideal))) ⟨m', fun _ => 0, g'⟩ (fun r => ∀ c : Dev Cert.XaDnqRefIdeal.nD,
          r.2.mem ((c.tc : Thread Cert.XaDnqRefIdeal.nD Cert.XaDnqRefIdeal.τ).loc Cert.XaDnqRefIdeal.main_v38) = v0 c
          ∧ r.2.mem ((c.tc : Thread Cert.XaDnqRefIdeal.nD Cert.XaDnqRefIdeal.τ).loc Cert.XaDnqRefIdeal.main_v21) = v1 c
          ∧ r.2.mem ((c.tc : Thread Cert.XaDnqRefIdeal.nD Cert.XaDnqRefIdeal.τ).loc Cert.XaDnqRefIdeal.main_arg0) = m' ((c.tc : Thread Cert.XaDnqRefIdeal.nD Cert.XaDnqRefIdeal.τ).loc Cert.XaDnqRefIdeal.main_arg0)
          ∧ r.2.mem ((c.tc : Thread Cert.XaDnqRefIdeal.nD Cert.XaDnqRefIdeal.τ).loc Cert.XaDnqRefIdeal.main_arg1) = m' ((c.tc : Thread Cert.XaDnqRefIdeal.nD Cert.XaDnqRefIdeal.τ).loc Cert.XaDnqRefIdeal.main_arg1)
          ∧ r.2.mem ((c.tc : Thread Cert.XaDnqRefIdeal.nD Cert.XaDnqRefIdeal.τ).loc Cert.XaDnqRefIdeal.main_arg2) = m' ((c.tc : Thread Cert.XaDnqRefIdeal.nD Cert.XaDnqRefIdeal.τ).loc Cert.XaDnqRefIdeal.main_arg2)
          ∧ r.2.mem ((c.tc : Thread Cert.XaDnqRefIdeal.nD Cert.XaDnqRefIdeal.τ).loc Cert.XaDnqRefIdeal.main_arg3) = m' ((c.tc : Thread Cert.XaDnqRefIdeal.nD Cert.XaDnqRefIdeal.τ).loc Cert.XaDnqRefIdeal.main_arg3)
          ∧ r.2.mem ((c.tc : Thread Cert.XaDnqRefIdeal.nD Cert.XaDnqRefIdeal.τ).loc Cert.XaDnqRefIdeal.main_arg4) = m' ((c.tc : Thread Cert.XaDnqRefIdeal.nD Cert.XaDnqRefIdeal.τ).loc Cert.XaDnqRefIdeal.main_arg4))

def preserves_FfnDwd_FfnDwdIdeal : Prop :=
  True

def algebraic_FfnDwdIdeal_FfnDwdRefIdeal [hFfnDwdIdeal : Cert.FfnDwdIdeal.Facts] [hFfnDwdRefIdeal : Cert.FfnDwdRefIdeal.Facts] : Prop :=
  ∀ (m : (ℓ : Loc Cert.FfnDwdIdeal.nD Cert.FfnDwdIdeal.τ Cert.FfnDwdIdeal.sig) → Buf (Elt Ideal) ℓ) (g : Dev Cert.FfnDwdIdeal.nD → PrngReg)
    (m' : (ℓ : Loc Cert.FfnDwdRefIdeal.nD Cert.FfnDwdRefIdeal.τ Cert.FfnDwdRefIdeal.sig) → Buf (Elt Ideal) ℓ) (g' : Dev Cert.FfnDwdRefIdeal.nD → PrngReg), Pre_FfnDwdIdeal m →
    (∀ c : Dev Cert.FfnDwdIdeal.nD,
      m' ((c.tc : Thread Cert.FfnDwdRefIdeal.nD Cert.FfnDwdRefIdeal.τ).loc Cert.FfnDwdRefIdeal.main_arg0) = m ((c.tc : Thread Cert.FfnDwdIdeal.nD Cert.FfnDwdIdeal.τ).loc Cert.FfnDwdIdeal.main_arg0)
      ∧ m' ((c.tc : Thread Cert.FfnDwdRefIdeal.nD Cert.FfnDwdRefIdeal.τ).loc Cert.FfnDwdRefIdeal.main_arg1) = m ((c.tc : Thread Cert.FfnDwdIdeal.nD Cert.FfnDwdIdeal.τ).loc Cert.FfnDwdIdeal.main_arg1)) →
    ∃ (v0 : (c : Dev Cert.FfnDwdIdeal.nD) → Buf (Elt Ideal) ((c.tc : Thread Cert.FfnDwdIdeal.nD Cert.FfnDwdIdeal.τ).loc Cert.FfnDwdIdeal.main_v0)),
      θ_run (Cert.FfnDwdIdeal.defs (F := Ideal)) (onTc (τ := Cert.FfnDwdIdeal.τ) (Cert.FfnDwdIdeal.main (F := Ideal))) ⟨m, fun _ => 0, g⟩ (fun r => ∀ c : Dev Cert.FfnDwdIdeal.nD,
          r.2.mem ((c.tc : Thread Cert.FfnDwdIdeal.nD Cert.FfnDwdIdeal.τ).loc Cert.FfnDwdIdeal.main_v0) = v0 c
          ∧ r.2.mem ((c.tc : Thread Cert.FfnDwdIdeal.nD Cert.FfnDwdIdeal.τ).loc Cert.FfnDwdIdeal.main_arg0) = m ((c.tc : Thread Cert.FfnDwdIdeal.nD Cert.FfnDwdIdeal.τ).loc Cert.FfnDwdIdeal.main_arg0)
          ∧ r.2.mem ((c.tc : Thread Cert.FfnDwdIdeal.nD Cert.FfnDwdIdeal.τ).loc Cert.FfnDwdIdeal.main_arg1) = m ((c.tc : Thread Cert.FfnDwdIdeal.nD Cert.FfnDwdIdeal.τ).loc Cert.FfnDwdIdeal.main_arg1))
      ∧ θ_run (Cert.FfnDwdRefIdeal.defs (F := Ideal)) (onTc (τ := Cert.FfnDwdRefIdeal.τ) (Cert.FfnDwdRefIdeal.main (F := Ideal))) ⟨m', fun _ => 0, g'⟩ (fun r => ∀ c : Dev Cert.FfnDwdRefIdeal.nD,
          r.2.mem ((c.tc : Thread Cert.FfnDwdRefIdeal.nD Cert.FfnDwdRefIdeal.τ).loc Cert.FfnDwdRefIdeal.main_v5) = v0 c
          ∧ r.2.mem ((c.tc : Thread Cert.FfnDwdRefIdeal.nD Cert.FfnDwdRefIdeal.τ).loc Cert.FfnDwdRefIdeal.main_arg0) = m' ((c.tc : Thread Cert.FfnDwdRefIdeal.nD Cert.FfnDwdRefIdeal.τ).loc Cert.FfnDwdRefIdeal.main_arg0)
          ∧ r.2.mem ((c.tc : Thread Cert.FfnDwdRefIdeal.nD Cert.FfnDwdRefIdeal.τ).loc Cert.FfnDwdRefIdeal.main_arg1) = m' ((c.tc : Thread Cert.FfnDwdRefIdeal.nD Cert.FfnDwdRefIdeal.τ).loc Cert.FfnDwdRefIdeal.main_arg1))

def preserves_FfnDwg_FfnDwgIdeal : Prop :=
  True

def algebraic_FfnDwgIdeal_FfnDwgRefIdeal [hFfnDwgIdeal : Cert.FfnDwgIdeal.Facts] [hFfnDwgRefIdeal : Cert.FfnDwgRefIdeal.Facts] : Prop :=
  ∀ (m : (ℓ : Loc Cert.FfnDwgIdeal.nD Cert.FfnDwgIdeal.τ Cert.FfnDwgIdeal.sig) → Buf (Elt Ideal) ℓ) (g : Dev Cert.FfnDwgIdeal.nD → PrngReg)
    (m' : (ℓ : Loc Cert.FfnDwgRefIdeal.nD Cert.FfnDwgRefIdeal.τ Cert.FfnDwgRefIdeal.sig) → Buf (Elt Ideal) ℓ) (g' : Dev Cert.FfnDwgRefIdeal.nD → PrngReg), Pre_FfnDwgIdeal m →
    (∀ c : Dev Cert.FfnDwgIdeal.nD,
      m' ((c.tc : Thread Cert.FfnDwgRefIdeal.nD Cert.FfnDwgRefIdeal.τ).loc Cert.FfnDwgRefIdeal.main_arg0) = m ((c.tc : Thread Cert.FfnDwgIdeal.nD Cert.FfnDwgIdeal.τ).loc Cert.FfnDwgIdeal.main_arg0)
      ∧ m' ((c.tc : Thread Cert.FfnDwgRefIdeal.nD Cert.FfnDwgRefIdeal.τ).loc Cert.FfnDwgRefIdeal.main_arg1) = m ((c.tc : Thread Cert.FfnDwgIdeal.nD Cert.FfnDwgIdeal.τ).loc Cert.FfnDwgIdeal.main_arg1)) →
    ∃ (v0 : (c : Dev Cert.FfnDwgIdeal.nD) → Buf (Elt Ideal) ((c.tc : Thread Cert.FfnDwgIdeal.nD Cert.FfnDwgIdeal.τ).loc Cert.FfnDwgIdeal.main_v0)),
      θ_run (Cert.FfnDwgIdeal.defs (F := Ideal)) (onTc (τ := Cert.FfnDwgIdeal.τ) (Cert.FfnDwgIdeal.main (F := Ideal))) ⟨m, fun _ => 0, g⟩ (fun r => ∀ c : Dev Cert.FfnDwgIdeal.nD,
          r.2.mem ((c.tc : Thread Cert.FfnDwgIdeal.nD Cert.FfnDwgIdeal.τ).loc Cert.FfnDwgIdeal.main_v0) = v0 c
          ∧ r.2.mem ((c.tc : Thread Cert.FfnDwgIdeal.nD Cert.FfnDwgIdeal.τ).loc Cert.FfnDwgIdeal.main_arg0) = m ((c.tc : Thread Cert.FfnDwgIdeal.nD Cert.FfnDwgIdeal.τ).loc Cert.FfnDwgIdeal.main_arg0)
          ∧ r.2.mem ((c.tc : Thread Cert.FfnDwgIdeal.nD Cert.FfnDwgIdeal.τ).loc Cert.FfnDwgIdeal.main_arg1) = m ((c.tc : Thread Cert.FfnDwgIdeal.nD Cert.FfnDwgIdeal.τ).loc Cert.FfnDwgIdeal.main_arg1))
      ∧ θ_run (Cert.FfnDwgRefIdeal.defs (F := Ideal)) (onTc (τ := Cert.FfnDwgRefIdeal.τ) (Cert.FfnDwgRefIdeal.main (F := Ideal))) ⟨m', fun _ => 0, g'⟩ (fun r => ∀ c : Dev Cert.FfnDwgRefIdeal.nD,
          r.2.mem ((c.tc : Thread Cert.FfnDwgRefIdeal.nD Cert.FfnDwgRefIdeal.τ).loc Cert.FfnDwgRefIdeal.main_v8) = v0 c
          ∧ r.2.mem ((c.tc : Thread Cert.FfnDwgRefIdeal.nD Cert.FfnDwgRefIdeal.τ).loc Cert.FfnDwgRefIdeal.main_arg0) = m' ((c.tc : Thread Cert.FfnDwgRefIdeal.nD Cert.FfnDwgRefIdeal.τ).loc Cert.FfnDwgRefIdeal.main_arg0)
          ∧ r.2.mem ((c.tc : Thread Cert.FfnDwgRefIdeal.nD Cert.FfnDwgRefIdeal.τ).loc Cert.FfnDwgRefIdeal.main_arg1) = m' ((c.tc : Thread Cert.FfnDwgRefIdeal.nD Cert.FfnDwgRefIdeal.τ).loc Cert.FfnDwgRefIdeal.main_arg1))

def preserves_XaDwo_XaDwoIdeal : Prop :=
  True

def algebraic_XaDwoIdeal_XaDwoRefIdeal [hXaDwoIdeal : Cert.XaDwoIdeal.Facts] [hXaDwoRefIdeal : Cert.XaDwoRefIdeal.Facts] : Prop :=
  ∀ (m : (ℓ : Loc Cert.XaDwoIdeal.nD Cert.XaDwoIdeal.τ Cert.XaDwoIdeal.sig) → Buf (Elt Ideal) ℓ) (g : Dev Cert.XaDwoIdeal.nD → PrngReg)
    (m' : (ℓ : Loc Cert.XaDwoRefIdeal.nD Cert.XaDwoRefIdeal.τ Cert.XaDwoRefIdeal.sig) → Buf (Elt Ideal) ℓ) (g' : Dev Cert.XaDwoRefIdeal.nD → PrngReg), Pre_XaDwoIdeal m →
    (∀ c : Dev Cert.XaDwoIdeal.nD,
      m' ((c.tc : Thread Cert.XaDwoRefIdeal.nD Cert.XaDwoRefIdeal.τ).loc Cert.XaDwoRefIdeal.main_arg0) = m ((c.tc : Thread Cert.XaDwoIdeal.nD Cert.XaDwoIdeal.τ).loc Cert.XaDwoIdeal.main_arg0)
      ∧ m' ((c.tc : Thread Cert.XaDwoRefIdeal.nD Cert.XaDwoRefIdeal.τ).loc Cert.XaDwoRefIdeal.main_arg1) = m ((c.tc : Thread Cert.XaDwoIdeal.nD Cert.XaDwoIdeal.τ).loc Cert.XaDwoIdeal.main_arg1)) →
    ∃ (v0 : (c : Dev Cert.XaDwoIdeal.nD) → Buf (Elt Ideal) ((c.tc : Thread Cert.XaDwoIdeal.nD Cert.XaDwoIdeal.τ).loc Cert.XaDwoIdeal.main_v0)),
      θ_run (Cert.XaDwoIdeal.defs (F := Ideal)) (onTc (τ := Cert.XaDwoIdeal.τ) (Cert.XaDwoIdeal.main (F := Ideal))) ⟨m, fun _ => 0, g⟩ (fun r => ∀ c : Dev Cert.XaDwoIdeal.nD,
          r.2.mem ((c.tc : Thread Cert.XaDwoIdeal.nD Cert.XaDwoIdeal.τ).loc Cert.XaDwoIdeal.main_v0) = v0 c
          ∧ r.2.mem ((c.tc : Thread Cert.XaDwoIdeal.nD Cert.XaDwoIdeal.τ).loc Cert.XaDwoIdeal.main_arg0) = m ((c.tc : Thread Cert.XaDwoIdeal.nD Cert.XaDwoIdeal.τ).loc Cert.XaDwoIdeal.main_arg0)
          ∧ r.2.mem ((c.tc : Thread Cert.XaDwoIdeal.nD Cert.XaDwoIdeal.τ).loc Cert.XaDwoIdeal.main_arg1) = m ((c.tc : Thread Cert.XaDwoIdeal.nD Cert.XaDwoIdeal.τ).loc Cert.XaDwoIdeal.main_arg1))
      ∧ θ_run (Cert.XaDwoRefIdeal.defs (F := Ideal)) (onTc (τ := Cert.XaDwoRefIdeal.τ) (Cert.XaDwoRefIdeal.main (F := Ideal))) ⟨m', fun _ => 0, g'⟩ (fun r => ∀ c : Dev Cert.XaDwoRefIdeal.nD,
          r.2.mem ((c.tc : Thread Cert.XaDwoRefIdeal.nD Cert.XaDwoRefIdeal.τ).loc Cert.XaDwoRefIdeal.main_v5) = v0 c
          ∧ r.2.mem ((c.tc : Thread Cert.XaDwoRefIdeal.nD Cert.XaDwoRefIdeal.τ).loc Cert.XaDwoRefIdeal.main_arg0) = m' ((c.tc : Thread Cert.XaDwoRefIdeal.nD Cert.XaDwoRefIdeal.τ).loc Cert.XaDwoRefIdeal.main_arg0)
          ∧ r.2.mem ((c.tc : Thread Cert.XaDwoRefIdeal.nD Cert.XaDwoRefIdeal.τ).loc Cert.XaDwoRefIdeal.main_arg1) = m' ((c.tc : Thread Cert.XaDwoRefIdeal.nD Cert.XaDwoRefIdeal.τ).loc Cert.XaDwoRefIdeal.main_arg1))

def preserves_XaDwq_XaDwqIdeal : Prop :=
  True

def algebraic_XaDwqIdeal_XaDwqRefIdeal [hXaDwqIdeal : Cert.XaDwqIdeal.Facts] [hXaDwqRefIdeal : Cert.XaDwqRefIdeal.Facts] : Prop :=
  ∀ (m : (ℓ : Loc Cert.XaDwqIdeal.nD Cert.XaDwqIdeal.τ Cert.XaDwqIdeal.sig) → Buf (Elt Ideal) ℓ) (g : Dev Cert.XaDwqIdeal.nD → PrngReg)
    (m' : (ℓ : Loc Cert.XaDwqRefIdeal.nD Cert.XaDwqRefIdeal.τ Cert.XaDwqRefIdeal.sig) → Buf (Elt Ideal) ℓ) (g' : Dev Cert.XaDwqRefIdeal.nD → PrngReg), Pre_XaDwqIdeal m →
    (∀ c : Dev Cert.XaDwqIdeal.nD,
      m' ((c.tc : Thread Cert.XaDwqRefIdeal.nD Cert.XaDwqRefIdeal.τ).loc Cert.XaDwqRefIdeal.main_arg0) = m ((c.tc : Thread Cert.XaDwqIdeal.nD Cert.XaDwqIdeal.τ).loc Cert.XaDwqIdeal.main_arg0)
      ∧ m' ((c.tc : Thread Cert.XaDwqRefIdeal.nD Cert.XaDwqRefIdeal.τ).loc Cert.XaDwqRefIdeal.main_arg1) = m ((c.tc : Thread Cert.XaDwqIdeal.nD Cert.XaDwqIdeal.τ).loc Cert.XaDwqIdeal.main_arg1)) →
    ∃ (v0 : (c : Dev Cert.XaDwqIdeal.nD) → Buf (Elt Ideal) ((c.tc : Thread Cert.XaDwqIdeal.nD Cert.XaDwqIdeal.τ).loc Cert.XaDwqIdeal.main_v0)),
      θ_run (Cert.XaDwqIdeal.defs (F := Ideal)) (onTc (τ := Cert.XaDwqIdeal.τ) (Cert.XaDwqIdeal.main (F := Ideal))) ⟨m, fun _ => 0, g⟩ (fun r => ∀ c : Dev Cert.XaDwqIdeal.nD,
          r.2.mem ((c.tc : Thread Cert.XaDwqIdeal.nD Cert.XaDwqIdeal.τ).loc Cert.XaDwqIdeal.main_v0) = v0 c
          ∧ r.2.mem ((c.tc : Thread Cert.XaDwqIdeal.nD Cert.XaDwqIdeal.τ).loc Cert.XaDwqIdeal.main_arg0) = m ((c.tc : Thread Cert.XaDwqIdeal.nD Cert.XaDwqIdeal.τ).loc Cert.XaDwqIdeal.main_arg0)
          ∧ r.2.mem ((c.tc : Thread Cert.XaDwqIdeal.nD Cert.XaDwqIdeal.τ).loc Cert.XaDwqIdeal.main_arg1) = m ((c.tc : Thread Cert.XaDwqIdeal.nD Cert.XaDwqIdeal.τ).loc Cert.XaDwqIdeal.main_arg1))
      ∧ θ_run (Cert.XaDwqRefIdeal.defs (F := Ideal)) (onTc (τ := Cert.XaDwqRefIdeal.τ) (Cert.XaDwqRefIdeal.main (F := Ideal))) ⟨m', fun _ => 0, g'⟩ (fun r => ∀ c : Dev Cert.XaDwqRefIdeal.nD,
          r.2.mem ((c.tc : Thread Cert.XaDwqRefIdeal.nD Cert.XaDwqRefIdeal.τ).loc Cert.XaDwqRefIdeal.main_v6) = v0 c
          ∧ r.2.mem ((c.tc : Thread Cert.XaDwqRefIdeal.nD Cert.XaDwqRefIdeal.τ).loc Cert.XaDwqRefIdeal.main_arg0) = m' ((c.tc : Thread Cert.XaDwqRefIdeal.nD Cert.XaDwqRefIdeal.τ).loc Cert.XaDwqRefIdeal.main_arg0)
          ∧ r.2.mem ((c.tc : Thread Cert.XaDwqRefIdeal.nD Cert.XaDwqRefIdeal.τ).loc Cert.XaDwqRefIdeal.main_arg1) = m' ((c.tc : Thread Cert.XaDwqRefIdeal.nD Cert.XaDwqRefIdeal.τ).loc Cert.XaDwqRefIdeal.main_arg1))

def preserves_OdDwin_OdDwinIdeal : Prop :=
  True

def algebraic_OdDwinIdeal_OdDwinRefIdeal [hOdDwinIdeal : Cert.OdDwinIdeal.Facts] [hOdDwinRefIdeal : Cert.OdDwinRefIdeal.Facts] : Prop :=
  ∀ (m : (ℓ : Loc Cert.OdDwinIdeal.nD Cert.OdDwinIdeal.τ Cert.OdDwinIdeal.sig) → Buf (Elt Ideal) ℓ) (g : Dev Cert.OdDwinIdeal.nD → PrngReg)
    (m' : (ℓ : Loc Cert.OdDwinRefIdeal.nD Cert.OdDwinRefIdeal.τ Cert.OdDwinRefIdeal.sig) → Buf (Elt Ideal) ℓ) (g' : Dev Cert.OdDwinRefIdeal.nD → PrngReg), Pre_OdDwinIdeal m →
    (∀ c : Dev Cert.OdDwinIdeal.nD,
      m' ((c.tc : Thread Cert.OdDwinRefIdeal.nD Cert.OdDwinRefIdeal.τ).loc Cert.OdDwinRefIdeal.main_arg0) = m ((c.tc : Thread Cert.OdDwinIdeal.nD Cert.OdDwinIdeal.τ).loc Cert.OdDwinIdeal.main_arg0)
      ∧ m' ((c.tc : Thread Cert.OdDwinRefIdeal.nD Cert.OdDwinRefIdeal.τ).loc Cert.OdDwinRefIdeal.main_arg1) = m ((c.tc : Thread Cert.OdDwinIdeal.nD Cert.OdDwinIdeal.τ).loc Cert.OdDwinIdeal.main_arg1)) →
    ∃ (v0 : (c : Dev Cert.OdDwinIdeal.nD) → Buf (Elt Ideal) ((c.tc : Thread Cert.OdDwinIdeal.nD Cert.OdDwinIdeal.τ).loc Cert.OdDwinIdeal.main_v0)),
      θ_run (Cert.OdDwinIdeal.defs (F := Ideal)) (onTc (τ := Cert.OdDwinIdeal.τ) (Cert.OdDwinIdeal.main (F := Ideal))) ⟨m, fun _ => 0, g⟩ (fun r => ∀ c : Dev Cert.OdDwinIdeal.nD,
          r.2.mem ((c.tc : Thread Cert.OdDwinIdeal.nD Cert.OdDwinIdeal.τ).loc Cert.OdDwinIdeal.main_v0) = v0 c
          ∧ r.2.mem ((c.tc : Thread Cert.OdDwinIdeal.nD Cert.OdDwinIdeal.τ).loc Cert.OdDwinIdeal.main_arg0) = m ((c.tc : Thread Cert.OdDwinIdeal.nD Cert.OdDwinIdeal.τ).loc Cert.OdDwinIdeal.main_arg0)
          ∧ r.2.mem ((c.tc : Thread Cert.OdDwinIdeal.nD Cert.OdDwinIdeal.τ).loc Cert.OdDwinIdeal.main_arg1) = m ((c.tc : Thread Cert.OdDwinIdeal.nD Cert.OdDwinIdeal.τ).loc Cert.OdDwinIdeal.main_arg1))
      ∧ θ_run (Cert.OdDwinRefIdeal.defs (F := Ideal)) (onTc (τ := Cert.OdDwinRefIdeal.τ) (Cert.OdDwinRefIdeal.main (F := Ideal))) ⟨m', fun _ => 0, g'⟩ (fun r => ∀ c : Dev Cert.OdDwinRefIdeal.nD,
          r.2.mem ((c.tc : Thread Cert.OdDwinRefIdeal.nD Cert.OdDwinRefIdeal.τ).loc Cert.OdDwinRefIdeal.main_v8) = v0 c
          ∧ r.2.mem ((c.tc : Thread Cert.OdDwinRefIdeal.nD Cert.OdDwinRefIdeal.τ).loc Cert.OdDwinRefIdeal.main_arg0) = m' ((c.tc : Thread Cert.OdDwinRefIdeal.nD Cert.OdDwinRefIdeal.τ).loc Cert.OdDwinRefIdeal.main_arg0)
          ∧ r.2.mem ((c.tc : Thread Cert.OdDwinRefIdeal.nD Cert.OdDwinRefIdeal.τ).loc Cert.OdDwinRefIdeal.main_arg1) = m' ((c.tc : Thread Cert.OdDwinRefIdeal.nD Cert.OdDwinRefIdeal.τ).loc Cert.OdDwinRefIdeal.main_arg1))

def preserves_EvDwin_EvDwinIdeal : Prop :=
  True

def algebraic_EvDwinIdeal_EvDwinRefIdeal [hEvDwinIdeal : Cert.EvDwinIdeal.Facts] [hEvDwinRefIdeal : Cert.EvDwinRefIdeal.Facts] : Prop :=
  ∀ (m : (ℓ : Loc Cert.EvDwinIdeal.nD Cert.EvDwinIdeal.τ Cert.EvDwinIdeal.sig) → Buf (Elt Ideal) ℓ) (g : Dev Cert.EvDwinIdeal.nD → PrngReg)
    (m' : (ℓ : Loc Cert.EvDwinRefIdeal.nD Cert.EvDwinRefIdeal.τ Cert.EvDwinRefIdeal.sig) → Buf (Elt Ideal) ℓ) (g' : Dev Cert.EvDwinRefIdeal.nD → PrngReg), Pre_EvDwinIdeal m →
    (∀ c : Dev Cert.EvDwinIdeal.nD,
      m' ((c.tc : Thread Cert.EvDwinRefIdeal.nD Cert.EvDwinRefIdeal.τ).loc Cert.EvDwinRefIdeal.main_arg0) = m ((c.tc : Thread Cert.EvDwinIdeal.nD Cert.EvDwinIdeal.τ).loc Cert.EvDwinIdeal.main_arg0)
      ∧ m' ((c.tc : Thread Cert.EvDwinRefIdeal.nD Cert.EvDwinRefIdeal.τ).loc Cert.EvDwinRefIdeal.main_arg1) = m ((c.tc : Thread Cert.EvDwinIdeal.nD Cert.EvDwinIdeal.τ).loc Cert.EvDwinIdeal.main_arg1)) →
    ∃ (v0 : (c : Dev Cert.EvDwinIdeal.nD) → Buf (Elt Ideal) ((c.tc : Thread Cert.EvDwinIdeal.nD Cert.EvDwinIdeal.τ).loc Cert.EvDwinIdeal.main_v0)),
      θ_run (Cert.EvDwinIdeal.defs (F := Ideal)) (onTc (τ := Cert.EvDwinIdeal.τ) (Cert.EvDwinIdeal.main (F := Ideal))) ⟨m, fun _ => 0, g⟩ (fun r => ∀ c : Dev Cert.EvDwinIdeal.nD,
          r.2.mem ((c.tc : Thread Cert.EvDwinIdeal.nD Cert.EvDwinIdeal.τ).loc Cert.EvDwinIdeal.main_v0) = v0 c
          ∧ r.2.mem ((c.tc : Thread Cert.EvDwinIdeal.nD Cert.EvDwinIdeal.τ).loc Cert.EvDwinIdeal.main_arg0) = m ((c.tc : Thread Cert.EvDwinIdeal.nD Cert.EvDwinIdeal.τ).loc Cert.EvDwinIdeal.main_arg0)
          ∧ r.2.mem ((c.tc : Thread Cert.EvDwinIdeal.nD Cert.EvDwinIdeal.τ).loc Cert.EvDwinIdeal.main_arg1) = m ((c.tc : Thread Cert.EvDwinIdeal.nD Cert.EvDwinIdeal.τ).loc Cert.EvDwinIdeal.main_arg1))
      ∧ θ_run (Cert.EvDwinRefIdeal.defs (F := Ideal)) (onTc (τ := Cert.EvDwinRefIdeal.τ) (Cert.EvDwinRefIdeal.main (F := Ideal))) ⟨m', fun _ => 0, g'⟩ (fun r => ∀ c : Dev Cert.EvDwinRefIdeal.nD,
          r.2.mem ((c.tc : Thread Cert.EvDwinRefIdeal.nD Cert.EvDwinRefIdeal.τ).loc Cert.EvDwinRefIdeal.main_v8) = v0 c
          ∧ r.2.mem ((c.tc : Thread Cert.EvDwinRefIdeal.nD Cert.EvDwinRefIdeal.τ).loc Cert.EvDwinRefIdeal.main_arg0) = m' ((c.tc : Thread Cert.EvDwinRefIdeal.nD Cert.EvDwinRefIdeal.τ).loc Cert.EvDwinRefIdeal.main_arg0)
          ∧ r.2.mem ((c.tc : Thread Cert.EvDwinRefIdeal.nD Cert.EvDwinRefIdeal.τ).loc Cert.EvDwinRefIdeal.main_arg1) = m' ((c.tc : Thread Cert.EvDwinRefIdeal.nD Cert.EvDwinRefIdeal.τ).loc Cert.EvDwinRefIdeal.main_arg1))

def preserves_XaDo_XaDoIdeal : Prop :=
  True

def algebraic_XaDoIdeal_XaDoRefIdeal [hXaDoIdeal : Cert.XaDoIdeal.Facts] [hXaDoRefIdeal : Cert.XaDoRefIdeal.Facts] : Prop :=
  ∀ (m : (ℓ : Loc Cert.XaDoIdeal.nD Cert.XaDoIdeal.τ Cert.XaDoIdeal.sig) → Buf (Elt Ideal) ℓ) (g : Dev Cert.XaDoIdeal.nD → PrngReg)
    (m' : (ℓ : Loc Cert.XaDoRefIdeal.nD Cert.XaDoRefIdeal.τ Cert.XaDoRefIdeal.sig) → Buf (Elt Ideal) ℓ) (g' : Dev Cert.XaDoRefIdeal.nD → PrngReg), Pre_XaDoIdeal m →
    (∀ c : Dev Cert.XaDoIdeal.nD,
      m' ((c.tc : Thread Cert.XaDoRefIdeal.nD Cert.XaDoRefIdeal.τ).loc Cert.XaDoRefIdeal.main_arg0) = m ((c.tc : Thread Cert.XaDoIdeal.nD Cert.XaDoIdeal.τ).loc Cert.XaDoIdeal.main_arg0)
      ∧ m' ((c.tc : Thread Cert.XaDoRefIdeal.nD Cert.XaDoRefIdeal.τ).loc Cert.XaDoRefIdeal.main_arg1) = m ((c.tc : Thread Cert.XaDoIdeal.nD Cert.XaDoIdeal.τ).loc Cert.XaDoIdeal.main_arg1)) →
    ∃ (v0 : (c : Dev Cert.XaDoIdeal.nD) → Buf (Elt Ideal) ((c.tc : Thread Cert.XaDoIdeal.nD Cert.XaDoIdeal.τ).loc Cert.XaDoIdeal.main_v0)),
      θ_run (Cert.XaDoIdeal.defs (F := Ideal)) (onTc (τ := Cert.XaDoIdeal.τ) (Cert.XaDoIdeal.main (F := Ideal))) ⟨m, fun _ => 0, g⟩ (fun r => ∀ c : Dev Cert.XaDoIdeal.nD,
          r.2.mem ((c.tc : Thread Cert.XaDoIdeal.nD Cert.XaDoIdeal.τ).loc Cert.XaDoIdeal.main_v0) = v0 c
          ∧ r.2.mem ((c.tc : Thread Cert.XaDoIdeal.nD Cert.XaDoIdeal.τ).loc Cert.XaDoIdeal.main_arg0) = m ((c.tc : Thread Cert.XaDoIdeal.nD Cert.XaDoIdeal.τ).loc Cert.XaDoIdeal.main_arg0)
          ∧ r.2.mem ((c.tc : Thread Cert.XaDoIdeal.nD Cert.XaDoIdeal.τ).loc Cert.XaDoIdeal.main_arg1) = m ((c.tc : Thread Cert.XaDoIdeal.nD Cert.XaDoIdeal.τ).loc Cert.XaDoIdeal.main_arg1))
      ∧ θ_run (Cert.XaDoRefIdeal.defs (F := Ideal)) (onTc (τ := Cert.XaDoRefIdeal.τ) (Cert.XaDoRefIdeal.main (F := Ideal))) ⟨m', fun _ => 0, g'⟩ (fun r => ∀ c : Dev Cert.XaDoRefIdeal.nD,
          r.2.mem ((c.tc : Thread Cert.XaDoRefIdeal.nD Cert.XaDoRefIdeal.τ).loc Cert.XaDoRefIdeal.main_v4) = v0 c
          ∧ r.2.mem ((c.tc : Thread Cert.XaDoRefIdeal.nD Cert.XaDoRefIdeal.τ).loc Cert.XaDoRefIdeal.main_arg0) = m' ((c.tc : Thread Cert.XaDoRefIdeal.nD Cert.XaDoRefIdeal.τ).loc Cert.XaDoRefIdeal.main_arg0)
          ∧ r.2.mem ((c.tc : Thread Cert.XaDoRefIdeal.nD Cert.XaDoRefIdeal.τ).loc Cert.XaDoRefIdeal.main_arg1) = m' ((c.tc : Thread Cert.XaDoRefIdeal.nD Cert.XaDoRefIdeal.τ).loc Cert.XaDoRefIdeal.main_arg1))

def preserves_XaQ_XaQIdeal : Prop :=
  True

def algebraic_XaQIdeal_XaQRefIdeal [hXaQIdeal : Cert.XaQIdeal.Facts] [hXaQRefIdeal : Cert.XaQRefIdeal.Facts] : Prop :=
  ∀ (m : (ℓ : Loc Cert.XaQIdeal.nD Cert.XaQIdeal.τ Cert.XaQIdeal.sig) → Buf (Elt Ideal) ℓ) (g : Dev Cert.XaQIdeal.nD → PrngReg)
    (m' : (ℓ : Loc Cert.XaQRefIdeal.nD Cert.XaQRefIdeal.τ Cert.XaQRefIdeal.sig) → Buf (Elt Ideal) ℓ) (g' : Dev Cert.XaQRefIdeal.nD → PrngReg), Pre_XaQIdeal m →
    (∀ c : Dev Cert.XaQIdeal.nD,
      m' ((c.tc : Thread Cert.XaQRefIdeal.nD Cert.XaQRefIdeal.τ).loc Cert.XaQRefIdeal.main_arg0) = m ((c.tc : Thread Cert.XaQIdeal.nD Cert.XaQIdeal.τ).loc Cert.XaQIdeal.main_arg0)
      ∧ m' ((c.tc : Thread Cert.XaQRefIdeal.nD Cert.XaQRefIdeal.τ).loc Cert.XaQRefIdeal.main_arg1) = m ((c.tc : Thread Cert.XaQIdeal.nD Cert.XaQIdeal.τ).loc Cert.XaQIdeal.main_arg1)) →
    ∃ (v0 : (c : Dev Cert.XaQIdeal.nD) → Buf (Elt Ideal) ((c.tc : Thread Cert.XaQIdeal.nD Cert.XaQIdeal.τ).loc Cert.XaQIdeal.main_v0)),
      θ_run (Cert.XaQIdeal.defs (F := Ideal)) (onTc (τ := Cert.XaQIdeal.τ) (Cert.XaQIdeal.main (F := Ideal))) ⟨m, fun _ => 0, g⟩ (fun r => ∀ c : Dev Cert.XaQIdeal.nD,
          r.2.mem ((c.tc : Thread Cert.XaQIdeal.nD Cert.XaQIdeal.τ).loc Cert.XaQIdeal.main_v0) = v0 c
          ∧ r.2.mem ((c.tc : Thread Cert.XaQIdeal.nD Cert.XaQIdeal.τ).loc Cert.XaQIdeal.main_arg0) = m ((c.tc : Thread Cert.XaQIdeal.nD Cert.XaQIdeal.τ).loc Cert.XaQIdeal.main_arg0)
          ∧ r.2.mem ((c.tc : Thread Cert.XaQIdeal.nD Cert.XaQIdeal.τ).loc Cert.XaQIdeal.main_arg1) = m ((c.tc : Thread Cert.XaQIdeal.nD Cert.XaQIdeal.τ).loc Cert.XaQIdeal.main_arg1))
      ∧ θ_run (Cert.XaQRefIdeal.defs (F := Ideal)) (onTc (τ := Cert.XaQRefIdeal.τ) (Cert.XaQRefIdeal.main (F := Ideal))) ⟨m', fun _ => 0, g'⟩ (fun r => ∀ c : Dev Cert.XaQRefIdeal.nD,
          r.2.mem ((c.tc : Thread Cert.XaQRefIdeal.nD Cert.XaQRefIdeal.τ).loc Cert.XaQRefIdeal.main_v3) = v0 c
          ∧ r.2.mem ((c.tc : Thread Cert.XaQRefIdeal.nD Cert.XaQRefIdeal.τ).loc Cert.XaQRefIdeal.main_arg0) = m' ((c.tc : Thread Cert.XaQRefIdeal.nD Cert.XaQRefIdeal.τ).loc Cert.XaQRefIdeal.main_arg0)
          ∧ r.2.mem ((c.tc : Thread Cert.XaQRefIdeal.nD Cert.XaQRefIdeal.τ).loc Cert.XaQRefIdeal.main_arg1) = m' ((c.tc : Thread Cert.XaQRefIdeal.nD Cert.XaQRefIdeal.τ).loc Cert.XaQRefIdeal.main_arg1))

def preserves_EvIn_EvInIdeal : Prop :=
  True

def algebraic_EvInIdeal_EvInRefIdeal [hEvInIdeal : Cert.EvInIdeal.Facts] [hEvInRefIdeal : Cert.EvInRefIdeal.Facts] : Prop :=
  ∀ (m : (ℓ : Loc Cert.EvInIdeal.nD Cert.EvInIdeal.τ Cert.EvInIdeal.sig) → Buf (Elt Ideal) ℓ) (g : Dev Cert.EvInIdeal.nD → PrngReg)
    (m' : (ℓ : Loc Cert.EvInRefIdeal.nD Cert.EvInRefIdeal.τ Cert.EvInRefIdeal.sig) → Buf (Elt Ideal) ℓ) (g' : Dev Cert.EvInRefIdeal.nD → PrngReg), Pre_EvInIdeal m →
    (∀ c : Dev Cert.EvInIdeal.nD,
      m' ((c.tc : Thread Cert.EvInRefIdeal.nD Cert.EvInRefIdeal.τ).loc Cert.EvInRefIdeal.main_arg0) = m ((c.tc : Thread Cert.EvInIdeal.nD Cert.EvInIdeal.τ).loc Cert.EvInIdeal.main_arg0)
      ∧ m' ((c.tc : Thread Cert.EvInRefIdeal.nD Cert.EvInRefIdeal.τ).loc Cert.EvInRefIdeal.main_arg1) = m ((c.tc : Thread Cert.EvInIdeal.nD Cert.EvInIdeal.τ).loc Cert.EvInIdeal.main_arg1)) →
    ∃ (v0 : (c : Dev Cert.EvInIdeal.nD) → Buf (Elt Ideal) ((c.tc : Thread Cert.EvInIdeal.nD Cert.EvInIdeal.τ).loc Cert.EvInIdeal.main_v0)),
      θ_run (Cert.EvInIdeal.defs (F := Ideal)) (onTc (τ := Cert.EvInIdeal.τ) (Cert.EvInIdeal.main (F := Ideal))) ⟨m, fun _ => 0, g⟩ (fun r => ∀ c : Dev Cert.EvInIdeal.nD,
          r.2.mem ((c.tc : Thread Cert.EvInIdeal.nD Cert.EvInIdeal.τ).loc Cert.EvInIdeal.main_v0) = v0 c
          ∧ r.2.mem ((c.tc : Thread Cert.EvInIdeal.nD Cert.EvInIdeal.τ).loc Cert.EvInIdeal.main_arg0) = m ((c.tc : Thread Cert.EvInIdeal.nD Cert.EvInIdeal.τ).loc Cert.EvInIdeal.main_arg0)
          ∧ r.2.mem ((c.tc : Thread Cert.EvInIdeal.nD Cert.EvInIdeal.τ).loc Cert.EvInIdeal.main_arg1) = m ((c.tc : Thread Cert.EvInIdeal.nD Cert.EvInIdeal.τ).loc Cert.EvInIdeal.main_arg1))
      ∧ θ_run (Cert.EvInRefIdeal.defs (F := Ideal)) (onTc (τ := Cert.EvInRefIdeal.τ) (Cert.EvInRefIdeal.main (F := Ideal))) ⟨m', fun _ => 0, g'⟩ (fun r => ∀ c : Dev Cert.EvInRefIdeal.nD,
          r.2.mem ((c.tc : Thread Cert.EvInRefIdeal.nD Cert.EvInRefIdeal.τ).loc Cert.EvInRefIdeal.main_v3) = v0 c
          ∧ r.2.mem ((c.tc : Thread Cert.EvInRefIdeal.nD Cert.EvInRefIdeal.τ).loc Cert.EvInRefIdeal.main_arg0) = m' ((c.tc : Thread Cert.EvInRefIdeal.nD Cert.EvInRefIdeal.τ).loc Cert.EvInRefIdeal.main_arg0)
          ∧ r.2.mem ((c.tc : Thread Cert.EvInRefIdeal.nD Cert.EvInRefIdeal.τ).loc Cert.EvInRefIdeal.main_arg1) = m' ((c.tc : Thread Cert.EvInRefIdeal.nD Cert.EvInRefIdeal.τ).loc Cert.EvInRefIdeal.main_arg1))

def preserves_OdIn_OdInIdeal : Prop :=
  True

def algebraic_OdInIdeal_OdInRefIdeal [hOdInIdeal : Cert.OdInIdeal.Facts] [hOdInRefIdeal : Cert.OdInRefIdeal.Facts] : Prop :=
  ∀ (m : (ℓ : Loc Cert.OdInIdeal.nD Cert.OdInIdeal.τ Cert.OdInIdeal.sig) → Buf (Elt Ideal) ℓ) (g : Dev Cert.OdInIdeal.nD → PrngReg)
    (m' : (ℓ : Loc Cert.OdInRefIdeal.nD Cert.OdInRefIdeal.τ Cert.OdInRefIdeal.sig) → Buf (Elt Ideal) ℓ) (g' : Dev Cert.OdInRefIdeal.nD → PrngReg), Pre_OdInIdeal m →
    (∀ c : Dev Cert.OdInIdeal.nD,
      m' ((c.tc : Thread Cert.OdInRefIdeal.nD Cert.OdInRefIdeal.τ).loc Cert.OdInRefIdeal.main_arg0) = m ((c.tc : Thread Cert.OdInIdeal.nD Cert.OdInIdeal.τ).loc Cert.OdInIdeal.main_arg0)
      ∧ m' ((c.tc : Thread Cert.OdInRefIdeal.nD Cert.OdInRefIdeal.τ).loc Cert.OdInRefIdeal.main_arg1) = m ((c.tc : Thread Cert.OdInIdeal.nD Cert.OdInIdeal.τ).loc Cert.OdInIdeal.main_arg1)) →
    ∃ (v0 : (c : Dev Cert.OdInIdeal.nD) → Buf (Elt Ideal) ((c.tc : Thread Cert.OdInIdeal.nD Cert.OdInIdeal.τ).loc Cert.OdInIdeal.main_v0)),
      θ_run (Cert.OdInIdeal.defs (F := Ideal)) (onTc (τ := Cert.OdInIdeal.τ) (Cert.OdInIdeal.main (F := Ideal))) ⟨m, fun _ => 0, g⟩ (fun r => ∀ c : Dev Cert.OdInIdeal.nD,
          r.2.mem ((c.tc : Thread Cert.OdInIdeal.nD Cert.OdInIdeal.τ).loc Cert.OdInIdeal.main_v0) = v0 c
          ∧ r.2.mem ((c.tc : Thread Cert.OdInIdeal.nD Cert.OdInIdeal.τ).loc Cert.OdInIdeal.main_arg0) = m ((c.tc : Thread Cert.OdInIdeal.nD Cert.OdInIdeal.τ).loc Cert.OdInIdeal.main_arg0)
          ∧ r.2.mem ((c.tc : Thread Cert.OdInIdeal.nD Cert.OdInIdeal.τ).loc Cert.OdInIdeal.main_arg1) = m ((c.tc : Thread Cert.OdInIdeal.nD Cert.OdInIdeal.τ).loc Cert.OdInIdeal.main_arg1))
      ∧ θ_run (Cert.OdInRefIdeal.defs (F := Ideal)) (onTc (τ := Cert.OdInRefIdeal.τ) (Cert.OdInRefIdeal.main (F := Ideal))) ⟨m', fun _ => 0, g'⟩ (fun r => ∀ c : Dev Cert.OdInRefIdeal.nD,
          r.2.mem ((c.tc : Thread Cert.OdInRefIdeal.nD Cert.OdInRefIdeal.τ).loc Cert.OdInRefIdeal.main_v3) = v0 c
          ∧ r.2.mem ((c.tc : Thread Cert.OdInRefIdeal.nD Cert.OdInRefIdeal.τ).loc Cert.OdInRefIdeal.main_arg0) = m' ((c.tc : Thread Cert.OdInRefIdeal.nD Cert.OdInRefIdeal.τ).loc Cert.OdInRefIdeal.main_arg0)
          ∧ r.2.mem ((c.tc : Thread Cert.OdInRefIdeal.nD Cert.OdInRefIdeal.τ).loc Cert.OdInRefIdeal.main_arg1) = m' ((c.tc : Thread Cert.OdInRefIdeal.nD Cert.OdInRefIdeal.τ).loc Cert.OdInRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v7) = v0 c
          ∧ r.2.mem ((c.tc : Thread Cert.FfnUpRefIdeal.nD Cert.FfnUpRefIdeal.τ).loc Cert.FfnUpRefIdeal.main_v8) = v1 c
          ∧ r.2.mem ((c.tc : Thread Cert.FfnUpRefIdeal.nD Cert.FfnUpRefIdeal.τ).loc Cert.FfnUpRefIdeal.main_v11) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v0_0)) (v1 : (c : Dev Cert.FfnDownIdeal.nD) → Buf (Elt Ideal) ((c.tc : Thread Cert.FfnDownIdeal.nD Cert.FfnDownIdeal.τ).loc Cert.FfnDownIdeal.main_v0_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0_0) = v0 c
          ∧ r.2.mem ((c.tc : Thread Cert.FfnDownIdeal.nD Cert.FfnDownIdeal.τ).loc Cert.FfnDownIdeal.main_v0_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v3) = v0 c
          ∧ r.2.mem ((c.tc : Thread Cert.FfnDownRefIdeal.nD Cert.FfnDownRefIdeal.τ).loc Cert.FfnDownRefIdeal.main_v16) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_XaO_XaOIdeal : Prop :=
  True

def algebraic_XaOIdeal_XaORefIdeal [hXaOIdeal : Cert.XaOIdeal.Facts] [hXaORefIdeal : Cert.XaORefIdeal.Facts] : Prop :=
  ∀ (m : (ℓ : Loc Cert.XaOIdeal.nD Cert.XaOIdeal.τ Cert.XaOIdeal.sig) → Buf (Elt Ideal) ℓ) (g : Dev Cert.XaOIdeal.nD → PrngReg)
    (m' : (ℓ : Loc Cert.XaORefIdeal.nD Cert.XaORefIdeal.τ Cert.XaORefIdeal.sig) → Buf (Elt Ideal) ℓ) (g' : Dev Cert.XaORefIdeal.nD → PrngReg), Pre_XaOIdeal m →
    (∀ c : Dev Cert.XaOIdeal.nD,
      m' ((c.tc : Thread Cert.XaORefIdeal.nD Cert.XaORefIdeal.τ).loc Cert.XaORefIdeal.main_arg0) = m ((c.tc : Thread Cert.XaOIdeal.nD Cert.XaOIdeal.τ).loc Cert.XaOIdeal.main_arg0)
      ∧ m' ((c.tc : Thread Cert.XaORefIdeal.nD Cert.XaORefIdeal.τ).loc Cert.XaORefIdeal.main_arg1) = m ((c.tc : Thread Cert.XaOIdeal.nD Cert.XaOIdeal.τ).loc Cert.XaOIdeal.main_arg1)
      ∧ m' ((c.tc : Thread Cert.XaORefIdeal.nD Cert.XaORefIdeal.τ).loc Cert.XaORefIdeal.main_arg2) = m ((c.tc : Thread Cert.XaOIdeal.nD Cert.XaOIdeal.τ).loc Cert.XaOIdeal.main_arg2)
      ∧ m' ((c.tc : Thread Cert.XaORefIdeal.nD Cert.XaORefIdeal.τ).loc Cert.XaORefIdeal.main_arg3) = m ((c.tc : Thread Cert.XaOIdeal.nD Cert.XaOIdeal.τ).loc Cert.XaOIdeal.main_arg3)) →
    ∃ (v0 : (c : Dev Cert.XaOIdeal.nD) → Buf (Elt Ideal) ((c.tc : Thread Cert.XaOIdeal.nD Cert.XaOIdeal.τ).loc Cert.XaOIdeal.main_v0_0)) (v1 : (c : Dev Cert.XaOIdeal.nD) → Buf (Elt Ideal) ((c.tc : Thread Cert.XaOIdeal.nD Cert.XaOIdeal.τ).loc Cert.XaOIdeal.main_v0_1)),
      θ_run (Cert.XaOIdeal.defs (F := Ideal)) (onTc (τ := Cert.XaOIdeal.τ) (Cert.XaOIdeal.main (F := Ideal))) ⟨m, fun _ => 0, g⟩ (fun r => ∀ c : Dev Cert.XaOIdeal.nD,
          r.2.mem ((c.tc : Thread Cert.XaOIdeal.nD Cert.XaOIdeal.τ).loc Cert.XaOIdeal.main_v0_0) = v0 c
          ∧ r.2.mem ((c.tc : Thread Cert.XaOIdeal.nD Cert.XaOIdeal.τ).loc Cert.XaOIdeal.main_v0_1) = v1 c
          ∧ r.2.mem ((c.tc : Thread Cert.XaOIdeal.nD Cert.XaOIdeal.τ).loc Cert.XaOIdeal.main_arg0) = m ((c.tc : Thread Cert.XaOIdeal.nD Cert.XaOIdeal.τ).loc Cert.XaOIdeal.main_arg0)
          ∧ r.2.mem ((c.tc : Thread Cert.XaOIdeal.nD Cert.XaOIdeal.τ).loc Cert.XaOIdeal.main_arg1) = m ((c.tc : Thread Cert.XaOIdeal.nD Cert.XaOIdeal.τ).loc Cert.XaOIdeal.main_arg1)
          ∧ r.2.mem ((c.tc : Thread Cert.XaOIdeal.nD Cert.XaOIdeal.τ).loc Cert.XaOIdeal.main_arg2) = m ((c.tc : Thread Cert.XaOIdeal.nD Cert.XaOIdeal.τ).loc Cert.XaOIdeal.main_arg2)
          ∧ r.2.mem ((c.tc : Thread Cert.XaOIdeal.nD Cert.XaOIdeal.τ).loc Cert.XaOIdeal.main_arg3) = m ((c.tc : Thread Cert.XaOIdeal.nD Cert.XaOIdeal.τ).loc Cert.XaOIdeal.main_arg3))
      ∧ θ_run (Cert.XaORefIdeal.defs (F := Ideal)) (onTc (τ := Cert.XaORefIdeal.τ) (Cert.XaORefIdeal.main (F := Ideal))) ⟨m', fun _ => 0, g'⟩ (fun r => ∀ c : Dev Cert.XaORefIdeal.nD,
          r.2.mem ((c.tc : Thread Cert.XaORefIdeal.nD Cert.XaORefIdeal.τ).loc Cert.XaORefIdeal.main_v3) = v0 c
          ∧ r.2.mem ((c.tc : Thread Cert.XaORefIdeal.nD Cert.XaORefIdeal.τ).loc Cert.XaORefIdeal.main_v16) = v1 c
          ∧ r.2.mem ((c.tc : Thread Cert.XaORefIdeal.nD Cert.XaORefIdeal.τ).loc Cert.XaORefIdeal.main_arg0) = m' ((c.tc : Thread Cert.XaORefIdeal.nD Cert.XaORefIdeal.τ).loc Cert.XaORefIdeal.main_arg0)
          ∧ r.2.mem ((c.tc : Thread Cert.XaORefIdeal.nD Cert.XaORefIdeal.τ).loc Cert.XaORefIdeal.main_arg1) = m' ((c.tc : Thread Cert.XaORefIdeal.nD Cert.XaORefIdeal.τ).loc Cert.XaORefIdeal.main_arg1)
          ∧ r.2.mem ((c.tc : Thread Cert.XaORefIdeal.nD Cert.XaORefIdeal.τ).loc Cert.XaORefIdeal.main_arg2) = m' ((c.tc : Thread Cert.XaORefIdeal.nD Cert.XaORefIdeal.τ).loc Cert.XaORefIdeal.main_arg2)
          ∧ r.2.mem ((c.tc : Thread Cert.XaORefIdeal.nD Cert.XaORefIdeal.τ).loc Cert.XaORefIdeal.main_arg3) = m' ((c.tc : Thread Cert.XaORefIdeal.nD Cert.XaORefIdeal.τ).loc Cert.XaORefIdeal.main_arg3))

def preserves_FfnLoss_FfnLossIdeal : Prop :=
  True

def algebraic_FfnLossIdeal_FfnLossRefIdeal [hFfnLossIdeal : Cert.FfnLossIdeal.Facts] [hFfnLossRefIdeal : Cert.FfnLossRefIdeal.Facts] : Prop :=
  ∀ (m : (ℓ : Loc Cert.FfnLossIdeal.nD Cert.FfnLossIdeal.τ Cert.FfnLossIdeal.sig) → Buf (Elt Ideal) ℓ) (g : Dev Cert.FfnLossIdeal.nD → PrngReg)
    (m' : (ℓ : Loc Cert.FfnLossRefIdeal.nD Cert.FfnLossRefIdeal.τ Cert.FfnLossRefIdeal.sig) → Buf (Elt Ideal) ℓ) (g' : Dev Cert.FfnLossRefIdeal.nD → PrngReg), Pre_FfnLossIdeal m →
    (∀ c : Dev Cert.FfnLossIdeal.nD,
      m' ((c.tc : Thread Cert.FfnLossRefIdeal.nD Cert.FfnLossRefIdeal.τ).loc Cert.FfnLossRefIdeal.main_arg0) = m ((c.tc : Thread Cert.FfnLossIdeal.nD Cert.FfnLossIdeal.τ).loc Cert.FfnLossIdeal.main_arg0)
      ∧ m' ((c.tc : Thread Cert.FfnLossRefIdeal.nD Cert.FfnLossRefIdeal.τ).loc Cert.FfnLossRefIdeal.main_arg1) = m ((c.tc : Thread Cert.FfnLossIdeal.nD Cert.FfnLossIdeal.τ).loc Cert.FfnLossIdeal.main_arg1)
      ∧ m' ((c.tc : Thread Cert.FfnLossRefIdeal.nD Cert.FfnLossRefIdeal.τ).loc Cert.FfnLossRefIdeal.main_arg2) = m ((c.tc : Thread Cert.FfnLossIdeal.nD Cert.FfnLossIdeal.τ).loc Cert.FfnLossIdeal.main_arg2)
      ∧ m' ((c.tc : Thread Cert.FfnLossRefIdeal.nD Cert.FfnLossRefIdeal.τ).loc Cert.FfnLossRefIdeal.main_arg3) = m ((c.tc : Thread Cert.FfnLossIdeal.nD Cert.FfnLossIdeal.τ).loc Cert.FfnLossIdeal.main_arg3)
      ∧ m' ((c.tc : Thread Cert.FfnLossRefIdeal.nD Cert.FfnLossRefIdeal.τ).loc Cert.FfnLossRefIdeal.main_arg4) = m ((c.tc : Thread Cert.FfnLossIdeal.nD Cert.FfnLossIdeal.τ).loc Cert.FfnLossIdeal.main_arg4)) →
    ∃ (v0 : (c : Dev Cert.FfnLossIdeal.nD) → Buf (Elt Ideal) ((c.tc : Thread Cert.FfnLossIdeal.nD Cert.FfnLossIdeal.τ).loc Cert.FfnLossIdeal.main_v0_0)) (v1 : (c : Dev Cert.FfnLossIdeal.nD) → Buf (Elt Ideal) ((c.tc : Thread Cert.FfnLossIdeal.nD Cert.FfnLossIdeal.τ).loc Cert.FfnLossIdeal.main_v0_1)) (v2 : (c : Dev Cert.FfnLossIdeal.nD) → Buf (Elt Ideal) ((c.tc : Thread Cert.FfnLossIdeal.nD Cert.FfnLossIdeal.τ).loc Cert.FfnLossIdeal.main_v0_2)),
      θ_run (Cert.FfnLossIdeal.defs (F := Ideal)) (onTc (τ := Cert.FfnLossIdeal.τ) (Cert.FfnLossIdeal.main (F := Ideal))) ⟨m, fun _ => 0, g⟩ (fun r => ∀ c : Dev Cert.FfnLossIdeal.nD,
          r.2.mem ((c.tc : Thread Cert.FfnLossIdeal.nD Cert.FfnLossIdeal.τ).loc Cert.FfnLossIdeal.main_v0_0) = v0 c
          ∧ r.2.mem ((c.tc : Thread Cert.FfnLossIdeal.nD Cert.FfnLossIdeal.τ).loc Cert.FfnLossIdeal.main_v0_1) = v1 c
          ∧ r.2.mem ((c.tc : Thread Cert.FfnLossIdeal.nD Cert.FfnLossIdeal.τ).loc Cert.FfnLossIdeal.main_v0_2) = v2 c
          ∧ r.2.mem ((c.tc : Thread Cert.FfnLossIdeal.nD Cert.FfnLossIdeal.τ).loc Cert.FfnLossIdeal.main_arg0) = m ((c.tc : Thread Cert.FfnLossIdeal.nD Cert.FfnLossIdeal.τ).loc Cert.FfnLossIdeal.main_arg0)
          ∧ r.2.mem ((c.tc : Thread Cert.FfnLossIdeal.nD Cert.FfnLossIdeal.τ).loc Cert.FfnLossIdeal.main_arg1) = m ((c.tc : Thread Cert.FfnLossIdeal.nD Cert.FfnLossIdeal.τ).loc Cert.FfnLossIdeal.main_arg1)
          ∧ r.2.mem ((c.tc : Thread Cert.FfnLossIdeal.nD Cert.FfnLossIdeal.τ).loc Cert.FfnLossIdeal.main_arg2) = m ((c.tc : Thread Cert.FfnLossIdeal.nD Cert.FfnLossIdeal.τ).loc Cert.FfnLossIdeal.main_arg2)
          ∧ r.2.mem ((c.tc : Thread Cert.FfnLossIdeal.nD Cert.FfnLossIdeal.τ).loc Cert.FfnLossIdeal.main_arg3) = m ((c.tc : Thread Cert.FfnLossIdeal.nD Cert.FfnLossIdeal.τ).loc Cert.FfnLossIdeal.main_arg3)
          ∧ r.2.mem ((c.tc : Thread Cert.FfnLossIdeal.nD Cert.FfnLossIdeal.τ).loc Cert.FfnLossIdeal.main_arg4) = m ((c.tc : Thread Cert.FfnLossIdeal.nD Cert.FfnLossIdeal.τ).loc Cert.FfnLossIdeal.main_arg4))
      ∧ θ_run (Cert.FfnLossRefIdeal.defs (F := Ideal)) (onTc (τ := Cert.FfnLossRefIdeal.τ) (Cert.FfnLossRefIdeal.main (F := Ideal))) ⟨m', fun _ => 0, g'⟩ (fun r => ∀ c : Dev Cert.FfnLossRefIdeal.nD,
          r.2.mem ((c.tc : Thread Cert.FfnLossRefIdeal.nD Cert.FfnLossRefIdeal.τ).loc Cert.FfnLossRefIdeal.main_v53) = v0 c
          ∧ r.2.mem ((c.tc : Thread Cert.FfnLossRefIdeal.nD Cert.FfnLossRefIdeal.τ).loc Cert.FfnLossRefIdeal.main_v52) = v1 c
          ∧ r.2.mem ((c.tc : Thread Cert.FfnLossRefIdeal.nD Cert.FfnLossRefIdeal.τ).loc Cert.FfnLossRefIdeal.main_v36) = v2 c
          ∧ r.2.mem ((c.tc : Thread Cert.FfnLossRefIdeal.nD Cert.FfnLossRefIdeal.τ).loc Cert.FfnLossRefIdeal.main_arg0) = m' ((c.tc : Thread Cert.FfnLossRefIdeal.nD Cert.FfnLossRefIdeal.τ).loc Cert.FfnLossRefIdeal.main_arg0)
          ∧ r.2.mem ((c.tc : Thread Cert.FfnLossRefIdeal.nD Cert.FfnLossRefIdeal.τ).loc Cert.FfnLossRefIdeal.main_arg1) = m' ((c.tc : Thread Cert.FfnLossRefIdeal.nD Cert.FfnLossRefIdeal.τ).loc Cert.FfnLossRefIdeal.main_arg1)
          ∧ r.2.mem ((c.tc : Thread Cert.FfnLossRefIdeal.nD Cert.FfnLossRefIdeal.τ).loc Cert.FfnLossRefIdeal.main_arg2) = m' ((c.tc : Thread Cert.FfnLossRefIdeal.nD Cert.FfnLossRefIdeal.τ).loc Cert.FfnLossRefIdeal.main_arg2)
          ∧ r.2.mem ((c.tc : Thread Cert.FfnLossRefIdeal.nD Cert.FfnLossRefIdeal.τ).loc Cert.FfnLossRefIdeal.main_arg3) = m' ((c.tc : Thread Cert.FfnLossRefIdeal.nD Cert.FfnLossRefIdeal.τ).loc Cert.FfnLossRefIdeal.main_arg3)
          ∧ r.2.mem ((c.tc : Thread Cert.FfnLossRefIdeal.nD Cert.FfnLossRefIdeal.τ).loc Cert.FfnLossRefIdeal.main_arg4) = m' ((c.tc : Thread Cert.FfnLossRefIdeal.nD Cert.FfnLossRefIdeal.τ).loc Cert.FfnLossRefIdeal.main_arg4))

def preserves_AdamwNorms_AdamwNormsIdeal : Prop :=
  True

def algebraic_AdamwNormsIdeal_AdamwNormsRefIdeal [hAdamwNormsIdeal : Cert.AdamwNormsIdeal.Facts] [hAdamwNormsRefIdeal : Cert.AdamwNormsRefIdeal.Facts] : Prop :=
  ∀ (m : (ℓ : Loc Cert.AdamwNormsIdeal.nD Cert.AdamwNormsIdeal.τ Cert.AdamwNormsIdeal.sig) → Buf (Elt Ideal) ℓ) (g : Dev Cert.AdamwNormsIdeal.nD → PrngReg)
    (m' : (ℓ : Loc Cert.AdamwNormsRefIdeal.nD Cert.AdamwNormsRefIdeal.τ Cert.AdamwNormsRefIdeal.sig) → Buf (Elt Ideal) ℓ) (g' : Dev Cert.AdamwNormsRefIdeal.nD → PrngReg), Pre_AdamwNormsIdeal m →
    (∀ c : Dev Cert.AdamwNormsIdeal.nD,
      m' ((c.tc : Thread Cert.AdamwNormsRefIdeal.nD Cert.AdamwNormsRefIdeal.τ).loc Cert.AdamwNormsRefIdeal.main_arg0) = m ((c.tc : Thread Cert.AdamwNormsIdeal.nD Cert.AdamwNormsIdeal.τ).loc Cert.AdamwNormsIdeal.main_arg0)
      ∧ m' ((c.tc : Thread Cert.AdamwNormsRefIdeal.nD Cert.AdamwNormsRefIdeal.τ).loc Cert.AdamwNormsRefIdeal.main_arg1) = m ((c.tc : Thread Cert.AdamwNormsIdeal.nD Cert.AdamwNormsIdeal.τ).loc Cert.AdamwNormsIdeal.main_arg1)
      ∧ m' ((c.tc : Thread Cert.AdamwNormsRefIdeal.nD Cert.AdamwNormsRefIdeal.τ).loc Cert.AdamwNormsRefIdeal.main_arg2) = m ((c.tc : Thread Cert.AdamwNormsIdeal.nD Cert.AdamwNormsIdeal.τ).loc Cert.AdamwNormsIdeal.main_arg2)
      ∧ m' ((c.tc : Thread Cert.AdamwNormsRefIdeal.nD Cert.AdamwNormsRefIdeal.τ).loc Cert.AdamwNormsRefIdeal.main_arg3) = m ((c.tc : Thread Cert.AdamwNormsIdeal.nD Cert.AdamwNormsIdeal.τ).loc Cert.AdamwNormsIdeal.main_arg3)
      ∧ m' ((c.tc : Thread Cert.AdamwNormsRefIdeal.nD Cert.AdamwNormsRefIdeal.τ).loc Cert.AdamwNormsRefIdeal.main_arg4) = m ((c.tc : Thread Cert.AdamwNormsIdeal.nD Cert.AdamwNormsIdeal.τ).loc Cert.AdamwNormsIdeal.main_arg4)
      ∧ m' ((c.tc : Thread Cert.AdamwNormsRefIdeal.nD Cert.AdamwNormsRefIdeal.τ).loc Cert.AdamwNormsRefIdeal.main_arg5) = m ((c.tc : Thread Cert.AdamwNormsIdeal.nD Cert.AdamwNormsIdeal.τ).loc Cert.AdamwNormsIdeal.main_arg5)
      ∧ m' ((c.tc : Thread Cert.AdamwNormsRefIdeal.nD Cert.AdamwNormsRefIdeal.τ).loc Cert.AdamwNormsRefIdeal.main_arg6) = m ((c.tc : Thread Cert.AdamwNormsIdeal.nD Cert.AdamwNormsIdeal.τ).loc Cert.AdamwNormsIdeal.main_arg6)
      ∧ m' ((c.tc : Thread Cert.AdamwNormsRefIdeal.nD Cert.AdamwNormsRefIdeal.τ).loc Cert.AdamwNormsRefIdeal.main_arg7) = m ((c.tc : Thread Cert.AdamwNormsIdeal.nD Cert.AdamwNormsIdeal.τ).loc Cert.AdamwNormsIdeal.main_arg7)
      ∧ m' ((c.tc : Thread Cert.AdamwNormsRefIdeal.nD Cert.AdamwNormsRefIdeal.τ).loc Cert.AdamwNormsRefIdeal.main_arg8) = m ((c.tc : Thread Cert.AdamwNormsIdeal.nD Cert.AdamwNormsIdeal.τ).loc Cert.AdamwNormsIdeal.main_arg8)
      ∧ m' ((c.tc : Thread Cert.AdamwNormsRefIdeal.nD Cert.AdamwNormsRefIdeal.τ).loc Cert.AdamwNormsRefIdeal.main_arg9) = m ((c.tc : Thread Cert.AdamwNormsIdeal.nD Cert.AdamwNormsIdeal.τ).loc Cert.AdamwNormsIdeal.main_arg9)
      ∧ m' ((c.tc : Thread Cert.AdamwNormsRefIdeal.nD Cert.AdamwNormsRefIdeal.τ).loc Cert.AdamwNormsRefIdeal.main_arg10) = m ((c.tc : Thread Cert.AdamwNormsIdeal.nD Cert.AdamwNormsIdeal.τ).loc Cert.AdamwNormsIdeal.main_arg10)
      ∧ m' ((c.tc : Thread Cert.AdamwNormsRefIdeal.nD Cert.AdamwNormsRefIdeal.τ).loc Cert.AdamwNormsRefIdeal.main_arg11) = m ((c.tc : Thread Cert.AdamwNormsIdeal.nD Cert.AdamwNormsIdeal.τ).loc Cert.AdamwNormsIdeal.main_arg11)) →
    ∃ (v0 : (c : Dev Cert.AdamwNormsIdeal.nD) → Buf (Elt Ideal) ((c.tc : Thread Cert.AdamwNormsIdeal.nD Cert.AdamwNormsIdeal.τ).loc Cert.AdamwNormsIdeal.main_v0_0)) (v1 : (c : Dev Cert.AdamwNormsIdeal.nD) → Buf (Elt Ideal) ((c.tc : Thread Cert.AdamwNormsIdeal.nD Cert.AdamwNormsIdeal.τ).loc Cert.AdamwNormsIdeal.main_v0_3)) (v2 : (c : Dev Cert.AdamwNormsIdeal.nD) → Buf (Elt Ideal) ((c.tc : Thread Cert.AdamwNormsIdeal.nD Cert.AdamwNormsIdeal.τ).loc Cert.AdamwNormsIdeal.main_v0_6)) (v3 : (c : Dev Cert.AdamwNormsIdeal.nD) → Buf (Elt Ideal) ((c.tc : Thread Cert.AdamwNormsIdeal.nD Cert.AdamwNormsIdeal.τ).loc Cert.AdamwNormsIdeal.main_v0_1)) (v4 : (c : Dev Cert.AdamwNormsIdeal.nD) → Buf (Elt Ideal) ((c.tc : Thread Cert.AdamwNormsIdeal.nD Cert.AdamwNormsIdeal.τ).loc Cert.AdamwNormsIdeal.main_v0_4)) (v5 : (c : Dev Cert.AdamwNormsIdeal.nD) → Buf (Elt Ideal) ((c.tc : Thread Cert.AdamwNormsIdeal.nD Cert.AdamwNormsIdeal.τ).loc Cert.AdamwNormsIdeal.main_v0_7)) (v6 : (c : Dev Cert.AdamwNormsIdeal.nD) → Buf (Elt Ideal) ((c.tc : Thread Cert.AdamwNormsIdeal.nD Cert.AdamwNormsIdeal.τ).loc Cert.AdamwNormsIdeal.main_v0_2)) (v7 : (c : Dev Cert.AdamwNormsIdeal.nD) → Buf (Elt Ideal) ((c.tc : Thread Cert.AdamwNormsIdeal.nD Cert.AdamwNormsIdeal.τ).loc Cert.AdamwNormsIdeal.main_v0_5)) (v8 : (c : Dev Cert.AdamwNormsIdeal.nD) → Buf (Elt Ideal) ((c.tc : Thread Cert.AdamwNormsIdeal.nD Cert.AdamwNormsIdeal.τ).loc Cert.AdamwNormsIdeal.main_v0_8)),
      θ_run (Cert.AdamwNormsIdeal.defs (F := Ideal)) (onTc (τ := Cert.AdamwNormsIdeal.τ) (Cert.AdamwNormsIdeal.main (F := Ideal))) ⟨m, fun _ => 0, g⟩ (fun r => ∀ c : Dev Cert.AdamwNormsIdeal.nD,
          r.2.mem ((c.tc : Thread Cert.AdamwNormsIdeal.nD Cert.AdamwNormsIdeal.τ).loc Cert.AdamwNormsIdeal.main_v0_0) = v0 c
          ∧ r.2.mem ((c.tc : Thread Cert.AdamwNormsIdeal.nD Cert.AdamwNormsIdeal.τ).loc Cert.AdamwNormsIdeal.main_v0_3) = v1 c
          ∧ r.2.mem ((c.tc : Thread Cert.AdamwNormsIdeal.nD Cert.AdamwNormsIdeal.τ).loc Cert.AdamwNormsIdeal.main_v0_6) = v2 c
          ∧ r.2.mem ((c.tc : Thread Cert.AdamwNormsIdeal.nD Cert.AdamwNormsIdeal.τ).loc Cert.AdamwNormsIdeal.main_v0_1) = v3 c
          ∧ r.2.mem ((c.tc : Thread Cert.AdamwNormsIdeal.nD Cert.AdamwNormsIdeal.τ).loc Cert.AdamwNormsIdeal.main_v0_4) = v4 c
          ∧ r.2.mem ((c.tc : Thread Cert.AdamwNormsIdeal.nD Cert.AdamwNormsIdeal.τ).loc Cert.AdamwNormsIdeal.main_v0_7) = v5 c
          ∧ r.2.mem ((c.tc : Thread Cert.AdamwNormsIdeal.nD Cert.AdamwNormsIdeal.τ).loc Cert.AdamwNormsIdeal.main_v0_2) = v6 c
          ∧ r.2.mem ((c.tc : Thread Cert.AdamwNormsIdeal.nD Cert.AdamwNormsIdeal.τ).loc Cert.AdamwNormsIdeal.main_v0_5) = v7 c
          ∧ r.2.mem ((c.tc : Thread Cert.AdamwNormsIdeal.nD Cert.AdamwNormsIdeal.τ).loc Cert.AdamwNormsIdeal.main_v0_8) = v8 c
          ∧ r.2.mem ((c.tc : Thread Cert.AdamwNormsIdeal.nD Cert.AdamwNormsIdeal.τ).loc Cert.AdamwNormsIdeal.main_arg0) = m ((c.tc : Thread Cert.AdamwNormsIdeal.nD Cert.AdamwNormsIdeal.τ).loc Cert.AdamwNormsIdeal.main_arg0)
          ∧ r.2.mem ((c.tc : Thread Cert.AdamwNormsIdeal.nD Cert.AdamwNormsIdeal.τ).loc Cert.AdamwNormsIdeal.main_arg1) = m ((c.tc : Thread Cert.AdamwNormsIdeal.nD Cert.AdamwNormsIdeal.τ).loc Cert.AdamwNormsIdeal.main_arg1)
          ∧ r.2.mem ((c.tc : Thread Cert.AdamwNormsIdeal.nD Cert.AdamwNormsIdeal.τ).loc Cert.AdamwNormsIdeal.main_arg2) = m ((c.tc : Thread Cert.AdamwNormsIdeal.nD Cert.AdamwNormsIdeal.τ).loc Cert.AdamwNormsIdeal.main_arg2)
          ∧ r.2.mem ((c.tc : Thread Cert.AdamwNormsIdeal.nD Cert.AdamwNormsIdeal.τ).loc Cert.AdamwNormsIdeal.main_arg3) = m ((c.tc : Thread Cert.AdamwNormsIdeal.nD Cert.AdamwNormsIdeal.τ).loc Cert.AdamwNormsIdeal.main_arg3)
          ∧ r.2.mem ((c.tc : Thread Cert.AdamwNormsIdeal.nD Cert.AdamwNormsIdeal.τ).loc Cert.AdamwNormsIdeal.main_arg4) = m ((c.tc : Thread Cert.AdamwNormsIdeal.nD Cert.AdamwNormsIdeal.τ).loc Cert.AdamwNormsIdeal.main_arg4)
          ∧ r.2.mem ((c.tc : Thread Cert.AdamwNormsIdeal.nD Cert.AdamwNormsIdeal.τ).loc Cert.AdamwNormsIdeal.main_arg5) = m ((c.tc : Thread Cert.AdamwNormsIdeal.nD Cert.AdamwNormsIdeal.τ).loc Cert.AdamwNormsIdeal.main_arg5)
          ∧ r.2.mem ((c.tc : Thread Cert.AdamwNormsIdeal.nD Cert.AdamwNormsIdeal.τ).loc Cert.AdamwNormsIdeal.main_arg6) = m ((c.tc : Thread Cert.AdamwNormsIdeal.nD Cert.AdamwNormsIdeal.τ).loc Cert.AdamwNormsIdeal.main_arg6)
          ∧ r.2.mem ((c.tc : Thread Cert.AdamwNormsIdeal.nD Cert.AdamwNormsIdeal.τ).loc Cert.AdamwNormsIdeal.main_arg7) = m ((c.tc : Thread Cert.AdamwNormsIdeal.nD Cert.AdamwNormsIdeal.τ).loc Cert.AdamwNormsIdeal.main_arg7)
          ∧ r.2.mem ((c.tc : Thread Cert.AdamwNormsIdeal.nD Cert.AdamwNormsIdeal.τ).loc Cert.AdamwNormsIdeal.main_arg8) = m ((c.tc : Thread Cert.AdamwNormsIdeal.nD Cert.AdamwNormsIdeal.τ).loc Cert.AdamwNormsIdeal.main_arg8)
          ∧ r.2.mem ((c.tc : Thread Cert.AdamwNormsIdeal.nD Cert.AdamwNormsIdeal.τ).loc Cert.AdamwNormsIdeal.main_arg9) = m ((c.tc : Thread Cert.AdamwNormsIdeal.nD Cert.AdamwNormsIdeal.τ).loc Cert.AdamwNormsIdeal.main_arg9)
          ∧ r.2.mem ((c.tc : Thread Cert.AdamwNormsIdeal.nD Cert.AdamwNormsIdeal.τ).loc Cert.AdamwNormsIdeal.main_arg10) = m ((c.tc : Thread Cert.AdamwNormsIdeal.nD Cert.AdamwNormsIdeal.τ).loc Cert.AdamwNormsIdeal.main_arg10)
          ∧ r.2.mem ((c.tc : Thread Cert.AdamwNormsIdeal.nD Cert.AdamwNormsIdeal.τ).loc Cert.AdamwNormsIdeal.main_arg11) = m ((c.tc : Thread Cert.AdamwNormsIdeal.nD Cert.AdamwNormsIdeal.τ).loc Cert.AdamwNormsIdeal.main_arg11))
      ∧ θ_run (Cert.AdamwNormsRefIdeal.defs (F := Ideal)) (onTc (τ := Cert.AdamwNormsRefIdeal.τ) (Cert.AdamwNormsRefIdeal.main (F := Ideal))) ⟨m', fun _ => 0, g'⟩ (fun r => ∀ c : Dev Cert.AdamwNormsRefIdeal.nD,
          r.2.mem ((c.tc : Thread Cert.AdamwNormsRefIdeal.nD Cert.AdamwNormsRefIdeal.τ).loc Cert.AdamwNormsRefIdeal.main_v23) = v0 c
          ∧ r.2.mem ((c.tc : Thread Cert.AdamwNormsRefIdeal.nD Cert.AdamwNormsRefIdeal.τ).loc Cert.AdamwNormsRefIdeal.main_v4) = v1 c
          ∧ r.2.mem ((c.tc : Thread Cert.AdamwNormsRefIdeal.nD Cert.AdamwNormsRefIdeal.τ).loc Cert.AdamwNormsRefIdeal.main_v10) = v2 c
          ∧ r.2.mem ((c.tc : Thread Cert.AdamwNormsRefIdeal.nD Cert.AdamwNormsRefIdeal.τ).loc Cert.AdamwNormsRefIdeal.main_v47) = v3 c
          ∧ r.2.mem ((c.tc : Thread Cert.AdamwNormsRefIdeal.nD Cert.AdamwNormsRefIdeal.τ).loc Cert.AdamwNormsRefIdeal.main_v28) = v4 c
          ∧ r.2.mem ((c.tc : Thread Cert.AdamwNormsRefIdeal.nD Cert.AdamwNormsRefIdeal.τ).loc Cert.AdamwNormsRefIdeal.main_v34) = v5 c
          ∧ r.2.mem ((c.tc : Thread Cert.AdamwNormsRefIdeal.nD Cert.AdamwNormsRefIdeal.τ).loc Cert.AdamwNormsRefIdeal.main_v71) = v6 c
          ∧ r.2.mem ((c.tc : Thread Cert.AdamwNormsRefIdeal.nD Cert.AdamwNormsRefIdeal.τ).loc Cert.AdamwNormsRefIdeal.main_v52) = v7 c
          ∧ r.2.mem ((c.tc : Thread Cert.AdamwNormsRefIdeal.nD Cert.AdamwNormsRefIdeal.τ).loc Cert.AdamwNormsRefIdeal.main_v58) = v8 c
          ∧ r.2.mem ((c.tc : Thread Cert.AdamwNormsRefIdeal.nD Cert.AdamwNormsRefIdeal.τ).loc Cert.AdamwNormsRefIdeal.main_arg0) = m' ((c.tc : Thread Cert.AdamwNormsRefIdeal.nD Cert.AdamwNormsRefIdeal.τ).loc Cert.AdamwNormsRefIdeal.main_arg0)
          ∧ r.2.mem ((c.tc : Thread Cert.AdamwNormsRefIdeal.nD Cert.AdamwNormsRefIdeal.τ).loc Cert.AdamwNormsRefIdeal.main_arg1) = m' ((c.tc : Thread Cert.AdamwNormsRefIdeal.nD Cert.AdamwNormsRefIdeal.τ).loc Cert.AdamwNormsRefIdeal.main_arg1)
          ∧ r.2.mem ((c.tc : Thread Cert.AdamwNormsRefIdeal.nD Cert.AdamwNormsRefIdeal.τ).loc Cert.AdamwNormsRefIdeal.main_arg2) = m' ((c.tc : Thread Cert.AdamwNormsRefIdeal.nD Cert.AdamwNormsRefIdeal.τ).loc Cert.AdamwNormsRefIdeal.main_arg2)
          ∧ r.2.mem ((c.tc : Thread Cert.AdamwNormsRefIdeal.nD Cert.AdamwNormsRefIdeal.τ).loc Cert.AdamwNormsRefIdeal.main_arg3) = m' ((c.tc : Thread Cert.AdamwNormsRefIdeal.nD Cert.AdamwNormsRefIdeal.τ).loc Cert.AdamwNormsRefIdeal.main_arg3)
          ∧ r.2.mem ((c.tc : Thread Cert.AdamwNormsRefIdeal.nD Cert.AdamwNormsRefIdeal.τ).loc Cert.AdamwNormsRefIdeal.main_arg4) = m' ((c.tc : Thread Cert.AdamwNormsRefIdeal.nD Cert.AdamwNormsRefIdeal.τ).loc Cert.AdamwNormsRefIdeal.main_arg4)
          ∧ r.2.mem ((c.tc : Thread Cert.AdamwNormsRefIdeal.nD Cert.AdamwNormsRefIdeal.τ).loc Cert.AdamwNormsRefIdeal.main_arg5) = m' ((c.tc : Thread Cert.AdamwNormsRefIdeal.nD Cert.AdamwNormsRefIdeal.τ).loc Cert.AdamwNormsRefIdeal.main_arg5)
          ∧ r.2.mem ((c.tc : Thread Cert.AdamwNormsRefIdeal.nD Cert.AdamwNormsRefIdeal.τ).loc Cert.AdamwNormsRefIdeal.main_arg6) = m' ((c.tc : Thread Cert.AdamwNormsRefIdeal.nD Cert.AdamwNormsRefIdeal.τ).loc Cert.AdamwNormsRefIdeal.main_arg6)
          ∧ r.2.mem ((c.tc : Thread Cert.AdamwNormsRefIdeal.nD Cert.AdamwNormsRefIdeal.τ).loc Cert.AdamwNormsRefIdeal.main_arg7) = m' ((c.tc : Thread Cert.AdamwNormsRefIdeal.nD Cert.AdamwNormsRefIdeal.τ).loc Cert.AdamwNormsRefIdeal.main_arg7)
          ∧ r.2.mem ((c.tc : Thread Cert.AdamwNormsRefIdeal.nD Cert.AdamwNormsRefIdeal.τ).loc Cert.AdamwNormsRefIdeal.main_arg8) = m' ((c.tc : Thread Cert.AdamwNormsRefIdeal.nD Cert.AdamwNormsRefIdeal.τ).loc Cert.AdamwNormsRefIdeal.main_arg8)
          ∧ r.2.mem ((c.tc : Thread Cert.AdamwNormsRefIdeal.nD Cert.AdamwNormsRefIdeal.τ).loc Cert.AdamwNormsRefIdeal.main_arg9) = m' ((c.tc : Thread Cert.AdamwNormsRefIdeal.nD Cert.AdamwNormsRefIdeal.τ).loc Cert.AdamwNormsRefIdeal.main_arg9)
          ∧ r.2.mem ((c.tc : Thread Cert.AdamwNormsRefIdeal.nD Cert.AdamwNormsRefIdeal.τ).loc Cert.AdamwNormsRefIdeal.main_arg10) = m' ((c.tc : Thread Cert.AdamwNormsRefIdeal.nD Cert.AdamwNormsRefIdeal.τ).loc Cert.AdamwNormsRefIdeal.main_arg10)
          ∧ r.2.mem ((c.tc : Thread Cert.AdamwNormsRefIdeal.nD Cert.AdamwNormsRefIdeal.τ).loc Cert.AdamwNormsRefIdeal.main_arg11) = m' ((c.tc : Thread Cert.AdamwNormsRefIdeal.nD Cert.AdamwNormsRefIdeal.τ).loc Cert.AdamwNormsRefIdeal.main_arg11))

def preserves_AdamwMixed_AdamwMixedIdeal : Prop :=
  True

def algebraic_AdamwMixedIdeal_AdamwMixedRefIdeal [hAdamwMixedIdeal : Cert.AdamwMixedIdeal.Facts] [hAdamwMixedRefIdeal : Cert.AdamwMixedRefIdeal.Facts] : Prop :=
  ∀ (m : (ℓ : Loc Cert.AdamwMixedIdeal.nD Cert.AdamwMixedIdeal.τ Cert.AdamwMixedIdeal.sig) → Buf (Elt Ideal) ℓ) (g : Dev Cert.AdamwMixedIdeal.nD → PrngReg)
    (m' : (ℓ : Loc Cert.AdamwMixedRefIdeal.nD Cert.AdamwMixedRefIdeal.τ Cert.AdamwMixedRefIdeal.sig) → Buf (Elt Ideal) ℓ) (g' : Dev Cert.AdamwMixedRefIdeal.nD → PrngReg), Pre_AdamwMixedIdeal m →
    (∀ c : Dev Cert.AdamwMixedIdeal.nD,
      m' ((c.tc : Thread Cert.AdamwMixedRefIdeal.nD Cert.AdamwMixedRefIdeal.τ).loc Cert.AdamwMixedRefIdeal.main_arg0) = m ((c.tc : Thread Cert.AdamwMixedIdeal.nD Cert.AdamwMixedIdeal.τ).loc Cert.AdamwMixedIdeal.main_arg0)
      ∧ m' ((c.tc : Thread Cert.AdamwMixedRefIdeal.nD Cert.AdamwMixedRefIdeal.τ).loc Cert.AdamwMixedRefIdeal.main_arg1) = m ((c.tc : Thread Cert.AdamwMixedIdeal.nD Cert.AdamwMixedIdeal.τ).loc Cert.AdamwMixedIdeal.main_arg1)
      ∧ m' ((c.tc : Thread Cert.AdamwMixedRefIdeal.nD Cert.AdamwMixedRefIdeal.τ).loc Cert.AdamwMixedRefIdeal.main_arg2) = m ((c.tc : Thread Cert.AdamwMixedIdeal.nD Cert.AdamwMixedIdeal.τ).loc Cert.AdamwMixedIdeal.main_arg2)
      ∧ m' ((c.tc : Thread Cert.AdamwMixedRefIdeal.nD Cert.AdamwMixedRefIdeal.τ).loc Cert.AdamwMixedRefIdeal.main_arg3) = m ((c.tc : Thread Cert.AdamwMixedIdeal.nD Cert.AdamwMixedIdeal.τ).loc Cert.AdamwMixedIdeal.main_arg3)
      ∧ m' ((c.tc : Thread Cert.AdamwMixedRefIdeal.nD Cert.AdamwMixedRefIdeal.τ).loc Cert.AdamwMixedRefIdeal.main_arg4) = m ((c.tc : Thread Cert.AdamwMixedIdeal.nD Cert.AdamwMixedIdeal.τ).loc Cert.AdamwMixedIdeal.main_arg4)
      ∧ m' ((c.tc : Thread Cert.AdamwMixedRefIdeal.nD Cert.AdamwMixedRefIdeal.τ).loc Cert.AdamwMixedRefIdeal.main_arg5) = m ((c.tc : Thread Cert.AdamwMixedIdeal.nD Cert.AdamwMixedIdeal.τ).loc Cert.AdamwMixedIdeal.main_arg5)
      ∧ m' ((c.tc : Thread Cert.AdamwMixedRefIdeal.nD Cert.AdamwMixedRefIdeal.τ).loc Cert.AdamwMixedRefIdeal.main_arg6) = m ((c.tc : Thread Cert.AdamwMixedIdeal.nD Cert.AdamwMixedIdeal.τ).loc Cert.AdamwMixedIdeal.main_arg6)
      ∧ m' ((c.tc : Thread Cert.AdamwMixedRefIdeal.nD Cert.AdamwMixedRefIdeal.τ).loc Cert.AdamwMixedRefIdeal.main_arg7) = m ((c.tc : Thread Cert.AdamwMixedIdeal.nD Cert.AdamwMixedIdeal.τ).loc Cert.AdamwMixedIdeal.main_arg7)
      ∧ m' ((c.tc : Thread Cert.AdamwMixedRefIdeal.nD Cert.AdamwMixedRefIdeal.τ).loc Cert.AdamwMixedRefIdeal.main_arg8) = m ((c.tc : Thread Cert.AdamwMixedIdeal.nD Cert.AdamwMixedIdeal.τ).loc Cert.AdamwMixedIdeal.main_arg8)
      ∧ m' ((c.tc : Thread Cert.AdamwMixedRefIdeal.nD Cert.AdamwMixedRefIdeal.τ).loc Cert.AdamwMixedRefIdeal.main_arg9) = m ((c.tc : Thread Cert.AdamwMixedIdeal.nD Cert.AdamwMixedIdeal.τ).loc Cert.AdamwMixedIdeal.main_arg9)
      ∧ m' ((c.tc : Thread Cert.AdamwMixedRefIdeal.nD Cert.AdamwMixedRefIdeal.τ).loc Cert.AdamwMixedRefIdeal.main_arg10) = m ((c.tc : Thread Cert.AdamwMixedIdeal.nD Cert.AdamwMixedIdeal.τ).loc Cert.AdamwMixedIdeal.main_arg10)
      ∧ m' ((c.tc : Thread Cert.AdamwMixedRefIdeal.nD Cert.AdamwMixedRefIdeal.τ).loc Cert.AdamwMixedRefIdeal.main_arg11) = m ((c.tc : Thread Cert.AdamwMixedIdeal.nD Cert.AdamwMixedIdeal.τ).loc Cert.AdamwMixedIdeal.main_arg11)) →
    ∃ (v0 : (c : Dev Cert.AdamwMixedIdeal.nD) → Buf (Elt Ideal) ((c.tc : Thread Cert.AdamwMixedIdeal.nD Cert.AdamwMixedIdeal.τ).loc Cert.AdamwMixedIdeal.main_v0_0)) (v1 : (c : Dev Cert.AdamwMixedIdeal.nD) → Buf (Elt Ideal) ((c.tc : Thread Cert.AdamwMixedIdeal.nD Cert.AdamwMixedIdeal.τ).loc Cert.AdamwMixedIdeal.main_v0_3)) (v2 : (c : Dev Cert.AdamwMixedIdeal.nD) → Buf (Elt Ideal) ((c.tc : Thread Cert.AdamwMixedIdeal.nD Cert.AdamwMixedIdeal.τ).loc Cert.AdamwMixedIdeal.main_v0_6)) (v3 : (c : Dev Cert.AdamwMixedIdeal.nD) → Buf (Elt Ideal) ((c.tc : Thread Cert.AdamwMixedIdeal.nD Cert.AdamwMixedIdeal.τ).loc Cert.AdamwMixedIdeal.main_v0_1)) (v4 : (c : Dev Cert.AdamwMixedIdeal.nD) → Buf (Elt Ideal) ((c.tc : Thread Cert.AdamwMixedIdeal.nD Cert.AdamwMixedIdeal.τ).loc Cert.AdamwMixedIdeal.main_v0_4)) (v5 : (c : Dev Cert.AdamwMixedIdeal.nD) → Buf (Elt Ideal) ((c.tc : Thread Cert.AdamwMixedIdeal.nD Cert.AdamwMixedIdeal.τ).loc Cert.AdamwMixedIdeal.main_v0_7)) (v6 : (c : Dev Cert.AdamwMixedIdeal.nD) → Buf (Elt Ideal) ((c.tc : Thread Cert.AdamwMixedIdeal.nD Cert.AdamwMixedIdeal.τ).loc Cert.AdamwMixedIdeal.main_v0_2)) (v7 : (c : Dev Cert.AdamwMixedIdeal.nD) → Buf (Elt Ideal) ((c.tc : Thread Cert.AdamwMixedIdeal.nD Cert.AdamwMixedIdeal.τ).loc Cert.AdamwMixedIdeal.main_v0_5)) (v8 : (c : Dev Cert.AdamwMixedIdeal.nD) → Buf (Elt Ideal) ((c.tc : Thread Cert.AdamwMixedIdeal.nD Cert.AdamwMixedIdeal.τ).loc Cert.AdamwMixedIdeal.main_v0_8)),
      θ_run (Cert.AdamwMixedIdeal.defs (F := Ideal)) (onTc (τ := Cert.AdamwMixedIdeal.τ) (Cert.AdamwMixedIdeal.main (F := Ideal))) ⟨m, fun _ => 0, g⟩ (fun r => ∀ c : Dev Cert.AdamwMixedIdeal.nD,
          r.2.mem ((c.tc : Thread Cert.AdamwMixedIdeal.nD Cert.AdamwMixedIdeal.τ).loc Cert.AdamwMixedIdeal.main_v0_0) = v0 c
          ∧ r.2.mem ((c.tc : Thread Cert.AdamwMixedIdeal.nD Cert.AdamwMixedIdeal.τ).loc Cert.AdamwMixedIdeal.main_v0_3) = v1 c
          ∧ r.2.mem ((c.tc : Thread Cert.AdamwMixedIdeal.nD Cert.AdamwMixedIdeal.τ).loc Cert.AdamwMixedIdeal.main_v0_6) = v2 c
          ∧ r.2.mem ((c.tc : Thread Cert.AdamwMixedIdeal.nD Cert.AdamwMixedIdeal.τ).loc Cert.AdamwMixedIdeal.main_v0_1) = v3 c
          ∧ r.2.mem ((c.tc : Thread Cert.AdamwMixedIdeal.nD Cert.AdamwMixedIdeal.τ).loc Cert.AdamwMixedIdeal.main_v0_4) = v4 c
          ∧ r.2.mem ((c.tc : Thread Cert.AdamwMixedIdeal.nD Cert.AdamwMixedIdeal.τ).loc Cert.AdamwMixedIdeal.main_v0_7) = v5 c
          ∧ r.2.mem ((c.tc : Thread Cert.AdamwMixedIdeal.nD Cert.AdamwMixedIdeal.τ).loc Cert.AdamwMixedIdeal.main_v0_2) = v6 c
          ∧ r.2.mem ((c.tc : Thread Cert.AdamwMixedIdeal.nD Cert.AdamwMixedIdeal.τ).loc Cert.AdamwMixedIdeal.main_v0_5) = v7 c
          ∧ r.2.mem ((c.tc : Thread Cert.AdamwMixedIdeal.nD Cert.AdamwMixedIdeal.τ).loc Cert.AdamwMixedIdeal.main_v0_8) = v8 c
          ∧ r.2.mem ((c.tc : Thread Cert.AdamwMixedIdeal.nD Cert.AdamwMixedIdeal.τ).loc Cert.AdamwMixedIdeal.main_arg0) = m ((c.tc : Thread Cert.AdamwMixedIdeal.nD Cert.AdamwMixedIdeal.τ).loc Cert.AdamwMixedIdeal.main_arg0)
          ∧ r.2.mem ((c.tc : Thread Cert.AdamwMixedIdeal.nD Cert.AdamwMixedIdeal.τ).loc Cert.AdamwMixedIdeal.main_arg1) = m ((c.tc : Thread Cert.AdamwMixedIdeal.nD Cert.AdamwMixedIdeal.τ).loc Cert.AdamwMixedIdeal.main_arg1)
          ∧ r.2.mem ((c.tc : Thread Cert.AdamwMixedIdeal.nD Cert.AdamwMixedIdeal.τ).loc Cert.AdamwMixedIdeal.main_arg2) = m ((c.tc : Thread Cert.AdamwMixedIdeal.nD Cert.AdamwMixedIdeal.τ).loc Cert.AdamwMixedIdeal.main_arg2)
          ∧ r.2.mem ((c.tc : Thread Cert.AdamwMixedIdeal.nD Cert.AdamwMixedIdeal.τ).loc Cert.AdamwMixedIdeal.main_arg3) = m ((c.tc : Thread Cert.AdamwMixedIdeal.nD Cert.AdamwMixedIdeal.τ).loc Cert.AdamwMixedIdeal.main_arg3)
          ∧ r.2.mem ((c.tc : Thread Cert.AdamwMixedIdeal.nD Cert.AdamwMixedIdeal.τ).loc Cert.AdamwMixedIdeal.main_arg4) = m ((c.tc : Thread Cert.AdamwMixedIdeal.nD Cert.AdamwMixedIdeal.τ).loc Cert.AdamwMixedIdeal.main_arg4)
          ∧ r.2.mem ((c.tc : Thread Cert.AdamwMixedIdeal.nD Cert.AdamwMixedIdeal.τ).loc Cert.AdamwMixedIdeal.main_arg5) = m ((c.tc : Thread Cert.AdamwMixedIdeal.nD Cert.AdamwMixedIdeal.τ).loc Cert.AdamwMixedIdeal.main_arg5)
          ∧ r.2.mem ((c.tc : Thread Cert.AdamwMixedIdeal.nD Cert.AdamwMixedIdeal.τ).loc Cert.AdamwMixedIdeal.main_arg6) = m ((c.tc : Thread Cert.AdamwMixedIdeal.nD Cert.AdamwMixedIdeal.τ).loc Cert.AdamwMixedIdeal.main_arg6)
          ∧ r.2.mem ((c.tc : Thread Cert.AdamwMixedIdeal.nD Cert.AdamwMixedIdeal.τ).loc Cert.AdamwMixedIdeal.main_arg7) = m ((c.tc : Thread Cert.AdamwMixedIdeal.nD Cert.AdamwMixedIdeal.τ).loc Cert.AdamwMixedIdeal.main_arg7)
          ∧ r.2.mem ((c.tc : Thread Cert.AdamwMixedIdeal.nD Cert.AdamwMixedIdeal.τ).loc Cert.AdamwMixedIdeal.main_arg8) = m ((c.tc : Thread Cert.AdamwMixedIdeal.nD Cert.AdamwMixedIdeal.τ).loc Cert.AdamwMixedIdeal.main_arg8)
          ∧ r.2.mem ((c.tc : Thread Cert.AdamwMixedIdeal.nD Cert.AdamwMixedIdeal.τ).loc Cert.AdamwMixedIdeal.main_arg9) = m ((c.tc : Thread Cert.AdamwMixedIdeal.nD Cert.AdamwMixedIdeal.τ).loc Cert.AdamwMixedIdeal.main_arg9)
          ∧ r.2.mem ((c.tc : Thread Cert.AdamwMixedIdeal.nD Cert.AdamwMixedIdeal.τ).loc Cert.AdamwMixedIdeal.main_arg10) = m ((c.tc : Thread Cert.AdamwMixedIdeal.nD Cert.AdamwMixedIdeal.τ).loc Cert.AdamwMixedIdeal.main_arg10)
          ∧ r.2.mem ((c.tc : Thread Cert.AdamwMixedIdeal.nD Cert.AdamwMixedIdeal.τ).loc Cert.AdamwMixedIdeal.main_arg11) = m ((c.tc : Thread Cert.AdamwMixedIdeal.nD Cert.AdamwMixedIdeal.τ).loc Cert.AdamwMixedIdeal.main_arg11))
      ∧ θ_run (Cert.AdamwMixedRefIdeal.defs (F := Ideal)) (onTc (τ := Cert.AdamwMixedRefIdeal.τ) (Cert.AdamwMixedRefIdeal.main (F := Ideal))) ⟨m', fun _ => 0, g'⟩ (fun r => ∀ c : Dev Cert.AdamwMixedRefIdeal.nD,
          r.2.mem ((c.tc : Thread Cert.AdamwMixedRefIdeal.nD Cert.AdamwMixedRefIdeal.τ).loc Cert.AdamwMixedRefIdeal.main_v23) = v0 c
          ∧ r.2.mem ((c.tc : Thread Cert.AdamwMixedRefIdeal.nD Cert.AdamwMixedRefIdeal.τ).loc Cert.AdamwMixedRefIdeal.main_v4) = v1 c
          ∧ r.2.mem ((c.tc : Thread Cert.AdamwMixedRefIdeal.nD Cert.AdamwMixedRefIdeal.τ).loc Cert.AdamwMixedRefIdeal.main_v10) = v2 c
          ∧ r.2.mem ((c.tc : Thread Cert.AdamwMixedRefIdeal.nD Cert.AdamwMixedRefIdeal.τ).loc Cert.AdamwMixedRefIdeal.main_v47) = v3 c
          ∧ r.2.mem ((c.tc : Thread Cert.AdamwMixedRefIdeal.nD Cert.AdamwMixedRefIdeal.τ).loc Cert.AdamwMixedRefIdeal.main_v28) = v4 c
          ∧ r.2.mem ((c.tc : Thread Cert.AdamwMixedRefIdeal.nD Cert.AdamwMixedRefIdeal.τ).loc Cert.AdamwMixedRefIdeal.main_v34) = v5 c
          ∧ r.2.mem ((c.tc : Thread Cert.AdamwMixedRefIdeal.nD Cert.AdamwMixedRefIdeal.τ).loc Cert.AdamwMixedRefIdeal.main_v71) = v6 c
          ∧ r.2.mem ((c.tc : Thread Cert.AdamwMixedRefIdeal.nD Cert.AdamwMixedRefIdeal.τ).loc Cert.AdamwMixedRefIdeal.main_v52) = v7 c
          ∧ r.2.mem ((c.tc : Thread Cert.AdamwMixedRefIdeal.nD Cert.AdamwMixedRefIdeal.τ).loc Cert.AdamwMixedRefIdeal.main_v58) = v8 c
          ∧ r.2.mem ((c.tc : Thread Cert.AdamwMixedRefIdeal.nD Cert.AdamwMixedRefIdeal.τ).loc Cert.AdamwMixedRefIdeal.main_arg0) = m' ((c.tc : Thread Cert.AdamwMixedRefIdeal.nD Cert.AdamwMixedRefIdeal.τ).loc Cert.AdamwMixedRefIdeal.main_arg0)
          ∧ r.2.mem ((c.tc : Thread Cert.AdamwMixedRefIdeal.nD Cert.AdamwMixedRefIdeal.τ).loc Cert.AdamwMixedRefIdeal.main_arg1) = m' ((c.tc : Thread Cert.AdamwMixedRefIdeal.nD Cert.AdamwMixedRefIdeal.τ).loc Cert.AdamwMixedRefIdeal.main_arg1)
          ∧ r.2.mem ((c.tc : Thread Cert.AdamwMixedRefIdeal.nD Cert.AdamwMixedRefIdeal.τ).loc Cert.AdamwMixedRefIdeal.main_arg2) = m' ((c.tc : Thread Cert.AdamwMixedRefIdeal.nD Cert.AdamwMixedRefIdeal.τ).loc Cert.AdamwMixedRefIdeal.main_arg2)
          ∧ r.2.mem ((c.tc : Thread Cert.AdamwMixedRefIdeal.nD Cert.AdamwMixedRefIdeal.τ).loc Cert.AdamwMixedRefIdeal.main_arg3) = m' ((c.tc : Thread Cert.AdamwMixedRefIdeal.nD Cert.AdamwMixedRefIdeal.τ).loc Cert.AdamwMixedRefIdeal.main_arg3)
          ∧ r.2.mem ((c.tc : Thread Cert.AdamwMixedRefIdeal.nD Cert.AdamwMixedRefIdeal.τ).loc Cert.AdamwMixedRefIdeal.main_arg4) = m' ((c.tc : Thread Cert.AdamwMixedRefIdeal.nD Cert.AdamwMixedRefIdeal.τ).loc Cert.AdamwMixedRefIdeal.main_arg4)
          ∧ r.2.mem ((c.tc : Thread Cert.AdamwMixedRefIdeal.nD Cert.AdamwMixedRefIdeal.τ).loc Cert.AdamwMixedRefIdeal.main_arg5) = m' ((c.tc : Thread Cert.AdamwMixedRefIdeal.nD Cert.AdamwMixedRefIdeal.τ).loc Cert.AdamwMixedRefIdeal.main_arg5)
          ∧ r.2.mem ((c.tc : Thread Cert.AdamwMixedRefIdeal.nD Cert.AdamwMixedRefIdeal.τ).loc Cert.AdamwMixedRefIdeal.main_arg6) = m' ((c.tc : Thread Cert.AdamwMixedRefIdeal.nD Cert.AdamwMixedRefIdeal.τ).loc Cert.AdamwMixedRefIdeal.main_arg6)
          ∧ r.2.mem ((c.tc : Thread Cert.AdamwMixedRefIdeal.nD Cert.AdamwMixedRefIdeal.τ).loc Cert.AdamwMixedRefIdeal.main_arg7) = m' ((c.tc : Thread Cert.AdamwMixedRefIdeal.nD Cert.AdamwMixedRefIdeal.τ).loc Cert.AdamwMixedRefIdeal.main_arg7)
          ∧ r.2.mem ((c.tc : Thread Cert.AdamwMixedRefIdeal.nD Cert.AdamwMixedRefIdeal.τ).loc Cert.AdamwMixedRefIdeal.main_arg8) = m' ((c.tc : Thread Cert.AdamwMixedRefIdeal.nD Cert.AdamwMixedRefIdeal.τ).loc Cert.AdamwMixedRefIdeal.main_arg8)
          ∧ r.2.mem ((c.tc : Thread Cert.AdamwMixedRefIdeal.nD Cert.AdamwMixedRefIdeal.τ).loc Cert.AdamwMixedRefIdeal.main_arg9) = m' ((c.tc : Thread Cert.AdamwMixedRefIdeal.nD Cert.AdamwMixedRefIdeal.τ).loc Cert.AdamwMixedRefIdeal.main_arg9)
          ∧ r.2.mem ((c.tc : Thread Cert.AdamwMixedRefIdeal.nD Cert.AdamwMixedRefIdeal.τ).loc Cert.AdamwMixedRefIdeal.main_arg10) = m' ((c.tc : Thread Cert.AdamwMixedRefIdeal.nD Cert.AdamwMixedRefIdeal.τ).loc Cert.AdamwMixedRefIdeal.main_arg10)
          ∧ r.2.mem ((c.tc : Thread Cert.AdamwMixedRefIdeal.nD Cert.AdamwMixedRefIdeal.τ).loc Cert.AdamwMixedRefIdeal.main_arg11) = m' ((c.tc : Thread Cert.AdamwMixedRefIdeal.nD Cert.AdamwMixedRefIdeal.τ).loc Cert.AdamwMixedRefIdeal.main_arg11))

def preserves_AdamwEven_AdamwEvenIdeal : Prop :=
  True

def algebraic_AdamwEvenIdeal_AdamwEvenRefIdeal [hAdamwEvenIdeal : Cert.AdamwEvenIdeal.Facts] [hAdamwEvenRefIdeal : Cert.AdamwEvenRefIdeal.Facts] : Prop :=
  ∀ (m : (ℓ : Loc Cert.AdamwEvenIdeal.nD Cert.AdamwEvenIdeal.τ Cert.AdamwEvenIdeal.sig) → Buf (Elt Ideal) ℓ) (g : Dev Cert.AdamwEvenIdeal.nD → PrngReg)
    (m' : (ℓ : Loc Cert.AdamwEvenRefIdeal.nD Cert.AdamwEvenRefIdeal.τ Cert.AdamwEvenRefIdeal.sig) → Buf (Elt Ideal) ℓ) (g' : Dev Cert.AdamwEvenRefIdeal.nD → PrngReg), Pre_AdamwEvenIdeal m →
    (∀ c : Dev Cert.AdamwEvenIdeal.nD,
      m' ((c.tc : Thread Cert.AdamwEvenRefIdeal.nD Cert.AdamwEvenRefIdeal.τ).loc Cert.AdamwEvenRefIdeal.main_arg0) = m ((c.tc : Thread Cert.AdamwEvenIdeal.nD Cert.AdamwEvenIdeal.τ).loc Cert.AdamwEvenIdeal.main_arg0)
      ∧ m' ((c.tc : Thread Cert.AdamwEvenRefIdeal.nD Cert.AdamwEvenRefIdeal.τ).loc Cert.AdamwEvenRefIdeal.main_arg1) = m ((c.tc : Thread Cert.AdamwEvenIdeal.nD Cert.AdamwEvenIdeal.τ).loc Cert.AdamwEvenIdeal.main_arg1)
      ∧ m' ((c.tc : Thread Cert.AdamwEvenRefIdeal.nD Cert.AdamwEvenRefIdeal.τ).loc Cert.AdamwEvenRefIdeal.main_arg2) = m ((c.tc : Thread Cert.AdamwEvenIdeal.nD Cert.AdamwEvenIdeal.τ).loc Cert.AdamwEvenIdeal.main_arg2)
      ∧ m' ((c.tc : Thread Cert.AdamwEvenRefIdeal.nD Cert.AdamwEvenRefIdeal.τ).loc Cert.AdamwEvenRefIdeal.main_arg3) = m ((c.tc : Thread Cert.AdamwEvenIdeal.nD Cert.AdamwEvenIdeal.τ).loc Cert.AdamwEvenIdeal.main_arg3)
      ∧ m' ((c.tc : Thread Cert.AdamwEvenRefIdeal.nD Cert.AdamwEvenRefIdeal.τ).loc Cert.AdamwEvenRefIdeal.main_arg4) = m ((c.tc : Thread Cert.AdamwEvenIdeal.nD Cert.AdamwEvenIdeal.τ).loc Cert.AdamwEvenIdeal.main_arg4)
      ∧ m' ((c.tc : Thread Cert.AdamwEvenRefIdeal.nD Cert.AdamwEvenRefIdeal.τ).loc Cert.AdamwEvenRefIdeal.main_arg5) = m ((c.tc : Thread Cert.AdamwEvenIdeal.nD Cert.AdamwEvenIdeal.τ).loc Cert.AdamwEvenIdeal.main_arg5)
      ∧ m' ((c.tc : Thread Cert.AdamwEvenRefIdeal.nD Cert.AdamwEvenRefIdeal.τ).loc Cert.AdamwEvenRefIdeal.main_arg6) = m ((c.tc : Thread Cert.AdamwEvenIdeal.nD Cert.AdamwEvenIdeal.τ).loc Cert.AdamwEvenIdeal.main_arg6)
      ∧ m' ((c.tc : Thread Cert.AdamwEvenRefIdeal.nD Cert.AdamwEvenRefIdeal.τ).loc Cert.AdamwEvenRefIdeal.main_arg7) = m ((c.tc : Thread Cert.AdamwEvenIdeal.nD Cert.AdamwEvenIdeal.τ).loc Cert.AdamwEvenIdeal.main_arg7)
      ∧ m' ((c.tc : Thread Cert.AdamwEvenRefIdeal.nD Cert.AdamwEvenRefIdeal.τ).loc Cert.AdamwEvenRefIdeal.main_arg8) = m ((c.tc : Thread Cert.AdamwEvenIdeal.nD Cert.AdamwEvenIdeal.τ).loc Cert.AdamwEvenIdeal.main_arg8)
      ∧ m' ((c.tc : Thread Cert.AdamwEvenRefIdeal.nD Cert.AdamwEvenRefIdeal.τ).loc Cert.AdamwEvenRefIdeal.main_arg9) = m ((c.tc : Thread Cert.AdamwEvenIdeal.nD Cert.AdamwEvenIdeal.τ).loc Cert.AdamwEvenIdeal.main_arg9)
      ∧ m' ((c.tc : Thread Cert.AdamwEvenRefIdeal.nD Cert.AdamwEvenRefIdeal.τ).loc Cert.AdamwEvenRefIdeal.main_arg10) = m ((c.tc : Thread Cert.AdamwEvenIdeal.nD Cert.AdamwEvenIdeal.τ).loc Cert.AdamwEvenIdeal.main_arg10)
      ∧ m' ((c.tc : Thread Cert.AdamwEvenRefIdeal.nD Cert.AdamwEvenRefIdeal.τ).loc Cert.AdamwEvenRefIdeal.main_arg11) = m ((c.tc : Thread Cert.AdamwEvenIdeal.nD Cert.AdamwEvenIdeal.τ).loc Cert.AdamwEvenIdeal.main_arg11)) →
    ∃ (v0 : (c : Dev Cert.AdamwEvenIdeal.nD) → Buf (Elt Ideal) ((c.tc : Thread Cert.AdamwEvenIdeal.nD Cert.AdamwEvenIdeal.τ).loc Cert.AdamwEvenIdeal.main_v0_0)) (v1 : (c : Dev Cert.AdamwEvenIdeal.nD) → Buf (Elt Ideal) ((c.tc : Thread Cert.AdamwEvenIdeal.nD Cert.AdamwEvenIdeal.τ).loc Cert.AdamwEvenIdeal.main_v0_3)) (v2 : (c : Dev Cert.AdamwEvenIdeal.nD) → Buf (Elt Ideal) ((c.tc : Thread Cert.AdamwEvenIdeal.nD Cert.AdamwEvenIdeal.τ).loc Cert.AdamwEvenIdeal.main_v0_6)) (v3 : (c : Dev Cert.AdamwEvenIdeal.nD) → Buf (Elt Ideal) ((c.tc : Thread Cert.AdamwEvenIdeal.nD Cert.AdamwEvenIdeal.τ).loc Cert.AdamwEvenIdeal.main_v0_1)) (v4 : (c : Dev Cert.AdamwEvenIdeal.nD) → Buf (Elt Ideal) ((c.tc : Thread Cert.AdamwEvenIdeal.nD Cert.AdamwEvenIdeal.τ).loc Cert.AdamwEvenIdeal.main_v0_4)) (v5 : (c : Dev Cert.AdamwEvenIdeal.nD) → Buf (Elt Ideal) ((c.tc : Thread Cert.AdamwEvenIdeal.nD Cert.AdamwEvenIdeal.τ).loc Cert.AdamwEvenIdeal.main_v0_7)) (v6 : (c : Dev Cert.AdamwEvenIdeal.nD) → Buf (Elt Ideal) ((c.tc : Thread Cert.AdamwEvenIdeal.nD Cert.AdamwEvenIdeal.τ).loc Cert.AdamwEvenIdeal.main_v0_2)) (v7 : (c : Dev Cert.AdamwEvenIdeal.nD) → Buf (Elt Ideal) ((c.tc : Thread Cert.AdamwEvenIdeal.nD Cert.AdamwEvenIdeal.τ).loc Cert.AdamwEvenIdeal.main_v0_5)) (v8 : (c : Dev Cert.AdamwEvenIdeal.nD) → Buf (Elt Ideal) ((c.tc : Thread Cert.AdamwEvenIdeal.nD Cert.AdamwEvenIdeal.τ).loc Cert.AdamwEvenIdeal.main_v0_8)),
      θ_run (Cert.AdamwEvenIdeal.defs (F := Ideal)) (onTc (τ := Cert.AdamwEvenIdeal.τ) (Cert.AdamwEvenIdeal.main (F := Ideal))) ⟨m, fun _ => 0, g⟩ (fun r => ∀ c : Dev Cert.AdamwEvenIdeal.nD,
          r.2.mem ((c.tc : Thread Cert.AdamwEvenIdeal.nD Cert.AdamwEvenIdeal.τ).loc Cert.AdamwEvenIdeal.main_v0_0) = v0 c
          ∧ r.2.mem ((c.tc : Thread Cert.AdamwEvenIdeal.nD Cert.AdamwEvenIdeal.τ).loc Cert.AdamwEvenIdeal.main_v0_3) = v1 c
          ∧ r.2.mem ((c.tc : Thread Cert.AdamwEvenIdeal.nD Cert.AdamwEvenIdeal.τ).loc Cert.AdamwEvenIdeal.main_v0_6) = v2 c
          ∧ r.2.mem ((c.tc : Thread Cert.AdamwEvenIdeal.nD Cert.AdamwEvenIdeal.τ).loc Cert.AdamwEvenIdeal.main_v0_1) = v3 c
          ∧ r.2.mem ((c.tc : Thread Cert.AdamwEvenIdeal.nD Cert.AdamwEvenIdeal.τ).loc Cert.AdamwEvenIdeal.main_v0_4) = v4 c
          ∧ r.2.mem ((c.tc : Thread Cert.AdamwEvenIdeal.nD Cert.AdamwEvenIdeal.τ).loc Cert.AdamwEvenIdeal.main_v0_7) = v5 c
          ∧ r.2.mem ((c.tc : Thread Cert.AdamwEvenIdeal.nD Cert.AdamwEvenIdeal.τ).loc Cert.AdamwEvenIdeal.main_v0_2) = v6 c
          ∧ r.2.mem ((c.tc : Thread Cert.AdamwEvenIdeal.nD Cert.AdamwEvenIdeal.τ).loc Cert.AdamwEvenIdeal.main_v0_5) = v7 c
          ∧ r.2.mem ((c.tc : Thread Cert.AdamwEvenIdeal.nD Cert.AdamwEvenIdeal.τ).loc Cert.AdamwEvenIdeal.main_v0_8) = v8 c
          ∧ r.2.mem ((c.tc : Thread Cert.AdamwEvenIdeal.nD Cert.AdamwEvenIdeal.τ).loc Cert.AdamwEvenIdeal.main_arg0) = m ((c.tc : Thread Cert.AdamwEvenIdeal.nD Cert.AdamwEvenIdeal.τ).loc Cert.AdamwEvenIdeal.main_arg0)
          ∧ r.2.mem ((c.tc : Thread Cert.AdamwEvenIdeal.nD Cert.AdamwEvenIdeal.τ).loc Cert.AdamwEvenIdeal.main_arg1) = m ((c.tc : Thread Cert.AdamwEvenIdeal.nD Cert.AdamwEvenIdeal.τ).loc Cert.AdamwEvenIdeal.main_arg1)
          ∧ r.2.mem ((c.tc : Thread Cert.AdamwEvenIdeal.nD Cert.AdamwEvenIdeal.τ).loc Cert.AdamwEvenIdeal.main_arg2) = m ((c.tc : Thread Cert.AdamwEvenIdeal.nD Cert.AdamwEvenIdeal.τ).loc Cert.AdamwEvenIdeal.main_arg2)
          ∧ r.2.mem ((c.tc : Thread Cert.AdamwEvenIdeal.nD Cert.AdamwEvenIdeal.τ).loc Cert.AdamwEvenIdeal.main_arg3) = m ((c.tc : Thread Cert.AdamwEvenIdeal.nD Cert.AdamwEvenIdeal.τ).loc Cert.AdamwEvenIdeal.main_arg3)
          ∧ r.2.mem ((c.tc : Thread Cert.AdamwEvenIdeal.nD Cert.AdamwEvenIdeal.τ).loc Cert.AdamwEvenIdeal.main_arg4) = m ((c.tc : Thread Cert.AdamwEvenIdeal.nD Cert.AdamwEvenIdeal.τ).loc Cert.AdamwEvenIdeal.main_arg4)
          ∧ r.2.mem ((c.tc : Thread Cert.AdamwEvenIdeal.nD Cert.AdamwEvenIdeal.τ).loc Cert.AdamwEvenIdeal.main_arg5) = m ((c.tc : Thread Cert.AdamwEvenIdeal.nD Cert.AdamwEvenIdeal.τ).loc Cert.AdamwEvenIdeal.main_arg5)
          ∧ r.2.mem ((c.tc : Thread Cert.AdamwEvenIdeal.nD Cert.AdamwEvenIdeal.τ).loc Cert.AdamwEvenIdeal.main_arg6) = m ((c.tc : Thread Cert.AdamwEvenIdeal.nD Cert.AdamwEvenIdeal.τ).loc Cert.AdamwEvenIdeal.main_arg6)
          ∧ r.2.mem ((c.tc : Thread Cert.AdamwEvenIdeal.nD Cert.AdamwEvenIdeal.τ).loc Cert.AdamwEvenIdeal.main_arg7) = m ((c.tc : Thread Cert.AdamwEvenIdeal.nD Cert.AdamwEvenIdeal.τ).loc Cert.AdamwEvenIdeal.main_arg7)
          ∧ r.2.mem ((c.tc : Thread Cert.AdamwEvenIdeal.nD Cert.AdamwEvenIdeal.τ).loc Cert.AdamwEvenIdeal.main_arg8) = m ((c.tc : Thread Cert.AdamwEvenIdeal.nD Cert.AdamwEvenIdeal.τ).loc Cert.AdamwEvenIdeal.main_arg8)
          ∧ r.2.mem ((c.tc : Thread Cert.AdamwEvenIdeal.nD Cert.AdamwEvenIdeal.τ).loc Cert.AdamwEvenIdeal.main_arg9) = m ((c.tc : Thread Cert.AdamwEvenIdeal.nD Cert.AdamwEvenIdeal.τ).loc Cert.AdamwEvenIdeal.main_arg9)
          ∧ r.2.mem ((c.tc : Thread Cert.AdamwEvenIdeal.nD Cert.AdamwEvenIdeal.τ).loc Cert.AdamwEvenIdeal.main_arg10) = m ((c.tc : Thread Cert.AdamwEvenIdeal.nD Cert.AdamwEvenIdeal.τ).loc Cert.AdamwEvenIdeal.main_arg10)
          ∧ r.2.mem ((c.tc : Thread Cert.AdamwEvenIdeal.nD Cert.AdamwEvenIdeal.τ).loc Cert.AdamwEvenIdeal.main_arg11) = m ((c.tc : Thread Cert.AdamwEvenIdeal.nD Cert.AdamwEvenIdeal.τ).loc Cert.AdamwEvenIdeal.main_arg11))
      ∧ θ_run (Cert.AdamwEvenRefIdeal.defs (F := Ideal)) (onTc (τ := Cert.AdamwEvenRefIdeal.τ) (Cert.AdamwEvenRefIdeal.main (F := Ideal))) ⟨m', fun _ => 0, g'⟩ (fun r => ∀ c : Dev Cert.AdamwEvenRefIdeal.nD,
          r.2.mem ((c.tc : Thread Cert.AdamwEvenRefIdeal.nD Cert.AdamwEvenRefIdeal.τ).loc Cert.AdamwEvenRefIdeal.main_v23) = v0 c
          ∧ r.2.mem ((c.tc : Thread Cert.AdamwEvenRefIdeal.nD Cert.AdamwEvenRefIdeal.τ).loc Cert.AdamwEvenRefIdeal.main_v4) = v1 c
          ∧ r.2.mem ((c.tc : Thread Cert.AdamwEvenRefIdeal.nD Cert.AdamwEvenRefIdeal.τ).loc Cert.AdamwEvenRefIdeal.main_v10) = v2 c
          ∧ r.2.mem ((c.tc : Thread Cert.AdamwEvenRefIdeal.nD Cert.AdamwEvenRefIdeal.τ).loc Cert.AdamwEvenRefIdeal.main_v47) = v3 c
          ∧ r.2.mem ((c.tc : Thread Cert.AdamwEvenRefIdeal.nD Cert.AdamwEvenRefIdeal.τ).loc Cert.AdamwEvenRefIdeal.main_v28) = v4 c
          ∧ r.2.mem ((c.tc : Thread Cert.AdamwEvenRefIdeal.nD Cert.AdamwEvenRefIdeal.τ).loc Cert.AdamwEvenRefIdeal.main_v34) = v5 c
          ∧ r.2.mem ((c.tc : Thread Cert.AdamwEvenRefIdeal.nD Cert.AdamwEvenRefIdeal.τ).loc Cert.AdamwEvenRefIdeal.main_v71) = v6 c
          ∧ r.2.mem ((c.tc : Thread Cert.AdamwEvenRefIdeal.nD Cert.AdamwEvenRefIdeal.τ).loc Cert.AdamwEvenRefIdeal.main_v52) = v7 c
          ∧ r.2.mem ((c.tc : Thread Cert.AdamwEvenRefIdeal.nD Cert.AdamwEvenRefIdeal.τ).loc Cert.AdamwEvenRefIdeal.main_v58) = v8 c
          ∧ r.2.mem ((c.tc : Thread Cert.AdamwEvenRefIdeal.nD Cert.AdamwEvenRefIdeal.τ).loc Cert.AdamwEvenRefIdeal.main_arg0) = m' ((c.tc : Thread Cert.AdamwEvenRefIdeal.nD Cert.AdamwEvenRefIdeal.τ).loc Cert.AdamwEvenRefIdeal.main_arg0)
          ∧ r.2.mem ((c.tc : Thread Cert.AdamwEvenRefIdeal.nD Cert.AdamwEvenRefIdeal.τ).loc Cert.AdamwEvenRefIdeal.main_arg1) = m' ((c.tc : Thread Cert.AdamwEvenRefIdeal.nD Cert.AdamwEvenRefIdeal.τ).loc Cert.AdamwEvenRefIdeal.main_arg1)
          ∧ r.2.mem ((c.tc : Thread Cert.AdamwEvenRefIdeal.nD Cert.AdamwEvenRefIdeal.τ).loc Cert.AdamwEvenRefIdeal.main_arg2) = m' ((c.tc : Thread Cert.AdamwEvenRefIdeal.nD Cert.AdamwEvenRefIdeal.τ).loc Cert.AdamwEvenRefIdeal.main_arg2)
          ∧ r.2.mem ((c.tc : Thread Cert.AdamwEvenRefIdeal.nD Cert.AdamwEvenRefIdeal.τ).loc Cert.AdamwEvenRefIdeal.main_arg3) = m' ((c.tc : Thread Cert.AdamwEvenRefIdeal.nD Cert.AdamwEvenRefIdeal.τ).loc Cert.AdamwEvenRefIdeal.main_arg3)
          ∧ r.2.mem ((c.tc : Thread Cert.AdamwEvenRefIdeal.nD Cert.AdamwEvenRefIdeal.τ).loc Cert.AdamwEvenRefIdeal.main_arg4) = m' ((c.tc : Thread Cert.AdamwEvenRefIdeal.nD Cert.AdamwEvenRefIdeal.τ).loc Cert.AdamwEvenRefIdeal.main_arg4)
          ∧ r.2.mem ((c.tc : Thread Cert.AdamwEvenRefIdeal.nD Cert.AdamwEvenRefIdeal.τ).loc Cert.AdamwEvenRefIdeal.main_arg5) = m' ((c.tc : Thread Cert.AdamwEvenRefIdeal.nD Cert.AdamwEvenRefIdeal.τ).loc Cert.AdamwEvenRefIdeal.main_arg5)
          ∧ r.2.mem ((c.tc : Thread Cert.AdamwEvenRefIdeal.nD Cert.AdamwEvenRefIdeal.τ).loc Cert.AdamwEvenRefIdeal.main_arg6) = m' ((c.tc : Thread Cert.AdamwEvenRefIdeal.nD Cert.AdamwEvenRefIdeal.τ).loc Cert.AdamwEvenRefIdeal.main_arg6)
          ∧ r.2.mem ((c.tc : Thread Cert.AdamwEvenRefIdeal.nD Cert.AdamwEvenRefIdeal.τ).loc Cert.AdamwEvenRefIdeal.main_arg7) = m' ((c.tc : Thread Cert.AdamwEvenRefIdeal.nD Cert.AdamwEvenRefIdeal.τ).loc Cert.AdamwEvenRefIdeal.main_arg7)
          ∧ r.2.mem ((c.tc : Thread Cert.AdamwEvenRefIdeal.nD Cert.AdamwEvenRefIdeal.τ).loc Cert.AdamwEvenRefIdeal.main_arg8) = m' ((c.tc : Thread Cert.AdamwEvenRefIdeal.nD Cert.AdamwEvenRefIdeal.τ).loc Cert.AdamwEvenRefIdeal.main_arg8)
          ∧ r.2.mem ((c.tc : Thread Cert.AdamwEvenRefIdeal.nD Cert.AdamwEvenRefIdeal.τ).loc Cert.AdamwEvenRefIdeal.main_arg9) = m' ((c.tc : Thread Cert.AdamwEvenRefIdeal.nD Cert.AdamwEvenRefIdeal.τ).loc Cert.AdamwEvenRefIdeal.main_arg9)
          ∧ r.2.mem ((c.tc : Thread Cert.AdamwEvenRefIdeal.nD Cert.AdamwEvenRefIdeal.τ).loc Cert.AdamwEvenRefIdeal.main_arg10) = m' ((c.tc : Thread Cert.AdamwEvenRefIdeal.nD Cert.AdamwEvenRefIdeal.τ).loc Cert.AdamwEvenRefIdeal.main_arg10)
          ∧ r.2.mem ((c.tc : Thread Cert.AdamwEvenRefIdeal.nD Cert.AdamwEvenRefIdeal.τ).loc Cert.AdamwEvenRefIdeal.main_arg11) = m' ((c.tc : Thread Cert.AdamwEvenRefIdeal.nD Cert.AdamwEvenRefIdeal.τ).loc Cert.AdamwEvenRefIdeal.main_arg11))

def preserves_AdamwTaps_AdamwTapsIdeal : Prop :=
  True

def algebraic_AdamwTapsIdeal_AdamwTapsRefIdeal [hAdamwTapsIdeal : Cert.AdamwTapsIdeal.Facts] [hAdamwTapsRefIdeal : Cert.AdamwTapsRefIdeal.Facts] : Prop :=
  ∀ (m : (ℓ : Loc Cert.AdamwTapsIdeal.nD Cert.AdamwTapsIdeal.τ Cert.AdamwTapsIdeal.sig) → Buf (Elt Ideal) ℓ) (g : Dev Cert.AdamwTapsIdeal.nD → PrngReg)
    (m' : (ℓ : Loc Cert.AdamwTapsRefIdeal.nD Cert.AdamwTapsRefIdeal.τ Cert.AdamwTapsRefIdeal.sig) → Buf (Elt Ideal) ℓ) (g' : Dev Cert.AdamwTapsRefIdeal.nD → PrngReg), Pre_AdamwTapsIdeal m →
    (∀ c : Dev Cert.AdamwTapsIdeal.nD,
      m' ((c.tc : Thread Cert.AdamwTapsRefIdeal.nD Cert.AdamwTapsRefIdeal.τ).loc Cert.AdamwTapsRefIdeal.main_arg0) = m ((c.tc : Thread Cert.AdamwTapsIdeal.nD Cert.AdamwTapsIdeal.τ).loc Cert.AdamwTapsIdeal.main_arg0)
      ∧ m' ((c.tc : Thread Cert.AdamwTapsRefIdeal.nD Cert.AdamwTapsRefIdeal.τ).loc Cert.AdamwTapsRefIdeal.main_arg1) = m ((c.tc : Thread Cert.AdamwTapsIdeal.nD Cert.AdamwTapsIdeal.τ).loc Cert.AdamwTapsIdeal.main_arg1)
      ∧ m' ((c.tc : Thread Cert.AdamwTapsRefIdeal.nD Cert.AdamwTapsRefIdeal.τ).loc Cert.AdamwTapsRefIdeal.main_arg2) = m ((c.tc : Thread Cert.AdamwTapsIdeal.nD Cert.AdamwTapsIdeal.τ).loc Cert.AdamwTapsIdeal.main_arg2)
      ∧ m' ((c.tc : Thread Cert.AdamwTapsRefIdeal.nD Cert.AdamwTapsRefIdeal.τ).loc Cert.AdamwTapsRefIdeal.main_arg3) = m ((c.tc : Thread Cert.AdamwTapsIdeal.nD Cert.AdamwTapsIdeal.τ).loc Cert.AdamwTapsIdeal.main_arg3)
      ∧ m' ((c.tc : Thread Cert.AdamwTapsRefIdeal.nD Cert.AdamwTapsRefIdeal.τ).loc Cert.AdamwTapsRefIdeal.main_arg4) = m ((c.tc : Thread Cert.AdamwTapsIdeal.nD Cert.AdamwTapsIdeal.τ).loc Cert.AdamwTapsIdeal.main_arg4)
      ∧ m' ((c.tc : Thread Cert.AdamwTapsRefIdeal.nD Cert.AdamwTapsRefIdeal.τ).loc Cert.AdamwTapsRefIdeal.main_arg5) = m ((c.tc : Thread Cert.AdamwTapsIdeal.nD Cert.AdamwTapsIdeal.τ).loc Cert.AdamwTapsIdeal.main_arg5)
      ∧ m' ((c.tc : Thread Cert.AdamwTapsRefIdeal.nD Cert.AdamwTapsRefIdeal.τ).loc Cert.AdamwTapsRefIdeal.main_arg6) = m ((c.tc : Thread Cert.AdamwTapsIdeal.nD Cert.AdamwTapsIdeal.τ).loc Cert.AdamwTapsIdeal.main_arg6)
      ∧ m' ((c.tc : Thread Cert.AdamwTapsRefIdeal.nD Cert.AdamwTapsRefIdeal.τ).loc Cert.AdamwTapsRefIdeal.main_arg7) = m ((c.tc : Thread Cert.AdamwTapsIdeal.nD Cert.AdamwTapsIdeal.τ).loc Cert.AdamwTapsIdeal.main_arg7)
      ∧ m' ((c.tc : Thread Cert.AdamwTapsRefIdeal.nD Cert.AdamwTapsRefIdeal.τ).loc Cert.AdamwTapsRefIdeal.main_arg8) = m ((c.tc : Thread Cert.AdamwTapsIdeal.nD Cert.AdamwTapsIdeal.τ).loc Cert.AdamwTapsIdeal.main_arg8)
      ∧ m' ((c.tc : Thread Cert.AdamwTapsRefIdeal.nD Cert.AdamwTapsRefIdeal.τ).loc Cert.AdamwTapsRefIdeal.main_arg9) = m ((c.tc : Thread Cert.AdamwTapsIdeal.nD Cert.AdamwTapsIdeal.τ).loc Cert.AdamwTapsIdeal.main_arg9)
      ∧ m' ((c.tc : Thread Cert.AdamwTapsRefIdeal.nD Cert.AdamwTapsRefIdeal.τ).loc Cert.AdamwTapsRefIdeal.main_arg10) = m ((c.tc : Thread Cert.AdamwTapsIdeal.nD Cert.AdamwTapsIdeal.τ).loc Cert.AdamwTapsIdeal.main_arg10)
      ∧ m' ((c.tc : Thread Cert.AdamwTapsRefIdeal.nD Cert.AdamwTapsRefIdeal.τ).loc Cert.AdamwTapsRefIdeal.main_arg11) = m ((c.tc : Thread Cert.AdamwTapsIdeal.nD Cert.AdamwTapsIdeal.τ).loc Cert.AdamwTapsIdeal.main_arg11)) →
    ∃ (v0 : (c : Dev Cert.AdamwTapsIdeal.nD) → Buf (Elt Ideal) ((c.tc : Thread Cert.AdamwTapsIdeal.nD Cert.AdamwTapsIdeal.τ).loc Cert.AdamwTapsIdeal.main_v0_0)) (v1 : (c : Dev Cert.AdamwTapsIdeal.nD) → Buf (Elt Ideal) ((c.tc : Thread Cert.AdamwTapsIdeal.nD Cert.AdamwTapsIdeal.τ).loc Cert.AdamwTapsIdeal.main_v0_3)) (v2 : (c : Dev Cert.AdamwTapsIdeal.nD) → Buf (Elt Ideal) ((c.tc : Thread Cert.AdamwTapsIdeal.nD Cert.AdamwTapsIdeal.τ).loc Cert.AdamwTapsIdeal.main_v0_6)) (v3 : (c : Dev Cert.AdamwTapsIdeal.nD) → Buf (Elt Ideal) ((c.tc : Thread Cert.AdamwTapsIdeal.nD Cert.AdamwTapsIdeal.τ).loc Cert.AdamwTapsIdeal.main_v0_1)) (v4 : (c : Dev Cert.AdamwTapsIdeal.nD) → Buf (Elt Ideal) ((c.tc : Thread Cert.AdamwTapsIdeal.nD Cert.AdamwTapsIdeal.τ).loc Cert.AdamwTapsIdeal.main_v0_4)) (v5 : (c : Dev Cert.AdamwTapsIdeal.nD) → Buf (Elt Ideal) ((c.tc : Thread Cert.AdamwTapsIdeal.nD Cert.AdamwTapsIdeal.τ).loc Cert.AdamwTapsIdeal.main_v0_7)) (v6 : (c : Dev Cert.AdamwTapsIdeal.nD) → Buf (Elt Ideal) ((c.tc : Thread Cert.AdamwTapsIdeal.nD Cert.AdamwTapsIdeal.τ).loc Cert.AdamwTapsIdeal.main_v0_2)) (v7 : (c : Dev Cert.AdamwTapsIdeal.nD) → Buf (Elt Ideal) ((c.tc : Thread Cert.AdamwTapsIdeal.nD Cert.AdamwTapsIdeal.τ).loc Cert.AdamwTapsIdeal.main_v0_5)) (v8 : (c : Dev Cert.AdamwTapsIdeal.nD) → Buf (Elt Ideal) ((c.tc : Thread Cert.AdamwTapsIdeal.nD Cert.AdamwTapsIdeal.τ).loc Cert.AdamwTapsIdeal.main_v0_8)),
      θ_run (Cert.AdamwTapsIdeal.defs (F := Ideal)) (onTc (τ := Cert.AdamwTapsIdeal.τ) (Cert.AdamwTapsIdeal.main (F := Ideal))) ⟨m, fun _ => 0, g⟩ (fun r => ∀ c : Dev Cert.AdamwTapsIdeal.nD,
          r.2.mem ((c.tc : Thread Cert.AdamwTapsIdeal.nD Cert.AdamwTapsIdeal.τ).loc Cert.AdamwTapsIdeal.main_v0_0) = v0 c
          ∧ r.2.mem ((c.tc : Thread Cert.AdamwTapsIdeal.nD Cert.AdamwTapsIdeal.τ).loc Cert.AdamwTapsIdeal.main_v0_3) = v1 c
          ∧ r.2.mem ((c.tc : Thread Cert.AdamwTapsIdeal.nD Cert.AdamwTapsIdeal.τ).loc Cert.AdamwTapsIdeal.main_v0_6) = v2 c
          ∧ r.2.mem ((c.tc : Thread Cert.AdamwTapsIdeal.nD Cert.AdamwTapsIdeal.τ).loc Cert.AdamwTapsIdeal.main_v0_1) = v3 c
          ∧ r.2.mem ((c.tc : Thread Cert.AdamwTapsIdeal.nD Cert.AdamwTapsIdeal.τ).loc Cert.AdamwTapsIdeal.main_v0_4) = v4 c
          ∧ r.2.mem ((c.tc : Thread Cert.AdamwTapsIdeal.nD Cert.AdamwTapsIdeal.τ).loc Cert.AdamwTapsIdeal.main_v0_7) = v5 c
          ∧ r.2.mem ((c.tc : Thread Cert.AdamwTapsIdeal.nD Cert.AdamwTapsIdeal.τ).loc Cert.AdamwTapsIdeal.main_v0_2) = v6 c
          ∧ r.2.mem ((c.tc : Thread Cert.AdamwTapsIdeal.nD Cert.AdamwTapsIdeal.τ).loc Cert.AdamwTapsIdeal.main_v0_5) = v7 c
          ∧ r.2.mem ((c.tc : Thread Cert.AdamwTapsIdeal.nD Cert.AdamwTapsIdeal.τ).loc Cert.AdamwTapsIdeal.main_v0_8) = v8 c
          ∧ r.2.mem ((c.tc : Thread Cert.AdamwTapsIdeal.nD Cert.AdamwTapsIdeal.τ).loc Cert.AdamwTapsIdeal.main_arg0) = m ((c.tc : Thread Cert.AdamwTapsIdeal.nD Cert.AdamwTapsIdeal.τ).loc Cert.AdamwTapsIdeal.main_arg0)
          ∧ r.2.mem ((c.tc : Thread Cert.AdamwTapsIdeal.nD Cert.AdamwTapsIdeal.τ).loc Cert.AdamwTapsIdeal.main_arg1) = m ((c.tc : Thread Cert.AdamwTapsIdeal.nD Cert.AdamwTapsIdeal.τ).loc Cert.AdamwTapsIdeal.main_arg1)
          ∧ r.2.mem ((c.tc : Thread Cert.AdamwTapsIdeal.nD Cert.AdamwTapsIdeal.τ).loc Cert.AdamwTapsIdeal.main_arg2) = m ((c.tc : Thread Cert.AdamwTapsIdeal.nD Cert.AdamwTapsIdeal.τ).loc Cert.AdamwTapsIdeal.main_arg2)
          ∧ r.2.mem ((c.tc : Thread Cert.AdamwTapsIdeal.nD Cert.AdamwTapsIdeal.τ).loc Cert.AdamwTapsIdeal.main_arg3) = m ((c.tc : Thread Cert.AdamwTapsIdeal.nD Cert.AdamwTapsIdeal.τ).loc Cert.AdamwTapsIdeal.main_arg3)
          ∧ r.2.mem ((c.tc : Thread Cert.AdamwTapsIdeal.nD Cert.AdamwTapsIdeal.τ).loc Cert.AdamwTapsIdeal.main_arg4) = m ((c.tc : Thread Cert.AdamwTapsIdeal.nD Cert.AdamwTapsIdeal.τ).loc Cert.AdamwTapsIdeal.main_arg4)
          ∧ r.2.mem ((c.tc : Thread Cert.AdamwTapsIdeal.nD Cert.AdamwTapsIdeal.τ).loc Cert.AdamwTapsIdeal.main_arg5) = m ((c.tc : Thread Cert.AdamwTapsIdeal.nD Cert.AdamwTapsIdeal.τ).loc Cert.AdamwTapsIdeal.main_arg5)
          ∧ r.2.mem ((c.tc : Thread Cert.AdamwTapsIdeal.nD Cert.AdamwTapsIdeal.τ).loc Cert.AdamwTapsIdeal.main_arg6) = m ((c.tc : Thread Cert.AdamwTapsIdeal.nD Cert.AdamwTapsIdeal.τ).loc Cert.AdamwTapsIdeal.main_arg6)
          ∧ r.2.mem ((c.tc : Thread Cert.AdamwTapsIdeal.nD Cert.AdamwTapsIdeal.τ).loc Cert.AdamwTapsIdeal.main_arg7) = m ((c.tc : Thread Cert.AdamwTapsIdeal.nD Cert.AdamwTapsIdeal.τ).loc Cert.AdamwTapsIdeal.main_arg7)
          ∧ r.2.mem ((c.tc : Thread Cert.AdamwTapsIdeal.nD Cert.AdamwTapsIdeal.τ).loc Cert.AdamwTapsIdeal.main_arg8) = m ((c.tc : Thread Cert.AdamwTapsIdeal.nD Cert.AdamwTapsIdeal.τ).loc Cert.AdamwTapsIdeal.main_arg8)
          ∧ r.2.mem ((c.tc : Thread Cert.AdamwTapsIdeal.nD Cert.AdamwTapsIdeal.τ).loc Cert.AdamwTapsIdeal.main_arg9) = m ((c.tc : Thread Cert.AdamwTapsIdeal.nD Cert.AdamwTapsIdeal.τ).loc Cert.AdamwTapsIdeal.main_arg9)
          ∧ r.2.mem ((c.tc : Thread Cert.AdamwTapsIdeal.nD Cert.AdamwTapsIdeal.τ).loc Cert.AdamwTapsIdeal.main_arg10) = m ((c.tc : Thread Cert.AdamwTapsIdeal.nD Cert.AdamwTapsIdeal.τ).loc Cert.AdamwTapsIdeal.main_arg10)
          ∧ r.2.mem ((c.tc : Thread Cert.AdamwTapsIdeal.nD Cert.AdamwTapsIdeal.τ).loc Cert.AdamwTapsIdeal.main_arg11) = m ((c.tc : Thread Cert.AdamwTapsIdeal.nD Cert.AdamwTapsIdeal.τ).loc Cert.AdamwTapsIdeal.main_arg11))
      ∧ θ_run (Cert.AdamwTapsRefIdeal.defs (F := Ideal)) (onTc (τ := Cert.AdamwTapsRefIdeal.τ) (Cert.AdamwTapsRefIdeal.main (F := Ideal))) ⟨m', fun _ => 0, g'⟩ (fun r => ∀ c : Dev Cert.AdamwTapsRefIdeal.nD,
          r.2.mem ((c.tc : Thread Cert.AdamwTapsRefIdeal.nD Cert.AdamwTapsRefIdeal.τ).loc Cert.AdamwTapsRefIdeal.main_v23) = v0 c
          ∧ r.2.mem ((c.tc : Thread Cert.AdamwTapsRefIdeal.nD Cert.AdamwTapsRefIdeal.τ).loc Cert.AdamwTapsRefIdeal.main_v4) = v1 c
          ∧ r.2.mem ((c.tc : Thread Cert.AdamwTapsRefIdeal.nD Cert.AdamwTapsRefIdeal.τ).loc Cert.AdamwTapsRefIdeal.main_v10) = v2 c
          ∧ r.2.mem ((c.tc : Thread Cert.AdamwTapsRefIdeal.nD Cert.AdamwTapsRefIdeal.τ).loc Cert.AdamwTapsRefIdeal.main_v47) = v3 c
          ∧ r.2.mem ((c.tc : Thread Cert.AdamwTapsRefIdeal.nD Cert.AdamwTapsRefIdeal.τ).loc Cert.AdamwTapsRefIdeal.main_v28) = v4 c
          ∧ r.2.mem ((c.tc : Thread Cert.AdamwTapsRefIdeal.nD Cert.AdamwTapsRefIdeal.τ).loc Cert.AdamwTapsRefIdeal.main_v34) = v5 c
          ∧ r.2.mem ((c.tc : Thread Cert.AdamwTapsRefIdeal.nD Cert.AdamwTapsRefIdeal.τ).loc Cert.AdamwTapsRefIdeal.main_v71) = v6 c
          ∧ r.2.mem ((c.tc : Thread Cert.AdamwTapsRefIdeal.nD Cert.AdamwTapsRefIdeal.τ).loc Cert.AdamwTapsRefIdeal.main_v52) = v7 c
          ∧ r.2.mem ((c.tc : Thread Cert.AdamwTapsRefIdeal.nD Cert.AdamwTapsRefIdeal.τ).loc Cert.AdamwTapsRefIdeal.main_v58) = v8 c
          ∧ r.2.mem ((c.tc : Thread Cert.AdamwTapsRefIdeal.nD Cert.AdamwTapsRefIdeal.τ).loc Cert.AdamwTapsRefIdeal.main_arg0) = m' ((c.tc : Thread Cert.AdamwTapsRefIdeal.nD Cert.AdamwTapsRefIdeal.τ).loc Cert.AdamwTapsRefIdeal.main_arg0)
          ∧ r.2.mem ((c.tc : Thread Cert.AdamwTapsRefIdeal.nD Cert.AdamwTapsRefIdeal.τ).loc Cert.AdamwTapsRefIdeal.main_arg1) = m' ((c.tc : Thread Cert.AdamwTapsRefIdeal.nD Cert.AdamwTapsRefIdeal.τ).loc Cert.AdamwTapsRefIdeal.main_arg1)
          ∧ r.2.mem ((c.tc : Thread Cert.AdamwTapsRefIdeal.nD Cert.AdamwTapsRefIdeal.τ).loc Cert.AdamwTapsRefIdeal.main_arg2) = m' ((c.tc : Thread Cert.AdamwTapsRefIdeal.nD Cert.AdamwTapsRefIdeal.τ).loc Cert.AdamwTapsRefIdeal.main_arg2)
          ∧ r.2.mem ((c.tc : Thread Cert.AdamwTapsRefIdeal.nD Cert.AdamwTapsRefIdeal.τ).loc Cert.AdamwTapsRefIdeal.main_arg3) = m' ((c.tc : Thread Cert.AdamwTapsRefIdeal.nD Cert.AdamwTapsRefIdeal.τ).loc Cert.AdamwTapsRefIdeal.main_arg3)
          ∧ r.2.mem ((c.tc : Thread Cert.AdamwTapsRefIdeal.nD Cert.AdamwTapsRefIdeal.τ).loc Cert.AdamwTapsRefIdeal.main_arg4) = m' ((c.tc : Thread Cert.AdamwTapsRefIdeal.nD Cert.AdamwTapsRefIdeal.τ).loc Cert.AdamwTapsRefIdeal.main_arg4)
          ∧ r.2.mem ((c.tc : Thread Cert.AdamwTapsRefIdeal.nD Cert.AdamwTapsRefIdeal.τ).loc Cert.AdamwTapsRefIdeal.main_arg5) = m' ((c.tc : Thread Cert.AdamwTapsRefIdeal.nD Cert.AdamwTapsRefIdeal.τ).loc Cert.AdamwTapsRefIdeal.main_arg5)
          ∧ r.2.mem ((c.tc : Thread Cert.AdamwTapsRefIdeal.nD Cert.AdamwTapsRefIdeal.τ).loc Cert.AdamwTapsRefIdeal.main_arg6) = m' ((c.tc : Thread Cert.AdamwTapsRefIdeal.nD Cert.AdamwTapsRefIdeal.τ).loc Cert.AdamwTapsRefIdeal.main_arg6)
          ∧ r.2.mem ((c.tc : Thread Cert.AdamwTapsRefIdeal.nD Cert.AdamwTapsRefIdeal.τ).loc Cert.AdamwTapsRefIdeal.main_arg7) = m' ((c.tc : Thread Cert.AdamwTapsRefIdeal.nD Cert.AdamwTapsRefIdeal.τ).loc Cert.AdamwTapsRefIdeal.main_arg7)
          ∧ r.2.mem ((c.tc : Thread Cert.AdamwTapsRefIdeal.nD Cert.AdamwTapsRefIdeal.τ).loc Cert.AdamwTapsRefIdeal.main_arg8) = m' ((c.tc : Thread Cert.AdamwTapsRefIdeal.nD Cert.AdamwTapsRefIdeal.τ).loc Cert.AdamwTapsRefIdeal.main_arg8)
          ∧ r.2.mem ((c.tc : Thread Cert.AdamwTapsRefIdeal.nD Cert.AdamwTapsRefIdeal.τ).loc Cert.AdamwTapsRefIdeal.main_arg9) = m' ((c.tc : Thread Cert.AdamwTapsRefIdeal.nD Cert.AdamwTapsRefIdeal.τ).loc Cert.AdamwTapsRefIdeal.main_arg9)
          ∧ r.2.mem ((c.tc : Thread Cert.AdamwTapsRefIdeal.nD Cert.AdamwTapsRefIdeal.τ).loc Cert.AdamwTapsRefIdeal.main_arg10) = m' ((c.tc : Thread Cert.AdamwTapsRefIdeal.nD Cert.AdamwTapsRefIdeal.τ).loc Cert.AdamwTapsRefIdeal.main_arg10)
          ∧ r.2.mem ((c.tc : Thread Cert.AdamwTapsRefIdeal.nD Cert.AdamwTapsRefIdeal.τ).loc Cert.AdamwTapsRefIdeal.main_arg11) = m' ((c.tc : Thread Cert.AdamwTapsRefIdeal.nD Cert.AdamwTapsRefIdeal.τ).loc Cert.AdamwTapsRefIdeal.main_arg11))

def preserves_AdamwRest_AdamwRestIdeal : Prop :=
  True

def algebraic_AdamwRestIdeal_AdamwRestRefIdeal [hAdamwRestIdeal : Cert.AdamwRestIdeal.Facts] [hAdamwRestRefIdeal : Cert.AdamwRestRefIdeal.Facts] : Prop :=
  ∀ (m : (ℓ : Loc Cert.AdamwRestIdeal.nD Cert.AdamwRestIdeal.τ Cert.AdamwRestIdeal.sig) → Buf (Elt Ideal) ℓ) (g : Dev Cert.AdamwRestIdeal.nD → PrngReg)
    (m' : (ℓ : Loc Cert.AdamwRestRefIdeal.nD Cert.AdamwRestRefIdeal.τ Cert.AdamwRestRefIdeal.sig) → Buf (Elt Ideal) ℓ) (g' : Dev Cert.AdamwRestRefIdeal.nD → PrngReg), Pre_AdamwRestIdeal m →
    (∀ c : Dev Cert.AdamwRestIdeal.nD,
      m' ((c.tc : Thread Cert.AdamwRestRefIdeal.nD Cert.AdamwRestRefIdeal.τ).loc Cert.AdamwRestRefIdeal.main_arg0) = m ((c.tc : Thread Cert.AdamwRestIdeal.nD Cert.AdamwRestIdeal.τ).loc Cert.AdamwRestIdeal.main_arg0)
      ∧ m' ((c.tc : Thread Cert.AdamwRestRefIdeal.nD Cert.AdamwRestRefIdeal.τ).loc Cert.AdamwRestRefIdeal.main_arg1) = m ((c.tc : Thread Cert.AdamwRestIdeal.nD Cert.AdamwRestIdeal.τ).loc Cert.AdamwRestIdeal.main_arg1)
      ∧ m' ((c.tc : Thread Cert.AdamwRestRefIdeal.nD Cert.AdamwRestRefIdeal.τ).loc Cert.AdamwRestRefIdeal.main_arg2) = m ((c.tc : Thread Cert.AdamwRestIdeal.nD Cert.AdamwRestIdeal.τ).loc Cert.AdamwRestIdeal.main_arg2)
      ∧ m' ((c.tc : Thread Cert.AdamwRestRefIdeal.nD Cert.AdamwRestRefIdeal.τ).loc Cert.AdamwRestRefIdeal.main_arg3) = m ((c.tc : Thread Cert.AdamwRestIdeal.nD Cert.AdamwRestIdeal.τ).loc Cert.AdamwRestIdeal.main_arg3)
      ∧ m' ((c.tc : Thread Cert.AdamwRestRefIdeal.nD Cert.AdamwRestRefIdeal.τ).loc Cert.AdamwRestRefIdeal.main_arg4) = m ((c.tc : Thread Cert.AdamwRestIdeal.nD Cert.AdamwRestIdeal.τ).loc Cert.AdamwRestIdeal.main_arg4)
      ∧ m' ((c.tc : Thread Cert.AdamwRestRefIdeal.nD Cert.AdamwRestRefIdeal.τ).loc Cert.AdamwRestRefIdeal.main_arg5) = m ((c.tc : Thread Cert.AdamwRestIdeal.nD Cert.AdamwRestIdeal.τ).loc Cert.AdamwRestIdeal.main_arg5)
      ∧ m' ((c.tc : Thread Cert.AdamwRestRefIdeal.nD Cert.AdamwRestRefIdeal.τ).loc Cert.AdamwRestRefIdeal.main_arg6) = m ((c.tc : Thread Cert.AdamwRestIdeal.nD Cert.AdamwRestIdeal.τ).loc Cert.AdamwRestIdeal.main_arg6)
      ∧ m' ((c.tc : Thread Cert.AdamwRestRefIdeal.nD Cert.AdamwRestRefIdeal.τ).loc Cert.AdamwRestRefIdeal.main_arg7) = m ((c.tc : Thread Cert.AdamwRestIdeal.nD Cert.AdamwRestIdeal.τ).loc Cert.AdamwRestIdeal.main_arg7)
      ∧ m' ((c.tc : Thread Cert.AdamwRestRefIdeal.nD Cert.AdamwRestRefIdeal.τ).loc Cert.AdamwRestRefIdeal.main_arg8) = m ((c.tc : Thread Cert.AdamwRestIdeal.nD Cert.AdamwRestIdeal.τ).loc Cert.AdamwRestIdeal.main_arg8)
      ∧ m' ((c.tc : Thread Cert.AdamwRestRefIdeal.nD Cert.AdamwRestRefIdeal.τ).loc Cert.AdamwRestRefIdeal.main_arg9) = m ((c.tc : Thread Cert.AdamwRestIdeal.nD Cert.AdamwRestIdeal.τ).loc Cert.AdamwRestIdeal.main_arg9)
      ∧ m' ((c.tc : Thread Cert.AdamwRestRefIdeal.nD Cert.AdamwRestRefIdeal.τ).loc Cert.AdamwRestRefIdeal.main_arg10) = m ((c.tc : Thread Cert.AdamwRestIdeal.nD Cert.AdamwRestIdeal.τ).loc Cert.AdamwRestIdeal.main_arg10)
      ∧ m' ((c.tc : Thread Cert.AdamwRestRefIdeal.nD Cert.AdamwRestRefIdeal.τ).loc Cert.AdamwRestRefIdeal.main_arg11) = m ((c.tc : Thread Cert.AdamwRestIdeal.nD Cert.AdamwRestIdeal.τ).loc Cert.AdamwRestIdeal.main_arg11)) →
    ∃ (v0 : (c : Dev Cert.AdamwRestIdeal.nD) → Buf (Elt Ideal) ((c.tc : Thread Cert.AdamwRestIdeal.nD Cert.AdamwRestIdeal.τ).loc Cert.AdamwRestIdeal.main_v0_0)) (v1 : (c : Dev Cert.AdamwRestIdeal.nD) → Buf (Elt Ideal) ((c.tc : Thread Cert.AdamwRestIdeal.nD Cert.AdamwRestIdeal.τ).loc Cert.AdamwRestIdeal.main_v0_3)) (v2 : (c : Dev Cert.AdamwRestIdeal.nD) → Buf (Elt Ideal) ((c.tc : Thread Cert.AdamwRestIdeal.nD Cert.AdamwRestIdeal.τ).loc Cert.AdamwRestIdeal.main_v0_6)) (v3 : (c : Dev Cert.AdamwRestIdeal.nD) → Buf (Elt Ideal) ((c.tc : Thread Cert.AdamwRestIdeal.nD Cert.AdamwRestIdeal.τ).loc Cert.AdamwRestIdeal.main_v0_1)) (v4 : (c : Dev Cert.AdamwRestIdeal.nD) → Buf (Elt Ideal) ((c.tc : Thread Cert.AdamwRestIdeal.nD Cert.AdamwRestIdeal.τ).loc Cert.AdamwRestIdeal.main_v0_4)) (v5 : (c : Dev Cert.AdamwRestIdeal.nD) → Buf (Elt Ideal) ((c.tc : Thread Cert.AdamwRestIdeal.nD Cert.AdamwRestIdeal.τ).loc Cert.AdamwRestIdeal.main_v0_7)) (v6 : (c : Dev Cert.AdamwRestIdeal.nD) → Buf (Elt Ideal) ((c.tc : Thread Cert.AdamwRestIdeal.nD Cert.AdamwRestIdeal.τ).loc Cert.AdamwRestIdeal.main_v0_2)) (v7 : (c : Dev Cert.AdamwRestIdeal.nD) → Buf (Elt Ideal) ((c.tc : Thread Cert.AdamwRestIdeal.nD Cert.AdamwRestIdeal.τ).loc Cert.AdamwRestIdeal.main_v0_5)) (v8 : (c : Dev Cert.AdamwRestIdeal.nD) → Buf (Elt Ideal) ((c.tc : Thread Cert.AdamwRestIdeal.nD Cert.AdamwRestIdeal.τ).loc Cert.AdamwRestIdeal.main_v0_8)),
      θ_run (Cert.AdamwRestIdeal.defs (F := Ideal)) (onTc (τ := Cert.AdamwRestIdeal.τ) (Cert.AdamwRestIdeal.main (F := Ideal))) ⟨m, fun _ => 0, g⟩ (fun r => ∀ c : Dev Cert.AdamwRestIdeal.nD,
          r.2.mem ((c.tc : Thread Cert.AdamwRestIdeal.nD Cert.AdamwRestIdeal.τ).loc Cert.AdamwRestIdeal.main_v0_0) = v0 c
          ∧ r.2.mem ((c.tc : Thread Cert.AdamwRestIdeal.nD Cert.AdamwRestIdeal.τ).loc Cert.AdamwRestIdeal.main_v0_3) = v1 c
          ∧ r.2.mem ((c.tc : Thread Cert.AdamwRestIdeal.nD Cert.AdamwRestIdeal.τ).loc Cert.AdamwRestIdeal.main_v0_6) = v2 c
          ∧ r.2.mem ((c.tc : Thread Cert.AdamwRestIdeal.nD Cert.AdamwRestIdeal.τ).loc Cert.AdamwRestIdeal.main_v0_1) = v3 c
          ∧ r.2.mem ((c.tc : Thread Cert.AdamwRestIdeal.nD Cert.AdamwRestIdeal.τ).loc Cert.AdamwRestIdeal.main_v0_4) = v4 c
          ∧ r.2.mem ((c.tc : Thread Cert.AdamwRestIdeal.nD Cert.AdamwRestIdeal.τ).loc Cert.AdamwRestIdeal.main_v0_7) = v5 c
          ∧ r.2.mem ((c.tc : Thread Cert.AdamwRestIdeal.nD Cert.AdamwRestIdeal.τ).loc Cert.AdamwRestIdeal.main_v0_2) = v6 c
          ∧ r.2.mem ((c.tc : Thread Cert.AdamwRestIdeal.nD Cert.AdamwRestIdeal.τ).loc Cert.AdamwRestIdeal.main_v0_5) = v7 c
          ∧ r.2.mem ((c.tc : Thread Cert.AdamwRestIdeal.nD Cert.AdamwRestIdeal.τ).loc Cert.AdamwRestIdeal.main_v0_8) = v8 c
          ∧ r.2.mem ((c.tc : Thread Cert.AdamwRestIdeal.nD Cert.AdamwRestIdeal.τ).loc Cert.AdamwRestIdeal.main_arg0) = m ((c.tc : Thread Cert.AdamwRestIdeal.nD Cert.AdamwRestIdeal.τ).loc Cert.AdamwRestIdeal.main_arg0)
          ∧ r.2.mem ((c.tc : Thread Cert.AdamwRestIdeal.nD Cert.AdamwRestIdeal.τ).loc Cert.AdamwRestIdeal.main_arg1) = m ((c.tc : Thread Cert.AdamwRestIdeal.nD Cert.AdamwRestIdeal.τ).loc Cert.AdamwRestIdeal.main_arg1)
          ∧ r.2.mem ((c.tc : Thread Cert.AdamwRestIdeal.nD Cert.AdamwRestIdeal.τ).loc Cert.AdamwRestIdeal.main_arg2) = m ((c.tc : Thread Cert.AdamwRestIdeal.nD Cert.AdamwRestIdeal.τ).loc Cert.AdamwRestIdeal.main_arg2)
          ∧ r.2.mem ((c.tc : Thread Cert.AdamwRestIdeal.nD Cert.AdamwRestIdeal.τ).loc Cert.AdamwRestIdeal.main_arg3) = m ((c.tc : Thread Cert.AdamwRestIdeal.nD Cert.AdamwRestIdeal.τ).loc Cert.AdamwRestIdeal.main_arg3)
          ∧ r.2.mem ((c.tc : Thread Cert.AdamwRestIdeal.nD Cert.AdamwRestIdeal.τ).loc Cert.AdamwRestIdeal.main_arg4) = m ((c.tc : Thread Cert.AdamwRestIdeal.nD Cert.AdamwRestIdeal.τ).loc Cert.AdamwRestIdeal.main_arg4)
          ∧ r.2.mem ((c.tc : Thread Cert.AdamwRestIdeal.nD Cert.AdamwRestIdeal.τ).loc Cert.AdamwRestIdeal.main_arg5) = m ((c.tc : Thread Cert.AdamwRestIdeal.nD Cert.AdamwRestIdeal.τ).loc Cert.AdamwRestIdeal.main_arg5)
          ∧ r.2.mem ((c.tc : Thread Cert.AdamwRestIdeal.nD Cert.AdamwRestIdeal.τ).loc Cert.AdamwRestIdeal.main_arg6) = m ((c.tc : Thread Cert.AdamwRestIdeal.nD Cert.AdamwRestIdeal.τ).loc Cert.AdamwRestIdeal.main_arg6)
          ∧ r.2.mem ((c.tc : Thread Cert.AdamwRestIdeal.nD Cert.AdamwRestIdeal.τ).loc Cert.AdamwRestIdeal.main_arg7) = m ((c.tc : Thread Cert.AdamwRestIdeal.nD Cert.AdamwRestIdeal.τ).loc Cert.AdamwRestIdeal.main_arg7)
          ∧ r.2.mem ((c.tc : Thread Cert.AdamwRestIdeal.nD Cert.AdamwRestIdeal.τ).loc Cert.AdamwRestIdeal.main_arg8) = m ((c.tc : Thread Cert.AdamwRestIdeal.nD Cert.AdamwRestIdeal.τ).loc Cert.AdamwRestIdeal.main_arg8)
          ∧ r.2.mem ((c.tc : Thread Cert.AdamwRestIdeal.nD Cert.AdamwRestIdeal.τ).loc Cert.AdamwRestIdeal.main_arg9) = m ((c.tc : Thread Cert.AdamwRestIdeal.nD Cert.AdamwRestIdeal.τ).loc Cert.AdamwRestIdeal.main_arg9)
          ∧ r.2.mem ((c.tc : Thread Cert.AdamwRestIdeal.nD Cert.AdamwRestIdeal.τ).loc Cert.AdamwRestIdeal.main_arg10) = m ((c.tc : Thread Cert.AdamwRestIdeal.nD Cert.AdamwRestIdeal.τ).loc Cert.AdamwRestIdeal.main_arg10)
          ∧ r.2.mem ((c.tc : Thread Cert.AdamwRestIdeal.nD Cert.AdamwRestIdeal.τ).loc Cert.AdamwRestIdeal.main_arg11) = m ((c.tc : Thread Cert.AdamwRestIdeal.nD Cert.AdamwRestIdeal.τ).loc Cert.AdamwRestIdeal.main_arg11))
      ∧ θ_run (Cert.AdamwRestRefIdeal.defs (F := Ideal)) (onTc (τ := Cert.AdamwRestRefIdeal.τ) (Cert.AdamwRestRefIdeal.main (F := Ideal))) ⟨m', fun _ => 0, g'⟩ (fun r => ∀ c : Dev Cert.AdamwRestRefIdeal.nD,
          r.2.mem ((c.tc : Thread Cert.AdamwRestRefIdeal.nD Cert.AdamwRestRefIdeal.τ).loc Cert.AdamwRestRefIdeal.main_v23) = v0 c
          ∧ r.2.mem ((c.tc : Thread Cert.AdamwRestRefIdeal.nD Cert.AdamwRestRefIdeal.τ).loc Cert.AdamwRestRefIdeal.main_v4) = v1 c
          ∧ r.2.mem ((c.tc : Thread Cert.AdamwRestRefIdeal.nD Cert.AdamwRestRefIdeal.τ).loc Cert.AdamwRestRefIdeal.main_v10) = v2 c
          ∧ r.2.mem ((c.tc : Thread Cert.AdamwRestRefIdeal.nD Cert.AdamwRestRefIdeal.τ).loc Cert.AdamwRestRefIdeal.main_v47) = v3 c
          ∧ r.2.mem ((c.tc : Thread Cert.AdamwRestRefIdeal.nD Cert.AdamwRestRefIdeal.τ).loc Cert.AdamwRestRefIdeal.main_v28) = v4 c
          ∧ r.2.mem ((c.tc : Thread Cert.AdamwRestRefIdeal.nD Cert.AdamwRestRefIdeal.τ).loc Cert.AdamwRestRefIdeal.main_v34) = v5 c
          ∧ r.2.mem ((c.tc : Thread Cert.AdamwRestRefIdeal.nD Cert.AdamwRestRefIdeal.τ).loc Cert.AdamwRestRefIdeal.main_v71) = v6 c
          ∧ r.2.mem ((c.tc : Thread Cert.AdamwRestRefIdeal.nD Cert.AdamwRestRefIdeal.τ).loc Cert.AdamwRestRefIdeal.main_v52) = v7 c
          ∧ r.2.mem ((c.tc : Thread Cert.AdamwRestRefIdeal.nD Cert.AdamwRestRefIdeal.τ).loc Cert.AdamwRestRefIdeal.main_v58) = v8 c
          ∧ r.2.mem ((c.tc : Thread Cert.AdamwRestRefIdeal.nD Cert.AdamwRestRefIdeal.τ).loc Cert.AdamwRestRefIdeal.main_arg0) = m' ((c.tc : Thread Cert.AdamwRestRefIdeal.nD Cert.AdamwRestRefIdeal.τ).loc Cert.AdamwRestRefIdeal.main_arg0)
          ∧ r.2.mem ((c.tc : Thread Cert.AdamwRestRefIdeal.nD Cert.AdamwRestRefIdeal.τ).loc Cert.AdamwRestRefIdeal.main_arg1) = m' ((c.tc : Thread Cert.AdamwRestRefIdeal.nD Cert.AdamwRestRefIdeal.τ).loc Cert.AdamwRestRefIdeal.main_arg1)
          ∧ r.2.mem ((c.tc : Thread Cert.AdamwRestRefIdeal.nD Cert.AdamwRestRefIdeal.τ).loc Cert.AdamwRestRefIdeal.main_arg2) = m' ((c.tc : Thread Cert.AdamwRestRefIdeal.nD Cert.AdamwRestRefIdeal.τ).loc Cert.AdamwRestRefIdeal.main_arg2)
          ∧ r.2.mem ((c.tc : Thread Cert.AdamwRestRefIdeal.nD Cert.AdamwRestRefIdeal.τ).loc Cert.AdamwRestRefIdeal.main_arg3) = m' ((c.tc : Thread Cert.AdamwRestRefIdeal.nD Cert.AdamwRestRefIdeal.τ).loc Cert.AdamwRestRefIdeal.main_arg3)
          ∧ r.2.mem ((c.tc : Thread Cert.AdamwRestRefIdeal.nD Cert.AdamwRestRefIdeal.τ).loc Cert.AdamwRestRefIdeal.main_arg4) = m' ((c.tc : Thread Cert.AdamwRestRefIdeal.nD Cert.AdamwRestRefIdeal.τ).loc Cert.AdamwRestRefIdeal.main_arg4)
          ∧ r.2.mem ((c.tc : Thread Cert.AdamwRestRefIdeal.nD Cert.AdamwRestRefIdeal.τ).loc Cert.AdamwRestRefIdeal.main_arg5) = m' ((c.tc : Thread Cert.AdamwRestRefIdeal.nD Cert.AdamwRestRefIdeal.τ).loc Cert.AdamwRestRefIdeal.main_arg5)
          ∧ r.2.mem ((c.tc : Thread Cert.AdamwRestRefIdeal.nD Cert.AdamwRestRefIdeal.τ).loc Cert.AdamwRestRefIdeal.main_arg6) = m' ((c.tc : Thread Cert.AdamwRestRefIdeal.nD Cert.AdamwRestRefIdeal.τ).loc Cert.AdamwRestRefIdeal.main_arg6)
          ∧ r.2.mem ((c.tc : Thread Cert.AdamwRestRefIdeal.nD Cert.AdamwRestRefIdeal.τ).loc Cert.AdamwRestRefIdeal.main_arg7) = m' ((c.tc : Thread Cert.AdamwRestRefIdeal.nD Cert.AdamwRestRefIdeal.τ).loc Cert.AdamwRestRefIdeal.main_arg7)
          ∧ r.2.mem ((c.tc : Thread Cert.AdamwRestRefIdeal.nD Cert.AdamwRestRefIdeal.τ).loc Cert.AdamwRestRefIdeal.main_arg8) = m' ((c.tc : Thread Cert.AdamwRestRefIdeal.nD Cert.AdamwRestRefIdeal.τ).loc Cert.AdamwRestRefIdeal.main_arg8)
          ∧ r.2.mem ((c.tc : Thread Cert.AdamwRestRefIdeal.nD Cert.AdamwRestRefIdeal.τ).loc Cert.AdamwRestRefIdeal.main_arg9) = m' ((c.tc : Thread Cert.AdamwRestRefIdeal.nD Cert.AdamwRestRefIdeal.τ).loc Cert.AdamwRestRefIdeal.main_arg9)
          ∧ r.2.mem ((c.tc : Thread Cert.AdamwRestRefIdeal.nD Cert.AdamwRestRefIdeal.τ).loc Cert.AdamwRestRefIdeal.main_arg10) = m' ((c.tc : Thread Cert.AdamwRestRefIdeal.nD Cert.AdamwRestRefIdeal.τ).loc Cert.AdamwRestRefIdeal.main_arg10)
          ∧ r.2.mem ((c.tc : Thread Cert.AdamwRestRefIdeal.nD Cert.AdamwRestRefIdeal.τ).loc Cert.AdamwRestRefIdeal.main_arg11) = m' ((c.tc : Thread Cert.AdamwRestRefIdeal.nD Cert.AdamwRestRefIdeal.τ).loc Cert.AdamwRestRefIdeal.main_arg11))

def preserves_FinishEvIn_FinishEvInIdeal : Prop :=
  True

def algebraic_FinishEvInIdeal_FinishEvInRefIdeal [hFinishEvInIdeal : Cert.FinishEvInIdeal.Facts] [hFinishEvInRefIdeal : Cert.FinishEvInRefIdeal.Facts] [hPre_own_block_ev_in : Cert.Pre_own_block_ev_in.Facts] : Prop :=
  ∀ (m : (ℓ : Loc Cert.FinishEvInIdeal.nD Cert.FinishEvInIdeal.τ Cert.FinishEvInIdeal.sig) → Buf (Elt Ideal) ℓ) (g : Dev Cert.FinishEvInIdeal.nD → PrngReg)
    (m' : (ℓ : Loc Cert.FinishEvInRefIdeal.nD Cert.FinishEvInRefIdeal.τ Cert.FinishEvInRefIdeal.sig) → Buf (Elt Ideal) ℓ) (g' : Dev Cert.FinishEvInRefIdeal.nD → PrngReg), Pre_FinishEvInIdeal m →
    (∀ c : Dev Cert.FinishEvInIdeal.nD,
      m' ((c.tc : Thread Cert.FinishEvInRefIdeal.nD Cert.FinishEvInRefIdeal.τ).loc Cert.FinishEvInRefIdeal.main_arg0) = m ((c.tc : Thread Cert.FinishEvInIdeal.nD Cert.FinishEvInIdeal.τ).loc Cert.FinishEvInIdeal.main_arg0)
      ∧ m' ((c.tc : Thread Cert.FinishEvInRefIdeal.nD Cert.FinishEvInRefIdeal.τ).loc Cert.FinishEvInRefIdeal.main_arg1) = m ((c.tc : Thread Cert.FinishEvInIdeal.nD Cert.FinishEvInIdeal.τ).loc Cert.FinishEvInIdeal.main_arg1)
      ∧ m' ((c.tc : Thread Cert.FinishEvInRefIdeal.nD Cert.FinishEvInRefIdeal.τ).loc Cert.FinishEvInRefIdeal.main_arg2) = m ((c.tc : Thread Cert.FinishEvInIdeal.nD Cert.FinishEvInIdeal.τ).loc Cert.FinishEvInIdeal.main_arg2)
      ∧ m' ((c.tc : Thread Cert.FinishEvInRefIdeal.nD Cert.FinishEvInRefIdeal.τ).loc Cert.FinishEvInRefIdeal.main_arg3) = m ((c.tc : Thread Cert.FinishEvInIdeal.nD Cert.FinishEvInIdeal.τ).loc Cert.FinishEvInIdeal.main_arg3)
      ∧ m' ((c.tc : Thread Cert.FinishEvInRefIdeal.nD Cert.FinishEvInRefIdeal.τ).loc Cert.FinishEvInRefIdeal.main_arg4) = m ((c.tc : Thread Cert.FinishEvInIdeal.nD Cert.FinishEvInIdeal.τ).loc Cert.FinishEvInIdeal.main_arg4)
      ∧ m' ((c.tc : Thread Cert.FinishEvInRefIdeal.nD Cert.FinishEvInRefIdeal.τ).loc Cert.FinishEvInRefIdeal.main_arg5) = m ((c.tc : Thread Cert.FinishEvInIdeal.nD Cert.FinishEvInIdeal.τ).loc Cert.FinishEvInIdeal.main_arg5)) →
    ∃ (v0 : (c : Dev Cert.FinishEvInIdeal.nD) → Buf (Elt Ideal) ((c.tc : Thread Cert.FinishEvInIdeal.nD Cert.FinishEvInIdeal.τ).loc Cert.FinishEvInIdeal.main_v0_0)) (v1 : (c : Dev Cert.FinishEvInIdeal.nD) → Buf (Elt Ideal) ((c.tc : Thread Cert.FinishEvInIdeal.nD Cert.FinishEvInIdeal.τ).loc Cert.FinishEvInIdeal.main_v0_1)) (v2 : (c : Dev Cert.FinishEvInIdeal.nD) → Buf (Elt Ideal) ((c.tc : Thread Cert.FinishEvInIdeal.nD Cert.FinishEvInIdeal.τ).loc Cert.FinishEvInIdeal.main_v0_2)) (v3 : (c : Dev Cert.FinishEvInIdeal.nD) → Buf (Elt Ideal) ((c.tc : Thread Cert.FinishEvInIdeal.nD Cert.FinishEvInIdeal.τ).loc Cert.FinishEvInIdeal.main_v0_3)),
      θ_run (Cert.FinishEvInIdeal.defs (F := Ideal)) (onTc (τ := Cert.FinishEvInIdeal.τ) (Cert.FinishEvInIdeal.main (F := Ideal))) ⟨m, fun _ => 0, g⟩ (fun r => ∀ c : Dev Cert.FinishEvInIdeal.nD,
          r.2.mem ((c.tc : Thread Cert.FinishEvInIdeal.nD Cert.FinishEvInIdeal.τ).loc Cert.FinishEvInIdeal.main_v0_0) = v0 c
          ∧ r.2.mem ((c.tc : Thread Cert.FinishEvInIdeal.nD Cert.FinishEvInIdeal.τ).loc Cert.FinishEvInIdeal.main_v0_1) = v1 c
          ∧ r.2.mem ((c.tc : Thread Cert.FinishEvInIdeal.nD Cert.FinishEvInIdeal.τ).loc Cert.FinishEvInIdeal.main_v0_2) = v2 c
          ∧ r.2.mem ((c.tc : Thread Cert.FinishEvInIdeal.nD Cert.FinishEvInIdeal.τ).loc Cert.FinishEvInIdeal.main_v0_3) = v3 c
          ∧ r.2.mem ((c.tc : Thread Cert.FinishEvInIdeal.nD Cert.FinishEvInIdeal.τ).loc Cert.FinishEvInIdeal.main_arg0) = m ((c.tc : Thread Cert.FinishEvInIdeal.nD Cert.FinishEvInIdeal.τ).loc Cert.FinishEvInIdeal.main_arg0)
          ∧ r.2.mem ((c.tc : Thread Cert.FinishEvInIdeal.nD Cert.FinishEvInIdeal.τ).loc Cert.FinishEvInIdeal.main_arg1) = m ((c.tc : Thread Cert.FinishEvInIdeal.nD Cert.FinishEvInIdeal.τ).loc Cert.FinishEvInIdeal.main_arg1)
          ∧ r.2.mem ((c.tc : Thread Cert.FinishEvInIdeal.nD Cert.FinishEvInIdeal.τ).loc Cert.FinishEvInIdeal.main_arg2) = m ((c.tc : Thread Cert.FinishEvInIdeal.nD Cert.FinishEvInIdeal.τ).loc Cert.FinishEvInIdeal.main_arg2)
          ∧ r.2.mem ((c.tc : Thread Cert.FinishEvInIdeal.nD Cert.FinishEvInIdeal.τ).loc Cert.FinishEvInIdeal.main_arg3) = m ((c.tc : Thread Cert.FinishEvInIdeal.nD Cert.FinishEvInIdeal.τ).loc Cert.FinishEvInIdeal.main_arg3)
          ∧ r.2.mem ((c.tc : Thread Cert.FinishEvInIdeal.nD Cert.FinishEvInIdeal.τ).loc Cert.FinishEvInIdeal.main_arg4) = m ((c.tc : Thread Cert.FinishEvInIdeal.nD Cert.FinishEvInIdeal.τ).loc Cert.FinishEvInIdeal.main_arg4)
          ∧ r.2.mem ((c.tc : Thread Cert.FinishEvInIdeal.nD Cert.FinishEvInIdeal.τ).loc Cert.FinishEvInIdeal.main_arg5) = m ((c.tc : Thread Cert.FinishEvInIdeal.nD Cert.FinishEvInIdeal.τ).loc Cert.FinishEvInIdeal.main_arg5))
      ∧ θ_run (Cert.FinishEvInRefIdeal.defs (F := Ideal)) (onTc (τ := Cert.FinishEvInRefIdeal.τ) (Cert.FinishEvInRefIdeal.main (F := Ideal))) ⟨m', fun _ => 0, g'⟩ (fun r => ∀ c : Dev Cert.FinishEvInRefIdeal.nD,
          r.2.mem ((c.tc : Thread Cert.FinishEvInRefIdeal.nD Cert.FinishEvInRefIdeal.τ).loc Cert.FinishEvInRefIdeal.main_v11) = v0 c
          ∧ r.2.mem ((c.tc : Thread Cert.FinishEvInRefIdeal.nD Cert.FinishEvInRefIdeal.τ).loc Cert.FinishEvInRefIdeal.main_v35) = v1 c
          ∧ r.2.mem ((c.tc : Thread Cert.FinishEvInRefIdeal.nD Cert.FinishEvInRefIdeal.τ).loc Cert.FinishEvInRefIdeal.main_v16) = v2 c
          ∧ r.2.mem ((c.tc : Thread Cert.FinishEvInRefIdeal.nD Cert.FinishEvInRefIdeal.τ).loc Cert.FinishEvInRefIdeal.main_v22) = v3 c
          ∧ r.2.mem ((c.tc : Thread Cert.FinishEvInRefIdeal.nD Cert.FinishEvInRefIdeal.τ).loc Cert.FinishEvInRefIdeal.main_arg0) = m' ((c.tc : Thread Cert.FinishEvInRefIdeal.nD Cert.FinishEvInRefIdeal.τ).loc Cert.FinishEvInRefIdeal.main_arg0)
          ∧ r.2.mem ((c.tc : Thread Cert.FinishEvInRefIdeal.nD Cert.FinishEvInRefIdeal.τ).loc Cert.FinishEvInRefIdeal.main_arg1) = m' ((c.tc : Thread Cert.FinishEvInRefIdeal.nD Cert.FinishEvInRefIdeal.τ).loc Cert.FinishEvInRefIdeal.main_arg1)
          ∧ r.2.mem ((c.tc : Thread Cert.FinishEvInRefIdeal.nD Cert.FinishEvInRefIdeal.τ).loc Cert.FinishEvInRefIdeal.main_arg2) = m' ((c.tc : Thread Cert.FinishEvInRefIdeal.nD Cert.FinishEvInRefIdeal.τ).loc Cert.FinishEvInRefIdeal.main_arg2)
          ∧ r.2.mem ((c.tc : Thread Cert.FinishEvInRefIdeal.nD Cert.FinishEvInRefIdeal.τ).loc Cert.FinishEvInRefIdeal.main_arg3) = m' ((c.tc : Thread Cert.FinishEvInRefIdeal.nD Cert.FinishEvInRefIdeal.τ).loc Cert.FinishEvInRefIdeal.main_arg3)
          ∧ r.2.mem ((c.tc : Thread Cert.FinishEvInRefIdeal.nD Cert.FinishEvInRefIdeal.τ).loc Cert.FinishEvInRefIdeal.main_arg4) = m' ((c.tc : Thread Cert.FinishEvInRefIdeal.nD Cert.FinishEvInRefIdeal.τ).loc Cert.FinishEvInRefIdeal.main_arg4)
          ∧ r.2.mem ((c.tc : Thread Cert.FinishEvInRefIdeal.nD Cert.FinishEvInRefIdeal.τ).loc Cert.FinishEvInRefIdeal.main_arg5) = m' ((c.tc : Thread Cert.FinishEvInRefIdeal.nD Cert.FinishEvInRefIdeal.τ).loc Cert.FinishEvInRefIdeal.main_arg5))

def preserves_FinishOdIn_FinishOdInIdeal : Prop :=
  True

def algebraic_FinishOdInIdeal_FinishOdInRefIdeal [hFinishOdInIdeal : Cert.FinishOdInIdeal.Facts] [hFinishOdInRefIdeal : Cert.FinishOdInRefIdeal.Facts] [hPre_own_block_od_in : Cert.Pre_own_block_od_in.Facts] : Prop :=
  ∀ (m : (ℓ : Loc Cert.FinishOdInIdeal.nD Cert.FinishOdInIdeal.τ Cert.FinishOdInIdeal.sig) → Buf (Elt Ideal) ℓ) (g : Dev Cert.FinishOdInIdeal.nD → PrngReg)
    (m' : (ℓ : Loc Cert.FinishOdInRefIdeal.nD Cert.FinishOdInRefIdeal.τ Cert.FinishOdInRefIdeal.sig) → Buf (Elt Ideal) ℓ) (g' : Dev Cert.FinishOdInRefIdeal.nD → PrngReg), Pre_FinishOdInIdeal m →
    (∀ c : Dev Cert.FinishOdInIdeal.nD,
      m' ((c.tc : Thread Cert.FinishOdInRefIdeal.nD Cert.FinishOdInRefIdeal.τ).loc Cert.FinishOdInRefIdeal.main_arg0) = m ((c.tc : Thread Cert.FinishOdInIdeal.nD Cert.FinishOdInIdeal.τ).loc Cert.FinishOdInIdeal.main_arg0)
      ∧ m' ((c.tc : Thread Cert.FinishOdInRefIdeal.nD Cert.FinishOdInRefIdeal.τ).loc Cert.FinishOdInRefIdeal.main_arg1) = m ((c.tc : Thread Cert.FinishOdInIdeal.nD Cert.FinishOdInIdeal.τ).loc Cert.FinishOdInIdeal.main_arg1)
      ∧ m' ((c.tc : Thread Cert.FinishOdInRefIdeal.nD Cert.FinishOdInRefIdeal.τ).loc Cert.FinishOdInRefIdeal.main_arg2) = m ((c.tc : Thread Cert.FinishOdInIdeal.nD Cert.FinishOdInIdeal.τ).loc Cert.FinishOdInIdeal.main_arg2)
      ∧ m' ((c.tc : Thread Cert.FinishOdInRefIdeal.nD Cert.FinishOdInRefIdeal.τ).loc Cert.FinishOdInRefIdeal.main_arg3) = m ((c.tc : Thread Cert.FinishOdInIdeal.nD Cert.FinishOdInIdeal.τ).loc Cert.FinishOdInIdeal.main_arg3)
      ∧ m' ((c.tc : Thread Cert.FinishOdInRefIdeal.nD Cert.FinishOdInRefIdeal.τ).loc Cert.FinishOdInRefIdeal.main_arg4) = m ((c.tc : Thread Cert.FinishOdInIdeal.nD Cert.FinishOdInIdeal.τ).loc Cert.FinishOdInIdeal.main_arg4)
      ∧ m' ((c.tc : Thread Cert.FinishOdInRefIdeal.nD Cert.FinishOdInRefIdeal.τ).loc Cert.FinishOdInRefIdeal.main_arg5) = m ((c.tc : Thread Cert.FinishOdInIdeal.nD Cert.FinishOdInIdeal.τ).loc Cert.FinishOdInIdeal.main_arg5)) →
    ∃ (v0 : (c : Dev Cert.FinishOdInIdeal.nD) → Buf (Elt Ideal) ((c.tc : Thread Cert.FinishOdInIdeal.nD Cert.FinishOdInIdeal.τ).loc Cert.FinishOdInIdeal.main_v0_0)) (v1 : (c : Dev Cert.FinishOdInIdeal.nD) → Buf (Elt Ideal) ((c.tc : Thread Cert.FinishOdInIdeal.nD Cert.FinishOdInIdeal.τ).loc Cert.FinishOdInIdeal.main_v0_1)) (v2 : (c : Dev Cert.FinishOdInIdeal.nD) → Buf (Elt Ideal) ((c.tc : Thread Cert.FinishOdInIdeal.nD Cert.FinishOdInIdeal.τ).loc Cert.FinishOdInIdeal.main_v0_2)) (v3 : (c : Dev Cert.FinishOdInIdeal.nD) → Buf (Elt Ideal) ((c.tc : Thread Cert.FinishOdInIdeal.nD Cert.FinishOdInIdeal.τ).loc Cert.FinishOdInIdeal.main_v0_3)),
      θ_run (Cert.FinishOdInIdeal.defs (F := Ideal)) (onTc (τ := Cert.FinishOdInIdeal.τ) (Cert.FinishOdInIdeal.main (F := Ideal))) ⟨m, fun _ => 0, g⟩ (fun r => ∀ c : Dev Cert.FinishOdInIdeal.nD,
          r.2.mem ((c.tc : Thread Cert.FinishOdInIdeal.nD Cert.FinishOdInIdeal.τ).loc Cert.FinishOdInIdeal.main_v0_0) = v0 c
          ∧ r.2.mem ((c.tc : Thread Cert.FinishOdInIdeal.nD Cert.FinishOdInIdeal.τ).loc Cert.FinishOdInIdeal.main_v0_1) = v1 c
          ∧ r.2.mem ((c.tc : Thread Cert.FinishOdInIdeal.nD Cert.FinishOdInIdeal.τ).loc Cert.FinishOdInIdeal.main_v0_2) = v2 c
          ∧ r.2.mem ((c.tc : Thread Cert.FinishOdInIdeal.nD Cert.FinishOdInIdeal.τ).loc Cert.FinishOdInIdeal.main_v0_3) = v3 c
          ∧ r.2.mem ((c.tc : Thread Cert.FinishOdInIdeal.nD Cert.FinishOdInIdeal.τ).loc Cert.FinishOdInIdeal.main_arg0) = m ((c.tc : Thread Cert.FinishOdInIdeal.nD Cert.FinishOdInIdeal.τ).loc Cert.FinishOdInIdeal.main_arg0)
          ∧ r.2.mem ((c.tc : Thread Cert.FinishOdInIdeal.nD Cert.FinishOdInIdeal.τ).loc Cert.FinishOdInIdeal.main_arg1) = m ((c.tc : Thread Cert.FinishOdInIdeal.nD Cert.FinishOdInIdeal.τ).loc Cert.FinishOdInIdeal.main_arg1)
          ∧ r.2.mem ((c.tc : Thread Cert.FinishOdInIdeal.nD Cert.FinishOdInIdeal.τ).loc Cert.FinishOdInIdeal.main_arg2) = m ((c.tc : Thread Cert.FinishOdInIdeal.nD Cert.FinishOdInIdeal.τ).loc Cert.FinishOdInIdeal.main_arg2)
          ∧ r.2.mem ((c.tc : Thread Cert.FinishOdInIdeal.nD Cert.FinishOdInIdeal.τ).loc Cert.FinishOdInIdeal.main_arg3) = m ((c.tc : Thread Cert.FinishOdInIdeal.nD Cert.FinishOdInIdeal.τ).loc Cert.FinishOdInIdeal.main_arg3)
          ∧ r.2.mem ((c.tc : Thread Cert.FinishOdInIdeal.nD Cert.FinishOdInIdeal.τ).loc Cert.FinishOdInIdeal.main_arg4) = m ((c.tc : Thread Cert.FinishOdInIdeal.nD Cert.FinishOdInIdeal.τ).loc Cert.FinishOdInIdeal.main_arg4)
          ∧ r.2.mem ((c.tc : Thread Cert.FinishOdInIdeal.nD Cert.FinishOdInIdeal.τ).loc Cert.FinishOdInIdeal.main_arg5) = m ((c.tc : Thread Cert.FinishOdInIdeal.nD Cert.FinishOdInIdeal.τ).loc Cert.FinishOdInIdeal.main_arg5))
      ∧ θ_run (Cert.FinishOdInRefIdeal.defs (F := Ideal)) (onTc (τ := Cert.FinishOdInRefIdeal.τ) (Cert.FinishOdInRefIdeal.main (F := Ideal))) ⟨m', fun _ => 0, g'⟩ (fun r => ∀ c : Dev Cert.FinishOdInRefIdeal.nD,
          r.2.mem ((c.tc : Thread Cert.FinishOdInRefIdeal.nD Cert.FinishOdInRefIdeal.τ).loc Cert.FinishOdInRefIdeal.main_v11) = v0 c
          ∧ r.2.mem ((c.tc : Thread Cert.FinishOdInRefIdeal.nD Cert.FinishOdInRefIdeal.τ).loc Cert.FinishOdInRefIdeal.main_v35) = v1 c
          ∧ r.2.mem ((c.tc : Thread Cert.FinishOdInRefIdeal.nD Cert.FinishOdInRefIdeal.τ).loc Cert.FinishOdInRefIdeal.main_v16) = v2 c
          ∧ r.2.mem ((c.tc : Thread Cert.FinishOdInRefIdeal.nD Cert.FinishOdInRefIdeal.τ).loc Cert.FinishOdInRefIdeal.main_v22) = v3 c
          ∧ r.2.mem ((c.tc : Thread Cert.FinishOdInRefIdeal.nD Cert.FinishOdInRefIdeal.τ).loc Cert.FinishOdInRefIdeal.main_arg0) = m' ((c.tc : Thread Cert.FinishOdInRefIdeal.nD Cert.FinishOdInRefIdeal.τ).loc Cert.FinishOdInRefIdeal.main_arg0)
          ∧ r.2.mem ((c.tc : Thread Cert.FinishOdInRefIdeal.nD Cert.FinishOdInRefIdeal.τ).loc Cert.FinishOdInRefIdeal.main_arg1) = m' ((c.tc : Thread Cert.FinishOdInRefIdeal.nD Cert.FinishOdInRefIdeal.τ).loc Cert.FinishOdInRefIdeal.main_arg1)
          ∧ r.2.mem ((c.tc : Thread Cert.FinishOdInRefIdeal.nD Cert.FinishOdInRefIdeal.τ).loc Cert.FinishOdInRefIdeal.main_arg2) = m' ((c.tc : Thread Cert.FinishOdInRefIdeal.nD Cert.FinishOdInRefIdeal.τ).loc Cert.FinishOdInRefIdeal.main_arg2)
          ∧ r.2.mem ((c.tc : Thread Cert.FinishOdInRefIdeal.nD Cert.FinishOdInRefIdeal.τ).loc Cert.FinishOdInRefIdeal.main_arg3) = m' ((c.tc : Thread Cert.FinishOdInRefIdeal.nD Cert.FinishOdInRefIdeal.τ).loc Cert.FinishOdInRefIdeal.main_arg3)
          ∧ r.2.mem ((c.tc : Thread Cert.FinishOdInRefIdeal.nD Cert.FinishOdInRefIdeal.τ).loc Cert.FinishOdInRefIdeal.main_arg4) = m' ((c.tc : Thread Cert.FinishOdInRefIdeal.nD Cert.FinishOdInRefIdeal.τ).loc Cert.FinishOdInRefIdeal.main_arg4)
          ∧ r.2.mem ((c.tc : Thread Cert.FinishOdInRefIdeal.nD Cert.FinishOdInRefIdeal.τ).loc Cert.FinishOdInRefIdeal.main_arg5) = m' ((c.tc : Thread Cert.FinishOdInRefIdeal.nD Cert.FinishOdInRefIdeal.τ).loc Cert.FinishOdInRefIdeal.main_arg5))

def preserves_FinishOut_FinishOutIdeal : Prop :=
  True

def algebraic_FinishOutIdeal_FinishOutRefIdeal [hFinishOutIdeal : Cert.FinishOutIdeal.Facts] [hFinishOutRefIdeal : Cert.FinishOutRefIdeal.Facts] [hPre_own_block_out : Cert.Pre_own_block_out.Facts] : Prop :=
  ∀ (m : (ℓ : Loc Cert.FinishOutIdeal.nD Cert.FinishOutIdeal.τ Cert.FinishOutIdeal.sig) → Buf (Elt Ideal) ℓ) (g : Dev Cert.FinishOutIdeal.nD → PrngReg)
    (m' : (ℓ : Loc Cert.FinishOutRefIdeal.nD Cert.FinishOutRefIdeal.τ Cert.FinishOutRefIdeal.sig) → Buf (Elt Ideal) ℓ) (g' : Dev Cert.FinishOutRefIdeal.nD → PrngReg), Pre_FinishOutIdeal m →
    (∀ c : Dev Cert.FinishOutIdeal.nD,
      m' ((c.tc : Thread Cert.FinishOutRefIdeal.nD Cert.FinishOutRefIdeal.τ).loc Cert.FinishOutRefIdeal.main_arg0) = m ((c.tc : Thread Cert.FinishOutIdeal.nD Cert.FinishOutIdeal.τ).loc Cert.FinishOutIdeal.main_arg0)
      ∧ m' ((c.tc : Thread Cert.FinishOutRefIdeal.nD Cert.FinishOutRefIdeal.τ).loc Cert.FinishOutRefIdeal.main_arg1) = m ((c.tc : Thread Cert.FinishOutIdeal.nD Cert.FinishOutIdeal.τ).loc Cert.FinishOutIdeal.main_arg1)
      ∧ m' ((c.tc : Thread Cert.FinishOutRefIdeal.nD Cert.FinishOutRefIdeal.τ).loc Cert.FinishOutRefIdeal.main_arg2) = m ((c.tc : Thread Cert.FinishOutIdeal.nD Cert.FinishOutIdeal.τ).loc Cert.FinishOutIdeal.main_arg2)
      ∧ m' ((c.tc : Thread Cert.FinishOutRefIdeal.nD Cert.FinishOutRefIdeal.τ).loc Cert.FinishOutRefIdeal.main_arg3) = m ((c.tc : Thread Cert.FinishOutIdeal.nD Cert.FinishOutIdeal.τ).loc Cert.FinishOutIdeal.main_arg3)
      ∧ m' ((c.tc : Thread Cert.FinishOutRefIdeal.nD Cert.FinishOutRefIdeal.τ).loc Cert.FinishOutRefIdeal.main_arg4) = m ((c.tc : Thread Cert.FinishOutIdeal.nD Cert.FinishOutIdeal.τ).loc Cert.FinishOutIdeal.main_arg4)
      ∧ m' ((c.tc : Thread Cert.FinishOutRefIdeal.nD Cert.FinishOutRefIdeal.τ).loc Cert.FinishOutRefIdeal.main_arg5) = m ((c.tc : Thread Cert.FinishOutIdeal.nD Cert.FinishOutIdeal.τ).loc Cert.FinishOutIdeal.main_arg5)) →
    ∃ (v0 : (c : Dev Cert.FinishOutIdeal.nD) → Buf (Elt Ideal) ((c.tc : Thread Cert.FinishOutIdeal.nD Cert.FinishOutIdeal.τ).loc Cert.FinishOutIdeal.main_v0_0)) (v1 : (c : Dev Cert.FinishOutIdeal.nD) → Buf (Elt Ideal) ((c.tc : Thread Cert.FinishOutIdeal.nD Cert.FinishOutIdeal.τ).loc Cert.FinishOutIdeal.main_v0_1)) (v2 : (c : Dev Cert.FinishOutIdeal.nD) → Buf (Elt Ideal) ((c.tc : Thread Cert.FinishOutIdeal.nD Cert.FinishOutIdeal.τ).loc Cert.FinishOutIdeal.main_v0_2)) (v3 : (c : Dev Cert.FinishOutIdeal.nD) → Buf (Elt Ideal) ((c.tc : Thread Cert.FinishOutIdeal.nD Cert.FinishOutIdeal.τ).loc Cert.FinishOutIdeal.main_v0_3)),
      θ_run (Cert.FinishOutIdeal.defs (F := Ideal)) (onTc (τ := Cert.FinishOutIdeal.τ) (Cert.FinishOutIdeal.main (F := Ideal))) ⟨m, fun _ => 0, g⟩ (fun r => ∀ c : Dev Cert.FinishOutIdeal.nD,
          r.2.mem ((c.tc : Thread Cert.FinishOutIdeal.nD Cert.FinishOutIdeal.τ).loc Cert.FinishOutIdeal.main_v0_0) = v0 c
          ∧ r.2.mem ((c.tc : Thread Cert.FinishOutIdeal.nD Cert.FinishOutIdeal.τ).loc Cert.FinishOutIdeal.main_v0_1) = v1 c
          ∧ r.2.mem ((c.tc : Thread Cert.FinishOutIdeal.nD Cert.FinishOutIdeal.τ).loc Cert.FinishOutIdeal.main_v0_2) = v2 c
          ∧ r.2.mem ((c.tc : Thread Cert.FinishOutIdeal.nD Cert.FinishOutIdeal.τ).loc Cert.FinishOutIdeal.main_v0_3) = v3 c
          ∧ r.2.mem ((c.tc : Thread Cert.FinishOutIdeal.nD Cert.FinishOutIdeal.τ).loc Cert.FinishOutIdeal.main_arg0) = m ((c.tc : Thread Cert.FinishOutIdeal.nD Cert.FinishOutIdeal.τ).loc Cert.FinishOutIdeal.main_arg0)
          ∧ r.2.mem ((c.tc : Thread Cert.FinishOutIdeal.nD Cert.FinishOutIdeal.τ).loc Cert.FinishOutIdeal.main_arg1) = m ((c.tc : Thread Cert.FinishOutIdeal.nD Cert.FinishOutIdeal.τ).loc Cert.FinishOutIdeal.main_arg1)
          ∧ r.2.mem ((c.tc : Thread Cert.FinishOutIdeal.nD Cert.FinishOutIdeal.τ).loc Cert.FinishOutIdeal.main_arg2) = m ((c.tc : Thread Cert.FinishOutIdeal.nD Cert.FinishOutIdeal.τ).loc Cert.FinishOutIdeal.main_arg2)
          ∧ r.2.mem ((c.tc : Thread Cert.FinishOutIdeal.nD Cert.FinishOutIdeal.τ).loc Cert.FinishOutIdeal.main_arg3) = m ((c.tc : Thread Cert.FinishOutIdeal.nD Cert.FinishOutIdeal.τ).loc Cert.FinishOutIdeal.main_arg3)
          ∧ r.2.mem ((c.tc : Thread Cert.FinishOutIdeal.nD Cert.FinishOutIdeal.τ).loc Cert.FinishOutIdeal.main_arg4) = m ((c.tc : Thread Cert.FinishOutIdeal.nD Cert.FinishOutIdeal.τ).loc Cert.FinishOutIdeal.main_arg4)
          ∧ r.2.mem ((c.tc : Thread Cert.FinishOutIdeal.nD Cert.FinishOutIdeal.τ).loc Cert.FinishOutIdeal.main_arg5) = m ((c.tc : Thread Cert.FinishOutIdeal.nD Cert.FinishOutIdeal.τ).loc Cert.FinishOutIdeal.main_arg5))
      ∧ θ_run (Cert.FinishOutRefIdeal.defs (F := Ideal)) (onTc (τ := Cert.FinishOutRefIdeal.τ) (Cert.FinishOutRefIdeal.main (F := Ideal))) ⟨m', fun _ => 0, g'⟩ (fun r => ∀ c : Dev Cert.FinishOutRefIdeal.nD,
          r.2.mem ((c.tc : Thread Cert.FinishOutRefIdeal.nD Cert.FinishOutRefIdeal.τ).loc Cert.FinishOutRefIdeal.main_v11) = v0 c
          ∧ r.2.mem ((c.tc : Thread Cert.FinishOutRefIdeal.nD Cert.FinishOutRefIdeal.τ).loc Cert.FinishOutRefIdeal.main_v35) = v1 c
          ∧ r.2.mem ((c.tc : Thread Cert.FinishOutRefIdeal.nD Cert.FinishOutRefIdeal.τ).loc Cert.FinishOutRefIdeal.main_v16) = v2 c
          ∧ r.2.mem ((c.tc : Thread Cert.FinishOutRefIdeal.nD Cert.FinishOutRefIdeal.τ).loc Cert.FinishOutRefIdeal.main_v22) = v3 c
          ∧ r.2.mem ((c.tc : Thread Cert.FinishOutRefIdeal.nD Cert.FinishOutRefIdeal.τ).loc Cert.FinishOutRefIdeal.main_arg0) = m' ((c.tc : Thread Cert.FinishOutRefIdeal.nD Cert.FinishOutRefIdeal.τ).loc Cert.FinishOutRefIdeal.main_arg0)
          ∧ r.2.mem ((c.tc : Thread Cert.FinishOutRefIdeal.nD Cert.FinishOutRefIdeal.τ).loc Cert.FinishOutRefIdeal.main_arg1) = m' ((c.tc : Thread Cert.FinishOutRefIdeal.nD Cert.FinishOutRefIdeal.τ).loc Cert.FinishOutRefIdeal.main_arg1)
          ∧ r.2.mem ((c.tc : Thread Cert.FinishOutRefIdeal.nD Cert.FinishOutRefIdeal.τ).loc Cert.FinishOutRefIdeal.main_arg2) = m' ((c.tc : Thread Cert.FinishOutRefIdeal.nD Cert.FinishOutRefIdeal.τ).loc Cert.FinishOutRefIdeal.main_arg2)
          ∧ r.2.mem ((c.tc : Thread Cert.FinishOutRefIdeal.nD Cert.FinishOutRefIdeal.τ).loc Cert.FinishOutRefIdeal.main_arg3) = m' ((c.tc : Thread Cert.FinishOutRefIdeal.nD Cert.FinishOutRefIdeal.τ).loc Cert.FinishOutRefIdeal.main_arg3)
          ∧ r.2.mem ((c.tc : Thread Cert.FinishOutRefIdeal.nD Cert.FinishOutRefIdeal.τ).loc Cert.FinishOutRefIdeal.main_arg4) = m' ((c.tc : Thread Cert.FinishOutRefIdeal.nD Cert.FinishOutRefIdeal.τ).loc Cert.FinishOutRefIdeal.main_arg4)
          ∧ r.2.mem ((c.tc : Thread Cert.FinishOutRefIdeal.nD Cert.FinishOutRefIdeal.τ).loc Cert.FinishOutRefIdeal.main_arg5) = m' ((c.tc : Thread Cert.FinishOutRefIdeal.nD Cert.FinishOutRefIdeal.τ).loc Cert.FinishOutRefIdeal.main_arg5))

def preserves_FinishXa_FinishXaIdeal : Prop :=
  True

def algebraic_FinishXaIdeal_FinishXaRefIdeal [hFinishXaIdeal : Cert.FinishXaIdeal.Facts] [hFinishXaRefIdeal : Cert.FinishXaRefIdeal.Facts] [hPre_own_block_xa : Cert.Pre_own_block_xa.Facts] : Prop :=
  ∀ (m : (ℓ : Loc Cert.FinishXaIdeal.nD Cert.FinishXaIdeal.τ Cert.FinishXaIdeal.sig) → Buf (Elt Ideal) ℓ) (g : Dev Cert.FinishXaIdeal.nD → PrngReg)
    (m' : (ℓ : Loc Cert.FinishXaRefIdeal.nD Cert.FinishXaRefIdeal.τ Cert.FinishXaRefIdeal.sig) → Buf (Elt Ideal) ℓ) (g' : Dev Cert.FinishXaRefIdeal.nD → PrngReg), Pre_FinishXaIdeal m →
    (∀ c : Dev Cert.FinishXaIdeal.nD,
      m' ((c.tc : Thread Cert.FinishXaRefIdeal.nD Cert.FinishXaRefIdeal.τ).loc Cert.FinishXaRefIdeal.main_arg0) = m ((c.tc : Thread Cert.FinishXaIdeal.nD Cert.FinishXaIdeal.τ).loc Cert.FinishXaIdeal.main_arg0)
      ∧ m' ((c.tc : Thread Cert.FinishXaRefIdeal.nD Cert.FinishXaRefIdeal.τ).loc Cert.FinishXaRefIdeal.main_arg1) = m ((c.tc : Thread Cert.FinishXaIdeal.nD Cert.FinishXaIdeal.τ).loc Cert.FinishXaIdeal.main_arg1)
      ∧ m' ((c.tc : Thread Cert.FinishXaRefIdeal.nD Cert.FinishXaRefIdeal.τ).loc Cert.FinishXaRefIdeal.main_arg2) = m ((c.tc : Thread Cert.FinishXaIdeal.nD Cert.FinishXaIdeal.τ).loc Cert.FinishXaIdeal.main_arg2)
      ∧ m' ((c.tc : Thread Cert.FinishXaRefIdeal.nD Cert.FinishXaRefIdeal.τ).loc Cert.FinishXaRefIdeal.main_arg3) = m ((c.tc : Thread Cert.FinishXaIdeal.nD Cert.FinishXaIdeal.τ).loc Cert.FinishXaIdeal.main_arg3)
      ∧ m' ((c.tc : Thread Cert.FinishXaRefIdeal.nD Cert.FinishXaRefIdeal.τ).loc Cert.FinishXaRefIdeal.main_arg4) = m ((c.tc : Thread Cert.FinishXaIdeal.nD Cert.FinishXaIdeal.τ).loc Cert.FinishXaIdeal.main_arg4)
      ∧ m' ((c.tc : Thread Cert.FinishXaRefIdeal.nD Cert.FinishXaRefIdeal.τ).loc Cert.FinishXaRefIdeal.main_arg5) = m ((c.tc : Thread Cert.FinishXaIdeal.nD Cert.FinishXaIdeal.τ).loc Cert.FinishXaIdeal.main_arg5)
      ∧ m' ((c.tc : Thread Cert.FinishXaRefIdeal.nD Cert.FinishXaRefIdeal.τ).loc Cert.FinishXaRefIdeal.main_arg6) = m ((c.tc : Thread Cert.FinishXaIdeal.nD Cert.FinishXaIdeal.τ).loc Cert.FinishXaIdeal.main_arg6)
      ∧ m' ((c.tc : Thread Cert.FinishXaRefIdeal.nD Cert.FinishXaRefIdeal.τ).loc Cert.FinishXaRefIdeal.main_arg7) = m ((c.tc : Thread Cert.FinishXaIdeal.nD Cert.FinishXaIdeal.τ).loc Cert.FinishXaIdeal.main_arg7)) →
    ∃ (v0 : (c : Dev Cert.FinishXaIdeal.nD) → Buf (Elt Ideal) ((c.tc : Thread Cert.FinishXaIdeal.nD Cert.FinishXaIdeal.τ).loc Cert.FinishXaIdeal.main_v0_0)) (v1 : (c : Dev Cert.FinishXaIdeal.nD) → Buf (Elt Ideal) ((c.tc : Thread Cert.FinishXaIdeal.nD Cert.FinishXaIdeal.τ).loc Cert.FinishXaIdeal.main_v0_1)) (v2 : (c : Dev Cert.FinishXaIdeal.nD) → Buf (Elt Ideal) ((c.tc : Thread Cert.FinishXaIdeal.nD Cert.FinishXaIdeal.τ).loc Cert.FinishXaIdeal.main_v0_2)) (v3 : (c : Dev Cert.FinishXaIdeal.nD) → Buf (Elt Ideal) ((c.tc : Thread Cert.FinishXaIdeal.nD Cert.FinishXaIdeal.τ).loc Cert.FinishXaIdeal.main_v0_3)),
      θ_run (Cert.FinishXaIdeal.defs (F := Ideal)) (onTc (τ := Cert.FinishXaIdeal.τ) (Cert.FinishXaIdeal.main (F := Ideal))) ⟨m, fun _ => 0, g⟩ (fun r => ∀ c : Dev Cert.FinishXaIdeal.nD,
          r.2.mem ((c.tc : Thread Cert.FinishXaIdeal.nD Cert.FinishXaIdeal.τ).loc Cert.FinishXaIdeal.main_v0_0) = v0 c
          ∧ r.2.mem ((c.tc : Thread Cert.FinishXaIdeal.nD Cert.FinishXaIdeal.τ).loc Cert.FinishXaIdeal.main_v0_1) = v1 c
          ∧ r.2.mem ((c.tc : Thread Cert.FinishXaIdeal.nD Cert.FinishXaIdeal.τ).loc Cert.FinishXaIdeal.main_v0_2) = v2 c
          ∧ r.2.mem ((c.tc : Thread Cert.FinishXaIdeal.nD Cert.FinishXaIdeal.τ).loc Cert.FinishXaIdeal.main_v0_3) = v3 c
          ∧ r.2.mem ((c.tc : Thread Cert.FinishXaIdeal.nD Cert.FinishXaIdeal.τ).loc Cert.FinishXaIdeal.main_arg0) = m ((c.tc : Thread Cert.FinishXaIdeal.nD Cert.FinishXaIdeal.τ).loc Cert.FinishXaIdeal.main_arg0)
          ∧ r.2.mem ((c.tc : Thread Cert.FinishXaIdeal.nD Cert.FinishXaIdeal.τ).loc Cert.FinishXaIdeal.main_arg1) = m ((c.tc : Thread Cert.FinishXaIdeal.nD Cert.FinishXaIdeal.τ).loc Cert.FinishXaIdeal.main_arg1)
          ∧ r.2.mem ((c.tc : Thread Cert.FinishXaIdeal.nD Cert.FinishXaIdeal.τ).loc Cert.FinishXaIdeal.main_arg2) = m ((c.tc : Thread Cert.FinishXaIdeal.nD Cert.FinishXaIdeal.τ).loc Cert.FinishXaIdeal.main_arg2)
          ∧ r.2.mem ((c.tc : Thread Cert.FinishXaIdeal.nD Cert.FinishXaIdeal.τ).loc Cert.FinishXaIdeal.main_arg3) = m ((c.tc : Thread Cert.FinishXaIdeal.nD Cert.FinishXaIdeal.τ).loc Cert.FinishXaIdeal.main_arg3)
          ∧ r.2.mem ((c.tc : Thread Cert.FinishXaIdeal.nD Cert.FinishXaIdeal.τ).loc Cert.FinishXaIdeal.main_arg4) = m ((c.tc : Thread Cert.FinishXaIdeal.nD Cert.FinishXaIdeal.τ).loc Cert.FinishXaIdeal.main_arg4)
          ∧ r.2.mem ((c.tc : Thread Cert.FinishXaIdeal.nD Cert.FinishXaIdeal.τ).loc Cert.FinishXaIdeal.main_arg5) = m ((c.tc : Thread Cert.FinishXaIdeal.nD Cert.FinishXaIdeal.τ).loc Cert.FinishXaIdeal.main_arg5)
          ∧ r.2.mem ((c.tc : Thread Cert.FinishXaIdeal.nD Cert.FinishXaIdeal.τ).loc Cert.FinishXaIdeal.main_arg6) = m ((c.tc : Thread Cert.FinishXaIdeal.nD Cert.FinishXaIdeal.τ).loc Cert.FinishXaIdeal.main_arg6)
          ∧ r.2.mem ((c.tc : Thread Cert.FinishXaIdeal.nD Cert.FinishXaIdeal.τ).loc Cert.FinishXaIdeal.main_arg7) = m ((c.tc : Thread Cert.FinishXaIdeal.nD Cert.FinishXaIdeal.τ).loc Cert.FinishXaIdeal.main_arg7))
      ∧ θ_run (Cert.FinishXaRefIdeal.defs (F := Ideal)) (onTc (τ := Cert.FinishXaRefIdeal.τ) (Cert.FinishXaRefIdeal.main (F := Ideal))) ⟨m', fun _ => 0, g'⟩ (fun r => ∀ c : Dev Cert.FinishXaRefIdeal.nD,
          r.2.mem ((c.tc : Thread Cert.FinishXaRefIdeal.nD Cert.FinishXaRefIdeal.τ).loc Cert.FinishXaRefIdeal.main_v24) = v0 c
          ∧ r.2.mem ((c.tc : Thread Cert.FinishXaRefIdeal.nD Cert.FinishXaRefIdeal.τ).loc Cert.FinishXaRefIdeal.main_v48) = v1 c
          ∧ r.2.mem ((c.tc : Thread Cert.FinishXaRefIdeal.nD Cert.FinishXaRefIdeal.τ).loc Cert.FinishXaRefIdeal.main_v29) = v2 c
          ∧ r.2.mem ((c.tc : Thread Cert.FinishXaRefIdeal.nD Cert.FinishXaRefIdeal.τ).loc Cert.FinishXaRefIdeal.main_v35) = v3 c
          ∧ r.2.mem ((c.tc : Thread Cert.FinishXaRefIdeal.nD Cert.FinishXaRefIdeal.τ).loc Cert.FinishXaRefIdeal.main_arg0) = m' ((c.tc : Thread Cert.FinishXaRefIdeal.nD Cert.FinishXaRefIdeal.τ).loc Cert.FinishXaRefIdeal.main_arg0)
          ∧ r.2.mem ((c.tc : Thread Cert.FinishXaRefIdeal.nD Cert.FinishXaRefIdeal.τ).loc Cert.FinishXaRefIdeal.main_arg1) = m' ((c.tc : Thread Cert.FinishXaRefIdeal.nD Cert.FinishXaRefIdeal.τ).loc Cert.FinishXaRefIdeal.main_arg1)
          ∧ r.2.mem ((c.tc : Thread Cert.FinishXaRefIdeal.nD Cert.FinishXaRefIdeal.τ).loc Cert.FinishXaRefIdeal.main_arg2) = m' ((c.tc : Thread Cert.FinishXaRefIdeal.nD Cert.FinishXaRefIdeal.τ).loc Cert.FinishXaRefIdeal.main_arg2)
          ∧ r.2.mem ((c.tc : Thread Cert.FinishXaRefIdeal.nD Cert.FinishXaRefIdeal.τ).loc Cert.FinishXaRefIdeal.main_arg3) = m' ((c.tc : Thread Cert.FinishXaRefIdeal.nD Cert.FinishXaRefIdeal.τ).loc Cert.FinishXaRefIdeal.main_arg3)
          ∧ r.2.mem ((c.tc : Thread Cert.FinishXaRefIdeal.nD Cert.FinishXaRefIdeal.τ).loc Cert.FinishXaRefIdeal.main_arg4) = m' ((c.tc : Thread Cert.FinishXaRefIdeal.nD Cert.FinishXaRefIdeal.τ).loc Cert.FinishXaRefIdeal.main_arg4)
          ∧ r.2.mem ((c.tc : Thread Cert.FinishXaRefIdeal.nD Cert.FinishXaRefIdeal.τ).loc Cert.FinishXaRefIdeal.main_arg5) = m' ((c.tc : Thread Cert.FinishXaRefIdeal.nD Cert.FinishXaRefIdeal.τ).loc Cert.FinishXaRefIdeal.main_arg5)
          ∧ r.2.mem ((c.tc : Thread Cert.FinishXaRefIdeal.nD Cert.FinishXaRefIdeal.τ).loc Cert.FinishXaRefIdeal.main_arg6) = m' ((c.tc : Thread Cert.FinishXaRefIdeal.nD Cert.FinishXaRefIdeal.τ).loc Cert.FinishXaRefIdeal.main_arg6)
          ∧ r.2.mem ((c.tc : Thread Cert.FinishXaRefIdeal.nD Cert.FinishXaRefIdeal.τ).loc Cert.FinishXaRefIdeal.main_arg7) = m' ((c.tc : Thread Cert.FinishXaRefIdeal.nD Cert.FinishXaRefIdeal.τ).loc Cert.FinishXaRefIdeal.main_arg7))

def preserves_FinishFfn_FinishFfnIdeal : Prop :=
  True

def algebraic_FinishFfnIdeal_FinishFfnRefIdeal [hFinishFfnIdeal : Cert.FinishFfnIdeal.Facts] [hFinishFfnRefIdeal : Cert.FinishFfnRefIdeal.Facts] [hPre_own_block_ffn : Cert.Pre_own_block_ffn.Facts] : Prop :=
  ∀ (m : (ℓ : Loc Cert.FinishFfnIdeal.nD Cert.FinishFfnIdeal.τ Cert.FinishFfnIdeal.sig) → Buf (Elt Ideal) ℓ) (g : Dev Cert.FinishFfnIdeal.nD → PrngReg)
    (m' : (ℓ : Loc Cert.FinishFfnRefIdeal.nD Cert.FinishFfnRefIdeal.τ Cert.FinishFfnRefIdeal.sig) → Buf (Elt Ideal) ℓ) (g' : Dev Cert.FinishFfnRefIdeal.nD → PrngReg), Pre_FinishFfnIdeal m →
    (∀ c : Dev Cert.FinishFfnIdeal.nD,
      m' ((c.tc : Thread Cert.FinishFfnRefIdeal.nD Cert.FinishFfnRefIdeal.τ).loc Cert.FinishFfnRefIdeal.main_arg0) = m ((c.tc : Thread Cert.FinishFfnIdeal.nD Cert.FinishFfnIdeal.τ).loc Cert.FinishFfnIdeal.main_arg0)
      ∧ m' ((c.tc : Thread Cert.FinishFfnRefIdeal.nD Cert.FinishFfnRefIdeal.τ).loc Cert.FinishFfnRefIdeal.main_arg1) = m ((c.tc : Thread Cert.FinishFfnIdeal.nD Cert.FinishFfnIdeal.τ).loc Cert.FinishFfnIdeal.main_arg1)
      ∧ m' ((c.tc : Thread Cert.FinishFfnRefIdeal.nD Cert.FinishFfnRefIdeal.τ).loc Cert.FinishFfnRefIdeal.main_arg2) = m ((c.tc : Thread Cert.FinishFfnIdeal.nD Cert.FinishFfnIdeal.τ).loc Cert.FinishFfnIdeal.main_arg2)
      ∧ m' ((c.tc : Thread Cert.FinishFfnRefIdeal.nD Cert.FinishFfnRefIdeal.τ).loc Cert.FinishFfnRefIdeal.main_arg3) = m ((c.tc : Thread Cert.FinishFfnIdeal.nD Cert.FinishFfnIdeal.τ).loc Cert.FinishFfnIdeal.main_arg3)
      ∧ m' ((c.tc : Thread Cert.FinishFfnRefIdeal.nD Cert.FinishFfnRefIdeal.τ).loc Cert.FinishFfnRefIdeal.main_arg4) = m ((c.tc : Thread Cert.FinishFfnIdeal.nD Cert.FinishFfnIdeal.τ).loc Cert.FinishFfnIdeal.main_arg4)
      ∧ m' ((c.tc : Thread Cert.FinishFfnRefIdeal.nD Cert.FinishFfnRefIdeal.τ).loc Cert.FinishFfnRefIdeal.main_arg5) = m ((c.tc : Thread Cert.FinishFfnIdeal.nD Cert.FinishFfnIdeal.τ).loc Cert.FinishFfnIdeal.main_arg5)
      ∧ m' ((c.tc : Thread Cert.FinishFfnRefIdeal.nD Cert.FinishFfnRefIdeal.τ).loc Cert.FinishFfnRefIdeal.main_arg6) = m ((c.tc : Thread Cert.FinishFfnIdeal.nD Cert.FinishFfnIdeal.τ).loc Cert.FinishFfnIdeal.main_arg6)
      ∧ m' ((c.tc : Thread Cert.FinishFfnRefIdeal.nD Cert.FinishFfnRefIdeal.τ).loc Cert.FinishFfnRefIdeal.main_arg7) = m ((c.tc : Thread Cert.FinishFfnIdeal.nD Cert.FinishFfnIdeal.τ).loc Cert.FinishFfnIdeal.main_arg7)) →
    ∃ (v0 : (c : Dev Cert.FinishFfnIdeal.nD) → Buf (Elt Ideal) ((c.tc : Thread Cert.FinishFfnIdeal.nD Cert.FinishFfnIdeal.τ).loc Cert.FinishFfnIdeal.main_v0_0)) (v1 : (c : Dev Cert.FinishFfnIdeal.nD) → Buf (Elt Ideal) ((c.tc : Thread Cert.FinishFfnIdeal.nD Cert.FinishFfnIdeal.τ).loc Cert.FinishFfnIdeal.main_v0_1)) (v2 : (c : Dev Cert.FinishFfnIdeal.nD) → Buf (Elt Ideal) ((c.tc : Thread Cert.FinishFfnIdeal.nD Cert.FinishFfnIdeal.τ).loc Cert.FinishFfnIdeal.main_v0_2)) (v3 : (c : Dev Cert.FinishFfnIdeal.nD) → Buf (Elt Ideal) ((c.tc : Thread Cert.FinishFfnIdeal.nD Cert.FinishFfnIdeal.τ).loc Cert.FinishFfnIdeal.main_v0_3)),
      θ_run (Cert.FinishFfnIdeal.defs (F := Ideal)) (onTc (τ := Cert.FinishFfnIdeal.τ) (Cert.FinishFfnIdeal.main (F := Ideal))) ⟨m, fun _ => 0, g⟩ (fun r => ∀ c : Dev Cert.FinishFfnIdeal.nD,
          r.2.mem ((c.tc : Thread Cert.FinishFfnIdeal.nD Cert.FinishFfnIdeal.τ).loc Cert.FinishFfnIdeal.main_v0_0) = v0 c
          ∧ r.2.mem ((c.tc : Thread Cert.FinishFfnIdeal.nD Cert.FinishFfnIdeal.τ).loc Cert.FinishFfnIdeal.main_v0_1) = v1 c
          ∧ r.2.mem ((c.tc : Thread Cert.FinishFfnIdeal.nD Cert.FinishFfnIdeal.τ).loc Cert.FinishFfnIdeal.main_v0_2) = v2 c
          ∧ r.2.mem ((c.tc : Thread Cert.FinishFfnIdeal.nD Cert.FinishFfnIdeal.τ).loc Cert.FinishFfnIdeal.main_v0_3) = v3 c
          ∧ r.2.mem ((c.tc : Thread Cert.FinishFfnIdeal.nD Cert.FinishFfnIdeal.τ).loc Cert.FinishFfnIdeal.main_arg0) = m ((c.tc : Thread Cert.FinishFfnIdeal.nD Cert.FinishFfnIdeal.τ).loc Cert.FinishFfnIdeal.main_arg0)
          ∧ r.2.mem ((c.tc : Thread Cert.FinishFfnIdeal.nD Cert.FinishFfnIdeal.τ).loc Cert.FinishFfnIdeal.main_arg1) = m ((c.tc : Thread Cert.FinishFfnIdeal.nD Cert.FinishFfnIdeal.τ).loc Cert.FinishFfnIdeal.main_arg1)
          ∧ r.2.mem ((c.tc : Thread Cert.FinishFfnIdeal.nD Cert.FinishFfnIdeal.τ).loc Cert.FinishFfnIdeal.main_arg2) = m ((c.tc : Thread Cert.FinishFfnIdeal.nD Cert.FinishFfnIdeal.τ).loc Cert.FinishFfnIdeal.main_arg2)
          ∧ r.2.mem ((c.tc : Thread Cert.FinishFfnIdeal.nD Cert.FinishFfnIdeal.τ).loc Cert.FinishFfnIdeal.main_arg3) = m ((c.tc : Thread Cert.FinishFfnIdeal.nD Cert.FinishFfnIdeal.τ).loc Cert.FinishFfnIdeal.main_arg3)
          ∧ r.2.mem ((c.tc : Thread Cert.FinishFfnIdeal.nD Cert.FinishFfnIdeal.τ).loc Cert.FinishFfnIdeal.main_arg4) = m ((c.tc : Thread Cert.FinishFfnIdeal.nD Cert.FinishFfnIdeal.τ).loc Cert.FinishFfnIdeal.main_arg4)
          ∧ r.2.mem ((c.tc : Thread Cert.FinishFfnIdeal.nD Cert.FinishFfnIdeal.τ).loc Cert.FinishFfnIdeal.main_arg5) = m ((c.tc : Thread Cert.FinishFfnIdeal.nD Cert.FinishFfnIdeal.τ).loc Cert.FinishFfnIdeal.main_arg5)
          ∧ r.2.mem ((c.tc : Thread Cert.FinishFfnIdeal.nD Cert.FinishFfnIdeal.τ).loc Cert.FinishFfnIdeal.main_arg6) = m ((c.tc : Thread Cert.FinishFfnIdeal.nD Cert.FinishFfnIdeal.τ).loc Cert.FinishFfnIdeal.main_arg6)
          ∧ r.2.mem ((c.tc : Thread Cert.FinishFfnIdeal.nD Cert.FinishFfnIdeal.τ).loc Cert.FinishFfnIdeal.main_arg7) = m ((c.tc : Thread Cert.FinishFfnIdeal.nD Cert.FinishFfnIdeal.τ).loc Cert.FinishFfnIdeal.main_arg7))
      ∧ θ_run (Cert.FinishFfnRefIdeal.defs (F := Ideal)) (onTc (τ := Cert.FinishFfnRefIdeal.τ) (Cert.FinishFfnRefIdeal.main (F := Ideal))) ⟨m', fun _ => 0, g'⟩ (fun r => ∀ c : Dev Cert.FinishFfnRefIdeal.nD,
          r.2.mem ((c.tc : Thread Cert.FinishFfnRefIdeal.nD Cert.FinishFfnRefIdeal.τ).loc Cert.FinishFfnRefIdeal.main_v24) = v0 c
          ∧ r.2.mem ((c.tc : Thread Cert.FinishFfnRefIdeal.nD Cert.FinishFfnRefIdeal.τ).loc Cert.FinishFfnRefIdeal.main_v48) = v1 c
          ∧ r.2.mem ((c.tc : Thread Cert.FinishFfnRefIdeal.nD Cert.FinishFfnRefIdeal.τ).loc Cert.FinishFfnRefIdeal.main_v29) = v2 c
          ∧ r.2.mem ((c.tc : Thread Cert.FinishFfnRefIdeal.nD Cert.FinishFfnRefIdeal.τ).loc Cert.FinishFfnRefIdeal.main_v35) = v3 c
          ∧ r.2.mem ((c.tc : Thread Cert.FinishFfnRefIdeal.nD Cert.FinishFfnRefIdeal.τ).loc Cert.FinishFfnRefIdeal.main_arg0) = m' ((c.tc : Thread Cert.FinishFfnRefIdeal.nD Cert.FinishFfnRefIdeal.τ).loc Cert.FinishFfnRefIdeal.main_arg0)
          ∧ r.2.mem ((c.tc : Thread Cert.FinishFfnRefIdeal.nD Cert.FinishFfnRefIdeal.τ).loc Cert.FinishFfnRefIdeal.main_arg1) = m' ((c.tc : Thread Cert.FinishFfnRefIdeal.nD Cert.FinishFfnRefIdeal.τ).loc Cert.FinishFfnRefIdeal.main_arg1)
          ∧ r.2.mem ((c.tc : Thread Cert.FinishFfnRefIdeal.nD Cert.FinishFfnRefIdeal.τ).loc Cert.FinishFfnRefIdeal.main_arg2) = m' ((c.tc : Thread Cert.FinishFfnRefIdeal.nD Cert.FinishFfnRefIdeal.τ).loc Cert.FinishFfnRefIdeal.main_arg2)
          ∧ r.2.mem ((c.tc : Thread Cert.FinishFfnRefIdeal.nD Cert.FinishFfnRefIdeal.τ).loc Cert.FinishFfnRefIdeal.main_arg3) = m' ((c.tc : Thread Cert.FinishFfnRefIdeal.nD Cert.FinishFfnRefIdeal.τ).loc Cert.FinishFfnRefIdeal.main_arg3)
          ∧ r.2.mem ((c.tc : Thread Cert.FinishFfnRefIdeal.nD Cert.FinishFfnRefIdeal.τ).loc Cert.FinishFfnRefIdeal.main_arg4) = m' ((c.tc : Thread Cert.FinishFfnRefIdeal.nD Cert.FinishFfnRefIdeal.τ).loc Cert.FinishFfnRefIdeal.main_arg4)
          ∧ r.2.mem ((c.tc : Thread Cert.FinishFfnRefIdeal.nD Cert.FinishFfnRefIdeal.τ).loc Cert.FinishFfnRefIdeal.main_arg5) = m' ((c.tc : Thread Cert.FinishFfnRefIdeal.nD Cert.FinishFfnRefIdeal.τ).loc Cert.FinishFfnRefIdeal.main_arg5)
          ∧ r.2.mem ((c.tc : Thread Cert.FinishFfnRefIdeal.nD Cert.FinishFfnRefIdeal.τ).loc Cert.FinishFfnRefIdeal.main_arg6) = m' ((c.tc : Thread Cert.FinishFfnRefIdeal.nD Cert.FinishFfnRefIdeal.τ).loc Cert.FinishFfnRefIdeal.main_arg6)
          ∧ r.2.mem ((c.tc : Thread Cert.FinishFfnRefIdeal.nD Cert.FinishFfnRefIdeal.τ).loc Cert.FinishFfnRefIdeal.main_arg7) = m' ((c.tc : Thread Cert.FinishFfnRefIdeal.nD Cert.FinishFfnRefIdeal.τ).loc Cert.FinishFfnRefIdeal.main_arg7))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)
      ∧ m' ((c.tc : Thread Cert.MemKvRefIdeal.nD Cert.MemKvRefIdeal.τ).loc Cert.MemKvRefIdeal.main_arg2) = m ((c.tc : Thread Cert.MemKvIdeal.nD Cert.MemKvIdeal.τ).loc Cert.MemKvIdeal.main_arg2)
      ∧ m' ((c.tc : Thread Cert.MemKvRefIdeal.nD Cert.MemKvRefIdeal.τ).loc Cert.MemKvRefIdeal.main_arg3) = m ((c.tc : Thread Cert.MemKvIdeal.nD Cert.MemKvIdeal.τ).loc Cert.MemKvIdeal.main_arg3)) →
    ∃ (v0 : (c : Dev Cert.MemKvIdeal.nD) → Buf (Elt Ideal) ((c.tc : Thread Cert.MemKvIdeal.nD Cert.MemKvIdeal.τ).loc Cert.MemKvIdeal.main_v0_0)) (v1 : (c : Dev Cert.MemKvIdeal.nD) → Buf (Elt Ideal) ((c.tc : Thread Cert.MemKvIdeal.nD Cert.MemKvIdeal.τ).loc Cert.MemKvIdeal.main_v0_1)) (v2 : (c : Dev Cert.MemKvIdeal.nD) → Buf (Elt Ideal) ((c.tc : Thread Cert.MemKvIdeal.nD Cert.MemKvIdeal.τ).loc Cert.MemKvIdeal.main_v0_2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0_0) = v0 c
          ∧ r.2.mem ((c.tc : Thread Cert.MemKvIdeal.nD Cert.MemKvIdeal.τ).loc Cert.MemKvIdeal.main_v0_1) = v1 c
          ∧ r.2.mem ((c.tc : Thread Cert.MemKvIdeal.nD Cert.MemKvIdeal.τ).loc Cert.MemKvIdeal.main_v0_2) = v2 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1)
          ∧ r.2.mem ((c.tc : Thread Cert.MemKvIdeal.nD Cert.MemKvIdeal.τ).loc Cert.MemKvIdeal.main_arg2) = m ((c.tc : Thread Cert.MemKvIdeal.nD Cert.MemKvIdeal.τ).loc Cert.MemKvIdeal.main_arg2)
          ∧ r.2.mem ((c.tc : Thread Cert.MemKvIdeal.nD Cert.MemKvIdeal.τ).loc Cert.MemKvIdeal.main_arg3) = m ((c.tc : Thread Cert.MemKvIdeal.nD Cert.MemKvIdeal.τ).loc Cert.MemKvIdeal.main_arg3))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v14) = v0 c
          ∧ r.2.mem ((c.tc : Thread Cert.MemKvRefIdeal.nD Cert.MemKvRefIdeal.τ).loc Cert.MemKvRefIdeal.main_v16) = v1 c
          ∧ r.2.mem ((c.tc : Thread Cert.MemKvRefIdeal.nD Cert.MemKvRefIdeal.τ).loc Cert.MemKvRefIdeal.main_v18) = v2 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1)
          ∧ r.2.mem ((c.tc : Thread Cert.MemKvRefIdeal.nD Cert.MemKvRefIdeal.τ).loc Cert.MemKvRefIdeal.main_arg2) = m' ((c.tc : Thread Cert.MemKvRefIdeal.nD Cert.MemKvRefIdeal.τ).loc Cert.MemKvRefIdeal.main_arg2)
          ∧ r.2.mem ((c.tc : Thread Cert.MemKvRefIdeal.nD Cert.MemKvRefIdeal.τ).loc Cert.MemKvRefIdeal.main_arg3) = m' ((c.tc : Thread Cert.MemKvRefIdeal.nD Cert.MemKvRefIdeal.τ).loc Cert.MemKvRefIdeal.main_arg3))

def preserves_MemBwd_MemBwdIdeal : Prop :=
  True

def algebraic_MemBwdIdeal_MemBwdRefIdeal [hMemBwdIdeal : Cert.MemBwdIdeal.Facts] [hMemBwdRefIdeal : Cert.MemBwdRefIdeal.Facts] : Prop :=
  ∀ (m : (ℓ : Loc Cert.MemBwdIdeal.nD Cert.MemBwdIdeal.τ Cert.MemBwdIdeal.sig) → Buf (Elt Ideal) ℓ) (g : Dev Cert.MemBwdIdeal.nD → PrngReg)
    (m' : (ℓ : Loc Cert.MemBwdRefIdeal.nD Cert.MemBwdRefIdeal.τ Cert.MemBwdRefIdeal.sig) → Buf (Elt Ideal) ℓ) (g' : Dev Cert.MemBwdRefIdeal.nD → PrngReg), Pre_MemBwdIdeal m →
    (∀ c : Dev Cert.MemBwdIdeal.nD,
      m' ((c.tc : Thread Cert.MemBwdRefIdeal.nD Cert.MemBwdRefIdeal.τ).loc Cert.MemBwdRefIdeal.main_arg0) = m ((c.tc : Thread Cert.MemBwdIdeal.nD Cert.MemBwdIdeal.τ).loc Cert.MemBwdIdeal.main_arg0)
      ∧ m' ((c.tc : Thread Cert.MemBwdRefIdeal.nD Cert.MemBwdRefIdeal.τ).loc Cert.MemBwdRefIdeal.main_arg1) = m ((c.tc : Thread Cert.MemBwdIdeal.nD Cert.MemBwdIdeal.τ).loc Cert.MemBwdIdeal.main_arg1)
      ∧ m' ((c.tc : Thread Cert.MemBwdRefIdeal.nD Cert.MemBwdRefIdeal.τ).loc Cert.MemBwdRefIdeal.main_arg2) = m ((c.tc : Thread Cert.MemBwdIdeal.nD Cert.MemBwdIdeal.τ).loc Cert.MemBwdIdeal.main_arg2)
      ∧ m' ((c.tc : Thread Cert.MemBwdRefIdeal.nD Cert.MemBwdRefIdeal.τ).loc Cert.MemBwdRefIdeal.main_arg3) = m ((c.tc : Thread Cert.MemBwdIdeal.nD Cert.MemBwdIdeal.τ).loc Cert.MemBwdIdeal.main_arg3)
      ∧ m' ((c.tc : Thread Cert.MemBwdRefIdeal.nD Cert.MemBwdRefIdeal.τ).loc Cert.MemBwdRefIdeal.main_arg4) = m ((c.tc : Thread Cert.MemBwdIdeal.nD Cert.MemBwdIdeal.τ).loc Cert.MemBwdIdeal.main_arg4)
      ∧ m' ((c.tc : Thread Cert.MemBwdRefIdeal.nD Cert.MemBwdRefIdeal.τ).loc Cert.MemBwdRefIdeal.main_arg5) = m ((c.tc : Thread Cert.MemBwdIdeal.nD Cert.MemBwdIdeal.τ).loc Cert.MemBwdIdeal.main_arg5)
      ∧ m' ((c.tc : Thread Cert.MemBwdRefIdeal.nD Cert.MemBwdRefIdeal.τ).loc Cert.MemBwdRefIdeal.main_arg6) = m ((c.tc : Thread Cert.MemBwdIdeal.nD Cert.MemBwdIdeal.τ).loc Cert.MemBwdIdeal.main_arg6)) →
    ∃ (v0 : (c : Dev Cert.MemBwdIdeal.nD) → Buf (Elt Ideal) ((c.tc : Thread Cert.MemBwdIdeal.nD Cert.MemBwdIdeal.τ).loc Cert.MemBwdIdeal.main_v0_0)) (v1 : (c : Dev Cert.MemBwdIdeal.nD) → Buf (Elt Ideal) ((c.tc : Thread Cert.MemBwdIdeal.nD Cert.MemBwdIdeal.τ).loc Cert.MemBwdIdeal.main_v0_1)) (v2 : (c : Dev Cert.MemBwdIdeal.nD) → Buf (Elt Ideal) ((c.tc : Thread Cert.MemBwdIdeal.nD Cert.MemBwdIdeal.τ).loc Cert.MemBwdIdeal.main_v0_2)),
      θ_run (Cert.MemBwdIdeal.defs (F := Ideal)) (onTc (τ := Cert.MemBwdIdeal.τ) (Cert.MemBwdIdeal.main (F := Ideal))) ⟨m, fun _ => 0, g⟩ (fun r => ∀ c : Dev Cert.MemBwdIdeal.nD,
          r.2.mem ((c.tc : Thread Cert.MemBwdIdeal.nD Cert.MemBwdIdeal.τ).loc Cert.MemBwdIdeal.main_v0_0) = v0 c
          ∧ r.2.mem ((c.tc : Thread Cert.MemBwdIdeal.nD Cert.MemBwdIdeal.τ).loc Cert.MemBwdIdeal.main_v0_1) = v1 c
          ∧ r.2.mem ((c.tc : Thread Cert.MemBwdIdeal.nD Cert.MemBwdIdeal.τ).loc Cert.MemBwdIdeal.main_v0_2) = v2 c
          ∧ r.2.mem ((c.tc : Thread Cert.MemBwdIdeal.nD Cert.MemBwdIdeal.τ).loc Cert.MemBwdIdeal.main_arg0) = m ((c.tc : Thread Cert.MemBwdIdeal.nD Cert.MemBwdIdeal.τ).loc Cert.MemBwdIdeal.main_arg0)
          ∧ r.2.mem ((c.tc : Thread Cert.MemBwdIdeal.nD Cert.MemBwdIdeal.τ).loc Cert.MemBwdIdeal.main_arg1) = m ((c.tc : Thread Cert.MemBwdIdeal.nD Cert.MemBwdIdeal.τ).loc Cert.MemBwdIdeal.main_arg1)
          ∧ r.2.mem ((c.tc : Thread Cert.MemBwdIdeal.nD Cert.MemBwdIdeal.τ).loc Cert.MemBwdIdeal.main_arg2) = m ((c.tc : Thread Cert.MemBwdIdeal.nD Cert.MemBwdIdeal.τ).loc Cert.MemBwdIdeal.main_arg2)
          ∧ r.2.mem ((c.tc : Thread Cert.MemBwdIdeal.nD Cert.MemBwdIdeal.τ).loc Cert.MemBwdIdeal.main_arg3) = m ((c.tc : Thread Cert.MemBwdIdeal.nD Cert.MemBwdIdeal.τ).loc Cert.MemBwdIdeal.main_arg3)
          ∧ r.2.mem ((c.tc : Thread Cert.MemBwdIdeal.nD Cert.MemBwdIdeal.τ).loc Cert.MemBwdIdeal.main_arg4) = m ((c.tc : Thread Cert.MemBwdIdeal.nD Cert.MemBwdIdeal.τ).loc Cert.MemBwdIdeal.main_arg4)
          ∧ r.2.mem ((c.tc : Thread Cert.MemBwdIdeal.nD Cert.MemBwdIdeal.τ).loc Cert.MemBwdIdeal.main_arg5) = m ((c.tc : Thread Cert.MemBwdIdeal.nD Cert.MemBwdIdeal.τ).loc Cert.MemBwdIdeal.main_arg5)
          ∧ r.2.mem ((c.tc : Thread Cert.MemBwdIdeal.nD Cert.MemBwdIdeal.τ).loc Cert.MemBwdIdeal.main_arg6) = m ((c.tc : Thread Cert.MemBwdIdeal.nD Cert.MemBwdIdeal.τ).loc Cert.MemBwdIdeal.main_arg6))
      ∧ θ_run (Cert.MemBwdRefIdeal.defs (F := Ideal)) (onTc (τ := Cert.MemBwdRefIdeal.τ) (Cert.MemBwdRefIdeal.main (F := Ideal))) ⟨m', fun _ => 0, g'⟩ (fun r => ∀ c : Dev Cert.MemBwdRefIdeal.nD,
          r.2.mem ((c.tc : Thread Cert.MemBwdRefIdeal.nD Cert.MemBwdRefIdeal.τ).loc Cert.MemBwdRefIdeal.main_v9) = v0 c
          ∧ r.2.mem ((c.tc : Thread Cert.MemBwdRefIdeal.nD Cert.MemBwdRefIdeal.τ).loc Cert.MemBwdRefIdeal.main_v10) = v1 c
          ∧ r.2.mem ((c.tc : Thread Cert.MemBwdRefIdeal.nD Cert.MemBwdRefIdeal.τ).loc Cert.MemBwdRefIdeal.main_v30) = v2 c
          ∧ r.2.mem ((c.tc : Thread Cert.MemBwdRefIdeal.nD Cert.MemBwdRefIdeal.τ).loc Cert.MemBwdRefIdeal.main_arg0) = m' ((c.tc : Thread Cert.MemBwdRefIdeal.nD Cert.MemBwdRefIdeal.τ).loc Cert.MemBwdRefIdeal.main_arg0)
          ∧ r.2.mem ((c.tc : Thread Cert.MemBwdRefIdeal.nD Cert.MemBwdRefIdeal.τ).loc Cert.MemBwdRefIdeal.main_arg1) = m' ((c.tc : Thread Cert.MemBwdRefIdeal.nD Cert.MemBwdRefIdeal.τ).loc Cert.MemBwdRefIdeal.main_arg1)
          ∧ r.2.mem ((c.tc : Thread Cert.MemBwdRefIdeal.nD Cert.MemBwdRefIdeal.τ).loc Cert.MemBwdRefIdeal.main_arg2) = m' ((c.tc : Thread Cert.MemBwdRefIdeal.nD Cert.MemBwdRefIdeal.τ).loc Cert.MemBwdRefIdeal.main_arg2)
          ∧ r.2.mem ((c.tc : Thread Cert.MemBwdRefIdeal.nD Cert.MemBwdRefIdeal.τ).loc Cert.MemBwdRefIdeal.main_arg3) = m' ((c.tc : Thread Cert.MemBwdRefIdeal.nD Cert.MemBwdRefIdeal.τ).loc Cert.MemBwdRefIdeal.main_arg3)
          ∧ r.2.mem ((c.tc : Thread Cert.MemBwdRefIdeal.nD Cert.MemBwdRefIdeal.τ).loc Cert.MemBwdRefIdeal.main_arg4) = m' ((c.tc : Thread Cert.MemBwdRefIdeal.nD Cert.MemBwdRefIdeal.τ).loc Cert.MemBwdRefIdeal.main_arg4)
          ∧ r.2.mem ((c.tc : Thread Cert.MemBwdRefIdeal.nD Cert.MemBwdRefIdeal.τ).loc Cert.MemBwdRefIdeal.main_arg5) = m' ((c.tc : Thread Cert.MemBwdRefIdeal.nD Cert.MemBwdRefIdeal.τ).loc Cert.MemBwdRefIdeal.main_arg5)
          ∧ r.2.mem ((c.tc : Thread Cert.MemBwdRefIdeal.nD Cert.MemBwdRefIdeal.τ).loc Cert.MemBwdRefIdeal.main_arg6) = m' ((c.tc : Thread Cert.MemBwdRefIdeal.nD Cert.MemBwdRefIdeal.τ).loc Cert.MemBwdRefIdeal.main_arg6))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v23) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def preserves_SumSlots_SumSlotsIdeal : Prop :=
  True

def algebraic_SumSlotsIdeal_SumSlotsRefIdeal [hSumSlotsIdeal : Cert.SumSlotsIdeal.Facts] [hSumSlotsRefIdeal : Cert.SumSlotsRefIdeal.Facts] : Prop :=
  ∀ (m : (ℓ : Loc Cert.SumSlotsIdeal.nD Cert.SumSlotsIdeal.τ Cert.SumSlotsIdeal.sig) → Buf (Elt Ideal) ℓ) (g : Dev Cert.SumSlotsIdeal.nD → PrngReg)
    (m' : (ℓ : Loc Cert.SumSlotsRefIdeal.nD Cert.SumSlotsRefIdeal.τ Cert.SumSlotsRefIdeal.sig) → Buf (Elt Ideal) ℓ) (g' : Dev Cert.SumSlotsRefIdeal.nD → PrngReg), Pre_SumSlotsIdeal m →
    (∀ c : Dev Cert.SumSlotsIdeal.nD,
      m' ((c.tc : Thread Cert.SumSlotsRefIdeal.nD Cert.SumSlotsRefIdeal.τ).loc Cert.SumSlotsRefIdeal.main_arg0) = m ((c.tc : Thread Cert.SumSlotsIdeal.nD Cert.SumSlotsIdeal.τ).loc Cert.SumSlotsIdeal.main_arg0)) →
    ∃ (v0 : (c : Dev Cert.SumSlotsIdeal.nD) → Buf (Elt Ideal) ((c.tc : Thread Cert.SumSlotsIdeal.nD Cert.SumSlotsIdeal.τ).loc Cert.SumSlotsIdeal.main_v0)),
      θ_run (Cert.SumSlotsIdeal.defs (F := Ideal)) (onTc (τ := Cert.SumSlotsIdeal.τ) (Cert.SumSlotsIdeal.main (F := Ideal))) ⟨m, fun _ => 0, g⟩ (fun r => ∀ c : Dev Cert.SumSlotsIdeal.nD,
          r.2.mem ((c.tc : Thread Cert.SumSlotsIdeal.nD Cert.SumSlotsIdeal.τ).loc Cert.SumSlotsIdeal.main_v0) = v0 c
          ∧ r.2.mem ((c.tc : Thread Cert.SumSlotsIdeal.nD Cert.SumSlotsIdeal.τ).loc Cert.SumSlotsIdeal.main_arg0) = m ((c.tc : Thread Cert.SumSlotsIdeal.nD Cert.SumSlotsIdeal.τ).loc Cert.SumSlotsIdeal.main_arg0))
      ∧ θ_run (Cert.SumSlotsRefIdeal.defs (F := Ideal)) (onTc (τ := Cert.SumSlotsRefIdeal.τ) (Cert.SumSlotsRefIdeal.main (F := Ideal))) ⟨m', fun _ => 0, g'⟩ (fun r => ∀ c : Dev Cert.SumSlotsRefIdeal.nD,
          r.2.mem ((c.tc : Thread Cert.SumSlotsRefIdeal.nD Cert.SumSlotsRefIdeal.τ).loc Cert.SumSlotsRefIdeal.main_v0) = v0 c
          ∧ r.2.mem ((c.tc : Thread Cert.SumSlotsRefIdeal.nD Cert.SumSlotsRefIdeal.τ).loc Cert.SumSlotsRefIdeal.main_arg0) = m' ((c.tc : Thread Cert.SumSlotsRefIdeal.nD Cert.SumSlotsRefIdeal.τ).loc Cert.SumSlotsRefIdeal.main_arg0))

def preserves_GroupSum_GroupSumIdeal : Prop :=
  True

def algebraic_GroupSumIdeal_GroupSumRefIdeal [hGroupSumIdeal : Cert.GroupSumIdeal.Facts] [hGroupSumRefIdeal : Cert.GroupSumRefIdeal.Facts] : Prop :=
  ∀ (m : (ℓ : Loc Cert.GroupSumIdeal.nD Cert.GroupSumIdeal.τ Cert.GroupSumIdeal.sig) → Buf (Elt Ideal) ℓ) (g : Dev Cert.GroupSumIdeal.nD → PrngReg)
    (m' : (ℓ : Loc Cert.GroupSumRefIdeal.nD Cert.GroupSumRefIdeal.τ Cert.GroupSumRefIdeal.sig) → Buf (Elt Ideal) ℓ) (g' : Dev Cert.GroupSumRefIdeal.nD → PrngReg), Pre_GroupSumIdeal m →
    (∀ c : Dev Cert.GroupSumIdeal.nD,
      m' ((c.tc : Thread Cert.GroupSumRefIdeal.nD Cert.GroupSumRefIdeal.τ).loc Cert.GroupSumRefIdeal.main_arg0) = m ((c.tc : Thread Cert.GroupSumIdeal.nD Cert.GroupSumIdeal.τ).loc Cert.GroupSumIdeal.main_arg0)) →
    ∃ (v0 : (c : Dev Cert.GroupSumIdeal.nD) → Buf (Elt Ideal) ((c.tc : Thread Cert.GroupSumIdeal.nD Cert.GroupSumIdeal.τ).loc Cert.GroupSumIdeal.main_v0)),
      θ_run (Cert.GroupSumIdeal.defs (F := Ideal)) (onTc (τ := Cert.GroupSumIdeal.τ) (Cert.GroupSumIdeal.main (F := Ideal))) ⟨m, fun _ => 0, g⟩ (fun r => ∀ c : Dev Cert.GroupSumIdeal.nD,
          r.2.mem ((c.tc : Thread Cert.GroupSumIdeal.nD Cert.GroupSumIdeal.τ).loc Cert.GroupSumIdeal.main_v0) = v0 c
          ∧ r.2.mem ((c.tc : Thread Cert.GroupSumIdeal.nD Cert.GroupSumIdeal.τ).loc Cert.GroupSumIdeal.main_arg0) = m ((c.tc : Thread Cert.GroupSumIdeal.nD Cert.GroupSumIdeal.τ).loc Cert.GroupSumIdeal.main_arg0))
      ∧ θ_run (Cert.GroupSumRefIdeal.defs (F := Ideal)) (onTc (τ := Cert.GroupSumRefIdeal.τ) (Cert.GroupSumRefIdeal.main (F := Ideal))) ⟨m', fun _ => 0, g'⟩ (fun r => ∀ c : Dev Cert.GroupSumRefIdeal.nD,
          r.2.mem ((c.tc : Thread Cert.GroupSumRefIdeal.nD Cert.GroupSumRefIdeal.τ).loc Cert.GroupSumRefIdeal.main_v7) = v0 c
          ∧ r.2.mem ((c.tc : Thread Cert.GroupSumRefIdeal.nD Cert.GroupSumRefIdeal.τ).loc Cert.GroupSumRefIdeal.main_arg0) = m' ((c.tc : Thread Cert.GroupSumRefIdeal.nD Cert.GroupSumRefIdeal.τ).loc Cert.GroupSumRefIdeal.main_arg0))

def Claim : Prop :=
  ∃ (hAttnBwd : Cert.AttnBwd.Facts) (hAttnBwdIdeal : Cert.AttnBwdIdeal.Facts) (hAttnBwdRefIdeal : Cert.AttnBwdRefIdeal.Facts) (hFfnDhid : Cert.FfnDhid.Facts) (hFfnDhidIdeal : Cert.FfnDhidIdeal.Facts) (hFfnDhidRefIdeal : Cert.FfnDhidRefIdeal.Facts) (hFfnDn : Cert.FfnDn.Facts) (hFfnDnIdeal : Cert.FfnDnIdeal.Facts) (hFfnDnRefIdeal : Cert.FfnDnRefIdeal.Facts) (hOdDn : Cert.OdDn.Facts) (hOdDnIdeal : Cert.OdDnIdeal.Facts) (hOdDnRefIdeal : Cert.OdDnRefIdeal.Facts) (hEvDn : Cert.EvDn.Facts) (hEvDnIdeal : Cert.EvDnIdeal.Facts) (hEvDnRefIdeal : Cert.EvDnRefIdeal.Facts) (hXaDnq : Cert.XaDnq.Facts) (hXaDnqIdeal : Cert.XaDnqIdeal.Facts) (hXaDnqRefIdeal : Cert.XaDnqRefIdeal.Facts) (hFfnDwd : Cert.FfnDwd.Facts) (hFfnDwdIdeal : Cert.FfnDwdIdeal.Facts) (hFfnDwdRefIdeal : Cert.FfnDwdRefIdeal.Facts) (hFfnDwg : Cert.FfnDwg.Facts) (hFfnDwgIdeal : Cert.FfnDwgIdeal.Facts) (hFfnDwgRefIdeal : Cert.FfnDwgRefIdeal.Facts) (hXaDwo : Cert.XaDwo.Facts) (hXaDwoIdeal : Cert.XaDwoIdeal.Facts) (hXaDwoRefIdeal : Cert.XaDwoRefIdeal.Facts) (hXaDwq : Cert.XaDwq.Facts) (hXaDwqIdeal : Cert.XaDwqIdeal.Facts) (hXaDwqRefIdeal : Cert.XaDwqRefIdeal.Facts) (hOdDwin : Cert.OdDwin.Facts) (hOdDwinIdeal : Cert.OdDwinIdeal.Facts) (hOdDwinRefIdeal : Cert.OdDwinRefIdeal.Facts) (hEvDwin : Cert.EvDwin.Facts) (hEvDwinIdeal : Cert.EvDwinIdeal.Facts) (hEvDwinRefIdeal : Cert.EvDwinRefIdeal.Facts) (hXaDo : Cert.XaDo.Facts) (hXaDoIdeal : Cert.XaDoIdeal.Facts) (hXaDoRefIdeal : Cert.XaDoRefIdeal.Facts) (hXaQ : Cert.XaQ.Facts) (hXaQIdeal : Cert.XaQIdeal.Facts) (hXaQRefIdeal : Cert.XaQRefIdeal.Facts) (hEvIn : Cert.EvIn.Facts) (hEvInIdeal : Cert.EvInIdeal.Facts) (hEvInRefIdeal : Cert.EvInRefIdeal.Facts) (hOdIn : Cert.OdIn.Facts) (hOdInIdeal : Cert.OdInIdeal.Facts) (hOdInRefIdeal : Cert.OdInRefIdeal.Facts) (hFfnUp : Cert.FfnUp.Facts) (hFfnUpIdeal : Cert.FfnUpIdeal.Facts) (hFfnUpRefIdeal : Cert.FfnUpRefIdeal.Facts) (hFfnDown : Cert.FfnDown.Facts) (hFfnDownIdeal : Cert.FfnDownIdeal.Facts) (hFfnDownRefIdeal : Cert.FfnDownRefIdeal.Facts) (hXaO : Cert.XaO.Facts) (hXaOIdeal : Cert.XaOIdeal.Facts) (hXaORefIdeal : Cert.XaORefIdeal.Facts) (hFfnLoss : Cert.FfnLoss.Facts) (hFfnLossIdeal : Cert.FfnLossIdeal.Facts) (hFfnLossRefIdeal : Cert.FfnLossRefIdeal.Facts) (hAdamwNorms : Cert.AdamwNorms.Facts) (hAdamwNormsIdeal : Cert.AdamwNormsIdeal.Facts) (hAdamwNormsRefIdeal : Cert.AdamwNormsRefIdeal.Facts) (hAdamwMixed : Cert.AdamwMixed.Facts) (hAdamwMixedIdeal : Cert.AdamwMixedIdeal.Facts) (hAdamwMixedRefIdeal : Cert.AdamwMixedRefIdeal.Facts) (hAdamwEven : Cert.AdamwEven.Facts) (hAdamwEvenIdeal : Cert.AdamwEvenIdeal.Facts) (hAdamwEvenRefIdeal : Cert.AdamwEvenRefIdeal.Facts) (hAdamwTaps : Cert.AdamwTaps.Facts) (hAdamwTapsIdeal : Cert.AdamwTapsIdeal.Facts) (hAdamwTapsRefIdeal : Cert.AdamwTapsRefIdeal.Facts) (hAdamwRest : Cert.AdamwRest.Facts) (hAdamwRestIdeal : Cert.AdamwRestIdeal.Facts) (hAdamwRestRefIdeal : Cert.AdamwRestRefIdeal.Facts) (hFinishEvIn : Cert.FinishEvIn.Facts) (hFinishEvInIdeal : Cert.FinishEvInIdeal.Facts) (hFinishEvInRefIdeal : Cert.FinishEvInRefIdeal.Facts) (hFinishOdIn : Cert.FinishOdIn.Facts) (hFinishOdInIdeal : Cert.FinishOdInIdeal.Facts) (hFinishOdInRefIdeal : Cert.FinishOdInRefIdeal.Facts) (hFinishOut : Cert.FinishOut.Facts) (hFinishOutIdeal : Cert.FinishOutIdeal.Facts) (hFinishOutRefIdeal : Cert.FinishOutRefIdeal.Facts) (hFinishXa : Cert.FinishXa.Facts) (hFinishXaIdeal : Cert.FinishXaIdeal.Facts) (hFinishXaRefIdeal : Cert.FinishXaRefIdeal.Facts) (hFinishFfn : Cert.FinishFfn.Facts) (hFinishFfnIdeal : Cert.FinishFfnIdeal.Facts) (hFinishFfnRefIdeal : Cert.FinishFfnRefIdeal.Facts) (hRmsFwd : Cert.RmsFwd.Facts) (hRmsFwdIdeal : Cert.RmsFwdIdeal.Facts) (hRmsFwdRefIdeal : Cert.RmsFwdRefIdeal.Facts) (hMemKv : Cert.MemKv.Facts) (hMemKvIdeal : Cert.MemKvIdeal.Facts) (hMemKvRefIdeal : Cert.MemKvRefIdeal.Facts) (hMemBwd : Cert.MemBwd.Facts) (hMemBwdIdeal : Cert.MemBwdIdeal.Facts) (hMemBwdRefIdeal : Cert.MemBwdRefIdeal.Facts) (hAttnFwd : Cert.AttnFwd.Facts) (hAttnFwdIdeal : Cert.AttnFwdIdeal.Facts) (hAttnFwdRefIdeal : Cert.AttnFwdRefIdeal.Facts) (hSumSlots : Cert.SumSlots.Facts) (hSumSlotsIdeal : Cert.SumSlotsIdeal.Facts) (hSumSlotsRefIdeal : Cert.SumSlotsRefIdeal.Facts) (hGroupSum : Cert.GroupSum.Facts) (hGroupSumIdeal : Cert.GroupSumIdeal.Facts) (hGroupSumRefIdeal : Cert.GroupSumRefIdeal.Facts) (hPre_finite_scores : Cert.Pre_finite_scores.Facts) (hPre_finite_hidden : Cert.Pre_finite_hidden.Facts) (hPre_own_block_ev_in : Cert.Pre_own_block_ev_in.Facts) (hPre_own_block_od_in : Cert.Pre_own_block_od_in.Facts) (hPre_own_block_out : Cert.Pre_own_block_out.Facts) (hPre_own_block_xa : Cert.Pre_own_block_xa.Facts) (hPre_own_block_ffn : Cert.Pre_own_block_ffn.Facts),
    quiescent_AttnBwd (hAttnBwd := hAttnBwd)
    ∧ quiescent_AttnBwdIdeal (hAttnBwdIdeal := hAttnBwdIdeal)
    ∧ quiescent_AttnBwdIdeal_pre_finite_scores (hAttnBwdIdeal := hAttnBwdIdeal) (hPre_finite_scores := hPre_finite_scores)
    ∧ quiescent_AttnBwdRefIdeal (hAttnBwdRefIdeal := hAttnBwdRefIdeal)
    ∧ quiescent_AttnBwdRefIdeal_pre_finite_scores (hAttnBwdRefIdeal := hAttnBwdRefIdeal) (hPre_finite_scores := hPre_finite_scores)
    ∧ quiescent_FfnDhid (hFfnDhid := hFfnDhid)
    ∧ quiescent_FfnDhidIdeal (hFfnDhidIdeal := hFfnDhidIdeal)
    ∧ quiescent_FfnDhidIdeal_pre_finite_hidden (hFfnDhidIdeal := hFfnDhidIdeal) (hPre_finite_hidden := hPre_finite_hidden)
    ∧ quiescent_FfnDhidRefIdeal (hFfnDhidRefIdeal := hFfnDhidRefIdeal)
    ∧ quiescent_FfnDhidRefIdeal_pre_finite_hidden (hFfnDhidRefIdeal := hFfnDhidRefIdeal) (hPre_finite_hidden := hPre_finite_hidden)
    ∧ quiescent_FfnDn (hFfnDn := hFfnDn)
    ∧ quiescent_FfnDnIdeal (hFfnDnIdeal := hFfnDnIdeal)
    ∧ quiescent_FfnDnRefIdeal (hFfnDnRefIdeal := hFfnDnRefIdeal)
    ∧ quiescent_OdDn (hOdDn := hOdDn)
    ∧ quiescent_OdDnIdeal (hOdDnIdeal := hOdDnIdeal)
    ∧ quiescent_OdDnRefIdeal (hOdDnRefIdeal := hOdDnRefIdeal)
    ∧ quiescent_EvDn (hEvDn := hEvDn)
    ∧ quiescent_EvDnIdeal (hEvDnIdeal := hEvDnIdeal)
    ∧ quiescent_EvDnRefIdeal (hEvDnRefIdeal := hEvDnRefIdeal)
    ∧ quiescent_XaDnq (hXaDnq := hXaDnq)
    ∧ quiescent_XaDnqIdeal (hXaDnqIdeal := hXaDnqIdeal)
    ∧ quiescent_XaDnqRefIdeal (hXaDnqRefIdeal := hXaDnqRefIdeal)
    ∧ quiescent_FfnDwd (hFfnDwd := hFfnDwd)
    ∧ quiescent_FfnDwdIdeal (hFfnDwdIdeal := hFfnDwdIdeal)
    ∧ quiescent_FfnDwdRefIdeal (hFfnDwdRefIdeal := hFfnDwdRefIdeal)
    ∧ quiescent_FfnDwg (hFfnDwg := hFfnDwg)
    ∧ quiescent_FfnDwgIdeal (hFfnDwgIdeal := hFfnDwgIdeal)
    ∧ quiescent_FfnDwgRefIdeal (hFfnDwgRefIdeal := hFfnDwgRefIdeal)
    ∧ quiescent_XaDwo (hXaDwo := hXaDwo)
    ∧ quiescent_XaDwoIdeal (hXaDwoIdeal := hXaDwoIdeal)
    ∧ quiescent_XaDwoRefIdeal (hXaDwoRefIdeal := hXaDwoRefIdeal)
    ∧ quiescent_XaDwq (hXaDwq := hXaDwq)
    ∧ quiescent_XaDwqIdeal (hXaDwqIdeal := hXaDwqIdeal)
    ∧ quiescent_XaDwqRefIdeal (hXaDwqRefIdeal := hXaDwqRefIdeal)
    ∧ quiescent_OdDwin (hOdDwin := hOdDwin)
    ∧ quiescent_OdDwinIdeal (hOdDwinIdeal := hOdDwinIdeal)
    ∧ quiescent_OdDwinRefIdeal (hOdDwinRefIdeal := hOdDwinRefIdeal)
    ∧ quiescent_EvDwin (hEvDwin := hEvDwin)
    ∧ quiescent_EvDwinIdeal (hEvDwinIdeal := hEvDwinIdeal)
    ∧ quiescent_EvDwinRefIdeal (hEvDwinRefIdeal := hEvDwinRefIdeal)
    ∧ quiescent_XaDo (hXaDo := hXaDo)
    ∧ quiescent_XaDoIdeal (hXaDoIdeal := hXaDoIdeal)
    ∧ quiescent_XaDoRefIdeal (hXaDoRefIdeal := hXaDoRefIdeal)
    ∧ quiescent_XaQ (hXaQ := hXaQ)
    ∧ quiescent_XaQIdeal (hXaQIdeal := hXaQIdeal)
    ∧ quiescent_XaQRefIdeal (hXaQRefIdeal := hXaQRefIdeal)
    ∧ quiescent_EvIn (hEvIn := hEvIn)
    ∧ quiescent_EvInIdeal (hEvInIdeal := hEvInIdeal)
    ∧ quiescent_EvInRefIdeal (hEvInRefIdeal := hEvInRefIdeal)
    ∧ quiescent_OdIn (hOdIn := hOdIn)
    ∧ quiescent_OdInIdeal (hOdInIdeal := hOdInIdeal)
    ∧ quiescent_OdInRefIdeal (hOdInRefIdeal := hOdInRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_XaO (hXaO := hXaO)
    ∧ quiescent_XaOIdeal (hXaOIdeal := hXaOIdeal)
    ∧ quiescent_XaORefIdeal (hXaORefIdeal := hXaORefIdeal)
    ∧ quiescent_FfnLoss (hFfnLoss := hFfnLoss)
    ∧ quiescent_FfnLossIdeal (hFfnLossIdeal := hFfnLossIdeal)
    ∧ quiescent_FfnLossRefIdeal (hFfnLossRefIdeal := hFfnLossRefIdeal)
    ∧ quiescent_AdamwNorms (hAdamwNorms := hAdamwNorms)
    ∧ quiescent_AdamwNormsIdeal (hAdamwNormsIdeal := hAdamwNormsIdeal)
    ∧ quiescent_AdamwNormsRefIdeal (hAdamwNormsRefIdeal := hAdamwNormsRefIdeal)
    ∧ quiescent_AdamwMixed (hAdamwMixed := hAdamwMixed)
    ∧ quiescent_AdamwMixedIdeal (hAdamwMixedIdeal := hAdamwMixedIdeal)
    ∧ quiescent_AdamwMixedRefIdeal (hAdamwMixedRefIdeal := hAdamwMixedRefIdeal)
    ∧ quiescent_AdamwEven (hAdamwEven := hAdamwEven)
    ∧ quiescent_AdamwEvenIdeal (hAdamwEvenIdeal := hAdamwEvenIdeal)
    ∧ quiescent_AdamwEvenRefIdeal (hAdamwEvenRefIdeal := hAdamwEvenRefIdeal)
    ∧ quiescent_AdamwTaps (hAdamwTaps := hAdamwTaps)
    ∧ quiescent_AdamwTapsIdeal (hAdamwTapsIdeal := hAdamwTapsIdeal)
    ∧ quiescent_AdamwTapsRefIdeal (hAdamwTapsRefIdeal := hAdamwTapsRefIdeal)
    ∧ quiescent_AdamwRest (hAdamwRest := hAdamwRest)
    ∧ quiescent_AdamwRestIdeal (hAdamwRestIdeal := hAdamwRestIdeal)
    ∧ quiescent_AdamwRestRefIdeal (hAdamwRestRefIdeal := hAdamwRestRefIdeal)
    ∧ quiescent_FinishEvIn (hFinishEvIn := hFinishEvIn) (hPre_own_block_ev_in := hPre_own_block_ev_in)
    ∧ quiescent_FinishEvInIdeal (hFinishEvInIdeal := hFinishEvInIdeal) (hPre_own_block_ev_in := hPre_own_block_ev_in)
    ∧ quiescent_FinishEvInRefIdeal (hFinishEvInRefIdeal := hFinishEvInRefIdeal)
    ∧ quiescent_FinishEvInRefIdeal_pre_own_block_ev_in (hFinishEvInRefIdeal := hFinishEvInRefIdeal) (hPre_own_block_ev_in := hPre_own_block_ev_in)
    ∧ quiescent_FinishOdIn (hFinishOdIn := hFinishOdIn) (hPre_own_block_od_in := hPre_own_block_od_in)
    ∧ quiescent_FinishOdInIdeal (hFinishOdInIdeal := hFinishOdInIdeal) (hPre_own_block_od_in := hPre_own_block_od_in)
    ∧ quiescent_FinishOdInRefIdeal (hFinishOdInRefIdeal := hFinishOdInRefIdeal)
    ∧ quiescent_FinishOdInRefIdeal_pre_own_block_od_in (hFinishOdInRefIdeal := hFinishOdInRefIdeal) (hPre_own_block_od_in := hPre_own_block_od_in)
    ∧ quiescent_FinishOut (hFinishOut := hFinishOut) (hPre_own_block_out := hPre_own_block_out)
    ∧ quiescent_FinishOutIdeal (hFinishOutIdeal := hFinishOutIdeal) (hPre_own_block_out := hPre_own_block_out)
    ∧ quiescent_FinishOutRefIdeal (hFinishOutRefIdeal := hFinishOutRefIdeal)
    ∧ quiescent_FinishOutRefIdeal_pre_own_block_out (hFinishOutRefIdeal := hFinishOutRefIdeal) (hPre_own_block_out := hPre_own_block_out)
    ∧ quiescent_FinishXa (hFinishXa := hFinishXa) (hPre_own_block_xa := hPre_own_block_xa)
    ∧ quiescent_FinishXaIdeal (hFinishXaIdeal := hFinishXaIdeal) (hPre_own_block_xa := hPre_own_block_xa)
    ∧ quiescent_FinishXaRefIdeal (hFinishXaRefIdeal := hFinishXaRefIdeal)
    ∧ quiescent_FinishXaRefIdeal_pre_own_block_xa (hFinishXaRefIdeal := hFinishXaRefIdeal) (hPre_own_block_xa := hPre_own_block_xa)
    ∧ quiescent_FinishFfn (hFinishFfn := hFinishFfn) (hPre_own_block_ffn := hPre_own_block_ffn)
    ∧ quiescent_FinishFfnIdeal (hFinishFfnIdeal := hFinishFfnIdeal) (hPre_own_block_ffn := hPre_own_block_ffn)
    ∧ quiescent_FinishFfnRefIdeal (hFinishFfnRefIdeal := hFinishFfnRefIdeal)
    ∧ quiescent_FinishFfnRefIdeal_pre_own_block_ffn (hFinishFfnRefIdeal := hFinishFfnRefIdeal) (hPre_own_block_ffn := hPre_own_block_ffn)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemBwd (hMemBwd := hMemBwd)
    ∧ quiescent_MemBwdIdeal (hMemBwdIdeal := hMemBwdIdeal)
    ∧ quiescent_MemBwdRefIdeal (hMemBwdRefIdeal := hMemBwdRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ quiescent_SumSlots (hSumSlots := hSumSlots)
    ∧ quiescent_SumSlotsIdeal (hSumSlotsIdeal := hSumSlotsIdeal)
    ∧ quiescent_SumSlotsRefIdeal (hSumSlotsRefIdeal := hSumSlotsRefIdeal)
    ∧ quiescent_GroupSum (hGroupSum := hGroupSum)
    ∧ quiescent_GroupSumIdeal (hGroupSumIdeal := hGroupSumIdeal)
    ∧ quiescent_GroupSumRefIdeal (hGroupSumRefIdeal := hGroupSumRefIdeal)
    ∧ preserves_AttnBwd_AttnBwdIdeal
    ∧ algebraic_AttnBwdIdeal_AttnBwdRefIdeal_pre_finite_scores (hAttnBwdIdeal := hAttnBwdIdeal) (hAttnBwdRefIdeal := hAttnBwdRefIdeal) (hPre_finite_scores := hPre_finite_scores)
    ∧ preserves_FfnDhid_FfnDhidIdeal
    ∧ algebraic_FfnDhidIdeal_FfnDhidRefIdeal_pre_finite_hidden (hFfnDhidIdeal := hFfnDhidIdeal) (hFfnDhidRefIdeal := hFfnDhidRefIdeal) (hPre_finite_hidden := hPre_finite_hidden)
    ∧ preserves_FfnDn_FfnDnIdeal
    ∧ algebraic_FfnDnIdeal_FfnDnRefIdeal (hFfnDnIdeal := hFfnDnIdeal) (hFfnDnRefIdeal := hFfnDnRefIdeal)
    ∧ preserves_OdDn_OdDnIdeal
    ∧ algebraic_OdDnIdeal_OdDnRefIdeal (hOdDnIdeal := hOdDnIdeal) (hOdDnRefIdeal := hOdDnRefIdeal)
    ∧ preserves_EvDn_EvDnIdeal
    ∧ algebraic_EvDnIdeal_EvDnRefIdeal (hEvDnIdeal := hEvDnIdeal) (hEvDnRefIdeal := hEvDnRefIdeal)
    ∧ preserves_XaDnq_XaDnqIdeal
    ∧ algebraic_XaDnqIdeal_XaDnqRefIdeal (hXaDnqIdeal := hXaDnqIdeal) (hXaDnqRefIdeal := hXaDnqRefIdeal)
    ∧ preserves_FfnDwd_FfnDwdIdeal
    ∧ algebraic_FfnDwdIdeal_FfnDwdRefIdeal (hFfnDwdIdeal := hFfnDwdIdeal) (hFfnDwdRefIdeal := hFfnDwdRefIdeal)
    ∧ preserves_FfnDwg_FfnDwgIdeal
    ∧ algebraic_FfnDwgIdeal_FfnDwgRefIdeal (hFfnDwgIdeal := hFfnDwgIdeal) (hFfnDwgRefIdeal := hFfnDwgRefIdeal)
    ∧ preserves_XaDwo_XaDwoIdeal
    ∧ algebraic_XaDwoIdeal_XaDwoRefIdeal (hXaDwoIdeal := hXaDwoIdeal) (hXaDwoRefIdeal := hXaDwoRefIdeal)
    ∧ preserves_XaDwq_XaDwqIdeal
    ∧ algebraic_XaDwqIdeal_XaDwqRefIdeal (hXaDwqIdeal := hXaDwqIdeal) (hXaDwqRefIdeal := hXaDwqRefIdeal)
    ∧ preserves_OdDwin_OdDwinIdeal
    ∧ algebraic_OdDwinIdeal_OdDwinRefIdeal (hOdDwinIdeal := hOdDwinIdeal) (hOdDwinRefIdeal := hOdDwinRefIdeal)
    ∧ preserves_EvDwin_EvDwinIdeal
    ∧ algebraic_EvDwinIdeal_EvDwinRefIdeal (hEvDwinIdeal := hEvDwinIdeal) (hEvDwinRefIdeal := hEvDwinRefIdeal)
    ∧ preserves_XaDo_XaDoIdeal
    ∧ algebraic_XaDoIdeal_XaDoRefIdeal (hXaDoIdeal := hXaDoIdeal) (hXaDoRefIdeal := hXaDoRefIdeal)
    ∧ preserves_XaQ_XaQIdeal
    ∧ algebraic_XaQIdeal_XaQRefIdeal (hXaQIdeal := hXaQIdeal) (hXaQRefIdeal := hXaQRefIdeal)
    ∧ preserves_EvIn_EvInIdeal
    ∧ algebraic_EvInIdeal_EvInRefIdeal (hEvInIdeal := hEvInIdeal) (hEvInRefIdeal := hEvInRefIdeal)
    ∧ preserves_OdIn_OdInIdeal
    ∧ algebraic_OdInIdeal_OdInRefIdeal (hOdInIdeal := hOdInIdeal) (hOdInRefIdeal := hOdInRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnDown_FfnDownIdeal
    ∧ algebraic_FfnDownIdeal_FfnDownRefIdeal (hFfnDownIdeal := hFfnDownIdeal) (hFfnDownRefIdeal := hFfnDownRefIdeal)
    ∧ preserves_XaO_XaOIdeal
    ∧ algebraic_XaOIdeal_XaORefIdeal (hXaOIdeal := hXaOIdeal) (hXaORefIdeal := hXaORefIdeal)
    ∧ preserves_FfnLoss_FfnLossIdeal
    ∧ algebraic_FfnLossIdeal_FfnLossRefIdeal (hFfnLossIdeal := hFfnLossIdeal) (hFfnLossRefIdeal := hFfnLossRefIdeal)
    ∧ preserves_AdamwNorms_AdamwNormsIdeal
    ∧ algebraic_AdamwNormsIdeal_AdamwNormsRefIdeal (hAdamwNormsIdeal := hAdamwNormsIdeal) (hAdamwNormsRefIdeal := hAdamwNormsRefIdeal)
    ∧ preserves_AdamwMixed_AdamwMixedIdeal
    ∧ algebraic_AdamwMixedIdeal_AdamwMixedRefIdeal (hAdamwMixedIdeal := hAdamwMixedIdeal) (hAdamwMixedRefIdeal := hAdamwMixedRefIdeal)
    ∧ preserves_AdamwEven_AdamwEvenIdeal
    ∧ algebraic_AdamwEvenIdeal_AdamwEvenRefIdeal (hAdamwEvenIdeal := hAdamwEvenIdeal) (hAdamwEvenRefIdeal := hAdamwEvenRefIdeal)
    ∧ preserves_AdamwTaps_AdamwTapsIdeal
    ∧ algebraic_AdamwTapsIdeal_AdamwTapsRefIdeal (hAdamwTapsIdeal := hAdamwTapsIdeal) (hAdamwTapsRefIdeal := hAdamwTapsRefIdeal)
    ∧ preserves_AdamwRest_AdamwRestIdeal
    ∧ algebraic_AdamwRestIdeal_AdamwRestRefIdeal (hAdamwRestIdeal := hAdamwRestIdeal) (hAdamwRestRefIdeal := hAdamwRestRefIdeal)
    ∧ preserves_FinishEvIn_FinishEvInIdeal
    ∧ algebraic_FinishEvInIdeal_FinishEvInRefIdeal (hFinishEvInIdeal := hFinishEvInIdeal) (hFinishEvInRefIdeal := hFinishEvInRefIdeal) (hPre_own_block_ev_in := hPre_own_block_ev_in)
    ∧ preserves_FinishOdIn_FinishOdInIdeal
    ∧ algebraic_FinishOdInIdeal_FinishOdInRefIdeal (hFinishOdInIdeal := hFinishOdInIdeal) (hFinishOdInRefIdeal := hFinishOdInRefIdeal) (hPre_own_block_od_in := hPre_own_block_od_in)
    ∧ preserves_FinishOut_FinishOutIdeal
    ∧ algebraic_FinishOutIdeal_FinishOutRefIdeal (hFinishOutIdeal := hFinishOutIdeal) (hFinishOutRefIdeal := hFinishOutRefIdeal) (hPre_own_block_out := hPre_own_block_out)
    ∧ preserves_FinishXa_FinishXaIdeal
    ∧ algebraic_FinishXaIdeal_FinishXaRefIdeal (hFinishXaIdeal := hFinishXaIdeal) (hFinishXaRefIdeal := hFinishXaRefIdeal) (hPre_own_block_xa := hPre_own_block_xa)
    ∧ preserves_FinishFfn_FinishFfnIdeal
    ∧ algebraic_FinishFfnIdeal_FinishFfnRefIdeal (hFinishFfnIdeal := hFinishFfnIdeal) (hFinishFfnRefIdeal := hFinishFfnRefIdeal) (hPre_own_block_ffn := hPre_own_block_ffn)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_MemKv_MemKvIdeal
    ∧ algebraic_MemKvIdeal_MemKvRefIdeal (hMemKvIdeal := hMemKvIdeal) (hMemKvRefIdeal := hMemKvRefIdeal)
    ∧ preserves_MemBwd_MemBwdIdeal
    ∧ algebraic_MemBwdIdeal_MemBwdRefIdeal (hMemBwdIdeal := hMemBwdIdeal) (hMemBwdRefIdeal := hMemBwdRefIdeal)
    ∧ preserves_AttnFwd_AttnFwdIdeal
    ∧ algebraic_AttnFwdIdeal_AttnFwdRefIdeal (hAttnFwdIdeal := hAttnFwdIdeal) (hAttnFwdRefIdeal := hAttnFwdRefIdeal)
    ∧ preserves_SumSlots_SumSlotsIdeal
    ∧ algebraic_SumSlotsIdeal_SumSlotsRefIdeal (hSumSlotsIdeal := hSumSlotsIdeal) (hSumSlotsRefIdeal := hSumSlotsRefIdeal)
    ∧ preserves_GroupSum_GroupSumIdeal
    ∧ algebraic_GroupSumIdeal_GroupSumRefIdeal (hGroupSumIdeal := hGroupSumIdeal) (hGroupSumRefIdeal := hGroupSumRefIdeal)
-- ==== Pre_finite_hidden.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  bitsLt_bf16_f32 : FTy.bits .bf16 < FTy.bits .f32
  bcast_S_S2816x1024 : S_.BroadcastsInDim S2816x1024 (![] : Fin 0 → Fin S2816x1024.rank)
  bcast_S_S8192x2816 : S_.BroadcastsInDim S8192x2816 (![] : Fin 0 → Fin S8192x2816.rank)

variable [Facts]

def fn {F : FTy → Type} [FloatOps F] (main_arg0 : FVec F S8192x1024 .f32) (main_arg1 : FVec F S2816x1024 .bf16) (main_arg2 : FVec F S8192x2816 .bf16) (main_arg3 : FVec F S8192x2816 .bf16) : IVec S8192x1024 1 × IVec S2816x1024 1 × IVec S8192x2816 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S2816x1024 .f32 := (extf .f32 · bitsLt_bf16_f32) main_arg1
  let main_v4 : FVec F S2816x1024 .f32 := Host.absf main_v3
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S8192x2816 .f32 := (extf .f32 · bitsLt_bf16_f32) main_arg3
  let main_v8 : FVec F S8192x2816 .f32 := Host.absf main_v7
  let main_cst_1 : FVec F S_ .f32 := constant S_ .f32 0x7F800000#32
  let main_v9 : FVec F S8192x2816 .f32 := broadcastInDim S8192x2816 ![] bcast_S_S8192x2816 main_cst_1
  let main_v10 : IVec S8192x2816 1 := cmpf .olt main_v8 main_v9
  (main_v2, main_v6, main_v10)
-- ==== Pre_finite_scores.lean ====
abbrev S8192x1024 : Shape := ⟨2, ![8192, 1024]⟩
abbrev S256x1024 : Shape := ⟨2, ![256, 1024]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  bcast_S_S256x1024 : S_.BroadcastsInDim S256x1024 (![] : Fin 0 → Fin S256x1024.rank)

variable [Facts]

def fn {F : FTy → Type} [FloatOps F] (main_arg0 : FVec F S8192x1024 .bf16) (main_arg1 : FVec F S256x1024 .bf16) (main_arg2 : FVec F S256x1024 .bf16) (main_arg3 : FVec F S8192x1024 .bf16) : IVec S8192x1024 1 × IVec S256x1024 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_v4 : FVec F S256x1024 .f32 := (extf .f32 · bitsLt_bf16_f32) main_arg1
  let main_v5 : FVec F S256x1024 .f32 := Host.absf main_v4
  let main_cst_0 : FVec F S_ .f32 := constant S_ .f32 0x7F800000#32
  let main_v6 : FVec F S256x1024 .f32 := broadcastInDim S256x1024 ![] bcast_S_S256x1024 main_cst_0
  let main_v7 : IVec S256x1024 1 := cmpf .olt main_v5 main_v6
  (main_v3, main_v7)
-- ==== Pre_own_block_ev_in.lean ====
abbrev S2560x1024 : Shape := ⟨2, ![2560, 1024]⟩
abbrev S7x320x1024 : Shape := ⟨3, ![7, 320, 1024]⟩
abbrev S1 : Shape := ⟨1, ![1]⟩
abbrev S1x320x1024 : Shape := ⟨3, ![1, 320, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2560x1024 .bf16) (main_arg1 : FVec F S7x320x1024 .bf16) (main_arg2 : IVec S1 32) (main_arg3 : FVec F S1x320x1024 .f32) (main_arg4 : FVec F S1x320x1024 .f32) (main_arg5 : FVec F S1x320x1024 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 7#32
  let main_v2 : IVec S1 32 := broadcastInDim S1 ![] bcast_S_S1 main_c_0
  let main_v3 : IVec S1 1 := cmpi .sle main_arg2 main_v2
  let main_v4 : IVec S1 1 := andi main_v1 main_v3
  main_v4
-- ==== Pre_own_block_ffn.lean ====
abbrev S2816x1024 : Shape := ⟨2, ![2816, 1024]⟩
abbrev S7x352x1024 : Shape := ⟨3, ![7, 352, 1024]⟩
abbrev S1 : Shape := ⟨1, ![1]⟩
abbrev S2x352x1024 : Shape := ⟨3, ![2, 352, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2816x1024 .bf16) (main_arg1 : FVec F S7x352x1024 .bf16) (main_arg2 : FVec F S2816x1024 .bf16) (main_arg3 : FVec F S7x352x1024 .bf16) (main_arg4 : IVec S1 32) (main_arg5 : FVec F S2x352x1024 .f32) (main_arg6 : FVec F S2x352x1024 .f32) (main_arg7 : FVec F S2x352x1024 .f32) : IVec S1 1 :=
  let main_c : IVec S_ 32 := constantI S_ 32 0#32
  let main_v0 : IVec S1 32 := broadcastInDim S1 ![] bcast_S_S1 main_c
  let main_v1 : IVec S1 1 := cmpi .sge main_arg4 main_v0
  let main_c_0 : IVec S_ 32 := constantI S_ 32 7#32
  let main_v2 : IVec S1 32 := broadcastInDim S1 ![] bcast_S_S1 main_c_0
  let main_v3 : IVec S1 1 := cmpi .sle main_arg4 main_v2
  let main_v4 : IVec S1 1 := andi main_v1 main_v3
  main_v4
-- ==== Pre_own_block_od_in.lean ====
abbrev S2048x1024 : Shape := ⟨2, ![2048, 1024]⟩
abbrev S7x256x1024 : Shape := ⟨3, ![7, 256, 1024]⟩
abbrev S1 : Shape := ⟨1, ![1]⟩
abbrev S1x256x1024 : Shape := ⟨3, ![1, 256, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S2048x1024 .bf16) (main_arg1 : FVec F S7x256x1024 .bf16) (main_arg2 : IVec S1 32) (main_arg3 : FVec F S1x256x1024 .f32) (main_arg4 : FVec F S1x256x1024 .f32) (main_arg5 : FVec F S1x256x1024 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 7#32
  let main_v2 : IVec S1 32 := broadcastInDim S1 ![] bcast_S_S1 main_c_0
  let main_v3 : IVec S1 1 := cmpi .sle main_arg2 main_v2
  let main_v4 : IVec S1 1 := andi main_v1 main_v3
  main_v4
-- ==== Pre_own_block_out.lean ====
abbrev S1024x1024 : Shape := ⟨2, ![1024, 1024]⟩
abbrev S7x128x1024 : Shape := ⟨3, ![7, 128, 1024]⟩
abbrev S1 : Shape := ⟨1, ![1]⟩
abbrev S1x128x1024 : Shape := ⟨3, ![1, 128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S1024x1024 .bf16) (main_arg1 : FVec F S7x128x1024 .bf16) (main_arg2 : IVec S1 32) (main_arg3 : FVec F S1x128x1024 .f32) (main_arg4 : FVec F S1x128x1024 .f32) (main_arg5 : FVec F S1x128x1024 .f32) : IVec S1 1 :=
  let main_c : IVec S_ 32 := constantI S_ 32 0#32
  let main_v0 : IVec S1 32 := broadcastInDim S1 ![] bcast_S_S1 main_c
  let main_v1 : IVec S1 1 := cmpi .sge main_arg2 main_v0
  let main_c_0 : IVec S_ 32 := constantI S_ 32 7#32
  let main_v2 : IVec S1 32 := broadcastInDim S1 ![] bcast_S_S1 main_c_0
  let main_v3 : IVec S1 1 := cmpi .sle main_arg2 main_v2
  let main_v4 : IVec S1 1 := andi main_v1 main_v3
  main_v4
-- ==== Pre_own_block_xa.lean ====
abbrev S1024x1024 : Shape := ⟨2, ![1024, 1024]⟩
abbrev S7x128x1024 : Shape := ⟨3, ![7, 128, 1024]⟩
abbrev S1 : Shape := ⟨1, ![1]⟩
abbrev S2x128x1024 : Shape := ⟨3, ![2, 128, 1024]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S1024x1024 .bf16) (main_arg1 : FVec F S7x128x1024 .bf16) (main_arg2 : FVec F S1024x1024 .bf16) (main_arg3 : FVec F S7x128x1024 .bf16) (main_arg4 : IVec S1 32) (main_arg5 : FVec F S2x128x1024 .f32) (main_arg6 : FVec F S2x128x1024 .f32) (main_arg7 : FVec F S2x128x1024 .f32) : IVec S1 1 :=
  let main_c : IVec S_ 32 := constantI S_ 32 0#32
  let main_v0 : IVec S1 32 := broadcastInDim S1 ![] bcast_S_S1 main_c
  let main_v1 : IVec S1 1 := cmpi .sge main_arg4 main_v0
  let main_c_0 : IVec S_ 32 := constantI S_ 32 7#32
  let main_v2 : IVec S1 32 := broadcastInDim S1 ![] bcast_S_S1 main_c_0
  let main_v3 : IVec S1 1 := cmpi .sle main_arg4 main_v2
  let main_v4 : IVec S1 1 := andi main_v1 main_v3
  main_v4
-- ==== AttnBwd.lean ====
abbrev S8192x1024 : Shape := ⟨2, ![8192, 1024]⟩
abbrev S256x1024 : Shape := ⟨2, ![256, 1024]⟩
abbrev S2048x1024 : Shape := ⟨2, ![2048, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 7
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .bf16⟩
  | .hbm, ⟨4, _⟩ => ⟨S8192x1024, .bf16⟩
  | .hbm, ⟨5, _⟩ => ⟨S256x1024, .f32⟩
  | .hbm, ⟨6, _⟩ => ⟨S256x1024, .f32⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | .local _ .vmem, ⟨7, _⟩ => ⟨S2048x1024, .bf16⟩
  | .local _ .vmem, ⟨8, _⟩ => ⟨S256x1024, .f32⟩
  | .local _ .vmem, ⟨9, _⟩ => ⟨S256x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== AttnBwdRefIdeal.lean ====
abbrev S8192x1024 : Shape := ⟨2, ![8192, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .bf16⟩
  | .hbm, ⟨4, _⟩ => ⟨S8192x1024, .f32⟩
  | .hbm, ⟨5, _⟩ => ⟨S256x1024, .f32⟩
  | .hbm, ⟨6, _⟩ => ⟨S256x1024, .f32⟩
  | .hbm, ⟨7, _⟩ => ⟨S8192x1024, .f32⟩
  | .hbm, ⟨8, _⟩ => ⟨S8192x4x256, .f32⟩
  | .hbm, ⟨9, _⟩ => ⟨S256x4x256, .f32⟩
  | .hbm, ⟨10, _⟩ => ⟨S256x4x256, .f32⟩
  | .hbm, ⟨11, _⟩ => ⟨S4x8192x256, .f32⟩
  | .hbm, ⟨12, _⟩ => ⟨S_, .f32⟩
  | .hbm, ⟨13, _⟩ => ⟨S4x8192x256, .f32⟩
  | .hbm, ⟨14, _⟩ => ⟨S4x8192x256, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S4x8192x256, .f32⟩
  | .hbm, ⟨19, _⟩ => ⟨S4x8192x256, .i1⟩
  | .hbm, ⟨20, _⟩ => ⟨S4x8192x256, .f32⟩
  | .hbm, ⟨21, _⟩ => ⟨S_, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S4x8192, .f32⟩
  | .hbm, ⟨26, _⟩ => ⟨S_, .f32⟩
  | .hbm, ⟨27, _⟩ => ⟨S4x8192, .f32⟩
  | .hbm, ⟨28, _⟩ => ⟨S4x8192, .i1⟩
  | .hbm, ⟨29, _⟩ => ⟨S_, .f32⟩
  | .hbm, ⟨30, _⟩ => ⟨S4x8192, .f32⟩
  | .hbm, ⟨31, _⟩ => ⟨S4x8192, .i1⟩
  | .hbm, ⟨32, _⟩ => ⟨S_, .f32⟩
  | .hbm, ⟨33, _⟩ => ⟨S4x8192, .f32⟩
  | .hbm, ⟨34, _⟩ => ⟨S_, .f32⟩
  | .hbm, ⟨35, _⟩ => ⟨S4x8192, .f32⟩
  | .hbm, ⟨36, _⟩ => ⟨S_, .f32⟩
  | .hbm, ⟨37, _⟩ => ⟨S4x8192, .f32⟩
  | .hbm, ⟨38, _⟩ => ⟨S4x8192, .f32⟩
  | .hbm, ⟨39, _⟩ => ⟨S4x8192, .f32⟩
  | .hbm, ⟨40, _⟩ => ⟨S4x8192x1, .f32⟩
  | .hbm, ⟨41, _⟩ => ⟨S4x8192x256, .f32⟩
  | .hbm, ⟨42, _⟩ => ⟨S4x8192x256, .f32⟩
  | .hbm, ⟨43, _⟩ => ⟨S4x8192x256, .f32⟩
  | .hbm, ⟨44, _⟩ => ⟨S_, .f32⟩
  | .hbm, ⟨45, _⟩ => ⟨S4x8192, .f32⟩
  | .hbm, ⟨46, _⟩ => ⟨S4x8192x1, .f32⟩
  | .hbm, ⟨47, _⟩ => ⟨S4x8192x256, .f32⟩
  | .hbm, ⟨48, _⟩ => ⟨S4x8192x256, .f32⟩
  | .hbm, ⟨49, _⟩ => ⟨S4x8192x1, .f32⟩
  | .hbm, ⟨50, _⟩ => ⟨S_, .f32⟩
  | .hbm, ⟨51, _⟩ => ⟨S4x8192x1, .f32⟩
  | .hbm, ⟨52, _⟩ => ⟨S4x8192x1, .f32⟩
  | .hbm, ⟨53, _⟩ => ⟨S4x256x8192, .f32⟩
  | .hbm, ⟨54, _⟩ => ⟨S8192x4x256, .f32⟩
  | .hbm, ⟨55, _⟩ => ⟨S8192x1024, .f32⟩
  | .hbm, ⟨56, _⟩ => ⟨S8192x4x256, .f32⟩
  | .hbm, ⟨57, _⟩ => ⟨S4x256x8192, .f32⟩
  | .hbm, ⟨58, _⟩ => ⟨S4x8192x256, .f32⟩
  | .hbm, ⟨59, _⟩ => ⟨S4x256x256, .f32⟩
  | .hbm, ⟨60, _⟩ => ⟨S256x4x256, .f32⟩
  | .hbm, ⟨61, _⟩ => ⟨S4x8192x256, .f32⟩
  | .hbm, ⟨62, _⟩ => ⟨S4x8192x256, .f32⟩
  | .hbm, ⟨63, _⟩ => ⟨S4x8192x256, .f32⟩
  | .hbm, ⟨64, _⟩ => ⟨S_, .f32⟩
  | .hbm, ⟨65, _⟩ => ⟨S4x8192, .f32⟩
  | .hbm, ⟨66, _⟩ => ⟨S4x8192x1, .f32⟩
  | .hbm, ⟨67, _⟩ => ⟨S4x8192x1, .f32⟩
  | .hbm, ⟨68, _⟩ => ⟨S4x8192x256, .f32⟩
  | .hbm, ⟨69, _⟩ => ⟨S4x8192x256, .f32⟩
  | .hbm, ⟨70, _⟩ => ⟨S_, .f32⟩
  | .hbm, ⟨71, _⟩ => ⟨S4x8192, .f32⟩
  | .hbm, ⟨72, _⟩ => ⟨S4x8192x256, .f32⟩
  | .hbm, ⟨73, _⟩ => ⟨S4x8192x256, .f32⟩
  | .hbm, ⟨74, _⟩ => ⟨S4x8192x256, .f32⟩
  | .hbm, ⟨75, _⟩ => ⟨S_, .f32⟩
  | .hbm, ⟨76, _⟩ => ⟨S4x8192x256, .f32⟩
  | .hbm, ⟨77, _⟩ => ⟨S4x8192x256, .f32⟩
  | .hbm, ⟨78, _⟩ => ⟨S4x256x256, .f32⟩
  | .hbm, ⟨79, _⟩ => ⟨S256x4x256, .f32⟩
  | .hbm, ⟨80, _⟩ => ⟨S4x8192x256, .f32⟩
  | .hbm, ⟨81, _⟩ => ⟨S8192x4x256, .f32⟩
  | .hbm, ⟨82, _⟩ => ⟨S256x1024, .f32⟩
  | .hbm, ⟨83, _⟩ => ⟨S256x1024, .f32⟩
  | .hbm, ⟨84, _⟩ => ⟨S8192x1024, .f32⟩
  | .hbm, ⟨85, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_cst_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_8 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_10 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_cst_11 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_cst_12 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩

abbrev nD : Nat := 1
abbrev τ : Topo := Topo.v7x

variable {F : FTy → Type} [FloatOps F]
-- ==== FfnDhid.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 6
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnDhidRefIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2816x1024, .bf16⟩
  | .hbm, ⟨2, _⟩ => ⟨S8192x2816, .bf16⟩
  | .hbm, ⟨3, _⟩ => ⟨S8192x2816, .bf16⟩
  | .hbm, ⟨4, _⟩ => ⟨S2816x1024, .f32⟩
  | .hbm, ⟨5, _⟩ => ⟨S8192x2816, .f32⟩
  | .hbm, ⟨6, _⟩ => ⟨S8192x2816, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .bf16⟩
  | .hbm, ⟨30, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩

abbrev nD : Nat := 1
abbrev τ : Topo := Topo.v7x

variable {F : FTy → Type} [FloatOps F]
-- ==== FfnDn.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13

abbrev nD : Nat := 1
abbrev τ : Topo := Topo.v7x

variable {F : FTy → Type} [FloatOps F]

abbrev grid0 : Pipeline.Grid := ⟨2, ![16, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, true]
-- ==== FfnDnRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024x2816 : Shape := ⟨2, ![1024, 2816]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 61
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S2816x1024, .bf16⟩
  | .hbm, ⟨3, _⟩ => ⟨S2816x1024, .bf16⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1024x2816, .bf16⟩
  | .hbm, ⟨8, _⟩ => ⟨S1024x2816, .bf16⟩
  | .hbm, ⟨9, _⟩ => ⟨S8192x2816, .f32⟩
  | .hbm, ⟨10, _⟩ => ⟨S8192x2816, .f32⟩
  | .hbm, ⟨11, _⟩ => ⟨S1024x2816, .f32⟩
  | .hbm, ⟨12, _⟩ => ⟨S1024x2816, .f32⟩
  | .hbm, ⟨13, _⟩ => ⟨S8192x1024, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x2816, .f32⟩
  | .hbm, ⟨33, _⟩ => ⟨S8192x2816, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1, .f32⟩
  | .hbm, ⟨51, _⟩ => ⟨S_, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_5 : Ref sig .tc := ⟨.hbm, 51, rfl⟩
abbrev main_v38 : Ref sig .tc := ⟨.hbm, 52, rfl⟩
abbrev main_v39 : Ref sig .tc := ⟨.hbm, 53, rfl⟩
abbrev main_cst_6 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩

abbrev nD : Nat := 1
abbrev τ : Topo := Topo.v7x

variable {F : FTy → Type} [FloatOps F]
-- ==== OdDn.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S1024x2048 : Shape := ⟨2, ![1024, 2048]⟩
abbrev S1024x1024 : Shape := ⟨2, ![1024, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]
-- ==== OdDnRefIdeal.lean ====
abbrev S8192x2048 : Shape := ⟨2, ![8192, 2048]⟩
abbrev S2048x1024 : Shape := ⟨2, ![2048, 1024]⟩
abbrev S8192x1024 : Shape := ⟨2, ![8192, 1024]⟩
abbrev S1x1024 : Shape := ⟨2, ![1, 1024]⟩
abbrev S1024x2048 : Shape := ⟨2, ![1024, 2048]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x2048, .bf16⟩
  | .hbm, ⟨6, _⟩ => ⟨S8192x2048, .f32⟩
  | .hbm, ⟨7, _⟩ => ⟨S1024x2048, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x2048, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== EvDn.lean ====
abbrev S8192x2560 : Shape := ⟨2, ![8192, 2560]⟩
abbrev S2560x1024 : Shape := ⟨2, ![2560, 1024]⟩
abbrev S8192x1024 : Shape := ⟨2, ![8192, 1024]⟩
abbrev S1x1024 : Shape := ⟨2, ![1, 1024]⟩
abbrev S1024x2560 : Shape := ⟨2, ![1024, 2560]⟩
abbrev S1024x1024 : Shape := ⟨2, ![1024, 1024]⟩
abbrev S256x2560 : Shape := ⟨2, ![256, 2560]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x2560, .bf16⟩
  | .hbm, ⟨1, _⟩ => ⟨S2560x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1024x2560, .bf16⟩
  | .local _ .vmem, ⟨1, _⟩ => ⟨S1024x2560, .bf16⟩
  | .local _ .vmem, ⟨2, _⟩ => ⟨S2560x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2560x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]
-- ==== EvDnRefIdeal.lean ====
abbrev S8192x2560 : Shape := ⟨2, ![8192, 2560]⟩
abbrev S2560x1024 : Shape := ⟨2, ![2560, 1024]⟩
abbrev S8192x1024 : Shape := ⟨2, ![8192, 1024]⟩
abbrev S1x1024 : Shape := ⟨2, ![1, 1024]⟩
abbrev S1024x2560 : Shape := ⟨2, ![1024, 2560]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 53
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S2560x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x2560, .bf16⟩
  | .hbm, ⟨6, _⟩ => ⟨S8192x2560, .f32⟩
  | .hbm, ⟨7, _⟩ => ⟨S1024x2560, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x2560, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S1024, .f32⟩
  | .hbm, ⟨32, _⟩ => ⟨S1x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S_, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_5 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== XaDnq.lean ====
abbrev S8192x1024 : Shape := ⟨2, ![8192, 1024]⟩
abbrev S1024x1024 : Shape := ⟨2, ![1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x1024, .f32⟩
  | .local _ .vmem, ⟨10, _⟩ => ⟨S1x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, true]
-- ==== XaDnqRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 52
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1024x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_4 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== FfnDwd.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .f32⟩
  | .local _ .vmem, ⟨3, _⟩ => ⟨S1024x1024, .f32⟩
  | .local _ .vmem, ⟨4, _⟩ => ⟨S2816x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v12 : BitVec 1 := Scalar.cmpi .eq arg1 c7_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== FfnDwdRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .f32⟩
  | .hbm, ⟨2, _⟩ => ⟨S8192x2816, .f32⟩
  | .hbm, ⟨3, _⟩ => ⟨S_, .f32⟩
  | .hbm, ⟨4, _⟩ => ⟨S2816x1024, .f32⟩
  | .hbm, ⟨5, _⟩ => ⟨S8192x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnDwg.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== FfnDwgRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 12
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S8192x2816, .f32⟩
  | .hbm, ⟨3, _⟩ => ⟨S8192x1024, .f32⟩
  | .hbm, ⟨4, _⟩ => ⟨S_, .f32⟩
  | .hbm, ⟨5, _⟩ => ⟨S2816x1024, .f32⟩
  | .hbm, ⟨6, _⟩ => ⟨S1024x2816, .f32⟩
  | .hbm, ⟨7, _⟩ => ⟨S8192x2816, .f32⟩
  | .hbm, ⟨8, _⟩ => ⟨S2816x1024, .f32⟩
  | .hbm, ⟨9, _⟩ => ⟨S1024x2816, .f32⟩
  | .hbm, ⟨10, _⟩ => ⟨S2816x1024, .f32⟩
  | .hbm, ⟨11, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== XaDwo.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== XaDwoRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S_, .f32⟩
  | .hbm, ⟨4, _⟩ => ⟨S1024x1024, .f32⟩
  | .hbm, ⟨5, _⟩ => ⟨S8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== XaDwq.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v11 : BitVec 1 := Scalar.cmpi .eq arg1 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== XaDwqRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S1024x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OdDwin.lean ====
abbrev S8192x2048 : Shape := ⟨2, ![8192, 2048]⟩
abbrev S8192x1024 : Shape := ⟨2, ![8192, 1024]⟩
abbrev S2048x1024 : Shape := ⟨2, ![2048, 1024]⟩
abbrev S1024x2048 : Shape := ⟨2, ![1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S2048x1024, .bf16⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .bf16⟩
  | .local _ .vmem, ⟨5, _⟩ => ⟨S2048x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== OdDwinRefIdeal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x1024, .bf16⟩
  | .hbm, ⟨2, _⟩ => ⟨S8192x2048, .f32⟩
  | .hbm, ⟨3, _⟩ => ⟨S8192x1024, .f32⟩
  | .hbm, ⟨4, _⟩ => ⟨S_, .f32⟩
  | .hbm, ⟨5, _⟩ => ⟨S2048x1024, .f32⟩
  | .hbm, ⟨6, _⟩ => ⟨S1024x2048, .f32⟩
  | .hbm, ⟨7, _⟩ => ⟨S8192x2048, .f32⟩
  | .hbm, ⟨8, _⟩ => ⟨S2048x1024, .f32⟩
  | .hbm, ⟨9, _⟩ => ⟨S1024x2048, .f32⟩
  | .hbm, ⟨10, _⟩ => ⟨S2048x1024, .f32⟩
  | .hbm, ⟨11, _⟩ => ⟨S2048x1024, .bf16⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== EvDwin.lean ====
abbrev S8192x2560 : Shape := ⟨2, ![8192, 2560]⟩
abbrev S8192x1024 : Shape := ⟨2, ![8192, 1024]⟩
abbrev S2560x1024 : Shape := ⟨2, ![2560, 1024]⟩
abbrev S1024x2560 : Shape := ⟨2, ![1024, 2560]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .bf16⟩
  | .hbm, ⟨2, _⟩ => ⟨S2560x1024, .bf16⟩
  | .local _ .vmem, ⟨0, _⟩ => ⟨S1024x2560, .bf16⟩
  | .local _ .vmem, ⟨1, _⟩ => ⟨S1024x2560, .bf16⟩
  | .local _ .vmem, ⟨2, _⟩ => ⟨S1024x1024, .bf16⟩
  | .local _ .vmem, ⟨3, _⟩ => ⟨S1024x1024, .bf16⟩
  | .local _ .vmem, ⟨4, _⟩ => ⟨S2560x1024, .bf16⟩
  | .local _ .vmem, ⟨5, _⟩ => ⟨S2560x1024, .f32⟩
  | _, _ => ⟨S8192x2560, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2560 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2560x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== EvDwinRefIdeal.lean ====
abbrev S8192x2560 : Shape := ⟨2, ![8192, 2560]⟩
abbrev S8192x1024 : Shape := ⟨2, ![8192, 1024]⟩
abbrev S_ : Shape := ⟨0, ![]⟩
abbrev S2560x1024 : Shape := ⟨2, ![2560, 1024]⟩
abbrev S1024x2560 : Shape := ⟨2, ![1024, 2560]⟩

abbrev nBuf : Space → Nat
  | .hbm => 12
  | .vmem => 0
  | .smem => 0
  | _ => 0

abbrev bufTy : (tb : Table) → Fin (tcTables nBuf tb) → BufTy
  | .hbm, ⟨0, _⟩ => ⟨S8192x2560, .bf16⟩
  | .hbm, ⟨1, _⟩ => ⟨S8192x1024, .bf16⟩
  | .hbm, ⟨2, _⟩ => ⟨S8192x2560, .f32⟩
  | .hbm, ⟨3, _⟩ => ⟨S8192x1024, .f32⟩
  | .hbm, ⟨4, _⟩ => ⟨S_, .f32⟩
  | .hbm, ⟨5, _⟩ => ⟨S2560x1024, .f32⟩
  | .hbm, ⟨6, _⟩ => ⟨S1024x2560, .f32⟩
  | .hbm, ⟨7, _⟩ => ⟨S8192x2560, .f32⟩
  | .hbm, ⟨8, _⟩ => ⟨S2560x1024, .f32⟩
  | .hbm, ⟨9, _⟩ => ⟨S1024x2560, .f32⟩
  | .hbm, ⟨10, _⟩ => ⟨S2560x1024, .f32⟩
  | .hbm, ⟨11, _⟩ => ⟨S2560x1024, .bf16⟩
  | _, _ => ⟨S8192x2560, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== XaDo.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S8192x1024, .bf16⟩
  | .local _ .vmem, ⟨0, _⟩ => ⟨S2048x1024, .f32⟩
  | .local _ .vmem, ⟨1, _⟩ => ⟨S2048x1024, .f32⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XaDoRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .bf16⟩
  | .hbm, ⟨2, _⟩ => ⟨S1024x1024, .f32⟩
  | .hbm, ⟨3, _⟩ => ⟨S_, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== XaQ.lean ====
abbrev S8192x1024 : Shape := ⟨2, ![8192, 1024]⟩
abbrev S1024x1024 : Shape := ⟨2, ![1024, 1024]⟩
abbrev S2048x1024 : Shape := ⟨2, ![2048, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .bf16⟩
  | .local _ .vmem, ⟨4, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== XaQRefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== EvIn.lean ====
abbrev S8192x1024 : Shape := ⟨2, ![8192, 1024]⟩
abbrev S2560x1024 : Shape := ⟨2, ![2560, 1024]⟩
abbrev S8192x2560 : Shape := ⟨2, ![8192, 2560]⟩
abbrev S2048x1024 : Shape := ⟨2, ![2048, 1024]⟩
abbrev S1280x1024 : Shape := ⟨2, ![1280, 1024]⟩
abbrev S2048x1280 : Shape := ⟨2, ![2048, 1280]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2560x1024, .bf16⟩
  | .hbm, ⟨2, _⟩ => ⟨S8192x2560, .f32⟩
  | .local _ .vmem, ⟨0, _⟩ => ⟨S2048x1024, .bf16⟩
  | .local _ .vmem, ⟨1, _⟩ => ⟨S2048x1024, .bf16⟩
  | .local _ .vmem, ⟨2, _⟩ => ⟨S1280x1024, .bf16⟩
  | .local _ .vmem, ⟨3, _⟩ => ⟨S1280x1024, .bf16⟩
  | .local _ .vmem, ⟨4, _⟩ => ⟨S2048x1280, .f32⟩
  | .local _ .vmem, ⟨5, _⟩ => ⟨S2048x1280, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1280x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1280 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== EvInRefIdeal.lean ====
abbrev S8192x1024 : Shape := ⟨2, ![8192, 1024]⟩
abbrev S2560x1024 : Shape := ⟨2, ![2560, 1024]⟩
abbrev S1024x2560 : Shape := ⟨2, ![1024, 2560]⟩
abbrev S8192x2560 : Shape := ⟨2, ![8192, 2560]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2560x1024, .bf16⟩
  | .hbm, ⟨2, _⟩ => ⟨S1024x2560, .bf16⟩
  | .hbm, ⟨3, _⟩ => ⟨S8192x1024, .f32⟩
  | .hbm, ⟨4, _⟩ => ⟨S1024x2560, .f32⟩
  | .hbm, ⟨5, _⟩ => ⟨S8192x2560, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== OdIn.lean ====
abbrev S8192x1024 : Shape := ⟨2, ![8192, 1024]⟩
abbrev S2048x1024 : Shape := ⟨2, ![2048, 1024]⟩
abbrev S8192x2048 : Shape := ⟨2, ![8192, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S8192x2048, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2048x1024, .f32⟩
  | .local _ .vmem, ⟨5, _⟩ => ⟨S2048x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== OdInRefIdeal.lean ====
abbrev S8192x1024 : Shape := ⟨2, ![8192, 1024]⟩
abbrev S2048x1024 : Shape := ⟨2, ![2048, 1024]⟩
abbrev S1024x2048 : Shape := ⟨2, ![1024, 2048]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2048x1024, .bf16⟩
  | .hbm, ⟨2, _⟩ => ⟨S1024x2048, .bf16⟩
  | .hbm, ⟨3, _⟩ => ⟨S8192x1024, .f32⟩
  | .hbm, ⟨4, _⟩ => ⟨S1024x2048, .f32⟩
  | .hbm, ⟨5, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== FfnUp.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2816x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnUpRefIdeal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S1024x2816, .bf16⟩
  | .hbm, ⟨4, _⟩ => ⟨S1024x2816, .bf16⟩
  | .hbm, ⟨5, _⟩ => ⟨S8192x1024, .f32⟩
  | .hbm, ⟨6, _⟩ => ⟨S1024x2816, .f32⟩
  | .hbm, ⟨7, _⟩ => ⟨S1024x2816, .f32⟩
  | .hbm, ⟨8, _⟩ => ⟨S8192x2816, .f32⟩
  | .hbm, ⟨9, _⟩ => ⟨S8192x2816, .f32⟩
  | .hbm, ⟨10, _⟩ => ⟨S8192x2816, .bf16⟩
  | .hbm, ⟨11, _⟩ => ⟨S8192x2816, .bf16⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩

abbrev nD : Nat := 1
abbrev τ : Topo := Topo.v7x

variable {F : FTy → Type} [FloatOps F]
-- ==== FfnDown.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024x2816 : Shape := ⟨2, ![1024, 2816]⟩
abbrev S1024x1024 : Shape := ⟨2, ![1024, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== FfnDownRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== XaO.lean ====
abbrev S8192x1024 : Shape := ⟨2, ![8192, 1024]⟩
abbrev S1024x1024 : Shape := ⟨2, ![1024, 1024]⟩
abbrev S1x1024 : Shape := ⟨2, ![1, 1024]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | .local _ .vmem, ⟨3, _⟩ => ⟨S2048x1024, .f32⟩
  | .local _ .vmem, ⟨4, _⟩ => ⟨S2048x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .bf16⟩
  | .local _ .vmem, ⟨9, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S2048x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2048x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== XaORefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== FfnLoss.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1x128 : Shape := ⟨2, ![1, 128]⟩
abbrev S1024x2816 : Shape := ⟨2, ![1024, 2816]⟩
abbrev S1024x1024 : Shape := ⟨2, ![1024, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1x128, .f32⟩
  | .hbm, ⟨6, _⟩ => ⟨S8192x1024, .f32⟩
  | .hbm, ⟨7, _⟩ => ⟨S1x1024, .f32⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1x128, .f32⟩
  | .local _ .vmem, ⟨9, _⟩ => ⟨S1024x1024, .f32⟩
  | .local _ .vmem, ⟨10, _⟩ => ⟨S1024x1024, .f32⟩
  | .local _ .vmem, ⟨11, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, true]
-- ==== FfnLossRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 75
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x2816, .f32⟩
  | .hbm, ⟨6, _⟩ => ⟨S2816x1024, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192, .f32⟩
  | .hbm, ⟨35, _⟩ => ⟨S_, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S8192, .f32⟩
  | .hbm, ⟨46, _⟩ => ⟨S_, .f32⟩
  | .hbm, ⟨47, _⟩ => ⟨S8192, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S_, .f32⟩
  | .hbm, ⟨59, _⟩ => ⟨S8192, .f32⟩
  | .hbm, ⟨60, _⟩ => ⟨S8192x1, .f32⟩
  | .hbm, ⟨61, _⟩ => ⟨S8192x1024, .f32⟩
  | .hbm, ⟨62, _⟩ => ⟨S8192x1024, .f32⟩
  | .hbm, ⟨63, _⟩ => ⟨S8192x1, .f32⟩
  | .hbm, ⟨64, _⟩ => ⟨S_, .f32⟩
  | .hbm, ⟨65, _⟩ => ⟨S8192x1, .f32⟩
  | .hbm, ⟨66, _⟩ => ⟨S8192x1, .f32⟩
  | .hbm, ⟨67, _⟩ => ⟨S_, .f32⟩
  | .hbm, ⟨68, _⟩ => ⟨S8192, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .f32⟩
  | .hbm, ⟨74, _⟩ => ⟨S1x128, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩

abbrev nD : Nat := 1
abbrev τ : Topo := Topo.v7x

variable {F : FTy → Type} [FloatOps F]
-- ==== AdamwNorms.lean ====
abbrev S2x1024 : Shape := ⟨2, ![2, 1024]⟩

abbrev nBuf : Space → Nat
  | .hbm => 21
  | .vmem => 21
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S2x1024, .f32⟩
  | .hbm, ⟨20, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | .local _ .vmem, ⟨8, _⟩ => ⟨S2x1024, .f32⟩
  | .local _ .vmem, ⟨9, _⟩ => ⟨S2x1024, .f32⟩
  | .local _ .vmem, ⟨10, _⟩ => ⟨S2x1024, .f32⟩
  | .local _ .vmem, ⟨11, _⟩ => ⟨S2x1024, .f32⟩
  | .local _ .vmem, ⟨12, _⟩ => ⟨S2x1024, .f32⟩
  | .local _ .vmem, ⟨13, _⟩ => ⟨S2x1024, .f32⟩
  | .local _ .vmem, ⟨14, _⟩ => ⟨S2x1024, .f32⟩
  | .local _ .vmem, ⟨15, _⟩ => ⟨S2x1024, .f32⟩
  | .local _ .vmem, ⟨16, _⟩ => ⟨S2x1024, .f32⟩
  | .local _ .vmem, ⟨17, _⟩ => ⟨S2x1024, .f32⟩
  | .local _ .vmem, ⟨18, _⟩ => ⟨S2x1024, .f32⟩
  | .local _ .vmem, ⟨19, _⟩ => ⟨S2x1024, .f32⟩
  | .local _ .vmem, ⟨20, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamwNormsIdeal.lean ====
abbrev S2x1024 : Shape := ⟨2, ![2, 1024]⟩

abbrev nBuf : Space → Nat
  | .hbm => 21
  | .vmem => 21
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024, .f32⟩
  | .hbm, ⟨13, _⟩ => ⟨S2x1024, .f32⟩
  | .hbm, ⟨14, _⟩ => ⟨S2x1024, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S2x1024, .f32⟩
  | .hbm, ⟨20, _⟩ => ⟨S2x1024, .f32⟩
  | .local _ .vmem, ⟨0, _⟩ => ⟨S2x1024, .f32⟩
  | .local _ .vmem, ⟨1, _⟩ => ⟨S2x1024, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x1024, .f32⟩
  | .local _ .vmem, ⟨6, _⟩ => ⟨S2x1024, .f32⟩
  | .local _ .vmem, ⟨7, _⟩ => ⟨S2x1024, .f32⟩
  | .local _ .vmem, ⟨8, _⟩ => ⟨S2x1024, .f32⟩
  | .local _ .vmem, ⟨9, _⟩ => ⟨S2x1024, .f32⟩
  | .local _ .vmem, ⟨10, _⟩ => ⟨S2x1024, .f32⟩
  | .local _ .vmem, ⟨11, _⟩ => ⟨S2x1024, .f32⟩
  | .local _ .vmem, ⟨12, _⟩ => ⟨S2x1024, .f32⟩
  | .local _ .vmem, ⟨13, _⟩ => ⟨S2x1024, .f32⟩
  | .local _ .vmem, ⟨14, _⟩ => ⟨S2x1024, .f32⟩
  | .local _ .vmem, ⟨15, _⟩ => ⟨S2x1024, .f32⟩
  | .local _ .vmem, ⟨16, _⟩ => ⟨S2x1024, .f32⟩
  | .local _ .vmem, ⟨17, _⟩ => ⟨S2x1024, .f32⟩
  | .local _ .vmem, ⟨18, _⟩ => ⟨S2x1024, .f32⟩
  | .local _ .vmem, ⟨19, _⟩ => ⟨S2x1024, .f32⟩
  | .local _ .vmem, ⟨20, _⟩ => ⟨S2x1024, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S2x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S2x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S2x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S2x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S2x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S2x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S2x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamwNormsRefIdeal.lean ====
abbrev S2x1024 : Shape := ⟨2, ![2, 1024]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S2x1024, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x1024, .f32⟩
  | .hbm, ⟨6, _⟩ => ⟨S2x1024, .f32⟩
  | .hbm, ⟨7, _⟩ => ⟨S2x1024, .f32⟩
  | .hbm, ⟨8, _⟩ => ⟨S2x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S_, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S2x1024, .f32⟩
  | .hbm, ⟨23, _⟩ => ⟨S_, .f32⟩
  | .hbm, ⟨24, _⟩ => ⟨S2x1024, .f32⟩
  | .hbm, ⟨25, _⟩ => ⟨S2x1024, .f32⟩
  | .hbm, ⟨26, _⟩ => ⟨S2x1024, .f32⟩
  | .hbm, ⟨27, _⟩ => ⟨S_, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | .hbm, ⟨37, _⟩ => ⟨S2x1024, .f32⟩
  | .hbm, ⟨38, _⟩ => ⟨S_, .f32⟩
  | .hbm, ⟨39, _⟩ => ⟨S2x1024, .f32⟩
  | .hbm, ⟨40, _⟩ => ⟨S2x1024, .f32⟩
  | .hbm, ⟨41, _⟩ => ⟨S2x1024, .f32⟩
  | .hbm, ⟨42, _⟩ => ⟨S_, .f32⟩
  | .hbm, ⟨43, _⟩ => ⟨S2x1024, .f32⟩
  | .hbm, ⟨44, _⟩ => ⟨S2x1024, .f32⟩
  | .hbm, ⟨45, _⟩ => ⟨S_, .f32⟩
  | .hbm, ⟨46, _⟩ => ⟨S2x1024, .f32⟩
  | .hbm, ⟨47, _⟩ => ⟨S2x1024, .f32⟩
  | .hbm, ⟨48, _⟩ => ⟨S_, .f32⟩
  | .hbm, ⟨49, _⟩ => ⟨S2x1024, .f32⟩
  | .hbm, ⟨50, _⟩ => ⟨S2x1024, .f32⟩
  | .hbm, ⟨51, _⟩ => ⟨S2x1024, .f32⟩
  | .hbm, ⟨52, _⟩ => ⟨S_, .f32⟩
  | .hbm, ⟨53, _⟩ => ⟨S2x1024, .f32⟩
  | .hbm, ⟨54, _⟩ => ⟨S2x1024, .f32⟩
  | .hbm, ⟨55, _⟩ => ⟨S2x1024, .f32⟩
  | .hbm, ⟨56, _⟩ => ⟨S_, .f32⟩
  | .hbm, ⟨57, _⟩ => ⟨S2x1024, .f32⟩
  | .hbm, ⟨58, _⟩ => ⟨S2x1024, .f32⟩
  | .hbm, ⟨59, _⟩ => ⟨S2x1024, .f32⟩
  | .hbm, ⟨60, _⟩ => ⟨S_, .f32⟩
  | .hbm, ⟨61, _⟩ => ⟨S2x1024, .f32⟩
  | .hbm, ⟨62, _⟩ => ⟨S2x1024, .f32⟩
  | .hbm, ⟨63, _⟩ => ⟨S_, .f32⟩
  | .hbm, ⟨64, _⟩ => ⟨S2x1024, .f32⟩
  | .hbm, ⟨65, _⟩ => ⟨S2x1024, .f32⟩
  | .hbm, ⟨66, _⟩ => ⟨S2x1024, .f32⟩
  | .hbm, ⟨67, _⟩ => ⟨S_, .f32⟩
  | .hbm, ⟨68, _⟩ => ⟨S2x1024, .f32⟩
  | .hbm, ⟨69, _⟩ => ⟨S2x1024, .f32⟩
  | .hbm, ⟨70, _⟩ => ⟨S2x1024, .f32⟩
  | .hbm, ⟨71, _⟩ => ⟨S_, .f32⟩
  | .hbm, ⟨72, _⟩ => ⟨S2x1024, .f32⟩
  | .hbm, ⟨73, _⟩ => ⟨S2x1024, .f32⟩
  | .hbm, ⟨74, _⟩ => ⟨S2x1024, .f32⟩
  | .hbm, ⟨75, _⟩ => ⟨S_, .f32⟩
  | .hbm, ⟨76, _⟩ => ⟨S2x1024, .f32⟩
  | .hbm, ⟨77, _⟩ => ⟨S2x1024, .f32⟩
  | .hbm, ⟨78, _⟩ => ⟨S_, .f32⟩
  | .hbm, ⟨79, _⟩ => ⟨S2x1024, .f32⟩
  | .hbm, ⟨80, _⟩ => ⟨S2x1024, .f32⟩
  | .hbm, ⟨81, _⟩ => ⟨S_, .f32⟩
  | .hbm, ⟨82, _⟩ => ⟨S2x1024, .f32⟩
  | .hbm, ⟨83, _⟩ => ⟨S2x1024, .f32⟩
  | .hbm, ⟨84, _⟩ => ⟨S2x1024, .f32⟩
  | .hbm, ⟨85, _⟩ => ⟨S_, .f32⟩
  | .hbm, ⟨86, _⟩ => ⟨S2x1024, .f32⟩
  | .hbm, ⟨87, _⟩ => ⟨S2x1024, .f32⟩
  | .hbm, ⟨88, _⟩ => ⟨S2x1024, .f32⟩
  | .hbm, ⟨89, _⟩ => ⟨S_, .f32⟩
  | .hbm, ⟨90, _⟩ => ⟨S2x1024, .f32⟩
  | .hbm, ⟨91, _⟩ => ⟨S2x1024, .f32⟩
  | .hbm, ⟨92, _⟩ => ⟨S2x1024, .f32⟩
  | .hbm, ⟨93, _⟩ => ⟨S_, .f32⟩
  | .hbm, ⟨94, _⟩ => ⟨S2x1024, .f32⟩
  | .hbm, ⟨95, _⟩ => ⟨S2x1024, .f32⟩
  | .hbm, ⟨96, _⟩ => ⟨S_, .f32⟩
  | .hbm, ⟨97, _⟩ => ⟨S2x1024, .f32⟩
  | .hbm, ⟨98, _⟩ => ⟨S2x1024, .f32⟩
  | .hbm, ⟨99, _⟩ => ⟨S2x1024, .f32⟩
  | .hbm, ⟨100, _⟩ => ⟨S_, .f32⟩
  | .hbm, ⟨101, _⟩ => ⟨S2x1024, .f32⟩
  | .hbm, ⟨102, _⟩ => ⟨S2x1024, .f32⟩
  | .hbm, ⟨103, _⟩ => ⟨S2x1024, .f32⟩
  | .hbm, ⟨104, _⟩ => ⟨S_, .f32⟩
  | .hbm, ⟨105, _⟩ => ⟨S2x1024, .f32⟩
  | .hbm, ⟨106, _⟩ => ⟨S2x1024, .f32⟩
  | .hbm, ⟨107, _⟩ => ⟨S2x1024, .f32⟩
  | .hbm, ⟨108, _⟩ => ⟨S_, .f32⟩
  | .hbm, ⟨109, _⟩ => ⟨S2x1024, .f32⟩
  | .hbm, ⟨110, _⟩ => ⟨S2x1024, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== AdamwMixed.lean ====
abbrev S2x1024 : Shape := ⟨2, ![2, 1024]⟩
abbrev S1x1024 : Shape := ⟨2, ![1, 1024]⟩
abbrev S1x512 : Shape := ⟨2, ![1, 512]⟩

abbrev nBuf : Space → Nat
  | .hbm => 21
  | .vmem => 21
  | .smem => 0
  | _ => 0

abbrev bufTy : (tb : Table) → Fin (tcTables nBuf tb) → BufTy
  | .hbm, ⟨0, _⟩ => ⟨S2x1024, .f32⟩
  | .hbm, ⟨1, _⟩ => ⟨S1x1024, .f32⟩
  | .hbm, ⟨2, _⟩ => ⟨S1x512, .f32⟩
  | .hbm, ⟨3, _⟩ => ⟨S2x1024, .f32⟩
  | .hbm, ⟨4, _⟩ => ⟨S1x1024, .f32⟩
  | .hbm, ⟨5, _⟩ => ⟨S1x512, .f32⟩
  | .hbm, ⟨6, _⟩ => ⟨S2x1024, .f32⟩
  | .hbm, ⟨7, _⟩ => ⟨S1x1024, .f32⟩
  | .hbm, ⟨8, _⟩ => ⟨S1x512, .f32⟩
  | .hbm, ⟨9, _⟩ => ⟨S2x1024, .f32⟩
  | .hbm, ⟨10, _⟩ => ⟨S1x1024, .f32⟩
  | .hbm, ⟨11, _⟩ => ⟨S1x512, .f32⟩
  | .hbm, ⟨12, _⟩ => ⟨S2x1024, .f32⟩
  | .hbm, ⟨13, _⟩ => ⟨S1x1024, .f32⟩
  | .hbm, ⟨14, _⟩ => ⟨S1x512, .f32⟩
  | .hbm, ⟨15, _⟩ => ⟨S2x1024, .f32⟩
  | .hbm, ⟨16, _⟩ => ⟨S1x1024, .f32⟩
  | .hbm, ⟨17, _⟩ => ⟨S1x512, .f32⟩
  | .hbm, ⟨18, _⟩ => ⟨S2x1024, .f32⟩
  | .hbm, ⟨19, _⟩ => ⟨S1x1024, .f32⟩
  | .hbm, ⟨20, _⟩ => ⟨S1x512, .f32⟩
  | .local _ .vmem, ⟨0, _⟩ => ⟨S2x1024, .f32⟩
  | .local _ .vmem, ⟨1, _⟩ => ⟨S1x1024, .f32⟩
  | .local _ .vmem, ⟨2, _⟩ => ⟨S1x512, .f32⟩
  | .local _ .vmem, ⟨3, _⟩ => ⟨S2x1024, .f32⟩
  | .local _ .vmem, ⟨4, _⟩ => ⟨S1x1024, .f32⟩
  | .local _ .vmem, ⟨5, _⟩ => ⟨S1x512, .f32⟩
  | .local _ .vmem, ⟨6, _⟩ => ⟨S2x1024, .f32⟩
  | .local _ .vmem, ⟨7, _⟩ => ⟨S1x1024, .f32⟩
  | .local _ .vmem, ⟨8, _⟩ => ⟨S1x512, .f32⟩
  | .local _ .vmem, ⟨9, _⟩ => ⟨S2x1024, .f32⟩
  | .local _ .vmem, ⟨10, _⟩ => ⟨S1x1024, .f32⟩
  | .local _ .vmem, ⟨11, _⟩ => ⟨S1x512, .f32⟩
  | .local _ .vmem, ⟨12, _⟩ => ⟨S2x1024, .f32⟩
  | .local _ .vmem, ⟨13, _⟩ => ⟨S1x1024, .f32⟩
  | .local _ .vmem, ⟨14, _⟩ => ⟨S1x512, .f32⟩
  | .local _ .vmem, ⟨15, _⟩ => ⟨S2x1024, .f32⟩
  | .local _ .vmem, ⟨16, _⟩ => ⟨S1x1024, .f32⟩
  | .local _ .vmem, ⟨17, _⟩ => ⟨S1x512, .f32⟩
  | .local _ .vmem, ⟨18, _⟩ => ⟨S2x1024, .f32⟩
  | .local _ .vmem, ⟨19, _⟩ => ⟨S1x1024, .f32⟩
  | .local _ .vmem, ⟨20, _⟩ => ⟨S1x512, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamwMixedIdeal.lean ====
abbrev S2x1024 : Shape := ⟨2, ![2, 1024]⟩
abbrev S1x1024 : Shape := ⟨2, ![1, 1024]⟩
abbrev S1x512 : Shape := ⟨2, ![1, 512]⟩

abbrev nBuf : Space → Nat
  | .hbm => 21
  | .vmem => 21
  | .smem => 0
  | _ => 0

abbrev bufTy : (tb : Table) → Fin (tcTables nBuf tb) → BufTy
  | .hbm, ⟨0, _⟩ => ⟨S2x1024, .f32⟩
  | .hbm, ⟨1, _⟩ => ⟨S1x1024, .f32⟩
  | .hbm, ⟨2, _⟩ => ⟨S1x512, .f32⟩
  | .hbm, ⟨3, _⟩ => ⟨S2x1024, .f32⟩
  | .hbm, ⟨4, _⟩ => ⟨S1x1024, .f32⟩
  | .hbm, ⟨5, _⟩ => ⟨S1x512, .f32⟩
  | .hbm, ⟨6, _⟩ => ⟨S2x1024, .f32⟩
  | .hbm, ⟨7, _⟩ => ⟨S1x1024, .f32⟩
  | .hbm, ⟨8, _⟩ => ⟨S1x512, .f32⟩
  | .hbm, ⟨9, _⟩ => ⟨S2x1024, .f32⟩
  | .hbm, ⟨10, _⟩ => ⟨S1x1024, .f32⟩
  | .hbm, ⟨11, _⟩ => ⟨S1x512, .f32⟩
  | .hbm, ⟨12, _⟩ => ⟨S2x1024, .f32⟩
  | .hbm, ⟨13, _⟩ => ⟨S1x1024, .f32⟩
  | .hbm, ⟨14, _⟩ => ⟨S1x512, .f32⟩
  | .hbm, ⟨15, _⟩ => ⟨S2x1024, .f32⟩
  | .hbm, ⟨16, _⟩ => ⟨S1x1024, .f32⟩
  | .hbm, ⟨17, _⟩ => ⟨S1x512, .f32⟩
  | .hbm, ⟨18, _⟩ => ⟨S2x1024, .f32⟩
  | .hbm, ⟨19, _⟩ => ⟨S1x1024, .f32⟩
  | .hbm, ⟨20, _⟩ => ⟨S1x512, .f32⟩
  | .local _ .vmem, ⟨0, _⟩ => ⟨S2x1024, .f32⟩
  | .local _ .vmem, ⟨1, _⟩ => ⟨S1x1024, .f32⟩
  | .local _ .vmem, ⟨2, _⟩ => ⟨S1x512, .f32⟩
  | .local _ .vmem, ⟨3, _⟩ => ⟨S2x1024, .f32⟩
  | .local _ .vmem, ⟨4, _⟩ => ⟨S1x1024, .f32⟩
  | .local _ .vmem, ⟨5, _⟩ => ⟨S1x512, .f32⟩
  | .local _ .vmem, ⟨6, _⟩ => ⟨S2x1024, .f32⟩
  | .local _ .vmem, ⟨7, _⟩ => ⟨S1x1024, .f32⟩
  | .local _ .vmem, ⟨8, _⟩ => ⟨S1x512, .f32⟩
  | .local _ .vmem, ⟨9, _⟩ => ⟨S2x1024, .f32⟩
  | .local _ .vmem, ⟨10, _⟩ => ⟨S1x1024, .f32⟩
  | .local _ .vmem, ⟨11, _⟩ => ⟨S1x512, .f32⟩
  | .local _ .vmem, ⟨12, _⟩ => ⟨S2x1024, .f32⟩
  | .local _ .vmem, ⟨13, _⟩ => ⟨S1x1024, .f32⟩
  | .local _ .vmem, ⟨14, _⟩ => ⟨S1x512, .f32⟩
  | .local _ .vmem, ⟨15, _⟩ => ⟨S2x1024, .f32⟩
  | .local _ .vmem, ⟨16, _⟩ => ⟨S1x1024, .f32⟩
  | .local _ .vmem, ⟨17, _⟩ => ⟨S1x512, .f32⟩
  | .local _ .vmem, ⟨18, _⟩ => ⟨S2x1024, .f32⟩
  | .local _ .vmem, ⟨19, _⟩ => ⟨S1x1024, .f32⟩
  | .local _ .vmem, ⟨20, _⟩ => ⟨S1x512, .f32⟩
  | _, _ => ⟨S2x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S2x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S2x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S2x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S2x1024 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1024 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamwMixedRefIdeal.lean ====
abbrev S2x1024 : Shape := ⟨2, ![2, 1024]⟩
abbrev S1x1024 : Shape := ⟨2, ![1, 1024]⟩
abbrev S1x512 : Shape := ⟨2, ![1, 512]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S2x1024, .f32⟩
  | .hbm, ⟨1, _⟩ => ⟨S1x1024, .f32⟩
  | .hbm, ⟨2, _⟩ => ⟨S1x512, .f32⟩
  | .hbm, ⟨3, _⟩ => ⟨S2x1024, .f32⟩
  | .hbm, ⟨4, _⟩ => ⟨S1x1024, .f32⟩
  | .hbm, ⟨5, _⟩ => ⟨S1x512, .f32⟩
  | .hbm, ⟨6, _⟩ => ⟨S2x1024, .f32⟩
  | .hbm, ⟨7, _⟩ => ⟨S1x1024, .f32⟩
  | .hbm, ⟨8, _⟩ => ⟨S1x512, .f32⟩
  | .hbm, ⟨9, _⟩ => ⟨S2x1024, .f32⟩
  | .hbm, ⟨10, _⟩ => ⟨S1x1024, .f32⟩
  | .hbm, ⟨11, _⟩ => ⟨S1x512, .f32⟩
  | .hbm, ⟨12, _⟩ => ⟨S_, .f32⟩
  | .hbm, ⟨13, _⟩ => ⟨S2x1024, .f32⟩
  | .hbm, ⟨14, _⟩ => ⟨S2x1024, .f32⟩
  | .hbm, ⟨15, _⟩ => ⟨S_, .f32⟩
  | .hbm, ⟨16, _⟩ => ⟨S2x1024, .f32⟩
  | .hbm, ⟨17, _⟩ => ⟨S2x1024, .f32⟩
  | .hbm, ⟨18, _⟩ => ⟨S2x1024, .f32⟩
  | .hbm, ⟨19, _⟩ => ⟨S_, .f32⟩
  | .hbm, ⟨20, _⟩ => ⟨S2x1024, .f32⟩
  | .hbm, ⟨21, _⟩ => ⟨S2x1024, .f32⟩
  | .hbm, ⟨22, _⟩ => ⟨S2x1024, .f32⟩
  | .hbm, ⟨23, _⟩ => ⟨S_, .f32⟩
  | .hbm, ⟨24, _⟩ => ⟨S2x1024, .f32⟩
  | .hbm, ⟨25, _⟩ => ⟨S2x1024, .f32⟩
  | .hbm, ⟨26, _⟩ => ⟨S2x1024, .f32⟩
  | .hbm, ⟨27, _⟩ => ⟨S_, .f32⟩
  | .hbm, ⟨28, _⟩ => ⟨S2x1024, .f32⟩
  | .hbm, ⟨29, _⟩ => ⟨S2x1024, .f32⟩
  | .hbm, ⟨30, _⟩ => ⟨S_, .f32⟩
  | .hbm, ⟨31, _⟩ => ⟨S2x1024, .f32⟩
  | .hbm, ⟨32, _⟩ => ⟨S2x1024, .f32⟩
  | .hbm, ⟨33, _⟩ => ⟨S2x1024, .f32⟩
  | .hbm, ⟨34, _⟩ => ⟨S_, .f32⟩
  | .hbm, ⟨35, _⟩ => ⟨S2x1024, .f32⟩
  | .hbm, ⟨36, _⟩ => ⟨S2x1024, .f32⟩
  | .hbm, ⟨37, _⟩ => ⟨S2x1024, .f32⟩
  | .hbm, ⟨38, _⟩ => ⟨S_, .f32⟩
  | .hbm, ⟨39, _⟩ => ⟨S2x1024, .f32⟩
  | .hbm, ⟨40, _⟩ => ⟨S2x1024, .f32⟩
  | .hbm, ⟨41, _⟩ => ⟨S2x1024, .f32⟩
  | .hbm, ⟨42, _⟩ => ⟨S_, .f32⟩
  | .hbm, ⟨43, _⟩ => ⟨S2x1024, .f32⟩
  | .hbm, ⟨44, _⟩ => ⟨S2x1024, .f32⟩
  | .hbm, ⟨45, _⟩ => ⟨S_, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S1x1024, .f32⟩
  | .hbm, ⟨52, _⟩ => ⟨S_, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S_, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S_, .f32⟩
  | .hbm, ⟨68, _⟩ => ⟨S1x1024, .f32⟩
  | .hbm, ⟨69, _⟩ => ⟨S1x1024, .f32⟩
  | .hbm, ⟨70, _⟩ => ⟨S1x1024, .f32⟩
  | .hbm, ⟨71, _⟩ => ⟨S_, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S_, .f32⟩
  | .hbm, ⟨76, _⟩ => ⟨S1x1024, .f32⟩
  | .hbm, ⟨77, _⟩ => ⟨S1x1024, .f32⟩
  | .hbm, ⟨78, _⟩ => ⟨S_, .f32⟩
  | .hbm, ⟨79, _⟩ => ⟨S1x512, .f32⟩
  | .hbm, ⟨80, _⟩ => ⟨S1x512, .f32⟩
  | .hbm, ⟨81, _⟩ => ⟨S_, .f32⟩
  | .hbm, ⟨82, _⟩ => ⟨S1x512, .f32⟩
  | .hbm, ⟨83, _⟩ => ⟨S1x512, .f32⟩
  | .hbm, ⟨84, _⟩ => ⟨S1x512, .f32⟩
  | .hbm, ⟨85, _⟩ => ⟨S_, .f32⟩
  | .hbm, ⟨86, _⟩ => ⟨S1x512, .f32⟩
  | .hbm, ⟨87, _⟩ => ⟨S1x512, .f32⟩
  | .hbm, ⟨88, _⟩ => ⟨S1x512, .f32⟩
  | .hbm, ⟨89, _⟩ => ⟨S_, .f32⟩
  | .hbm, ⟨90, _⟩ => ⟨S1x512, .f32⟩
  | .hbm, ⟨91, _⟩ => ⟨S1x512, .f32⟩
  | .hbm, ⟨92, _⟩ => ⟨S1x512, .f32⟩
  | .hbm, ⟨93, _⟩ => ⟨S_, .f32⟩
  | .hbm, ⟨94, _⟩ => ⟨S1x512, .f32⟩
  | .hbm, ⟨95, _⟩ => ⟨S1x512, .f32⟩
  | .hbm, ⟨96, _⟩ => ⟨S_, .f32⟩
  | .hbm, ⟨97, _⟩ => ⟨S1x512, .f32⟩
  | .hbm, ⟨98, _⟩ => ⟨S1x512, .f32⟩
  | .hbm, ⟨99, _⟩ => ⟨S1x512, .f32⟩
  | .hbm, ⟨100, _⟩ => ⟨S_, .f32⟩
  | .hbm, ⟨101, _⟩ => ⟨S1x512, .f32⟩
  | .hbm, ⟨102, _⟩ => ⟨S1x512, .f32⟩
  | .hbm, ⟨103, _⟩ => ⟨S1x512, .f32⟩
  | .hbm, ⟨104, _⟩ => ⟨S_, .f32⟩
  | .hbm, ⟨105, _⟩ => ⟨S1x512, .f32⟩
  | .hbm, ⟨106, _⟩ => ⟨S1x512, .f32⟩
  | .hbm, ⟨107, _⟩ => ⟨S1x512, .f32⟩
  | .hbm, ⟨108, _⟩ => ⟨S_, .f32⟩
  | .hbm, ⟨109, _⟩ => ⟨S1x512, .f32⟩
  | .hbm, ⟨110, _⟩ => ⟨S1x512, .f32⟩
  | _, _ => ⟨S2x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== AdamwEven.lean ====
abbrev S1x512 : Shape := ⟨2, ![1, 512]⟩

abbrev nBuf : Space → Nat
  | .hbm => 21
  | .vmem => 21
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamwEvenIdeal.lean ====
abbrev S1x512 : Shape := ⟨2, ![1, 512]⟩

abbrev nBuf : Space → Nat
  | .hbm => 21
  | .vmem => 21
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S1x512, .f32⟩
  | .hbm, ⟨14, _⟩ => ⟨S1x512, .f32⟩
  | .hbm, ⟨15, _⟩ => ⟨S1x512, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S1x512, .f32⟩
  | .hbm, ⟨20, _⟩ => ⟨S1x512, .f32⟩
  | .local _ .vmem, ⟨0, _⟩ => ⟨S1x512, .f32⟩
  | .local _ .vmem, ⟨1, _⟩ => ⟨S1x512, .f32⟩
  | .local _ .vmem, ⟨2, _⟩ => ⟨S1x512, .f32⟩
  | .local _ .vmem, ⟨3, _⟩ => ⟨S1x512, .f32⟩
  | .local _ .vmem, ⟨4, _⟩ => ⟨S1x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S1x512, .f32⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1x512, .f32⟩
  | .local _ .vmem, ⟨20, _⟩ => ⟨S1x512, .f32⟩
  | _, _ => ⟨S1x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x512 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x512 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamwEvenRefIdeal.lean ====
abbrev S1x512 : Shape := ⟨2, ![1, 512]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1x512, .f32⟩
  | .hbm, ⟨1, _⟩ => ⟨S1x512, .f32⟩
  | .hbm, ⟨2, _⟩ => ⟨S1x512, .f32⟩
  | .hbm, ⟨3, _⟩ => ⟨S1x512, .f32⟩
  | .hbm, ⟨4, _⟩ => ⟨S1x512, .f32⟩
  | .hbm, ⟨5, _⟩ => ⟨S1x512, .f32⟩
  | .hbm, ⟨6, _⟩ => ⟨S1x512, .f32⟩
  | .hbm, ⟨7, _⟩ => ⟨S1x512, .f32⟩
  | .hbm, ⟨8, _⟩ => ⟨S1x512, .f32⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S_, .f32⟩
  | .hbm, ⟨13, _⟩ => ⟨S1x512, .f32⟩
  | .hbm, ⟨14, _⟩ => ⟨S1x512, .f32⟩
  | .hbm, ⟨15, _⟩ => ⟨S_, .f32⟩
  | .hbm, ⟨16, _⟩ => ⟨S1x512, .f32⟩
  | .hbm, ⟨17, _⟩ => ⟨S1x512, .f32⟩
  | .hbm, ⟨18, _⟩ => ⟨S1x512, .f32⟩
  | .hbm, ⟨19, _⟩ => ⟨S_, .f32⟩
  | .hbm, ⟨20, _⟩ => ⟨S1x512, .f32⟩
  | .hbm, ⟨21, _⟩ => ⟨S1x512, .f32⟩
  | .hbm, ⟨22, _⟩ => ⟨S1x512, .f32⟩
  | .hbm, ⟨23, _⟩ => ⟨S_, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S_, .f32⟩
  | .hbm, ⟨28, _⟩ => ⟨S1x512, .f32⟩
  | .hbm, ⟨29, _⟩ => ⟨S1x512, .f32⟩
  | .hbm, ⟨30, _⟩ => ⟨S_, .f32⟩
  | .hbm, ⟨31, _⟩ => ⟨S1x512, .f32⟩
  | .hbm, ⟨32, _⟩ => ⟨S1x512, .f32⟩
  | .hbm, ⟨33, _⟩ => ⟨S1x512, .f32⟩
  | .hbm, ⟨34, _⟩ => ⟨S_, .f32⟩
  | .hbm, ⟨35, _⟩ => ⟨S1x512, .f32⟩
  | .hbm, ⟨36, _⟩ => ⟨S1x512, .f32⟩
  | .hbm, ⟨37, _⟩ => ⟨S1x512, .f32⟩
  | .hbm, ⟨38, _⟩ => ⟨S_, .f32⟩
  | .hbm, ⟨39, _⟩ => ⟨S1x512, .f32⟩
  | .hbm, ⟨40, _⟩ => ⟨S1x512, .f32⟩
  | .hbm, ⟨41, _⟩ => ⟨S1x512, .f32⟩
  | .hbm, ⟨42, _⟩ => ⟨S_, .f32⟩
  | .hbm, ⟨43, _⟩ => ⟨S1x512, .f32⟩
  | .hbm, ⟨44, _⟩ => ⟨S1x512, .f32⟩
  | .hbm, ⟨45, _⟩ => ⟨S_, .f32⟩
  | .hbm, ⟨46, _⟩ => ⟨S1x512, .f32⟩
  | .hbm, ⟨47, _⟩ => ⟨S1x512, .f32⟩
  | .hbm, ⟨48, _⟩ => ⟨S_, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S_, .f32⟩
  | .hbm, ⟨53, _⟩ => ⟨S1x512, .f32⟩
  | .hbm, ⟨54, _⟩ => ⟨S1x512, .f32⟩
  | .hbm, ⟨55, _⟩ => ⟨S1x512, .f32⟩
  | .hbm, ⟨56, _⟩ => ⟨S_, .f32⟩
  | .hbm, ⟨57, _⟩ => ⟨S1x512, .f32⟩
  | .hbm, ⟨58, _⟩ => ⟨S1x512, .f32⟩
  | .hbm, ⟨59, _⟩ => ⟨S1x512, .f32⟩
  | .hbm, ⟨60, _⟩ => ⟨S_, .f32⟩
  | .hbm, ⟨61, _⟩ => ⟨S1x512, .f32⟩
  | .hbm, ⟨62, _⟩ => ⟨S1x512, .f32⟩
  | .hbm, ⟨63, _⟩ => ⟨S_, .f32⟩
  | .hbm, ⟨64, _⟩ => ⟨S1x512, .f32⟩
  | .hbm, ⟨65, _⟩ => ⟨S1x512, .f32⟩
  | .hbm, ⟨66, _⟩ => ⟨S1x512, .f32⟩
  | .hbm, ⟨67, _⟩ => ⟨S_, .f32⟩
  | .hbm, ⟨68, _⟩ => ⟨S1x512, .f32⟩
  | .hbm, ⟨69, _⟩ => ⟨S1x512, .f32⟩
  | .hbm, ⟨70, _⟩ => ⟨S1x512, .f32⟩
  | .hbm, ⟨71, _⟩ => ⟨S_, .f32⟩
  | .hbm, ⟨72, _⟩ => ⟨S1x512, .f32⟩
  | .hbm, ⟨73, _⟩ => ⟨S1x512, .f32⟩
  | .hbm, ⟨74, _⟩ => ⟨S1x512, .f32⟩
  | .hbm, ⟨75, _⟩ => ⟨S_, .f32⟩
  | .hbm, ⟨76, _⟩ => ⟨S1x512, .f32⟩
  | .hbm, ⟨77, _⟩ => ⟨S1x512, .f32⟩
  | .hbm, ⟨78, _⟩ => ⟨S_, .f32⟩
  | .hbm, ⟨79, _⟩ => ⟨S1x512, .f32⟩
  | .hbm, ⟨80, _⟩ => ⟨S1x512, .f32⟩
  | .hbm, ⟨81, _⟩ => ⟨S_, .f32⟩
  | .hbm, ⟨82, _⟩ => ⟨S1x512, .f32⟩
  | .hbm, ⟨83, _⟩ => ⟨S1x512, .f32⟩
  | .hbm, ⟨84, _⟩ => ⟨S1x512, .f32⟩
  | .hbm, ⟨85, _⟩ => ⟨S_, .f32⟩
  | .hbm, ⟨86, _⟩ => ⟨S1x512, .f32⟩
  | .hbm, ⟨87, _⟩ => ⟨S1x512, .f32⟩
  | .hbm, ⟨88, _⟩ => ⟨S1x512, .f32⟩
  | .hbm, ⟨89, _⟩ => ⟨S_, .f32⟩
  | .hbm, ⟨90, _⟩ => ⟨S1x512, .f32⟩
  | .hbm, ⟨91, _⟩ => ⟨S1x512, .f32⟩
  | .hbm, ⟨92, _⟩ => ⟨S1x512, .f32⟩
  | .hbm, ⟨93, _⟩ => ⟨S_, .f32⟩
  | .hbm, ⟨94, _⟩ => ⟨S1x512, .f32⟩
  | .hbm, ⟨95, _⟩ => ⟨S1x512, .f32⟩
  | .hbm, ⟨96, _⟩ => ⟨S_, .f32⟩
  | .hbm, ⟨97, _⟩ => ⟨S1x512, .f32⟩
  | .hbm, ⟨98, _⟩ => ⟨S1x512, .f32⟩
  | .hbm, ⟨99, _⟩ => ⟨S1x512, .f32⟩
  | .hbm, ⟨100, _⟩ => ⟨S_, .f32⟩
  | .hbm, ⟨101, _⟩ => ⟨S1x512, .f32⟩
  | .hbm, ⟨102, _⟩ => ⟨S1x512, .f32⟩
  | .hbm, ⟨103, _⟩ => ⟨S1x512, .f32⟩
  | .hbm, ⟨104, _⟩ => ⟨S_, .f32⟩
  | .hbm, ⟨105, _⟩ => ⟨S1x512, .f32⟩
  | .hbm, ⟨106, _⟩ => ⟨S1x512, .f32⟩
  | .hbm, ⟨107, _⟩ => ⟨S1x512, .f32⟩
  | .hbm, ⟨108, _⟩ => ⟨S_, .f32⟩
  | .hbm, ⟨109, _⟩ => ⟨S1x512, .f32⟩
  | .hbm, ⟨110, _⟩ => ⟨S1x512, .f32⟩
  | _, _ => ⟨S1x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== AdamwTaps.lean ====
abbrev S1024x128 : Shape := ⟨2, ![1024, 128]⟩
abbrev S8x128 : Shape := ⟨2, ![8, 128]⟩
abbrev S31x64 : Shape := ⟨2, ![31, 64]⟩

abbrev nBuf : Space → Nat
  | .hbm => 21
  | .vmem => 21
  | .smem => 0
  | _ => 0

abbrev bufTy : (tb : Table) → Fin (tcTables nBuf tb) → BufTy
  | .hbm, ⟨0, _⟩ => ⟨S1024x128, .f32⟩
  | .hbm, ⟨1, _⟩ => ⟨S8x128, .f32⟩
  | .hbm, ⟨2, _⟩ => ⟨S31x64, .f32⟩
  | .hbm, ⟨3, _⟩ => ⟨S1024x128, .f32⟩
  | .hbm, ⟨4, _⟩ => ⟨S8x128, .f32⟩
  | .hbm, ⟨5, _⟩ => ⟨S31x64, .f32⟩
  | .hbm, ⟨6, _⟩ => ⟨S1024x128, .f32⟩
  | .hbm, ⟨7, _⟩ => ⟨S8x128, .f32⟩
  | .hbm, ⟨8, _⟩ => ⟨S31x64, .f32⟩
  | .hbm, ⟨9, _⟩ => ⟨S1024x128, .f32⟩
  | .hbm, ⟨10, _⟩ => ⟨S8x128, .f32⟩
  | .hbm, ⟨11, _⟩ => ⟨S31x64, .f32⟩
  | .hbm, ⟨12, _⟩ => ⟨S1024x128, .f32⟩
  | .hbm, ⟨13, _⟩ => ⟨S8x128, .f32⟩
  | .hbm, ⟨14, _⟩ => ⟨S31x64, .f32⟩
  | .hbm, ⟨15, _⟩ => ⟨S1024x128, .f32⟩
  | .hbm, ⟨16, _⟩ => ⟨S8x128, .f32⟩
  | .hbm, ⟨17, _⟩ => ⟨S31x64, .f32⟩
  | .hbm, ⟨18, _⟩ => ⟨S1024x128, .f32⟩
  | .hbm, ⟨19, _⟩ => ⟨S8x128, .f32⟩
  | .hbm, ⟨20, _⟩ => ⟨S31x64, .f32⟩
  | .local _ .vmem, ⟨0, _⟩ => ⟨S1024x128, .f32⟩
  | .local _ .vmem, ⟨1, _⟩ => ⟨S8x128, .f32⟩
  | .local _ .vmem, ⟨2, _⟩ => ⟨S31x64, .f32⟩
  | .local _ .vmem, ⟨3, _⟩ => ⟨S1024x128, .f32⟩
  | .local _ .vmem, ⟨4, _⟩ => ⟨S8x128, .f32⟩
  | .local _ .vmem, ⟨5, _⟩ => ⟨S31x64, .f32⟩
  | .local _ .vmem, ⟨6, _⟩ => ⟨S1024x128, .f32⟩
  | .local _ .vmem, ⟨7, _⟩ => ⟨S8x128, .f32⟩
  | .local _ .vmem, ⟨8, _⟩ => ⟨S31x64, .f32⟩
  | .local _ .vmem, ⟨9, _⟩ => ⟨S1024x128, .f32⟩
  | .local _ .vmem, ⟨10, _⟩ => ⟨S8x128, .f32⟩
  | .local _ .vmem, ⟨11, _⟩ => ⟨S31x64, .f32⟩
  | .local _ .vmem, ⟨12, _⟩ => ⟨S1024x128, .f32⟩
  | .local _ .vmem, ⟨13, _⟩ => ⟨S8x128, .f32⟩
  | .local _ .vmem, ⟨14, _⟩ => ⟨S31x64, .f32⟩
  | .local _ .vmem, ⟨15, _⟩ => ⟨S1024x128, .f32⟩
  | .local _ .vmem, ⟨16, _⟩ => ⟨S8x128, .f32⟩
  | .local _ .vmem, ⟨17, _⟩ => ⟨S31x64, .f32⟩
  | .local _ .vmem, ⟨18, _⟩ => ⟨S1024x128, .f32⟩
  | .local _ .vmem, ⟨19, _⟩ => ⟨S8x128, .f32⟩
  | .local _ .vmem, ⟨20, _⟩ => ⟨S31x64, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S31x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S31x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S31x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S31x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S31x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S31x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1024x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S31x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamwTapsIdeal.lean ====
abbrev S1024x128 : Shape := ⟨2, ![1024, 128]⟩
abbrev S8x128 : Shape := ⟨2, ![8, 128]⟩
abbrev S31x64 : Shape := ⟨2, ![31, 64]⟩

abbrev nBuf : Space → Nat
  | .hbm => 21
  | .vmem => 21
  | .smem => 0
  | _ => 0

abbrev bufTy : (tb : Table) → Fin (tcTables nBuf tb) → BufTy
  | .hbm, ⟨0, _⟩ => ⟨S1024x128, .f32⟩
  | .hbm, ⟨1, _⟩ => ⟨S8x128, .f32⟩
  | .hbm, ⟨2, _⟩ => ⟨S31x64, .f32⟩
  | .hbm, ⟨3, _⟩ => ⟨S1024x128, .f32⟩
  | .hbm, ⟨4, _⟩ => ⟨S8x128, .f32⟩
  | .hbm, ⟨5, _⟩ => ⟨S31x64, .f32⟩
  | .hbm, ⟨6, _⟩ => ⟨S1024x128, .f32⟩
  | .hbm, ⟨7, _⟩ => ⟨S8x128, .f32⟩
  | .hbm, ⟨8, _⟩ => ⟨S31x64, .f32⟩
  | .hbm, ⟨9, _⟩ => ⟨S1024x128, .f32⟩
  | .hbm, ⟨10, _⟩ => ⟨S8x128, .f32⟩
  | .hbm, ⟨11, _⟩ => ⟨S31x64, .f32⟩
  | .hbm, ⟨12, _⟩ => ⟨S1024x128, .f32⟩
  | .hbm, ⟨13, _⟩ => ⟨S8x128, .f32⟩
  | .hbm, ⟨14, _⟩ => ⟨S31x64, .f32⟩
  | .hbm, ⟨15, _⟩ => ⟨S1024x128, .f32⟩
  | .hbm, ⟨16, _⟩ => ⟨S8x128, .f32⟩
  | .hbm, ⟨17, _⟩ => ⟨S31x64, .f32⟩
  | .hbm, ⟨18, _⟩ => ⟨S1024x128, .f32⟩
  | .hbm, ⟨19, _⟩ => ⟨S8x128, .f32⟩
  | .hbm, ⟨20, _⟩ => ⟨S31x64, .f32⟩
  | .local _ .vmem, ⟨0, _⟩ => ⟨S1024x128, .f32⟩
  | .local _ .vmem, ⟨1, _⟩ => ⟨S8x128, .f32⟩
  | .local _ .vmem, ⟨2, _⟩ => ⟨S31x64, .f32⟩
  | .local _ .vmem, ⟨3, _⟩ => ⟨S1024x128, .f32⟩
  | .local _ .vmem, ⟨4, _⟩ => ⟨S8x128, .f32⟩
  | .local _ .vmem, ⟨5, _⟩ => ⟨S31x64, .f32⟩
  | .local _ .vmem, ⟨6, _⟩ => ⟨S1024x128, .f32⟩
  | .local _ .vmem, ⟨7, _⟩ => ⟨S8x128, .f32⟩
  | .local _ .vmem, ⟨8, _⟩ => ⟨S31x64, .f32⟩
  | .local _ .vmem, ⟨9, _⟩ => ⟨S1024x128, .f32⟩
  | .local _ .vmem, ⟨10, _⟩ => ⟨S8x128, .f32⟩
  | .local _ .vmem, ⟨11, _⟩ => ⟨S31x64, .f32⟩
  | .local _ .vmem, ⟨12, _⟩ => ⟨S1024x128, .f32⟩
  | .local _ .vmem, ⟨13, _⟩ => ⟨S8x128, .f32⟩
  | .local _ .vmem, ⟨14, _⟩ => ⟨S31x64, .f32⟩
  | .local _ .vmem, ⟨15, _⟩ => ⟨S1024x128, .f32⟩
  | .local _ .vmem, ⟨16, _⟩ => ⟨S8x128, .f32⟩
  | .local _ .vmem, ⟨17, _⟩ => ⟨S31x64, .f32⟩
  | .local _ .vmem, ⟨18, _⟩ => ⟨S1024x128, .f32⟩
  | .local _ .vmem, ⟨19, _⟩ => ⟨S8x128, .f32⟩
  | .local _ .vmem, ⟨20, _⟩ => ⟨S31x64, .f32⟩
  | _, _ => ⟨S1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S1024x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S31x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S31x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S31x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1024x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S31x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1024x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S31x64 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1024x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S8x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S31x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1024x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S31x64 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamwTapsRefIdeal.lean ====
abbrev S1024x128 : Shape := ⟨2, ![1024, 128]⟩
abbrev S8x128 : Shape := ⟨2, ![8, 128]⟩
abbrev S31x64 : Shape := ⟨2, ![31, 64]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S1024x128, .f32⟩
  | .hbm, ⟨1, _⟩ => ⟨S8x128, .f32⟩
  | .hbm, ⟨2, _⟩ => ⟨S31x64, .f32⟩
  | .hbm, ⟨3, _⟩ => ⟨S1024x128, .f32⟩
  | .hbm, ⟨4, _⟩ => ⟨S8x128, .f32⟩
  | .hbm, ⟨5, _⟩ => ⟨S31x64, .f32⟩
  | .hbm, ⟨6, _⟩ => ⟨S1024x128, .f32⟩
  | .hbm, ⟨7, _⟩ => ⟨S8x128, .f32⟩
  | .hbm, ⟨8, _⟩ => ⟨S31x64, .f32⟩
  | .hbm, ⟨9, _⟩ => ⟨S1024x128, .f32⟩
  | .hbm, ⟨10, _⟩ => ⟨S8x128, .f32⟩
  | .hbm, ⟨11, _⟩ => ⟨S31x64, .f32⟩
  | .hbm, ⟨12, _⟩ => ⟨S_, .f32⟩
  | .hbm, ⟨13, _⟩ => ⟨S1024x128, .f32⟩
  | .hbm, ⟨14, _⟩ => ⟨S1024x128, .f32⟩
  | .hbm, ⟨15, _⟩ => ⟨S_, .f32⟩
  | .hbm, ⟨16, _⟩ => ⟨S1024x128, .f32⟩
  | .hbm, ⟨17, _⟩ => ⟨S1024x128, .f32⟩
  | .hbm, ⟨18, _⟩ => ⟨S1024x128, .f32⟩
  | .hbm, ⟨19, _⟩ => ⟨S_, .f32⟩
  | .hbm, ⟨20, _⟩ => ⟨S1024x128, .f32⟩
  | .hbm, ⟨21, _⟩ => ⟨S1024x128, .f32⟩
  | .hbm, ⟨22, _⟩ => ⟨S1024x128, .f32⟩
  | .hbm, ⟨23, _⟩ => ⟨S_, .f32⟩
  | .hbm, ⟨24, _⟩ => ⟨S1024x128, .f32⟩
  | .hbm, ⟨25, _⟩ => ⟨S1024x128, .f32⟩
  | .hbm, ⟨26, _⟩ => ⟨S1024x128, .f32⟩
  | .hbm, ⟨27, _⟩ => ⟨S_, .f32⟩
  | .hbm, ⟨28, _⟩ => ⟨S1024x128, .f32⟩
  | .hbm, ⟨29, _⟩ => ⟨S1024x128, .f32⟩
  | .hbm, ⟨30, _⟩ => ⟨S_, .f32⟩
  | .hbm, ⟨31, _⟩ => ⟨S1024x128, .f32⟩
  | .hbm, ⟨32, _⟩ => ⟨S1024x128, .f32⟩
  | .hbm, ⟨33, _⟩ => ⟨S1024x128, .f32⟩
  | .hbm, ⟨34, _⟩ => ⟨S_, .f32⟩
  | .hbm, ⟨35, _⟩ => ⟨S1024x128, .f32⟩
  | .hbm, ⟨36, _⟩ => ⟨S1024x128, .f32⟩
  | .hbm, ⟨37, _⟩ => ⟨S1024x128, .f32⟩
  | .hbm, ⟨38, _⟩ => ⟨S_, .f32⟩
  | .hbm, ⟨39, _⟩ => ⟨S1024x128, .f32⟩
  | .hbm, ⟨40, _⟩ => ⟨S1024x128, .f32⟩
  | .hbm, ⟨41, _⟩ => ⟨S1024x128, .f32⟩
  | .hbm, ⟨42, _⟩ => ⟨S_, .f32⟩
  | .hbm, ⟨43, _⟩ => ⟨S1024x128, .f32⟩
  | .hbm, ⟨44, _⟩ => ⟨S1024x128, .f32⟩
  | .hbm, ⟨45, _⟩ => ⟨S_, .f32⟩
  | .hbm, ⟨46, _⟩ => ⟨S8x128, .f32⟩
  | .hbm, ⟨47, _⟩ => ⟨S8x128, .f32⟩
  | .hbm, ⟨48, _⟩ => ⟨S_, .f32⟩
  | .hbm, ⟨49, _⟩ => ⟨S8x128, .f32⟩
  | .hbm, ⟨50, _⟩ => ⟨S8x128, .f32⟩
  | .hbm, ⟨51, _⟩ => ⟨S8x128, .f32⟩
  | .hbm, ⟨52, _⟩ => ⟨S_, .f32⟩
  | .hbm, ⟨53, _⟩ => ⟨S8x128, .f32⟩
  | .hbm, ⟨54, _⟩ => ⟨S8x128, .f32⟩
  | .hbm, ⟨55, _⟩ => ⟨S8x128, .f32⟩
  | .hbm, ⟨56, _⟩ => ⟨S_, .f32⟩
  | .hbm, ⟨57, _⟩ => ⟨S8x128, .f32⟩
  | .hbm, ⟨58, _⟩ => ⟨S8x128, .f32⟩
  | .hbm, ⟨59, _⟩ => ⟨S8x128, .f32⟩
  | .hbm, ⟨60, _⟩ => ⟨S_, .f32⟩
  | .hbm, ⟨61, _⟩ => ⟨S8x128, .f32⟩
  | .hbm, ⟨62, _⟩ => ⟨S8x128, .f32⟩
  | .hbm, ⟨63, _⟩ => ⟨S_, .f32⟩
  | .hbm, ⟨64, _⟩ => ⟨S8x128, .f32⟩
  | .hbm, ⟨65, _⟩ => ⟨S8x128, .f32⟩
  | .hbm, ⟨66, _⟩ => ⟨S8x128, .f32⟩
  | .hbm, ⟨67, _⟩ => ⟨S_, .f32⟩
  | .hbm, ⟨68, _⟩ => ⟨S8x128, .f32⟩
  | .hbm, ⟨69, _⟩ => ⟨S8x128, .f32⟩
  | .hbm, ⟨70, _⟩ => ⟨S8x128, .f32⟩
  | .hbm, ⟨71, _⟩ => ⟨S_, .f32⟩
  | .hbm, ⟨72, _⟩ => ⟨S8x128, .f32⟩
  | .hbm, ⟨73, _⟩ => ⟨S8x128, .f32⟩
  | .hbm, ⟨74, _⟩ => ⟨S8x128, .f32⟩
  | .hbm, ⟨75, _⟩ => ⟨S_, .f32⟩
  | .hbm, ⟨76, _⟩ => ⟨S8x128, .f32⟩
  | .hbm, ⟨77, _⟩ => ⟨S8x128, .f32⟩
  | .hbm, ⟨78, _⟩ => ⟨S_, .f32⟩
  | .hbm, ⟨79, _⟩ => ⟨S31x64, .f32⟩
  | .hbm, ⟨80, _⟩ => ⟨S31x64, .f32⟩
  | .hbm, ⟨81, _⟩ => ⟨S_, .f32⟩
  | .hbm, ⟨82, _⟩ => ⟨S31x64, .f32⟩
  | .hbm, ⟨83, _⟩ => ⟨S31x64, .f32⟩
  | .hbm, ⟨84, _⟩ => ⟨S31x64, .f32⟩
  | .hbm, ⟨85, _⟩ => ⟨S_, .f32⟩
  | .hbm, ⟨86, _⟩ => ⟨S31x64, .f32⟩
  | .hbm, ⟨87, _⟩ => ⟨S31x64, .f32⟩
  | .hbm, ⟨88, _⟩ => ⟨S31x64, .f32⟩
  | .hbm, ⟨89, _⟩ => ⟨S_, .f32⟩
  | .hbm, ⟨90, _⟩ => ⟨S31x64, .f32⟩
  | .hbm, ⟨91, _⟩ => ⟨S31x64, .f32⟩
  | .hbm, ⟨92, _⟩ => ⟨S31x64, .f32⟩
  | .hbm, ⟨93, _⟩ => ⟨S_, .f32⟩
  | .hbm, ⟨94, _⟩ => ⟨S31x64, .f32⟩
  | .hbm, ⟨95, _⟩ => ⟨S31x64, .f32⟩
  | .hbm, ⟨96, _⟩ => ⟨S_, .f32⟩
  | .hbm, ⟨97, _⟩ => ⟨S31x64, .f32⟩
  | .hbm, ⟨98, _⟩ => ⟨S31x64, .f32⟩
  | .hbm, ⟨99, _⟩ => ⟨S31x64, .f32⟩
  | .hbm, ⟨100, _⟩ => ⟨S_, .f32⟩
  | .hbm, ⟨101, _⟩ => ⟨S31x64, .f32⟩
  | .hbm, ⟨102, _⟩ => ⟨S31x64, .f32⟩
  | .hbm, ⟨103, _⟩ => ⟨S31x64, .f32⟩
  | .hbm, ⟨104, _⟩ => ⟨S_, .f32⟩
  | .hbm, ⟨105, _⟩ => ⟨S31x64, .f32⟩
  | .hbm, ⟨106, _⟩ => ⟨S31x64, .f32⟩
  | .hbm, ⟨107, _⟩ => ⟨S31x64, .f32⟩
  | .hbm, ⟨108, _⟩ => ⟨S_, .f32⟩
  | .hbm, ⟨109, _⟩ => ⟨S31x64, .f32⟩
  | .hbm, ⟨110, _⟩ => ⟨S31x64, .f32⟩
  | _, _ => ⟨S1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== AdamwRest.lean ====
abbrev S3x64 : Shape := ⟨2, ![3, 64]⟩
abbrev S1x128 : Shape := ⟨2, ![1, 128]⟩

abbrev nBuf : Space → Nat
  | .hbm => 21
  | .vmem => 21
  | .smem => 0
  | _ => 0

abbrev bufTy : (tb : Table) → Fin (tcTables nBuf tb) → BufTy
  | .hbm, ⟨0, _⟩ => ⟨S3x64, .f32⟩
  | .hbm, ⟨1, _⟩ => ⟨S1x128, .f32⟩
  | .hbm, ⟨2, _⟩ => ⟨S1x128, .f32⟩
  | .hbm, ⟨3, _⟩ => ⟨S3x64, .f32⟩
  | .hbm, ⟨4, _⟩ => ⟨S1x128, .f32⟩
  | .hbm, ⟨5, _⟩ => ⟨S1x128, .f32⟩
  | .hbm, ⟨6, _⟩ => ⟨S3x64, .f32⟩
  | .hbm, ⟨7, _⟩ => ⟨S1x128, .f32⟩
  | .hbm, ⟨8, _⟩ => ⟨S1x128, .f32⟩
  | .hbm, ⟨9, _⟩ => ⟨S3x64, .f32⟩
  | .hbm, ⟨10, _⟩ => ⟨S1x128, .f32⟩
  | .hbm, ⟨11, _⟩ => ⟨S1x128, .f32⟩
  | .hbm, ⟨12, _⟩ => ⟨S3x64, .f32⟩
  | .hbm, ⟨13, _⟩ => ⟨S1x128, .f32⟩
  | .hbm, ⟨14, _⟩ => ⟨S1x128, .f32⟩
  | .hbm, ⟨15, _⟩ => ⟨S3x64, .f32⟩
  | .hbm, ⟨16, _⟩ => ⟨S1x128, .f32⟩
  | .hbm, ⟨17, _⟩ => ⟨S1x128, .f32⟩
  | .hbm, ⟨18, _⟩ => ⟨S3x64, .f32⟩
  | .hbm, ⟨19, _⟩ => ⟨S1x128, .f32⟩
  | .hbm, ⟨20, _⟩ => ⟨S1x128, .f32⟩
  | .local _ .vmem, ⟨0, _⟩ => ⟨S3x64, .f32⟩
  | .local _ .vmem, ⟨1, _⟩ => ⟨S1x128, .f32⟩
  | .local _ .vmem, ⟨2, _⟩ => ⟨S1x128, .f32⟩
  | .local _ .vmem, ⟨3, _⟩ => ⟨S3x64, .f32⟩
  | .local _ .vmem, ⟨4, _⟩ => ⟨S1x128, .f32⟩
  | .local _ .vmem, ⟨5, _⟩ => ⟨S1x128, .f32⟩
  | .local _ .vmem, ⟨6, _⟩ => ⟨S3x64, .f32⟩
  | .local _ .vmem, ⟨7, _⟩ => ⟨S1x128, .f32⟩
  | .local _ .vmem, ⟨8, _⟩ => ⟨S1x128, .f32⟩
  | .local _ .vmem, ⟨9, _⟩ => ⟨S3x64, .f32⟩
  | .local _ .vmem, ⟨10, _⟩ => ⟨S1x128, .f32⟩
  | .local _ .vmem, ⟨11, _⟩ => ⟨S1x128, .f32⟩
  | .local _ .vmem, ⟨12, _⟩ => ⟨S3x64, .f32⟩
  | .local _ .vmem, ⟨13, _⟩ => ⟨S1x128, .f32⟩
  | .local _ .vmem, ⟨14, _⟩ => ⟨S1x128, .f32⟩
  | .local _ .vmem, ⟨15, _⟩ => ⟨S3x64, .f32⟩
  | .local _ .vmem, ⟨16, _⟩ => ⟨S1x128, .f32⟩
  | .local _ .vmem, ⟨17, _⟩ => ⟨S1x128, .f32⟩
  | .local _ .vmem, ⟨18, _⟩ => ⟨S3x64, .f32⟩
  | .local _ .vmem, ⟨19, _⟩ => ⟨S1x128, .f32⟩
  | .local _ .vmem, ⟨20, _⟩ => ⟨S1x128, .f32⟩
  | _, _ => ⟨S3x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0_0 : Ref sig .tc := ⟨.hbm, 12, rfl⟩
abbrev main_v0_1 : Ref sig .tc := ⟨.hbm, 13, rfl⟩
abbrev main_v0_2 : Ref sig .tc := ⟨.hbm, 14, rfl⟩
abbrev main_v0_3 : Ref sig .tc := ⟨.hbm, 15, rfl⟩
abbrev main_v0_4 : Ref sig .tc := ⟨.hbm, 16, rfl⟩
abbrev main_v0_5 : Ref sig .tc := ⟨.hbm, 17, rfl⟩
abbrev main_v0_6 : Ref sig .tc := ⟨.hbm, 18, rfl⟩
abbrev main_v0_7 : Ref sig .tc := ⟨.hbm, 19, rfl⟩
abbrev main_v0_8 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20

abbrev nD : Nat := 1
abbrev τ : Topo := Topo.v7x

variable {F : FTy → Type} [FloatOps F]

abbrev grid0 : Pipeline.Grid := .none

abbrev stage0_0 : Fin 1 → Memref sig .tc .vmem S3x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S3x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S3x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S3x64 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S3x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
-- ==== AdamwRestRefIdeal.lean ====
abbrev S3x64 : Shape := ⟨2, ![3, 64]⟩
abbrev S1x128 : Shape := ⟨2, ![1, 128]⟩
abbrev S_ : Shape := ⟨0, ![]⟩

abbrev nBuf : Space → Nat
  | .hbm => 111
  | .vmem => 0
  | .smem => 0
  | _ => 0

abbrev bufTy : (tb : Table) → Fin (tcTables nBuf tb) → BufTy
  | .hbm, ⟨0, _⟩ => ⟨S3x64, .f32⟩
  | .hbm, ⟨1, _⟩ => ⟨S1x128, .f32⟩
  | .hbm, ⟨2, _⟩ => ⟨S1x128, .f32⟩
  | .hbm, ⟨3, _⟩ => ⟨S3x64, .f32⟩
  | .hbm, ⟨4, _⟩ => ⟨S1x128, .f32⟩
  | .hbm, ⟨5, _⟩ => ⟨S1x128, .f32⟩
  | .hbm, ⟨6, _⟩ => ⟨S3x64, .f32⟩
  | .hbm, ⟨7, _⟩ => ⟨S1x128, .f32⟩
  | .hbm, ⟨8, _⟩ => ⟨S1x128, .f32⟩
  | .hbm, ⟨9, _⟩ => ⟨S3x64, .f32⟩
  | .hbm, ⟨10, _⟩ => ⟨S1x128, .f32⟩
  | .hbm, ⟨11, _⟩ => ⟨S1x128, .f32⟩
  | .hbm, ⟨12, _⟩ => ⟨S_, .f32⟩
  | .hbm, ⟨13, _⟩ => ⟨S3x64, .f32⟩
  | .hbm, ⟨14, _⟩ => ⟨S3x64, .f32⟩
  | .hbm, ⟨15, _⟩ => ⟨S_, .f32⟩
  | .hbm, ⟨16, _⟩ => ⟨S3x64, .f32⟩
  | .hbm, ⟨17, _⟩ => ⟨S3x64, .f32⟩
  | .hbm, ⟨18, _⟩ => ⟨S3x64, .f32⟩
  | .hbm, ⟨19, _⟩ => ⟨S_, .f32⟩
  | .hbm, ⟨20, _⟩ => ⟨S3x64, .f32⟩
  | .hbm, ⟨21, _⟩ => ⟨S3x64, .f32⟩
  | .hbm, ⟨22, _⟩ => ⟨S3x64, .f32⟩
  | .hbm, ⟨23, _⟩ => ⟨S_, .f32⟩
  | .hbm, ⟨24, _⟩ => ⟨S3x64, .f32⟩
  | .hbm, ⟨25, _⟩ => ⟨S3x64, .f32⟩
  | .hbm, ⟨26, _⟩ => ⟨S3x64, .f32⟩
  | .hbm, ⟨27, _⟩ => ⟨S_, .f32⟩
  | .hbm, ⟨28, _⟩ => ⟨S3x64, .f32⟩
  | .hbm, ⟨29, _⟩ => ⟨S3x64, .f32⟩
  | .hbm, ⟨30, _⟩ => ⟨S_, .f32⟩
  | .hbm, ⟨31, _⟩ => ⟨S3x64, .f32⟩
  | .hbm, ⟨32, _⟩ => ⟨S3x64, .f32⟩
  | .hbm, ⟨33, _⟩ => ⟨S3x64, .f32⟩
  | .hbm, ⟨34, _⟩ => ⟨S_, .f32⟩
  | .hbm, ⟨35, _⟩ => ⟨S3x64, .f32⟩
  | .hbm, ⟨36, _⟩ => ⟨S3x64, .f32⟩
  | .hbm, ⟨37, _⟩ => ⟨S3x64, .f32⟩
  | .hbm, ⟨38, _⟩ => ⟨S_, .f32⟩
  | .hbm, ⟨39, _⟩ => ⟨S3x64, .f32⟩
  | .hbm, ⟨40, _⟩ => ⟨S3x64, .f32⟩
  | .hbm, ⟨41, _⟩ => ⟨S3x64, .f32⟩
  | .hbm, ⟨42, _⟩ => ⟨S_, .f32⟩
  | .hbm, ⟨43, _⟩ => ⟨S3x64, .f32⟩
  | .hbm, ⟨44, _⟩ => ⟨S3x64, .f32⟩
  | .hbm, ⟨45, _⟩ => ⟨S_, .f32⟩
  | .hbm, ⟨46, _⟩ => ⟨S1x128, .f32⟩
  | .hbm, ⟨47, _⟩ => ⟨S1x128, .f32⟩
  | .hbm, ⟨48, _⟩ => ⟨S_, .f32⟩
  | .hbm, ⟨49, _⟩ => ⟨S1x128, .f32⟩
  | .hbm, ⟨50, _⟩ => ⟨S1x128, .f32⟩
  | .hbm, ⟨51, _⟩ => ⟨S1x128, .f32⟩
  | .hbm, ⟨52, _⟩ => ⟨S_, .f32⟩
  | .hbm, ⟨53, _⟩ => ⟨S1x128, .f32⟩
  | .hbm, ⟨54, _⟩ => ⟨S1x128, .f32⟩
  | .hbm, ⟨55, _⟩ => ⟨S1x128, .f32⟩
  | .hbm, ⟨56, _⟩ => ⟨S_, .f32⟩
  | .hbm, ⟨57, _⟩ => ⟨S1x128, .f32⟩
  | .hbm, ⟨58, _⟩ => ⟨S1x128, .f32⟩
  | .hbm, ⟨59, _⟩ => ⟨S1x128, .f32⟩
  | .hbm, ⟨60, _⟩ => ⟨S_, .f32⟩
  | .hbm, ⟨61, _⟩ => ⟨S1x128, .f32⟩
  | .hbm, ⟨62, _⟩ => ⟨S1x128, .f32⟩
  | .hbm, ⟨63, _⟩ => ⟨S_, .f32⟩
  | .hbm, ⟨64, _⟩ => ⟨S1x128, .f32⟩
  | .hbm, ⟨65, _⟩ => ⟨S1x128, .f32⟩
  | .hbm, ⟨66, _⟩ => ⟨S1x128, .f32⟩
  | .hbm, ⟨67, _⟩ => ⟨S_, .f32⟩
  | .hbm, ⟨68, _⟩ => ⟨S1x128, .f32⟩
  | .hbm, ⟨69, _⟩ => ⟨S1x128, .f32⟩
  | .hbm, ⟨70, _⟩ => ⟨S1x128, .f32⟩
  | .hbm, ⟨71, _⟩ => ⟨S_, .f32⟩
  | .hbm, ⟨72, _⟩ => ⟨S1x128, .f32⟩
  | .hbm, ⟨73, _⟩ => ⟨S1x128, .f32⟩
  | .hbm, ⟨74, _⟩ => ⟨S1x128, .f32⟩
  | .hbm, ⟨75, _⟩ => ⟨S_, .f32⟩
  | .hbm, ⟨76, _⟩ => ⟨S1x128, .f32⟩
  | .hbm, ⟨77, _⟩ => ⟨S1x128, .f32⟩
  | .hbm, ⟨78, _⟩ => ⟨S_, .f32⟩
  | .hbm, ⟨79, _⟩ => ⟨S1x128, .f32⟩
  | .hbm, ⟨80, _⟩ => ⟨S1x128, .f32⟩
  | .hbm, ⟨81, _⟩ => ⟨S_, .f32⟩
  | .hbm, ⟨82, _⟩ => ⟨S1x128, .f32⟩
  | .hbm, ⟨83, _⟩ => ⟨S1x128, .f32⟩
  | .hbm, ⟨84, _⟩ => ⟨S1x128, .f32⟩
  | .hbm, ⟨85, _⟩ => ⟨S_, .f32⟩
  | .hbm, ⟨86, _⟩ => ⟨S1x128, .f32⟩
  | .hbm, ⟨87, _⟩ => ⟨S1x128, .f32⟩
  | .hbm, ⟨88, _⟩ => ⟨S1x128, .f32⟩
  | .hbm, ⟨89, _⟩ => ⟨S_, .f32⟩
  | .hbm, ⟨90, _⟩ => ⟨S1x128, .f32⟩
  | .hbm, ⟨91, _⟩ => ⟨S1x128, .f32⟩
  | .hbm, ⟨92, _⟩ => ⟨S1x128, .f32⟩
  | .hbm, ⟨93, _⟩ => ⟨S_, .f32⟩
  | .hbm, ⟨94, _⟩ => ⟨S1x128, .f32⟩
  | .hbm, ⟨95, _⟩ => ⟨S1x128, .f32⟩
  | .hbm, ⟨96, _⟩ => ⟨S_, .f32⟩
  | .hbm, ⟨97, _⟩ => ⟨S1x128, .f32⟩
  | .hbm, ⟨98, _⟩ => ⟨S1x128, .f32⟩
  | .hbm, ⟨99, _⟩ => ⟨S1x128, .f32⟩
  | .hbm, ⟨100, _⟩ => ⟨S_, .f32⟩
  | .hbm, ⟨101, _⟩ => ⟨S1x128, .f32⟩
  | .hbm, ⟨102, _⟩ => ⟨S1x128, .f32⟩
  | .hbm, ⟨103, _⟩ => ⟨S1x128, .f32⟩
  | .hbm, ⟨104, _⟩ => ⟨S_, .f32⟩
  | .hbm, ⟨105, _⟩ => ⟨S1x128, .f32⟩
  | .hbm, ⟨106, _⟩ => ⟨S1x128, .f32⟩
  | .hbm, ⟨107, _⟩ => ⟨S1x128, .f32⟩
  | .hbm, ⟨108, _⟩ => ⟨S_, .f32⟩
  | .hbm, ⟨109, _⟩ => ⟨S1x128, .f32⟩
  | .hbm, ⟨110, _⟩ => ⟨S1x128, .f32⟩
  | _, _ => ⟨S3x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_cst_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_2 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_3 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_cst_5 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_7 : Ref sig .tc := ⟨.hbm, 42, rfl⟩
abbrev main_v22 : Ref sig .tc := ⟨.hbm, 43, rfl⟩
abbrev main_v23 : Ref sig .tc := ⟨.hbm, 44, rfl⟩
abbrev main_cst_8 : Ref sig .tc := ⟨.hbm, 45, rfl⟩
abbrev main_v24 : Ref sig .tc := ⟨.hbm, 46, rfl⟩
abbrev main_v25 : Ref sig .tc := ⟨.hbm, 47, rfl⟩
abbrev main_cst_9 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_cst_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_11 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_cst_12 : Ref sig .tc := ⟨.hbm, 60, rfl⟩
abbrev main_v35 : Ref sig .tc := ⟨.hbm, 61, rfl⟩
abbrev main_v36 : Ref sig .tc := ⟨.hbm, 62, rfl⟩
abbrev main_cst_13 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_cst_14 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_15 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_cst_16 : Ref sig .tc := ⟨.hbm, 75, rfl⟩
abbrev main_v46 : Ref sig .tc := ⟨.hbm, 76, rfl⟩
abbrev main_v47 : Ref sig .tc := ⟨.hbm, 77, rfl⟩
abbrev main_cst_17 : Ref sig .tc := ⟨.hbm, 78, rfl⟩
abbrev main_v48 : Ref sig .tc := ⟨.hbm, 79, rfl⟩
abbrev main_v49 : Ref sig .tc := ⟨.hbm, 80, rfl⟩
abbrev main_cst_18 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_19 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_cst_20 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_21 : Ref sig .tc := ⟨.hbm, 93, rfl⟩
abbrev main_v59 : Ref sig .tc := ⟨.hbm, 94, rfl⟩
abbrev main_v60 : Ref sig .tc := ⟨.hbm, 95, rfl⟩
abbrev main_cst_22 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_cst_23 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_cst_24 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_25 : Ref sig .tc := ⟨.hbm, 108, rfl⟩
abbrev main_v70 : Ref sig .tc := ⟨.hbm, 109, rfl⟩
abbrev main_v71 : Ref sig .tc := ⟨.hbm, 110, rfl⟩

abbrev nD : Nat := 1
abbrev τ : Topo := Topo.v7x

variable {F : FTy → Type} [FloatOps F]
-- ==== FinishEvIn.lean ====
abbrev S2560x1024 : Shape := ⟨2, ![2560, 1024]⟩
abbrev S7x320x1024 : Shape := ⟨3, ![7, 320, 1024]⟩
abbrev S1 : Shape := ⟨1, ![1]⟩
abbrev S1x320x1024 : Shape := ⟨3, ![1, 320, 1024]⟩
abbrev S320x1024 : Shape := ⟨2, ![320, 1024]⟩

abbrev nBuf : Space → Nat
  | .hbm => 9
  | .vmem => 9
  | .smem => 1
  | _ => 0

abbrev bufTy : (tb : Table) → Fin (tcTables nBuf tb) → BufTy
  | .hbm, ⟨0, _⟩ => ⟨S2560x1024, .bf16⟩
  | .hbm, ⟨1, _⟩ => ⟨S7x320x1024, .bf16⟩
  | .hbm, ⟨2, _⟩ => ⟨S1x320x1024, .f32⟩
  | .hbm, ⟨3, _⟩ => ⟨S1x320x1024, .f32⟩
  | .hbm, ⟨4, _⟩ => ⟨S1x320x1024, .f32⟩
  | .hbm, ⟨5, _⟩ => ⟨S1x320x1024, .f32⟩
  | .hbm, ⟨6, _⟩ => ⟨S1x320x1024, .f32⟩
  | .hbm, ⟨7, _⟩ => ⟨S1x320x1024, .f32⟩
  | .hbm, ⟨8, _⟩ => ⟨S1x320x1024, .f32⟩
  | .local _ .vmem, ⟨0, _⟩ => ⟨S320x1024, .bf16⟩
  | .local _ .vmem, ⟨1, _⟩ => ⟨S7x320x1024, .bf16⟩
  | .local _ .vmem, ⟨2, _⟩ => ⟨S1x320x1024, .f32⟩
  | .local _ .vmem, ⟨3, _⟩ => ⟨S1x320x1024, .f32⟩
  | .local _ .vmem, ⟨4, _⟩ => ⟨S1x320x1024, .f32⟩
  | .local _ .vmem, ⟨5, _⟩ => ⟨S1x320x1024, .f32⟩
  | .local _ .vmem, ⟨6, _⟩ => ⟨S1x320x1024, .f32⟩
  | .local _ .vmem, ⟨7, _⟩ => ⟨S1x320x1024, .f32⟩
  | .local _ .vmem, ⟨8, _⟩ => ⟨S1x320x1024, .f32⟩
  | .local _ .smem, ⟨0, _⟩ => ⟨S1, .i32⟩
  | _, _ => ⟨S2560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S320x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S7x320x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x320x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x320x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x320x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x320x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x320x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x320x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x320x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== FinishEvInIdeal.lean ====
abbrev S2560x1024 : Shape := ⟨2, ![2560, 1024]⟩
abbrev S7x320x1024 : Shape := ⟨3, ![7, 320, 1024]⟩
abbrev S1 : Shape := ⟨1, ![1]⟩
abbrev S1x320x1024 : Shape := ⟨3, ![1, 320, 1024]⟩
abbrev S320x1024 : Shape := ⟨2, ![320, 1024]⟩

abbrev nBuf : Space → Nat
  | .hbm => 9
  | .vmem => 9
  | .smem => 1
  | _ => 0

abbrev bufTy : (tb : Table) → Fin (tcTables nBuf tb) → BufTy
  | .hbm, ⟨0, _⟩ => ⟨S2560x1024, .bf16⟩
  | .hbm, ⟨1, _⟩ => ⟨S7x320x1024, .bf16⟩
  | .hbm, ⟨2, _⟩ => ⟨S1x320x1024, .f32⟩
  | .hbm, ⟨3, _⟩ => ⟨S1x320x1024, .f32⟩
  | .hbm, ⟨4, _⟩ => ⟨S1x320x1024, .f32⟩
  | .hbm, ⟨5, _⟩ => ⟨S1x320x1024, .f32⟩
  | .hbm, ⟨6, _⟩ => ⟨S1x320x1024, .f32⟩
  | .hbm, ⟨7, _⟩ => ⟨S1x320x1024, .f32⟩
  | .hbm, ⟨8, _⟩ => ⟨S1x320x1024, .f32⟩
  | .local _ .vmem, ⟨0, _⟩ => ⟨S320x1024, .bf16⟩
  | .local _ .vmem, ⟨1, _⟩ => ⟨S7x320x1024, .bf16⟩
  | .local _ .vmem, ⟨2, _⟩ => ⟨S1x320x1024, .f32⟩
  | .local _ .vmem, ⟨3, _⟩ => ⟨S1x320x1024, .f32⟩
  | .local _ .vmem, ⟨4, _⟩ => ⟨S1x320x1024, .f32⟩
  | .local _ .vmem, ⟨5, _⟩ => ⟨S1x320x1024, .f32⟩
  | .local _ .vmem, ⟨6, _⟩ => ⟨S1x320x1024, .f32⟩
  | .local _ .vmem, ⟨7, _⟩ => ⟨S1x320x1024, .f32⟩
  | .local _ .vmem, ⟨8, _⟩ => ⟨S1x320x1024, .f32⟩
  | .local _ .smem, ⟨0, _⟩ => ⟨S1, .i32⟩
  | _, _ => ⟨S2560x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S320x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S7x320x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x320x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x320x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x320x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x320x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x320x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x320x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x320x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== FinishEvInRefIdeal.lean ====
abbrev S2560x1024 : Shape := ⟨2, ![2560, 1024]⟩
abbrev S7x320x1024 : Shape := ⟨3, ![7, 320, 1024]⟩
abbrev S1 : Shape := ⟨1, ![1]⟩
abbrev S1x320x1024 : Shape := ⟨3, ![1, 320, 1024]⟩
abbrev S8x320x1024 : Shape := ⟨3, ![8, 320, 1024]⟩
abbrev S8 : Shape := ⟨1, ![8]⟩
abbrev S8x1x1 : Shape := ⟨3, ![8, 1, 1]⟩
abbrev S_ : Shape := ⟨0, ![]⟩
abbrev S320x1024 : Shape := ⟨2, ![320, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2560x1024, .bf16⟩
  | .hbm, ⟨1, _⟩ => ⟨S7x320x1024, .bf16⟩
  | .hbm, ⟨2, _⟩ => ⟨S1, .i32⟩
  | .hbm, ⟨3, _⟩ => ⟨S1x320x1024, .f32⟩
  | .hbm, ⟨4, _⟩ => ⟨S1x320x1024, .f32⟩
  | .hbm, ⟨5, _⟩ => ⟨S1x320x1024, .f32⟩
  | .hbm, ⟨6, _⟩ => ⟨S2560x1024, .f32⟩
  | .hbm, ⟨7, _⟩ => ⟨S8x320x1024, .f32⟩
  | .hbm, ⟨8, _⟩ => ⟨S8, .i32⟩
  | .hbm, ⟨9, _⟩ => ⟨S8, .i32⟩
  | .hbm, ⟨10, _⟩ => ⟨S8, .i1⟩
  | .hbm, ⟨11, _⟩ => ⟨S8x1x1, .i1⟩
  | .hbm, ⟨12, _⟩ => ⟨S_, .f32⟩
  | .hbm, ⟨13, _⟩ => ⟨S_, .f32⟩
  | .hbm, ⟨14, _⟩ => ⟨S8x320x1024, .i1⟩
  | .hbm, ⟨15, _⟩ => ⟨S8x320x1024, .f32⟩
  | .hbm, ⟨16, _⟩ => ⟨S8x320x1024, .f32⟩
  | .hbm, ⟨17, _⟩ => ⟨S_, .f32⟩
  | .hbm, ⟨18, _⟩ => ⟨S320x1024, .f32⟩
  | .hbm, ⟨19, _⟩ => ⟨S7x320x1024, .f32⟩
  | .hbm, ⟨20, _⟩ => ⟨S_, .f32⟩
  | .hbm, ⟨21, _⟩ => ⟨S320x1024, .f32⟩
  | .hbm, ⟨22, _⟩ => ⟨S320x1024, .f32⟩
  | .hbm, ⟨23, _⟩ => ⟨S1x320x1024, .f32⟩
  | .hbm, ⟨24, _⟩ => ⟨S_, .f32⟩
  | .hbm, ⟨25, _⟩ => ⟨S1x320x1024, .f32⟩
  | .hbm, ⟨26, _⟩ => ⟨S1x320x1024, .f32⟩
  | .hbm, ⟨27, _⟩ => ⟨S_, .f32⟩
  | .hbm, ⟨28, _⟩ => ⟨S1x320x1024, .f32⟩
  | .hbm, ⟨29, _⟩ => ⟨S1x320x1024, .f32⟩
  | .hbm, ⟨30, _⟩ => ⟨S1x320x1024, .f32⟩
  | .hbm, ⟨31, _⟩ => ⟨S_, .f32⟩
  | .hbm, ⟨32, _⟩ => ⟨S1x320x1024, .f32⟩
  | .hbm, ⟨33, _⟩ => ⟨S1x320x1024, .f32⟩
  | .hbm, ⟨34, _⟩ => ⟨S1x320x1024, .f32⟩
  | .hbm, ⟨35, _⟩ => ⟨S_, .f32⟩
  | .hbm, ⟨36, _⟩ => ⟨S1x320x1024, .f32⟩
  | .hbm, ⟨37, _⟩ => ⟨S1x320x1024, .f32⟩
  | .hbm, ⟨38, _⟩ => ⟨S1x320x1024, .f32⟩
  | .hbm, ⟨39, _⟩ => ⟨S_, .f32⟩
  | .hbm, ⟨40, _⟩ => ⟨S1x320x1024, .f32⟩
  | .hbm, ⟨41, _⟩ => ⟨S1x320x1024, .f32⟩
  | .hbm, ⟨42, _⟩ => ⟨S_, .f32⟩
  | .hbm, ⟨43, _⟩ => ⟨S1x320x1024, .f32⟩
  | .hbm, ⟨44, _⟩ => ⟨S1x320x1024, .f32⟩
  | .hbm, ⟨45, _⟩ => ⟨S1x320x1024, .f32⟩
  | .hbm, ⟨46, _⟩ => ⟨S_, .f32⟩
  | .hbm, ⟨47, _⟩ => ⟨S1x320x1024, .f32⟩
  | .hbm, ⟨48, _⟩ => ⟨S1x320x1024, .f32⟩
  | .hbm, ⟨49, _⟩ => ⟨S1x320x1024, .f32⟩
  | .hbm, ⟨50, _⟩ => ⟨S_, .f32⟩
  | .hbm, ⟨51, _⟩ => ⟨S1x320x1024, .f32⟩
  | .hbm, ⟨52, _⟩ => ⟨S1x320x1024, .f32⟩
  | .hbm, ⟨53, _⟩ => ⟨S1x320x1024, .f32⟩
  | .hbm, ⟨54, _⟩ => ⟨S_, .f32⟩
  | .hbm, ⟨55, _⟩ => ⟨S1x320x1024, .f32⟩
  | .hbm, ⟨56, _⟩ => ⟨S1x320x1024, .f32⟩
  | _, _ => ⟨S2560x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== FinishOdIn.lean ====
abbrev S2048x1024 : Shape := ⟨2, ![2048, 1024]⟩
abbrev S7x256x1024 : Shape := ⟨3, ![7, 256, 1024]⟩
abbrev S1 : Shape := ⟨1, ![1]⟩
abbrev S1x256x1024 : Shape := ⟨3, ![1, 256, 1024]⟩
abbrev S256x1024 : Shape := ⟨2, ![256, 1024]⟩

abbrev nBuf : Space → Nat
  | .hbm => 9
  | .vmem => 9
  | .smem => 1
  | _ => 0

abbrev bufTy : (tb : Table) → Fin (tcTables nBuf tb) → BufTy
  | .hbm, ⟨0, _⟩ => ⟨S2048x1024, .bf16⟩
  | .hbm, ⟨1, _⟩ => ⟨S7x256x1024, .bf16⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .local _ .vmem, ⟨0, _⟩ => ⟨S256x1024, .bf16⟩
  | .local _ .vmem, ⟨1, _⟩ => ⟨S7x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .smem, ⟨0, _⟩ => ⟨S1, .i32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S7x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== FinishOdInIdeal.lean ====
abbrev S2048x1024 : Shape := ⟨2, ![2048, 1024]⟩
abbrev S7x256x1024 : Shape := ⟨3, ![7, 256, 1024]⟩
abbrev S1 : Shape := ⟨1, ![1]⟩
abbrev S1x256x1024 : Shape := ⟨3, ![1, 256, 1024]⟩
abbrev S256x1024 : Shape := ⟨2, ![256, 1024]⟩

abbrev nBuf : Space → Nat
  | .hbm => 9
  | .vmem => 9
  | .smem => 1
  | _ => 0

abbrev bufTy : (tb : Table) → Fin (tcTables nBuf tb) → BufTy
  | .hbm, ⟨0, _⟩ => ⟨S2048x1024, .bf16⟩
  | .hbm, ⟨1, _⟩ => ⟨S7x256x1024, .bf16⟩
  | .hbm, ⟨2, _⟩ => ⟨S1x256x1024, .f32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S1x256x1024, .f32⟩
  | .hbm, ⟨7, _⟩ => ⟨S1x256x1024, .f32⟩
  | .hbm, ⟨8, _⟩ => ⟨S1x256x1024, .f32⟩
  | .local _ .vmem, ⟨0, _⟩ => ⟨S256x1024, .bf16⟩
  | .local _ .vmem, ⟨1, _⟩ => ⟨S7x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .smem, ⟨0, _⟩ => ⟨S1, .i32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S7x256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== FinishOdInRefIdeal.lean ====
abbrev S2048x1024 : Shape := ⟨2, ![2048, 1024]⟩
abbrev S7x256x1024 : Shape := ⟨3, ![7, 256, 1024]⟩
abbrev S1 : Shape := ⟨1, ![1]⟩
abbrev S1x256x1024 : Shape := ⟨3, ![1, 256, 1024]⟩
abbrev S8x256x1024 : Shape := ⟨3, ![8, 256, 1024]⟩
abbrev S8 : Shape := ⟨1, ![8]⟩
abbrev S8x1x1 : Shape := ⟨3, ![8, 1, 1]⟩
abbrev S_ : Shape := ⟨0, ![]⟩
abbrev S256x1024 : Shape := ⟨2, ![256, 1024]⟩

abbrev nBuf : Space → Nat
  | .hbm => 57
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S7x256x1024, .bf16⟩
  | .hbm, ⟨2, _⟩ => ⟨S1, .i32⟩
  | .hbm, ⟨3, _⟩ => ⟨S1x256x1024, .f32⟩
  | .hbm, ⟨4, _⟩ => ⟨S1x256x1024, .f32⟩
  | .hbm, ⟨5, _⟩ => ⟨S1x256x1024, .f32⟩
  | .hbm, ⟨6, _⟩ => ⟨S2048x1024, .f32⟩
  | .hbm, ⟨7, _⟩ => ⟨S8x256x1024, .f32⟩
  | .hbm, ⟨8, _⟩ => ⟨S8, .i32⟩
  | .hbm, ⟨9, _⟩ => ⟨S8, .i32⟩
  | .hbm, ⟨10, _⟩ => ⟨S8, .i1⟩
  | .hbm, ⟨11, _⟩ => ⟨S8x1x1, .i1⟩
  | .hbm, ⟨12, _⟩ => ⟨S_, .f32⟩
  | .hbm, ⟨13, _⟩ => ⟨S_, .f32⟩
  | .hbm, ⟨14, _⟩ => ⟨S8x256x1024, .i1⟩
  | .hbm, ⟨15, _⟩ => ⟨S8x256x1024, .f32⟩
  | .hbm, ⟨16, _⟩ => ⟨S8x256x1024, .f32⟩
  | .hbm, ⟨17, _⟩ => ⟨S_, .f32⟩
  | .hbm, ⟨18, _⟩ => ⟨S256x1024, .f32⟩
  | .hbm, ⟨19, _⟩ => ⟨S7x256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S1x256x1024, .f32⟩
  | .hbm, ⟨24, _⟩ => ⟨S_, .f32⟩
  | .hbm, ⟨25, _⟩ => ⟨S1x256x1024, .f32⟩
  | .hbm, ⟨26, _⟩ => ⟨S1x256x1024, .f32⟩
  | .hbm, ⟨27, _⟩ => ⟨S_, .f32⟩
  | .hbm, ⟨28, _⟩ => ⟨S1x256x1024, .f32⟩
  | .hbm, ⟨29, _⟩ => ⟨S1x256x1024, .f32⟩
  | .hbm, ⟨30, _⟩ => ⟨S1x256x1024, .f32⟩
  | .hbm, ⟨31, _⟩ => ⟨S_, .f32⟩
  | .hbm, ⟨32, _⟩ => ⟨S1x256x1024, .f32⟩
  | .hbm, ⟨33, _⟩ => ⟨S1x256x1024, .f32⟩
  | .hbm, ⟨34, _⟩ => ⟨S1x256x1024, .f32⟩
  | .hbm, ⟨35, _⟩ => ⟨S_, .f32⟩
  | .hbm, ⟨36, _⟩ => ⟨S1x256x1024, .f32⟩
  | .hbm, ⟨37, _⟩ => ⟨S1x256x1024, .f32⟩
  | .hbm, ⟨38, _⟩ => ⟨S1x256x1024, .f32⟩
  | .hbm, ⟨39, _⟩ => ⟨S_, .f32⟩
  | .hbm, ⟨40, _⟩ => ⟨S1x256x1024, .f32⟩
  | .hbm, ⟨41, _⟩ => ⟨S1x256x1024, .f32⟩
  | .hbm, ⟨42, _⟩ => ⟨S_, .f32⟩
  | .hbm, ⟨43, _⟩ => ⟨S1x256x1024, .f32⟩
  | .hbm, ⟨44, _⟩ => ⟨S1x256x1024, .f32⟩
  | .hbm, ⟨45, _⟩ => ⟨S1x256x1024, .f32⟩
  | .hbm, ⟨46, _⟩ => ⟨S_, .f32⟩
  | .hbm, ⟨47, _⟩ => ⟨S1x256x1024, .f32⟩
  | .hbm, ⟨48, _⟩ => ⟨S1x256x1024, .f32⟩
  | .hbm, ⟨49, _⟩ => ⟨S1x256x1024, .f32⟩
  | .hbm, ⟨50, _⟩ => ⟨S_, .f32⟩
  | .hbm, ⟨51, _⟩ => ⟨S1x256x1024, .f32⟩
  | .hbm, ⟨52, _⟩ => ⟨S1x256x1024, .f32⟩
  | .hbm, ⟨53, _⟩ => ⟨S1x256x1024, .f32⟩
  | .hbm, ⟨54, _⟩ => ⟨S_, .f32⟩
  | .hbm, ⟨55, _⟩ => ⟨S1x256x1024, .f32⟩
  | .hbm, ⟨56, _⟩ => ⟨S1x256x1024, .f32⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== FinishOut.lean ====
abbrev S1024x1024 : Shape := ⟨2, ![1024, 1024]⟩
abbrev S7x128x1024 : Shape := ⟨3, ![7, 128, 1024]⟩
abbrev S1 : Shape := ⟨1, ![1]⟩
abbrev S1x128x1024 : Shape := ⟨3, ![1, 128, 1024]⟩
abbrev S128x1024 : Shape := ⟨2, ![128, 1024]⟩

abbrev nBuf : Space → Nat
  | .hbm => 9
  | .vmem => 9
  | .smem => 1
  | _ => 0

abbrev bufTy : (tb : Table) → Fin (tcTables nBuf tb) → BufTy
  | .hbm, ⟨0, _⟩ => ⟨S1024x1024, .bf16⟩
  | .hbm, ⟨1, _⟩ => ⟨S7x128x1024, .bf16⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | .hbm, ⟨8, _⟩ => ⟨S1x128x1024, .f32⟩
  | .local _ .vmem, ⟨0, _⟩ => ⟨S128x1024, .bf16⟩
  | .local _ .vmem, ⟨1, _⟩ => ⟨S7x128x1024, .bf16⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .smem, ⟨0, _⟩ => ⟨S1, .i32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S7x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]
-- ==== FinishOutRefIdeal.lean ====
abbrev S1024x1024 : Shape := ⟨2, ![1024, 1024]⟩
abbrev S7x128x1024 : Shape := ⟨3, ![7, 128, 1024]⟩
abbrev S1 : Shape := ⟨1, ![1]⟩
abbrev S1x128x1024 : Shape := ⟨3, ![1, 128, 1024]⟩
abbrev S8x128x1024 : Shape := ⟨3, ![8, 128, 1024]⟩
abbrev S8 : Shape := ⟨1, ![8]⟩
abbrev S8x1x1 : Shape := ⟨3, ![8, 1, 1]⟩
abbrev S_ : Shape := ⟨0, ![]⟩
abbrev S128x1024 : Shape := ⟨2, ![128, 1024]⟩

abbrev nBuf : Space → Nat
  | .hbm => 57
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S7x128x1024, .bf16⟩
  | .hbm, ⟨2, _⟩ => ⟨S1, .i32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1024x1024, .f32⟩
  | .hbm, ⟨7, _⟩ => ⟨S8x128x1024, .f32⟩
  | .hbm, ⟨8, _⟩ => ⟨S8, .i32⟩
  | .hbm, ⟨9, _⟩ => ⟨S8, .i32⟩
  | .hbm, ⟨10, _⟩ => ⟨S8, .i1⟩
  | .hbm, ⟨11, _⟩ => ⟨S8x1x1, .i1⟩
  | .hbm, ⟨12, _⟩ => ⟨S_, .f32⟩
  | .hbm, ⟨13, _⟩ => ⟨S_, .f32⟩
  | .hbm, ⟨14, _⟩ => ⟨S8x128x1024, .i1⟩
  | .hbm, ⟨15, _⟩ => ⟨S8x128x1024, .f32⟩
  | .hbm, ⟨16, _⟩ => ⟨S8x128x1024, .f32⟩
  | .hbm, ⟨17, _⟩ => ⟨S_, .f32⟩
  | .hbm, ⟨18, _⟩ => ⟨S128x1024, .f32⟩
  | .hbm, ⟨19, _⟩ => ⟨S7x128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S1x128x1024, .f32⟩
  | .hbm, ⟨24, _⟩ => ⟨S_, .f32⟩
  | .hbm, ⟨25, _⟩ => ⟨S1x128x1024, .f32⟩
  | .hbm, ⟨26, _⟩ => ⟨S1x128x1024, .f32⟩
  | .hbm, ⟨27, _⟩ => ⟨S_, .f32⟩
  | .hbm, ⟨28, _⟩ => ⟨S1x128x1024, .f32⟩
  | .hbm, ⟨29, _⟩ => ⟨S1x128x1024, .f32⟩
  | .hbm, ⟨30, _⟩ => ⟨S1x128x1024, .f32⟩
  | .hbm, ⟨31, _⟩ => ⟨S_, .f32⟩
  | .hbm, ⟨32, _⟩ => ⟨S1x128x1024, .f32⟩
  | .hbm, ⟨33, _⟩ => ⟨S1x128x1024, .f32⟩
  | .hbm, ⟨34, _⟩ => ⟨S1x128x1024, .f32⟩
  | .hbm, ⟨35, _⟩ => ⟨S_, .f32⟩
  | .hbm, ⟨36, _⟩ => ⟨S1x128x1024, .f32⟩
  | .hbm, ⟨37, _⟩ => ⟨S1x128x1024, .f32⟩
  | .hbm, ⟨38, _⟩ => ⟨S1x128x1024, .f32⟩
  | .hbm, ⟨39, _⟩ => ⟨S_, .f32⟩
  | .hbm, ⟨40, _⟩ => ⟨S1x128x1024, .f32⟩
  | .hbm, ⟨41, _⟩ => ⟨S1x128x1024, .f32⟩
  | .hbm, ⟨42, _⟩ => ⟨S_, .f32⟩
  | .hbm, ⟨43, _⟩ => ⟨S1x128x1024, .f32⟩
  | .hbm, ⟨44, _⟩ => ⟨S1x128x1024, .f32⟩
  | .hbm, ⟨45, _⟩ => ⟨S1x128x1024, .f32⟩
  | .hbm, ⟨46, _⟩ => ⟨S_, .f32⟩
  | .hbm, ⟨47, _⟩ => ⟨S1x128x1024, .f32⟩
  | .hbm, ⟨48, _⟩ => ⟨S1x128x1024, .f32⟩
  | .hbm, ⟨49, _⟩ => ⟨S1x128x1024, .f32⟩
  | .hbm, ⟨50, _⟩ => ⟨S_, .f32⟩
  | .hbm, ⟨51, _⟩ => ⟨S1x128x1024, .f32⟩
  | .hbm, ⟨52, _⟩ => ⟨S1x128x1024, .f32⟩
  | .hbm, ⟨53, _⟩ => ⟨S1x128x1024, .f32⟩
  | .hbm, ⟨54, _⟩ => ⟨S_, .f32⟩
  | .hbm, ⟨55, _⟩ => ⟨S1x128x1024, .f32⟩
  | .hbm, ⟨56, _⟩ => ⟨S1x128x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_2 : Ref sig .tc := ⟨.hbm, 24, rfl⟩
abbrev main_v12 : Ref sig .tc := ⟨.hbm, 25, rfl⟩
abbrev main_v13 : Ref sig .tc := ⟨.hbm, 26, rfl⟩
abbrev main_cst_3 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_5 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_8 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩

abbrev nD : Nat := 1
abbrev τ : Topo := Topo.v7x

variable {F : FTy → Type} [FloatOps F]
-- ==== FinishXa.lean ====
abbrev S1024x1024 : Shape := ⟨2, ![1024, 1024]⟩
abbrev S7x128x1024 : Shape := ⟨3, ![7, 128, 1024]⟩
abbrev S1 : Shape := ⟨1, ![1]⟩
abbrev S2x128x1024 : Shape := ⟨3, ![2, 128, 1024]⟩
abbrev S128x1024 : Shape := ⟨2, ![128, 1024]⟩
abbrev S1x128x1024 : Shape := ⟨3, ![1, 128, 1024]⟩

abbrev nBuf : Space → Nat
  | .hbm => 11
  | .vmem => 18
  | .smem => 1
  | _ => 0

abbrev bufTy : (tb : Table) → Fin (tcTables nBuf tb) → BufTy
  | .hbm, ⟨0, _⟩ => ⟨S1024x1024, .bf16⟩
  | .hbm, ⟨1, _⟩ => ⟨S7x128x1024, .bf16⟩
  | .hbm, ⟨2, _⟩ => ⟨S1024x1024, .bf16⟩
  | .hbm, ⟨3, _⟩ => ⟨S7x128x1024, .bf16⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .local _ .vmem, ⟨0, _⟩ => ⟨S128x1024, .bf16⟩
  | .local _ .vmem, ⟨1, _⟩ => ⟨S7x128x1024, .bf16⟩
  | .local _ .vmem, ⟨2, _⟩ => ⟨S128x1024, .bf16⟩
  | .local _ .vmem, ⟨3, _⟩ => ⟨S7x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S7x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FinishXaIdeal.lean ====
abbrev S1024x1024 : Shape := ⟨2, ![1024, 1024]⟩
abbrev S7x128x1024 : Shape := ⟨3, ![7, 128, 1024]⟩
abbrev S1 : Shape := ⟨1, ![1]⟩
abbrev S2x128x1024 : Shape := ⟨3, ![2, 128, 1024]⟩
abbrev S128x1024 : Shape := ⟨2, ![128, 1024]⟩
abbrev S1x128x1024 : Shape := ⟨3, ![1, 128, 1024]⟩

abbrev nBuf : Space → Nat
  | .hbm => 11
  | .vmem => 18
  | .smem => 1
  | _ => 0

abbrev bufTy : (tb : Table) → Fin (tcTables nBuf tb) → BufTy
  | .hbm, ⟨0, _⟩ => ⟨S1024x1024, .bf16⟩
  | .hbm, ⟨1, _⟩ => ⟨S7x128x1024, .bf16⟩
  | .hbm, ⟨2, _⟩ => ⟨S1024x1024, .bf16⟩
  | .hbm, ⟨3, _⟩ => ⟨S7x128x1024, .bf16⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .local _ .vmem, ⟨0, _⟩ => ⟨S128x1024, .bf16⟩
  | .local _ .vmem, ⟨1, _⟩ => ⟨S7x128x1024, .bf16⟩
  | .local _ .vmem, ⟨2, _⟩ => ⟨S128x1024, .bf16⟩
  | .local _ .vmem, ⟨3, _⟩ => ⟨S7x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .smem, ⟨0, _⟩ => ⟨S1, .i32⟩
  | _, _ => ⟨S1024x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S7x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FinishXaRefIdeal.lean ====
abbrev S1024x1024 : Shape := ⟨2, ![1024, 1024]⟩
abbrev S7x128x1024 : Shape := ⟨3, ![7, 128, 1024]⟩
abbrev S1 : Shape := ⟨1, ![1]⟩
abbrev S2x128x1024 : Shape := ⟨3, ![2, 128, 1024]⟩
abbrev S8x128x1024 : Shape := ⟨3, ![8, 128, 1024]⟩
abbrev S8 : Shape := ⟨1, ![8]⟩
abbrev S8x1x1 : Shape := ⟨3, ![8, 1, 1]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 78
  | .vmem => 0
  | .smem => 0
  | _ => 0

abbrev bufTy : (tb : Table) → Fin (tcTables nBuf tb) → BufTy
  | .hbm, ⟨0, _⟩ => ⟨S1024x1024, .bf16⟩
  | .hbm, ⟨1, _⟩ => ⟨S7x128x1024, .bf16⟩
  | .hbm, ⟨2, _⟩ => ⟨S1024x1024, .bf16⟩
  | .hbm, ⟨3, _⟩ => ⟨S7x128x1024, .bf16⟩
  | .hbm, ⟨4, _⟩ => ⟨S1, .i32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S1024x1024, .f32⟩
  | .hbm, ⟨9, _⟩ => ⟨S8x128x1024, .f32⟩
  | .hbm, ⟨10, _⟩ => ⟨S8, .i32⟩
  | .hbm, ⟨11, _⟩ => ⟨S8, .i32⟩
  | .hbm, ⟨12, _⟩ => ⟨S8, .i1⟩
  | .hbm, ⟨13, _⟩ => ⟨S8x1x1, .i1⟩
  | .hbm, ⟨14, _⟩ => ⟨S_, .f32⟩
  | .hbm, ⟨15, _⟩ => ⟨S_, .f32⟩
  | .hbm, ⟨16, _⟩ => ⟨S8x128x1024, .i1⟩
  | .hbm, ⟨17, _⟩ => ⟨S8x128x1024, .f32⟩
  | .hbm, ⟨18, _⟩ => ⟨S8x128x1024, .f32⟩
  | .hbm, ⟨19, _⟩ => ⟨S_, .f32⟩
  | .hbm, ⟨20, _⟩ => ⟨S128x1024, .f32⟩
  | .hbm, ⟨21, _⟩ => ⟨S7x128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S1024x1024, .f32⟩
  | .hbm, ⟨26, _⟩ => ⟨S8x128x1024, .f32⟩
  | .hbm, ⟨27, _⟩ => ⟨S8, .i32⟩
  | .hbm, ⟨28, _⟩ => ⟨S8, .i32⟩
  | .hbm, ⟨29, _⟩ => ⟨S8, .i1⟩
  | .hbm, ⟨30, _⟩ => ⟨S8x1x1, .i1⟩
  | .hbm, ⟨31, _⟩ => ⟨S_, .f32⟩
  | .hbm, ⟨32, _⟩ => ⟨S_, .f32⟩
  | .hbm, ⟨33, _⟩ => ⟨S8x128x1024, .i1⟩
  | .hbm, ⟨34, _⟩ => ⟨S8x128x1024, .f32⟩
  | .hbm, ⟨35, _⟩ => ⟨S8x128x1024, .f32⟩
  | .hbm, ⟨36, _⟩ => ⟨S_, .f32⟩
  | .hbm, ⟨37, _⟩ => ⟨S128x1024, .f32⟩
  | .hbm, ⟨38, _⟩ => ⟨S7x128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S1x128x1024, .f32⟩
  | .hbm, ⟨43, _⟩ => ⟨S1x128x1024, .f32⟩
  | .hbm, ⟨44, _⟩ => ⟨S2x128x1024, .f32⟩
  | .hbm, ⟨45, _⟩ => ⟨S_, .f32⟩
  | .hbm, ⟨46, _⟩ => ⟨S2x128x1024, .f32⟩
  | .hbm, ⟨47, _⟩ => ⟨S2x128x1024, .f32⟩
  | .hbm, ⟨48, _⟩ => ⟨S_, .f32⟩
  | .hbm, ⟨49, _⟩ => ⟨S2x128x1024, .f32⟩
  | .hbm, ⟨50, _⟩ => ⟨S2x128x1024, .f32⟩
  | .hbm, ⟨51, _⟩ => ⟨S2x128x1024, .f32⟩
  | .hbm, ⟨52, _⟩ => ⟨S_, .f32⟩
  | .hbm, ⟨53, _⟩ => ⟨S2x128x1024, .f32⟩
  | .hbm, ⟨54, _⟩ => ⟨S2x128x1024, .f32⟩
  | .hbm, ⟨55, _⟩ => ⟨S2x128x1024, .f32⟩
  | .hbm, ⟨56, _⟩ => ⟨S_, .f32⟩
  | .hbm, ⟨57, _⟩ => ⟨S2x128x1024, .f32⟩
  | .hbm, ⟨58, _⟩ => ⟨S2x128x1024, .f32⟩
  | .hbm, ⟨59, _⟩ => ⟨S2x128x1024, .f32⟩
  | .hbm, ⟨60, _⟩ => ⟨S_, .f32⟩
  | .hbm, ⟨61, _⟩ => ⟨S2x128x1024, .f32⟩
  | .hbm, ⟨62, _⟩ => ⟨S2x128x1024, .f32⟩
  | .hbm, ⟨63, _⟩ => ⟨S_, .f32⟩
  | .hbm, ⟨64, _⟩ => ⟨S2x128x1024, .f32⟩
  | .hbm, ⟨65, _⟩ => ⟨S2x128x1024, .f32⟩
  | .hbm, ⟨66, _⟩ => ⟨S2x128x1024, .f32⟩
  | .hbm, ⟨67, _⟩ => ⟨S_, .f32⟩
  | .hbm, ⟨68, _⟩ => ⟨S2x128x1024, .f32⟩
  | .hbm, ⟨69, _⟩ => ⟨S2x128x1024, .f32⟩
  | .hbm, ⟨70, _⟩ => ⟨S2x128x1024, .f32⟩
  | .hbm, ⟨71, _⟩ => ⟨S_, .f32⟩
  | .hbm, ⟨72, _⟩ => ⟨S2x128x1024, .f32⟩
  | .hbm, ⟨73, _⟩ => ⟨S2x128x1024, .f32⟩
  | .hbm, ⟨74, _⟩ => ⟨S2x128x1024, .f32⟩
  | .hbm, ⟨75, _⟩ => ⟨S_, .f32⟩
  | .hbm, ⟨76, _⟩ => ⟨S2x128x1024, .f32⟩
  | .hbm, ⟨77, _⟩ => ⟨S2x128x1024, .f32⟩
  | _, _ => ⟨S1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_v37 : Ref sig .tc := ⟨.hbm, 62, rfl⟩
abbrev main_cst_10 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_11 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_12 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_13 : Ref sig .tc := ⟨.hbm, 75, rfl⟩
abbrev main_v47 : Ref sig .tc := ⟨.hbm, 76, rfl⟩
abbrev main_v48 : Ref sig .tc := ⟨.hbm, 77, rfl⟩

abbrev nD : Nat := 1
abbrev τ : Topo := Topo.v7x

variable {F : FTy → Type} [FloatOps F]
-- ==== FinishFfn.lean ====
abbrev S2816x1024 : Shape := ⟨2, ![2816, 1024]⟩
abbrev S7x352x1024 : Shape := ⟨3, ![7, 352, 1024]⟩
abbrev S1 : Shape := ⟨1, ![1]⟩
abbrev S2x352x1024 : Shape := ⟨3, ![2, 352, 1024]⟩
abbrev S352x1024 : Shape := ⟨2, ![352, 1024]⟩
abbrev S1x352x1024 : Shape := ⟨3, ![1, 352, 1024]⟩

abbrev nBuf : Space → Nat
  | .hbm => 11
  | .vmem => 18
  | .smem => 1
  | _ => 0

abbrev bufTy : (tb : Table) → Fin (tcTables nBuf tb) → BufTy
  | .hbm, ⟨0, _⟩ => ⟨S2816x1024, .bf16⟩
  | .hbm, ⟨1, _⟩ => ⟨S7x352x1024, .bf16⟩
  | .hbm, ⟨2, _⟩ => ⟨S2816x1024, .bf16⟩
  | .hbm, ⟨3, _⟩ => ⟨S7x352x1024, .bf16⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .local _ .vmem, ⟨0, _⟩ => ⟨S352x1024, .bf16⟩
  | .local _ .vmem, ⟨1, _⟩ => ⟨S7x352x1024, .bf16⟩
  | .local _ .vmem, ⟨2, _⟩ => ⟨S352x1024, .bf16⟩
  | .local _ .vmem, ⟨3, _⟩ => ⟨S7x352x1024, .bf16⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | .local _ .vmem, ⟨16, _⟩ => ⟨S1x352x1024, .f32⟩
  | .local _ .vmem, ⟨17, _⟩ => ⟨S1x352x1024, .f32⟩
  | .local _ .smem, ⟨0, _⟩ => ⟨S1, .i32⟩
  | _, _ => ⟨S2816x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_arg4 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg4.idx], fun | 0 => main_arg4.names | ⟨_ + 1, h⟩ => absurd h (Nat.not_lt.2 (Nat.le_add_left _ _)), fun | 0 => rfl | ⟨_ + 1, h⟩ => absurd h (Nat.not_lt.2 (Nat.le_add_left _ _))⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S352x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S7x352x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S352x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S7x352x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x352x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x352x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x352x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== FinishFfnRefIdeal.lean ====
abbrev S2816x1024 : Shape := ⟨2, ![2816, 1024]⟩
abbrev S7x352x1024 : Shape := ⟨3, ![7, 352, 1024]⟩
abbrev S1 : Shape := ⟨1, ![1]⟩
abbrev S2x352x1024 : Shape := ⟨3, ![2, 352, 1024]⟩
abbrev S8x352x1024 : Shape := ⟨3, ![8, 352, 1024]⟩
abbrev S8 : Shape := ⟨1, ![8]⟩
abbrev S8x1x1 : Shape := ⟨3, ![8, 1, 1]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 78
  | .vmem => 0
  | .smem => 0
  | _ => 0

abbrev bufTy : (tb : Table) → Fin (tcTables nBuf tb) → BufTy
  | .hbm, ⟨0, _⟩ => ⟨S2816x1024, .bf16⟩
  | .hbm, ⟨1, _⟩ => ⟨S7x352x1024, .bf16⟩
  | .hbm, ⟨2, _⟩ => ⟨S2816x1024, .bf16⟩
  | .hbm, ⟨3, _⟩ => ⟨S7x352x1024, .bf16⟩
  | .hbm, ⟨4, _⟩ => ⟨S1, .i32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2816x1024, .f32⟩
  | .hbm, ⟨9, _⟩ => ⟨S8x352x1024, .f32⟩
  | .hbm, ⟨10, _⟩ => ⟨S8, .i32⟩
  | .hbm, ⟨11, _⟩ => ⟨S8, .i32⟩
  | .hbm, ⟨12, _⟩ => ⟨S8, .i1⟩
  | .hbm, ⟨13, _⟩ => ⟨S8x1x1, .i1⟩
  | .hbm, ⟨14, _⟩ => ⟨S_, .f32⟩
  | .hbm, ⟨15, _⟩ => ⟨S_, .f32⟩
  | .hbm, ⟨16, _⟩ => ⟨S8x352x1024, .i1⟩
  | .hbm, ⟨17, _⟩ => ⟨S8x352x1024, .f32⟩
  | .hbm, ⟨18, _⟩ => ⟨S8x352x1024, .f32⟩
  | .hbm, ⟨19, _⟩ => ⟨S_, .f32⟩
  | .hbm, ⟨20, _⟩ => ⟨S352x1024, .f32⟩
  | .hbm, ⟨21, _⟩ => ⟨S7x352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S2816x1024, .f32⟩
  | .hbm, ⟨26, _⟩ => ⟨S8x352x1024, .f32⟩
  | .hbm, ⟨27, _⟩ => ⟨S8, .i32⟩
  | .hbm, ⟨28, _⟩ => ⟨S8, .i32⟩
  | .hbm, ⟨29, _⟩ => ⟨S8, .i1⟩
  | .hbm, ⟨30, _⟩ => ⟨S8x1x1, .i1⟩
  | .hbm, ⟨31, _⟩ => ⟨S_, .f32⟩
  | .hbm, ⟨32, _⟩ => ⟨S_, .f32⟩
  | .hbm, ⟨33, _⟩ => ⟨S8x352x1024, .i1⟩
  | .hbm, ⟨34, _⟩ => ⟨S8x352x1024, .f32⟩
  | .hbm, ⟨35, _⟩ => ⟨S8x352x1024, .f32⟩
  | .hbm, ⟨36, _⟩ => ⟨S_, .f32⟩
  | .hbm, ⟨37, _⟩ => ⟨S352x1024, .f32⟩
  | .hbm, ⟨38, _⟩ => ⟨S7x352x1024, .f32⟩
  | .hbm, ⟨39, _⟩ => ⟨S_, .f32⟩
  | .hbm, ⟨40, _⟩ => ⟨S352x1024, .f32⟩
  | .hbm, ⟨41, _⟩ => ⟨S352x1024, .f32⟩
  | .hbm, ⟨42, _⟩ => ⟨S1x352x1024, .f32⟩
  | .hbm, ⟨43, _⟩ => ⟨S1x352x1024, .f32⟩
  | .hbm, ⟨44, _⟩ => ⟨S2x352x1024, .f32⟩
  | .hbm, ⟨45, _⟩ => ⟨S_, .f32⟩
  | .hbm, ⟨46, _⟩ => ⟨S2x352x1024, .f32⟩
  | .hbm, ⟨47, _⟩ => ⟨S2x352x1024, .f32⟩
  | .hbm, ⟨48, _⟩ => ⟨S_, .f32⟩
  | .hbm, ⟨49, _⟩ => ⟨S2x352x1024, .f32⟩
  | .hbm, ⟨50, _⟩ => ⟨S2x352x1024, .f32⟩
  | .hbm, ⟨51, _⟩ => ⟨S2x352x1024, .f32⟩
  | .hbm, ⟨52, _⟩ => ⟨S_, .f32⟩
  | .hbm, ⟨53, _⟩ => ⟨S2x352x1024, .f32⟩
  | .hbm, ⟨54, _⟩ => ⟨S2x352x1024, .f32⟩
  | .hbm, ⟨55, _⟩ => ⟨S2x352x1024, .f32⟩
  | .hbm, ⟨56, _⟩ => ⟨S_, .f32⟩
  | .hbm, ⟨57, _⟩ => ⟨S2x352x1024, .f32⟩
  | .hbm, ⟨58, _⟩ => ⟨S2x352x1024, .f32⟩
  | .hbm, ⟨59, _⟩ => ⟨S2x352x1024, .f32⟩
  | .hbm, ⟨60, _⟩ => ⟨S_, .f32⟩
  | .hbm, ⟨61, _⟩ => ⟨S2x352x1024, .f32⟩
  | .hbm, ⟨62, _⟩ => ⟨S2x352x1024, .f32⟩
  | .hbm, ⟨63, _⟩ => ⟨S_, .f32⟩
  | .hbm, ⟨64, _⟩ => ⟨S2x352x1024, .f32⟩
  | .hbm, ⟨65, _⟩ => ⟨S2x352x1024, .f32⟩
  | .hbm, ⟨66, _⟩ => ⟨S2x352x1024, .f32⟩
  | .hbm, ⟨67, _⟩ => ⟨S_, .f32⟩
  | .hbm, ⟨68, _⟩ => ⟨S2x352x1024, .f32⟩
  | .hbm, ⟨69, _⟩ => ⟨S2x352x1024, .f32⟩
  | .hbm, ⟨70, _⟩ => ⟨S2x352x1024, .f32⟩
  | .hbm, ⟨71, _⟩ => ⟨S_, .f32⟩
  | .hbm, ⟨72, _⟩ => ⟨S2x352x1024, .f32⟩
  | .hbm, ⟨73, _⟩ => ⟨S2x352x1024, .f32⟩
  | .hbm, ⟨74, _⟩ => ⟨S2x352x1024, .f32⟩
  | .hbm, ⟨75, _⟩ => ⟨S_, .f32⟩
  | .hbm, ⟨76, _⟩ => ⟨S2x352x1024, .f32⟩
  | .hbm, ⟨77, _⟩ => ⟨S2x352x1024, .f32⟩
  | _, _ => ⟨S2816x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_v6 : Ref sig .tc := ⟨.hbm, 18, rfl⟩
abbrev main_cst_0 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_cst_5 : Ref sig .tc := ⟨.hbm, 45, rfl⟩
abbrev main_v25 : Ref sig .tc := ⟨.hbm, 46, rfl⟩
abbrev main_v26 : Ref sig .tc := ⟨.hbm, 47, rfl⟩
abbrev main_cst_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_cst_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_9 : Ref sig .tc := ⟨.hbm, 60, rfl⟩
abbrev main_v36 : Ref sig .tc := ⟨.hbm, 61, rfl⟩
abbrev main_v37 : Ref sig .tc := ⟨.hbm, 62, rfl⟩
abbrev main_cst_10 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_cst_11 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_cst_12 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_cst_13 : Ref sig .tc := ⟨.hbm, 75, rfl⟩
abbrev main_v47 : Ref sig .tc := ⟨.hbm, 76, rfl⟩
abbrev main_v48 : Ref sig .tc := ⟨.hbm, 77, rfl⟩

abbrev nD : Nat := 1
abbrev τ : Topo := Topo.v7x

variable {F : FTy → Type} [FloatOps F]
-- ==== RmsFwd.lean ====
abbrev S8192x1024 : Shape := ⟨2, ![8192, 1024]⟩
abbrev S1x1024 : Shape := ⟨2, ![1, 1024]⟩
abbrev S2048x1024 : Shape := ⟨2, ![2048, 1024]⟩
abbrev S2048 : Shape := ⟨1, ![2048]⟩
abbrev S2048x1 : Shape := ⟨2, ![2048, 1]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .bf16⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S2048x1024, .bf16⟩
  | .local _ .vmem, ⟨4, _⟩ => ⟨S2048x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S8192x1024, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S8192x1, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== MemKv.lean ====
abbrev S256x1024 : Shape := ⟨2, ![256, 1024]⟩
abbrev S1x1024 : Shape := ⟨2, ![1, 1024]⟩
abbrev S1024x1024 : Shape := ⟨2, ![1024, 1024]⟩
abbrev S256 : Shape := ⟨1, ![256]⟩
abbrev S256x1 : Shape := ⟨2, ![256, 1]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .bf16⟩
  | .hbm, ⟨3, _⟩ => ⟨S1024x1024, .bf16⟩
  | .hbm, ⟨4, _⟩ => ⟨S256x1024, .bf16⟩
  | .hbm, ⟨5, _⟩ => ⟨S256x1024, .bf16⟩
  | .hbm, ⟨6, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S1024x1024, .bf16⟩
  | .local _ .vmem, ⟨3, _⟩ => ⟨S1024x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== MemKvRefIdeal.lean ====
abbrev S256x1024 : Shape := ⟨2, ![256, 1024]⟩
abbrev S1x1024 : Shape := ⟨2, ![1, 1024]⟩
abbrev S1024x1024 : Shape := ⟨2, ![1024, 1024]⟩
abbrev S_ : Shape := ⟨0, ![]⟩
abbrev S256 : Shape := ⟨1, ![256]⟩
abbrev S256x1 : Shape := ⟨2, ![256, 1]⟩

abbrev nBuf : Space → Nat
  | .hbm => 26
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1x1024, .f32⟩
  | .hbm, ⟨2, _⟩ => ⟨S1024x1024, .bf16⟩
  | .hbm, ⟨3, _⟩ => ⟨S1024x1024, .bf16⟩
  | .hbm, ⟨4, _⟩ => ⟨S1024x1024, .f32⟩
  | .hbm, ⟨5, _⟩ => ⟨S1024x1024, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S256x1024, .f32⟩
  | .hbm, ⟨21, _⟩ => ⟨S256x1024, .bf16⟩
  | .hbm, ⟨22, _⟩ => ⟨S256x1024, .f32⟩
  | .hbm, ⟨23, _⟩ => ⟨S256x1024, .bf16⟩
  | .hbm, ⟨24, _⟩ => ⟨S256x1024, .f32⟩
  | .hbm, ⟨25, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== MemBwd.lean ====
abbrev S256x1024 : Shape := ⟨2, ![256, 1024]⟩
abbrev S1x1024 : Shape := ⟨2, ![1, 1024]⟩
abbrev S1024x1024 : Shape := ⟨2, ![1024, 1024]⟩
abbrev S256 : Shape := ⟨1, ![256]⟩
abbrev S256x1 : Shape := ⟨2, ![256, 1]⟩
abbrev S1024 : Shape := ⟨1, ![1024]⟩

abbrev nBuf : Space → Nat
  | .hbm => 10
  | .vmem => 10
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .bf16⟩
  | .hbm, ⟨4, _⟩ => ⟨S1x1024, .f32⟩
  | .hbm, ⟨5, _⟩ => ⟨S1024x1024, .bf16⟩
  | .hbm, ⟨6, _⟩ => ⟨S1024x1024, .bf16⟩
  | .hbm, ⟨7, _⟩ => ⟨S1024x1024, .bf16⟩
  | .hbm, ⟨8, _⟩ => ⟨S1024x1024, .bf16⟩
  | .hbm, ⟨9, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .bf16⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== MemBwdRefIdeal.lean ====
abbrev S256x1024 : Shape := ⟨2, ![256, 1024]⟩
abbrev S1x1024 : Shape := ⟨2, ![1, 1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1024 : Shape := ⟨1, ![1024]⟩

abbrev nBuf : Space → Nat
  | .hbm => 42
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .bf16⟩
  | .hbm, ⟨4, _⟩ => ⟨S1x1024, .f32⟩
  | .hbm, ⟨5, _⟩ => ⟨S1024x1024, .bf16⟩
  | .hbm, ⟨6, _⟩ => ⟨S1024x1024, .bf16⟩
  | .hbm, ⟨7, _⟩ => ⟨S256x1024, .f32⟩
  | .hbm, ⟨8, _⟩ => ⟨S1024x1024, .f32⟩
  | .hbm, ⟨9, _⟩ => ⟨S1024x1024, .f32⟩
  | .hbm, ⟨10, _⟩ => ⟨S256x1024, .f32⟩
  | .hbm, ⟨11, _⟩ => ⟨S256x1024, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S1024x1024, .f32⟩
  | .hbm, ⟨16, _⟩ => ⟨S1024x1024, .bf16⟩
  | .hbm, ⟨17, _⟩ => ⟨S1024x1024, .bf16⟩
  | .hbm, ⟨18, _⟩ => ⟨S256x1024, .f32⟩
  | .hbm, ⟨19, _⟩ => ⟨S_, .f32⟩
  | .hbm, ⟨20, _⟩ => ⟨S256, .f32⟩
  | .hbm, ⟨21, _⟩ => ⟨S256x1, .f32⟩
  | .hbm, ⟨22, _⟩ => ⟨S_, .f32⟩
  | .hbm, ⟨23, _⟩ => ⟨S256x1, .f32⟩
  | .hbm, ⟨24, _⟩ => ⟨S256x1, .f32⟩
  | .hbm, ⟨25, _⟩ => ⟨S_, .f32⟩
  | .hbm, ⟨26, _⟩ => ⟨S256x1, .f32⟩
  | .hbm, ⟨27, _⟩ => ⟨S256x1, .f32⟩
  | .hbm, ⟨28, _⟩ => ⟨S256x1, .f32⟩
  | .hbm, ⟨29, _⟩ => ⟨S256x1024, .f32⟩
  | .hbm, ⟨30, _⟩ => ⟨S256x1024, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S256x1024, .f32⟩
  | .hbm, ⟨36, _⟩ => ⟨S256x1024, .f32⟩
  | .hbm, ⟨37, _⟩ => ⟨S256x1024, .f32⟩
  | .hbm, ⟨38, _⟩ => ⟨S256x1024, .f32⟩
  | .hbm, ⟨39, _⟩ => ⟨S_, .f32⟩
  | .hbm, ⟨40, _⟩ => ⟨S1024, .f32⟩
  | .hbm, ⟨41, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_v15 : Ref sig .tc := ⟨.hbm, 24, rfl⟩
abbrev main_cst_1 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_2 : Ref sig .tc := ⟨.hbm, 39, rfl⟩
abbrev main_v29 : Ref sig .tc := ⟨.hbm, 40, rfl⟩
abbrev main_v30 : Ref sig .tc := ⟨.hbm, 41, rfl⟩

abbrev nD : Nat := 1
abbrev τ : Topo := Topo.v7x

variable {F : FTy → Type} [FloatOps F]
-- ==== AttnFwd.lean ====
abbrev S8192x1024 : Shape := ⟨2, ![8192, 1024]⟩
abbrev S256x1024 : Shape := ⟨2, ![256, 1024]⟩
abbrev S2048x1024 : Shape := ⟨2, ![2048, 1024]⟩
abbrev S2048x256 : Shape := ⟨2, ![2048, 256]⟩
abbrev S256x256 : Shape := ⟨2, ![256, 256]⟩
abbrev S2048 : Shape := ⟨1, ![2048]⟩
abbrev S2048x1 : Shape := ⟨2, ![2048, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .bf16⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S256x1024, .bf16⟩
  | .local _ .vmem, ⟨4, _⟩ => ⟨S2048x1024, .bf16⟩
  | .local _ .vmem, ⟨5, _⟩ => ⟨S2048x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnFwdRefIdeal.lean ====
abbrev S8192x1024 : Shape := ⟨2, ![8192, 1024]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S256x1024, .bf16⟩
  | .hbm, ⟨2, _⟩ => ⟨S256x1024, .bf16⟩
  | .hbm, ⟨3, _⟩ => ⟨S8192x1024, .f32⟩
  | .hbm, ⟨4, _⟩ => ⟨S256x1024, .f32⟩
  | .hbm, ⟨5, _⟩ => ⟨S256x1024, .f32⟩
  | .hbm, ⟨6, _⟩ => ⟨S8192x4x256, .f32⟩
  | .hbm, ⟨7, _⟩ => ⟨S256x4x256, .f32⟩
  | .hbm, ⟨8, _⟩ => ⟨S256x4x256, .f32⟩
  | .hbm, ⟨9, _⟩ => ⟨S4x8192x256, .f32⟩
  | .hbm, ⟨10, _⟩ => ⟨S_, .f32⟩
  | .hbm, ⟨11, _⟩ => ⟨S4x8192x256, .f32⟩
  | .hbm, ⟨12, _⟩ => ⟨S4x8192x256, .f32⟩
  | .hbm, ⟨13, _⟩ => ⟨S_, .f32⟩
  | .hbm, ⟨14, _⟩ => ⟨S4x8192, .f32⟩
  | .hbm, ⟨15, _⟩ => ⟨S_, .f32⟩
  | .hbm, ⟨16, _⟩ => ⟨S4x8192, .f32⟩
  | .hbm, ⟨17, _⟩ => ⟨S4x8192, .f32⟩
  | .hbm, ⟨18, _⟩ => ⟨S4x8192x1, .f32⟩
  | .hbm, ⟨19, _⟩ => ⟨S4x8192x256, .f32⟩
  | .hbm, ⟨20, _⟩ => ⟨S4x8192x256, .f32⟩
  | .hbm, ⟨21, _⟩ => ⟨S4x8192x256, .f32⟩
  | .hbm, ⟨22, _⟩ => ⟨S_, .f32⟩
  | .hbm, ⟨23, _⟩ => ⟨S4x8192, .f32⟩
  | .hbm, ⟨24, _⟩ => ⟨S4x8192x1, .f32⟩
  | .hbm, ⟨25, _⟩ => ⟨S4x8192x256, .f32⟩
  | .hbm, ⟨26, _⟩ => ⟨S4x8192x256, .f32⟩
  | .hbm, ⟨27, _⟩ => ⟨S4x256x8192, .f32⟩
  | .hbm, ⟨28, _⟩ => ⟨S8192x4x256, .f32⟩
  | .hbm, ⟨29, _⟩ => ⟨S8192x1024, .f32⟩
  | .hbm, ⟨30, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== SumSlots.lean ====
abbrev S8x160x1024 : Shape := ⟨3, ![8, 160, 1024]⟩
abbrev S160x1024 : Shape := ⟨2, ![160, 1024]⟩
abbrev S1x160x1024 : Shape := ⟨3, ![1, 160, 1024]⟩

abbrev nBuf : Space → Nat
  | .hbm => 2
  | .vmem => 2
  | .smem => 0
  | _ => 0

abbrev bufTy : (tb : Table) → Fin (tcTables nBuf tb) → BufTy
  | .hbm, ⟨0, _⟩ => ⟨S8x160x1024, .f32⟩
  | .hbm, ⟨1, _⟩ => ⟨S160x1024, .f32⟩
  | .local _ .vmem, ⟨0, _⟩ => ⟨S8x160x1024, .f32⟩
  | .local _ .vmem, ⟨1, _⟩ => ⟨S160x1024, .f32⟩
  | _, _ => ⟨S8x160x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x160x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S160x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSlotsRefIdeal.lean ====
abbrev S8x160x1024 : Shape := ⟨3, ![8, 160, 1024]⟩
abbrev S_ : Shape := ⟨0, ![]⟩
abbrev S160x1024 : Shape := ⟨2, ![160, 1024]⟩

abbrev nBuf : Space → Nat
  | .hbm => 3
  | .vmem => 0
  | .smem => 0
  | _ => 0

abbrev bufTy : (tb : Table) → Fin (tcTables nBuf tb) → BufTy
  | .hbm, ⟨0, _⟩ => ⟨S8x160x1024, .f32⟩
  | .hbm, ⟨1, _⟩ => ⟨S_, .f32⟩
  | .hbm, ⟨2, _⟩ => ⟨S160x1024, .f32⟩
  | _, _ => ⟨S8x160x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GroupSum.lean ====
abbrev S128x1024 : Shape := ⟨2, ![128, 1024]⟩
abbrev S128x8 : Shape := ⟨2, ![128, 8]⟩
abbrev S128x128 : Shape := ⟨2, ![128, 128]⟩
abbrev S128 : Shape := ⟨1, ![128]⟩
abbrev S128x1 : Shape := ⟨2, ![128, 1]⟩

abbrev nBuf : Space → Nat
  | .hbm => 2
  | .vmem => 2
  | .smem => 0
  | _ => 0

abbrev bufTy : (tb : Table) → Fin (tcTables nBuf tb) → BufTy
  | .hbm, ⟨0, _⟩ => ⟨S128x1024, .f32⟩
  | .hbm, ⟨1, _⟩ => ⟨S128x8, .f32⟩
  | .local _ .vmem, ⟨0, _⟩ => ⟨S128x1024, .f32⟩
  | .local _ .vmem, ⟨1, _⟩ => ⟨S128x8, .f32⟩
  | _, _ => ⟨S128x1024, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== GroupSumRefIdeal.lean ====
abbrev S128x1024 : Shape := ⟨2, ![128, 1024]⟩
abbrev S_ : Shape := ⟨0, ![]⟩
abbrev S128x8 : Shape := ⟨2, ![128, 8]⟩
abbrev S128x8x1 : Shape := ⟨3, ![128, 8, 1]⟩
abbrev S128x8x128 : Shape := ⟨3, ![128, 8, 128]⟩

abbrev nBuf : Space → Nat
  | .hbm => 12
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S_, .f32⟩
  | .hbm, ⟨2, _⟩ => ⟨S128x8, .f32⟩
  | .hbm, ⟨3, _⟩ => ⟨S128x8x1, .f32⟩
  | .hbm, ⟨4, _⟩ => ⟨S128x8x128, .f32⟩
  | .hbm, ⟨5, _⟩ => ⟨S128x1024, .f32⟩
  | .hbm, ⟨6, _⟩ => ⟨S128x8x128, .f32⟩
  | .hbm, ⟨7, _⟩ => ⟨S_, .f32⟩
  | .hbm, ⟨8, _⟩ => ⟨S128x8, .f32⟩
  | .hbm, ⟨9, _⟩ => ⟨S128x8x1, .f32⟩
  | .hbm, ⟨10, _⟩ => ⟨S_, .f32⟩
  | .hbm, ⟨11, _⟩ => ⟨S128x8, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst_0 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Proof.Attn.Soft.lean ====
/- The arithmetic of one attention row at the extended reals: the scaled scores of a query against the memory, their
   softmax, and the gradient of the scores that the row's output gradient induces. -/
module

public import Idealize.ShloMosaic.Lib.Pointwise

@[expose] public section

noncomputable section

namespace Cert.Attn

open Idealize.ShloMosaic

/-- The scale of the scores, one sixteenth. -/
def scale : EReal := Ideal.ofBits .f32 0x3D800000#32

/-- The score of a query `q` against each memory row of `k`. -/
def score (q : Fin 256 → EReal) (k : Fin 256 → Fin 256 → EReal) (j : Fin 256) : EReal :=
  (∑ x, q x * k j x) * scale

/-- The largest of a row of scores. -/
def top (s : Fin 256 → EReal) : EReal := Finset.fold max (Ideal.ofBits .f32 0xFF800000#32) s Finset.univ

/-- The softmax of a row of scores. -/
def soft (s : Fin 256 → EReal) (j : Fin 256) : EReal :=
  Ideal.div (Ideal.exp (s j - top s)) (∑ x, Ideal.exp (s x - top s))

/-- The gradient of the unscaled scores, `dp` being the gradient of the softmax's values. -/
def dscore (s dp : Fin 256 → EReal) (j : Fin 256) : EReal :=
  soft s j * (dp j - ∑ x, dp x * soft s x) * scale

/-- The gradient of the softmax's values: the output's gradient against each row of `v`. -/
def dprob (d : Fin 256 → EReal) (v : Fin 256 → Fin 256 → EReal) (j : Fin 256) : EReal := ∑ x, d x * v j x

/-- The head a column belongs to. -/
def hd (j : Fin 1024) : Fin 4 := ⟨j.val / 256, by have := j.isLt; omega⟩

/-- A column's place within its head. -/
def lo (j : Fin 1024) : Fin 256 := ⟨j.val % 256, Nat.mod_lt _ (by norm_num)⟩

/-- The column at place `d` of head `h`. -/
def col (h : Fin 4) (d : Fin 256) : Fin 1024 := ⟨256 * h.val + d.val, by have := h.isLt; have := d.isLt; omega⟩

/-- One head's columns of an array of `n` rows. -/
def slab {n : ℕ} (X : (⟨2, ![n, 1024]⟩ : Shape).Idx → EReal) (h : Fin 4) (r : Fin n) (d : Fin 256) : EReal :=
  X (ix2 r (col h d))

variable {n : ℕ} (q : (⟨2, ![n, 1024]⟩ : Shape).Idx → EReal) (k v : (⟨2, ![256, 1024]⟩ : Shape).Idx → EReal)
  (d : (⟨2, ![n, 1024]⟩ : Shape).Idx → EReal) (h : Fin 4)

/-- The attention weights of row `r` in head `h`. -/
def P (r : Fin n) (j : Fin 256) : EReal := soft (score (slab q h r) (slab k h)) j

/-- The gradient of the scores of row `r` in head `h`. -/
def DS (r : Fin n) (j : Fin 256) : EReal :=
  dscore (score (slab q h r) (slab k h)) (dprob (slab d h r) (slab v h)) j

/-- The query gradient. -/
def DQ (r : Fin n) (a : Fin 256) : EReal := ∑ j, DS q k v d h r j * slab k h j a

/-- The key gradient. -/
def DK (j : Fin 256) (a : Fin 256) : EReal := ∑ r, DS q k v d h r j * slab q h r a

/-- The value gradient. -/
def DV (j : Fin 256) (a : Fin 256) : EReal := ∑ r, P q k h r j * slab d h r a

end Cert.Attn
end
-- ==== Proof.Attn.Point.lean ====
/- One grid point of the attention gradient, read at an index: the block of the query gradient it writes, and what it
   adds to the key and value gradients. -/
module

public import proofs.«01_k».proof.Proof.Gen.AttnBwdIdeal.Value
public import proofs.«01_k».proof.Proof.Attn.Soft
public import Idealize.ShloMosaic.Lib.Pipeline.ValueKit
public import Idealize.ShloMosaic.Lib.Pipeline.ReadBack

@[expose] public section

set_option maxRecDepth 16384
noncomputable section

namespace Cert.AttnBwdIdeal.Hand

open Cert.AttnBwdIdeal Cert.AttnBwdIdeal.Gen Idealize.ShloMosaic Idealize.ShloMosaic.TcCoe Idealize.SL.Sem Cert.Attn
open Idealize.ShloMosaic.Pipeline (Dat)

theorem ld_slab {n : ℕ} {e : EltTy} (X : (⟨2, ![n, 1024]⟩ : Shape).Idx → Elt Ideal e) (G : (⟨2, ![n, 256]⟩ : Shape).Idx → Elt Ideal e)
    (h : Fin 4) (o : ℕ) (ho : o = 256 * h.val) (hG : ∀ r d, G (ix2 r d) = X (ix2 r (col h d)))
    (inb : ∀ a, (![0, o] : Fin 2 → ℕ) a + (![n, 256] : Fin 2 → ℕ) a ≤ (⟨2, ![n, 1024]⟩ : Shape).size a) :
    View.ld X (Rect.unit (s := ⟨2, ![n, 1024]⟩) ![0, o] ![n, 256] inb) = G := by
  subst ho
  funext i
  obtain ⟨r, d, rfl⟩ : ∃ (r : Fin n) (d : Fin 256), i = ix2 r d := ⟨i 0, i 1, eq_ix2 i⟩
  refine Eq.trans ?_ (hG r d).symm
  show X _ = X _
  congr 1
  funext a
  refine Fin.ext ?_
  match a with
  | ⟨0, _⟩ => simp
  | ⟨1, _⟩ => simp [col]

section payloads
variable (q d : Vec Ideal S2048x256 .bf16) (k v : Vec Ideal S256x256 .bf16) (a : Vec Ideal S256x256 .f32)
  (r : Fin 2048) (j : Fin 256) (b : Fin 256)

/-- A block's weights. -/
abbrev pP : EReal := soft (score (fun x => q (ix2 r x)) (fun j x => k (ix2 j x))) j
/-- A block's score gradients. -/
abbrev pS : EReal := dscore (score (fun x => q (ix2 r x)) (fun j x => k (ix2 j x)))
  (dprob (fun x => d (ix2 r x)) (fun j x => v (ix2 j x))) j

theorem dv0 : k0_pay9 q k d a (ix2 j b) = a (ix2 j b) + ∑ r, pP q k r j * d (ix2 r b) := by
  unfold_payloads; pointwise; rfl
theorem dv1 : k0_pay15 q k d a (ix2 j b) = a (ix2 j b) + ∑ r, pP q k r j * d (ix2 r b) := by
  unfold_payloads; pointwise; rfl
theorem dv2 : k0_pay21 d (k0_pay19 q k) a (ix2 j b) = a (ix2 j b) + ∑ r, pP q k r j * d (ix2 r b) := by
  unfold_payloads; pointwise; rfl
theorem dv3 : k0_pay2 d (k0_pay25 q k) (k0_pay26 q k) a (ix2 j b) = a (ix2 j b) + ∑ r, pP q k r j * d (ix2 r b) := by
  unfold_payloads; pointwise; rfl

theorem dq0 : k0_pay11 k (k0_pay10 q k v d) (ix2 r b) = ∑ j, pS q d k v r j * k (ix2 j b) := by
  unfold_payloads; pointwise; rfl
theorem dq1 : k0_pay17 k (k0_pay13 q k) (k0_pay14 v d) (ix2 r b) = ∑ j, pS q d k v r j * k (ix2 j b) := by
  unfold_payloads; pointwise; rfl
theorem dq2 : k0_pay23 k (k0_pay19 q k) (k0_pay20 v d) (ix2 r b) = ∑ j, pS q d k v r j * k (ix2 j b) := by
  unfold_payloads; pointwise; rfl
theorem dq3 : k0_pay4 k v d (k0_pay25 q k) (k0_pay26 q k) (ix2 r b) = ∑ j, pS q d k v r j * k (ix2 j b) := by
  unfold_payloads; pointwise; rfl

theorem dk0 : k0_pay12 q (k0_pay10 q k v d) a (ix2 j b) = a (ix2 j b) + ∑ r, pS q d k v r j * q (ix2 r b) := by
  unfold_payloads; pointwise; rfl
theorem dk1 : k0_pay18 q (k0_pay13 q k) (k0_pay14 v d) a (ix2 j b) = a (ix2 j b) + ∑ r, pS q d k v r j * q (ix2 r b) := by
  unfold_payloads; pointwise; rfl
theorem dk2 : k0_pay24 q (k0_pay19 q k) (k0_pay20 v d) a (ix2 j b) = a (ix2 j b) + ∑ r, pS q d k v r j * q (ix2 r b) := by
  unfold_payloads; pointwise; rfl
theorem dk3 : k0_pay5 q v d (k0_pay25 q k) (k0_pay26 q k) a (ix2 j b) = a (ix2 j b) + ∑ r, pS q d k v r j * q (ix2 r b) := by
  unfold_payloads; pointwise; rfl
end payloads

/-- A column in head `h` at place `b`. -/
theorem col_split (j : Fin 1024) (h : Fin 4) (b : Fin 256) (e : (j : ℕ) = 256 * h.val + b.val) : hd j = h ∧ lo j = b := by
  have := b.isLt
  constructor <;> refine Fin.ext ?_ <;> simp only [hd, lo] <;> omega

/-- A block's rows, a head at a time. -/
abbrev sv {n : ℕ} (e : EltTy) (X : (⟨2, ![n, 1024]⟩ : Shape).Idx → Elt Ideal e) (h : Fin 4) : Vec Ideal (⟨2, ![n, 256]⟩ : Shape) e :=
  fun i => X (ix2 (i 0) (col h (i 1)))

theorem ld_sv {n : ℕ} {e : EltTy} (X : (⟨2, ![n, 1024]⟩ : Shape).Idx → Elt Ideal e) (h : Fin 4) (o : ℕ) (ho : o = 256 * h.val)
    (inb : ∀ a, (![0, o] : Fin 2 → ℕ) a + (![n, 256] : Fin 2 → ℕ) a ≤ (⟨2, ![n, 1024]⟩ : Shape).size a) :
    View.ld X (Rect.unit (s := ⟨2, ![n, 1024]⟩) ![0, o] ![n, 256] inb) = sv e X h :=
  ld_slab X _ h o ho (fun _ _ => rfl) inb

/-- Earlier stores do not show where later ones cover. -/
theorem canon_front {S : Shape} {e : EltTy} : ∀ (L L' : List (View.Piece (Elt Ideal) S e)) (y : S.Idx) (_ : ∃ p ∈ L, y ∈ p.1.set),
    View.canon (L ++ L') y = View.canon L y
  | [], _, _, hc => by obtain ⟨p, hp, _⟩ := hc; exact absurd hp List.not_mem_nil
  | p :: L, L', y, hc => by
    by_cases hm : y ∈ p.1.set
    · obtain ⟨x, rfl⟩ := p.1.exists_idx_of_mem hm
      rw [List.cons_append, show p.1.idx x = p.1.emb x from rfl, View.canon_cons_emb, View.canon_cons_emb]
    · rw [List.cons_append, View.canon_cons_of_not_mem _ _ hm, View.canon_cons_of_not_mem _ _ hm]
      refine canon_front L L' y ?_
      obtain ⟨q, hq, hy⟩ := hc
      rcases List.mem_cons.mp hq with rfl | hq
      · exact absurd hy hm
      · exact ⟨q, hq, hy⟩

section pieces
variable (x0 x3 : Vec Ideal S2048x1024 .bf16) (x1 x2 : Vec Ideal S256x1024 .bf16) (h : Fin 4)

theorem dq_piece (w : Vec Ideal S2048x256 .bf16) (x : S2048x256.Idx) (y : S2048x1024.Idx)
    (hw : ∀ r b, w (ix2 r b) = ∑ j, pS (sv .bf16 x0 h) (sv .bf16 x3 h) (sv .bf16 x1 h) (sv .bf16 x2 h) r j * sv .bf16 x1 h (ix2 j b))
    (e0 : (y 0 : ℕ) = x 0) (e1 : (y 1 : ℕ) = 256 * h.val + (x 1 : ℕ)) : w x = DQ x0 x1 x2 x3 (hd (y 1)) (y 0) (lo (y 1)) := by
  obtain ⟨r, b, rfl⟩ : ∃ (r : Fin 2048) (b : Fin 256), x = ix2 r b := ⟨x 0, x 1, eq_ix2 x⟩
  obtain ⟨a1, a2⟩ := col_split (y 1) h b e1
  rw [a1, a2, (Fin.ext e0 : y 0 = r), hw]
  rfl

theorem dk_piece (a : Vec Ideal S256x1024 .f32) (w : Vec Ideal S256x256 .f32) (x : S256x256.Idx) (y : S256x1024.Idx)
    (hw : ∀ j b, w (ix2 j b) = sv .f32 a h (ix2 j b) + ∑ r, pS (sv .bf16 x0 h) (sv .bf16 x3 h) (sv .bf16 x1 h) (sv .bf16 x2 h) r j * sv .bf16 x0 h (ix2 r b))
    (e0 : (y 0 : ℕ) = x 0) (e1 : (y 1 : ℕ) = 256 * h.val + (x 1 : ℕ)) : w x = a y + DK x0 x1 x2 x3 (hd (y 1)) (y 0) (lo (y 1)) := by
  obtain ⟨r, b, rfl⟩ : ∃ r b : Fin 256, x = ix2 r b := ⟨x 0, x 1, eq_ix2 x⟩
  obtain ⟨a1, a2⟩ := col_split (y 1) h b e1
  have ey : y = ix2 r (col h b) := by
    rw [eq_ix2 y]; exact congrArg₂ ix2 (Fin.ext e0) (Fin.ext e1)
  rw [a1, a2, (Fin.ext e0 : y 0 = r), hw, ey]
  rfl

theorem dv_piece (a : Vec Ideal S256x1024 .f32) (w : Vec Ideal S256x256 .f32) (x : S256x256.Idx) (y : S256x1024.Idx)
    (hw : ∀ j b, w (ix2 j b) = sv .f32 a h (ix2 j b) + ∑ r, pP (sv .bf16 x0 h) (sv .bf16 x1 h) r j * sv .bf16 x3 h (ix2 r b))
    (e0 : (y 0 : ℕ) = x 0) (e1 : (y 1 : ℕ) = 256 * h.val + (x 1 : ℕ)) : w x = a y + DV x0 x1 x3 (hd (y 1)) (y 0) (lo (y 1)) := by
  obtain ⟨r, b, rfl⟩ : ∃ r b : Fin 256, x = ix2 r b := ⟨x 0, x 1, eq_ix2 x⟩
  obtain ⟨a1, a2⟩ := col_split (y 1) h b e1
  have ey : y = ix2 r (col h b) := by
    rw [eq_ix2 y]; exact congrArg₂ ix2 (Fin.ext e0) (Fin.ext e1)
  rw [a1, a2, (Fin.ext e0 : y 0 = r), hw, ey]
  rfl
end pieces

variable (c : Dev nD) (i : grid0.Coords) (arg1 : Memref sig .tc .vmem S2048x1024 .bf16) (harg1 : arg1.IsWhole) (arg2 : Memref sig .tc .vmem S256x1024 .bf16) (harg2 : arg2.IsWhole) (arg3 : Memref sig .tc .vmem S256x1024 .bf16) (harg3 : arg3.IsWhole) (arg4 : Memref sig .tc .vmem S2048x1024 .bf16) (harg4 : arg4.IsWhole) (arg5 : Memref sig .tc .vmem S2048x1024 .bf16) (harg5 : arg5.IsWhole) (arg6 : Memref sig .tc .vmem S256x1024 .f32) (harg6 : arg6.IsWhole) (arg7 : Memref sig .tc .vmem S256x1024 .f32) (harg7 : arg7.IsWhole)
    (x0 : Vec Ideal S2048x1024 .bf16) (x1 : Vec Ideal S256x1024 .bf16) (x2 : Vec Ideal S256x1024 .bf16) (x3 : Vec Ideal S2048x1024 .bf16) (xo5 : Vec Ideal S256x1024 .f32) (xo6 : Vec Ideal S256x1024 .f32)

theorem out_B_4 (hc0 : ¬cond0_0 i) (y : S2048x1024.Idx) :
    out0_B_4 c i arg1 harg1 arg2 harg2 arg3 harg3 arg4 harg4 arg5 harg5 arg6 harg6 arg7 harg7 hc0 x0 x1 x2 x3 xo5 xo6 y = DQ x0 x1 x2 x3 (hd (y 1)) (y 0) (lo (y 1)) := by
  frame_out
  simp only [ld_sv _ 3 768 rfl, ld_sv _ 2 512 rfl, ld_sv _ 1 256 rfl, ld_sv _ 0 0 rfl]
  canon_tiles x h
  · exact dq_piece x0 x3 x1 x2 3 _ x y (fun r b => dq3 _ _ _ _ r b) h0 h1
  · exact dq_piece x0 x3 x1 x2 2 _ x y (fun r b => dq2 _ _ _ _ r b) h0 h1
  · exact dq_piece x0 x3 x1 x2 1 _ x y (fun r b => dq1 _ _ _ _ r b) h0 h1
  · exact dq_piece x0 x3 x1 x2 0 _ x y (fun r b => dq0 _ _ _ _ r b) h0 (by simpa using h1)

theorem out_B_5 (hc0 : ¬cond0_0 i) (y : S256x1024.Idx) :
    out0_B_5 c i arg1 harg1 arg2 harg2 arg3 harg3 arg4 harg4 arg5 harg5 arg6 harg6 arg7 harg7 hc0 x0 x1 x2 x3 xo5 xo6 y = xo5 y + DK x0 x1 x2 x3 (hd (y 1)) (y 0) (lo (y 1)) := by
  frame_out
  simp only [ld_sv _ 3 768 rfl, ld_sv _ 2 512 rfl, ld_sv _ 1 256 rfl, ld_sv _ 0 0 rfl]
  canon_tiles x h
  · exact dk_piece x0 x3 x1 x2 3 _ _ x y (fun r b => dk3 _ _ _ _ _ r b) h0 h1
  · exact dk_piece x0 x3 x1 x2 2 _ _ x y (fun r b => dk2 _ _ _ _ _ r b) h0 h1
  · exact dk_piece x0 x3 x1 x2 1 _ _ x y (fun r b => dk1 _ _ _ _ _ r b) h0 h1
  · exact dk_piece x0 x3 x1 x2 0 _ _ x y (fun r b => dk0 _ _ _ _ _ r b) h0 (by simpa using h1)

theorem out_B_6 (hc0 : ¬cond0_0 i) (y : S256x1024.Idx) :
    out0_B_6 c i arg1 harg1 arg2 harg2 arg3 harg3 arg4 harg4 arg5 harg5 arg6 harg6 arg7 harg7 hc0 x0 x1 x2 x3 xo5 xo6 y = xo6 y + DV x0 x1 x3 (hd (y 1)) (y 0) (lo (y 1)) := by
  frame_out
  simp only [ld_sv _ 3 768 rfl, ld_sv _ 2 512 rfl, ld_sv _ 1 256 rfl, ld_sv _ 0 0 rfl]
  canon_tiles x h
  · exact dv_piece x0 x3 x1 3 _ _ x y (fun r b => dv3 _ _ _ _ r b) h0 h1
  · exact dv_piece x0 x3 x1 2 _ _ x y (fun r b => dv2 _ _ _ _ r b) h0 h1
  · exact dv_piece x0 x3 x1 1 _ _ x y (fun r b => dv1 _ _ _ _ r b) h0 h1
  · exact dv_piece x0 x3 x1 0 _ _ x y (fun r b => dv0 _ _ _ _ r b) h0 (by simpa using h1)

theorem out_A_4 (hc0 : cond0_0 i) (y : S2048x1024.Idx) :
    out0_A_4 c i arg1 harg1 arg2 harg2 arg3 harg3 arg4 harg4 arg5 harg5 arg6 harg6 arg7 harg7 hc0 x0 x1 x2 x3 y = DQ x0 x1 x2 x3 (hd (y 1)) (y 0) (lo (y 1)) := by
  frame_out
  simp only [ld_sv _ 3 768 rfl, ld_sv _ 2 512 rfl, ld_sv _ 1 256 rfl, ld_sv _ 0 0 rfl]
  canon_tiles x h
  · exact dq_piece x0 x3 x1 x2 3 _ x y (fun r b => dq3 _ _ _ _ r b) h0 h1
  · exact dq_piece x0 x3 x1 x2 2 _ x y (fun r b => dq2 _ _ _ _ r b) h0 h1
  · exact dq_piece x0 x3 x1 x2 1 _ x y (fun r b => dq1 _ _ _ _ r b) h0 h1
  · exact dq_piece x0 x3 x1 x2 0 _ x y (fun r b => dq0 _ _ _ _ r b) h0 (by simpa using h1)

theorem out_A_5 (hc0 : cond0_0 i) (y : S256x1024.Idx) :
    out0_A_5 c i arg1 harg1 arg2 harg2 arg3 harg3 arg4 harg4 arg5 harg5 arg6 harg6 arg7 harg7 hc0 x0 x1 x2 x3 y = (0 : EReal) + DK x0 x1 x2 x3 (hd (y 1)) (y 0) (lo (y 1)) := by
  frame_open
  simp (disch := decide) only [↓ View.readCov_skip, ↓ View.readCov_cons_toLoadRect, ↓ View.readCov_fill]
  frame_out
  simp only [ld_sv _ 3 768 rfl, ld_sv _ 2 512 rfl, ld_sv _ 1 256 rfl, ld_sv _ 0 0 rfl]
  refine (canon_front [_, _, _, _] [_] y (View.cover_of_tiled_head _ _ _ rfl y)).trans ?_
  have z : k0_pay6 (F := Ideal) y = (0 : EReal) := by unfold k0_pay6; pointwise
  refine Eq.trans (b := k0_pay6 (F := Ideal) y + DK x0 x1 x2 x3 (hd (y 1)) (y 0) (lo (y 1))) ?_ (by rw [z])
  canon_tiles x h
  · exact dk_piece x0 x3 x1 x2 3 _ _ x y (fun r b => dk3 _ _ _ _ _ r b) h0 h1
  · exact dk_piece x0 x3 x1 x2 2 _ _ x y (fun r b => dk2 _ _ _ _ _ r b) h0 h1
  · exact dk_piece x0 x3 x1 x2 1 _ _ x y (fun r b => dk1 _ _ _ _ _ r b) h0 h1
  · exact dk_piece x0 x3 x1 x2 0 _ _ x y (fun r b => dk0 _ _ _ _ _ r b) h0 (by simpa using h1)

theorem out_A_6 (hc0 : cond0_0 i) (y : S256x1024.Idx) :
    out0_A_6 c i arg1 harg1 arg2 harg2 arg3 harg3 arg4 harg4 arg5 harg5 arg6 harg6 arg7 harg7 hc0 x0 x1 x2 x3 y = (0 : EReal) + DV x0 x1 x3 (hd (y 1)) (y 0) (lo (y 1)) := by
  frame_open
  simp (disch := decide) only [↓ View.readCov_skip, ↓ View.readCov_cons_toLoadRect, ↓ View.readCov_fill]
  frame_out
  simp only [ld_sv _ 3 768 rfl, ld_sv _ 2 512 rfl, ld_sv _ 1 256 rfl, ld_sv _ 0 0 rfl]
  refine (canon_front [_, _, _, _] [_] y (View.cover_of_tiled_head _ _ _ rfl y)).trans ?_
  have z : k0_pay7 (F := Ideal) y = (0 : EReal) := by unfold k0_pay7; pointwise
  refine Eq.trans (b := k0_pay7 (F := Ideal) y + DV x0 x1 x3 (hd (y 1)) (y 0) (lo (y 1))) ?_ (by rw [z])
  canon_tiles x h
  · exact dv_piece x0 x3 x1 3 _ _ x y (fun r b => dv3 _ _ _ _ r b) h0 h1
  · exact dv_piece x0 x3 x1 2 _ _ x y (fun r b => dv2 _ _ _ _ r b) h0 h1
  · exact dv_piece x0 x3 x1 1 _ _ x y (fun r b => dv1 _ _ _ _ r b) h0 h1
  · exact dv_piece x0 x3 x1 0 _ _ x y (fun r b => dv0 _ _ _ _ r b) h0 (by simpa using h1)

end Cert.AttnBwdIdeal.Hand
end
-- ==== Proof.Attn.Whole.lean ====
/- The whole result arrays of the attention gradient: each grid point's block put together, the key and value gradients
   added up over the grid points. -/
module

public import proofs.«01_k».proof.Proof.Attn.Point

@[expose] public section

set_option maxRecDepth 16384
noncomputable section

namespace Cert.AttnBwdIdeal.Hand

open Cert.AttnBwdIdeal Cert.AttnBwdIdeal.Gen Idealize.ShloMosaic Idealize.ShloMosaic.TcCoe Idealize.SL.Sem Cert.Attn
open Idealize.ShloMosaic.Pipeline (Dat)

variable (m : (ℓ : Loc nD τ sig) → Buf (Elt Ideal) ℓ) (c : Dev nD)

abbrev aQ : S8192x1024.Idx → EReal := m ((c.tc : Thread nD τ).loc main_arg0)
abbrev aK : S256x1024.Idx → EReal := m ((c.tc : Thread nD τ).loc main_arg1)
abbrev aV : S256x1024.Idx → EReal := m ((c.tc : Thread nD τ).loc main_arg2)
abbrev aD : S8192x1024.Idx → EReal := m ((c.tc : Thread nD τ).loc main_arg3)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![0, 0] := by decide +kernel
theorem idx6 : ∀ t : Fin grid0.N, win0_6.index t = ![0, 0] := by decide +kernel

theorem blkQ (t : Fin cfg0.N) (r : Fin 2048) (b : Fin 1024) (R : Fin 8192) (hR : (R : ℕ) = 2048 * t.val + r.val) :
    iblk m c 0 t (ix2 r b) = aQ m c (ix2 R b) := by
  blk_ext [iblk, V, idx0 t]
  all_goals simp [hR]

theorem blkK (t : Fin cfg0.N) : iblk m c 1 t = aK m c := by
  funext y
  blk_ext [iblk, V, idx1 t]

theorem blkV (t : Fin cfg0.N) : iblk m c 2 t = aV m c := by
  funext y
  blk_ext [iblk, V, idx2 t]

theorem blkD (t : Fin cfg0.N) (r : Fin 2048) (b : Fin 1024) (R : Fin 8192) (hR : (R : ℕ) = 2048 * t.val + r.val) :
    iblk m c 3 t (ix2 r b) = aD m c (ix2 R b) := by
  blk_ext [iblk, V, idx3 t]
  all_goals simp [hR]

section rows
variable (t : Fin cfg0.N) (r : Fin 2048) (R : Fin 8192) (hR : (R : ℕ) = 2048 * t.val + r.val) (h : Fin 4)
include hR

theorem slabQ : slab (iblk m c 0 t) h r = slab (aQ m c) h R := funext fun b => blkQ m c t r (col h b) R hR
theorem slabD : slab (iblk m c 3 t) h r = slab (aD m c) h R := funext fun b => blkD m c t r (col h b) R hR

theorem DS_row (j : Fin 256) : DS (iblk m c 0 t) (iblk m c 1 t) (iblk m c 2 t) (iblk m c 3 t) h r j =
    DS (aQ m c) (aK m c) (aV m c) (aD m c) h R j := by
  unfold DS; rw [slabQ m c t r R hR, slabD m c t r R hR, blkK, blkV]

theorem P_row (j : Fin 256) : P (iblk m c 0 t) (iblk m c 1 t) h r j = P (aQ m c) (aK m c) h R j := by
  unfold P; rw [slabQ m c t r R hR, blkK]

theorem DQ_row (a : Fin 256) : DQ (iblk m c 0 t) (iblk m c 1 t) (iblk m c 2 t) (iblk m c 3 t) h r a =
    DQ (aQ m c) (aK m c) (aV m c) (aD m c) h R a := by
  unfold DQ
  exact Finset.sum_congr rfl fun j _ => by rw [DS_row m c t r R hR, blkK]

theorem DK_term (j a : Fin 256) : DS (iblk m c 0 t) (iblk m c 1 t) (iblk m c 2 t) (iblk m c 3 t) h r j * slab (iblk m c 0 t) h r a =
    DS (aQ m c) (aK m c) (aV m c) (aD m c) h R j * slab (aQ m c) h R a := by
  rw [DS_row m c t r R hR, slabQ m c t r R hR]

theorem DV_term (j a : Fin 256) : P (iblk m c 0 t) (iblk m c 1 t) h r j * slab (iblk m c 3 t) h r a =
    P (aQ m c) (aK m c) h R j * slab (aD m c) h R a := by
  rw [P_row m c t r R hR, slabD m c t r R hR]
end rows

theorem out_4 (t : Fin cfg0.N) (y : S2048x1024.Idx) : (outsAt0 m c t.val t.isLt).1 y =
    DQ (iblk m c 0 t) (iblk m c 1 t) (iblk m c 2 t) (iblk m c 3 t) (hd (y 1)) (y 0) (lo (y 1)) := by
  by_cases h0 : t.val % 4 = 0
  · rw [outsAt0_A m c t h0]; dsimp only; rw [out_A_4]
  · rw [outsAt0_B m c t h0]; dsimp only; rw [out_B_4]

theorem dq_final : (dats m 0 c).arrAt 4 cfg0.N = fun y : S8192x1024.Idx => DQ (aQ m c) (aK m c) (aV m c) (aD m c) (hd (y 1)) (y 0) (lo (y 1)) := by
  refine (dats m 0 c).arrAt_eq_of_covers 4 _ (by decide +kernel) fun t hf y => ?_
  blk_simp
  rw [after0_4, out_4]
  have e0 : ((win0_4.blk t).view.emb y 0 : ℕ) = 2048 * t.val + (y 0).val := by
    blk_simp [idx4 t]
    omega
  have e1 : (win0_4.blk t).view.emb y 1 = y 1 := by
    apply Fin.ext
    blk_simp [idx4 t]
  rw [e1]
  exact DQ_row m c t _ _ e0 _ _

theorem first5 (t : Fin cfg0.N) (h0 : t.val % 4 = 0) (y : S256x1024.Idx) : (outsAt0 m c t.val t.isLt).2.1 y =
    (0 : EReal) + DK (iblk m c 0 t) (iblk m c 1 t) (iblk m c 2 t) (iblk m c 3 t) (hd (y 1)) (y 0) (lo (y 1)) := by
  rw [outsAt0_A m c t h0]; dsimp only; rw [out_A_5]

theorem next5 (t : Fin cfg0.N) (h0 : ¬t.val % 4 = 0) (y : S256x1024.Idx) : (outsAt0 m c t.val t.isLt).2.1 y =
    (outsAt0 m c (t.val - 1) (by have := t.isLt; omega)).2.1 y + DK (iblk m c 0 t) (iblk m c 1 t) (iblk m c 2 t) (iblk m c 3 t) (hd (y 1)) (y 0) (lo (y 1)) := by
  rw [outsAt0_B m c t h0]; dsimp only; rw [out_B_5]

theorem acc5 (t : Fin cfg0.N) (ht : t.val + 1 = 4) (y : S256x1024.Idx) : (outsAt0 m c t.val t.isLt).2.1 y =
    (0 : EReal) + ∑ p : Fin 4, DK (iblk m c 0 p) (iblk m c 1 p) (iblk m c 2 p) (iblk m c 3 p) (hd (y 1)) (y 0) (lo (y 1)) := by
  rw [Pipeline.eq_sum_fin_of_reset_step_apply_last (fun t ht => (outsAt0 m c t ht).2.1) 4 (fun _ => (0 : EReal))
    (fun p y => DK (iblk m c 0 p) (iblk m c 1 p) (iblk m c 2 p) (iblk m c 3 p) (hd (y 1)) (y 0) (lo (y 1))) ?_ ?_ (by decide) t ht y]
  · rfl
  · exact first5 m c
  · exact next5 m c

theorem first6 (t : Fin cfg0.N) (h0 : t.val % 4 = 0) (y : S256x1024.Idx) : (outsAt0 m c t.val t.isLt).2.2 y =
    (0 : EReal) + DV (iblk m c 0 t) (iblk m c 1 t) (iblk m c 3 t) (hd (y 1)) (y 0) (lo (y 1)) := by
  rw [outsAt0_A m c t h0]; dsimp only; rw [out_A_6]

theorem next6 (t : Fin cfg0.N) (h0 : ¬t.val % 4 = 0) (y : S256x1024.Idx) : (outsAt0 m c t.val t.isLt).2.2 y =
    (outsAt0 m c (t.val - 1) (by have := t.isLt; omega)).2.2 y + DV (iblk m c 0 t) (iblk m c 1 t) (iblk m c 3 t) (hd (y 1)) (y 0) (lo (y 1)) := by
  rw [outsAt0_B m c t h0]; dsimp only; rw [out_B_6]

theorem acc6 (t : Fin cfg0.N) (ht : t.val + 1 = 4) (y : S256x1024.Idx) : (outsAt0 m c t.val t.isLt).2.2 y =
    (0 : EReal) + ∑ p : Fin 4, DV (iblk m c 0 p) (iblk m c 1 p) (iblk m c 3 p) (hd (y 1)) (y 0) (lo (y 1)) := by
  rw [Pipeline.eq_sum_fin_of_reset_step_apply_last (fun t ht => (outsAt0 m c t ht).2.2) 4 (fun _ => (0 : EReal))
    (fun p y => DV (iblk m c 0 p) (iblk m c 1 p) (iblk m c 3 p) (hd (y 1)) (y 0) (lo (y 1))) ?_ ?_ (by decide) t ht y]
  · rfl
  · exact first6 m c
  · exact next6 m c

theorem dk_final : (dats m 0 c).arrAt 5 cfg0.N = fun y : S256x1024.Idx => DK (aQ m c) (aK m c) (aV m c) (aD m c) (hd (y 1)) (y 0) (lo (y 1)) := by
  refine (dats m 0 c).arrAt_eq_of_after_last 5 t0_3 (by decide +kernel) _ fun y => ?_
  blk_simp
  rw [after0_5, acc5 m c t0_3 rfl, zero_add]
  unfold DK
  refine Fin.sum_mul_add_congr (fun t k hl => ?_)
  have hR : ((⟨t.val * 2048 + k.val, hl⟩ : Fin 8192) : ℕ) = 2048 * t.val + k.val := by dsimp only; omega
  exact DK_term m c t k _ hR _ _ _

theorem dv_final : (dats m 0 c).arrAt 6 cfg0.N = fun y : S256x1024.Idx => DV (aQ m c) (aK m c) (aD m c) (hd (y 1)) (y 0) (lo (y 1)) := by
  refine (dats m 0 c).arrAt_eq_of_after_last 6 t0_3 (by decide +kernel) _ fun y => ?_
  blk_simp
  rw [after0_6, acc6 m c t0_3 rfl, zero_add]
  unfold DV
  refine Fin.sum_mul_add_congr (fun t k hl => ?_)
  have hR : ((⟨t.val * 2048 + k.val, hl⟩ : Fin 8192) : ℕ) = 2048 * t.val + k.val := by dsimp only; omega
  exact DV_term m c t k _ hR _ _ _

end Cert.AttnBwdIdeal.Hand
end
-- ==== Proof.Attn.Grad.lean ====
/- The two ways of writing the gradient of a softmax agree where the scores are real: the reference differentiates the
   quotient, the kernel uses the softmax's own values. The output's gradient may be anything. -/
module

public import proofs.«01_k».proof.Proof.Attn.Soft

@[expose] public section

noncomputable section

namespace Cert.Attn

open Idealize.ShloMosaic

/-- The score gradient as the derivative of the quotient gives it: `e` the exponentials, `l` their sum, `dp` the weights' gradient. -/
def refds (e dp : Fin 256 → EReal) (l : EReal) (j : Fin 256) : EReal :=
  (Ideal.div (dp j) l + (-∑ x, dp x * Ideal.div 1 (l * l) * e x)) * e j * scale

/-- A nonnegative real factor goes into a sum of extended reals. -/
theorem sum_mul_real {ι : Type*} (A : Finset ι) (f : ι → EReal) (a : ℝ) (ha : 0 ≤ a) :
    (∑ x ∈ A, f x) * (a : EReal) = ∑ x ∈ A, f x * (a : EReal) := by
  classical
  induction A using Finset.induction_on with
  | empty => simp
  | insert i A hi ih =>
    rw [Finset.sum_insert hi, Finset.sum_insert hi, ← ih,
      EReal.right_distrib_of_nonneg_of_ne_top (EReal.coe_nonneg.2 ha) (EReal.coe_ne_top a)]

/-- A finite sum of reals is that real. -/
theorem real_sum {ι : Type*} (A : Finset ι) (f : ι → ℝ) : (∑ x ∈ A, (f x : EReal)) = ((∑ x ∈ A, f x : ℝ) : EReal) := by
  classical
  induction A using Finset.induction_on with
  | empty => simp
  | insert i A hi ih => rw [Finset.sum_insert hi, Finset.sum_insert hi, ih, EReal.coe_add]

theorem lowest : Ideal.ofBits .f32 0xFF800000#32 = ⊥ := by simp [Ideal.ofBits, Ideal.ieee]

/-- The largest of a row of real scores is real. -/
theorem top_real (σ : Fin 256 → ℝ) : ∃ M : ℝ, top (fun j => (σ j : EReal)) = M := by
  classical
  have key : ∀ A : Finset (Fin 256), A = ∅ ∨ ∃ M : ℝ, Finset.fold max (⊥ : EReal) (fun j => (σ j : EReal)) A = M := by
    intro A
    induction A using Finset.induction_on with
    | empty => exact Or.inl rfl
    | insert i A hi ih =>
      right
      rw [Finset.fold_insert hi]
      rcases ih with h | ⟨M, h⟩
      · subst h; exact ⟨σ i, by simp⟩
      · exact ⟨max (σ i) M, by rw [h]; exact (EReal.coe_strictMono.monotone.map_max).symm⟩
  rcases key Finset.univ with h | h
  · exact absurd h (Finset.univ_nonempty (α := Fin 256)).ne_empty
  · unfold top; rw [lowest]; exact h

theorem grad_eq (s dp : Fin 256 → EReal) (hs : ∀ j, ∃ σ : ℝ, s j = σ) (j : Fin 256) :
    refds (fun x => Ideal.exp (s x - top s)) dp (∑ x, Ideal.exp (s x - top s)) j = dscore s dp j := by
  choose σ hσ using hs
  obtain rfl : s = fun j => (σ j : EReal) := funext hσ
  obtain ⟨M, hM⟩ := top_real σ
  unfold dscore soft refds
  rw [hM]
  have he : ∀ x, Ideal.exp ((σ x : EReal) - (M : EReal)) = ((Real.exp (σ x - M) : ℝ) : EReal) := fun x => by
    rw [← EReal.coe_sub, Ideal.exp_coe]
  simp only [he]
  rw [real_sum]
  generalize hε : (fun x => Real.exp (σ x - M)) = ε
  have hε' : ∀ x, Real.exp (σ x - M) = ε x := fun x => congrFun hε x
  simp only [hε']
  have hL : 0 < ∑ x, ε x := Finset.sum_pos (fun x _ => hε' x ▸ Real.exp_pos _) Finset.univ_nonempty
  generalize (∑ x, ε x) = L at hL ⊢
  rw [← EReal.coe_mul]
  simp only [Ideal.div_coe hL.ne', Ideal.div_coe (mul_pos hL hL).ne', one_mul]
  have h1 : ∑ x, dp x * ((1 / (L * L) : ℝ) : EReal) * (ε x : EReal) =
      (∑ x, dp x * ((ε x : EReal) * ((1 / L : ℝ) : EReal))) * ((1 / L : ℝ) : EReal) := by
    rw [sum_mul_real _ _ _ (by positivity)]
    refine Finset.sum_congr rfl fun x _ => ?_
    rw [mul_assoc, mul_assoc, ← EReal.coe_mul, ← EReal.coe_mul, ← EReal.coe_mul]
    congr 2
    field_simp
  rw [h1, ← EReal.neg_mul, ← EReal.right_distrib_of_nonneg_of_ne_top (EReal.coe_nonneg.2 (by positivity)) (EReal.coe_ne_top _),
    sub_eq_add_neg]
  ac_rfl

theorem scale_real : ∃ a : ℝ, scale = a := by
  refine ⟨1 / 16, ?_⟩
  simp [scale, Ideal.ofBits, Ideal.ieee, -EReal.coe_mul]; norm_num

/-- An extended real whose absolute value is below infinity is a real. -/
theorem real_of_lt (x : EReal) (hx : Ideal.cmp .olt (FloatOps.absf (F := Ideal) (φ := .f32) x) (Ideal.ofBits .f32 0x7F800000#32) = 1#1) :
    ∃ a : ℝ, x = a := by
  have ht : Ideal.ofBits .f32 0x7F800000#32 = ⊤ := by simp [Ideal.ofBits, Ideal.ieee]
  rw [ht] at hx
  induction x using EReal.rec with
  | bot => revert hx; simp [Ideal.cmp, FloatOps.absf]
  | coe a => exact ⟨a, rfl⟩
  | top => revert hx; simp [Ideal.cmp, FloatOps.absf]

theorem score_real (q : Fin 256 → EReal) (k : Fin 256 → Fin 256 → EReal) (hq : ∀ x, ∃ a : ℝ, q x = a)
    (hk : ∀ j x, ∃ a : ℝ, k j x = a) (j : Fin 256) : ∃ σ : ℝ, score q k j = σ := by
  choose a ha using hq
  choose b hb using hk
  obtain ⟨w, hw⟩ := scale_real
  refine ⟨(∑ x, a x * b j x) * w, ?_⟩
  unfold score
  simp only [ha, hb, hw, ← EReal.coe_mul, real_sum]

end Cert.Attn
end
-- ==== Proof.Attn.Ref.lean ====
/- The reference's attention gradient, one operation after another, read at an index. -/
module

public import proofs.«01_k».proof.Proof.Gen.AttnBwdRefIdeal.Read
public import proofs.«01_k».proof.Proof.Attn.Grad

@[expose] public section

noncomputable section

namespace Cert.AttnBwdRefIdeal.Hand

open Cert.AttnBwdRefIdeal Cert.AttnBwdRefIdeal.Gen Cert.AttnBwdRefIdeal.Read Idealize.ShloMosaic Idealize.ShloMosaic.TcCoe Idealize.SL.Sem Cert.Attn

variable (x0 : (⟨S8192x1024, .bf16⟩ : BufTy).Contents (Elt Ideal)) (x1 x2 : (⟨S256x1024, .bf16⟩ : BufTy).Contents (Elt Ideal))
  (x3 : (⟨S8192x1024, .bf16⟩ : BufTy).Contents (Elt Ideal)) (h : Fin 4) (r : Fin 8192) (j b : Fin 256)

theorem flat_col (h : Fin 4) (b : Fin 256) (hb : h.val * 256 + b.val < 1024) : (⟨h.val * 256 + b.val, hb⟩ : Fin 1024) = col h b :=
  Fin.ext (by simp only [col]; omega)

theorem v4_at : val_main_v4 x0 (ix3 r h b) = slab x0 h r b := by
  unfold val_main_v4 val_main_v0; pointwise; rw [flat_col]; rfl
theorem v5_at : val_main_v5 x1 (ix3 j h b) = slab x1 h j b := by
  unfold val_main_v5 val_main_v1; pointwise; rw [flat_col]; rfl
theorem v6_at : val_main_v6 x2 (ix3 j h b) = slab x2 h j b := by
  unfold val_main_v6 val_main_v2; pointwise; rw [flat_col]; rfl
theorem v41_at : val_main_v41 x3 (ix3 r h b) = slab x3 h r b := by
  unfold val_main_v41 val_main_v3; pointwise; rw [flat_col]; rfl
theorem v9_at : val_main_v9 x0 x1 (ix3 h r j) = score (slab x0 h r) (slab x1 h) j := by
  unfold val_main_v9 val_main_v7 val_main_v8 val_main_cst
  pointwise
  simp only [v4_at, v5_at]
  rfl
theorem v10_at : val_main_v10 x0 x1 (ix2 h r) = top (score (slab x0 h r) (slab x1 h)) := by
  have hr : S4x8192x256.Reduces [2] S4x8192 := by decide
  have e : ∀ f : S4x8192x256.Idx → Ideal .f32, Host.reduce FloatOps.maximumf f (val_main_cst_0 (F := Ideal)) reducesTo_S4x8192x256_S4x8192_d2 h_S_ (ix2 h r)
      = Finset.fold max (Ideal.ofBits FTy.f32 4286578688#32) (fun x : Fin 256 => f (ix3 h r x)) Finset.univ := by
    intro f
    rw [Host.reduce_eq_fold_single (α := Ideal .f32) FloatOps.maximumf f _ _ hr]
    have e1 : (f ∘ hr.lift (ix2 h r)) = fun x : Fin 256 => f (ix3 h r x) := by
      funext x
      refine congrArg f ?_
      funext a
      match a with
      | ⟨0, _⟩ => rfl
      | ⟨1, _⟩ => rfl
      | ⟨2, _⟩ => rfl
    rw [e1]
    rfl
  rw [val_main_v10, e]
  simp only [v9_at]
  rfl
theorem v17_at : val_main_v17 x0 x1 (ix2 h r) = top (score (slab x0 h r) (slab x1 h)) := by
  rw [val_main_v17_apply, v10_at]
  exact max_eq_right ((Finset.le_fold_max _).mpr (Or.inl le_rfl))
theorem v28_at : val_main_v28 x0 x1 (ix3 h r j) = val_main_v17 x0 x1 (ix2 h r) := by
  unfold val_main_v28 val_main_v27
  generalize val_main_v17 x0 x1 = f
  pointwise
theorem v30_at : val_main_v30 x0 x1 (ix3 h r j) = Ideal.exp (score (slab x0 h r) (slab x1 h) j - top (score (slab x0 h r) (slab x1 h))) := by
  have e : val_main_v30 x0 x1 (ix3 h r j) = Ideal.exp (val_main_v9 x0 x1 (ix3 h r j) - val_main_v28 x0 x1 (ix3 h r j)) := by
    unfold val_main_v30 val_main_v29
    generalize val_main_v9 x0 x1 = f
    generalize val_main_v28 x0 x1 = g
    pointwise
  rw [e, v28_at, v9_at, v17_at]
theorem v32_at : val_main_v32 x0 x1 (ix3 h r 0) = ∑ x, val_main_v30 x0 x1 (ix3 h r x) := by
  unfold val_main_v32 val_main_v31 val_main_cst_8
  generalize val_main_v30 x0 x1 = f
  pointwise
theorem v34_at : val_main_v34 x0 x1 (ix3 h r j) = soft (score (slab x0 h r) (slab x1 h)) j := by
  have e : val_main_v34 x0 x1 (ix3 h r j) = Ideal.div (val_main_v30 x0 x1 (ix3 h r j)) (val_main_v32 x0 x1 (ix3 h r 0)) := by
    unfold val_main_v34 val_main_v33
    generalize val_main_v30 x0 x1 = f
    generalize val_main_v32 x0 x1 = g
    pointwise
  rw [e, v32_at]
  simp only [v30_at]
  rfl
theorem v43_at : val_main_v43 x2 x3 (ix3 h r j) = dprob (slab x3 h r) (slab x2 h) j := by
  unfold val_main_v43 val_main_v42
  pointwise
  simp only [v41_at, v6_at]
  rfl
theorem v59_at : val_main_v59 x0 x1 x2 x3 (ix3 h r j) =
    refds (fun x => val_main_v30 x0 x1 (ix3 h r x)) (fun x => val_main_v43 x2 x3 (ix3 h r x)) (val_main_v32 x0 x1 (ix3 h r 0)) j := by
  unfold val_main_v59 val_main_v58 val_main_v57 val_main_v56 val_main_v55 val_main_v54 val_main_v53 val_main_v52 val_main_v51 val_main_v50 val_main_v49 val_main_v48 val_main_v47 val_main_v46 val_main_v37 val_main_v36 val_main_v35
  unfold val_main_cst_9 val_main_cst_10 val_main_cst_11 val_main_cst_12
  generalize val_main_v30 x0 x1 = f
  generalize val_main_v32 x0 x1 = g
  generalize val_main_v43 x2 x3 = k
  pointwise
  simp only [Finset.univ_unique, Finset.sum_singleton]
  rfl
theorem v64_at (y : Fin 1024) : val_main_v64 x0 x1 x3 (ix2 j y) = DV x0 x1 x3 (hd y) j (lo y) := by
  have e : val_main_v64 x0 x1 x3 (ix2 j y) = ∑ x, val_main_v41 x3 (ix3 x (hd y) (lo y)) * val_main_v34 x0 x1 (ix3 (hd y) x j) := by
    unfold val_main_v64 val_main_v45 val_main_v44 val_main_v42
    generalize val_main_v41 x3 = f
    generalize val_main_v34 x0 x1 = g
    pointwise
    rfl
  rw [e]
  simp only [v34_at, v41_at]
  exact Finset.sum_congr rfl fun _ _ => mul_comm _ _
theorem v65_at (y : Fin 1024) : val_main_v65 x0 x1 x2 x3 (ix2 j y) = ∑ x, val_main_v59 x0 x1 x2 x3 (ix3 (hd y) x j) * slab x0 (hd y) x (lo y) := by
  have e : val_main_v65 x0 x1 x2 x3 (ix2 j y) = ∑ x, val_main_v59 x0 x1 x2 x3 (ix3 (hd y) x j) * val_main_v4 x0 (ix3 x (hd y) (lo y)) := by
    unfold val_main_v65 val_main_v61 val_main_v60
    generalize val_main_v59 x0 x1 x2 x3 = f
    generalize val_main_v4 x0 = g
    pointwise
    rfl
  rw [e]
  simp only [v4_at]
theorem v67_at (y : Fin 1024) : val_main_v67 x0 x1 x2 x3 (ix2 r y) = ∑ x, val_main_v59 x0 x1 x2 x3 (ix3 (hd y) r x) * slab x1 (hd y) x (lo y) := by
  have e : val_main_v67 x0 x1 x2 x3 (ix2 r y) = ∑ x, val_main_v59 x0 x1 x2 x3 (ix3 (hd y) r x) * val_main_v5 x1 (ix3 x (hd y) (lo y)) := by
    unfold val_main_v67 val_main_v66 val_main_v63 val_main_v62
    generalize val_main_v59 x0 x1 x2 x3 = f
    generalize val_main_v5 x1 = g
    pointwise
    rfl
  rw [e]
  simp only [v5_at]

section real
variable (hq : ∀ y, ∃ a : ℝ, x0 y = (a : EReal)) (hk : ∀ y, ∃ a : ℝ, x1 y = (a : EReal))
include hq hk

/-- With finite queries and keys the reference's score gradient is the softmax's. -/
theorem v59_real : val_main_v59 x0 x1 x2 x3 (ix3 h r j) = DS x0 x1 x2 x3 h r j := by
  rw [v59_at, v32_at]
  simp only [v30_at, v43_at]
  exact grad_eq _ _ (score_real _ _ (fun x => hq _) fun i x => hk _) j

theorem dq_real (y : Fin 1024) : val_main_v67 x0 x1 x2 x3 (ix2 r y) = DQ x0 x1 x2 x3 (hd y) r (lo y) := by
  rw [v67_at]; simp only [v59_real x0 x1 x2 x3 _ _ _ hq hk]; rfl

theorem dk_real (y : Fin 1024) : val_main_v65 x0 x1 x2 x3 (ix2 j y) = DK x0 x1 x2 x3 (hd y) j (lo y) := by
  rw [v65_at]; simp only [v59_real x0 x1 x2 x3 _ _ _ hq hk]; rfl
end real

end Cert.AttnBwdRefIdeal.Hand
end
-- ==== Proof.Attn.Claim.lean ====
/- The attention gradient's claim: with finite queries and keys the kernel's three gradients are the reference's. -/
module

public import proofs.«01_k».proof.Defs
public import proofs.«01_k».proof.Proof.Attn.Whole
public import proofs.«01_k».proof.Proof.Attn.Ref
public import proofs.«01_k».proof.Proof.Gen.AttnBwdIdeal.Value
public import proofs.«01_k».proof.Proof.Gen.AttnBwd.Frame
public import proofs.«01_k».proof.Proof.Gen.AttnBwdIdeal.Frame
public import proofs.«01_k».proof.Proof.Gen.AttnBwdRefIdeal.Run
public import Idealize.ShloMosaic.Lib.Claim

@[expose] public section

noncomputable section

namespace Cert.Proof.Attn

open Idealize.ShloMosaic Idealize.SL.Sem Cert.Attn

instance preFacts : Cert.Pre_finite_scores.Facts := ⟨by decide, by decide, by decide⟩

theorem pre_real (q : (⟨2, ![8192, 1024]⟩ : Shape).Idx → EReal) (k v : (⟨2, ![256, 1024]⟩ : Shape).Idx → EReal)
    (d : (⟨2, ![8192, 1024]⟩ : Shape).Idx → EReal)
    (h : (Cert.Pre_finite_scores.fn (F := Ideal) q k v d).1 = (fun _ => 1#1) ∧ (Cert.Pre_finite_scores.fn (F := Ideal) q k v d).2 = (fun _ => 1#1)) :
    (∀ y, ∃ a : ℝ, q y = (a : EReal)) ∧ ∀ y, ∃ a : ℝ, k y = (a : EReal) :=
  ⟨fun y => real_of_lt _ (congrFun h.1 y), fun y => real_of_lt _ (congrFun h.2 y)⟩

theorem algebraic : Cert.algebraic_AttnBwdIdeal_AttnBwdRefIdeal_pre_finite_scores := by
  pair_intro
  · run_from Cert.AttnBwdIdeal.Value.run_blocks m g
  · refine (θ_run _ _ _).mono (fun r h c => ?_) (Cert.AttnBwdRefIdeal.Value.run m' g')
    obtain ⟨e0, e1, e2, e3⟩ := hagree c
    obtain ⟨hq, hk⟩ := pre_real _ _ _ _ (hpre c)
    refine ⟨(h c).1.trans ?_, (h c).2.1.trans ?_, (h c).2.2.1.trans ?_, (h c).2.2.2⟩
    · rw [Cert.AttnBwdRefIdeal.Read.val_main_v67_eq, e0, e1, e2, e3, Cert.AttnBwdIdeal.Hand.dq_final m c]
      funext y
      obtain ⟨r, b, rfl⟩ : ∃ (r : Fin 8192) (b : Fin 1024), y = ix2 r b := ⟨y 0, y 1, eq_ix2 y⟩
      exact Cert.AttnBwdRefIdeal.Hand.dq_real _ _ _ _ r hq hk b
    · rw [Cert.AttnBwdRefIdeal.Read.val_main_v65_eq, e0, e1, e2, e3, Cert.AttnBwdIdeal.Hand.dk_final m c]
      funext y
      obtain ⟨r, b, rfl⟩ : ∃ (r : Fin 256) (b : Fin 1024), y = ix2 r b := ⟨y 0, y 1, eq_ix2 y⟩
      exact Cert.AttnBwdRefIdeal.Hand.dk_real _ _ _ _ r hq hk b
    · rw [Cert.AttnBwdRefIdeal.Read.val_main_v64_eq, e0, e1, e3, Cert.AttnBwdIdeal.Hand.dv_final m c]
      funext y
      obtain ⟨r, b, rfl⟩ : ∃ (r : Fin 256) (b : Fin 1024), y = ix2 r b := ⟨y 0, y 1, eq_ix2 y⟩
      exact Cert.AttnBwdRefIdeal.Hand.v64_at _ _ _ r b

theorem frame_p : Cert.quiescent_AttnBwd := fun m ρ _ => Cert.AttnBwd.Gen.frame m ρ
theorem frame_pi : Cert.quiescent_AttnBwdIdeal := fun m ρ _ => Cert.AttnBwdIdeal.Gen.frame m ρ
theorem frame_pi_pre : Cert.quiescent_AttnBwdIdeal_pre_finite_scores := fun m ρ _ => Cert.AttnBwdIdeal.Gen.frame m ρ
theorem frame_ri : Cert.quiescent_AttnBwdRefIdeal := fun m ρ _ =>
  (θ_run Cert.AttnBwdRefIdeal.defs _ _).mono (fun r h => ⟨fun c => (h c).2.2.2, sem_eq_zero_of_no_sems (by decide) r.2⟩)
    (Cert.AttnBwdRefIdeal.Value.run (F := Ideal) m ρ)
theorem frame_ri_pre : Cert.quiescent_AttnBwdRefIdeal_pre_finite_scores := fun m ρ _ => frame_ri m ρ trivial

end Cert.Proof.Attn
end
-- ==== Proof.Calls.Shared.lean ====
/- Arithmetic of the extended reals that several calls share: the logistic function in its two forms. -/
module

public import Idealize.ShloMosaic.Lib.Pointwise

@[expose] public section

noncomputable section

namespace Cert.Step

open Idealize.ShloMosaic

/-- One half, as the kernels write it. -/
theorem half32 : Ideal.ofBits .f32 0x3F000000#32 = (((1 : ℝ) / 2 : ℝ) : EReal) := by
  simp [Ideal.ofBits, Ideal.ieee, -EReal.coe_mul]; norm_num
theorem half16 : Ideal.ofBits .bf16 0x3F00#16 = (((1 : ℝ) / 2 : ℝ) : EReal) := by
  simp [Ideal.ofBits, Ideal.ieee, -EReal.coe_mul]; norm_num

/-- The logistic function. -/
def logi (x : EReal) : EReal := Ideal.div 1 (1 + Ideal.exp (-x))

/-- The logistic function of a real. -/
theorem logi_coe (a : ℝ) : logi (a : EReal) = ((1 / (1 + Real.exp (-a)) : ℝ) : EReal) := by
  have hp : 0 < 1 + Real.exp (-a) := by positivity
  unfold logi Ideal.div
  rw [← EReal.coe_neg, Ideal.exp_coe, ← EReal.coe_one, ← EReal.coe_add, if_neg (by exact_mod_cast hp.ne')]
  rw [← EReal.coe_inv, ← EReal.coe_mul]
  simp

theorem logi_top : logi ⊤ = 1 := by
  unfold logi Ideal.div; simp

theorem logi_bot : logi ⊥ = 0 := by
  have e : (1 : EReal) + ⊤ = ⊤ := EReal.coe_add_top 1
  unfold logi Ideal.div; simp [e]

/-- The kernels' form of the logistic function. -/
theorem logi_half (h : EReal) (hh : h = (((1 : ℝ) / 2 : ℝ) : EReal)) (x : EReal) : h * Ideal.tanh (h * x) + h = logi x := by
  subst hh
  have hpos : (0 : ℝ) < 1 / 2 := by norm_num
  induction x using EReal.rec with
  | bot =>
    rw [EReal.coe_mul_bot_of_pos hpos, Ideal.tanh_bot, logi_bot, ← EReal.coe_one, ← EReal.coe_neg, ← EReal.coe_mul, ← EReal.coe_add]
    norm_num
  | top =>
    rw [EReal.coe_mul_top_of_pos hpos, Ideal.tanh_top, logi_top, ← EReal.coe_one, ← EReal.coe_mul, ← EReal.coe_add]
    norm_num
  | coe a =>
    rw [← EReal.coe_mul, Ideal.tanh_coe, ← EReal.coe_mul, ← EReal.coe_add, logi_coe]
    congr 1
    have hu : 0 < Real.exp (a / 2) := Real.exp_pos _
    have e1 : Real.exp (-(a / 2)) = (Real.exp (a / 2))⁻¹ := Real.exp_neg _
    have e2 : Real.exp (-a) = (Real.exp (a / 2))⁻¹ * (Real.exp (a / 2))⁻¹ := by
      rw [← e1, ← Real.exp_add]; congr 1; ring
    rw [Real.tanh_eq_sinh_div_cosh, Real.sinh_eq, Real.cosh_eq, show (1 : ℝ) / 2 * a = a / 2 by ring, e1, e2]
    generalize Real.exp (a / 2) = u at hu
    field_simp
    ring

theorem logi_real (a : EReal) : ∃ s : ℝ, logi a = s := by
  induction a using EReal.rec with
  | bot => exact ⟨0, by rw [logi_bot]; rfl⟩
  | top => exact ⟨1, by rw [logi_top]; rfl⟩
  | coe a => exact ⟨_, logi_coe a⟩

/-- The derivative of `a * logi a` against a real gradient, in its two forms. -/
theorem silu_grad (a : EReal) (t : ℝ) : (t : EReal) * (logi a + (a * logi a) * (1 - logi a)) = t * logi a + (a * t) * (logi a * (1 - logi a)) := by
  induction a using EReal.rec with
  | bot => simp [logi_bot]
  | top =>
    have e : (1 : EReal) - 1 = 0 := by rw [← EReal.coe_one, ← EReal.coe_sub, sub_self, EReal.coe_zero]
    simp [logi_top, e]
  | coe a =>
    rw [logi_coe]
    generalize 1 / (1 + Real.exp (-a)) = s
    norm_cast
    congr 1
    ring

end Cert.Step
end
-- ==== Proof.Calls.FfnDhid.lean ====
/- The gradients of the gated channel mixer's two hidden factors: each grid point's block, and the reference's. -/
module

public import proofs.«01_k».proof.Defs
public import proofs.«01_k».proof.Proof.Gen.FfnDhid.Frame
public import proofs.«01_k».proof.Proof.Gen.FfnDhidIdeal.Value
public import proofs.«01_k».proof.Proof.Gen.FfnDhidRefIdeal.Run
public import proofs.«01_k».proof.Proof.Gen.FfnDhidRefIdeal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Calls.Shared
public import proofs.«01_k».proof.Proof.Attn.Grad

@[expose] public section

set_option maxRecDepth 16384
noncomputable section

namespace Cert.FfnDhidIdeal.Hand

open Cert.FfnDhidIdeal Cert.FfnDhidIdeal.Gen Idealize.ShloMosaic Idealize.ShloMosaic.TcCoe Idealize.SL.Sem
open Idealize.ShloMosaic.Pipeline (Dat)
open Cert.Step

/-- The gradient of the gated product: the rows of `x` against the rows of `w`. -/
abbrev Back {n : ℕ} (x : (⟨2, ![n, 1024]⟩ : Shape).Idx → EReal) (w : S2816x1024.Idx → EReal) (r : Fin n) (j : Fin 2816) : EReal :=
  ∑ k : Fin 1024, (x (ix2 r k) * w (ix2 j k) : EReal)
/-- The first factor's gradient. -/
abbrev GA {n : ℕ} (x : (⟨2, ![n, 1024]⟩ : Shape).Idx → EReal) (w : S2816x1024.Idx → EReal) (a b : (⟨2, ![n, 2816]⟩ : Shape).Idx → EReal) (r : Fin n) (j : Fin 2816) : EReal :=
  (Back x w r j * b (ix2 r j)) * (logi (a (ix2 r j)) + (a (ix2 r j) * logi (a (ix2 r j))) * (1 - logi (a (ix2 r j))))
/-- The second factor's gradient. -/
abbrev GB {n : ℕ} (x : (⟨2, ![n, 1024]⟩ : Shape).Idx → EReal) (w : S2816x1024.Idx → EReal) (a : (⟨2, ![n, 2816]⟩ : Shape).Idx → EReal) (r : Fin n) (j : Fin 2816) : EReal :=
  Back x w r j * (a (ix2 r j) * logi (a (ix2 r j)))

theorem out4 (x0 : Vec Ideal S512x1024 .f32) (x1 : Vec Ideal S2816x1024 .bf16) (x2 x3 : Vec Ideal S512x2816 .bf16) (y : S512x2816.Idx) :
    out0_4 x0 x1 x2 x3 y = GA x0 x1 x2 x3 (y 0) (y 1) := by
  unfold GA
  rw [← logi_half _ half16]
  frame_out
  canon_tiles x h
  all_goals
    obtain ⟨r, b, rfl⟩ : ∃ (r : Fin 512) (b : Fin 256), x = ix2 r b := ⟨x 0, x 1, eq_ix2 x⟩
    obtain ⟨R, B, rfl⟩ : ∃ (R : Fin 512) (B : Fin 2816), y = ix2 R B := ⟨y 0, y 1, eq_ix2 y⟩
    obtain rfl : R = r := Fin.ext h0
    obtain ⟨B, hB⟩ := B
    first
      | change B = _ + b.val at h1
      | change B = b.val at h1
    subst h1
    unfold_payloads
    pointwise
    first | done | rfl

theorem out5 (x0 : Vec Ideal S512x1024 .f32) (x1 : Vec Ideal S2816x1024 .bf16) (x2 x3 : Vec Ideal S512x2816 .bf16) (y : S512x2816.Idx) :
    out0_5 x0 x1 x2 x3 y = GB x0 x1 x2 (y 0) (y 1) := by
  unfold GB
  rw [← logi_half _ half16]
  frame_out
  canon_tiles x h
  all_goals
    obtain ⟨r, b, rfl⟩ : ∃ (r : Fin 512) (b : Fin 256), x = ix2 r b := ⟨x 0, x 1, eq_ix2 x⟩
    obtain ⟨R, B, rfl⟩ : ∃ (R : Fin 512) (B : Fin 2816), y = ix2 R B := ⟨y 0, y 1, eq_ix2 y⟩
    obtain rfl : R = r := Fin.ext h0
    obtain ⟨B, hB⟩ := B
    first
      | change B = _ + b.val at h1
      | change B = b.val at h1
    subst h1
    unfold_payloads
    pointwise
    first | done | rfl

variable (m : (ℓ : Loc nD τ sig) → Buf (Elt Ideal) ℓ) (c : Dev nD)

abbrev aX : S8192x1024.Idx → EReal := m ((c.tc : Thread nD τ).loc main_arg0)
abbrev aW : S2816x1024.Idx → EReal := m ((c.tc : Thread nD τ).loc main_arg1)
abbrev aA : S8192x2816.Idx → EReal := m ((c.tc : Thread nD τ).loc main_arg2)
abbrev aB : S8192x2816.Idx → EReal := m ((c.tc : Thread nD τ).loc main_arg3)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel

theorem blkX (t : Fin cfg0.N) (r : Fin 512) (b : Fin 1024) (R : Fin 8192) (hR : (R : ℕ) = 512 * t.val + r.val) :
    iblk m c 0 t (ix2 r b) = aX m c (ix2 R b) := by
  blk_ext [iblk, V, idx0 t]
  all_goals simp [hR]
theorem blkW (t : Fin cfg0.N) : iblk m c 1 t = aW m c := by
  funext y
  blk_ext [iblk, V, idx1 t]
theorem blkA (t : Fin cfg0.N) (r : Fin 512) (b : Fin 2816) (R : Fin 8192) (hR : (R : ℕ) = 512 * t.val + r.val) :
    iblk m c 2 t (ix2 r b) = aA m c (ix2 R b) := by
  blk_ext [iblk, V, idx2 t]
  all_goals simp [hR]
theorem blkB (t : Fin cfg0.N) (r : Fin 512) (b : Fin 2816) (R : Fin 8192) (hR : (R : ℕ) = 512 * t.val + r.val) :
    iblk m c 3 t (ix2 r b) = aB m c (ix2 R b) := by
  blk_ext [iblk, V, idx3 t]
  all_goals simp [hR]

section rows
variable (t : Fin cfg0.N) (r : Fin 512) (j : Fin 2816) (R : Fin 8192) (hR : (R : ℕ) = 512 * t.val + r.val)
include hR
theorem back_blk : Back (iblk m c 0 t) (iblk m c 1 t) r j = Back (aX m c) (aW m c) R j := by
  rw [blkW]; exact Finset.sum_congr rfl fun k _ => by rw [blkX m c t r k R hR]
theorem ga_blk : GA (iblk m c 0 t) (iblk m c 1 t) (iblk m c 2 t) (iblk m c 3 t) r j = GA (aX m c) (aW m c) (aA m c) (aB m c) R j := by
  unfold GA; rw [back_blk m c t r j R hR, blkA m c t r j R hR, blkB m c t r j R hR]
theorem gb_blk : GB (iblk m c 0 t) (iblk m c 1 t) (iblk m c 2 t) r j = GB (aX m c) (aW m c) (aA m c) R j := by
  unfold GB; rw [back_blk m c t r j R hR, blkA m c t r j R hR]
end rows

theorem final4 : (dats m 0 c).arrAt 4 cfg0.N = fun y : S8192x2816.Idx => GA (aX m c) (aW m c) (aA m c) (aB m c) (y 0) (y 1) := by
  refine (dats m 0 c).arrAt_eq_of_covers 4 _ (by decide +kernel) fun t hf y => ?_
  blk_simp
  rw [after0_4, out4]
  have e0 : ((win0_4.blk t).view.emb y 0 : ℕ) = 512 * t.val + (y 0).val := by
    blk_simp [idx4 t]
    omega
  have e1 : (win0_4.blk t).view.emb y 1 = y 1 := by
    apply Fin.ext
    blk_simp [idx4 t]
  rw [e1]
  exact ga_blk m c t _ _ _ e0

theorem final5 : (dats m 0 c).arrAt 5 cfg0.N = fun y : S8192x2816.Idx => GB (aX m c) (aW m c) (aA m c) (y 0) (y 1) := by
  refine (dats m 0 c).arrAt_eq_of_covers 5 _ (by decide +kernel) fun t hf y => ?_
  blk_simp
  rw [after0_5, out5]
  have e0 : ((win0_5.blk t).view.emb y 0 : ℕ) = 512 * t.val + (y 0).val := by
    blk_simp [idx5 t]
    omega
  have e1 : (win0_5.blk t).view.emb y 1 = y 1 := by
    apply Fin.ext
    blk_simp [idx5 t]
  rw [e1]
  exact gb_blk m c t _ _ _ e0

end Cert.FfnDhidIdeal.Hand

namespace Cert.FfnDhidRefIdeal.Hand

open Cert.FfnDhidRefIdeal Cert.FfnDhidRefIdeal.Gen Cert.FfnDhidRefIdeal.Read Idealize.ShloMosaic Idealize.ShloMosaic.TcCoe Idealize.SL.Sem Cert.Step
open Cert.FfnDhidIdeal.Hand (Back GA GB)

variable (x0 : (⟨S8192x1024, .f32⟩ : BufTy).Contents (Elt Ideal)) (x1 : (⟨S2816x1024, .bf16⟩ : BufTy).Contents (Elt Ideal)) (x2 x3 : (⟨S8192x2816, .bf16⟩ : BufTy).Contents (Elt Ideal)) (r : Fin 8192) (b : Fin 2816)

theorem v6_at : val_main_v6 x0 x1 (ix2 r b) = Back x0 x1 r b := by
  unfold val_main_v6 val_main_v0
  pointwise
theorem v32_at : val_main_v3_2 x2 (ix2 r b) = logi (x2 (ix2 r b)) := by
  unfold val_main_v3_2 val_main_call0_v4 val_main_call0_cst_0 val_main_call0_v3 val_main_call0_v2 val_main_call0_cst val_main_call0_v1 val_main_call0_v0 val_main_v1 logi
  pointwise
theorem v11_at : val_main_v11 x0 x1 x2 (ix2 r b) = GB x0 x1 x2 r b := by
  unfold GB
  rw [← v6_at, ← v32_at]
  unfold val_main_v11 val_main_v7 val_main_v3_0 val_main_v1
  generalize val_main_v6 x0 x1 = f
  generalize val_main_v3_2 x2 = g
  pointwise
  exact mul_comm _ _
theorem v10_form : val_main_v10 x0 x1 x2 x3 (ix2 r b) = (Back x0 x1 r b * x3 (ix2 r b)) * logi (x2 (ix2 r b)) +
    (x2 (ix2 r b) * (Back x0 x1 r b * x3 (ix2 r b))) * (logi (x2 (ix2 r b)) * (1 - logi (x2 (ix2 r b)))) := by
  rw [← v6_at, ← v32_at]
  unfold val_main_v10 val_main_v9 val_main_call1_v1 val_main_call1_v2 val_main_call1_v0 val_main_v3_1 val_main_call0_v7 val_main_call0_v6 val_main_call0_cst_1 val_main_v8 val_main_v2 val_main_v1
  generalize val_main_v6 x0 x1 = f
  generalize val_main_v3_2 x2 = g
  pointwise
/-- With a finite gradient, weight and second factor the reference's first gradient is the kernel's. -/
theorem v10_at (h0 : ∀ y, ∃ a : ℝ, x0 y = (a : EReal)) (h1 : ∀ y, ∃ a : ℝ, x1 y = (a : EReal)) (h3 : ∀ y, ∃ a : ℝ, x3 y = (a : EReal)) :
    val_main_v10 x0 x1 x2 x3 (ix2 r b) = GA x0 x1 x2 x3 r b := by
  rw [v10_form]
  obtain ⟨β, hβ⟩ := h3 (ix2 r b)
  obtain ⟨γ, hγ⟩ : ∃ γ : ℝ, Back x0 x1 r b = γ := by
    choose f hf using h0
    choose g hg using h1
    refine ⟨∑ k : Fin 1024, f (ix2 r k) * g (ix2 b k), ?_⟩
    rw [← Cert.Attn.real_sum]
    exact Finset.sum_congr rfl fun k _ => by rw [hf, hg, EReal.coe_mul]
  unfold GA
  rw [hγ, hβ, ← EReal.coe_mul]
  exact (silu_grad _ _).symm

end Cert.FfnDhidRefIdeal.Hand

namespace Cert.Proof.FfnDhid

open Idealize.ShloMosaic Idealize.SL.Sem

instance preFacts : Cert.Pre_finite_hidden.Facts := ⟨by decide, by decide, by decide, by decide⟩

theorem pre_real (x : (⟨2, ![8192, 1024]⟩ : Shape).Idx → EReal) (w : (⟨2, ![2816, 1024]⟩ : Shape).Idx → EReal) (a b : (⟨2, ![8192, 2816]⟩ : Shape).Idx → EReal)
    (h : (Cert.Pre_finite_hidden.fn (F := Ideal) x w a b).1 = (fun _ => 1#1) ∧ (Cert.Pre_finite_hidden.fn (F := Ideal) x w a b).2.1 = (fun _ => 1#1) ∧
      (Cert.Pre_finite_hidden.fn (F := Ideal) x w a b).2.2 = (fun _ => 1#1)) :
    (∀ y, ∃ v : ℝ, x y = (v : EReal)) ∧ (∀ y, ∃ v : ℝ, w y = (v : EReal)) ∧ ∀ y, ∃ v : ℝ, b y = (v : EReal) :=
  ⟨fun y => Cert.Attn.real_of_lt _ (congrFun h.1 y), fun y => Cert.Attn.real_of_lt _ (congrFun h.2.1 y), fun y => Cert.Attn.real_of_lt _ (congrFun h.2.2 y)⟩

theorem algebraic : Cert.algebraic_FfnDhidIdeal_FfnDhidRefIdeal_pre_finite_hidden := by
  pair_intro
  · run_from Cert.FfnDhidIdeal.Value.run_blocks m g
  · refine (θ_run _ _ _).mono (fun r h c => ?_) (Cert.FfnDhidRefIdeal.Value.run m' g')
    obtain ⟨e0, e1, e2, e3⟩ := hagree c
    obtain ⟨hx, hw, hb⟩ := pre_real _ _ _ _ (hpre c)
    refine ⟨(h c).1.trans ?_, (h c).2.1.trans ?_, (h c).2.2⟩
    · rw [Cert.FfnDhidRefIdeal.Read.val_main_v10_eq, e0, e1, e2, e3, Cert.FfnDhidIdeal.Hand.final4 m c]
      funext y
      obtain ⟨r, b, rfl⟩ : ∃ (r : Fin 8192) (b : Fin 2816), y = ix2 r b := ⟨y 0, y 1, eq_ix2 y⟩
      exact Cert.FfnDhidRefIdeal.Hand.v10_at _ _ _ _ r b hx hw hb
    · rw [Cert.FfnDhidRefIdeal.Read.val_main_v11_eq, e0, e1, e2, Cert.FfnDhidIdeal.Hand.final5 m c]
      funext y
      obtain ⟨r, b, rfl⟩ : ∃ (r : Fin 8192) (b : Fin 2816), y = ix2 r b := ⟨y 0, y 1, eq_ix2 y⟩
      exact Cert.FfnDhidRefIdeal.Hand.v11_at _ _ _ r b

theorem frame_p : Cert.quiescent_FfnDhid := fun m ρ _ => Cert.FfnDhid.Gen.frame m ρ
theorem frame_pi : Cert.quiescent_FfnDhidIdeal := fun m ρ _ => Cert.FfnDhidIdeal.Gen.frame m ρ
theorem frame_pi_pre : Cert.quiescent_FfnDhidIdeal_pre_finite_hidden := fun m ρ _ => Cert.FfnDhidIdeal.Gen.frame m ρ
theorem frame_ri : Cert.quiescent_FfnDhidRefIdeal := fun m ρ _ =>
  (θ_run Cert.FfnDhidRefIdeal.defs _ _).mono (fun r h => ⟨fun c => (h c).2.2, sem_eq_zero_of_no_sems (by decide) r.2⟩)
    (Cert.FfnDhidRefIdeal.Value.run (F := Ideal) m ρ)
theorem frame_ri_pre : Cert.quiescent_FfnDhidRefIdeal_pre_finite_hidden := fun m ρ _ => frame_ri m ρ trivial

end Cert.Proof.FfnDhid
end
-- ==== Proof.Calls.Rms.lean ====
/- The root-mean-square norm of one row and its gradient over the extended reals, in the kernels' form and in the
   reference's. -/
module

public import Idealize.ShloMosaic.Lib.Pointwise
public import Idealize.ShloMosaic.Lib.Pipeline.ValueKit

@[expose] public section

noncomputable section

namespace Cert.Step

open Idealize.ShloMosaic

/-- The row length, as both programs write it. -/
abbrev nF : EReal := Ideal.ofBits .f32 0x44800000#32
/-- The norm's small constant. -/
abbrev epsF : EReal := Ideal.ofBits .f32 0x358637BD#32
/-- The factor of the reference's derivative of the inverse root. -/
abbrev mhalf : EReal := Ideal.ofBits .f32 0xBF000000#32

theorem nF_eq : nF = ((1024 : ℝ) : EReal) := by
  simp [nF, Ideal.ofBits, Ideal.ieee, -EReal.coe_mul]; norm_num
theorem mhalf_eq : mhalf = ((-(1 / 2) : ℝ) : EReal) := by
  simp [mhalf, Ideal.ofBits, Ideal.ieee, -EReal.coe_mul]; norm_num
theorem epsF_pos : ∃ e : ℝ, 0 < e ∧ epsF = (e : EReal) := by
  refine ⟨_, ?_, by simp [epsF, Ideal.ofBits, Ideal.ieee, -EReal.coe_mul]; rfl⟩
  norm_num

/-- Division by a real other than zero is multiplication by a real. -/
theorem div_real (a : EReal) (b : ℝ) (hb : b ≠ 0) : Ideal.div a (b : EReal) = a * ((b⁻¹ : ℝ) : EReal) := by
  unfold Ideal.div
  rw [if_neg (by exact_mod_cast hb), EReal.coe_inv]

/-- The mean of the squares plus the constant. -/
abbrev msq (x : Fin 1024 → EReal) : EReal := Ideal.div (∑ k, x k * x k) nF + epsF
/-- The inverse root of the mean of the squares. -/
abbrev rin (x : Fin 1024 → EReal) : EReal := Ideal.rsqrt (msq x)

theorem sq_nonneg' (a : EReal) : 0 ≤ a * a := by
  rcases le_total 0 a with h | h
  · exact EReal.mul_nonneg h h
  · have h' : 0 ≤ -a := by simpa using EReal.neg_le_neg_iff.2 h
    have := EReal.mul_nonneg h' h'
    rwa [neg_mul_neg] at this

/-- The inverse root is a nonnegative real, and divided by the mean square it is its own cube. -/
theorem rin_real (x : Fin 1024 → EReal) : ∃ ρ : ℝ, 0 ≤ ρ ∧ rin x = (ρ : EReal) ∧ Ideal.div (rin x) (msq x) = ((ρ * ρ * ρ : ℝ) : EReal) := by
  obtain ⟨e, he, hE⟩ := epsF_pos
  have hs : 0 ≤ ∑ k, x k * x k := Finset.sum_nonneg fun k _ => sq_nonneg' _
  unfold rin msq
  rw [nF_eq, hE, div_real _ _ (by norm_num)]
  generalize ∑ k, x k * x k = S at hs
  induction S using EReal.rec with
  | bot => simp at hs
  | top =>
    refine ⟨0, le_rfl, ?_, ?_⟩
    · rw [EReal.top_mul_coe_of_pos (by norm_num), EReal.top_add_coe, Ideal.rsqrt_top]; rfl
    · rw [EReal.top_mul_coe_of_pos (by norm_num), EReal.top_add_coe, Ideal.rsqrt_top]
      simp [Ideal.div]
  | coe s =>
    have hs' : (0 : ℝ) ≤ s := by exact_mod_cast hs
    have hy : 0 < s * (1024 : ℝ)⁻¹ + e := by positivity
    rw [← EReal.coe_mul, ← EReal.coe_add, Ideal.rsqrt_coe, if_neg (not_lt.2 hy.le), if_neg hy.ne', div_real _ _ hy.ne', ← EReal.coe_mul]
    generalize s * (1024 : ℝ)⁻¹ + e = y at hy
    refine ⟨(Real.sqrt y)⁻¹, by positivity, rfl, ?_⟩
    congr 1
    rw [mul_assoc, ← mul_inv (Real.sqrt y) (Real.sqrt y), Real.mul_self_sqrt hy.le]

/-- A nonnegative real moves through a sum of extended reals. -/
theorem sum_mul_nonneg {n : ℕ} (f : Fin n → EReal) (ρ : ℝ) (h : 0 ≤ ρ) : ∑ k, f k * (ρ : EReal) = (∑ k, f k) * (ρ : EReal) := by
  have hd : ∀ a b : EReal, (a + b) * (ρ : EReal) = a * ρ + b * ρ := fun a b =>
    EReal.right_distrib_of_nonneg_of_ne_top (by exact_mod_cast h) (EReal.coe_ne_top ρ) a b
  have h0 : (0 : EReal) * (ρ : EReal) = 0 := zero_mul _
  exact (map_sum (⟨⟨fun a : EReal => a * (ρ : EReal), h0⟩, hd⟩ : EReal →+ EReal) f Finset.univ).symm

/-- One row of an array. -/
abbrev Row {n w : ℕ} (x : (⟨2, ![n, w]⟩ : Shape).Idx → EReal) (r : Fin n) : Fin w → EReal := fun k => x (ix2 r k)

/-- A sum over 1024 rows, 256 at a time. -/
theorem sum_four (f : Fin 1024 → EReal) (a : EReal) :
    a + ∑ r : Fin 256, f ⟨r.val, by omega⟩ + ∑ r : Fin 256, f ⟨256 + r.val, by omega⟩ + ∑ r : Fin 256, f ⟨512 + r.val, by omega⟩ +
      ∑ r : Fin 256, f ⟨768 + r.val, by omega⟩ = a + ∑ r, f r := by
  rw [← Fin.sum_mul_add_congr (S := 4) (n := 256) (F := fun s k => f ⟨s.val * 256 + k.val, by omega⟩) (fun s k hl => rfl), Fin.sum_univ_four]
  simp only [add_assoc]
  rfl

/-- A sum over 512 rows, 256 at a time. -/
theorem sum_two (f : Fin 512 → EReal) (a : EReal) :
    a + ∑ r : Fin 256, f ⟨r.val, by omega⟩ + ∑ r : Fin 256, f ⟨256 + r.val, by omega⟩ = a + ∑ r, f r := by
  rw [← Fin.sum_mul_add_congr (S := 2) (n := 256) (F := fun s k => f ⟨s.val * 256 + k.val, by omega⟩) (fun s k hl => rfl), Fin.sum_univ_two]
  simp only [add_assoc]
  rfl

/-- The kernels' gradient of the normalised row, the residual's gradient added. -/
abbrev rmsK (x g z d : Fin 1024 → EReal) (j : Fin 1024) : EReal :=
  rin x * (z j * g j) - (x j * rin x) * (rin x * Ideal.div (∑ k, (z k * g k) * (x k * rin x)) nF) + d j

/-- A product with minus one half of a number, added to itself in the other order. -/
theorem halves (w : EReal) : w * ((-(1 / 2) : ℝ) : EReal) + w * ((-(1 / 2) : ℝ) : EReal) = -w := by
  induction w using EReal.rec with
  | bot => rw [EReal.bot_mul_coe_of_neg (by norm_num)]; rfl
  | top => rw [EReal.top_mul_coe_of_neg (by norm_num)]; rfl
  | coe a => rw [← EReal.coe_mul, ← EReal.coe_add, ← EReal.coe_neg]; congr 1; ring

/-- The kernels' correction term is twice the reference's. -/
theorem corr (x g z : Fin 1024 → EReal) (j : Fin 1024) :
    -((x j * rin x) * (rin x * Ideal.div (∑ k, (z k * g k) * (x k * rin x)) nF)) =
      x j * Ideal.div ((∑ k, x k * (z k * g k)) * (mhalf * Ideal.div (rin x) (msq x))) nF +
        x j * Ideal.div ((∑ k, x k * (z k * g k)) * (mhalf * Ideal.div (rin x) (msq x))) nF := by
  obtain ⟨ρ, hρ, h1, h2⟩ := rin_real x
  rw [h2, h1, mhalf_eq, nF_eq, div_real _ _ (by norm_num), div_real _ _ (by norm_num)]
  have e : ∑ k, (z k * g k) * (x k * (ρ : EReal)) = (∑ k, x k * (z k * g k)) * (ρ : EReal) := by
    rw [← sum_mul_nonneg _ ρ hρ]
    exact Finset.sum_congr rfl fun k _ => by rw [← mul_assoc, mul_comm (z k * g k) (x k)]
  rw [e]
  generalize ∑ k, x k * (z k * g k) = S
  have e3 : ((ρ * ρ * ρ : ℝ) : EReal) = (ρ : EReal) * ρ * ρ := by rw [EReal.coe_mul, EReal.coe_mul]
  rw [e3]
  generalize (((1024 : ℝ)⁻¹ : ℝ) : EReal) = n
  generalize (ρ : EReal) = r
  have e4 : x j * (S * (((-(1 / 2) : ℝ) : EReal) * (r * r * r)) * n) = (x j * r * (r * (S * r * n))) * ((-(1 / 2) : ℝ) : EReal) := by ac_rfl
  rw [e4, halves]

/-- The reference's gradient of the normalised row is the kernels'. -/
theorem rms_ref (x g z d : Fin 1024 → EReal) (j : Fin 1024) :
    ((d j + (z j * g j) * rin x) +
        x j * Ideal.div ((∑ k, x k * (z k * g k)) * (mhalf * Ideal.div (rin x) (msq x))) nF) +
      Ideal.div ((∑ k, x k * (z k * g k)) * (mhalf * Ideal.div (rin x) (msq x))) nF * x j = rmsK x g z d j := by
  unfold rmsK
  rw [sub_eq_add_neg, corr, mul_comm (Ideal.div _ _) (x j), mul_comm (z j * g j) (rin x)]
  generalize x j * Ideal.div ((∑ k, x k * (z k * g k)) * (mhalf * Ideal.div (rin x) (msq x))) nF = w
  generalize rin x * (z j * g j) = v
  abel

end Cert.Step
end
-- ==== Proof.Calls.FfnDn.lean ====
/- The gradient of the channel mixer's input under its norm and two projections, the residual's gradient added, and the gradient of the norm's scale. -/
module

public import proofs.«01_k».proof.Defs
public import proofs.«01_k».proof.Proof.Gen.FfnDn.Frame
public import proofs.«01_k».proof.Proof.Gen.FfnDnIdeal.Value
public import proofs.«01_k».proof.Proof.Gen.FfnDnRefIdeal.Run
public import proofs.«01_k».proof.Proof.Gen.FfnDnRefIdeal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Calls.Rms

@[expose] public section

set_option maxRecDepth 16384
noncomputable section

namespace Cert.FfnDnIdeal.Hand

open Cert.FfnDnIdeal Cert.FfnDnIdeal.Gen Idealize.ShloMosaic Idealize.ShloMosaic.TcCoe Idealize.SL.Sem
open Idealize.ShloMosaic.Pipeline (Dat)
open Cert.Step

/-- The incoming gradient of one row. -/
abbrev Z {n : ℕ} (x0 : (⟨2, ![n, 2816]⟩ : Shape).Idx → EReal) (x1 : S2816x1024.Idx → EReal) (x2 : (⟨2, ![n, 2816]⟩ : Shape).Idx → EReal) (x3 : S2816x1024.Idx → EReal) (r : Fin n) : Fin 1024 → EReal := fun b => (∑ k : Fin 2816, (x0 (ix2 r k) * x1 (ix2 k b) : EReal)) + (∑ k : Fin 2816, (x2 (ix2 r k) * x3 (ix2 k b) : EReal))
/-- The gradient of the input's entries. -/
abbrev DX {n : ℕ} (x0 : (⟨2, ![n, 2816]⟩ : Shape).Idx → EReal) (x1 : S2816x1024.Idx → EReal) (x2 : (⟨2, ![n, 2816]⟩ : Shape).Idx → EReal) (x3 : S2816x1024.Idx → EReal) (x4 : (⟨2, ![n, 1024]⟩ : Shape).Idx → EReal) (x5 : S1x1024.Idx → EReal) (x6 : (⟨2, ![n, 1024]⟩ : Shape).Idx → EReal) (r : Fin n) (j : Fin 1024) : EReal :=
  rmsK (Row x4 r) (Row x5 0) (Z x0 x1 x2 x3 r) (Row x6 r) j
/-- What one row adds to the scale's gradient. -/
abbrev DG {n : ℕ} (x0 : (⟨2, ![n, 2816]⟩ : Shape).Idx → EReal) (x1 : S2816x1024.Idx → EReal) (x2 : (⟨2, ![n, 2816]⟩ : Shape).Idx → EReal) (x3 : S2816x1024.Idx → EReal) (x4 : (⟨2, ![n, 1024]⟩ : Shape).Idx → EReal) (r : Fin n) (j : Fin 1024) : EReal :=
  Z x0 x1 x2 x3 r j * (x4 (ix2 r j) * rin (Row x4 r))

section points
variable (c : Dev nD) (i : grid0.Coords) (arg2 : Memref sig .tc .vmem S512x2816 .bf16) (harg2 : arg2.IsWhole) (arg3 : Memref sig .tc .vmem S2816x1024 .bf16) (harg3 : arg3.IsWhole) (arg4 : Memref sig .tc .vmem S512x2816 .bf16) (harg4 : arg4.IsWhole) (arg5 : Memref sig .tc .vmem S2816x1024 .bf16) (harg5 : arg5.IsWhole) (arg6 : Memref sig .tc .vmem S512x1024 .f32) (harg6 : arg6.IsWhole) (arg7 : Memref sig .tc .vmem S1x1024 .f32) (harg7 : arg7.IsWhole) (arg8 : Memref sig .tc .vmem S512x1024 .f32) (harg8 : arg8.IsWhole) (arg9 : Memref sig .tc .vmem S512x1024 .f32) (harg9 : arg9.IsWhole) (arg10 : Memref sig .tc .vmem S1x1024 .f32) (harg10 : arg10.IsWhole)
  (x0 : Vec Ideal S512x2816 .bf16) (x1 : Vec Ideal S2816x1024 .bf16) (x2 : Vec Ideal S512x2816 .bf16) (x3 : Vec Ideal S2816x1024 .bf16) (x4 : Vec Ideal S512x1024 .f32) (x5 : Vec Ideal S1x1024 .f32) (x6 : Vec Ideal S512x1024 .f32) (xo : Vec Ideal S1x1024 .f32)

theorem dx_A (hc0 : cond0_0 i) (y : S512x1024.Idx) :
    out0_A_7 c i arg2 harg2 arg3 harg3 arg4 harg4 arg5 harg5 arg6 harg6 arg7 harg7 arg8 harg8 arg9 harg9 arg10 harg10 hc0 x0 x1 x2 x3 x4 x5 x6 y = DX x0 x1 x2 x3 x4 x5 x6 (y 0) (y 1) := by
  frame_out
  canon_tiles x h
  all_goals
    obtain ⟨r, b, rfl⟩ : ∃ (r : Fin 256) (b : Fin 1024), x = ix2 r b := ⟨x 0, x 1, eq_ix2 x⟩
    obtain ⟨R, B, rfl⟩ : ∃ (R : Fin 512) (B : Fin 1024), y = ix2 R B := ⟨y 0, y 1, eq_ix2 y⟩
    obtain rfl : B = b := Fin.ext h1
    obtain ⟨R, hR⟩ := R
    first
      | change R = _ + r.val at h0
      | change R = r.val at h0
    subst h0
    unfold_payloads
    pointwise
    first | done | rfl

theorem dg_A (hc0 : cond0_0 i) (j : Fin 1024) :
    out0_A_8 c i arg2 harg2 arg3 harg3 arg4 harg4 arg5 harg5 arg6 harg6 arg7 harg7 arg8 harg8 arg9 harg9 arg10 harg10 hc0 x0 x1 x2 x3 x4 x5 x6 (ix2 0 j) = (0 : EReal) + ∑ r : Fin 512, DG x0 x1 x2 x3 x4 r j := by
  rw [← sum_two]
  frame_open
  simp (disch := decide) only [↓ View.readCov_skip, ↓ View.readCov_cons_toLoadRect, ↓ View.readCov_fill]
  frame_out
  unfold_payloads
  pointwise
  first | done | rfl

theorem dx_B (hc0 : ¬cond0_0 i) (y : S512x1024.Idx) :
    out0_B_7 c i arg2 harg2 arg3 harg3 arg4 harg4 arg5 harg5 arg6 harg6 arg7 harg7 arg8 harg8 arg9 harg9 arg10 harg10 hc0 x0 x1 x2 x3 x4 x5 x6 xo y = DX x0 x1 x2 x3 x4 x5 x6 (y 0) (y 1) := by
  frame_out
  canon_tiles x h
  all_goals
    obtain ⟨r, b, rfl⟩ : ∃ (r : Fin 256) (b : Fin 1024), x = ix2 r b := ⟨x 0, x 1, eq_ix2 x⟩
    obtain ⟨R, B, rfl⟩ : ∃ (R : Fin 512) (B : Fin 1024), y = ix2 R B := ⟨y 0, y 1, eq_ix2 y⟩
    obtain rfl : B = b := Fin.ext h1
    obtain ⟨R, hR⟩ := R
    first
      | change R = _ + r.val at h0
      | change R = r.val at h0
    subst h0
    unfold_payloads
    pointwise
    first | done | rfl

theorem dg_B (hc0 : ¬cond0_0 i) (j : Fin 1024) :
    out0_B_8 c i arg2 harg2 arg3 harg3 arg4 harg4 arg5 harg5 arg6 harg6 arg7 harg7 arg8 harg8 arg9 harg9 arg10 harg10 hc0 x0 x1 x2 x3 x4 x5 x6 xo (ix2 0 j) = xo (ix2 0 j) + ∑ r : Fin 512, DG x0 x1 x2 x3 x4 r j := by
  rw [← sum_two]
  frame_open
  simp (disch := decide) only [↓ View.readCov_skip, ↓ View.readCov_cons_toLoadRect, ↓ View.readCov_fill]
  frame_out
  unfold_payloads
  pointwise
  first | done | rfl

end points

variable (m : (ℓ : Loc nD τ sig) → Buf (Elt Ideal) ℓ) (c : Dev nD)

abbrev a0 : S8192x2816.Idx → EReal := m ((c.tc : Thread nD τ).loc main_arg0)
abbrev a1 : S2816x1024.Idx → EReal := m ((c.tc : Thread nD τ).loc main_arg2)
abbrev a2 : S8192x2816.Idx → EReal := m ((c.tc : Thread nD τ).loc main_arg1)
abbrev a3 : S2816x1024.Idx → EReal := m ((c.tc : Thread nD τ).loc main_arg3)
abbrev a4 : S8192x1024.Idx → EReal := m ((c.tc : Thread nD τ).loc main_arg4)
abbrev a5 : S1x1024.Idx → EReal := m ((c.tc : Thread nD τ).loc main_arg5)
abbrev a6 : S8192x1024.Idx → EReal := m ((c.tc : Thread nD τ).loc main_arg6)
theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![0, 0] := by decide +kernel
theorem idx6 : ∀ t : Fin grid0.N, win0_6.index t = ![t.val, 0] := by decide +kernel
theorem idx7 : ∀ t : Fin grid0.N, win0_7.index t = ![t.val, 0] := by decide +kernel
theorem idx8 : ∀ t : Fin grid0.N, win0_8.index t = ![0, 0] := by decide +kernel
theorem blk0 (t : Fin cfg0.N) (r : Fin 512) (b : Fin 2816) (R : Fin 8192) (hR : (R : ℕ) = 512 * t.val + r.val) :
    iblk m c 0 t (ix2 r b) = a0 m c (ix2 R b) := by
  blk_ext [iblk, V, idx0 t]
  all_goals simp [hR]
theorem blk1 (t : Fin cfg0.N) : iblk m c 1 t = a1 m c := by
  funext y
  blk_ext [iblk, V, idx1 t]
theorem blk2 (t : Fin cfg0.N) (r : Fin 512) (b : Fin 2816) (R : Fin 8192) (hR : (R : ℕ) = 512 * t.val + r.val) :
    iblk m c 2 t (ix2 r b) = a2 m c (ix2 R b) := by
  blk_ext [iblk, V, idx2 t]
  all_goals simp [hR]
theorem blk3 (t : Fin cfg0.N) : iblk m c 3 t = a3 m c := by
  funext y
  blk_ext [iblk, V, idx3 t]
theorem blk4 (t : Fin cfg0.N) (r : Fin 512) (b : Fin 1024) (R : Fin 8192) (hR : (R : ℕ) = 512 * t.val + r.val) :
    iblk m c 4 t (ix2 r b) = a4 m c (ix2 R b) := by
  blk_ext [iblk, V, idx4 t]
  all_goals simp [hR]
theorem blk5 (t : Fin cfg0.N) : iblk m c 5 t = a5 m c := by
  funext y
  blk_ext [iblk, V, idx5 t]
theorem blk6 (t : Fin cfg0.N) (r : Fin 512) (b : Fin 1024) (R : Fin 8192) (hR : (R : ℕ) = 512 * t.val + r.val) :
    iblk m c 6 t (ix2 r b) = a6 m c (ix2 R b) := by
  blk_ext [iblk, V, idx6 t]
  all_goals simp [hR]

section rows
variable (t : Fin cfg0.N) (r : Fin 512) (R : Fin 8192) (hR : (R : ℕ) = 512 * t.val + r.val)
include hR
theorem z_blk : Z (iblk m c 0 t) (iblk m c 1 t) (iblk m c 2 t) (iblk m c 3 t) r = Z (a0 m c) (a1 m c) (a2 m c) (a3 m c) R := by
  funext b
  rw [blk1]
  rw [blk3]
  exact congrArg₂ (· + ·) (Finset.sum_congr rfl fun k _ => by rw [blk0 m c t r k R hR]) (Finset.sum_congr rfl fun k _ => by rw [blk2 m c t r k R hR])
theorem h_blk : Row (n := 512) (w := 1024) (iblk m c 4 t) r = Row (a4 m c) R := by
  funext k; exact blk4 m c t r k R hR
theorem d_blk : Row (n := 512) (w := 1024) (iblk m c 6 t) r = Row (a6 m c) R := by
  funext k; exact blk6 m c t r k R hR
theorem dx_blk (j : Fin 1024) : DX (iblk m c 0 t) (iblk m c 1 t) (iblk m c 2 t) (iblk m c 3 t) (iblk m c 4 t) (iblk m c 5 t) (iblk m c 6 t) r j = DX (a0 m c) (a1 m c) (a2 m c) (a3 m c) (a4 m c) (a5 m c) (a6 m c) R j := by
  unfold DX; rw [z_blk m c t r R hR, h_blk m c t r R hR, d_blk m c t r R hR, blk5]
theorem dg_blk (j : Fin 1024) : DG (iblk m c 0 t) (iblk m c 1 t) (iblk m c 2 t) (iblk m c 3 t) (iblk m c 4 t) r j = DG (a0 m c) (a1 m c) (a2 m c) (a3 m c) (a4 m c) R j := by
  unfold DG; rw [z_blk m c t r R hR, h_blk m c t r R hR, blk4 m c t r j R hR]
end rows

/-- What one block of rows adds to the scale's gradient. -/
abbrev Part (t : Fin cfg0.N) (j : Fin 1024) : EReal := ∑ r : Fin 512, DG (iblk m c 0 t) (iblk m c 1 t) (iblk m c 2 t) (iblk m c 3 t) (iblk m c 4 t) r j

theorem rows_at (t : Fin cfg0.N) (y : S512x1024.Idx) : (outsAt0 m c t.val t.isLt).1 y = DX (iblk m c 0 t) (iblk m c 1 t) (iblk m c 2 t) (iblk m c 3 t) (iblk m c 4 t) (iblk m c 5 t) (iblk m c 6 t) (y 0) (y 1) := by
  by_cases h0 : t.val % 16 = 0
  · rw [outsAt0_A m c t h0]; dsimp only; rw [dx_A]
  · rw [outsAt0_B m c t h0]; dsimp only; rw [dx_B]

theorem first (t : Fin cfg0.N) (h0 : t.val % 16 = 0) (y : S1x1024.Idx) : (outsAt0 m c t.val t.isLt).2 y = (0 : EReal) + Part m c t (y 1) := by
  obtain ⟨j, rfl⟩ : ∃ (j : Fin 1024), y = ix2 0 j := ⟨y 1, (eq_ix2 y).trans (congrArg (fun a : Fin 1 => ix2 a (y 1)) (Subsingleton.elim (α := Fin 1) _ _))⟩
  rw [outsAt0_A m c t h0]; dsimp only; rw [dg_A]
  rfl

theorem next (t : Fin cfg0.N) (h0 : ¬t.val % 16 = 0) (y : S1x1024.Idx) : (outsAt0 m c t.val t.isLt).2 y =
    (outsAt0 m c (t.val - 1) (by have := t.isLt; omega)).2 y + Part m c t (y 1) := by
  obtain ⟨j, rfl⟩ : ∃ (j : Fin 1024), y = ix2 0 j := ⟨y 1, (eq_ix2 y).trans (congrArg (fun a : Fin 1 => ix2 a (y 1)) (Subsingleton.elim (α := Fin 1) _ _))⟩
  rw [outsAt0_B m c t h0]; dsimp only; rw [dg_B]
  rfl

theorem acc (t : Fin cfg0.N) (ht : t.val + 1 = 16) (y : S1x1024.Idx) : (outsAt0 m c t.val t.isLt).2 y =
    (0 : EReal) + ∑ p : Fin 16, Part m c p (y 1) := by
  rw [Pipeline.eq_sum_fin_of_reset_step_apply_last (fun t ht => (outsAt0 m c t ht).2) 16 (fun _ => (0 : EReal))
    (fun p y => Part m c p (y 1)) ?_ ?_ (by decide) t ht y]
  · rfl
  · exact first m c
  · exact next m c

theorem final_dx : (dats m 0 c).arrAt 7 cfg0.N = fun y : S8192x1024.Idx => DX (a0 m c) (a1 m c) (a2 m c) (a3 m c) (a4 m c) (a5 m c) (a6 m c) (y 0) (y 1) := by
  refine (dats m 0 c).arrAt_eq_of_covers 7 _ (by decide +kernel) fun t hf y => ?_
  blk_simp
  rw [after0_7, rows_at]
  have e0 : ((win0_7.blk t).view.emb y 0 : ℕ) = 512 * t.val + (y 0).val := by
    blk_simp [idx7 t]
    omega
  have e1 : (win0_7.blk t).view.emb y 1 = y 1 := by
    apply Fin.ext
    blk_simp [idx7 t]
  rw [e1]
  exact dx_blk m c t _ _ e0 _

theorem final_dg : (dats m 0 c).arrAt 8 cfg0.N = fun y : S1x1024.Idx => ∑ s : Fin 8192, DG (a0 m c) (a1 m c) (a2 m c) (a3 m c) (a4 m c) s (y 1) := by
  refine (dats m 0 c).arrAt_eq_of_after_last 8 t0_15 (by decide +kernel) _ fun y => ?_
  blk_simp
  rw [after0_8, acc m c t0_15 rfl, zero_add]
  refine Fin.sum_mul_add_congr (fun t k hl => ?_)
  have hR : ((⟨t.val * 512 + k.val, hl⟩ : Fin 8192) : ℕ) = 512 * t.val + k.val := by dsimp only; omega
  exact dg_blk m c t k _ hR _

end Cert.FfnDnIdeal.Hand

namespace Cert.FfnDnRefIdeal.Hand

open Cert.FfnDnRefIdeal Cert.FfnDnRefIdeal.Gen Cert.FfnDnRefIdeal.Read Idealize.ShloMosaic Idealize.ShloMosaic.TcCoe Idealize.SL.Sem Cert.Step
open Cert.FfnDnIdeal.Hand (Z DX DG)

variable (x0 x1 : (⟨S8192x2816, .bf16⟩ : BufTy).Contents (Elt Ideal)) (x2 x3 : (⟨S2816x1024, .bf16⟩ : BufTy).Contents (Elt Ideal)) (x4 : (⟨S8192x1024, .f32⟩ : BufTy).Contents (Elt Ideal))
  (x5 : (⟨S1x1024, .f32⟩ : BufTy).Contents (Elt Ideal)) (x6 : (⟨S8192x1024, .f32⟩ : BufTy).Contents (Elt Ideal)) (r : Fin 8192) (j : Fin 1024)

theorem z_at : val_main_v25 x0 x1 x2 x3 (ix2 r j) = Z x0 x2 x1 x3 r j := by
  unfold val_main_v25 val_main_v24 val_main_v23 val_main_v5 val_main_v4 val_main_v3 val_main_v2 val_main_v1 val_main_v0
  pointwise
  exact add_comm _ _
theorem ms_at : val_main_v12 x4 (ix2 r 0) = msq (Row x4 r) := by
  unfold val_main_v12 val_main_v11 val_main_v10 val_main_v9 val_main_v8 val_main_v7 val_main_v6 val_main_cst_1 val_main_cst_0 val_main_cst
  pointwise
  first | done | rfl
theorem rin_at : val_main_v13 x4 (ix2 r 0) = rin (Row x4 r) := by
  unfold rin
  rw [← ms_at]
  unfold val_main_v13
  pointwise
theorem f_at : val_main_v16 x4 (ix2 r 0) = mhalf * Ideal.div (rin (Row x4 r)) (msq (Row x4 r)) := by
  rw [← rin_at, ← ms_at]
  unfold val_main_v16 val_main_v15 val_main_cst_2 val_main_v14
  pointwise
theorem s_at : val_main_v33 x0 x1 x2 x3 x4 x5 (ix2 r 0) = ∑ k, Row x4 r k * (Z x0 x2 x1 x3 r k * Row x5 0 k) := by
  simp only [← z_at]
  unfold val_main_v33 val_main_v32 val_main_cst_4 val_main_v31 val_main_v30 val_main_v29
  generalize val_main_v25 x0 x1 x2 x3 = f
  pointwise
theorem c_at : val_main_v40 x0 x1 x2 x3 x4 x5 (ix1 r) = Ideal.div ((∑ k, Row x4 r k * (Z x0 x2 x1 x3 r k * Row x5 0 k)) * (mhalf * Ideal.div (rin (Row x4 r)) (msq (Row x4 r)))) nF := by
  rw [← s_at, ← f_at]
  unfold val_main_v40 val_main_cst_6 val_main_v39 val_main_v38 val_main_cst_5 val_main_v37
  generalize val_main_v33 x0 x1 x2 x3 x4 x5 = f
  generalize val_main_v16 x4 = f2
  pointwise
  exact Fin.sum_univ_one _
theorem dx_at : val_main_v45 x0 x1 x2 x3 x4 x5 x6 (ix2 r j) = DX x0 x2 x1 x3 x4 x5 x6 r j := by
  unfold DX
  rw [← rms_ref, ← c_at, ← rin_at, ← z_at]
  unfold val_main_v45 val_main_v44 val_main_v43 val_main_v42 val_main_v41 val_main_v36 val_main_v35 val_main_v34 val_main_v30 val_main_v29
  generalize val_main_v40 x0 x1 x2 x3 x4 x5 = f1
  generalize val_main_v13 x4 = f2
  generalize val_main_v25 x0 x1 x2 x3 = f3
  pointwise
theorem dg_at : val_main_v28 x0 x1 x2 x3 x4 (ix2 0 j) = ∑ s : Fin 8192, DG x0 x2 x1 x3 x4 s j := by
  have e : ∀ s : Fin 8192, DG x0 x2 x1 x3 x4 s j = (x4 (ix2 s j) * val_main_v13 x4 (ix2 s 0)) * val_main_v25 x0 x1 x2 x3 (ix2 s j) := fun s => by
    unfold DG; rw [z_at, rin_at, mul_comm]
  simp only [e]
  unfold val_main_v28 val_main_v27 val_main_cst_3 val_main_v26 val_main_v18 val_main_v17
  generalize val_main_v13 x4 = f2
  generalize val_main_v25 x0 x1 x2 x3 = f3
  pointwise

end Cert.FfnDnRefIdeal.Hand

namespace Cert.Proof.FfnDn

open Idealize.ShloMosaic Idealize.SL.Sem

theorem algebraic : Cert.algebraic_FfnDnIdeal_FfnDnRefIdeal := by
  pair_intro
  · run_from Cert.FfnDnIdeal.Value.run_blocks m g
  · refine (θ_run _ _ _).mono (fun r h c => ?_) (Cert.FfnDnRefIdeal.Value.run m' g')
    obtain ⟨e0, e1, e2, e3, e4, e5, e6⟩ := hagree c
    refine ⟨(h c).1.trans ?_, (h c).2.1.trans ?_, (h c).2.2⟩
    · rw [Cert.FfnDnRefIdeal.Read.val_main_v45_eq, e0, e1, e2, e3, e4, e5, e6, Cert.FfnDnIdeal.Hand.final_dx m c]
      funext y
      obtain ⟨r, b, rfl⟩ : ∃ (r : Fin 8192) (b : Fin 1024), y = ix2 r b := ⟨y 0, y 1, eq_ix2 y⟩
      exact Cert.FfnDnRefIdeal.Hand.dx_at _ _ _ _ _ _ _ r b
    · rw [Cert.FfnDnRefIdeal.Read.val_main_v28_eq, e0, e1, e2, e3, e4, Cert.FfnDnIdeal.Hand.final_dg m c]
      funext y
      obtain ⟨r, b, rfl⟩ : ∃ (r : Fin 1) (b : Fin 1024), y = ix2 r b := ⟨y 0, y 1, eq_ix2 y⟩
      obtain rfl : r = 0 := Subsingleton.elim _ _
      exact Cert.FfnDnRefIdeal.Hand.dg_at _ _ _ _ _ b

theorem frame_p : Cert.quiescent_FfnDn := fun m ρ _ => Cert.FfnDn.Gen.frame m ρ
theorem frame_pi : Cert.quiescent_FfnDnIdeal := fun m ρ _ => Cert.FfnDnIdeal.Gen.frame m ρ
theorem frame_ri : Cert.quiescent_FfnDnRefIdeal := fun m ρ _ =>
  (θ_run Cert.FfnDnRefIdeal.defs _ _).mono (fun r h => ⟨fun c => (h c).2.2, sem_eq_zero_of_no_sems (by decide) r.2⟩)
    (Cert.FfnDnRefIdeal.Value.run (F := Ideal) m ρ)

end Cert.Proof.FfnDn
end
-- ==== Proof.Calls.OdDn.lean ====
/- The gradient of the odd layer's input under its norm and projection, the residual's gradient added, and the gradient of the norm's scale. -/
module

public import proofs.«01_k».proof.Defs
public import proofs.«01_k».proof.Proof.Gen.OdDn.Frame
public import proofs.«01_k».proof.Proof.Gen.OdDnIdeal.Value
public import proofs.«01_k».proof.Proof.Gen.OdDnRefIdeal.Run
public import proofs.«01_k».proof.Proof.Gen.OdDnRefIdeal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Calls.Rms

@[expose] public section

set_option maxRecDepth 16384
noncomputable section

namespace Cert.OdDnIdeal.Hand

open Cert.OdDnIdeal Cert.OdDnIdeal.Gen Idealize.ShloMosaic Idealize.ShloMosaic.TcCoe Idealize.SL.Sem
open Idealize.ShloMosaic.Pipeline (Dat)
open Cert.Step

/-- The incoming gradient of one row. -/
abbrev Z {n : ℕ} (x0 : (⟨2, ![n, 2048]⟩ : Shape).Idx → EReal) (x1 : S2048x1024.Idx → EReal) (r : Fin n) : Fin 1024 → EReal := fun b => (∑ k : Fin 2048, (x0 (ix2 r k) * x1 (ix2 k b) : EReal))
/-- The gradient of the input's entries. -/
abbrev DX {n : ℕ} (x0 : (⟨2, ![n, 2048]⟩ : Shape).Idx → EReal) (x1 : S2048x1024.Idx → EReal) (x2 : (⟨2, ![n, 1024]⟩ : Shape).Idx → EReal) (x3 : S1x1024.Idx → EReal) (x4 : (⟨2, ![n, 1024]⟩ : Shape).Idx → EReal) (r : Fin n) (j : Fin 1024) : EReal :=
  rmsK (Row x2 r) (Row x3 0) (Z x0 x1 r) (Row x4 r) j
/-- What one row adds to the scale's gradient. -/
abbrev DG {n : ℕ} (x0 : (⟨2, ![n, 2048]⟩ : Shape).Idx → EReal) (x1 : S2048x1024.Idx → EReal) (x2 : (⟨2, ![n, 1024]⟩ : Shape).Idx → EReal) (r : Fin n) (j : Fin 1024) : EReal :=
  Z x0 x1 r j * (x2 (ix2 r j) * rin (Row x2 r))

section points
variable (c : Dev nD) (i : grid0.Coords) (arg2 : Memref sig .tc .vmem S1024x2048 .bf16) (harg2 : arg2.IsWhole) (arg3 : Memref sig .tc .vmem S2048x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole)
  (x0 : Vec Ideal S1024x2048 .bf16) (x1 : Vec Ideal S2048x1024 .bf16) (x2 : Vec Ideal S1024x1024 .f32) (x3 : Vec Ideal S1x1024 .f32) (x4 : Vec Ideal S1024x1024 .f32) (xo : Vec Ideal S1x1024 .f32)

theorem dx_A (hc0 : cond0_0 i) (y : S1024x1024.Idx) :
    out0_A_5 c i arg2 harg2 arg3 harg3 arg4 harg4 arg5 harg5 arg6 harg6 arg7 harg7 arg8 harg8 hc0 x0 x1 x2 x3 x4 y = DX x0 x1 x2 x3 x4 (y 0) (y 1) := by
  frame_out
  canon_tiles x h
  all_goals
    obtain ⟨r, b, rfl⟩ : ∃ (r : Fin 256) (b : Fin 1024), x = ix2 r b := ⟨x 0, x 1, eq_ix2 x⟩
    obtain ⟨R, B, rfl⟩ : ∃ (R : Fin 1024) (B : Fin 1024), y = ix2 R B := ⟨y 0, y 1, eq_ix2 y⟩
    obtain rfl : B = b := Fin.ext h1
    obtain ⟨R, hR⟩ := R
    first
      | change R = _ + r.val at h0
      | change R = r.val at h0
    subst h0
    unfold_payloads
    pointwise
    first | done | rfl

theorem dg_A (hc0 : cond0_0 i) (j : Fin 1024) :
    out0_A_6 c i arg2 harg2 arg3 harg3 arg4 harg4 arg5 harg5 arg6 harg6 arg7 harg7 arg8 harg8 hc0 x0 x1 x2 x3 x4 (ix2 0 j) = (0 : EReal) + ∑ r : Fin 1024, DG x0 x1 x2 r j := by
  rw [← sum_four]
  frame_open
  simp (disch := decide) only [↓ View.readCov_skip, ↓ View.readCov_cons_toLoadRect, ↓ View.readCov_fill]
  frame_out
  unfold_payloads
  pointwise
  first | done | rfl

theorem dx_B (hc0 : ¬cond0_0 i) (y : S1024x1024.Idx) :
    out0_B_5 c i arg2 harg2 arg3 harg3 arg4 harg4 arg5 harg5 arg6 harg6 arg7 harg7 arg8 harg8 hc0 x0 x1 x2 x3 x4 xo y = DX x0 x1 x2 x3 x4 (y 0) (y 1) := by
  frame_out
  canon_tiles x h
  all_goals
    obtain ⟨r, b, rfl⟩ : ∃ (r : Fin 256) (b : Fin 1024), x = ix2 r b := ⟨x 0, x 1, eq_ix2 x⟩
    obtain ⟨R, B, rfl⟩ : ∃ (R : Fin 1024) (B : Fin 1024), y = ix2 R B := ⟨y 0, y 1, eq_ix2 y⟩
    obtain rfl : B = b := Fin.ext h1
    obtain ⟨R, hR⟩ := R
    first
      | change R = _ + r.val at h0
      | change R = r.val at h0
    subst h0
    unfold_payloads
    pointwise
    first | done | rfl

theorem dg_B (hc0 : ¬cond0_0 i) (j : Fin 1024) :
    out0_B_6 c i arg2 harg2 arg3 harg3 arg4 harg4 arg5 harg5 arg6 harg6 arg7 harg7 arg8 harg8 hc0 x0 x1 x2 x3 x4 xo (ix2 0 j) = xo (ix2 0 j) + ∑ r : Fin 1024, DG x0 x1 x2 r j := by
  rw [← sum_four]
  frame_open
  simp (disch := decide) only [↓ View.readCov_skip, ↓ View.readCov_cons_toLoadRect, ↓ View.readCov_fill]
  frame_out
  unfold_payloads
  pointwise
  first | done | rfl

end points

variable (m : (ℓ : Loc nD τ sig) → Buf (Elt Ideal) ℓ) (c : Dev nD)

abbrev a0 : S8192x2048.Idx → EReal := m ((c.tc : Thread nD τ).loc main_arg0)
abbrev a1 : S2048x1024.Idx → EReal := m ((c.tc : Thread nD τ).loc main_arg1)
abbrev a2 : S8192x1024.Idx → EReal := m ((c.tc : Thread nD τ).loc main_arg2)
abbrev a3 : S1x1024.Idx → EReal := m ((c.tc : Thread nD τ).loc main_arg3)
abbrev a4 : S8192x1024.Idx → EReal := m ((c.tc : Thread nD τ).loc main_arg4)
theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![0, 0] := by decide +kernel
theorem blk0 (t : Fin cfg0.N) (r : Fin 1024) (b : Fin 2048) (R : Fin 8192) (hR : (R : ℕ) = 1024 * t.val + r.val) :
    iblk m c 0 t (ix2 r b) = a0 m c (ix2 R b) := by
  blk_ext [iblk, V, idx0 t]
  all_goals simp [hR]
theorem blk1 (t : Fin cfg0.N) : iblk m c 1 t = a1 m c := by
  funext y
  blk_ext [iblk, V, idx1 t]
theorem blk2 (t : Fin cfg0.N) (r : Fin 1024) (b : Fin 1024) (R : Fin 8192) (hR : (R : ℕ) = 1024 * t.val + r.val) :
    iblk m c 2 t (ix2 r b) = a2 m c (ix2 R b) := by
  blk_ext [iblk, V, idx2 t]
  all_goals simp [hR]
theorem blk3 (t : Fin cfg0.N) : iblk m c 3 t = a3 m c := by
  funext y
  blk_ext [iblk, V, idx3 t]
theorem blk4 (t : Fin cfg0.N) (r : Fin 1024) (b : Fin 1024) (R : Fin 8192) (hR : (R : ℕ) = 1024 * t.val + r.val) :
    iblk m c 4 t (ix2 r b) = a4 m c (ix2 R b) := by
  blk_ext [iblk, V, idx4 t]
  all_goals simp [hR]

section rows
variable (t : Fin cfg0.N) (r : Fin 1024) (R : Fin 8192) (hR : (R : ℕ) = 1024 * t.val + r.val)
include hR
theorem z_blk : Z (iblk m c 0 t) (iblk m c 1 t) r = Z (a0 m c) (a1 m c) R := by
  funext b
  rw [blk1]
  exact Finset.sum_congr rfl fun k _ => by rw [blk0 m c t r k R hR]
theorem h_blk : Row (n := 1024) (w := 1024) (iblk m c 2 t) r = Row (a2 m c) R := by
  funext k; exact blk2 m c t r k R hR
theorem d_blk : Row (n := 1024) (w := 1024) (iblk m c 4 t) r = Row (a4 m c) R := by
  funext k; exact blk4 m c t r k R hR
theorem dx_blk (j : Fin 1024) : DX (iblk m c 0 t) (iblk m c 1 t) (iblk m c 2 t) (iblk m c 3 t) (iblk m c 4 t) r j = DX (a0 m c) (a1 m c) (a2 m c) (a3 m c) (a4 m c) R j := by
  unfold DX; rw [z_blk m c t r R hR, h_blk m c t r R hR, d_blk m c t r R hR, blk3]
theorem dg_blk (j : Fin 1024) : DG (iblk m c 0 t) (iblk m c 1 t) (iblk m c 2 t) r j = DG (a0 m c) (a1 m c) (a2 m c) R j := by
  unfold DG; rw [z_blk m c t r R hR, h_blk m c t r R hR, blk2 m c t r j R hR]
end rows

/-- What one block of rows adds to the scale's gradient. -/
abbrev Part (t : Fin cfg0.N) (j : Fin 1024) : EReal := ∑ r : Fin 1024, DG (iblk m c 0 t) (iblk m c 1 t) (iblk m c 2 t) r j

theorem rows_at (t : Fin cfg0.N) (y : S1024x1024.Idx) : (outsAt0 m c t.val t.isLt).1 y = DX (iblk m c 0 t) (iblk m c 1 t) (iblk m c 2 t) (iblk m c 3 t) (iblk m c 4 t) (y 0) (y 1) := by
  by_cases h0 : t.val % 8 = 0
  · rw [outsAt0_A m c t h0]; dsimp only; rw [dx_A]
  · rw [outsAt0_B m c t h0]; dsimp only; rw [dx_B]

theorem first (t : Fin cfg0.N) (h0 : t.val % 8 = 0) (y : S1x1024.Idx) : (outsAt0 m c t.val t.isLt).2 y = (0 : EReal) + Part m c t (y 1) := by
  obtain ⟨j, rfl⟩ : ∃ (j : Fin 1024), y = ix2 0 j := ⟨y 1, (eq_ix2 y).trans (congrArg (fun a : Fin 1 => ix2 a (y 1)) (Subsingleton.elim (α := Fin 1) _ _))⟩
  rw [outsAt0_A m c t h0]; dsimp only; rw [dg_A]
  rfl

theorem next (t : Fin cfg0.N) (h0 : ¬t.val % 8 = 0) (y : S1x1024.Idx) : (outsAt0 m c t.val t.isLt).2 y =
    (outsAt0 m c (t.val - 1) (by have := t.isLt; omega)).2 y + Part m c t (y 1) := by
  obtain ⟨j, rfl⟩ : ∃ (j : Fin 1024), y = ix2 0 j := ⟨y 1, (eq_ix2 y).trans (congrArg (fun a : Fin 1 => ix2 a (y 1)) (Subsingleton.elim (α := Fin 1) _ _))⟩
  rw [outsAt0_B m c t h0]; dsimp only; rw [dg_B]
  rfl

theorem acc (t : Fin cfg0.N) (ht : t.val + 1 = 8) (y : S1x1024.Idx) : (outsAt0 m c t.val t.isLt).2 y =
    (0 : EReal) + ∑ p : Fin 8, Part m c p (y 1) := by
  rw [Pipeline.eq_sum_fin_of_reset_step_apply_last (fun t ht => (outsAt0 m c t ht).2) 8 (fun _ => (0 : EReal))
    (fun p y => Part m c p (y 1)) ?_ ?_ (by decide) t ht y]
  · rfl
  · exact first m c
  · exact next m c

theorem final_dx : (dats m 0 c).arrAt 5 cfg0.N = fun y : S8192x1024.Idx => DX (a0 m c) (a1 m c) (a2 m c) (a3 m c) (a4 m c) (y 0) (y 1) := by
  refine (dats m 0 c).arrAt_eq_of_covers 5 _ (by decide +kernel) fun t hf y => ?_
  blk_simp
  rw [after0_5, rows_at]
  have e0 : ((win0_5.blk t).view.emb y 0 : ℕ) = 1024 * t.val + (y 0).val := by
    blk_simp [idx5 t]
    omega
  have e1 : (win0_5.blk t).view.emb y 1 = y 1 := by
    apply Fin.ext
    blk_simp [idx5 t]
  rw [e1]
  exact dx_blk m c t _ _ e0 _

theorem final_dg : (dats m 0 c).arrAt 6 cfg0.N = fun y : S1x1024.Idx => ∑ s : Fin 8192, DG (a0 m c) (a1 m c) (a2 m c) s (y 1) := by
  refine (dats m 0 c).arrAt_eq_of_after_last 6 t0_7 (by decide +kernel) _ fun y => ?_
  blk_simp
  rw [after0_6, acc m c t0_7 rfl, zero_add]
  refine Fin.sum_mul_add_congr (fun t k hl => ?_)
  have hR : ((⟨t.val * 1024 + k.val, hl⟩ : Fin 8192) : ℕ) = 1024 * t.val + k.val := by dsimp only; omega
  exact dg_blk m c t k _ hR _

end Cert.OdDnIdeal.Hand

namespace Cert.OdDnRefIdeal.Hand

open Cert.OdDnRefIdeal Cert.OdDnRefIdeal.Gen Cert.OdDnRefIdeal.Read Idealize.ShloMosaic Idealize.ShloMosaic.TcCoe Idealize.SL.Sem Cert.Step
open Cert.OdDnIdeal.Hand (Z DX DG)

variable (x0 : (⟨S8192x2048, .bf16⟩ : BufTy).Contents (Elt Ideal)) (x1 : (⟨S2048x1024, .bf16⟩ : BufTy).Contents (Elt Ideal)) (x2 : (⟨S8192x1024, .f32⟩ : BufTy).Contents (Elt Ideal))
  (x3 : (⟨S1x1024, .f32⟩ : BufTy).Contents (Elt Ideal)) (x4 : (⟨S8192x1024, .f32⟩ : BufTy).Contents (Elt Ideal)) (r : Fin 8192) (j : Fin 1024)

theorem z_at : val_main_v19 x0 x1 (ix2 r j) = Z x0 x1 r j := by
  unfold val_main_v19 val_main_v2 val_main_v1 val_main_v0
  pointwise
theorem ms_at : val_main_v9 x2 (ix2 r 0) = msq (Row x2 r) := by
  unfold val_main_v9 val_main_v8 val_main_v7 val_main_v6 val_main_v5 val_main_v4 val_main_v3 val_main_cst_1 val_main_cst_0 val_main_cst
  pointwise
  first | done | rfl
theorem rin_at : val_main_v10 x2 (ix2 r 0) = rin (Row x2 r) := by
  unfold rin
  rw [← ms_at]
  unfold val_main_v10
  pointwise
theorem f_at : val_main_v13 x2 (ix2 r 0) = mhalf * Ideal.div (rin (Row x2 r)) (msq (Row x2 r)) := by
  rw [← rin_at, ← ms_at]
  unfold val_main_v13 val_main_v12 val_main_cst_2 val_main_v11
  pointwise
theorem s_at : val_main_v27 x0 x1 x2 x3 (ix2 r 0) = ∑ k, Row x2 r k * (Z x0 x1 r k * Row x3 0 k) := by
  simp only [← z_at]
  unfold val_main_v27 val_main_v26 val_main_cst_4 val_main_v25 val_main_v24 val_main_v23
  generalize val_main_v19 x0 x1 = f
  pointwise
theorem c_at : val_main_v34 x0 x1 x2 x3 (ix1 r) = Ideal.div ((∑ k, Row x2 r k * (Z x0 x1 r k * Row x3 0 k)) * (mhalf * Ideal.div (rin (Row x2 r)) (msq (Row x2 r)))) nF := by
  rw [← s_at, ← f_at]
  unfold val_main_v34 val_main_cst_6 val_main_v33 val_main_v32 val_main_cst_5 val_main_v31
  generalize val_main_v27 x0 x1 x2 x3 = f
  generalize val_main_v13 x2 = f2
  pointwise
  exact Fin.sum_univ_one _
theorem dx_at : val_main_v39 x0 x1 x2 x3 x4 (ix2 r j) = DX x0 x1 x2 x3 x4 r j := by
  unfold DX
  rw [← rms_ref, ← c_at, ← rin_at, ← z_at]
  unfold val_main_v39 val_main_v38 val_main_v37 val_main_v36 val_main_v35 val_main_v30 val_main_v29 val_main_v28 val_main_v24 val_main_v23
  generalize val_main_v34 x0 x1 x2 x3 = f1
  generalize val_main_v10 x2 = f2
  generalize val_main_v19 x0 x1 = f3
  pointwise
theorem dg_at : val_main_v22 x0 x1 x2 (ix2 0 j) = ∑ s : Fin 8192, DG x0 x1 x2 s j := by
  have e : ∀ s : Fin 8192, DG x0 x1 x2 s j = (x2 (ix2 s j) * val_main_v10 x2 (ix2 s 0)) * val_main_v19 x0 x1 (ix2 s j) := fun s => by
    unfold DG; rw [z_at, rin_at, mul_comm]
  simp only [e]
  unfold val_main_v22 val_main_v21 val_main_cst_3 val_main_v20 val_main_v15 val_main_v14
  generalize val_main_v10 x2 = f2
  generalize val_main_v19 x0 x1 = f3
  pointwise

end Cert.OdDnRefIdeal.Hand

namespace Cert.Proof.OdDn

open Idealize.ShloMosaic Idealize.SL.Sem

theorem algebraic : Cert.algebraic_OdDnIdeal_OdDnRefIdeal := by
  pair_intro
  · run_from Cert.OdDnIdeal.Value.run_blocks m g
  · refine (θ_run _ _ _).mono (fun r h c => ?_) (Cert.OdDnRefIdeal.Value.run m' g')
    obtain ⟨e0, e1, e2, e3, e4⟩ := hagree c
    refine ⟨(h c).1.trans ?_, (h c).2.1.trans ?_, (h c).2.2⟩
    · rw [Cert.OdDnRefIdeal.Read.val_main_v39_eq, e0, e1, e2, e3, e4, Cert.OdDnIdeal.Hand.final_dx m c]
      funext y
      obtain ⟨r, b, rfl⟩ : ∃ (r : Fin 8192) (b : Fin 1024), y = ix2 r b := ⟨y 0, y 1, eq_ix2 y⟩
      exact Cert.OdDnRefIdeal.Hand.dx_at _ _ _ _ _ r b
    · rw [Cert.OdDnRefIdeal.Read.val_main_v22_eq, e0, e1, e2, Cert.OdDnIdeal.Hand.final_dg m c]
      funext y
      obtain ⟨r, b, rfl⟩ : ∃ (r : Fin 1) (b : Fin 1024), y = ix2 r b := ⟨y 0, y 1, eq_ix2 y⟩
      obtain rfl : r = 0 := Subsingleton.elim _ _
      exact Cert.OdDnRefIdeal.Hand.dg_at _ _ _ b

theorem frame_p : Cert.quiescent_OdDn := fun m ρ _ => Cert.OdDn.Gen.frame m ρ
theorem frame_pi : Cert.quiescent_OdDnIdeal := fun m ρ _ => Cert.OdDnIdeal.Gen.frame m ρ
theorem frame_ri : Cert.quiescent_OdDnRefIdeal := fun m ρ _ =>
  (θ_run Cert.OdDnRefIdeal.defs _ _).mono (fun r h => ⟨fun c => (h c).2.2, sem_eq_zero_of_no_sems (by decide) r.2⟩)
    (Cert.OdDnRefIdeal.Value.run (F := Ideal) m ρ)

end Cert.Proof.OdDn
end
-- ==== Proof.Calls.EvDn.lean ====
/- The gradient of the even layer's input under its norm and projection, the residual's gradient added, and the gradient of the norm's scale. -/
module

public import proofs.«01_k».proof.Defs
public import proofs.«01_k».proof.Proof.Gen.EvDn.Frame
public import proofs.«01_k».proof.Proof.Gen.EvDnIdeal.Value
public import proofs.«01_k».proof.Proof.Gen.EvDnRefIdeal.Run
public import proofs.«01_k».proof.Proof.Gen.EvDnRefIdeal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Calls.Rms

@[expose] public section

set_option maxRecDepth 16384
noncomputable section

namespace Cert.EvDnIdeal.Hand

open Cert.EvDnIdeal Cert.EvDnIdeal.Gen Idealize.ShloMosaic Idealize.ShloMosaic.TcCoe Idealize.SL.Sem
open Idealize.ShloMosaic.Pipeline (Dat)
open Cert.Step

/-- The incoming gradient of one row. -/
abbrev Z {n : ℕ} (x0 : (⟨2, ![n, 2560]⟩ : Shape).Idx → EReal) (x1 : S2560x1024.Idx → EReal) (r : Fin n) : Fin 1024 → EReal := fun b => (∑ k : Fin 2560, (x0 (ix2 r k) * x1 (ix2 k b) : EReal))
/-- The gradient of the input's entries. -/
abbrev DX {n : ℕ} (x0 : (⟨2, ![n, 2560]⟩ : Shape).Idx → EReal) (x1 : S2560x1024.Idx → EReal) (x2 : (⟨2, ![n, 1024]⟩ : Shape).Idx → EReal) (x3 : S1x1024.Idx → EReal) (x4 : (⟨2, ![n, 1024]⟩ : Shape).Idx → EReal) (r : Fin n) (j : Fin 1024) : EReal :=
  rmsK (Row x2 r) (Row x3 0) (Z x0 x1 r) (Row x4 r) j
/-- What one row adds to the scale's gradient. -/
abbrev DG {n : ℕ} (x0 : (⟨2, ![n, 2560]⟩ : Shape).Idx → EReal) (x1 : S2560x1024.Idx → EReal) (x2 : (⟨2, ![n, 1024]⟩ : Shape).Idx → EReal) (r : Fin n) (j : Fin 1024) : EReal :=
  Z x0 x1 r j * (x2 (ix2 r j) * rin (Row x2 r))

section points
variable (c : Dev nD) (i : grid0.Coords) (arg2 : Memref sig .tc .vmem S1024x2560 .bf16) (harg2 : arg2.IsWhole) (arg3 : Memref sig .tc .vmem S2560x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole)
  (x0 : Vec Ideal S1024x2560 .bf16) (x1 : Vec Ideal S2560x1024 .bf16) (x2 : Vec Ideal S1024x1024 .f32) (x3 : Vec Ideal S1x1024 .f32) (x4 : Vec Ideal S1024x1024 .f32) (xo : Vec Ideal S1x1024 .f32)

theorem dx_A (hc0 : cond0_0 i) (y : S1024x1024.Idx) :
    out0_A_5 c i arg2 harg2 arg3 harg3 arg4 harg4 arg5 harg5 arg6 harg6 arg7 harg7 arg8 harg8 hc0 x0 x1 x2 x3 x4 y = DX x0 x1 x2 x3 x4 (y 0) (y 1) := by
  frame_out
  canon_tiles x h
  all_goals
    obtain ⟨r, b, rfl⟩ : ∃ (r : Fin 256) (b : Fin 1024), x = ix2 r b := ⟨x 0, x 1, eq_ix2 x⟩
    obtain ⟨R, B, rfl⟩ : ∃ (R : Fin 1024) (B : Fin 1024), y = ix2 R B := ⟨y 0, y 1, eq_ix2 y⟩
    obtain rfl : B = b := Fin.ext h1
    obtain ⟨R, hR⟩ := R
    first
      | change R = _ + r.val at h0
      | change R = r.val at h0
    subst h0
    unfold_payloads
    pointwise
    first | done | rfl

theorem dg_A (hc0 : cond0_0 i) (j : Fin 1024) :
    out0_A_6 c i arg2 harg2 arg3 harg3 arg4 harg4 arg5 harg5 arg6 harg6 arg7 harg7 arg8 harg8 hc0 x0 x1 x2 x3 x4 (ix2 0 j) = (0 : EReal) + ∑ r : Fin 1024, DG x0 x1 x2 r j := by
  rw [← sum_four]
  frame_open
  simp (disch := decide) only [↓ View.readCov_skip, ↓ View.readCov_cons_toLoadRect, ↓ View.readCov_fill]
  frame_out
  unfold_payloads
  pointwise
  first | done | rfl

theorem dx_B (hc0 : ¬cond0_0 i) (y : S1024x1024.Idx) :
    out0_B_5 c i arg2 harg2 arg3 harg3 arg4 harg4 arg5 harg5 arg6 harg6 arg7 harg7 arg8 harg8 hc0 x0 x1 x2 x3 x4 xo y = DX x0 x1 x2 x3 x4 (y 0) (y 1) := by
  frame_out
  canon_tiles x h
  all_goals
    obtain ⟨r, b, rfl⟩ : ∃ (r : Fin 256) (b : Fin 1024), x = ix2 r b := ⟨x 0, x 1, eq_ix2 x⟩
    obtain ⟨R, B, rfl⟩ : ∃ (R : Fin 1024) (B : Fin 1024), y = ix2 R B := ⟨y 0, y 1, eq_ix2 y⟩
    obtain rfl : B = b := Fin.ext h1
    obtain ⟨R, hR⟩ := R
    first
      | change R = _ + r.val at h0
      | change R = r.val at h0
    subst h0
    unfold_payloads
    pointwise
    first | done | rfl

theorem dg_B (hc0 : ¬cond0_0 i) (j : Fin 1024) :
    out0_B_6 c i arg2 harg2 arg3 harg3 arg4 harg4 arg5 harg5 arg6 harg6 arg7 harg7 arg8 harg8 hc0 x0 x1 x2 x3 x4 xo (ix2 0 j) = xo (ix2 0 j) + ∑ r : Fin 1024, DG x0 x1 x2 r j := by
  rw [← sum_four]
  frame_open
  simp (disch := decide) only [↓ View.readCov_skip, ↓ View.readCov_cons_toLoadRect, ↓ View.readCov_fill]
  frame_out
  unfold_payloads
  pointwise
  first | done | rfl

end points

variable (m : (ℓ : Loc nD τ sig) → Buf (Elt Ideal) ℓ) (c : Dev nD)

abbrev a0 : S8192x2560.Idx → EReal := m ((c.tc : Thread nD τ).loc main_arg0)
abbrev a1 : S2560x1024.Idx → EReal := m ((c.tc : Thread nD τ).loc main_arg1)
abbrev a2 : S8192x1024.Idx → EReal := m ((c.tc : Thread nD τ).loc main_arg2)
abbrev a3 : S1x1024.Idx → EReal := m ((c.tc : Thread nD τ).loc main_arg3)
abbrev a4 : S8192x1024.Idx → EReal := m ((c.tc : Thread nD τ).loc main_arg4)
theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![0, 0] := by decide +kernel
theorem blk0 (t : Fin cfg0.N) (r : Fin 1024) (b : Fin 2560) (R : Fin 8192) (hR : (R : ℕ) = 1024 * t.val + r.val) :
    iblk m c 0 t (ix2 r b) = a0 m c (ix2 R b) := by
  blk_ext [iblk, V, idx0 t]
  all_goals simp [hR]
theorem blk1 (t : Fin cfg0.N) : iblk m c 1 t = a1 m c := by
  funext y
  blk_ext [iblk, V, idx1 t]
theorem blk2 (t : Fin cfg0.N) (r : Fin 1024) (b : Fin 1024) (R : Fin 8192) (hR : (R : ℕ) = 1024 * t.val + r.val) :
    iblk m c 2 t (ix2 r b) = a2 m c (ix2 R b) := by
  blk_ext [iblk, V, idx2 t]
  all_goals simp [hR]
theorem blk3 (t : Fin cfg0.N) : iblk m c 3 t = a3 m c := by
  funext y
  blk_ext [iblk, V, idx3 t]
theorem blk4 (t : Fin cfg0.N) (r : Fin 1024) (b : Fin 1024) (R : Fin 8192) (hR : (R : ℕ) = 1024 * t.val + r.val) :
    iblk m c 4 t (ix2 r b) = a4 m c (ix2 R b) := by
  blk_ext [iblk, V, idx4 t]
  all_goals simp [hR]

section rows
variable (t : Fin cfg0.N) (r : Fin 1024) (R : Fin 8192) (hR : (R : ℕ) = 1024 * t.val + r.val)
include hR
theorem z_blk : Z (iblk m c 0 t) (iblk m c 1 t) r = Z (a0 m c) (a1 m c) R := by
  funext b
  rw [blk1]
  exact Finset.sum_congr rfl fun k _ => by rw [blk0 m c t r k R hR]
theorem h_blk : Row (n := 1024) (w := 1024) (iblk m c 2 t) r = Row (a2 m c) R := by
  funext k; exact blk2 m c t r k R hR
theorem d_blk : Row (n := 1024) (w := 1024) (iblk m c 4 t) r = Row (a4 m c) R := by
  funext k; exact blk4 m c t r k R hR
theorem dx_blk (j : Fin 1024) : DX (iblk m c 0 t) (iblk m c 1 t) (iblk m c 2 t) (iblk m c 3 t) (iblk m c 4 t) r j = DX (a0 m c) (a1 m c) (a2 m c) (a3 m c) (a4 m c) R j := by
  unfold DX; rw [z_blk m c t r R hR, h_blk m c t r R hR, d_blk m c t r R hR, blk3]
theorem dg_blk (j : Fin 1024) : DG (iblk m c 0 t) (iblk m c 1 t) (iblk m c 2 t) r j = DG (a0 m c) (a1 m c) (a2 m c) R j := by
  unfold DG; rw [z_blk m c t r R hR, h_blk m c t r R hR, blk2 m c t r j R hR]
end rows

/-- What one block of rows adds to the scale's gradient. -/
abbrev Part (t : Fin cfg0.N) (j : Fin 1024) : EReal := ∑ r : Fin 1024, DG (iblk m c 0 t) (iblk m c 1 t) (iblk m c 2 t) r j

theorem rows_at (t : Fin cfg0.N) (y : S1024x1024.Idx) : (outsAt0 m c t.val t.isLt).1 y = DX (iblk m c 0 t) (iblk m c 1 t) (iblk m c 2 t) (iblk m c 3 t) (iblk m c 4 t) (y 0) (y 1) := by
  by_cases h0 : t.val % 8 = 0
  · rw [outsAt0_A m c t h0]; dsimp only; rw [dx_A]
  · rw [outsAt0_B m c t h0]; dsimp only; rw [dx_B]

theorem first (t : Fin cfg0.N) (h0 : t.val % 8 = 0) (y : S1x1024.Idx) : (outsAt0 m c t.val t.isLt).2 y = (0 : EReal) + Part m c t (y 1) := by
  obtain ⟨j, rfl⟩ : ∃ (j : Fin 1024), y = ix2 0 j := ⟨y 1, (eq_ix2 y).trans (congrArg (fun a : Fin 1 => ix2 a (y 1)) (Subsingleton.elim (α := Fin 1) _ _))⟩
  rw [outsAt0_A m c t h0]; dsimp only; rw [dg_A]
  rfl

theorem next (t : Fin cfg0.N) (h0 : ¬t.val % 8 = 0) (y : S1x1024.Idx) : (outsAt0 m c t.val t.isLt).2 y =
    (outsAt0 m c (t.val - 1) (by have := t.isLt; omega)).2 y + Part m c t (y 1) := by
  obtain ⟨j, rfl⟩ : ∃ (j : Fin 1024), y = ix2 0 j := ⟨y 1, (eq_ix2 y).trans (congrArg (fun a : Fin 1 => ix2 a (y 1)) (Subsingleton.elim (α := Fin 1) _ _))⟩
  rw [outsAt0_B m c t h0]; dsimp only; rw [dg_B]
  rfl

theorem acc (t : Fin cfg0.N) (ht : t.val + 1 = 8) (y : S1x1024.Idx) : (outsAt0 m c t.val t.isLt).2 y =
    (0 : EReal) + ∑ p : Fin 8, Part m c p (y 1) := by
  rw [Pipeline.eq_sum_fin_of_reset_step_apply_last (fun t ht => (outsAt0 m c t ht).2) 8 (fun _ => (0 : EReal))
    (fun p y => Part m c p (y 1)) ?_ ?_ (by decide) t ht y]
  · rfl
  · exact first m c
  · exact next m c

theorem final_dx : (dats m 0 c).arrAt 5 cfg0.N = fun y : S8192x1024.Idx => DX (a0 m c) (a1 m c) (a2 m c) (a3 m c) (a4 m c) (y 0) (y 1) := by
  refine (dats m 0 c).arrAt_eq_of_covers 5 _ (by decide +kernel) fun t hf y => ?_
  blk_simp
  rw [after0_5, rows_at]
  have e0 : ((win0_5.blk t).view.emb y 0 : ℕ) = 1024 * t.val + (y 0).val := by
    blk_simp [idx5 t]
    omega
  have e1 : (win0_5.blk t).view.emb y 1 = y 1 := by
    apply Fin.ext
    blk_simp [idx5 t]
  rw [e1]
  exact dx_blk m c t _ _ e0 _

theorem final_dg : (dats m 0 c).arrAt 6 cfg0.N = fun y : S1x1024.Idx => ∑ s : Fin 8192, DG (a0 m c) (a1 m c) (a2 m c) s (y 1) := by
  refine (dats m 0 c).arrAt_eq_of_after_last 6 t0_7 (by decide +kernel) _ fun y => ?_
  blk_simp
  rw [after0_6, acc m c t0_7 rfl, zero_add]
  refine Fin.sum_mul_add_congr (fun t k hl => ?_)
  have hR : ((⟨t.val * 1024 + k.val, hl⟩ : Fin 8192) : ℕ) = 1024 * t.val + k.val := by dsimp only; omega
  exact dg_blk m c t k _ hR _

end Cert.EvDnIdeal.Hand

namespace Cert.EvDnRefIdeal.Hand

open Cert.EvDnRefIdeal Cert.EvDnRefIdeal.Gen Cert.EvDnRefIdeal.Read Idealize.ShloMosaic Idealize.ShloMosaic.TcCoe Idealize.SL.Sem Cert.Step
open Cert.EvDnIdeal.Hand (Z DX DG)

variable (x0 : (⟨S8192x2560, .bf16⟩ : BufTy).Contents (Elt Ideal)) (x1 : (⟨S2560x1024, .bf16⟩ : BufTy).Contents (Elt Ideal)) (x2 : (⟨S8192x1024, .f32⟩ : BufTy).Contents (Elt Ideal))
  (x3 : (⟨S1x1024, .f32⟩ : BufTy).Contents (Elt Ideal)) (x4 : (⟨S8192x1024, .f32⟩ : BufTy).Contents (Elt Ideal)) (r : Fin 8192) (j : Fin 1024)

theorem z_at : val_main_v19 x0 x1 (ix2 r j) = Z x0 x1 r j := by
  unfold val_main_v19 val_main_v2 val_main_v1 val_main_v0
  pointwise
theorem ms_at : val_main_v9 x2 (ix2 r 0) = msq (Row x2 r) := by
  unfold val_main_v9 val_main_v8 val_main_v7 val_main_v6 val_main_v5 val_main_v4 val_main_v3 val_main_cst_1 val_main_cst_0 val_main_cst
  pointwise
  first | done | rfl
theorem rin_at : val_main_v10 x2 (ix2 r 0) = rin (Row x2 r) := by
  unfold rin
  rw [← ms_at]
  unfold val_main_v10
  pointwise
theorem f_at : val_main_v13 x2 (ix2 r 0) = mhalf * Ideal.div (rin (Row x2 r)) (msq (Row x2 r)) := by
  rw [← rin_at, ← ms_at]
  unfold val_main_v13 val_main_v12 val_main_cst_2 val_main_v11
  pointwise
theorem s_at : val_main_v27 x0 x1 x2 x3 (ix2 r 0) = ∑ k, Row x2 r k * (Z x0 x1 r k * Row x3 0 k) := by
  simp only [← z_at]
  unfold val_main_v27 val_main_v26 val_main_cst_4 val_main_v25 val_main_v24 val_main_v23
  generalize val_main_v19 x0 x1 = f
  pointwise
theorem c_at : val_main_v34 x0 x1 x2 x3 (ix1 r) = Ideal.div ((∑ k, Row x2 r k * (Z x0 x1 r k * Row x3 0 k)) * (mhalf * Ideal.div (rin (Row x2 r)) (msq (Row x2 r)))) nF := by
  rw [← s_at, ← f_at]
  unfold val_main_v34 val_main_cst_6 val_main_v33 val_main_v32 val_main_cst_5 val_main_v31
  generalize val_main_v27 x0 x1 x2 x3 = f
  generalize val_main_v13 x2 = f2
  pointwise
  exact Fin.sum_univ_one _
theorem dx_at : val_main_v39 x0 x1 x2 x3 x4 (ix2 r j) = DX x0 x1 x2 x3 x4 r j := by
  unfold DX
  rw [← rms_ref, ← c_at, ← rin_at, ← z_at]
  unfold val_main_v39 val_main_v38 val_main_v37 val_main_v36 val_main_v35 val_main_v30 val_main_v29 val_main_v28 val_main_v24 val_main_v23
  generalize val_main_v34 x0 x1 x2 x3 = f1
  generalize val_main_v10 x2 = f2
  generalize val_main_v19 x0 x1 = f3
  pointwise
theorem dg_at : val_main_v22 x0 x1 x2 (ix2 0 j) = ∑ s : Fin 8192, DG x0 x1 x2 s j := by
  have e : ∀ s : Fin 8192, DG x0 x1 x2 s j = (x2 (ix2 s j) * val_main_v10 x2 (ix2 s 0)) * val_main_v19 x0 x1 (ix2 s j) := fun s => by
    unfold DG; rw [z_at, rin_at, mul_comm]
  simp only [e]
  unfold val_main_v22 val_main_v21 val_main_cst_3 val_main_v20 val_main_v15 val_main_v14
  generalize val_main_v10 x2 = f2
  generalize val_main_v19 x0 x1 = f3
  pointwise

end Cert.EvDnRefIdeal.Hand

namespace Cert.Proof.EvDn

open Idealize.ShloMosaic Idealize.SL.Sem

theorem algebraic : Cert.algebraic_EvDnIdeal_EvDnRefIdeal := by
  pair_intro
  · run_from Cert.EvDnIdeal.Value.run_blocks m g
  · refine (θ_run _ _ _).mono (fun r h c => ?_) (Cert.EvDnRefIdeal.Value.run m' g')
    obtain ⟨e0, e1, e2, e3, e4⟩ := hagree c
    refine ⟨(h c).1.trans ?_, (h c).2.1.trans ?_, (h c).2.2⟩
    · rw [Cert.EvDnRefIdeal.Read.val_main_v39_eq, e0, e1, e2, e3, e4, Cert.EvDnIdeal.Hand.final_dx m c]
      funext y
      obtain ⟨r, b, rfl⟩ : ∃ (r : Fin 8192) (b : Fin 1024), y = ix2 r b := ⟨y 0, y 1, eq_ix2 y⟩
      exact Cert.EvDnRefIdeal.Hand.dx_at _ _ _ _ _ r b
    · rw [Cert.EvDnRefIdeal.Read.val_main_v22_eq, e0, e1, e2, Cert.EvDnIdeal.Hand.final_dg m c]
      funext y
      obtain ⟨r, b, rfl⟩ : ∃ (r : Fin 1) (b : Fin 1024), y = ix2 r b := ⟨y 0, y 1, eq_ix2 y⟩
      obtain rfl : r = 0 := Subsingleton.elim _ _
      exact Cert.EvDnRefIdeal.Hand.dg_at _ _ _ b

theorem frame_p : Cert.quiescent_EvDn := fun m ρ _ => Cert.EvDn.Gen.frame m ρ
theorem frame_pi : Cert.quiescent_EvDnIdeal := fun m ρ _ => Cert.EvDnIdeal.Gen.frame m ρ
theorem frame_ri : Cert.quiescent_EvDnRefIdeal := fun m ρ _ =>
  (θ_run Cert.EvDnRefIdeal.defs _ _).mono (fun r h => ⟨fun c => (h c).2.2, sem_eq_zero_of_no_sems (by decide) r.2⟩)
    (Cert.EvDnRefIdeal.Value.run (F := Ideal) m ρ)

end Cert.Proof.EvDn
end
-- ==== Proof.Calls.XaDnq.lean ====
/- The gradient of the cross-attention's input under its norm and query projection, the residual's gradient added, and the gradient of the norm's scale. -/
module

public import proofs.«01_k».proof.Defs
public import proofs.«01_k».proof.Proof.Gen.XaDnq.Frame
public import proofs.«01_k».proof.Proof.Gen.XaDnqIdeal.Value
public import proofs.«01_k».proof.Proof.Gen.XaDnqRefIdeal.Run
public import proofs.«01_k».proof.Proof.Gen.XaDnqRefIdeal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Calls.Rms

@[expose] public section

set_option maxRecDepth 16384
noncomputable section

namespace Cert.XaDnqIdeal.Hand

open Cert.XaDnqIdeal Cert.XaDnqIdeal.Gen Idealize.ShloMosaic Idealize.ShloMosaic.TcCoe Idealize.SL.Sem
open Idealize.ShloMosaic.Pipeline (Dat)
open Cert.Step

/-- The incoming gradient of one row. -/
abbrev Z {n : ℕ} (x0 : (⟨2, ![n, 1024]⟩ : Shape).Idx → EReal) (x1 : S1024x1024.Idx → EReal) (r : Fin n) : Fin 1024 → EReal := fun b => (∑ k : Fin 1024, (x0 (ix2 r k) * x1 (ix2 b k) : EReal))
/-- The gradient of the input's entries. -/
abbrev DX {n : ℕ} (x0 : (⟨2, ![n, 1024]⟩ : Shape).Idx → EReal) (x1 : S1024x1024.Idx → EReal) (x2 : (⟨2, ![n, 1024]⟩ : Shape).Idx → EReal) (x3 : S1x1024.Idx → EReal) (x4 : (⟨2, ![n, 1024]⟩ : Shape).Idx → EReal) (r : Fin n) (j : Fin 1024) : EReal :=
  rmsK (Row x2 r) (Row x3 0) (Z x0 x1 r) (Row x4 r) j
/-- What one row adds to the scale's gradient. -/
abbrev DG {n : ℕ} (x0 : (⟨2, ![n, 1024]⟩ : Shape).Idx → EReal) (x1 : S1024x1024.Idx → EReal) (x2 : (⟨2, ![n, 1024]⟩ : Shape).Idx → EReal) (r : Fin n) (j : Fin 1024) : EReal :=
  Z x0 x1 r j * (x2 (ix2 r j) * rin (Row x2 r))

section points
variable (c : Dev nD) (i : grid0.Coords) (arg2 : Memref sig .tc .vmem S1024x1024 .bf16) (harg2 : arg2.IsWhole) (arg3 : Memref sig .tc .vmem S1024x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1x1024 .f32) (harg8 : arg8.IsWhole)
  (x0 : Vec Ideal S1024x1024 .bf16) (x1 : Vec Ideal S1024x1024 .bf16) (x2 : Vec Ideal S1024x1024 .f32) (x3 : Vec Ideal S1x1024 .f32) (x4 : Vec Ideal S1024x1024 .f32) (xo : Vec Ideal S1x1024 .f32)

theorem dx_A (hc0 : cond0_0 i) (y : S1024x1024.Idx) :
    out0_A_5 c i arg2 harg2 arg3 harg3 arg4 harg4 arg5 harg5 arg6 harg6 arg7 harg7 arg8 harg8 hc0 x0 x1 x2 x3 x4 y = DX x0 x1 x2 x3 x4 (y 0) (y 1) := by
  frame_out
  canon_tiles x h
  all_goals
    obtain ⟨r, b, rfl⟩ : ∃ (r : Fin 256) (b : Fin 1024), x = ix2 r b := ⟨x 0, x 1, eq_ix2 x⟩
    obtain ⟨R, B, rfl⟩ : ∃ (R : Fin 1024) (B : Fin 1024), y = ix2 R B := ⟨y 0, y 1, eq_ix2 y⟩
    obtain rfl : B = b := Fin.ext h1
    obtain ⟨R, hR⟩ := R
    first
      | change R = _ + r.val at h0
      | change R = r.val at h0
    subst h0
    unfold_payloads
    pointwise
    first | done | rfl

theorem dg_A (hc0 : cond0_0 i) (j : Fin 1024) :
    out0_A_6 c i arg2 harg2 arg3 harg3 arg4 harg4 arg5 harg5 arg6 harg6 arg7 harg7 arg8 harg8 hc0 x0 x1 x2 x3 x4 (ix2 0 j) = (0 : EReal) + ∑ r : Fin 1024, DG x0 x1 x2 r j := by
  rw [← sum_four]
  frame_open
  simp (disch := decide) only [↓ View.readCov_skip, ↓ View.readCov_cons_toLoadRect, ↓ View.readCov_fill]
  frame_out
  unfold_payloads
  pointwise
  first | done | rfl

theorem dx_B (hc0 : ¬cond0_0 i) (y : S1024x1024.Idx) :
    out0_B_5 c i arg2 harg2 arg3 harg3 arg4 harg4 arg5 harg5 arg6 harg6 arg7 harg7 arg8 harg8 hc0 x0 x1 x2 x3 x4 xo y = DX x0 x1 x2 x3 x4 (y 0) (y 1) := by
  frame_out
  canon_tiles x h
  all_goals
    obtain ⟨r, b, rfl⟩ : ∃ (r : Fin 256) (b : Fin 1024), x = ix2 r b := ⟨x 0, x 1, eq_ix2 x⟩
    obtain ⟨R, B, rfl⟩ : ∃ (R : Fin 1024) (B : Fin 1024), y = ix2 R B := ⟨y 0, y 1, eq_ix2 y⟩
    obtain rfl : B = b := Fin.ext h1
    obtain ⟨R, hR⟩ := R
    first
      | change R = _ + r.val at h0
      | change R = r.val at h0
    subst h0
    unfold_payloads
    pointwise
    first | done | rfl

theorem dg_B (hc0 : ¬cond0_0 i) (j : Fin 1024) :
    out0_B_6 c i arg2 harg2 arg3 harg3 arg4 harg4 arg5 harg5 arg6 harg6 arg7 harg7 arg8 harg8 hc0 x0 x1 x2 x3 x4 xo (ix2 0 j) = xo (ix2 0 j) + ∑ r : Fin 1024, DG x0 x1 x2 r j := by
  rw [← sum_four]
  frame_open
  simp (disch := decide) only [↓ View.readCov_skip, ↓ View.readCov_cons_toLoadRect, ↓ View.readCov_fill]
  frame_out
  unfold_payloads
  pointwise
  first | done | rfl

end points

variable (m : (ℓ : Loc nD τ sig) → Buf (Elt Ideal) ℓ) (c : Dev nD)

abbrev a0 : S8192x1024.Idx → EReal := m ((c.tc : Thread nD τ).loc main_arg0)
abbrev a1 : S1024x1024.Idx → EReal := m ((c.tc : Thread nD τ).loc main_arg1)
abbrev a2 : S8192x1024.Idx → EReal := m ((c.tc : Thread nD τ).loc main_arg2)
abbrev a3 : S1x1024.Idx → EReal := m ((c.tc : Thread nD τ).loc main_arg3)
abbrev a4 : S8192x1024.Idx → EReal := m ((c.tc : Thread nD τ).loc main_arg4)
theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel
theorem idx6 : ∀ t : Fin grid0.N, win0_6.index t = ![0, 0] := by decide +kernel
theorem blk0 (t : Fin cfg0.N) (r : Fin 1024) (b : Fin 1024) (R : Fin 8192) (hR : (R : ℕ) = 1024 * t.val + r.val) :
    iblk m c 0 t (ix2 r b) = a0 m c (ix2 R b) := by
  blk_ext [iblk, V, idx0 t]
  all_goals simp [hR]
theorem blk1 (t : Fin cfg0.N) : iblk m c 1 t = a1 m c := by
  funext y
  blk_ext [iblk, V, idx1 t]
theorem blk2 (t : Fin cfg0.N) (r : Fin 1024) (b : Fin 1024) (R : Fin 8192) (hR : (R : ℕ) = 1024 * t.val + r.val) :
    iblk m c 2 t (ix2 r b) = a2 m c (ix2 R b) := by
  blk_ext [iblk, V, idx2 t]
  all_goals simp [hR]
theorem blk3 (t : Fin cfg0.N) : iblk m c 3 t = a3 m c := by
  funext y
  blk_ext [iblk, V, idx3 t]
theorem blk4 (t : Fin cfg0.N) (r : Fin 1024) (b : Fin 1024) (R : Fin 8192) (hR : (R : ℕ) = 1024 * t.val + r.val) :
    iblk m c 4 t (ix2 r b) = a4 m c (ix2 R b) := by
  blk_ext [iblk, V, idx4 t]
  all_goals simp [hR]

section rows
variable (t : Fin cfg0.N) (r : Fin 1024) (R : Fin 8192) (hR : (R : ℕ) = 1024 * t.val + r.val)
include hR
theorem z_blk : Z (iblk m c 0 t) (iblk m c 1 t) r = Z (a0 m c) (a1 m c) R := by
  funext b
  rw [blk1]
  exact Finset.sum_congr rfl fun k _ => by rw [blk0 m c t r k R hR]
theorem h_blk : Row (n := 1024) (w := 1024) (iblk m c 2 t) r = Row (a2 m c) R := by
  funext k; exact blk2 m c t r k R hR
theorem d_blk : Row (n := 1024) (w := 1024) (iblk m c 4 t) r = Row (a4 m c) R := by
  funext k; exact blk4 m c t r k R hR
theorem dx_blk (j : Fin 1024) : DX (iblk m c 0 t) (iblk m c 1 t) (iblk m c 2 t) (iblk m c 3 t) (iblk m c 4 t) r j = DX (a0 m c) (a1 m c) (a2 m c) (a3 m c) (a4 m c) R j := by
  unfold DX; rw [z_blk m c t r R hR, h_blk m c t r R hR, d_blk m c t r R hR, blk3]
theorem dg_blk (j : Fin 1024) : DG (iblk m c 0 t) (iblk m c 1 t) (iblk m c 2 t) r j = DG (a0 m c) (a1 m c) (a2 m c) R j := by
  unfold DG; rw [z_blk m c t r R hR, h_blk m c t r R hR, blk2 m c t r j R hR]
end rows

/-- What one block of rows adds to the scale's gradient. -/
abbrev Part (t : Fin cfg0.N) (j : Fin 1024) : EReal := ∑ r : Fin 1024, DG (iblk m c 0 t) (iblk m c 1 t) (iblk m c 2 t) r j

theorem rows_at (t : Fin cfg0.N) (y : S1024x1024.Idx) : (outsAt0 m c t.val t.isLt).1 y = DX (iblk m c 0 t) (iblk m c 1 t) (iblk m c 2 t) (iblk m c 3 t) (iblk m c 4 t) (y 0) (y 1) := by
  by_cases h0 : t.val % 8 = 0
  · rw [outsAt0_A m c t h0]; dsimp only; rw [dx_A]
  · rw [outsAt0_B m c t h0]; dsimp only; rw [dx_B]

theorem first (t : Fin cfg0.N) (h0 : t.val % 8 = 0) (y : S1x1024.Idx) : (outsAt0 m c t.val t.isLt).2 y = (0 : EReal) + Part m c t (y 1) := by
  obtain ⟨j, rfl⟩ : ∃ (j : Fin 1024), y = ix2 0 j := ⟨y 1, (eq_ix2 y).trans (congrArg (fun a : Fin 1 => ix2 a (y 1)) (Subsingleton.elim (α := Fin 1) _ _))⟩
  rw [outsAt0_A m c t h0]; dsimp only; rw [dg_A]
  rfl

theorem next (t : Fin cfg0.N) (h0 : ¬t.val % 8 = 0) (y : S1x1024.Idx) : (outsAt0 m c t.val t.isLt).2 y =
    (outsAt0 m c (t.val - 1) (by have := t.isLt; omega)).2 y + Part m c t (y 1) := by
  obtain ⟨j, rfl⟩ : ∃ (j : Fin 1024), y = ix2 0 j := ⟨y 1, (eq_ix2 y).trans (congrArg (fun a : Fin 1 => ix2 a (y 1)) (Subsingleton.elim (α := Fin 1) _ _))⟩
  rw [outsAt0_B m c t h0]; dsimp only; rw [dg_B]
  rfl

theorem acc (t : Fin cfg0.N) (ht : t.val + 1 = 8) (y : S1x1024.Idx) : (outsAt0 m c t.val t.isLt).2 y =
    (0 : EReal) + ∑ p : Fin 8, Part m c p (y 1) := by
  rw [Pipeline.eq_sum_fin_of_reset_step_apply_last (fun t ht => (outsAt0 m c t ht).2) 8 (fun _ => (0 : EReal))
    (fun p y => Part m c p (y 1)) ?_ ?_ (by decide) t ht y]
  · rfl
  · exact first m c
  · exact next m c

theorem final_dx : (dats m 0 c).arrAt 5 cfg0.N = fun y : S8192x1024.Idx => DX (a0 m c) (a1 m c) (a2 m c) (a3 m c) (a4 m c) (y 0) (y 1) := by
  refine (dats m 0 c).arrAt_eq_of_covers 5 _ (by decide +kernel) fun t hf y => ?_
  blk_simp
  rw [after0_5, rows_at]
  have e0 : ((win0_5.blk t).view.emb y 0 : ℕ) = 1024 * t.val + (y 0).val := by
    blk_simp [idx5 t]
    omega
  have e1 : (win0_5.blk t).view.emb y 1 = y 1 := by
    apply Fin.ext
    blk_simp [idx5 t]
  rw [e1]
  exact dx_blk m c t _ _ e0 _

theorem final_dg : (dats m 0 c).arrAt 6 cfg0.N = fun y : S1x1024.Idx => ∑ s : Fin 8192, DG (a0 m c) (a1 m c) (a2 m c) s (y 1) := by
  refine (dats m 0 c).arrAt_eq_of_after_last 6 t0_7 (by decide +kernel) _ fun y => ?_
  blk_simp
  rw [after0_6, acc m c t0_7 rfl, zero_add]
  refine Fin.sum_mul_add_congr (fun t k hl => ?_)
  have hR : ((⟨t.val * 1024 + k.val, hl⟩ : Fin 8192) : ℕ) = 1024 * t.val + k.val := by dsimp only; omega
  exact dg_blk m c t k _ hR _

end Cert.XaDnqIdeal.Hand

namespace Cert.XaDnqRefIdeal.Hand

open Cert.XaDnqRefIdeal Cert.XaDnqRefIdeal.Gen Cert.XaDnqRefIdeal.Read Idealize.ShloMosaic Idealize.ShloMosaic.TcCoe Idealize.SL.Sem Cert.Step
open Cert.XaDnqIdeal.Hand (Z DX DG)

variable (x0 : (⟨S8192x1024, .bf16⟩ : BufTy).Contents (Elt Ideal)) (x1 : (⟨S1024x1024, .bf16⟩ : BufTy).Contents (Elt Ideal)) (x2 : (⟨S8192x1024, .f32⟩ : BufTy).Contents (Elt Ideal))
  (x3 : (⟨S1x1024, .f32⟩ : BufTy).Contents (Elt Ideal)) (x4 : (⟨S8192x1024, .f32⟩ : BufTy).Contents (Elt Ideal)) (r : Fin 8192) (j : Fin 1024)

theorem z_at : val_main_v18 x0 x1 (ix2 r j) = Z x0 x1 r j := by
  unfold val_main_v18 val_main_v1 val_main_v0
  pointwise
theorem ms_at : val_main_v8 x2 (ix2 r 0) = msq (Row x2 r) := by
  unfold val_main_v8 val_main_v7 val_main_v6 val_main_v5 val_main_v4 val_main_v3 val_main_v2 val_main_cst_1 val_main_cst_0 val_main_cst
  pointwise
  first | done | rfl
theorem rin_at : val_main_v9 x2 (ix2 r 0) = rin (Row x2 r) := by
  unfold rin
  rw [← ms_at]
  unfold val_main_v9
  pointwise
theorem f_at : val_main_v12 x2 (ix2 r 0) = mhalf * Ideal.div (rin (Row x2 r)) (msq (Row x2 r)) := by
  rw [← rin_at, ← ms_at]
  unfold val_main_v12 val_main_v11 val_main_cst_2 val_main_v10
  pointwise
theorem s_at : val_main_v26 x0 x1 x2 x3 (ix2 r 0) = ∑ k, Row x2 r k * (Z x0 x1 r k * Row x3 0 k) := by
  simp only [← z_at]
  unfold val_main_v26 val_main_v25 val_main_cst_4 val_main_v24 val_main_v23 val_main_v22
  generalize val_main_v18 x0 x1 = f
  pointwise
theorem c_at : val_main_v33 x0 x1 x2 x3 (ix1 r) = Ideal.div ((∑ k, Row x2 r k * (Z x0 x1 r k * Row x3 0 k)) * (mhalf * Ideal.div (rin (Row x2 r)) (msq (Row x2 r)))) nF := by
  rw [← s_at, ← f_at]
  unfold val_main_v33 val_main_cst_6 val_main_v32 val_main_v31 val_main_cst_5 val_main_v30
  generalize val_main_v26 x0 x1 x2 x3 = f
  generalize val_main_v12 x2 = f2
  pointwise
  exact Fin.sum_univ_one _
theorem dx_at : val_main_v38 x0 x1 x2 x3 x4 (ix2 r j) = DX x0 x1 x2 x3 x4 r j := by
  unfold DX
  rw [← rms_ref, ← c_at, ← rin_at, ← z_at]
  unfold val_main_v38 val_main_v37 val_main_v36 val_main_v35 val_main_v34 val_main_v29 val_main_v28 val_main_v27 val_main_v23 val_main_v22
  generalize val_main_v33 x0 x1 x2 x3 = f1
  generalize val_main_v9 x2 = f2
  generalize val_main_v18 x0 x1 = f3
  pointwise
theorem dg_at : val_main_v21 x0 x1 x2 (ix2 0 j) = ∑ s : Fin 8192, DG x0 x1 x2 s j := by
  have e : ∀ s : Fin 8192, DG x0 x1 x2 s j = (x2 (ix2 s j) * val_main_v9 x2 (ix2 s 0)) * val_main_v18 x0 x1 (ix2 s j) := fun s => by
    unfold DG; rw [z_at, rin_at, mul_comm]
  simp only [e]
  unfold val_main_v21 val_main_v20 val_main_cst_3 val_main_v19 val_main_v14 val_main_v13
  generalize val_main_v9 x2 = f2
  generalize val_main_v18 x0 x1 = f3
  pointwise

end Cert.XaDnqRefIdeal.Hand

namespace Cert.Proof.XaDnq

open Idealize.ShloMosaic Idealize.SL.Sem

theorem algebraic : Cert.algebraic_XaDnqIdeal_XaDnqRefIdeal := by
  pair_intro
  · run_from Cert.XaDnqIdeal.Value.run_blocks m g
  · refine (θ_run _ _ _).mono (fun r h c => ?_) (Cert.XaDnqRefIdeal.Value.run m' g')
    obtain ⟨e0, e1, e2, e3, e4⟩ := hagree c
    refine ⟨(h c).1.trans ?_, (h c).2.1.trans ?_, (h c).2.2⟩
    · rw [Cert.XaDnqRefIdeal.Read.val_main_v38_eq, e0, e1, e2, e3, e4, Cert.XaDnqIdeal.Hand.final_dx m c]
      funext y
      obtain ⟨r, b, rfl⟩ : ∃ (r : Fin 8192) (b : Fin 1024), y = ix2 r b := ⟨y 0, y 1, eq_ix2 y⟩
      exact Cert.XaDnqRefIdeal.Hand.dx_at _ _ _ _ _ r b
    · rw [Cert.XaDnqRefIdeal.Read.val_main_v21_eq, e0, e1, e2, Cert.XaDnqIdeal.Hand.final_dg m c]
      funext y
      obtain ⟨r, b, rfl⟩ : ∃ (r : Fin 1) (b : Fin 1024), y = ix2 r b := ⟨y 0, y 1, eq_ix2 y⟩
      obtain rfl : r = 0 := Subsingleton.elim _ _
      exact Cert.XaDnqRefIdeal.Hand.dg_at _ _ _ b

theorem frame_p : Cert.quiescent_XaDnq := fun m ρ _ => Cert.XaDnq.Gen.frame m ρ
theorem frame_pi : Cert.quiescent_XaDnqIdeal := fun m ρ _ => Cert.XaDnqIdeal.Gen.frame m ρ
theorem frame_ri : Cert.quiescent_XaDnqRefIdeal := fun m ρ _ =>
  (θ_run Cert.XaDnqRefIdeal.defs _ _).mono (fun r h => ⟨fun c => (h c).2.2, sem_eq_zero_of_no_sems (by decide) r.2⟩)
    (Cert.XaDnqRefIdeal.Value.run (F := Ideal) m ρ)

end Cert.Proof.XaDnq
end
-- ==== Proof.Calls.FfnDwd.lean ====
/- The gradient of the channel mixer's output weight: a product summed over the rows, block after block. -/
module

public import proofs.«01_k».proof.Defs
public import proofs.«01_k».proof.Proof.Gen.FfnDwd.Frame
public import proofs.«01_k».proof.Proof.Gen.FfnDwdIdeal.Value
public import proofs.«01_k».proof.Proof.Gen.FfnDwdRefIdeal.Run
public import proofs.«01_k».proof.Proof.Gen.FfnDwdRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
noncomputable section

namespace Cert.FfnDwdIdeal.Hand

open Cert.FfnDwdIdeal Cert.FfnDwdIdeal.Gen Idealize.ShloMosaic Idealize.ShloMosaic.TcCoe Idealize.SL.Sem
open Idealize.ShloMosaic.Pipeline (Dat)

/-- What one row adds to the product. -/
abbrev Term (a : Vec Ideal S1024x2816 .bf16) (b : Vec Ideal S1024x1024 .f32) (s : Fin 1024) (r : Fin 2816) (j : Fin 1024) : EReal :=
  a (ix2 s r) * b (ix2 s j)
/-- What one block of rows adds to the product. -/
abbrev Part (a : Vec Ideal S1024x2816 .bf16) (b : Vec Ideal S1024x1024 .f32) (r : Fin 2816) (j : Fin 1024) : EReal :=
  ∑ s : Fin 1024, Term a b s r j

theorem pay2_at (acc : Vec Ideal S2816x1024 .f32) (a : Vec Ideal S1024x2816 .bf16) (b : Vec Ideal S1024x1024 .f32) (r : Fin 2816) (j : Fin 1024) :
    k0_pay2 acc a b (ix2 r j) = acc (ix2 r j) + Part a b r j := by
  unfold_payloads
  pointwise

theorem pay1_at (r : Fin 2816) (j : Fin 1024) : k0_pay1 (F := Ideal) (ix2 r j) = (0 : EReal) := by
  unfold_payloads
  pointwise

theorem pay3_at (acc : Vec Ideal S2816x1024 .f32) (r : Fin 2816) (j : Fin 1024) : k0_pay3 acc (ix2 r j) = acc (ix2 r j) := by
  unfold_payloads
  pointwise

section points
variable (c : Dev nD) (i : grid0.Coords) (arg2 : Memref sig .tc .vmem S1024x2816 .bf16) (harg2 : arg2.IsWhole) (arg3 : Memref sig .tc .vmem S1024x1024 .f32) (harg3 : arg3.IsWhole)
  (arg4 : Memref sig .tc .vmem S2816x1024 .bf16) (harg4 : arg4.IsWhole) (arg5 : Memref sig .tc .vmem S2816x1024 .f32) (harg5 : arg5.IsWhole)
  (x0 : Vec Ideal S1024x2816 .bf16) (x1 : Vec Ideal S1024x1024 .f32) (xs0 : Vec Ideal S2816x1024 .f32) (r : Fin 2816) (j : Fin 1024)

theorem sout_A (hc0 : cond0_0 i) (hc1 : ¬cond0_1 i) : sout0_A_0 c i arg2 harg2 arg3 harg3 arg4 harg4 arg5 harg5 hc0 hc1 x0 x1 (ix2 r j) = (0 : EReal) + Part x0 x1 r j := by
  frame_open
  simp (disch := decide) only [↓ View.readCov_skip, ↓ View.readCov_cons_toLoadRect, ↓ View.readCov_fill]
  frame_out
  rw [pay2_at, pay1_at]

theorem sout_B (hc0 : ¬cond0_0 i) (hc1 : ¬cond0_1 i) : sout0_B_0 c i arg2 harg2 arg3 harg3 arg4 harg4 arg5 harg5 hc0 hc1 x0 x1 xs0 (ix2 r j) = xs0 (ix2 r j) + Part x0 x1 r j := by
  frame_out
  rw [pay2_at]

theorem out_C (hc0 : ¬cond0_0 i) (hc1 : cond0_1 i) : out0_C_2 c i arg2 harg2 arg3 harg3 arg4 harg4 arg5 harg5 hc0 hc1 x0 x1 xs0 (ix2 r j) = xs0 (ix2 r j) + Part x0 x1 r j := by
  frame_open
  simp (disch := decide) only [↓ View.readCov_skip, ↓ View.readCov_cons_toLoadRect, ↓ View.readCov_fill]
  frame_out
  rw [pay3_at, pay2_at]

theorem sout_C (hc0 : ¬cond0_0 i) (hc1 : cond0_1 i) : sout0_C_0 c i arg2 harg2 arg3 harg3 arg4 harg4 arg5 harg5 hc0 hc1 x0 x1 xs0 (ix2 r j) = xs0 (ix2 r j) + Part x0 x1 r j := by
  frame_out
  rw [pay2_at]
end points

variable (m : (ℓ : Loc nD τ sig) → Buf (Elt Ideal) ℓ) (c : Dev nD)

abbrev aX : S8192x2816.Idx → EReal := m ((c.tc : Thread nD τ).loc main_arg0)
abbrev aW : S8192x1024.Idx → EReal := m ((c.tc : Thread nD τ).loc main_arg1)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel

theorem blkX (t : Fin cfg0.N) (s : Fin 1024) (b : Fin 2816) (R : Fin 8192) (hR : (R : ℕ) = 1024 * t.val + s.val) :
    iblk m c 0 t (ix2 s b) = aX m c (ix2 R b) := by
  blk_ext [iblk, V, idx0 t]
  all_goals simp [hR]

theorem blkW (t : Fin cfg0.N) (s : Fin 1024) (b : Fin 1024) (R : Fin 8192) (hR : (R : ℕ) = 1024 * t.val + s.val) :
    iblk m c 1 t (ix2 s b) = aW m c (ix2 R b) := by
  blk_ext [iblk, V, idx1 t]
  all_goals simp [hR]

theorem term_at (t : Fin cfg0.N) (s : Fin 1024) (r : Fin 2816) (j : Fin 1024) (R : Fin 8192) (hR : (R : ℕ) = 1024 * t.val + s.val) :
    Term (iblk m c 0 t) (iblk m c 1 t) s r j = aX m c (ix2 R r) * aW m c (ix2 R j) := by
  unfold Term; rw [blkX m c t s r R hR, blkW m c t s j R hR]

theorem first (t : Fin cfg0.N) (h0 : t.val % 8 = 0) (y : S2816x1024.Idx) : (outsAt0 m c t.val t.isLt).2 y =
    (0 : EReal) + Part (iblk m c 0 t) (iblk m c 1 t) (y 0) (y 1) := by
  obtain ⟨r, j, rfl⟩ : ∃ (r : Fin 2816) (j : Fin 1024), y = ix2 r j := ⟨y 0, y 1, eq_ix2 y⟩
  rw [outsAt0_A m c t h0 (by omega)]; dsimp only; rw [sout_A]
  rfl

theorem next (t : Fin cfg0.N) (h0 : ¬t.val % 8 = 0) (y : S2816x1024.Idx) : (outsAt0 m c t.val t.isLt).2 y =
    (outsAt0 m c (t.val - 1) (by have := t.isLt; omega)).2 y + Part (iblk m c 0 t) (iblk m c 1 t) (y 0) (y 1) := by
  obtain ⟨r, j, rfl⟩ : ∃ (r : Fin 2816) (j : Fin 1024), y = ix2 r j := ⟨y 0, y 1, eq_ix2 y⟩
  by_cases h1 : t.val % 8 = 7
  · rw [outsAt0_C m c t h0 h1]; dsimp only; rw [sout_C]; rfl
  · rw [outsAt0_B m c t h0 h1]; dsimp only; rw [sout_B]; rfl

theorem same (t : Fin cfg0.N) (h0 : ¬t.val % 8 = 0) (h1 : t.val % 8 = 7) (y : S2816x1024.Idx) :
    (outsAt0 m c t.val t.isLt).1 y = (outsAt0 m c t.val t.isLt).2 y := by
  obtain ⟨r, j, rfl⟩ : ∃ (r : Fin 2816) (j : Fin 1024), y = ix2 r j := ⟨y 0, y 1, eq_ix2 y⟩
  rw [outsAt0_C m c t h0 h1]; dsimp only; rw [sout_C, out_C]

theorem acc (t : Fin cfg0.N) (ht : t.val + 1 = 8) (y : S2816x1024.Idx) : (outsAt0 m c t.val t.isLt).2 y =
    (0 : EReal) + ∑ p : Fin 8, Part (iblk m c 0 p) (iblk m c 1 p) (y 0) (y 1) := by
  rw [Pipeline.eq_sum_fin_of_reset_step_apply_last (fun t ht => (outsAt0 m c t ht).2) 8 (fun _ => (0 : EReal))
    (fun p y => Part (iblk m c 0 p) (iblk m c 1 p) (y 0) (y 1)) ?_ ?_ (by decide) t ht y]
  · rfl
  · exact first m c
  · exact next m c

theorem final : (dats m 0 c).arrAt 2 cfg0.N = fun y : S2816x1024.Idx => ∑ s : Fin 8192, (aX m c (ix2 s (y 0)) * aW m c (ix2 s (y 1)) : EReal) := by
  refine (dats m 0 c).arrAt_eq_of_after_last 2 t0_7 (by decide +kernel) _ fun y => ?_
  blk_simp
  rw [after0_2, same m c t0_7 (by decide) rfl, acc m c t0_7 rfl, zero_add]
  refine Fin.sum_mul_add_congr (fun t k hl => ?_)
  have hR : ((⟨t.val * 1024 + k.val, hl⟩ : Fin 8192) : ℕ) = 1024 * t.val + k.val := by dsimp only; omega
  exact term_at m c t k _ _ _ hR

end Cert.FfnDwdIdeal.Hand

namespace Cert.FfnDwdRefIdeal.Hand

open Cert.FfnDwdRefIdeal Cert.FfnDwdRefIdeal.Gen Cert.FfnDwdRefIdeal.Read Idealize.ShloMosaic Idealize.ShloMosaic.TcCoe Idealize.SL.Sem

theorem ref_at (x0 : (⟨S8192x2816, .bf16⟩ : BufTy).Contents (Elt Ideal)) (x1 : (⟨S8192x1024, .f32⟩ : BufTy).Contents (Elt Ideal)) (r : Fin 2816) (b : Fin 1024) :
    val_main_v5 x0 x1 (ix2 r b) = ∑ s : Fin 8192, (x0 (ix2 s r) * x1 (ix2 s b) : EReal) := by
  unfold val_main_v5 val_main_v4 val_main_v3 val_main_v0
  pointwise
  exact Finset.sum_congr rfl fun s _ => mul_comm _ _

end Cert.FfnDwdRefIdeal.Hand

namespace Cert.Proof.FfnDwd

open Idealize.ShloMosaic Idealize.SL.Sem

theorem algebraic : Cert.algebraic_FfnDwdIdeal_FfnDwdRefIdeal := by
  pair_intro
  · run_from Cert.FfnDwdIdeal.Value.run_blocks m g
  · refine (θ_run _ _ _).mono (fun r h c => ?_) (Cert.FfnDwdRefIdeal.Value.run m' g')
    obtain ⟨e0, e1⟩ := hagree c
    refine ⟨(h c).1.trans ?_, (h c).2⟩
    · rw [Cert.FfnDwdRefIdeal.Read.val_main_v5_eq, e0, e1, Cert.FfnDwdIdeal.Hand.final m c]
      funext y
      obtain ⟨r, b, rfl⟩ : ∃ (r : Fin 2816) (b : Fin 1024), y = ix2 r b := ⟨y 0, y 1, eq_ix2 y⟩
      exact Cert.FfnDwdRefIdeal.Hand.ref_at _ _ r b

theorem frame_p : Cert.quiescent_FfnDwd := fun m ρ _ => Cert.FfnDwd.Gen.frame m ρ
theorem frame_pi : Cert.quiescent_FfnDwdIdeal := fun m ρ _ => Cert.FfnDwdIdeal.Gen.frame m ρ
theorem frame_ri : Cert.quiescent_FfnDwdRefIdeal := fun m ρ _ =>
  (θ_run Cert.FfnDwdRefIdeal.defs _ _).mono (fun r h => ⟨fun c => (h c).2, sem_eq_zero_of_no_sems (by decide) r.2⟩)
    (Cert.FfnDwdRefIdeal.Value.run (F := Ideal) m ρ)

end Cert.Proof.FfnDwd
end
-- ==== Proof.Calls.FfnDwg.lean ====
/- The gradient of the channel mixer's gate weight: a product summed over the rows, block after block. -/
module

public import proofs.«01_k».proof.Defs
public import proofs.«01_k».proof.Proof.Gen.FfnDwg.Frame
public import proofs.«01_k».proof.Proof.Gen.FfnDwgIdeal.Value
public import proofs.«01_k».proof.Proof.Gen.FfnDwgRefIdeal.Run
public import proofs.«01_k».proof.Proof.Gen.FfnDwgRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
noncomputable section

namespace Cert.FfnDwgIdeal.Hand

open Cert.FfnDwgIdeal Cert.FfnDwgIdeal.Gen Idealize.ShloMosaic Idealize.ShloMosaic.TcCoe Idealize.SL.Sem
open Idealize.ShloMosaic.Pipeline (Dat)

/-- What one row adds to the product. -/
abbrev Term (a : Vec Ideal S1024x2816 .bf16) (b : Vec Ideal S1024x1024 .bf16) (s : Fin 1024) (r : Fin 2816) (j : Fin 1024) : EReal :=
  a (ix2 s r) * b (ix2 s j)
/-- What one block of rows adds to the product. -/
abbrev Part (a : Vec Ideal S1024x2816 .bf16) (b : Vec Ideal S1024x1024 .bf16) (r : Fin 2816) (j : Fin 1024) : EReal :=
  ∑ s : Fin 1024, Term a b s r j

theorem pay2_at (acc : Vec Ideal S2816x1024 .f32) (a : Vec Ideal S1024x2816 .bf16) (b : Vec Ideal S1024x1024 .bf16) (r : Fin 2816) (j : Fin 1024) :
    k0_pay2 acc a b (ix2 r j) = acc (ix2 r j) + Part a b r j := by
  unfold_payloads
  pointwise

theorem pay1_at (r : Fin 2816) (j : Fin 1024) : k0_pay1 (F := Ideal) (ix2 r j) = (0 : EReal) := by
  unfold_payloads
  pointwise

theorem pay3_at (acc : Vec Ideal S2816x1024 .f32) (r : Fin 2816) (j : Fin 1024) : k0_pay3 acc (ix2 r j) = acc (ix2 r j) := by
  unfold_payloads
  pointwise

section points
variable (c : Dev nD) (i : grid0.Coords) (arg2 : Memref sig .tc .vmem S1024x2816 .bf16) (harg2 : arg2.IsWhole) (arg3 : Memref sig .tc .vmem S1024x1024 .bf16) (harg3 : arg3.IsWhole)
  (arg4 : Memref sig .tc .vmem S2816x1024 .bf16) (harg4 : arg4.IsWhole) (arg5 : Memref sig .tc .vmem S2816x1024 .f32) (harg5 : arg5.IsWhole)
  (x0 : Vec Ideal S1024x2816 .bf16) (x1 : Vec Ideal S1024x1024 .bf16) (xs0 : Vec Ideal S2816x1024 .f32) (r : Fin 2816) (j : Fin 1024)

theorem sout_A (hc0 : cond0_0 i) (hc1 : ¬cond0_1 i) : sout0_A_0 c i arg2 harg2 arg3 harg3 arg4 harg4 arg5 harg5 hc0 hc1 x0 x1 (ix2 r j) = (0 : EReal) + Part x0 x1 r j := by
  frame_open
  simp (disch := decide) only [↓ View.readCov_skip, ↓ View.readCov_cons_toLoadRect, ↓ View.readCov_fill]
  frame_out
  rw [pay2_at, pay1_at]

theorem sout_B (hc0 : ¬cond0_0 i) (hc1 : ¬cond0_1 i) : sout0_B_0 c i arg2 harg2 arg3 harg3 arg4 harg4 arg5 harg5 hc0 hc1 x0 x1 xs0 (ix2 r j) = xs0 (ix2 r j) + Part x0 x1 r j := by
  frame_out
  rw [pay2_at]

theorem out_C (hc0 : ¬cond0_0 i) (hc1 : cond0_1 i) : out0_C_2 c i arg2 harg2 arg3 harg3 arg4 harg4 arg5 harg5 hc0 hc1 x0 x1 xs0 (ix2 r j) = xs0 (ix2 r j) + Part x0 x1 r j := by
  frame_open
  simp (disch := decide) only [↓ View.readCov_skip, ↓ View.readCov_cons_toLoadRect, ↓ View.readCov_fill]
  frame_out
  rw [pay3_at, pay2_at]

theorem sout_C (hc0 : ¬cond0_0 i) (hc1 : cond0_1 i) : sout0_C_0 c i arg2 harg2 arg3 harg3 arg4 harg4 arg5 harg5 hc0 hc1 x0 x1 xs0 (ix2 r j) = xs0 (ix2 r j) + Part x0 x1 r j := by
  frame_out
  rw [pay2_at]
end points

variable (m : (ℓ : Loc nD τ sig) → Buf (Elt Ideal) ℓ) (c : Dev nD)

abbrev aX : S8192x2816.Idx → EReal := m ((c.tc : Thread nD τ).loc main_arg0)
abbrev aW : S8192x1024.Idx → EReal := m ((c.tc : Thread nD τ).loc main_arg1)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel

theorem blkX (t : Fin cfg0.N) (s : Fin 1024) (b : Fin 2816) (R : Fin 8192) (hR : (R : ℕ) = 1024 * t.val + s.val) :
    iblk m c 0 t (ix2 s b) = aX m c (ix2 R b) := by
  blk_ext [iblk, V, idx0 t]
  all_goals simp [hR]

theorem blkW (t : Fin cfg0.N) (s : Fin 1024) (b : Fin 1024) (R : Fin 8192) (hR : (R : ℕ) = 1024 * t.val + s.val) :
    iblk m c 1 t (ix2 s b) = aW m c (ix2 R b) := by
  blk_ext [iblk, V, idx1 t]
  all_goals simp [hR]

theorem term_at (t : Fin cfg0.N) (s : Fin 1024) (r : Fin 2816) (j : Fin 1024) (R : Fin 8192) (hR : (R : ℕ) = 1024 * t.val + s.val) :
    Term (iblk m c 0 t) (iblk m c 1 t) s r j = aX m c (ix2 R r) * aW m c (ix2 R j) := by
  unfold Term; rw [blkX m c t s r R hR, blkW m c t s j R hR]

theorem first (t : Fin cfg0.N) (h0 : t.val % 8 = 0) (y : S2816x1024.Idx) : (outsAt0 m c t.val t.isLt).2 y =
    (0 : EReal) + Part (iblk m c 0 t) (iblk m c 1 t) (y 0) (y 1) := by
  obtain ⟨r, j, rfl⟩ : ∃ (r : Fin 2816) (j : Fin 1024), y = ix2 r j := ⟨y 0, y 1, eq_ix2 y⟩
  rw [outsAt0_A m c t h0 (by omega)]; dsimp only; rw [sout_A]
  rfl

theorem next (t : Fin cfg0.N) (h0 : ¬t.val % 8 = 0) (y : S2816x1024.Idx) : (outsAt0 m c t.val t.isLt).2 y =
    (outsAt0 m c (t.val - 1) (by have := t.isLt; omega)).2 y + Part (iblk m c 0 t) (iblk m c 1 t) (y 0) (y 1) := by
  obtain ⟨r, j, rfl⟩ : ∃ (r : Fin 2816) (j : Fin 1024), y = ix2 r j := ⟨y 0, y 1, eq_ix2 y⟩
  by_cases h1 : t.val % 8 = 7
  · rw [outsAt0_C m c t h0 h1]; dsimp only; rw [sout_C]; rfl
  · rw [outsAt0_B m c t h0 h1]; dsimp only; rw [sout_B]; rfl

theorem same (t : Fin cfg0.N) (h0 : ¬t.val % 8 = 0) (h1 : t.val % 8 = 7) (y : S2816x1024.Idx) :
    (outsAt0 m c t.val t.isLt).1 y = (outsAt0 m c t.val t.isLt).2 y := by
  obtain ⟨r, j, rfl⟩ : ∃ (r : Fin 2816) (j : Fin 1024), y = ix2 r j := ⟨y 0, y 1, eq_ix2 y⟩
  rw [outsAt0_C m c t h0 h1]; dsimp only; rw [sout_C, out_C]

theorem acc (t : Fin cfg0.N) (ht : t.val + 1 = 8) (y : S2816x1024.Idx) : (outsAt0 m c t.val t.isLt).2 y =
    (0 : EReal) + ∑ p : Fin 8, Part (iblk m c 0 p) (iblk m c 1 p) (y 0) (y 1) := by
  rw [Pipeline.eq_sum_fin_of_reset_step_apply_last (fun t ht => (outsAt0 m c t ht).2) 8 (fun _ => (0 : EReal))
    (fun p y => Part (iblk m c 0 p) (iblk m c 1 p) (y 0) (y 1)) ?_ ?_ (by decide) t ht y]
  · rfl
  · exact first m c
  · exact next m c

theorem final : (dats m 0 c).arrAt 2 cfg0.N = fun y : S2816x1024.Idx => ∑ s : Fin 8192, (aX m c (ix2 s (y 0)) * aW m c (ix2 s (y 1)) : EReal) := by
  refine (dats m 0 c).arrAt_eq_of_after_last 2 t0_7 (by decide +kernel) _ fun y => ?_
  blk_simp
  rw [after0_2, same m c t0_7 (by decide) rfl, acc m c t0_7 rfl, zero_add]
  refine Fin.sum_mul_add_congr (fun t k hl => ?_)
  have hR : ((⟨t.val * 1024 + k.val, hl⟩ : Fin 8192) : ℕ) = 1024 * t.val + k.val := by dsimp only; omega
  exact term_at m c t k _ _ _ hR

end Cert.FfnDwgIdeal.Hand

namespace Cert.FfnDwgRefIdeal.Hand

open Cert.FfnDwgRefIdeal Cert.FfnDwgRefIdeal.Gen Cert.FfnDwgRefIdeal.Read Idealize.ShloMosaic Idealize.ShloMosaic.TcCoe Idealize.SL.Sem

theorem ref_at (x0 : (⟨S8192x2816, .bf16⟩ : BufTy).Contents (Elt Ideal)) (x1 : (⟨S8192x1024, .bf16⟩ : BufTy).Contents (Elt Ideal)) (r : Fin 2816) (b : Fin 1024) :
    val_main_v8 x0 x1 (ix2 r b) = ∑ s : Fin 8192, (x0 (ix2 s r) * x1 (ix2 s b) : EReal) := by
  unfold val_main_v8 val_main_v7 val_main_v6 val_main_v5 val_main_v1 val_main_v0
  pointwise

end Cert.FfnDwgRefIdeal.Hand

namespace Cert.Proof.FfnDwg

open Idealize.ShloMosaic Idealize.SL.Sem

theorem algebraic : Cert.algebraic_FfnDwgIdeal_FfnDwgRefIdeal := by
  pair_intro
  · run_from Cert.FfnDwgIdeal.Value.run_blocks m g
  · refine (θ_run _ _ _).mono (fun r h c => ?_) (Cert.FfnDwgRefIdeal.Value.run m' g')
    obtain ⟨e0, e1⟩ := hagree c
    refine ⟨(h c).1.trans ?_, (h c).2⟩
    · rw [Cert.FfnDwgRefIdeal.Read.val_main_v8_eq, e0, e1, Cert.FfnDwgIdeal.Hand.final m c]
      funext y
      obtain ⟨r, b, rfl⟩ : ∃ (r : Fin 2816) (b : Fin 1024), y = ix2 r b := ⟨y 0, y 1, eq_ix2 y⟩
      exact Cert.FfnDwgRefIdeal.Hand.ref_at _ _ r b

theorem frame_p : Cert.quiescent_FfnDwg := fun m ρ _ => Cert.FfnDwg.Gen.frame m ρ
theorem frame_pi : Cert.quiescent_FfnDwgIdeal := fun m ρ _ => Cert.FfnDwgIdeal.Gen.frame m ρ
theorem frame_ri : Cert.quiescent_FfnDwgRefIdeal := fun m ρ _ =>
  (θ_run Cert.FfnDwgRefIdeal.defs _ _).mono (fun r h => ⟨fun c => (h c).2, sem_eq_zero_of_no_sems (by decide) r.2⟩)
    (Cert.FfnDwgRefIdeal.Value.run (F := Ideal) m ρ)

end Cert.Proof.FfnDwg
end
-- ==== Proof.Calls.XaDwo.lean ====
/- The gradient of the attention's output weight: a product summed over the rows, block after block. -/
module

public import proofs.«01_k».proof.Defs
public import proofs.«01_k».proof.Proof.Gen.XaDwo.Frame
public import proofs.«01_k».proof.Proof.Gen.XaDwoIdeal.Value
public import proofs.«01_k».proof.Proof.Gen.XaDwoRefIdeal.Run
public import proofs.«01_k».proof.Proof.Gen.XaDwoRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
noncomputable section

namespace Cert.XaDwoIdeal.Hand

open Cert.XaDwoIdeal Cert.XaDwoIdeal.Gen Idealize.ShloMosaic Idealize.ShloMosaic.TcCoe Idealize.SL.Sem
open Idealize.ShloMosaic.Pipeline (Dat)

/-- What one row adds to the product. -/
abbrev Term (a : Vec Ideal S2048x1024 .bf16) (b : Vec Ideal S2048x1024 .f32) (s : Fin 2048) (r : Fin 1024) (j : Fin 1024) : EReal :=
  a (ix2 s r) * b (ix2 s j)
/-- What one block of rows adds to the product. -/
abbrev Part (a : Vec Ideal S2048x1024 .bf16) (b : Vec Ideal S2048x1024 .f32) (r : Fin 1024) (j : Fin 1024) : EReal :=
  ∑ s : Fin 2048, Term a b s r j

theorem pay2_at (acc : Vec Ideal S1024x1024 .f32) (a : Vec Ideal S2048x1024 .bf16) (b : Vec Ideal S2048x1024 .f32) (r : Fin 1024) (j : Fin 1024) :
    k0_pay2 acc a b (ix2 r j) = acc (ix2 r j) + Part a b r j := by
  unfold_payloads
  pointwise

theorem pay1_at (r : Fin 1024) (j : Fin 1024) : k0_pay1 (F := Ideal) (ix2 r j) = (0 : EReal) := by
  unfold_payloads
  pointwise

theorem pay3_at (acc : Vec Ideal S1024x1024 .f32) (r : Fin 1024) (j : Fin 1024) : k0_pay3 acc (ix2 r j) = acc (ix2 r j) := by
  unfold_payloads
  pointwise

section points
variable (c : Dev nD) (i : grid0.Coords) (arg2 : Memref sig .tc .vmem S2048x1024 .bf16) (harg2 : arg2.IsWhole) (arg3 : Memref sig .tc .vmem S2048x1024 .f32) (harg3 : arg3.IsWhole)
  (arg4 : Memref sig .tc .vmem S1024x1024 .bf16) (harg4 : arg4.IsWhole) (arg5 : Memref sig .tc .vmem S1024x1024 .f32) (harg5 : arg5.IsWhole)
  (x0 : Vec Ideal S2048x1024 .bf16) (x1 : Vec Ideal S2048x1024 .f32) (xs0 : Vec Ideal S1024x1024 .f32) (r : Fin 1024) (j : Fin 1024)

theorem sout_A (hc0 : cond0_0 i) (hc1 : ¬cond0_1 i) : sout0_A_0 c i arg2 harg2 arg3 harg3 arg4 harg4 arg5 harg5 hc0 hc1 x0 x1 (ix2 r j) = (0 : EReal) + Part x0 x1 r j := by
  frame_open
  simp (disch := decide) only [↓ View.readCov_skip, ↓ View.readCov_cons_toLoadRect, ↓ View.readCov_fill]
  frame_out
  rw [pay2_at, pay1_at]

theorem sout_B (hc0 : ¬cond0_0 i) (hc1 : ¬cond0_1 i) : sout0_B_0 c i arg2 harg2 arg3 harg3 arg4 harg4 arg5 harg5 hc0 hc1 x0 x1 xs0 (ix2 r j) = xs0 (ix2 r j) + Part x0 x1 r j := by
  frame_out
  rw [pay2_at]

theorem out_C (hc0 : ¬cond0_0 i) (hc1 : cond0_1 i) : out0_C_2 c i arg2 harg2 arg3 harg3 arg4 harg4 arg5 harg5 hc0 hc1 x0 x1 xs0 (ix2 r j) = xs0 (ix2 r j) + Part x0 x1 r j := by
  frame_open
  simp (disch := decide) only [↓ View.readCov_skip, ↓ View.readCov_cons_toLoadRect, ↓ View.readCov_fill]
  frame_out
  rw [pay3_at, pay2_at]

theorem sout_C (hc0 : ¬cond0_0 i) (hc1 : cond0_1 i) : sout0_C_0 c i arg2 harg2 arg3 harg3 arg4 harg4 arg5 harg5 hc0 hc1 x0 x1 xs0 (ix2 r j) = xs0 (ix2 r j) + Part x0 x1 r j := by
  frame_out
  rw [pay2_at]
end points

variable (m : (ℓ : Loc nD τ sig) → Buf (Elt Ideal) ℓ) (c : Dev nD)

abbrev aX : S8192x1024.Idx → EReal := m ((c.tc : Thread nD τ).loc main_arg0)
abbrev aW : S8192x1024.Idx → EReal := m ((c.tc : Thread nD τ).loc main_arg1)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel

theorem blkX (t : Fin cfg0.N) (s : Fin 2048) (b : Fin 1024) (R : Fin 8192) (hR : (R : ℕ) = 2048 * t.val + s.val) :
    iblk m c 0 t (ix2 s b) = aX m c (ix2 R b) := by
  blk_ext [iblk, V, idx0 t]
  all_goals simp [hR]

theorem blkW (t : Fin cfg0.N) (s : Fin 2048) (b : Fin 1024) (R : Fin 8192) (hR : (R : ℕ) = 2048 * t.val + s.val) :
    iblk m c 1 t (ix2 s b) = aW m c (ix2 R b) := by
  blk_ext [iblk, V, idx1 t]
  all_goals simp [hR]

theorem term_at (t : Fin cfg0.N) (s : Fin 2048) (r : Fin 1024) (j : Fin 1024) (R : Fin 8192) (hR : (R : ℕ) = 2048 * t.val + s.val) :
    Term (iblk m c 0 t) (iblk m c 1 t) s r j = aX m c (ix2 R r) * aW m c (ix2 R j) := by
  unfold Term; rw [blkX m c t s r R hR, blkW m c t s j R hR]

theorem first (t : Fin cfg0.N) (h0 : t.val % 4 = 0) (y : S1024x1024.Idx) : (outsAt0 m c t.val t.isLt).2 y =
    (0 : EReal) + Part (iblk m c 0 t) (iblk m c 1 t) (y 0) (y 1) := by
  obtain ⟨r, j, rfl⟩ : ∃ (r : Fin 1024) (j : Fin 1024), y = ix2 r j := ⟨y 0, y 1, eq_ix2 y⟩
  rw [outsAt0_A m c t h0 (by omega)]; dsimp only; rw [sout_A]
  rfl

theorem next (t : Fin cfg0.N) (h0 : ¬t.val % 4 = 0) (y : S1024x1024.Idx) : (outsAt0 m c t.val t.isLt).2 y =
    (outsAt0 m c (t.val - 1) (by have := t.isLt; omega)).2 y + Part (iblk m c 0 t) (iblk m c 1 t) (y 0) (y 1) := by
  obtain ⟨r, j, rfl⟩ : ∃ (r : Fin 1024) (j : Fin 1024), y = ix2 r j := ⟨y 0, y 1, eq_ix2 y⟩
  by_cases h1 : t.val % 4 = 3
  · rw [outsAt0_C m c t h0 h1]; dsimp only; rw [sout_C]; rfl
  · rw [outsAt0_B m c t h0 h1]; dsimp only; rw [sout_B]; rfl

theorem same (t : Fin cfg0.N) (h0 : ¬t.val % 4 = 0) (h1 : t.val % 4 = 3) (y : S1024x1024.Idx) :
    (outsAt0 m c t.val t.isLt).1 y = (outsAt0 m c t.val t.isLt).2 y := by
  obtain ⟨r, j, rfl⟩ : ∃ (r : Fin 1024) (j : Fin 1024), y = ix2 r j := ⟨y 0, y 1, eq_ix2 y⟩
  rw [outsAt0_C m c t h0 h1]; dsimp only; rw [sout_C, out_C]

theorem acc (t : Fin cfg0.N) (ht : t.val + 1 = 4) (y : S1024x1024.Idx) : (outsAt0 m c t.val t.isLt).2 y =
    (0 : EReal) + ∑ p : Fin 4, Part (iblk m c 0 p) (iblk m c 1 p) (y 0) (y 1) := by
  rw [Pipeline.eq_sum_fin_of_reset_step_apply_last (fun t ht => (outsAt0 m c t ht).2) 4 (fun _ => (0 : EReal))
    (fun p y => Part (iblk m c 0 p) (iblk m c 1 p) (y 0) (y 1)) ?_ ?_ (by decide) t ht y]
  · rfl
  · exact first m c
  · exact next m c

theorem final : (dats m 0 c).arrAt 2 cfg0.N = fun y : S1024x1024.Idx => ∑ s : Fin 8192, (aX m c (ix2 s (y 0)) * aW m c (ix2 s (y 1)) : EReal) := by
  refine (dats m 0 c).arrAt_eq_of_after_last 2 t0_3 (by decide +kernel) _ fun y => ?_
  blk_simp
  rw [after0_2, same m c t0_3 (by decide) rfl, acc m c t0_3 rfl, zero_add]
  refine Fin.sum_mul_add_congr (fun t k hl => ?_)
  have hR : ((⟨t.val * 2048 + k.val, hl⟩ : Fin 8192) : ℕ) = 2048 * t.val + k.val := by dsimp only; omega
  exact term_at m c t k _ _ _ hR

end Cert.XaDwoIdeal.Hand

namespace Cert.XaDwoRefIdeal.Hand

open Cert.XaDwoRefIdeal Cert.XaDwoRefIdeal.Gen Cert.XaDwoRefIdeal.Read Idealize.ShloMosaic Idealize.ShloMosaic.TcCoe Idealize.SL.Sem

theorem ref_at (x0 : (⟨S8192x1024, .bf16⟩ : BufTy).Contents (Elt Ideal)) (x1 : (⟨S8192x1024, .f32⟩ : BufTy).Contents (Elt Ideal)) (r : Fin 1024) (b : Fin 1024) :
    val_main_v5 x0 x1 (ix2 r b) = ∑ s : Fin 8192, (x0 (ix2 s r) * x1 (ix2 s b) : EReal) := by
  unfold val_main_v5 val_main_v4 val_main_v3 val_main_v0
  pointwise
  exact Finset.sum_congr rfl fun s _ => mul_comm _ _

end Cert.XaDwoRefIdeal.Hand

namespace Cert.Proof.XaDwo

open Idealize.ShloMosaic Idealize.SL.Sem

theorem algebraic : Cert.algebraic_XaDwoIdeal_XaDwoRefIdeal := by
  pair_intro
  · run_from Cert.XaDwoIdeal.Value.run_blocks m g
  · refine (θ_run _ _ _).mono (fun r h c => ?_) (Cert.XaDwoRefIdeal.Value.run m' g')
    obtain ⟨e0, e1⟩ := hagree c
    refine ⟨(h c).1.trans ?_, (h c).2⟩
    · rw [Cert.XaDwoRefIdeal.Read.val_main_v5_eq, e0, e1, Cert.XaDwoIdeal.Hand.final m c]
      funext y
      obtain ⟨r, b, rfl⟩ : ∃ (r : Fin 1024) (b : Fin 1024), y = ix2 r b := ⟨y 0, y 1, eq_ix2 y⟩
      exact Cert.XaDwoRefIdeal.Hand.ref_at _ _ r b

theorem frame_p : Cert.quiescent_XaDwo := fun m ρ _ => Cert.XaDwo.Gen.frame m ρ
theorem frame_pi : Cert.quiescent_XaDwoIdeal := fun m ρ _ => Cert.XaDwoIdeal.Gen.frame m ρ
theorem frame_ri : Cert.quiescent_XaDwoRefIdeal := fun m ρ _ =>
  (θ_run Cert.XaDwoRefIdeal.defs _ _).mono (fun r h => ⟨fun c => (h c).2, sem_eq_zero_of_no_sems (by decide) r.2⟩)
    (Cert.XaDwoRefIdeal.Value.run (F := Ideal) m ρ)

end Cert.Proof.XaDwo
end
-- ==== Proof.Calls.XaDwq.lean ====
/- The gradient of the query weight: a product summed over the rows, block after block. -/
module

public import proofs.«01_k».proof.Defs
public import proofs.«01_k».proof.Proof.Gen.XaDwq.Frame
public import proofs.«01_k».proof.Proof.Gen.XaDwqIdeal.Value
public import proofs.«01_k».proof.Proof.Gen.XaDwqRefIdeal.Run
public import proofs.«01_k».proof.Proof.Gen.XaDwqRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
noncomputable section

namespace Cert.XaDwqIdeal.Hand

open Cert.XaDwqIdeal Cert.XaDwqIdeal.Gen Idealize.ShloMosaic Idealize.ShloMosaic.TcCoe Idealize.SL.Sem
open Idealize.ShloMosaic.Pipeline (Dat)

/-- What one row adds to the product. -/
abbrev Term (a : Vec Ideal S2048x1024 .bf16) (b : Vec Ideal S2048x1024 .bf16) (s : Fin 2048) (r : Fin 1024) (j : Fin 1024) : EReal :=
  a (ix2 s r) * b (ix2 s j)
/-- What one block of rows adds to the product. -/
abbrev Part (a : Vec Ideal S2048x1024 .bf16) (b : Vec Ideal S2048x1024 .bf16) (r : Fin 1024) (j : Fin 1024) : EReal :=
  ∑ s : Fin 2048, Term a b s r j

theorem pay2_at (acc : Vec Ideal S1024x1024 .f32) (a : Vec Ideal S2048x1024 .bf16) (b : Vec Ideal S2048x1024 .bf16) (r : Fin 1024) (j : Fin 1024) :
    k0_pay2 acc a b (ix2 r j) = acc (ix2 r j) + Part a b r j := by
  unfold_payloads
  pointwise

theorem pay1_at (r : Fin 1024) (j : Fin 1024) : k0_pay1 (F := Ideal) (ix2 r j) = (0 : EReal) := by
  unfold_payloads
  pointwise

theorem pay3_at (acc : Vec Ideal S1024x1024 .f32) (r : Fin 1024) (j : Fin 1024) : k0_pay3 acc (ix2 r j) = acc (ix2 r j) := by
  unfold_payloads
  pointwise

section points
variable (c : Dev nD) (i : grid0.Coords) (arg2 : Memref sig .tc .vmem S2048x1024 .bf16) (harg2 : arg2.IsWhole) (arg3 : Memref sig .tc .vmem S2048x1024 .bf16) (harg3 : arg3.IsWhole)
  (arg4 : Memref sig .tc .vmem S1024x1024 .bf16) (harg4 : arg4.IsWhole) (arg5 : Memref sig .tc .vmem S1024x1024 .f32) (harg5 : arg5.IsWhole)
  (x0 : Vec Ideal S2048x1024 .bf16) (x1 : Vec Ideal S2048x1024 .bf16) (xs0 : Vec Ideal S1024x1024 .f32) (r : Fin 1024) (j : Fin 1024)

theorem sout_A (hc0 : cond0_0 i) (hc1 : ¬cond0_1 i) : sout0_A_0 c i arg2 harg2 arg3 harg3 arg4 harg4 arg5 harg5 hc0 hc1 x0 x1 (ix2 r j) = (0 : EReal) + Part x0 x1 r j := by
  frame_open
  simp (disch := decide) only [↓ View.readCov_skip, ↓ View.readCov_cons_toLoadRect, ↓ View.readCov_fill]
  frame_out
  rw [pay2_at, pay1_at]

theorem sout_B (hc0 : ¬cond0_0 i) (hc1 : ¬cond0_1 i) : sout0_B_0 c i arg2 harg2 arg3 harg3 arg4 harg4 arg5 harg5 hc0 hc1 x0 x1 xs0 (ix2 r j) = xs0 (ix2 r j) + Part x0 x1 r j := by
  frame_out
  rw [pay2_at]

theorem out_C (hc0 : ¬cond0_0 i) (hc1 : cond0_1 i) : out0_C_2 c i arg2 harg2 arg3 harg3 arg4 harg4 arg5 harg5 hc0 hc1 x0 x1 xs0 (ix2 r j) = xs0 (ix2 r j) + Part x0 x1 r j := by
  frame_open
  simp (disch := decide) only [↓ View.readCov_skip, ↓ View.readCov_cons_toLoadRect, ↓ View.readCov_fill]
  frame_out
  rw [pay3_at, pay2_at]

theorem sout_C (hc0 : ¬cond0_0 i) (hc1 : cond0_1 i) : sout0_C_0 c i arg2 harg2 arg3 harg3 arg4 harg4 arg5 harg5 hc0 hc1 x0 x1 xs0 (ix2 r j) = xs0 (ix2 r j) + Part x0 x1 r j := by
  frame_out
  rw [pay2_at]
end points

variable (m : (ℓ : Loc nD τ sig) → Buf (Elt Ideal) ℓ) (c : Dev nD)

abbrev aX : S8192x1024.Idx → EReal := m ((c.tc : Thread nD τ).loc main_arg0)
abbrev aW : S8192x1024.Idx → EReal := m ((c.tc : Thread nD τ).loc main_arg1)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel

theorem blkX (t : Fin cfg0.N) (s : Fin 2048) (b : Fin 1024) (R : Fin 8192) (hR : (R : ℕ) = 2048 * t.val + s.val) :
    iblk m c 0 t (ix2 s b) = aX m c (ix2 R b) := by
  blk_ext [iblk, V, idx0 t]
  all_goals simp [hR]

theorem blkW (t : Fin cfg0.N) (s : Fin 2048) (b : Fin 1024) (R : Fin 8192) (hR : (R : ℕ) = 2048 * t.val + s.val) :
    iblk m c 1 t (ix2 s b) = aW m c (ix2 R b) := by
  blk_ext [iblk, V, idx1 t]
  all_goals simp [hR]

theorem term_at (t : Fin cfg0.N) (s : Fin 2048) (r : Fin 1024) (j : Fin 1024) (R : Fin 8192) (hR : (R : ℕ) = 2048 * t.val + s.val) :
    Term (iblk m c 0 t) (iblk m c 1 t) s r j = aX m c (ix2 R r) * aW m c (ix2 R j) := by
  unfold Term; rw [blkX m c t s r R hR, blkW m c t s j R hR]

theorem first (t : Fin cfg0.N) (h0 : t.val % 4 = 0) (y : S1024x1024.Idx) : (outsAt0 m c t.val t.isLt).2 y =
    (0 : EReal) + Part (iblk m c 0 t) (iblk m c 1 t) (y 0) (y 1) := by
  obtain ⟨r, j, rfl⟩ : ∃ (r : Fin 1024) (j : Fin 1024), y = ix2 r j := ⟨y 0, y 1, eq_ix2 y⟩
  rw [outsAt0_A m c t h0 (by omega)]; dsimp only; rw [sout_A]
  rfl

theorem next (t : Fin cfg0.N) (h0 : ¬t.val % 4 = 0) (y : S1024x1024.Idx) : (outsAt0 m c t.val t.isLt).2 y =
    (outsAt0 m c (t.val - 1) (by have := t.isLt; omega)).2 y + Part (iblk m c 0 t) (iblk m c 1 t) (y 0) (y 1) := by
  obtain ⟨r, j, rfl⟩ : ∃ (r : Fin 1024) (j : Fin 1024), y = ix2 r j := ⟨y 0, y 1, eq_ix2 y⟩
  by_cases h1 : t.val % 4 = 3
  · rw [outsAt0_C m c t h0 h1]; dsimp only; rw [sout_C]; rfl
  · rw [outsAt0_B m c t h0 h1]; dsimp only; rw [sout_B]; rfl

theorem same (t : Fin cfg0.N) (h0 : ¬t.val % 4 = 0) (h1 : t.val % 4 = 3) (y : S1024x1024.Idx) :
    (outsAt0 m c t.val t.isLt).1 y = (outsAt0 m c t.val t.isLt).2 y := by
  obtain ⟨r, j, rfl⟩ : ∃ (r : Fin 1024) (j : Fin 1024), y = ix2 r j := ⟨y 0, y 1, eq_ix2 y⟩
  rw [outsAt0_C m c t h0 h1]; dsimp only; rw [sout_C, out_C]

theorem acc (t : Fin cfg0.N) (ht : t.val + 1 = 4) (y : S1024x1024.Idx) : (outsAt0 m c t.val t.isLt).2 y =
    (0 : EReal) + ∑ p : Fin 4, Part (iblk m c 0 p) (iblk m c 1 p) (y 0) (y 1) := by
  rw [Pipeline.eq_sum_fin_of_reset_step_apply_last (fun t ht => (outsAt0 m c t ht).2) 4 (fun _ => (0 : EReal))
    (fun p y => Part (iblk m c 0 p) (iblk m c 1 p) (y 0) (y 1)) ?_ ?_ (by decide) t ht y]
  · rfl
  · exact first m c
  · exact next m c

theorem final : (dats m 0 c).arrAt 2 cfg0.N = fun y : S1024x1024.Idx => ∑ s : Fin 8192, (aX m c (ix2 s (y 0)) * aW m c (ix2 s (y 1)) : EReal) := by
  refine (dats m 0 c).arrAt_eq_of_after_last 2 t0_3 (by decide +kernel) _ fun y => ?_
  blk_simp
  rw [after0_2, same m c t0_3 (by decide) rfl, acc m c t0_3 rfl, zero_add]
  refine Fin.sum_mul_add_congr (fun t k hl => ?_)
  have hR : ((⟨t.val * 2048 + k.val, hl⟩ : Fin 8192) : ℕ) = 2048 * t.val + k.val := by dsimp only; omega
  exact term_at m c t k _ _ _ hR

end Cert.XaDwqIdeal.Hand

namespace Cert.XaDwqRefIdeal.Hand

open Cert.XaDwqRefIdeal Cert.XaDwqRefIdeal.Gen Cert.XaDwqRefIdeal.Read Idealize.ShloMosaic Idealize.ShloMosaic.TcCoe Idealize.SL.Sem

theorem ref_at (x0 : (⟨S8192x1024, .bf16⟩ : BufTy).Contents (Elt Ideal)) (x1 : (⟨S8192x1024, .bf16⟩ : BufTy).Contents (Elt Ideal)) (r : Fin 1024) (b : Fin 1024) :
    val_main_v6 x0 x1 (ix2 r b) = ∑ s : Fin 8192, (x0 (ix2 s r) * x1 (ix2 s b) : EReal) := by
  unfold val_main_v6 val_main_v5 val_main_v4 val_main_v1 val_main_v0
  pointwise
  exact Finset.sum_congr rfl fun s _ => mul_comm _ _

end Cert.XaDwqRefIdeal.Hand

namespace Cert.Proof.XaDwq

open Idealize.ShloMosaic Idealize.SL.Sem

theorem algebraic : Cert.algebraic_XaDwqIdeal_XaDwqRefIdeal := by
  pair_intro
  · run_from Cert.XaDwqIdeal.Value.run_blocks m g
  · refine (θ_run _ _ _).mono (fun r h c => ?_) (Cert.XaDwqRefIdeal.Value.run m' g')
    obtain ⟨e0, e1⟩ := hagree c
    refine ⟨(h c).1.trans ?_, (h c).2⟩
    · rw [Cert.XaDwqRefIdeal.Read.val_main_v6_eq, e0, e1, Cert.XaDwqIdeal.Hand.final m c]
      funext y
      obtain ⟨r, b, rfl⟩ : ∃ (r : Fin 1024) (b : Fin 1024), y = ix2 r b := ⟨y 0, y 1, eq_ix2 y⟩
      exact Cert.XaDwqRefIdeal.Hand.ref_at _ _ r b

theorem frame_p : Cert.quiescent_XaDwq := fun m ρ _ => Cert.XaDwq.Gen.frame m ρ
theorem frame_pi : Cert.quiescent_XaDwqIdeal := fun m ρ _ => Cert.XaDwqIdeal.Gen.frame m ρ
theorem frame_ri : Cert.quiescent_XaDwqRefIdeal := fun m ρ _ =>
  (θ_run Cert.XaDwqRefIdeal.defs _ _).mono (fun r h => ⟨fun c => (h c).2, sem_eq_zero_of_no_sems (by decide) r.2⟩)
    (Cert.XaDwqRefIdeal.Value.run (F := Ideal) m ρ)

end Cert.Proof.XaDwq
end
-- ==== Proof.Calls.OdDwin.lean ====
/- The gradient of the odd layer's input weight: a product summed over the rows, block after block. -/
module

public import proofs.«01_k».proof.Defs
public import proofs.«01_k».proof.Proof.Gen.OdDwin.Frame
public import proofs.«01_k».proof.Proof.Gen.OdDwinIdeal.Value
public import proofs.«01_k».proof.Proof.Gen.OdDwinRefIdeal.Run
public import proofs.«01_k».proof.Proof.Gen.OdDwinRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
noncomputable section

namespace Cert.OdDwinIdeal.Hand

open Cert.OdDwinIdeal Cert.OdDwinIdeal.Gen Idealize.ShloMosaic Idealize.ShloMosaic.TcCoe Idealize.SL.Sem
open Idealize.ShloMosaic.Pipeline (Dat)

/-- What one row adds to the product. -/
abbrev Term (a : Vec Ideal S1024x2048 .bf16) (b : Vec Ideal S1024x1024 .bf16) (s : Fin 1024) (r : Fin 2048) (j : Fin 1024) : EReal :=
  a (ix2 s r) * b (ix2 s j)
/-- What one block of rows adds to the product. -/
abbrev Part (a : Vec Ideal S1024x2048 .bf16) (b : Vec Ideal S1024x1024 .bf16) (r : Fin 2048) (j : Fin 1024) : EReal :=
  ∑ s : Fin 1024, Term a b s r j

theorem pay2_at (acc : Vec Ideal S2048x1024 .f32) (a : Vec Ideal S1024x2048 .bf16) (b : Vec Ideal S1024x1024 .bf16) (r : Fin 2048) (j : Fin 1024) :
    k0_pay2 acc a b (ix2 r j) = acc (ix2 r j) + Part a b r j := by
  unfold_payloads
  pointwise

theorem pay1_at (r : Fin 2048) (j : Fin 1024) : k0_pay1 (F := Ideal) (ix2 r j) = (0 : EReal) := by
  unfold_payloads
  pointwise

theorem pay3_at (acc : Vec Ideal S2048x1024 .f32) (r : Fin 2048) (j : Fin 1024) : k0_pay3 acc (ix2 r j) = acc (ix2 r j) := by
  unfold_payloads
  pointwise

section points
variable (c : Dev nD) (i : grid0.Coords) (arg2 : Memref sig .tc .vmem S1024x2048 .bf16) (harg2 : arg2.IsWhole) (arg3 : Memref sig .tc .vmem S1024x1024 .bf16) (harg3 : arg3.IsWhole)
  (arg4 : Memref sig .tc .vmem S2048x1024 .bf16) (harg4 : arg4.IsWhole) (arg5 : Memref sig .tc .vmem S2048x1024 .f32) (harg5 : arg5.IsWhole)
  (x0 : Vec Ideal S1024x2048 .bf16) (x1 : Vec Ideal S1024x1024 .bf16) (xs0 : Vec Ideal S2048x1024 .f32) (r : Fin 2048) (j : Fin 1024)

theorem sout_A (hc0 : cond0_0 i) (hc1 : ¬cond0_1 i) : sout0_A_0 c i arg2 harg2 arg3 harg3 arg4 harg4 arg5 harg5 hc0 hc1 x0 x1 (ix2 r j) = (0 : EReal) + Part x0 x1 r j := by
  frame_open
  simp (disch := decide) only [↓ View.readCov_skip, ↓ View.readCov_cons_toLoadRect, ↓ View.readCov_fill]
  frame_out
  rw [pay2_at, pay1_at]

theorem sout_B (hc0 : ¬cond0_0 i) (hc1 : ¬cond0_1 i) : sout0_B_0 c i arg2 harg2 arg3 harg3 arg4 harg4 arg5 harg5 hc0 hc1 x0 x1 xs0 (ix2 r j) = xs0 (ix2 r j) + Part x0 x1 r j := by
  frame_out
  rw [pay2_at]

theorem out_C (hc0 : ¬cond0_0 i) (hc1 : cond0_1 i) : out0_C_2 c i arg2 harg2 arg3 harg3 arg4 harg4 arg5 harg5 hc0 hc1 x0 x1 xs0 (ix2 r j) = xs0 (ix2 r j) + Part x0 x1 r j := by
  frame_open
  simp (disch := decide) only [↓ View.readCov_skip, ↓ View.readCov_cons_toLoadRect, ↓ View.readCov_fill]
  frame_out
  rw [pay3_at, pay2_at]

theorem sout_C (hc0 : ¬cond0_0 i) (hc1 : cond0_1 i) : sout0_C_0 c i arg2 harg2 arg3 harg3 arg4 harg4 arg5 harg5 hc0 hc1 x0 x1 xs0 (ix2 r j) = xs0 (ix2 r j) + Part x0 x1 r j := by
  frame_out
  rw [pay2_at]
end points

variable (m : (ℓ : Loc nD τ sig) → Buf (Elt Ideal) ℓ) (c : Dev nD)

abbrev aX : S8192x2048.Idx → EReal := m ((c.tc : Thread nD τ).loc main_arg0)
abbrev aW : S8192x1024.Idx → EReal := m ((c.tc : Thread nD τ).loc main_arg1)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel

theorem blkX (t : Fin cfg0.N) (s : Fin 1024) (b : Fin 2048) (R : Fin 8192) (hR : (R : ℕ) = 1024 * t.val + s.val) :
    iblk m c 0 t (ix2 s b) = aX m c (ix2 R b) := by
  blk_ext [iblk, V, idx0 t]
  all_goals simp [hR]

theorem blkW (t : Fin cfg0.N) (s : Fin 1024) (b : Fin 1024) (R : Fin 8192) (hR : (R : ℕ) = 1024 * t.val + s.val) :
    iblk m c 1 t (ix2 s b) = aW m c (ix2 R b) := by
  blk_ext [iblk, V, idx1 t]
  all_goals simp [hR]

theorem term_at (t : Fin cfg0.N) (s : Fin 1024) (r : Fin 2048) (j : Fin 1024) (R : Fin 8192) (hR : (R : ℕ) = 1024 * t.val + s.val) :
    Term (iblk m c 0 t) (iblk m c 1 t) s r j = aX m c (ix2 R r) * aW m c (ix2 R j) := by
  unfold Term; rw [blkX m c t s r R hR, blkW m c t s j R hR]

theorem first (t : Fin cfg0.N) (h0 : t.val % 8 = 0) (y : S2048x1024.Idx) : (outsAt0 m c t.val t.isLt).2 y =
    (0 : EReal) + Part (iblk m c 0 t) (iblk m c 1 t) (y 0) (y 1) := by
  obtain ⟨r, j, rfl⟩ : ∃ (r : Fin 2048) (j : Fin 1024), y = ix2 r j := ⟨y 0, y 1, eq_ix2 y⟩
  rw [outsAt0_A m c t h0 (by omega)]; dsimp only; rw [sout_A]
  rfl

theorem next (t : Fin cfg0.N) (h0 : ¬t.val % 8 = 0) (y : S2048x1024.Idx) : (outsAt0 m c t.val t.isLt).2 y =
    (outsAt0 m c (t.val - 1) (by have := t.isLt; omega)).2 y + Part (iblk m c 0 t) (iblk m c 1 t) (y 0) (y 1) := by
  obtain ⟨r, j, rfl⟩ : ∃ (r : Fin 2048) (j : Fin 1024), y = ix2 r j := ⟨y 0, y 1, eq_ix2 y⟩
  by_cases h1 : t.val % 8 = 7
  · rw [outsAt0_C m c t h0 h1]; dsimp only; rw [sout_C]; rfl
  · rw [outsAt0_B m c t h0 h1]; dsimp only; rw [sout_B]; rfl

theorem same (t : Fin cfg0.N) (h0 : ¬t.val % 8 = 0) (h1 : t.val % 8 = 7) (y : S2048x1024.Idx) :
    (outsAt0 m c t.val t.isLt).1 y = (outsAt0 m c t.val t.isLt).2 y := by
  obtain ⟨r, j, rfl⟩ : ∃ (r : Fin 2048) (j : Fin 1024), y = ix2 r j := ⟨y 0, y 1, eq_ix2 y⟩
  rw [outsAt0_C m c t h0 h1]; dsimp only; rw [sout_C, out_C]

theorem acc (t : Fin cfg0.N) (ht : t.val + 1 = 8) (y : S2048x1024.Idx) : (outsAt0 m c t.val t.isLt).2 y =
    (0 : EReal) + ∑ p : Fin 8, Part (iblk m c 0 p) (iblk m c 1 p) (y 0) (y 1) := by
  rw [Pipeline.eq_sum_fin_of_reset_step_apply_last (fun t ht => (outsAt0 m c t ht).2) 8 (fun _ => (0 : EReal))
    (fun p y => Part (iblk m c 0 p) (iblk m c 1 p) (y 0) (y 1)) ?_ ?_ (by decide) t ht y]
  · rfl
  · exact first m c
  · exact next m c

theorem final : (dats m 0 c).arrAt 2 cfg0.N = fun y : S2048x1024.Idx => ∑ s : Fin 8192, (aX m c (ix2 s (y 0)) * aW m c (ix2 s (y 1)) : EReal) := by
  refine (dats m 0 c).arrAt_eq_of_after_last 2 t0_7 (by decide +kernel) _ fun y => ?_
  blk_simp
  rw [after0_2, same m c t0_7 (by decide) rfl, acc m c t0_7 rfl, zero_add]
  refine Fin.sum_mul_add_congr (fun t k hl => ?_)
  have hR : ((⟨t.val * 1024 + k.val, hl⟩ : Fin 8192) : ℕ) = 1024 * t.val + k.val := by dsimp only; omega
  exact term_at m c t k _ _ _ hR

end Cert.OdDwinIdeal.Hand

namespace Cert.OdDwinRefIdeal.Hand

open Cert.OdDwinRefIdeal Cert.OdDwinRefIdeal.Gen Cert.OdDwinRefIdeal.Read Idealize.ShloMosaic Idealize.ShloMosaic.TcCoe Idealize.SL.Sem

theorem ref_at (x0 : (⟨S8192x2048, .bf16⟩ : BufTy).Contents (Elt Ideal)) (x1 : (⟨S8192x1024, .bf16⟩ : BufTy).Contents (Elt Ideal)) (r : Fin 2048) (b : Fin 1024) :
    val_main_v8 x0 x1 (ix2 r b) = ∑ s : Fin 8192, (x0 (ix2 s r) * x1 (ix2 s b) : EReal) := by
  unfold val_main_v8 val_main_v7 val_main_v6 val_main_v5 val_main_v1 val_main_v0
  pointwise

end Cert.OdDwinRefIdeal.Hand

namespace Cert.Proof.OdDwin

open Idealize.ShloMosaic Idealize.SL.Sem

theorem algebraic : Cert.algebraic_OdDwinIdeal_OdDwinRefIdeal := by
  pair_intro
  · run_from Cert.OdDwinIdeal.Value.run_blocks m g
  · refine (θ_run _ _ _).mono (fun r h c => ?_) (Cert.OdDwinRefIdeal.Value.run m' g')
    obtain ⟨e0, e1⟩ := hagree c
    refine ⟨(h c).1.trans ?_, (h c).2⟩
    · rw [Cert.OdDwinRefIdeal.Read.val_main_v8_eq, e0, e1, Cert.OdDwinIdeal.Hand.final m c]
      funext y
      obtain ⟨r, b, rfl⟩ : ∃ (r : Fin 2048) (b : Fin 1024), y = ix2 r b := ⟨y 0, y 1, eq_ix2 y⟩
      exact Cert.OdDwinRefIdeal.Hand.ref_at _ _ r b

theorem frame_p : Cert.quiescent_OdDwin := fun m ρ _ => Cert.OdDwin.Gen.frame m ρ
theorem frame_pi : Cert.quiescent_OdDwinIdeal := fun m ρ _ => Cert.OdDwinIdeal.Gen.frame m ρ
theorem frame_ri : Cert.quiescent_OdDwinRefIdeal := fun m ρ _ =>
  (θ_run Cert.OdDwinRefIdeal.defs _ _).mono (fun r h => ⟨fun c => (h c).2, sem_eq_zero_of_no_sems (by decide) r.2⟩)
    (Cert.OdDwinRefIdeal.Value.run (F := Ideal) m ρ)

end Cert.Proof.OdDwin
end
-- ==== Proof.Calls.EvDwin.lean ====
/- The gradient of the even layer's input weight: a product summed over the rows, block after block. -/
module

public import proofs.«01_k».proof.Defs
public import proofs.«01_k».proof.Proof.Gen.EvDwin.Frame
public import proofs.«01_k».proof.Proof.Gen.EvDwinIdeal.Value
public import proofs.«01_k».proof.Proof.Gen.EvDwinRefIdeal.Run
public import proofs.«01_k».proof.Proof.Gen.EvDwinRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
noncomputable section

namespace Cert.EvDwinIdeal.Hand

open Cert.EvDwinIdeal Cert.EvDwinIdeal.Gen Idealize.ShloMosaic Idealize.ShloMosaic.TcCoe Idealize.SL.Sem
open Idealize.ShloMosaic.Pipeline (Dat)

/-- What one row adds to the product. -/
abbrev Term (a : Vec Ideal S1024x2560 .bf16) (b : Vec Ideal S1024x1024 .bf16) (s : Fin 1024) (r : Fin 2560) (j : Fin 1024) : EReal :=
  a (ix2 s r) * b (ix2 s j)
/-- What one block of rows adds to the product. -/
abbrev Part (a : Vec Ideal S1024x2560 .bf16) (b : Vec Ideal S1024x1024 .bf16) (r : Fin 2560) (j : Fin 1024) : EReal :=
  ∑ s : Fin 1024, Term a b s r j

theorem pay2_at (acc : Vec Ideal S2560x1024 .f32) (a : Vec Ideal S1024x2560 .bf16) (b : Vec Ideal S1024x1024 .bf16) (r : Fin 2560) (j : Fin 1024) :
    k0_pay2 acc a b (ix2 r j) = acc (ix2 r j) + Part a b r j := by
  unfold_payloads
  pointwise

theorem pay1_at (r : Fin 2560) (j : Fin 1024) : k0_pay1 (F := Ideal) (ix2 r j) = (0 : EReal) := by
  unfold_payloads
  pointwise

theorem pay3_at (acc : Vec Ideal S2560x1024 .f32) (r : Fin 2560) (j : Fin 1024) : k0_pay3 acc (ix2 r j) = acc (ix2 r j) := by
  unfold_payloads
  pointwise

section points
variable (c : Dev nD) (i : grid0.Coords) (arg2 : Memref sig .tc .vmem S1024x2560 .bf16) (harg2 : arg2.IsWhole) (arg3 : Memref sig .tc .vmem S1024x1024 .bf16) (harg3 : arg3.IsWhole)
  (arg4 : Memref sig .tc .vmem S2560x1024 .bf16) (harg4 : arg4.IsWhole) (arg5 : Memref sig .tc .vmem S2560x1024 .f32) (harg5 : arg5.IsWhole)
  (x0 : Vec Ideal S1024x2560 .bf16) (x1 : Vec Ideal S1024x1024 .bf16) (xs0 : Vec Ideal S2560x1024 .f32) (r : Fin 2560) (j : Fin 1024)

theorem sout_A (hc0 : cond0_0 i) (hc1 : ¬cond0_1 i) : sout0_A_0 c i arg2 harg2 arg3 harg3 arg4 harg4 arg5 harg5 hc0 hc1 x0 x1 (ix2 r j) = (0 : EReal) + Part x0 x1 r j := by
  frame_open
  simp (disch := decide) only [↓ View.readCov_skip, ↓ View.readCov_cons_toLoadRect, ↓ View.readCov_fill]
  frame_out
  rw [pay2_at, pay1_at]

theorem sout_B (hc0 : ¬cond0_0 i) (hc1 : ¬cond0_1 i) : sout0_B_0 c i arg2 harg2 arg3 harg3 arg4 harg4 arg5 harg5 hc0 hc1 x0 x1 xs0 (ix2 r j) = xs0 (ix2 r j) + Part x0 x1 r j := by
  frame_out
  rw [pay2_at]

theorem out_C (hc0 : ¬cond0_0 i) (hc1 : cond0_1 i) : out0_C_2 c i arg2 harg2 arg3 harg3 arg4 harg4 arg5 harg5 hc0 hc1 x0 x1 xs0 (ix2 r j) = xs0 (ix2 r j) + Part x0 x1 r j := by
  frame_open
  simp (disch := decide) only [↓ View.readCov_skip, ↓ View.readCov_cons_toLoadRect, ↓ View.readCov_fill]
  frame_out
  rw [pay3_at, pay2_at]

theorem sout_C (hc0 : ¬cond0_0 i) (hc1 : cond0_1 i) : sout0_C_0 c i arg2 harg2 arg3 harg3 arg4 harg4 arg5 harg5 hc0 hc1 x0 x1 xs0 (ix2 r j) = xs0 (ix2 r j) + Part x0 x1 r j := by
  frame_out
  rw [pay2_at]
end points

variable (m : (ℓ : Loc nD τ sig) → Buf (Elt Ideal) ℓ) (c : Dev nD)

abbrev aX : S8192x2560.Idx → EReal := m ((c.tc : Thread nD τ).loc main_arg0)
abbrev aW : S8192x1024.Idx → EReal := m ((c.tc : Thread nD τ).loc main_arg1)

theorem idx0 : ∀ t : Fin grid0.N, win0_0.index t = ![t.val, 0] := by decide +kernel
theorem idx1 : ∀ t : Fin grid0.N, win0_1.index t = ![t.val, 0] := by decide +kernel
theorem idx2 : ∀ t : Fin grid0.N, win0_2.index t = ![0, 0] := by decide +kernel

theorem blkX (t : Fin cfg0.N) (s : Fin 1024) (b : Fin 2560) (R : Fin 8192) (hR : (R : ℕ) = 1024 * t.val + s.val) :
    iblk m c 0 t (ix2 s b) = aX m c (ix2 R b) := by
  blk_ext [iblk, V, idx0 t]
  all_goals simp [hR]

theorem blkW (t : Fin cfg0.N) (s : Fin 1024) (b : Fin 1024) (R : Fin 8192) (hR : (R : ℕ) = 1024 * t.val + s.val) :
    iblk m c 1 t (ix2 s b) = aW m c (ix2 R b) := by
  blk_ext [iblk, V, idx1 t]
  all_goals simp [hR]

theorem term_at (t : Fin cfg0.N) (s : Fin 1024) (r : Fin 2560) (j : Fin 1024) (R : Fin 8192) (hR : (R : ℕ) = 1024 * t.val + s.val) :
    Term (iblk m c 0 t) (iblk m c 1 t) s r j = aX m c (ix2 R r) * aW m c (ix2 R j) := by
  unfold Term; rw [blkX m c t s r R hR, blkW m c t s j R hR]

theorem first (t : Fin cfg0.N) (h0 : t.val % 8 = 0) (y : S2560x1024.Idx) : (outsAt0 m c t.val t.isLt).2 y =
    (0 : EReal) + Part (iblk m c 0 t) (iblk m c 1 t) (y 0) (y 1) := by
  obtain ⟨r, j, rfl⟩ : ∃ (r : Fin 2560) (j : Fin 1024), y = ix2 r j := ⟨y 0, y 1, eq_ix2 y⟩
  rw [outsAt0_A m c t h0 (by omega)]; dsimp only; rw [sout_A]
  rfl

theorem next (t : Fin cfg0.N) (h0 : ¬t.val % 8 = 0) (y : S2560x1024.Idx) : (outsAt0 m c t.val t.isLt).2 y =
    (outsAt0 m c (t.val - 1) (by have := t.isLt; omega)).2 y + Part (iblk m c 0 t) (iblk m c 1 t) (y 0) (y 1) := by
  obtain ⟨r, j, rfl⟩ : ∃ (r : Fin 2560) (j : Fin 1024), y = ix2 r j := ⟨y 0, y 1, eq_ix2 y⟩
  by_cases h1 : t.val % 8 = 7
  · rw [outsAt0_C m c t h0 h1]; dsimp only; rw [sout_C]; rfl
  · rw [outsAt0_B m c t h0 h1]; dsimp only; rw [sout_B]; rfl

theorem same (t : Fin cfg0.N) (h0 : ¬t.val % 8 = 0) (h1 : t.val % 8 = 7) (y : S2560x1024.Idx) :
    (outsAt0 m c t.val t.isLt).1 y = (outsAt0 m c t.val t.isLt).2 y := by
  obtain ⟨r, j, rfl⟩ : ∃ (r : Fin 2560) (j : Fin 1024), y = ix2 r j := ⟨y 0, y 1, eq_ix2 y⟩
  rw [outsAt0_C m c t h0 h1]; dsimp only; rw [sout_C, out_C]

theorem acc (t : Fin cfg0.N) (ht : t.val + 1 = 8) (y : S2560x1024.Idx) : (outsAt0 m c t.val t.isLt).2 y =
    (0 : EReal) + ∑ p : Fin 8, Part (iblk m c 0 p) (iblk m c 1 p) (y 0) (y 1) := by
  rw [Pipeline.eq_sum_fin_of_reset_step_apply_last (fun t ht => (outsAt0 m c t ht).2) 8 (fun _ => (0 : EReal))
    (fun p y => Part (iblk m c 0 p) (iblk m c 1 p) (y 0) (y 1)) ?_ ?_ (by decide) t ht y]
  · rfl
  · exact first m c
  · exact next m c

theorem final : (dats m 0 c).arrAt 2 cfg0.N = fun y : S2560x1024.Idx => ∑ s : Fin 8192, (aX m c (ix2 s (y 0)) * aW m c (ix2 s (y 1)) : EReal) := by
  refine (dats m 0 c).arrAt_eq_of_after_last 2 t0_7 (by decide +kernel) _ fun y => ?_
  blk_simp
  rw [after0_2, same m c t0_7 (by decide) rfl, acc m c t0_7 rfl, zero_add]
  refine Fin.sum_mul_add_congr (fun t k hl => ?_)
  have hR : ((⟨t.val * 1024 + k.val, hl⟩ : Fin 8192) : ℕ) = 1024 * t.val + k.val := by dsimp only; omega
  exact term_at m c t k _ _ _ hR

end Cert.EvDwinIdeal.Hand

namespace Cert.EvDwinRefIdeal.Hand

open Cert.EvDwinRefIdeal Cert.EvDwinRefIdeal.Gen Cert.EvDwinRefIdeal.Read Idealize.ShloMosaic Idealize.ShloMosaic.TcCoe Idealize.SL.Sem

theorem ref_at (x0 : (⟨S8192x2560, .bf16⟩ : BufTy).Contents (Elt Ideal)) (x1 : (⟨S8192x1024, .bf16⟩ : BufTy).Contents (Elt Ideal)) (r : Fin 2560) (b : Fin 1024) :
    val_main_v8 x0 x1 (ix2 r b) = ∑ s : Fin 8192, (x0 (ix2 s r) * x1 (ix2 s b) : EReal) := by
  unfold val_main_v8 val_main_v7 val_main_v6 val_main_v5 val_main_v1 val_main_v0
  pointwise

end Cert.EvDwinRefIdeal.Hand

namespace Cert.Proof.EvDwin

open Idealize.ShloMosaic Idealize.SL.Sem

theorem algebraic : Cert.algebraic_EvDwinIdeal_EvDwinRefIdeal := by
  pair_intro
  · run_from Cert.EvDwinIdeal.Value.run_blocks m g
  · refine (θ_run _ _ _).mono (fun r h c => ?_) (Cert.EvDwinRefIdeal.Value.run m' g')
    obtain ⟨e0, e1⟩ := hagree c
    refine ⟨(h c).1.trans ?_, (h c).2⟩
    · rw [Cert.EvDwinRefIdeal.Read.val_main_v8_eq, e0, e1, Cert.EvDwinIdeal.Hand.final m c]
      funext y
      obtain ⟨r, b, rfl⟩ : ∃ (r : Fin 2560) (b : Fin 1024), y = ix2 r b := ⟨y 0, y 1, eq_ix2 y⟩
      exact Cert.EvDwinRefIdeal.Hand.ref_at _ _ r b

theorem frame_p : Cert.quiescent_EvDwin := fun m ρ _ => Cert.EvDwin.Gen.frame m ρ
theorem frame_pi : Cert.quiescent_EvDwinIdeal := fun m ρ _ => Cert.EvDwinIdeal.Gen.frame m ρ
theorem frame_ri : Cert.quiescent_EvDwinRefIdeal := fun m ρ _ =>
  (θ_run Cert.EvDwinRefIdeal.defs _ _).mono (fun r h => ⟨fun c => (h c).2, sem_eq_zero_of_no_sems (by decide) r.2⟩)
    (Cert.EvDwinRefIdeal.Value.run (F := Ideal) m ρ)

end Cert.Proof.EvDwin
end
-- ==== Proof.Calls.XaDo.lean ====
/- The gradient of the attention's outputs: each grid point's block of the product, and the reference's. -/
module

public import proofs.«01_k».proof.Defs
public import proofs.«01_k».proof.Proof.Gen.XaDo.Frame
public import proofs.«01_k».proof.Proof.Gen.XaDoIdeal.Value
public import proofs.«01_k».proof.Proof.Gen.XaDoRefIdeal.Run
public import proofs.«01_k».proof.Proof.Gen.XaDoRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
noncomputable section

namespace Cert.XaDoIdeal.Hand

open Cert.XaDoIdeal Cert.XaDoIdeal.Gen Idealize.ShloMosaic Idealize.ShloMosaic.TcCoe Idealize.SL.Sem
open Idealize.ShloMosaic.Pipeline (Dat)

theorem pay_at (x : Vec Ideal S2048x1024 .f32) (w : Vec Ideal S1024x1024 .bf16) (r : Fin 2048) (b : Fin 1024) :
    k0_pay1 x w (ix2 r b) = ∑ k : Fin 1024, (x (ix2 r k) * w (ix2 b k) : EReal) := by
  unfold_payloads
  pointwise

theorem out_at (x : Vec Ideal S2048x1024 .f32) (w : Vec Ideal S1024x1024 .bf16) (r : Fin 2048) (b : Fin 1024) :
    out0_2 x w (ix2 r b) = ∑ k : Fin 1024, (x (ix2 r k) * w (ix2 b k) : EReal) := by
  frame_out
  exact pay_at x w r b

variable (m : (ℓ : Loc nD τ sig) → Buf (Elt Ideal) ℓ) (c : Dev nD)

abbrev aX : S8192x1024.Idx → EReal := m ((c.tc : Thread nD τ).loc main_arg0)
abbrev aW : S1024x1024.Idx → EReal := m ((c.tc : Thread nD τ).loc main_arg1)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

theorem blkX (t : Fin cfg0.N) (r : Fin 2048) (b : Fin 1024) (R : Fin 8192) (hR : (R : ℕ) = 2048 * (t.val) + r.val) :
    iblk m c 0 t (ix2 r b) = aX m c (ix2 R b) := by
  blk_ext [iblk, V, idx0 t]
  all_goals simp [hR]

theorem blkW (t : Fin cfg0.N) (b : Fin 1024) (k : Fin 1024) (B : Fin 1024) (hB : (B : ℕ) = 1024 * (0) + b.val) :
    iblk m c 1 t (ix2 b k) = aW m c (ix2 B k) := by
  blk_ext [iblk, V, idx1 t]
  all_goals simp [hB]

theorem block_sum (t : Fin cfg0.N) (r : Fin 2048) (b : Fin 1024) (R : Fin 8192) (B : Fin 1024) (hR : (R : ℕ) = 2048 * (t.val) + r.val)
    (hB : (B : ℕ) = 1024 * (0) + b.val) :
    out0_2 (iblk m c 0 t) (iblk m c 1 t) (ix2 r b) = ∑ k : Fin 1024, (aX m c (ix2 R k) * aW m c (ix2 B k) : EReal) := by
  rw [out_at]
  exact Finset.sum_congr rfl fun k _ => by rw [blkX m c t r k R hR, blkW m c t b k B hB]

theorem final : (dats m 0 c).arrAt 2 cfg0.N = fun y : S8192x1024.Idx => ∑ k : Fin 1024, (aX m c (ix2 (y 0) k) * aW m c (ix2 (y 1) k) : EReal) := by
  refine (dats m 0 c).arrAt_eq_of_covers 2 _ (by decide +kernel) fun t hf y => ?_
  blk_simp
  rw [after0_2]
  obtain ⟨r, b, rfl⟩ : ∃ (r : Fin 2048) (b : Fin 1024), y = ix2 r b := ⟨y 0, y 1, eq_ix2 y⟩
  have e0 : ((win0_2.blk t).view.emb (ix2 r b) 0 : ℕ) = 2048 * (t.val) + r.val := by
    blk_simp [idx2 t]
    omega
  have e1 : ((win0_2.blk t).view.emb (ix2 r b) 1 : ℕ) = 1024 * (0) + b.val := by
    blk_simp [idx2 t]
    try omega
  exact block_sum m c t r b _ _ e0 e1

end Cert.XaDoIdeal.Hand

namespace Cert.XaDoRefIdeal.Hand

open Cert.XaDoRefIdeal Cert.XaDoRefIdeal.Gen Cert.XaDoRefIdeal.Read Idealize.ShloMosaic Idealize.ShloMosaic.TcCoe Idealize.SL.Sem

theorem ref_at (x0 : (⟨S8192x1024, .f32⟩ : BufTy).Contents (Elt Ideal)) (x1 : (⟨S1024x1024, .bf16⟩ : BufTy).Contents (Elt Ideal)) (r : Fin 8192) (b : Fin 1024) :
    val_main_v4 x0 x1 (ix2 r b) = ∑ k : Fin 1024, (x0 (ix2 r k) * x1 (ix2 b k) : EReal) := by
  unfold val_main_v4 val_main_v3 val_main_v0
  pointwise

end Cert.XaDoRefIdeal.Hand

namespace Cert.Proof.XaDo

open Idealize.ShloMosaic Idealize.SL.Sem

theorem algebraic : Cert.algebraic_XaDoIdeal_XaDoRefIdeal := by
  pair_intro
  · run_from Cert.XaDoIdeal.Value.run_blocks m g
  · refine (θ_run _ _ _).mono (fun r h c => ?_) (Cert.XaDoRefIdeal.Value.run m' g')
    obtain ⟨e0, e1⟩ := hagree c
    refine ⟨(h c).1.trans ?_, (h c).2⟩
    · rw [Cert.XaDoRefIdeal.Read.val_main_v4_eq, e0, e1, Cert.XaDoIdeal.Hand.final m c]
      funext y
      obtain ⟨r, b, rfl⟩ : ∃ (r : Fin 8192) (b : Fin 1024), y = ix2 r b := ⟨y 0, y 1, eq_ix2 y⟩
      exact Cert.XaDoRefIdeal.Hand.ref_at _ _ r b

theorem frame_p : Cert.quiescent_XaDo := fun m ρ _ => Cert.XaDo.Gen.frame m ρ
theorem frame_pi : Cert.quiescent_XaDoIdeal := fun m ρ _ => Cert.XaDoIdeal.Gen.frame m ρ
theorem frame_ri : Cert.quiescent_XaDoRefIdeal := fun m ρ _ =>
  (θ_run Cert.XaDoRefIdeal.defs _ _).mono (fun r h => ⟨fun c => (h c).2, sem_eq_zero_of_no_sems (by decide) r.2⟩)
    (Cert.XaDoRefIdeal.Value.run (F := Ideal) m ρ)

end Cert.Proof.XaDo
end
-- ==== Proof.Calls.XaQ.lean ====
/- The query projection: each grid point's block of the product, and the reference's product. -/
module

public import proofs.«01_k».proof.Defs
public import proofs.«01_k».proof.Proof.Gen.XaQ.Frame
public import proofs.«01_k».proof.Proof.Gen.XaQIdeal.Value
public import proofs.«01_k».proof.Proof.Gen.XaQRefIdeal.Run
public import proofs.«01_k».proof.Proof.Gen.XaQRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
noncomputable section

namespace Cert.XaQIdeal.Hand

open Cert.XaQIdeal Cert.XaQIdeal.Gen Idealize.ShloMosaic Idealize.ShloMosaic.TcCoe Idealize.SL.Sem
open Idealize.ShloMosaic.Pipeline (Dat)

theorem pay_at (x : Vec Ideal S2048x1024 .bf16) (w : Vec Ideal S1024x1024 .bf16) (r : Fin 2048) (b : Fin 1024) :
    k0_pay1 x w (ix2 r b) = ∑ k : Fin 1024, (x (ix2 r k) * w (ix2 k b) : EReal) := by
  unfold_payloads
  pointwise

theorem out_at (x : Vec Ideal S2048x1024 .bf16) (w : Vec Ideal S1024x1024 .bf16) (r : Fin 2048) (b : Fin 1024) :
    out0_2 x w (ix2 r b) = ∑ k : Fin 1024, (x (ix2 r k) * w (ix2 k b) : EReal) := by
  frame_out
  exact pay_at x w r b

variable (m : (ℓ : Loc nD τ sig) → Buf (Elt Ideal) ℓ) (c : Dev nD)

abbrev aX : S8192x1024.Idx → EReal := m ((c.tc : Thread nD τ).loc main_arg0)
abbrev aW : S1024x1024.Idx → EReal := m ((c.tc : Thread nD τ).loc main_arg1)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

theorem blkX (t : Fin cfg0.N) (r : Fin 2048) (b : Fin 1024) (R : Fin 8192) (hR : (R : ℕ) = 2048 * (t.val) + r.val) :
    iblk m c 0 t (ix2 r b) = aX m c (ix2 R b) := by
  blk_ext [iblk, V, idx0 t]
  all_goals simp [hR]

theorem blkW (t : Fin cfg0.N) (b : Fin 1024) (k : Fin 1024) (B : Fin 1024) (hB : (B : ℕ) = 1024 * (0) + b.val) :
    iblk m c 1 t (ix2 k b) = aW m c (ix2 k B) := by
  blk_ext [iblk, V, idx1 t]
  all_goals simp [hB]

theorem block_sum (t : Fin cfg0.N) (r : Fin 2048) (b : Fin 1024) (R : Fin 8192) (B : Fin 1024) (hR : (R : ℕ) = 2048 * (t.val) + r.val)
    (hB : (B : ℕ) = 1024 * (0) + b.val) :
    out0_2 (iblk m c 0 t) (iblk m c 1 t) (ix2 r b) = ∑ k : Fin 1024, (aX m c (ix2 R k) * aW m c (ix2 k B) : EReal) := by
  rw [out_at]
  exact Finset.sum_congr rfl fun k _ => by rw [blkX m c t r k R hR, blkW m c t b k B hB]

theorem final : (dats m 0 c).arrAt 2 cfg0.N = fun y : S8192x1024.Idx => ∑ k : Fin 1024, (aX m c (ix2 (y 0) k) * aW m c (ix2 k (y 1)) : EReal) := by
  refine (dats m 0 c).arrAt_eq_of_covers 2 _ (by decide +kernel) fun t hf y => ?_
  blk_simp
  rw [after0_2]
  obtain ⟨r, b, rfl⟩ : ∃ (r : Fin 2048) (b : Fin 1024), y = ix2 r b := ⟨y 0, y 1, eq_ix2 y⟩
  have e0 : ((win0_2.blk t).view.emb (ix2 r b) 0 : ℕ) = 2048 * (t.val) + r.val := by
    blk_simp [idx2 t]
    omega
  have e1 : ((win0_2.blk t).view.emb (ix2 r b) 1 : ℕ) = 1024 * (0) + b.val := by
    blk_simp [idx2 t]
    try omega
  exact block_sum m c t r b _ _ e0 e1

end Cert.XaQIdeal.Hand

namespace Cert.XaQRefIdeal.Hand

open Cert.XaQRefIdeal Cert.XaQRefIdeal.Gen Cert.XaQRefIdeal.Read Idealize.ShloMosaic Idealize.ShloMosaic.TcCoe Idealize.SL.Sem

theorem ref_at (x0 : (⟨S8192x1024, .bf16⟩ : BufTy).Contents (Elt Ideal)) (x1 : (⟨S1024x1024, .bf16⟩ : BufTy).Contents (Elt Ideal)) (r : Fin 8192) (b : Fin 1024) :
    val_main_v3 x0 x1 (ix2 r b) = ∑ k : Fin 1024, (x0 (ix2 r k) * x1 (ix2 k b) : EReal) := by
  unfold val_main_v3 val_main_v2 val_main_v1 val_main_v0
  pointwise

end Cert.XaQRefIdeal.Hand

namespace Cert.Proof.XaQ

open Idealize.ShloMosaic Idealize.SL.Sem

theorem algebraic : Cert.algebraic_XaQIdeal_XaQRefIdeal := by
  pair_intro
  · run_from Cert.XaQIdeal.Value.run_blocks m g
  · refine (θ_run _ _ _).mono (fun r h c => ?_) (Cert.XaQRefIdeal.Value.run m' g')
    obtain ⟨e0, e1⟩ := hagree c
    refine ⟨(h c).1.trans ?_, (h c).2⟩
    · rw [Cert.XaQRefIdeal.Read.val_main_v3_eq, e0, e1, Cert.XaQIdeal.Hand.final m c]
      funext y
      obtain ⟨r, b, rfl⟩ : ∃ (r : Fin 8192) (b : Fin 1024), y = ix2 r b := ⟨y 0, y 1, eq_ix2 y⟩
      exact Cert.XaQRefIdeal.Hand.ref_at _ _ r b

theorem frame_p : Cert.quiescent_XaQ := fun m ρ _ => Cert.XaQ.Gen.frame m ρ
theorem frame_pi : Cert.quiescent_XaQIdeal := fun m ρ _ => Cert.XaQIdeal.Gen.frame m ρ
theorem frame_ri : Cert.quiescent_XaQRefIdeal := fun m ρ _ =>
  (θ_run Cert.XaQRefIdeal.defs _ _).mono (fun r h => ⟨fun c => (h c).2, sem_eq_zero_of_no_sems (by decide) r.2⟩)
    (Cert.XaQRefIdeal.Value.run (F := Ideal) m ρ)

end Cert.Proof.XaQ
end
-- ==== Proof.Calls.EvIn.lean ====
/- The even layer's input projection: each grid point's block of the product, and the reference's. -/
module

public import proofs.«01_k».proof.Defs
public import proofs.«01_k».proof.Proof.Gen.EvIn.Frame
public import proofs.«01_k».proof.Proof.Gen.EvInIdeal.Value
public import proofs.«01_k».proof.Proof.Gen.EvInRefIdeal.Run
public import proofs.«01_k».proof.Proof.Gen.EvInRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
noncomputable section

namespace Cert.EvInIdeal.Hand

open Cert.EvInIdeal Cert.EvInIdeal.Gen Idealize.ShloMosaic Idealize.ShloMosaic.TcCoe Idealize.SL.Sem
open Idealize.ShloMosaic.Pipeline (Dat)

theorem pay_at (x : Vec Ideal S2048x1024 .bf16) (w : Vec Ideal S1280x1024 .bf16) (r : Fin 2048) (b : Fin 1280) :
    k0_pay1 x w (ix2 r b) = ∑ k : Fin 1024, (x (ix2 r k) * w (ix2 b k) : EReal) := by
  unfold_payloads
  pointwise

theorem out_at (x : Vec Ideal S2048x1024 .bf16) (w : Vec Ideal S1280x1024 .bf16) (r : Fin 2048) (b : Fin 1280) :
    out0_2 x w (ix2 r b) = ∑ k : Fin 1024, (x (ix2 r k) * w (ix2 b k) : EReal) := by
  frame_out
  exact pay_at x w r b

variable (m : (ℓ : Loc nD τ sig) → Buf (Elt Ideal) ℓ) (c : Dev nD)

abbrev aX : S8192x1024.Idx → EReal := m ((c.tc : Thread nD τ).loc main_arg0)
abbrev aW : S2560x1024.Idx → EReal := m ((c.tc : Thread nD τ).loc main_arg1)

theorem idx0 : ∀ t : Fin grid0.N, win0_0.index t = ![t.val / 2, 0] := by decide +kernel
theorem idx1 : ∀ t : Fin grid0.N, win0_1.index t = ![t.val % 2, 0] := by decide +kernel
theorem idx2 : ∀ t : Fin grid0.N, win0_2.index t = ![t.val / 2, t.val % 2] := by decide +kernel

theorem blkX (t : Fin cfg0.N) (r : Fin 2048) (b : Fin 1024) (R : Fin 8192) (hR : (R : ℕ) = 2048 * (t.val / 2) + r.val) :
    iblk m c 0 t (ix2 r b) = aX m c (ix2 R b) := by
  blk_ext [iblk, V, idx0 t]
  all_goals simp [hR]

theorem blkW (t : Fin cfg0.N) (b : Fin 1280) (k : Fin 1024) (B : Fin 2560) (hB : (B : ℕ) = 1280 * (t.val % 2) + b.val) :
    iblk m c 1 t (ix2 b k) = aW m c (ix2 B k) := by
  blk_ext [iblk, V, idx1 t]
  all_goals simp [hB]

theorem block_sum (t : Fin cfg0.N) (r : Fin 2048) (b : Fin 1280) (R : Fin 8192) (B : Fin 2560) (hR : (R : ℕ) = 2048 * (t.val / 2) + r.val)
    (hB : (B : ℕ) = 1280 * (t.val % 2) + b.val) :
    out0_2 (iblk m c 0 t) (iblk m c 1 t) (ix2 r b) = ∑ k : Fin 1024, (aX m c (ix2 R k) * aW m c (ix2 B k) : EReal) := by
  rw [out_at]
  exact Finset.sum_congr rfl fun k _ => by rw [blkX m c t r k R hR, blkW m c t b k B hB]

theorem final : (dats m 0 c).arrAt 2 cfg0.N = fun y : S8192x2560.Idx => ∑ k : Fin 1024, (aX m c (ix2 (y 0) k) * aW m c (ix2 (y 1) k) : EReal) := by
  refine (dats m 0 c).arrAt_eq_of_covers 2 _ (by decide +kernel) fun t hf y => ?_
  blk_simp
  rw [after0_2]
  obtain ⟨r, b, rfl⟩ : ∃ (r : Fin 2048) (b : Fin 1280), y = ix2 r b := ⟨y 0, y 1, eq_ix2 y⟩
  have e0 : ((win0_2.blk t).view.emb (ix2 r b) 0 : ℕ) = 2048 * (t.val / 2) + r.val := by
    blk_simp [idx2 t]
    omega
  have e1 : ((win0_2.blk t).view.emb (ix2 r b) 1 : ℕ) = 1280 * (t.val % 2) + b.val := by
    blk_simp [idx2 t]
    try omega
  exact block_sum m c t r b _ _ e0 e1

end Cert.EvInIdeal.Hand

namespace Cert.EvInRefIdeal.Hand

open Cert.EvInRefIdeal Cert.EvInRefIdeal.Gen Cert.EvInRefIdeal.Read Idealize.ShloMosaic Idealize.ShloMosaic.TcCoe Idealize.SL.Sem

theorem ref_at (x0 : (⟨S8192x1024, .bf16⟩ : BufTy).Contents (Elt Ideal)) (x1 : (⟨S2560x1024, .bf16⟩ : BufTy).Contents (Elt Ideal)) (r : Fin 8192) (b : Fin 2560) :
    val_main_v3 x0 x1 (ix2 r b) = ∑ k : Fin 1024, (x0 (ix2 r k) * x1 (ix2 b k) : EReal) := by
  unfold val_main_v3 val_main_v2 val_main_v1 val_main_v0
  pointwise

end Cert.EvInRefIdeal.Hand

namespace Cert.Proof.EvIn

open Idealize.ShloMosaic Idealize.SL.Sem

theorem algebraic : Cert.algebraic_EvInIdeal_EvInRefIdeal := by
  pair_intro
  · run_from Cert.EvInIdeal.Value.run_blocks m g
  · refine (θ_run _ _ _).mono (fun r h c => ?_) (Cert.EvInRefIdeal.Value.run m' g')
    obtain ⟨e0, e1⟩ := hagree c
    refine ⟨(h c).1.trans ?_, (h c).2⟩
    · rw [Cert.EvInRefIdeal.Read.val_main_v3_eq, e0, e1, Cert.EvInIdeal.Hand.final m c]
      funext y
      obtain ⟨r, b, rfl⟩ : ∃ (r : Fin 8192) (b : Fin 2560), y = ix2 r b := ⟨y 0, y 1, eq_ix2 y⟩
      exact Cert.EvInRefIdeal.Hand.ref_at _ _ r b

theorem frame_p : Cert.quiescent_EvIn := fun m ρ _ => Cert.EvIn.Gen.frame m ρ
theorem frame_pi : Cert.quiescent_EvInIdeal := fun m ρ _ => Cert.EvInIdeal.Gen.frame m ρ
theorem frame_ri : Cert.quiescent_EvInRefIdeal := fun m ρ _ =>
  (θ_run Cert.EvInRefIdeal.defs _ _).mono (fun r h => ⟨fun c => (h c).2, sem_eq_zero_of_no_sems (by decide) r.2⟩)
    (Cert.EvInRefIdeal.Value.run (F := Ideal) m ρ)

end Cert.Proof.EvIn
end
-- ==== Proof.Calls.OdIn.lean ====
/- The odd layer's input projection: each grid point's block of the product, and the reference's. -/
module

public import proofs.«01_k».proof.Defs
public import proofs.«01_k».proof.Proof.Gen.OdIn.Frame
public import proofs.«01_k».proof.Proof.Gen.OdInIdeal.Value
public import proofs.«01_k».proof.Proof.Gen.OdInRefIdeal.Run
public import proofs.«01_k».proof.Proof.Gen.OdInRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
noncomputable section

namespace Cert.OdInIdeal.Hand

open Cert.OdInIdeal Cert.OdInIdeal.Gen Idealize.ShloMosaic Idealize.ShloMosaic.TcCoe Idealize.SL.Sem
open Idealize.ShloMosaic.Pipeline (Dat)

theorem pay_at (x : Vec Ideal S2048x1024 .bf16) (w : Vec Ideal S1024x1024 .bf16) (r : Fin 2048) (b : Fin 1024) :
    k0_pay1 x w (ix2 r b) = ∑ k : Fin 1024, (x (ix2 r k) * w (ix2 b k) : EReal) := by
  unfold_payloads
  pointwise

theorem out_at (x : Vec Ideal S2048x1024 .bf16) (w : Vec Ideal S1024x1024 .bf16) (r : Fin 2048) (b : Fin 1024) :
    out0_2 x w (ix2 r b) = ∑ k : Fin 1024, (x (ix2 r k) * w (ix2 b k) : EReal) := by
  frame_out
  exact pay_at x w r b

variable (m : (ℓ : Loc nD τ sig) → Buf (Elt Ideal) ℓ) (c : Dev nD)

abbrev aX : S8192x1024.Idx → EReal := m ((c.tc : Thread nD τ).loc main_arg0)
abbrev aW : S2048x1024.Idx → EReal := m ((c.tc : Thread nD τ).loc main_arg1)

theorem idx0 : ∀ t : Fin grid0.N, win0_0.index t = ![t.val / 2, 0] := by decide +kernel
theorem idx1 : ∀ t : Fin grid0.N, win0_1.index t = ![t.val % 2, 0] := by decide +kernel
theorem idx2 : ∀ t : Fin grid0.N, win0_2.index t = ![t.val / 2, t.val % 2] := by decide +kernel

theorem blkX (t : Fin cfg0.N) (r : Fin 2048) (b : Fin 1024) (R : Fin 8192) (hR : (R : ℕ) = 2048 * (t.val / 2) + r.val) :
    iblk m c 0 t (ix2 r b) = aX m c (ix2 R b) := by
  blk_ext [iblk, V, idx0 t]
  all_goals simp [hR]

theorem blkW (t : Fin cfg0.N) (b : Fin 1024) (k : Fin 1024) (B : Fin 2048) (hB : (B : ℕ) = 1024 * (t.val % 2) + b.val) :
    iblk m c 1 t (ix2 b k) = aW m c (ix2 B k) := by
  blk_ext [iblk, V, idx1 t]
  all_goals simp [hB]

theorem block_sum (t : Fin cfg0.N) (r : Fin 2048) (b : Fin 1024) (R : Fin 8192) (B : Fin 2048) (hR : (R : ℕ) = 2048 * (t.val / 2) + r.val)
    (hB : (B : ℕ) = 1024 * (t.val % 2) + b.val) :
    out0_2 (iblk m c 0 t) (iblk m c 1 t) (ix2 r b) = ∑ k : Fin 1024, (aX m c (ix2 R k) * aW m c (ix2 B k) : EReal) := by
  rw [out_at]
  exact Finset.sum_congr rfl fun k _ => by rw [blkX m c t r k R hR, blkW m c t b k B hB]

theorem final : (dats m 0 c).arrAt 2 cfg0.N = fun y : S8192x2048.Idx => ∑ k : Fin 1024, (aX m c (ix2 (y 0) k) * aW m c (ix2 (y 1) k) : EReal) := by
  refine (dats m 0 c).arrAt_eq_of_covers 2 _ (by decide +kernel) fun t hf y => ?_
  blk_simp
  rw [after0_2]
  obtain ⟨r, b, rfl⟩ : ∃ (r : Fin 2048) (b : Fin 1024), y = ix2 r b := ⟨y 0, y 1, eq_ix2 y⟩
  have e0 : ((win0_2.blk t).view.emb (ix2 r b) 0 : ℕ) = 2048 * (t.val / 2) + r.val := by
    blk_simp [idx2 t]
    omega
  have e1 : ((win0_2.blk t).view.emb (ix2 r b) 1 : ℕ) = 1024 * (t.val % 2) + b.val := by
    blk_simp [idx2 t]
    try omega
  exact block_sum m c t r b _ _ e0 e1

end Cert.OdInIdeal.Hand

namespace Cert.OdInRefIdeal.Hand

open Cert.OdInRefIdeal Cert.OdInRefIdeal.Gen Cert.OdInRefIdeal.Read Idealize.ShloMosaic Idealize.ShloMosaic.TcCoe Idealize.SL.Sem

theorem ref_at (x0 : (⟨S8192x1024, .bf16⟩ : BufTy).Contents (Elt Ideal)) (x1 : (⟨S2048x1024, .bf16⟩ : BufTy).Contents (Elt Ideal)) (r : Fin 8192) (b : Fin 2048) :
    val_main_v3 x0 x1 (ix2 r b) = ∑ k : Fin 1024, (x0 (ix2 r k) * x1 (ix2 b k) : EReal) := by
  unfold val_main_v3 val_main_v2 val_main_v1 val_main_v0
  pointwise

end Cert.OdInRefIdeal.Hand

namespace Cert.Proof.OdIn

open Idealize.ShloMosaic Idealize.SL.Sem

theorem algebraic : Cert.algebraic_OdInIdeal_OdInRefIdeal := by
  pair_intro
  · run_from Cert.OdInIdeal.Value.run_blocks m g
  · refine (θ_run _ _ _).mono (fun r h c => ?_) (Cert.OdInRefIdeal.Value.run m' g')
    obtain ⟨e0, e1⟩ := hagree c
    refine ⟨(h c).1.trans ?_, (h c).2⟩
    · rw [Cert.OdInRefIdeal.Read.val_main_v3_eq, e0, e1, Cert.OdInIdeal.Hand.final m c]
      funext y
      obtain ⟨r, b, rfl⟩ : ∃ (r : Fin 8192) (b : Fin 2048), y = ix2 r b := ⟨y 0, y 1, eq_ix2 y⟩
      exact Cert.OdInRefIdeal.Hand.ref_at _ _ r b

theorem frame_p : Cert.quiescent_OdIn := fun m ρ _ => Cert.OdIn.Gen.frame m ρ
theorem frame_pi : Cert.quiescent_OdInIdeal := fun m ρ _ => Cert.OdInIdeal.Gen.frame m ρ
theorem frame_ri : Cert.quiescent_OdInRefIdeal := fun m ρ _ =>
  (θ_run Cert.OdInRefIdeal.defs _ _).mono (fun r h => ⟨fun c => (h c).2, sem_eq_zero_of_no_sems (by decide) r.2⟩)
    (Cert.OdInRefIdeal.Value.run (F := Ideal) m ρ)

end Cert.Proof.OdIn
end
-- ==== Proof.Calls.FfnUp.lean ====
/- The gated channel mixer's two projections and their gated product: each grid point's block, and the reference's. -/
module

public import proofs.«01_k».proof.Defs
public import proofs.«01_k».proof.Proof.Gen.FfnUp.Frame
public import proofs.«01_k».proof.Proof.Gen.FfnUpIdeal.Value
public import proofs.«01_k».proof.Proof.Gen.FfnUpRefIdeal.Run
public import proofs.«01_k».proof.Proof.Gen.FfnUpRefIdeal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Calls.Shared

@[expose] public section

set_option maxRecDepth 16384
noncomputable section

namespace Cert.FfnUpIdeal.Hand

open Cert.FfnUpIdeal Cert.FfnUpIdeal.Gen Idealize.ShloMosaic Idealize.ShloMosaic.TcCoe Idealize.SL.Sem
open Idealize.ShloMosaic.Pipeline (Dat)
open Cert.Step

/-- A projection: the rows of `x` against the rows of `w`. -/
abbrev Proj {n : ℕ} (x : (⟨2, ![n, 1024]⟩ : Shape).Idx → EReal) (w : S2816x1024.Idx → EReal) (r : Fin n) (j : Fin 2816) : EReal :=
  ∑ k : Fin 1024, (x (ix2 r k) * w (ix2 j k) : EReal)

theorem out3 (x0 : Vec Ideal S512x1024 .bf16) (x1 x2 : Vec Ideal S2816x1024 .bf16) (y : S512x2816.Idx) :
    out0_3 x0 x1 x2 y = Proj x0 x1 (y 0) (y 1) := by
  frame_out
  canon_tiles x h
  all_goals
    obtain ⟨r, b, rfl⟩ : ∃ (r : Fin 512) (b : Fin 256), x = ix2 r b := ⟨x 0, x 1, eq_ix2 x⟩
    obtain ⟨R, B, rfl⟩ : ∃ (R : Fin 512) (B : Fin 2816), y = ix2 R B := ⟨y 0, y 1, eq_ix2 y⟩
    obtain rfl : R = r := Fin.ext h0
    obtain ⟨B, hB⟩ := B
    first
      | change B = _ + b.val at h1
      | change B = b.val at h1
    subst h1
    unfold_payloads
    pointwise
    first | done | rfl

theorem out4 (x0 : Vec Ideal S512x1024 .bf16) (x1 x2 : Vec Ideal S2816x1024 .bf16) (y : S512x2816.Idx) :
    out0_4 x0 x1 x2 y = Proj x0 x2 (y 0) (y 1) := by
  frame_out
  canon_tiles x h
  all_goals
    obtain ⟨r, b, rfl⟩ : ∃ (r : Fin 512) (b : Fin 256), x = ix2 r b := ⟨x 0, x 1, eq_ix2 x⟩
    obtain ⟨R, B, rfl⟩ : ∃ (R : Fin 512) (B : Fin 2816), y = ix2 R B := ⟨y 0, y 1, eq_ix2 y⟩
    obtain rfl : R = r := Fin.ext h0
    obtain ⟨B, hB⟩ := B
    first
      | change B = _ + b.val at h1
      | change B = b.val at h1
    subst h1
    unfold_payloads
    pointwise
    first | done | rfl

theorem out5 (x0 : Vec Ideal S512x1024 .bf16) (x1 x2 : Vec Ideal S2816x1024 .bf16) (y : S512x2816.Idx) :
    out0_5 x0 x1 x2 y = Proj x0 x1 (y 0) (y 1) * logi (Proj x0 x1 (y 0) (y 1)) * Proj x0 x2 (y 0) (y 1) := by
  rw [← logi_half _ half32]
  frame_out
  canon_tiles x h
  all_goals
    obtain ⟨r, b, rfl⟩ : ∃ (r : Fin 512) (b : Fin 256), x = ix2 r b := ⟨x 0, x 1, eq_ix2 x⟩
    obtain ⟨R, B, rfl⟩ : ∃ (R : Fin 512) (B : Fin 2816), y = ix2 R B := ⟨y 0, y 1, eq_ix2 y⟩
    obtain rfl : R = r := Fin.ext h0
    obtain ⟨B, hB⟩ := B
    first
      | change B = _ + b.val at h1
      | change B = b.val at h1
    subst h1
    unfold_payloads
    pointwise
    first | done | rfl

variable (m : (ℓ : Loc nD τ sig) → Buf (Elt Ideal) ℓ) (c : Dev nD)

abbrev aX : S8192x1024.Idx → EReal := m ((c.tc : Thread nD τ).loc main_arg0)
abbrev aA : S2816x1024.Idx → EReal := m ((c.tc : Thread nD τ).loc main_arg1)
abbrev aB : S2816x1024.Idx → EReal := m ((c.tc : Thread nD τ).loc main_arg2)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![t.val, 0] := by decide +kernel
theorem idx4 : ∀ t : Fin grid0.N, win0_4.index t = ![t.val, 0] := by decide +kernel
theorem idx5 : ∀ t : Fin grid0.N, win0_5.index t = ![t.val, 0] := by decide +kernel

theorem blkX (t : Fin cfg0.N) (r : Fin 512) (b : Fin 1024) (R : Fin 8192) (hR : (R : ℕ) = 512 * t.val + r.val) :
    iblk m c 0 t (ix2 r b) = aX m c (ix2 R b) := by
  blk_ext [iblk, V, idx0 t]
  all_goals simp [hR]
theorem blkA (t : Fin cfg0.N) : iblk m c 1 t = aA m c := by
  funext y
  blk_ext [iblk, V, idx1 t]
theorem blkB (t : Fin cfg0.N) : iblk m c 2 t = aB m c := by
  funext y
  blk_ext [iblk, V, idx2 t]

theorem projA (t : Fin cfg0.N) (r : Fin 512) (j : Fin 2816) (R : Fin 8192) (hR : (R : ℕ) = 512 * t.val + r.val) :
    Proj (iblk m c 0 t) (iblk m c 1 t) r j = Proj (aX m c) (aA m c) R j := by
  rw [blkA]; exact Finset.sum_congr rfl fun k _ => by rw [blkX m c t r k R hR]
theorem projB (t : Fin cfg0.N) (r : Fin 512) (j : Fin 2816) (R : Fin 8192) (hR : (R : ℕ) = 512 * t.val + r.val) :
    Proj (iblk m c 0 t) (iblk m c 2 t) r j = Proj (aX m c) (aB m c) R j := by
  rw [blkB]; exact Finset.sum_congr rfl fun k _ => by rw [blkX m c t r k R hR]
theorem prod_blk (t : Fin cfg0.N) (r : Fin 512) (j : Fin 2816) (R : Fin 8192) (hR : (R : ℕ) = 512 * t.val + r.val) :
    Proj (iblk m c 0 t) (iblk m c 1 t) r j * logi (Proj (iblk m c 0 t) (iblk m c 1 t) r j) * Proj (iblk m c 0 t) (iblk m c 2 t) r j =
      Proj (aX m c) (aA m c) R j * logi (Proj (aX m c) (aA m c) R j) * Proj (aX m c) (aB m c) R j := by
  rw [projA m c t r j R hR, projB m c t r j R hR]

theorem final3 : (dats m 0 c).arrAt 3 cfg0.N = fun y : S8192x2816.Idx => Proj (aX m c) (aA m c) (y 0) (y 1) := by
  refine (dats m 0 c).arrAt_eq_of_covers 3 _ (by decide +kernel) fun t hf y => ?_
  blk_simp
  rw [after0_3, out3]
  have e0 : ((win0_3.blk t).view.emb y 0 : ℕ) = 512 * t.val + (y 0).val := by
    blk_simp [idx3 t]
    omega
  have e1 : (win0_3.blk t).view.emb y 1 = y 1 := by
    apply Fin.ext
    blk_simp [idx3 t]
  rw [e1]
  exact projA m c t _ _ _ e0

theorem final4 : (dats m 0 c).arrAt 4 cfg0.N = fun y : S8192x2816.Idx => Proj (aX m c) (aB m c) (y 0) (y 1) := by
  refine (dats m 0 c).arrAt_eq_of_covers 4 _ (by decide +kernel) fun t hf y => ?_
  blk_simp
  rw [after0_4, out4]
  have e0 : ((win0_4.blk t).view.emb y 0 : ℕ) = 512 * t.val + (y 0).val := by
    blk_simp [idx4 t]
    omega
  have e1 : (win0_4.blk t).view.emb y 1 = y 1 := by
    apply Fin.ext
    blk_simp [idx4 t]
  rw [e1]
  exact projB m c t _ _ _ e0

theorem final5 : (dats m 0 c).arrAt 5 cfg0.N = fun y : S8192x2816.Idx => Proj (aX m c) (aA m c) (y 0) (y 1) * logi (Proj (aX m c) (aA m c) (y 0) (y 1)) * Proj (aX m c) (aB m c) (y 0) (y 1) := by
  refine (dats m 0 c).arrAt_eq_of_covers 5 _ (by decide +kernel) fun t hf y => ?_
  blk_simp
  rw [after0_5, out5]
  have e0 : ((win0_5.blk t).view.emb y 0 : ℕ) = 512 * t.val + (y 0).val := by
    blk_simp [idx5 t]
    omega
  have e1 : (win0_5.blk t).view.emb y 1 = y 1 := by
    apply Fin.ext
    blk_simp [idx5 t]
  rw [e1]
  exact prod_blk m c t _ _ _ e0

end Cert.FfnUpIdeal.Hand

namespace Cert.FfnUpRefIdeal.Hand

open Cert.FfnUpRefIdeal Cert.FfnUpRefIdeal.Gen Cert.FfnUpRefIdeal.Read Idealize.ShloMosaic Idealize.ShloMosaic.TcCoe Idealize.SL.Sem Cert.Step
open Cert.FfnUpIdeal.Hand (Proj)

variable (x0 : (⟨S8192x1024, .bf16⟩ : BufTy).Contents (Elt Ideal)) (x1 x2 : (⟨S2816x1024, .bf16⟩ : BufTy).Contents (Elt Ideal)) (r : Fin 8192) (b : Fin 2816)

theorem v5_at : val_main_v5 x0 x1 (ix2 r b) = Proj x0 x1 r b := by
  unfold val_main_v5 val_main_v2 val_main_v3 val_main_v0
  pointwise
theorem v6_at : val_main_v6 x0 x2 (ix2 r b) = Proj x0 x2 r b := by
  unfold val_main_v6 val_main_v2 val_main_v4 val_main_v1
  pointwise
theorem v7_at : val_main_v7 x0 x1 (ix2 r b) = Proj x0 x1 r b := v5_at x0 x1 r b
theorem v8_at : val_main_v8 x0 x2 (ix2 r b) = Proj x0 x2 r b := v6_at x0 x2 r b
theorem v11_at : val_main_v11 x0 x1 x2 (ix2 r b) = Proj x0 x1 r b * logi (Proj x0 x1 r b) * Proj x0 x2 r b := by
  rw [← v5_at, ← v6_at]
  unfold val_main_v11 val_main_v10 val_main_v9 val_main_call0_v5 val_main_call0_v4 val_main_call0_cst_0 val_main_call0_v3 val_main_call0_v2 val_main_call0_cst val_main_call0_v1 val_main_call0_v0 logi
  generalize val_main_v5 x0 x1 = f
  generalize val_main_v6 x0 x2 = g
  pointwise

end Cert.FfnUpRefIdeal.Hand

namespace Cert.Proof.FfnUp

open Idealize.ShloMosaic Idealize.SL.Sem

theorem algebraic : Cert.algebraic_FfnUpIdeal_FfnUpRefIdeal := by
  pair_intro
  · run_from Cert.FfnUpIdeal.Value.run_blocks m g
  · refine (θ_run _ _ _).mono (fun r h c => ?_) (Cert.FfnUpRefIdeal.Value.run m' g')
    obtain ⟨e0, e1, e2⟩ := hagree c
    refine ⟨(h c).1.trans ?_, (h c).2.1.trans ?_, (h c).2.2.1.trans ?_, (h c).2.2.2⟩
    · rw [Cert.FfnUpRefIdeal.Read.val_main_v7_eq, e0, e1, Cert.FfnUpIdeal.Hand.final3 m c]
      funext y
      obtain ⟨r, b, rfl⟩ : ∃ (r : Fin 8192) (b : Fin 2816), y = ix2 r b := ⟨y 0, y 1, eq_ix2 y⟩
      exact Cert.FfnUpRefIdeal.Hand.v7_at _ _ r b
    · rw [Cert.FfnUpRefIdeal.Read.val_main_v8_eq, e0, e2, Cert.FfnUpIdeal.Hand.final4 m c]
      funext y
      obtain ⟨r, b, rfl⟩ : ∃ (r : Fin 8192) (b : Fin 2816), y = ix2 r b := ⟨y 0, y 1, eq_ix2 y⟩
      exact Cert.FfnUpRefIdeal.Hand.v8_at _ _ r b
    · rw [Cert.FfnUpRefIdeal.Read.val_main_v11_eq, e0, e1, e2, Cert.FfnUpIdeal.Hand.final5 m c]
      funext y
      obtain ⟨r, b, rfl⟩ : ∃ (r : Fin 8192) (b : Fin 2816), y = ix2 r b := ⟨y 0, y 1, eq_ix2 y⟩
      exact Cert.FfnUpRefIdeal.Hand.v11_at _ _ _ r b

theorem frame_p : Cert.quiescent_FfnUp := fun m ρ _ => Cert.FfnUp.Gen.frame m ρ
theorem frame_pi : Cert.quiescent_FfnUpIdeal := fun m ρ _ => Cert.FfnUpIdeal.Gen.frame m ρ
theorem frame_ri : Cert.quiescent_FfnUpRefIdeal := fun m ρ _ =>
  (θ_run Cert.FfnUpRefIdeal.defs _ _).mono (fun r h => ⟨fun c => (h c).2.2.2, sem_eq_zero_of_no_sems (by decide) r.2⟩)
    (Cert.FfnUpRefIdeal.Value.run (F := Ideal) m ρ)

end Cert.Proof.FfnUp
end
-- ==== Proof.Calls.FfnDown.lean ====
/- The channel mixer's output: the residual with the product added, and the result normalised for the next layer. -/
module

public import proofs.«01_k».proof.Defs
public import proofs.«01_k».proof.Proof.Gen.FfnDown.Frame
public import proofs.«01_k».proof.Proof.Gen.FfnDownIdeal.Value
public import proofs.«01_k».proof.Proof.Gen.FfnDownRefIdeal.Run
public import proofs.«01_k».proof.Proof.Gen.FfnDownRefIdeal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Calls.Rms

@[expose] public section

set_option maxRecDepth 16384
noncomputable section

namespace Cert.FfnDownIdeal.Hand

open Cert.FfnDownIdeal Cert.FfnDownIdeal.Gen Idealize.ShloMosaic Idealize.ShloMosaic.TcCoe Idealize.SL.Sem
open Idealize.ShloMosaic.Pipeline (Dat)
open Cert.Step

/-- One row of the residual with the product added. -/
abbrev H {n : ℕ} (x0 : (⟨2, ![n, 2816]⟩ : Shape).Idx → EReal) (x1 : S2816x1024.Idx → EReal) (x2 : (⟨2, ![n, 1024]⟩ : Shape).Idx → EReal) (r : Fin n) : Fin 1024 → EReal :=
  fun b => (∑ k : Fin 2816, (x0 (ix2 r k) * x1 (ix2 k b) : EReal)) + x2 (ix2 r b)
/-- The row normalised and scaled. -/
abbrev NR {n : ℕ} (x0 : (⟨2, ![n, 2816]⟩ : Shape).Idx → EReal) (x1 : S2816x1024.Idx → EReal) (x2 : (⟨2, ![n, 1024]⟩ : Shape).Idx → EReal) (x3 : S1x1024.Idx → EReal) (r : Fin n) (j : Fin 1024) : EReal :=
  (H x0 x1 x2 r j * rin (H x0 x1 x2 r)) * x3 (ix2 0 j)

theorem out4 (x0 : Vec Ideal S1024x2816 .bf16) (x1 : Vec Ideal S2816x1024 .bf16) (x2 : Vec Ideal S1024x1024 .f32) (x3 : Vec Ideal S1x1024 .f32) (y : S1024x1024.Idx) : out0_4 x0 x1 x2 x3 y = H x0 x1 x2 (y 0) (y 1) := by
  frame_out
  canon_tiles x h
  all_goals
    obtain ⟨r, b, rfl⟩ : ∃ (r : Fin 256) (b : Fin 1024), x = ix2 r b := ⟨x 0, x 1, eq_ix2 x⟩
    obtain ⟨R, B, rfl⟩ : ∃ (R : Fin 1024) (B : Fin 1024), y = ix2 R B := ⟨y 0, y 1, eq_ix2 y⟩
    obtain rfl : B = b := Fin.ext h1
    obtain ⟨R, hR⟩ := R
    first
      | change R = _ + r.val at h0
      | change R = r.val at h0
    subst h0
    unfold_payloads
    pointwise
    first | done | rfl

theorem out5 (x0 : Vec Ideal S1024x2816 .bf16) (x1 : Vec Ideal S2816x1024 .bf16) (x2 : Vec Ideal S1024x1024 .f32) (x3 : Vec Ideal S1x1024 .f32) (y : S1024x1024.Idx) : out0_5 x0 x1 x2 x3 y = NR x0 x1 x2 x3 (y 0) (y 1) := by
  frame_out
  canon_tiles x h
  all_goals
    obtain ⟨r, b, rfl⟩ : ∃ (r : Fin 256) (b : Fin 1024), x = ix2 r b := ⟨x 0, x 1, eq_ix2 x⟩
    obtain ⟨R, B, rfl⟩ : ∃ (R : Fin 1024) (B : Fin 1024), y = ix2 R B := ⟨y 0, y 1, eq_ix2 y⟩
    obtain rfl : B = b := Fin.ext h1
    obtain ⟨R, hR⟩ := R
    first
      | change R = _ + r.val at h0
      | change R = r.val at h0
    subst h0
    unfold_payloads
    pointwise
    first | done | rfl

variable (m : (ℓ : Loc nD τ sig) → Buf (Elt Ideal) ℓ) (c : Dev nD)

abbrev a0 : S8192x2816.Idx → EReal := m ((c.tc : Thread nD τ).loc main_arg0)
abbrev a1 : S2816x1024.Idx → EReal := m ((c.tc : Thread nD τ).loc main_arg1)
abbrev a2 : S8192x1024.Idx → EReal := m ((c.tc : Thread nD τ).loc main_arg2)
abbrev a3 : S1x1024.Idx → EReal := m ((c.tc : Thread nD τ).loc main_arg3)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel
theorem blk0 (t : Fin cfg0.N) (r : Fin 1024) (b : Fin 2816) (R : Fin 8192) (hR : (R : ℕ) = 1024 * t.val + r.val) :
    iblk m c 0 t (ix2 r b) = a0 m c (ix2 R b) := by
  blk_ext [iblk, V, idx0 t]
  all_goals simp [hR]
theorem blk2 (t : Fin cfg0.N) (r : Fin 1024) (b : Fin 1024) (R : Fin 8192) (hR : (R : ℕ) = 1024 * t.val + r.val) :
    iblk m c 2 t (ix2 r b) = a2 m c (ix2 R b) := by
  blk_ext [iblk, V, idx2 t]
  all_goals simp [hR]
theorem blk1 (t : Fin cfg0.N) : iblk m c 1 t = a1 m c := by
  funext y
  blk_ext [iblk, V, idx1 t]
theorem blk3 (t : Fin cfg0.N) : iblk m c 3 t = a3 m c := by
  funext y
  blk_ext [iblk, V, idx3 t]

section rows
variable (t : Fin cfg0.N) (r : Fin 1024) (R : Fin 8192) (hR : (R : ℕ) = 1024 * t.val + r.val)
include hR
theorem h_blk : H (iblk m c 0 t) (iblk m c 1 t) (iblk m c 2 t) r = H (a0 m c) (a1 m c) (a2 m c) R := by
  funext b
  rw [blk1]
  exact congrArg₂ (· + ·) (Finset.sum_congr rfl fun k _ => by rw [blk0 m c t r k R hR]) (blk2 m c t r b R hR)
theorem n_blk (j : Fin 1024) : NR (iblk m c 0 t) (iblk m c 1 t) (iblk m c 2 t) (iblk m c 3 t) r j = NR (a0 m c) (a1 m c) (a2 m c) (a3 m c) R j := by
  unfold NR; rw [h_blk m c t r R hR, blk3]
end rows

theorem final4 : (dats m 0 c).arrAt 4 cfg0.N = fun y : S8192x1024.Idx => H (a0 m c) (a1 m c) (a2 m c) (y 0) (y 1) := by
  refine (dats m 0 c).arrAt_eq_of_covers 4 _ (by decide +kernel) fun t hf y => ?_
  blk_simp
  rw [after0_4, out4]
  have e0 : ((win0_4.blk t).view.emb y 0 : ℕ) = 1024 * t.val + (y 0).val := by
    blk_simp [idx4 t]
    omega
  have e1 : (win0_4.blk t).view.emb y 1 = y 1 := by
    apply Fin.ext
    blk_simp [idx4 t]
  rw [e1]
  exact congrFun (h_blk m c t _ _ e0) _

theorem final5 : (dats m 0 c).arrAt 5 cfg0.N = fun y : S8192x1024.Idx => NR (a0 m c) (a1 m c) (a2 m c) (a3 m c) (y 0) (y 1) := by
  refine (dats m 0 c).arrAt_eq_of_covers 5 _ (by decide +kernel) fun t hf y => ?_
  blk_simp
  rw [after0_5, out5]
  have e0 : ((win0_5.blk t).view.emb y 0 : ℕ) = 1024 * t.val + (y 0).val := by
    blk_simp [idx5 t]
    omega
  have e1 : (win0_5.blk t).view.emb y 1 = y 1 := by
    apply Fin.ext
    blk_simp [idx5 t]
  rw [e1]
  exact n_blk m c t _ _ e0 _

end Cert.FfnDownIdeal.Hand

namespace Cert.FfnDownRefIdeal.Hand

open Cert.FfnDownRefIdeal Cert.FfnDownRefIdeal.Gen Cert.FfnDownRefIdeal.Read Idealize.ShloMosaic Idealize.ShloMosaic.TcCoe Idealize.SL.Sem Cert.Step
open Cert.FfnDownIdeal.Hand (H NR)

variable (x0 : (⟨S8192x2816, .bf16⟩ : BufTy).Contents (Elt Ideal)) (x1 : (⟨S2816x1024, .bf16⟩ : BufTy).Contents (Elt Ideal)) (x2 : (⟨S8192x1024, .f32⟩ : BufTy).Contents (Elt Ideal))
  (x3 : (⟨S1x1024, .f32⟩ : BufTy).Contents (Elt Ideal)) (r : Fin 8192) (j : Fin 1024)

theorem h_at : val_main_v3 x0 x1 x2 (ix2 r j) = H x0 x1 x2 r j := by
  unfold val_main_v3 val_main_v2 val_main_v1 val_main_v0
  pointwise
  exact add_comm _ _
theorem rin_at : val_main_v11 x0 x1 x2 (ix2 r 0) = rin (H x0 x1 x2 r) := by
  have e : H x0 x1 x2 r = fun b => val_main_v3 x0 x1 x2 (ix2 r b) := funext fun b => (h_at x0 x1 x2 r b).symm
  rw [e]
  unfold val_main_v11 val_main_v10 val_main_v9 val_main_v8 val_main_v7 val_main_v6 val_main_v5 val_main_v4 val_main_cst_1 val_main_cst_0 val_main_cst
  generalize val_main_v3 x0 x1 x2 = f
  pointwise
  first | done | rfl
theorem n_at : val_main_v16 x0 x1 x2 x3 (ix2 r j) = NR x0 x1 x2 x3 r j := by
  unfold NR
  rw [← rin_at, ← h_at]
  unfold val_main_v16 val_main_v15 val_main_v14 val_main_v13 val_main_v12
  generalize val_main_v11 x0 x1 x2 = f
  generalize val_main_v3 x0 x1 x2 = f3
  pointwise

end Cert.FfnDownRefIdeal.Hand

namespace Cert.Proof.FfnDown

open Idealize.ShloMosaic Idealize.SL.Sem

theorem algebraic : Cert.algebraic_FfnDownIdeal_FfnDownRefIdeal := by
  pair_intro
  · run_from Cert.FfnDownIdeal.Value.run_blocks m g
  · refine (θ_run _ _ _).mono (fun r h c => ?_) (Cert.FfnDownRefIdeal.Value.run m' g')
    obtain ⟨e0, e1, e2, e3⟩ := hagree c
    refine ⟨(h c).1.trans ?_, (h c).2.1.trans ?_, (h c).2.2⟩
    · rw [Cert.FfnDownRefIdeal.Read.val_main_v3_eq, e0, e1, e2, Cert.FfnDownIdeal.Hand.final4 m c]
      funext y
      obtain ⟨r, b, rfl⟩ : ∃ (r : Fin 8192) (b : Fin 1024), y = ix2 r b := ⟨y 0, y 1, eq_ix2 y⟩
      exact Cert.FfnDownRefIdeal.Hand.h_at _ _ _ r b
    · rw [Cert.FfnDownRefIdeal.Read.val_main_v16_eq, e0, e1, e2, e3, Cert.FfnDownIdeal.Hand.final5 m c]
      funext y
      obtain ⟨r, b, rfl⟩ : ∃ (r : Fin 8192) (b : Fin 1024), y = ix2 r b := ⟨y 0, y 1, eq_ix2 y⟩
      exact Cert.FfnDownRefIdeal.Hand.n_at _ _ _ _ r b

theorem frame_p : Cert.quiescent_FfnDown := fun m ρ _ => Cert.FfnDown.Gen.frame m ρ
theorem frame_pi : Cert.quiescent_FfnDownIdeal := fun m ρ _ => Cert.FfnDownIdeal.Gen.frame m ρ
theorem frame_ri : Cert.quiescent_FfnDownRefIdeal := fun m ρ _ =>
  (θ_run Cert.FfnDownRefIdeal.defs _ _).mono (fun r h => ⟨fun c => (h c).2.2, sem_eq_zero_of_no_sems (by decide) r.2⟩)
    (Cert.FfnDownRefIdeal.Value.run (F := Ideal) m ρ)

end Cert.Proof.FfnDown
end
-- ==== Proof.Calls.XaO.lean ====
/- An output projection: the residual with the product added, and the result normalised for the next layer. -/
module

public import proofs.«01_k».proof.Defs
public import proofs.«01_k».proof.Proof.Gen.XaO.Frame
public import proofs.«01_k».proof.Proof.Gen.XaOIdeal.Value
public import proofs.«01_k».proof.Proof.Gen.XaORefIdeal.Run
public import proofs.«01_k».proof.Proof.Gen.XaORefIdeal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Calls.Rms

@[expose] public section

set_option maxRecDepth 16384
noncomputable section

namespace Cert.XaOIdeal.Hand

open Cert.XaOIdeal Cert.XaOIdeal.Gen Idealize.ShloMosaic Idealize.ShloMosaic.TcCoe Idealize.SL.Sem
open Idealize.ShloMosaic.Pipeline (Dat)
open Cert.Step

/-- One row of the residual with the product added. -/
abbrev H {n : ℕ} (x0 : (⟨2, ![n, 1024]⟩ : Shape).Idx → EReal) (x1 : S1024x1024.Idx → EReal) (x2 : (⟨2, ![n, 1024]⟩ : Shape).Idx → EReal) (r : Fin n) : Fin 1024 → EReal :=
  fun b => (∑ k : Fin 1024, (x0 (ix2 r k) * x1 (ix2 k b) : EReal)) + x2 (ix2 r b)
/-- The row normalised and scaled. -/
abbrev NR {n : ℕ} (x0 : (⟨2, ![n, 1024]⟩ : Shape).Idx → EReal) (x1 : S1024x1024.Idx → EReal) (x2 : (⟨2, ![n, 1024]⟩ : Shape).Idx → EReal) (x3 : S1x1024.Idx → EReal) (r : Fin n) (j : Fin 1024) : EReal :=
  (H x0 x1 x2 r j * rin (H x0 x1 x2 r)) * x3 (ix2 0 j)

theorem out4 (x0 : Vec Ideal S2048x1024 .bf16) (x1 : Vec Ideal S1024x1024 .bf16) (x2 : Vec Ideal S2048x1024 .f32) (x3 : Vec Ideal S1x1024 .f32) (y : S2048x1024.Idx) : out0_4 x0 x1 x2 x3 y = H x0 x1 x2 (y 0) (y 1) := by
  frame_out
  canon_tiles x h
  all_goals
    obtain ⟨r, b, rfl⟩ : ∃ (r : Fin 256) (b : Fin 1024), x = ix2 r b := ⟨x 0, x 1, eq_ix2 x⟩
    obtain ⟨R, B, rfl⟩ : ∃ (R : Fin 2048) (B : Fin 1024), y = ix2 R B := ⟨y 0, y 1, eq_ix2 y⟩
    obtain rfl : B = b := Fin.ext h1
    obtain ⟨R, hR⟩ := R
    first
      | change R = _ + r.val at h0
      | change R = r.val at h0
    subst h0
    unfold_payloads
    pointwise
    first | done | rfl

theorem out5 (x0 : Vec Ideal S2048x1024 .bf16) (x1 : Vec Ideal S1024x1024 .bf16) (x2 : Vec Ideal S2048x1024 .f32) (x3 : Vec Ideal S1x1024 .f32) (y : S2048x1024.Idx) : out0_5 x0 x1 x2 x3 y = NR x0 x1 x2 x3 (y 0) (y 1) := by
  frame_out
  canon_tiles x h
  all_goals
    obtain ⟨r, b, rfl⟩ : ∃ (r : Fin 256) (b : Fin 1024), x = ix2 r b := ⟨x 0, x 1, eq_ix2 x⟩
    obtain ⟨R, B, rfl⟩ : ∃ (R : Fin 2048) (B : Fin 1024), y = ix2 R B := ⟨y 0, y 1, eq_ix2 y⟩
    obtain rfl : B = b := Fin.ext h1
    obtain ⟨R, hR⟩ := R
    first
      | change R = _ + r.val at h0
      | change R = r.val at h0
    subst h0
    unfold_payloads
    pointwise
    first | done | rfl

variable (m : (ℓ : Loc nD τ sig) → Buf (Elt Ideal) ℓ) (c : Dev nD)

abbrev a0 : S8192x1024.Idx → EReal := m ((c.tc : Thread nD τ).loc main_arg0)
abbrev a1 : S1024x1024.Idx → EReal := m ((c.tc : Thread nD τ).loc main_arg1)
abbrev a2 : S8192x1024.Idx → EReal := m ((c.tc : Thread nD τ).loc main_arg2)
abbrev a3 : S1x1024.Idx → EReal := m ((c.tc : Thread nD τ).loc main_arg3)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![t.val, 0] := by decide +kernel
theorem blk0 (t : Fin cfg0.N) (r : Fin 2048) (b : Fin 1024) (R : Fin 8192) (hR : (R : ℕ) = 2048 * t.val + r.val) :
    iblk m c 0 t (ix2 r b) = a0 m c (ix2 R b) := by
  blk_ext [iblk, V, idx0 t]
  all_goals simp [hR]
theorem blk2 (t : Fin cfg0.N) (r : Fin 2048) (b : Fin 1024) (R : Fin 8192) (hR : (R : ℕ) = 2048 * t.val + r.val) :
    iblk m c 2 t (ix2 r b) = a2 m c (ix2 R b) := by
  blk_ext [iblk, V, idx2 t]
  all_goals simp [hR]
theorem blk1 (t : Fin cfg0.N) : iblk m c 1 t = a1 m c := by
  funext y
  blk_ext [iblk, V, idx1 t]
theorem blk3 (t : Fin cfg0.N) : iblk m c 3 t = a3 m c := by
  funext y
  blk_ext [iblk, V, idx3 t]

section rows
variable (t : Fin cfg0.N) (r : Fin 2048) (R : Fin 8192) (hR : (R : ℕ) = 2048 * t.val + r.val)
include hR
theorem h_blk : H (iblk m c 0 t) (iblk m c 1 t) (iblk m c 2 t) r = H (a0 m c) (a1 m c) (a2 m c) R := by
  funext b
  rw [blk1]
  exact congrArg₂ (· + ·) (Finset.sum_congr rfl fun k _ => by rw [blk0 m c t r k R hR]) (blk2 m c t r b R hR)
theorem n_blk (j : Fin 1024) : NR (iblk m c 0 t) (iblk m c 1 t) (iblk m c 2 t) (iblk m c 3 t) r j = NR (a0 m c) (a1 m c) (a2 m c) (a3 m c) R j := by
  unfold NR; rw [h_blk m c t r R hR, blk3]
end rows

theorem final4 : (dats m 0 c).arrAt 4 cfg0.N = fun y : S8192x1024.Idx => H (a0 m c) (a1 m c) (a2 m c) (y 0) (y 1) := by
  refine (dats m 0 c).arrAt_eq_of_covers 4 _ (by decide +kernel) fun t hf y => ?_
  blk_simp
  rw [after0_4, out4]
  have e0 : ((win0_4.blk t).view.emb y 0 : ℕ) = 2048 * t.val + (y 0).val := by
    blk_simp [idx4 t]
    omega
  have e1 : (win0_4.blk t).view.emb y 1 = y 1 := by
    apply Fin.ext
    blk_simp [idx4 t]
  rw [e1]
  exact congrFun (h_blk m c t _ _ e0) _

theorem final5 : (dats m 0 c).arrAt 5 cfg0.N = fun y : S8192x1024.Idx => NR (a0 m c) (a1 m c) (a2 m c) (a3 m c) (y 0) (y 1) := by
  refine (dats m 0 c).arrAt_eq_of_covers 5 _ (by decide +kernel) fun t hf y => ?_
  blk_simp
  rw [after0_5, out5]
  have e0 : ((win0_5.blk t).view.emb y 0 : ℕ) = 2048 * t.val + (y 0).val := by
    blk_simp [idx5 t]
    omega
  have e1 : (win0_5.blk t).view.emb y 1 = y 1 := by
    apply Fin.ext
    blk_simp [idx5 t]
  rw [e1]
  exact n_blk m c t _ _ e0 _

end Cert.XaOIdeal.Hand

namespace Cert.XaORefIdeal.Hand

open Cert.XaORefIdeal Cert.XaORefIdeal.Gen Cert.XaORefIdeal.Read Idealize.ShloMosaic Idealize.ShloMosaic.TcCoe Idealize.SL.Sem Cert.Step
open Cert.XaOIdeal.Hand (H NR)

variable (x0 : (⟨S8192x1024, .bf16⟩ : BufTy).Contents (Elt Ideal)) (x1 : (⟨S1024x1024, .bf16⟩ : BufTy).Contents (Elt Ideal)) (x2 : (⟨S8192x1024, .f32⟩ : BufTy).Contents (Elt Ideal))
  (x3 : (⟨S1x1024, .f32⟩ : BufTy).Contents (Elt Ideal)) (r : Fin 8192) (j : Fin 1024)

theorem h_at : val_main_v3 x0 x1 x2 (ix2 r j) = H x0 x1 x2 r j := by
  unfold val_main_v3 val_main_v2 val_main_v1 val_main_v0
  pointwise
  exact add_comm _ _
theorem rin_at : val_main_v11 x0 x1 x2 (ix2 r 0) = rin (H x0 x1 x2 r) := by
  have e : H x0 x1 x2 r = fun b => val_main_v3 x0 x1 x2 (ix2 r b) := funext fun b => (h_at x0 x1 x2 r b).symm
  rw [e]
  unfold val_main_v11 val_main_v10 val_main_v9 val_main_v8 val_main_v7 val_main_v6 val_main_v5 val_main_v4 val_main_cst_1 val_main_cst_0 val_main_cst
  generalize val_main_v3 x0 x1 x2 = f
  pointwise
  first | done | rfl
theorem n_at : val_main_v16 x0 x1 x2 x3 (ix2 r j) = NR x0 x1 x2 x3 r j := by
  unfold NR
  rw [← rin_at, ← h_at]
  unfold val_main_v16 val_main_v15 val_main_v14 val_main_v13 val_main_v12
  generalize val_main_v11 x0 x1 x2 = f
  generalize val_main_v3 x0 x1 x2 = f3
  pointwise

end Cert.XaORefIdeal.Hand

namespace Cert.Proof.XaO

open Idealize.ShloMosaic Idealize.SL.Sem

theorem algebraic : Cert.algebraic_XaOIdeal_XaORefIdeal := by
  pair_intro
  · run_from Cert.XaOIdeal.Value.run_blocks m g
  · refine (θ_run _ _ _).mono (fun r h c => ?_) (Cert.XaORefIdeal.Value.run m' g')
    obtain ⟨e0, e1, e2, e3⟩ := hagree c
    refine ⟨(h c).1.trans ?_, (h c).2.1.trans ?_, (h c).2.2⟩
    · rw [Cert.XaORefIdeal.Read.val_main_v3_eq, e0, e1, e2, Cert.XaOIdeal.Hand.final4 m c]
      funext y
      obtain ⟨r, b, rfl⟩ : ∃ (r : Fin 8192) (b : Fin 1024), y = ix2 r b := ⟨y 0, y 1, eq_ix2 y⟩
      exact Cert.XaORefIdeal.Hand.h_at _ _ _ r b
    · rw [Cert.XaORefIdeal.Read.val_main_v16_eq, e0, e1, e2, e3, Cert.XaOIdeal.Hand.final5 m c]
      funext y
      obtain ⟨r, b, rfl⟩ : ∃ (r : Fin 8192) (b : Fin 1024), y = ix2 r b := ⟨y 0, y 1, eq_ix2 y⟩
      exact Cert.XaORefIdeal.Hand.n_at _ _ _ _ r b

theorem frame_p : Cert.quiescent_XaO := fun m ρ _ => Cert.XaO.Gen.frame m ρ
theorem frame_pi : Cert.quiescent_XaOIdeal := fun m ρ _ => Cert.XaOIdeal.Gen.frame m ρ
theorem frame_ri : Cert.quiescent_XaORefIdeal := fun m ρ _ =>
  (θ_run Cert.XaORefIdeal.defs _ _).mono (fun r h => ⟨fun c => (h c).2.2, sem_eq_zero_of_no_sems (by decide) r.2⟩)
    (Cert.XaORefIdeal.Value.run (F := Ideal) m ρ)

end Cert.Proof.XaO
end
-- ==== Proof.Calls.FfnLoss.lean ====
/- The channel mixer's last output, the loss of one device and its gradient: the loss, the gradient of the last hidden rows and that of the last norm's scale. -/
module

public import proofs.«01_k».proof.Defs
public import proofs.«01_k».proof.Proof.Gen.FfnLoss.Frame
public import proofs.«01_k».proof.Proof.Gen.FfnLossIdeal.Value
public import proofs.«01_k».proof.Proof.Gen.FfnLossRefIdeal.Run
public import proofs.«01_k».proof.Proof.Gen.FfnLossRefIdeal.Read
public import Idealize.ShloMosaic.Lib.Pipeline.ValueKit
public import Idealize.ShloMosaic.Lib.Pipeline.ReadBack
public import Idealize.ShloMosaic.Lib.Pointwise
public import Idealize.ShloMosaic.Lib.Claim
public import proofs.«01_k».proof.Proof.Calls.Rms

@[expose] public section

set_option maxRecDepth 16384
noncomputable section

namespace Cert.FfnLossIdeal.Hand

open Cert.FfnLossIdeal Cert.FfnLossIdeal.Gen Idealize.ShloMosaic Idealize.ShloMosaic.TcCoe Idealize.SL.Sem
open Idealize.ShloMosaic.Pipeline (Dat)
open Cert.Step

/-- One over the row length, and half of it, as the kernel writes them. -/
abbrev c1 : EReal := Ideal.ofBits .f32 0x3A800000#32
abbrev c2 : EReal := Ideal.ofBits .f32 0x3A000000#32
theorem c1_eq : c1 = ((1 / 1024 : ℝ) : EReal) := by
  simp [c1, Ideal.ofBits, Ideal.ieee, -EReal.coe_mul]; norm_num
theorem c2_eq : c2 = ((1 / 2048 : ℝ) : EReal) := by
  simp [c2, Ideal.ofBits, Ideal.ieee, -EReal.coe_mul]; norm_num

/-- One row of the residual with the product added. -/
abbrev H {n : ℕ} (x0 : (⟨2, ![n, 2816]⟩ : Shape).Idx → EReal) (x1 : S2816x1024.Idx → EReal) (x2 : (⟨2, ![n, 1024]⟩ : Shape).Idx → EReal) (r : Fin n) : Fin 1024 → EReal :=
  fun b => (∑ k : Fin 2816, (x0 (ix2 r k) * x1 (ix2 k b) : EReal)) + x2 (ix2 r b)
/-- The row's error: the normalised and scaled row less the target. -/
abbrev E {n : ℕ} (x0 : (⟨2, ![n, 2816]⟩ : Shape).Idx → EReal) (x1 : S2816x1024.Idx → EReal) (x2 : (⟨2, ![n, 1024]⟩ : Shape).Idx → EReal) (x3 : S1x1024.Idx → EReal) (x4 : (⟨2, ![n, 1024]⟩ : Shape).Idx → EReal) (r : Fin n) : Fin 1024 → EReal :=
  fun j => (H x0 x1 x2 r j * rin (H x0 x1 x2 r)) * x3 (ix2 0 j) - x4 (ix2 r j)
/-- The gradient of the scaled row. -/
abbrev DY {n : ℕ} (x0 : (⟨2, ![n, 2816]⟩ : Shape).Idx → EReal) (x1 : S2816x1024.Idx → EReal) (x2 : (⟨2, ![n, 1024]⟩ : Shape).Idx → EReal) (x3 : S1x1024.Idx → EReal) (x4 : (⟨2, ![n, 1024]⟩ : Shape).Idx → EReal) (r : Fin n) : Fin 1024 → EReal := fun j => E x0 x1 x2 x3 x4 r j * c1
/-- The gradient of the row. -/
abbrev DX {n : ℕ} (x0 : (⟨2, ![n, 2816]⟩ : Shape).Idx → EReal) (x1 : S2816x1024.Idx → EReal) (x2 : (⟨2, ![n, 1024]⟩ : Shape).Idx → EReal) (x3 : S1x1024.Idx → EReal) (x4 : (⟨2, ![n, 1024]⟩ : Shape).Idx → EReal) (r : Fin n) (j : Fin 1024) : EReal := rmsK (H x0 x1 x2 r) (Row x3 0) (DY x0 x1 x2 x3 x4 r) (fun _ => 0) j
/-- What the row adds to the scale's gradient. -/
abbrev DG {n : ℕ} (x0 : (⟨2, ![n, 2816]⟩ : Shape).Idx → EReal) (x1 : S2816x1024.Idx → EReal) (x2 : (⟨2, ![n, 1024]⟩ : Shape).Idx → EReal) (x3 : S1x1024.Idx → EReal) (x4 : (⟨2, ![n, 1024]⟩ : Shape).Idx → EReal) (r : Fin n) (j : Fin 1024) : EReal := DY x0 x1 x2 x3 x4 r j * (H x0 x1 x2 r j * rin (H x0 x1 x2 r))
/-- What the row adds to the loss. -/
abbrev LS {n : ℕ} (x0 : (⟨2, ![n, 2816]⟩ : Shape).Idx → EReal) (x1 : S2816x1024.Idx → EReal) (x2 : (⟨2, ![n, 1024]⟩ : Shape).Idx → EReal) (x3 : S1x1024.Idx → EReal) (x4 : (⟨2, ![n, 1024]⟩ : Shape).Idx → EReal) (r : Fin n) : EReal := (∑ k : Fin 1024, E x0 x1 x2 x3 x4 r k * E x0 x1 x2 x3 x4 r k) * c2

/-- The rows' squares summed column by column and scaled, and row by row. -/
theorem chunk_loss (f : Fin 256 → Fin 1024 → EReal) : (∑ k, ∑ r, f r k) * c2 = ∑ r, (∑ k, f r k) * c2 := by
  rw [Finset.sum_comm, c2_eq, sum_mul_nonneg _ _ (by norm_num)]

section points
variable (c : Dev nD) (i : grid0.Coords) (arg2 : Memref sig .tc .vmem S1024x2816 .bf16) (harg2 : arg2.IsWhole) (arg3 : Memref sig .tc .vmem S2816x1024 .bf16) (harg3 : arg3.IsWhole) (arg4 : Memref sig .tc .vmem S1024x1024 .f32) (harg4 : arg4.IsWhole) (arg5 : Memref sig .tc .vmem S1x1024 .f32) (harg5 : arg5.IsWhole) (arg6 : Memref sig .tc .vmem S1024x1024 .f32) (harg6 : arg6.IsWhole) (arg7 : Memref sig .tc .vmem S1x128 .f32) (harg7 : arg7.IsWhole) (arg8 : Memref sig .tc .vmem S1024x1024 .f32) (harg8 : arg8.IsWhole) (arg9 : Memref sig .tc .vmem S1x1024 .f32) (harg9 : arg9.IsWhole)
  (x0 : Vec Ideal S1024x2816 .bf16) (x1 : Vec Ideal S2816x1024 .bf16) (x2 : Vec Ideal S1024x1024 .f32) (x3 : Vec Ideal S1x1024 .f32) (x4 : Vec Ideal S1024x1024 .f32) (xo5 : Vec Ideal S1x128 .f32) (xo7 : Vec Ideal S1x1024 .f32)

theorem loss_A (hc0 : cond0_0 i) (b : Fin 128) :
    out0_A_5 c i arg2 harg2 arg3 harg3 arg4 harg4 arg5 harg5 arg6 harg6 arg7 harg7 arg8 harg8 arg9 harg9 hc0 x0 x1 x2 x3 x4 (ix2 0 b) = (0 : EReal) + ∑ r : Fin 1024, LS x0 x1 x2 x3 x4 r := by
  rw [← sum_four]
  frame_open
  simp (disch := decide) only [↓ View.readCov_skip, ↓ View.readCov_cons_toLoadRect, ↓ View.readCov_fill]
  frame_out
  unfold_payloads
  pointwise
  simp only [chunk_loss]
  first | done | rfl

theorem dx_A (hc0 : cond0_0 i) (y : S1024x1024.Idx) :
    out0_A_6 c i arg2 harg2 arg3 harg3 arg4 harg4 arg5 harg5 arg6 harg6 arg7 harg7 arg8 harg8 arg9 harg9 hc0 x0 x1 x2 x3 x4 y = DX x0 x1 x2 x3 x4 (y 0) (y 1) := by
  frame_out
  canon_tiles x h
  all_goals
    obtain ⟨r, b, rfl⟩ : ∃ (r : Fin 256) (b : Fin 1024), x = ix2 r b := ⟨x 0, x 1, eq_ix2 x⟩
    obtain ⟨R, B, rfl⟩ : ∃ (R : Fin 1024) (B : Fin 1024), y = ix2 R B := ⟨y 0, y 1, eq_ix2 y⟩
    obtain rfl : B = b := Fin.ext h1
    obtain ⟨R, hR⟩ := R
    first
      | change R = _ + r.val at h0
      | change R = r.val at h0
    subst h0
    unfold_payloads
    pointwise
    first | done | exact (add_zero _).symm

theorem dg_A (hc0 : cond0_0 i) (j : Fin 1024) :
    out0_A_7 c i arg2 harg2 arg3 harg3 arg4 harg4 arg5 harg5 arg6 harg6 arg7 harg7 arg8 harg8 arg9 harg9 hc0 x0 x1 x2 x3 x4 (ix2 0 j) = (0 : EReal) + ∑ r : Fin 1024, DG x0 x1 x2 x3 x4 r j := by
  rw [← sum_four]
  frame_open
  simp (disch := decide) only [↓ View.readCov_skip, ↓ View.readCov_cons_toLoadRect, ↓ View.readCov_fill]
  frame_out
  unfold_payloads
  pointwise
  first | done | rfl

theorem loss_B (hc0 : ¬cond0_0 i) (b : Fin 128) :
    out0_B_5 c i arg2 harg2 arg3 harg3 arg4 harg4 arg5 harg5 arg6 harg6 arg7 harg7 arg8 harg8 arg9 harg9 hc0 x0 x1 x2 x3 x4 xo5 xo7 (ix2 0 b) = xo5 (ix2 0 b) + ∑ r : Fin 1024, LS x0 x1 x2 x3 x4 r := by
  rw [← sum_four]
  frame_open
  simp (disch := decide) only [↓ View.readCov_skip, ↓ View.readCov_cons_toLoadRect, ↓ View.readCov_fill]
  frame_out
  unfold_payloads
  pointwise
  simp only [chunk_loss]
  first | done | rfl

theorem dx_B (hc0 : ¬cond0_0 i) (y : S1024x1024.Idx) :
    out0_B_6 c i arg2 harg2 arg3 harg3 arg4 harg4 arg5 harg5 arg6 harg6 arg7 harg7 arg8 harg8 arg9 harg9 hc0 x0 x1 x2 x3 x4 xo5 xo7 y = DX x0 x1 x2 x3 x4 (y 0) (y 1) := by
  frame_out
  canon_tiles x h
  all_goals
    obtain ⟨r, b, rfl⟩ : ∃ (r : Fin 256) (b : Fin 1024), x = ix2 r b := ⟨x 0, x 1, eq_ix2 x⟩
    obtain ⟨R, B, rfl⟩ : ∃ (R : Fin 1024) (B : Fin 1024), y = ix2 R B := ⟨y 0, y 1, eq_ix2 y⟩
    obtain rfl : B = b := Fin.ext h1
    obtain ⟨R, hR⟩ := R
    first
      | change R = _ + r.val at h0
      | change R = r.val at h0
    subst h0
    unfold_payloads
    pointwise
    first | done | exact (add_zero _).symm

theorem dg_B (hc0 : ¬cond0_0 i) (j : Fin 1024) :
    out0_B_7 c i arg2 harg2 arg3 harg3 arg4 harg4 arg5 harg5 arg6 harg6 arg7 harg7 arg8 harg8 arg9 harg9 hc0 x0 x1 x2 x3 x4 xo5 xo7 (ix2 0 j) = xo7 (ix2 0 j) + ∑ r : Fin 1024, DG x0 x1 x2 x3 x4 r j := by
  rw [← sum_four]
  frame_open
  simp (disch := decide) only [↓ View.readCov_skip, ↓ View.readCov_cons_toLoadRect, ↓ View.readCov_fill]
  frame_out
  unfold_payloads
  pointwise
  first | done | rfl

end points

variable (m : (ℓ : Loc nD τ sig) → Buf (Elt Ideal) ℓ) (c : Dev nD)

abbrev a0 : S8192x2816.Idx → EReal := m ((c.tc : Thread nD τ).loc main_arg0)
abbrev a1 : S2816x1024.Idx → EReal := m ((c.tc : Thread nD τ).loc main_arg1)
abbrev a2 : S8192x1024.Idx → EReal := m ((c.tc : Thread nD τ).loc main_arg2)
abbrev a3 : S1x1024.Idx → EReal := m ((c.tc : Thread nD τ).loc main_arg3)
abbrev a4 : S8192x1024.Idx → EReal := m ((c.tc : Thread nD τ).loc main_arg4)
theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![0, 0] := by decide +kernel
theorem idx4 : ∀ t : Fin grid0.N, win0_4.index t = ![t.val, 0] := by decide +kernel
theorem idx5 : ∀ t : Fin grid0.N, win0_5.index t = ![0, 0] := by decide +kernel
theorem idx6 : ∀ t : Fin grid0.N, win0_6.index t = ![t.val, 0] := by decide +kernel
theorem idx7 : ∀ t : Fin grid0.N, win0_7.index t = ![0, 0] := by decide +kernel
theorem blk0 (t : Fin cfg0.N) (r : Fin 1024) (b : Fin 2816) (R : Fin 8192) (hR : (R : ℕ) = 1024 * t.val + r.val) :
    iblk m c 0 t (ix2 r b) = a0 m c (ix2 R b) := by
  blk_ext [iblk, V, idx0 t]
  all_goals simp [hR]
theorem blk1 (t : Fin cfg0.N) : iblk m c 1 t = a1 m c := by
  funext y
  blk_ext [iblk, V, idx1 t]
theorem blk2 (t : Fin cfg0.N) (r : Fin 1024) (b : Fin 1024) (R : Fin 8192) (hR : (R : ℕ) = 1024 * t.val + r.val) :
    iblk m c 2 t (ix2 r b) = a2 m c (ix2 R b) := by
  blk_ext [iblk, V, idx2 t]
  all_goals simp [hR]
theorem blk3 (t : Fin cfg0.N) : iblk m c 3 t = a3 m c := by
  funext y
  blk_ext [iblk, V, idx3 t]
theorem blk4 (t : Fin cfg0.N) (r : Fin 1024) (b : Fin 1024) (R : Fin 8192) (hR : (R : ℕ) = 1024 * t.val + r.val) :
    iblk m c 4 t (ix2 r b) = a4 m c (ix2 R b) := by
  blk_ext [iblk, V, idx4 t]
  all_goals simp [hR]

section rows
variable (t : Fin cfg0.N) (r : Fin 1024) (R : Fin 8192) (hR : (R : ℕ) = 1024 * t.val + r.val)
include hR
theorem h_blk : H (iblk m c 0 t) (iblk m c 1 t) (iblk m c 2 t) r = H (a0 m c) (a1 m c) (a2 m c) R := by
  funext b
  rw [blk1]
  exact congrArg₂ (· + ·) (Finset.sum_congr rfl fun k _ => by rw [blk0 m c t r k R hR]) (blk2 m c t r b R hR)
theorem e_blk : E (iblk m c 0 t) (iblk m c 1 t) (iblk m c 2 t) (iblk m c 3 t) (iblk m c 4 t) r = E (a0 m c) (a1 m c) (a2 m c) (a3 m c) (a4 m c) R := by
  unfold E; funext j; rw [h_blk m c t r R hR, blk3, blk4 m c t r j R hR]
theorem dx_blk (j : Fin 1024) : DX (iblk m c 0 t) (iblk m c 1 t) (iblk m c 2 t) (iblk m c 3 t) (iblk m c 4 t) r j = DX (a0 m c) (a1 m c) (a2 m c) (a3 m c) (a4 m c) R j := by
  unfold DX DY; rw [h_blk m c t r R hR, blk3, ← blk3 m c t, e_blk m c t r R hR, blk3]
theorem dg_blk (j : Fin 1024) : DG (iblk m c 0 t) (iblk m c 1 t) (iblk m c 2 t) (iblk m c 3 t) (iblk m c 4 t) r j = DG (a0 m c) (a1 m c) (a2 m c) (a3 m c) (a4 m c) R j := by
  unfold DG DY; rw [h_blk m c t r R hR, e_blk m c t r R hR]
theorem ls_blk : LS (iblk m c 0 t) (iblk m c 1 t) (iblk m c 2 t) (iblk m c 3 t) (iblk m c 4 t) r = LS (a0 m c) (a1 m c) (a2 m c) (a3 m c) (a4 m c) R := by
  unfold LS; rw [e_blk m c t r R hR]
end rows

/-- What one block of rows adds to the loss and to the scale's gradient. -/
abbrev PartL (t : Fin cfg0.N) : EReal := ∑ r : Fin 1024, LS (iblk m c 0 t) (iblk m c 1 t) (iblk m c 2 t) (iblk m c 3 t) (iblk m c 4 t) r
abbrev PartG (t : Fin cfg0.N) (j : Fin 1024) : EReal := ∑ r : Fin 1024, DG (iblk m c 0 t) (iblk m c 1 t) (iblk m c 2 t) (iblk m c 3 t) (iblk m c 4 t) r j

theorem rows_at (t : Fin cfg0.N) (y : S1024x1024.Idx) : (outsAt0 m c t.val t.isLt).2.1 y = DX (iblk m c 0 t) (iblk m c 1 t) (iblk m c 2 t) (iblk m c 3 t) (iblk m c 4 t) (y 0) (y 1) := by
  by_cases h0 : t.val % 8 = 0
  · rw [outsAt0_A m c t h0]; dsimp only; rw [dx_A]
  · rw [outsAt0_B m c t h0]; dsimp only; rw [dx_B]

theorem firstL (t : Fin cfg0.N) (h0 : t.val % 8 = 0) (y : S1x128.Idx) : (outsAt0 m c t.val t.isLt).1 y = (0 : EReal) + PartL m c t := by
  obtain ⟨j, rfl⟩ : ∃ (j : Fin 128), y = ix2 0 j := ⟨y 1, (eq_ix2 y).trans (congrArg (fun a : Fin 1 => ix2 a (y 1)) (Subsingleton.elim (α := Fin 1) _ _))⟩
  rw [outsAt0_A m c t h0]; dsimp only; rw [loss_A]
  first | done | rfl

theorem nextL (t : Fin cfg0.N) (h0 : ¬t.val % 8 = 0) (y : S1x128.Idx) : (outsAt0 m c t.val t.isLt).1 y =
    (outsAt0 m c (t.val - 1) (by have := t.isLt; omega)).1 y + PartL m c t := by
  obtain ⟨j, rfl⟩ : ∃ (j : Fin 128), y = ix2 0 j := ⟨y 1, (eq_ix2 y).trans (congrArg (fun a : Fin 1 => ix2 a (y 1)) (Subsingleton.elim (α := Fin 1) _ _))⟩
  rw [outsAt0_B m c t h0]; dsimp only; rw [loss_B]
  first | done | rfl

theorem accL (t : Fin cfg0.N) (ht : t.val + 1 = 8) (y : S1x128.Idx) : (outsAt0 m c t.val t.isLt).1 y =
    (0 : EReal) + ∑ p : Fin 8, PartL m c p := by
  rw [Pipeline.eq_sum_fin_of_reset_step_apply_last (fun t ht => (outsAt0 m c t ht).1) 8 (fun _ => (0 : EReal))
    (fun p y => PartL m c p) ?_ ?_ (by decide) t ht y]
  · rfl
  · exact firstL m c
  · exact nextL m c

theorem firstG (t : Fin cfg0.N) (h0 : t.val % 8 = 0) (y : S1x1024.Idx) : (outsAt0 m c t.val t.isLt).2.2 y = (0 : EReal) + PartG m c t (y 1) := by
  obtain ⟨j, rfl⟩ : ∃ (j : Fin 1024), y = ix2 0 j := ⟨y 1, (eq_ix2 y).trans (congrArg (fun a : Fin 1 => ix2 a (y 1)) (Subsingleton.elim (α := Fin 1) _ _))⟩
  rw [outsAt0_A m c t h0]; dsimp only; rw [dg_A]
  first | done | rfl

theorem nextG (t : Fin cfg0.N) (h0 : ¬t.val % 8 = 0) (y : S1x1024.Idx) : (outsAt0 m c t.val t.isLt).2.2 y =
    (outsAt0 m c (t.val - 1) (by have := t.isLt; omega)).2.2 y + PartG m c t (y 1) := by
  obtain ⟨j, rfl⟩ : ∃ (j : Fin 1024), y = ix2 0 j := ⟨y 1, (eq_ix2 y).trans (congrArg (fun a : Fin 1 => ix2 a (y 1)) (Subsingleton.elim (α := Fin 1) _ _))⟩
  rw [outsAt0_B m c t h0]; dsimp only; rw [dg_B]
  first | done | rfl

theorem accG (t : Fin cfg0.N) (ht : t.val + 1 = 8) (y : S1x1024.Idx) : (outsAt0 m c t.val t.isLt).2.2 y =
    (0 : EReal) + ∑ p : Fin 8, PartG m c p (y 1) := by
  rw [Pipeline.eq_sum_fin_of_reset_step_apply_last (fun t ht => (outsAt0 m c t ht).2.2) 8 (fun _ => (0 : EReal))
    (fun p y => PartG m c p (y 1)) ?_ ?_ (by decide) t ht y]
  · rfl
  · exact firstG m c
  · exact nextG m c

theorem final5 : (dats m 0 c).arrAt 5 cfg0.N = fun y : S1x128.Idx => ∑ s : Fin 8192, LS (a0 m c) (a1 m c) (a2 m c) (a3 m c) (a4 m c) s := by
  refine (dats m 0 c).arrAt_eq_of_after_last 5 t0_7 (by decide +kernel) _ fun y => ?_
  blk_simp
  rw [after0_5, accL m c t0_7 rfl, zero_add]
  refine Fin.sum_mul_add_congr (fun t k hl => ?_)
  have hR : ((⟨t.val * 1024 + k.val, hl⟩ : Fin 8192) : ℕ) = 1024 * t.val + k.val := by dsimp only; omega
  exact ls_blk m c t k _ hR

theorem final6 : (dats m 0 c).arrAt 6 cfg0.N = fun y : S8192x1024.Idx => DX (a0 m c) (a1 m c) (a2 m c) (a3 m c) (a4 m c) (y 0) (y 1) := by
  refine (dats m 0 c).arrAt_eq_of_covers 6 _ (by decide +kernel) fun t hf y => ?_
  blk_simp
  rw [after0_6, rows_at]
  have e0 : ((win0_6.blk t).view.emb y 0 : ℕ) = 1024 * t.val + (y 0).val := by
    blk_simp [idx6 t]
    omega
  have e1 : (win0_6.blk t).view.emb y 1 = y 1 := by
    apply Fin.ext
    blk_simp [idx6 t]
  rw [e1]
  exact dx_blk m c t _ _ e0 _

theorem final7 : (dats m 0 c).arrAt 7 cfg0.N = fun y : S1x1024.Idx => ∑ s : Fin 8192, DG (a0 m c) (a1 m c) (a2 m c) (a3 m c) (a4 m c) s (y 1) := by
  refine (dats m 0 c).arrAt_eq_of_after_last 7 t0_7 (by decide +kernel) _ fun y => ?_
  blk_simp
  rw [after0_7, accG m c t0_7 rfl, zero_add]
  refine Fin.sum_mul_add_congr (fun t k hl => ?_)
  have hR : ((⟨t.val * 1024 + k.val, hl⟩ : Fin 8192) : ℕ) = 1024 * t.val + k.val := by dsimp only; omega
  exact dg_blk m c t k _ hR _

end Cert.FfnLossIdeal.Hand

namespace Cert.FfnLossRefIdeal.Hand

open Cert.FfnLossRefIdeal Cert.FfnLossRefIdeal.Gen Cert.FfnLossRefIdeal.Read Idealize.ShloMosaic Idealize.ShloMosaic.TcCoe Idealize.SL.Sem Cert.Step
open Cert.FfnLossIdeal.Hand (H E DY DX DG LS c1 c2 c1_eq c2_eq)

variable (x0 : (⟨S8192x2816, .bf16⟩ : BufTy).Contents (Elt Ideal)) (x1 : (⟨S2816x1024, .bf16⟩ : BufTy).Contents (Elt Ideal)) (x2 : (⟨S8192x1024, .f32⟩ : BufTy).Contents (Elt Ideal))
  (x3 : (⟨S1x1024, .f32⟩ : BufTy).Contents (Elt Ideal)) (x4 : (⟨S8192x1024, .f32⟩ : BufTy).Contents (Elt Ideal)) (r : Fin 8192) (j : Fin 1024)

theorem two_eq : Ideal.ofBits .f32 0x40000000#32 = ((2 : ℝ) : EReal) := by
  simp [Ideal.ofBits, Ideal.ieee, -EReal.coe_mul]; norm_num
theorem one_eq : Ideal.ofBits .f32 0x3F800000#32 = ((1 : ℝ) : EReal) := by
  simp [Ideal.ofBits, Ideal.ieee, -EReal.coe_mul]; norm_num
theorem half_eq : Ideal.ofBits .f32 0x3F000000#32 = ((1 / 2 : ℝ) : EReal) := by
  simp [Ideal.ofBits, Ideal.ieee, -EReal.coe_mul]; norm_num
/-- The reference's factor of the error is the kernel's. -/
theorem factor (e : EReal) : Ideal.div (Ideal.ofBits .f32 0x3F000000#32 * Ideal.ofBits .f32 0x3F800000#32) nF * (Ideal.ofBits .f32 0x40000000#32 * e) = e * c1 := by
  rw [half_eq, one_eq, two_eq, nF_eq, c1_eq, div_real _ _ (by norm_num), ← mul_assoc, ← EReal.coe_mul, ← EReal.coe_mul, ← EReal.coe_mul, mul_comm]
  norm_num

theorem h_at : val_main_v3 x0 x1 x2 (ix2 r j) = H x0 x1 x2 r j := by
  unfold val_main_v3 val_main_v2 val_main_v1 val_main_v0
  pointwise
  exact add_comm _ _
theorem ms_at : val_main_v10 x0 x1 x2 (ix2 r 0) = msq (H x0 x1 x2 r) := by
  have e : H x0 x1 x2 r = fun b => val_main_v3 x0 x1 x2 (ix2 r b) := funext fun b => (h_at x0 x1 x2 r b).symm
  rw [e]
  unfold val_main_v10 val_main_v9 val_main_v8 val_main_v7 val_main_v6 val_main_v5 val_main_v4 val_main_cst_1 val_main_cst_0 val_main_cst
  generalize val_main_v3 x0 x1 x2 = f
  pointwise
  first | done | rfl
theorem rin_at : val_main_v11 x0 x1 x2 (ix2 r 0) = rin (H x0 x1 x2 r) := by
  unfold rin
  rw [← ms_at]
  unfold val_main_v11
  pointwise
theorem f_at : val_main_v14 x0 x1 x2 (ix2 r 0) = mhalf * Ideal.div (rin (H x0 x1 x2 r)) (msq (H x0 x1 x2 r)) := by
  rw [← rin_at, ← ms_at]
  unfold val_main_v14 val_main_v13 val_main_cst_2 val_main_v12
  pointwise
theorem xr_at : val_main_v16 x0 x1 x2 (ix2 r j) = H x0 x1 x2 r j * rin (H x0 x1 x2 r) := by
  rw [← rin_at, ← h_at]
  unfold val_main_v16 val_main_v15
  generalize val_main_v11 x0 x1 x2 = f
  generalize val_main_v3 x0 x1 x2 = f3
  pointwise
theorem e_at : val_main_v19 x0 x1 x2 x3 x4 (ix2 r j) = E x0 x1 x2 x3 x4 r j := by
  unfold E
  rw [← xr_at]
  unfold val_main_v19 val_main_v18 val_main_v17
  generalize val_main_v16 x0 x1 x2 = f
  pointwise
theorem dy_at : val_main_v33 x0 x1 x2 x3 x4 (ix2 r j) = DY x0 x1 x2 x3 x4 r j := by
  unfold DY
  rw [← factor, ← e_at]
  unfold val_main_v33 val_main_v32 val_main_v31 val_main_v30 val_main_cst_10 val_main_v29 val_main_v28 val_main_cst_9 val_main_cst_8 val_main_v22 val_main_v21 val_main_cst_3
  generalize val_main_v19 x0 x1 x2 x3 x4 = f
  pointwise
  first | done | rfl
theorem s_at : val_main_v41 x0 x1 x2 x3 x4 (ix2 r 0) = ∑ k, H x0 x1 x2 r k * (DY x0 x1 x2 x3 x4 r k * Row x3 0 k) := by
  simp only [← dy_at, ← h_at]
  unfold val_main_v41 val_main_v40 val_main_cst_12 val_main_v39 val_main_v38 val_main_v37
  generalize val_main_v33 x0 x1 x2 x3 x4 = f
  generalize val_main_v3 x0 x1 x2 = f3
  pointwise
theorem c_at : val_main_v47 x0 x1 x2 x3 x4 (ix1 r) = Ideal.div ((∑ k, H x0 x1 x2 r k * (DY x0 x1 x2 x3 x4 r k * Row x3 0 k)) * (mhalf * Ideal.div (rin (H x0 x1 x2 r)) (msq (H x0 x1 x2 r)))) nF := by
  rw [← s_at, ← f_at]
  unfold val_main_v47 val_main_cst_14 val_main_v46 val_main_v45 val_main_cst_13 val_main_v44
  generalize val_main_v41 x0 x1 x2 x3 x4 = f
  generalize val_main_v14 x0 x1 x2 = f2
  pointwise
  exact Fin.sum_univ_one _
theorem dx_at : val_main_v52 x0 x1 x2 x3 x4 (ix2 r j) = DX x0 x1 x2 x3 x4 r j := by
  unfold DX
  rw [← rms_ref, ← c_at, ← rin_at, ← dy_at, ← h_at, zero_add]
  unfold val_main_v52 val_main_v51 val_main_v50 val_main_v49 val_main_v48 val_main_v43 val_main_v42 val_main_v38 val_main_v37
  generalize val_main_v47 x0 x1 x2 x3 x4 = f1
  generalize val_main_v11 x0 x1 x2 = f2
  generalize val_main_v33 x0 x1 x2 x3 x4 = f3
  generalize val_main_v3 x0 x1 x2 = f4
  pointwise
theorem dg_at : val_main_v36 x0 x1 x2 x3 x4 (ix2 0 j) = ∑ s : Fin 8192, DG x0 x1 x2 x3 x4 s j := by
  have e : ∀ s : Fin 8192, DG x0 x1 x2 x3 x4 s j = val_main_v16 x0 x1 x2 (ix2 s j) * val_main_v33 x0 x1 x2 x3 x4 (ix2 s j) := fun s => by
    unfold DG; rw [dy_at, xr_at, mul_comm]
  simp only [e]
  unfold val_main_v36 val_main_v35 val_main_cst_11 val_main_v34
  generalize val_main_v16 x0 x1 x2 = f2
  generalize val_main_v33 x0 x1 x2 x3 x4 = f3
  pointwise
theorem loss_form (b : Fin 128) : val_main_v53 x0 x1 x2 x3 x4 (ix2 0 b) =
    Ideal.ofBits .f32 0x3F000000#32 * ∑ s : Fin 8192, Ideal.div (∑ k : Fin 1024, val_main_v19 x0 x1 x2 x3 x4 (ix2 s k) * val_main_v19 x0 x1 x2 x3 x4 (ix2 s k)) nF := by
  unfold val_main_v53 val_main_v27 val_main_cst_7 val_main_v26 val_main_cst_6 val_main_v25 val_main_v24 val_main_cst_5 val_main_v23 val_main_cst_4 val_main_v20
  generalize val_main_v19 x0 x1 x2 x3 x4 = f
  pointwise
  first | done | rfl
theorem loss_at (b : Fin 128) : val_main_v53 x0 x1 x2 x3 x4 (ix2 0 b) = ∑ s : Fin 8192, LS x0 x1 x2 x3 x4 s := by
  rw [loss_form, half_eq, mul_comm, ← sum_mul_nonneg _ _ (by norm_num)]
  refine Finset.sum_congr rfl fun s _ => ?_
  simp only [e_at]
  unfold LS
  rw [nF_eq, div_real _ _ (by norm_num), mul_assoc, ← EReal.coe_mul, c2_eq]
  norm_num

end Cert.FfnLossRefIdeal.Hand

namespace Cert.Proof.FfnLoss

open Idealize.ShloMosaic Idealize.SL.Sem

theorem algebraic : Cert.algebraic_FfnLossIdeal_FfnLossRefIdeal := by
  pair_intro
  · run_from Cert.FfnLossIdeal.Value.run_blocks m g
  · refine (θ_run _ _ _).mono (fun r h c => ?_) (Cert.FfnLossRefIdeal.Value.run m' g')
    obtain ⟨e0, e1, e2, e3, e4⟩ := hagree c
    refine ⟨(h c).1.trans ?_, (h c).2.1.trans ?_, (h c).2.2.1.trans ?_, (h c).2.2.2⟩
    · rw [Cert.FfnLossRefIdeal.Read.val_main_v53_eq, e0, e1, e2, e3, e4, Cert.FfnLossIdeal.Hand.final5 m c]
      funext y
      obtain ⟨r, b, rfl⟩ : ∃ (r : Fin 1) (b : Fin 128), y = ix2 r b := ⟨y 0, y 1, eq_ix2 y⟩
      obtain rfl : r = 0 := Subsingleton.elim _ _
      exact Cert.FfnLossRefIdeal.Hand.loss_at _ _ _ _ _ b
    · rw [Cert.FfnLossRefIdeal.Read.val_main_v52_eq, e0, e1, e2, e3, e4, Cert.FfnLossIdeal.Hand.final6 m c]
      funext y
      obtain ⟨r, b, rfl⟩ : ∃ (r : Fin 8192) (b : Fin 1024), y = ix2 r b := ⟨y 0, y 1, eq_ix2 y⟩
      exact Cert.FfnLossRefIdeal.Hand.dx_at _ _ _ _ _ r b
    · rw [Cert.FfnLossRefIdeal.Read.val_main_v36_eq, e0, e1, e2, e3, e4, Cert.FfnLossIdeal.Hand.final7 m c]
      funext y
      obtain ⟨r, b, rfl⟩ : ∃ (r : Fin 1) (b : Fin 1024), y = ix2 r b := ⟨y 0, y 1, eq_ix2 y⟩
      obtain rfl : r = 0 := Subsingleton.elim _ _
      exact Cert.FfnLossRefIdeal.Hand.dg_at _ _ _ _ _ b

theorem frame_p : Cert.quiescent_FfnLoss := fun m ρ _ => Cert.FfnLoss.Gen.frame m ρ
theorem frame_pi : Cert.quiescent_FfnLossIdeal := fun m ρ _ => Cert.FfnLossIdeal.Gen.frame m ρ
theorem frame_ri : Cert.quiescent_FfnLossRefIdeal := fun m ρ _ =>
  (θ_run Cert.FfnLossRefIdeal.defs _ _).mono (fun r h => ⟨fun c => (h c).2.2.2, sem_eq_zero_of_no_sems (by decide) r.2⟩)
    (Cert.FfnLossRefIdeal.Value.run (F := Ideal) m ρ)

end Cert.Proof.FfnLoss
end
-- ==== Proof.Calls.AdamwNorms.lean ====
/- The optimiser's update of some of the small weights. -/
module

public import proofs.«01_k».proof.Defs
public import proofs.«01_k».proof.Proof.Gen.AdamwNorms.Frame
public import proofs.«01_k».proof.Proof.Gen.AdamwNormsIdeal.Value
public import proofs.«01_k».proof.Proof.Gen.AdamwNormsRefIdeal.Run
public import proofs.«01_k».proof.Proof.Gen.AdamwNormsRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
noncomputable section

namespace Cert.Proof.AdamwNorms

open Idealize.ShloMosaic Idealize.SL.Sem

theorem algebraic : Cert.algebraic_AdamwNormsIdeal_AdamwNormsRefIdeal := by
  pair_intro
  · run_from Cert.AdamwNormsIdeal.Value.run m g
  · run_from Cert.AdamwNormsRefIdeal.Value.run m' g'
    all_goals
      funext i
      rfl

theorem frame_p : Cert.quiescent_AdamwNorms := fun m ρ _ => Cert.AdamwNorms.Gen.frame m ρ
theorem frame_pi : Cert.quiescent_AdamwNormsIdeal := fun m ρ _ => Cert.AdamwNormsIdeal.Gen.frame m ρ
theorem frame_ri : Cert.quiescent_AdamwNormsRefIdeal := fun m ρ _ =>
  (θ_run Cert.AdamwNormsRefIdeal.defs _ _).mono (fun r h => ⟨fun c => (h c).2.2.2.2.2.2.2.2.2, sem_eq_zero_of_no_sems (by decide) r.2⟩)
    (Cert.AdamwNormsRefIdeal.Value.run (F := Ideal) m ρ)

end Cert.Proof.AdamwNorms
end
-- ==== Proof.Calls.AdamwMixed.lean ====
/- The optimiser's update of some of the small weights. -/
module

public import proofs.«01_k».proof.Defs
public import proofs.«01_k».proof.Proof.Gen.AdamwMixed.Frame
public import proofs.«01_k».proof.Proof.Gen.AdamwMixedIdeal.Value
public import proofs.«01_k».proof.Proof.Gen.AdamwMixedRefIdeal.Run
public import proofs.«01_k».proof.Proof.Gen.AdamwMixedRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
noncomputable section

namespace Cert.Proof.AdamwMixed

open Idealize.ShloMosaic Idealize.SL.Sem

theorem algebraic : Cert.algebraic_AdamwMixedIdeal_AdamwMixedRefIdeal := by
  pair_intro
  · run_from Cert.AdamwMixedIdeal.Value.run m g
  · run_from Cert.AdamwMixedRefIdeal.Value.run m' g'
    all_goals
      funext i
      rfl

theorem frame_p : Cert.quiescent_AdamwMixed := fun m ρ _ => Cert.AdamwMixed.Gen.frame m ρ
theorem frame_pi : Cert.quiescent_AdamwMixedIdeal := fun m ρ _ => Cert.AdamwMixedIdeal.Gen.frame m ρ
theorem frame_ri : Cert.quiescent_AdamwMixedRefIdeal := fun m ρ _ =>
  (θ_run Cert.AdamwMixedRefIdeal.defs _ _).mono (fun r h => ⟨fun c => (h c).2.2.2.2.2.2.2.2.2, sem_eq_zero_of_no_sems (by decide) r.2⟩)
    (Cert.AdamwMixedRefIdeal.Value.run (F := Ideal) m ρ)

end Cert.Proof.AdamwMixed
end
-- ==== Proof.Calls.AdamwEven.lean ====
/- The optimiser's update of some of the small weights. -/
module

public import proofs.«01_k».proof.Defs
public import proofs.«01_k».proof.Proof.Gen.AdamwEven.Frame
public import proofs.«01_k».proof.Proof.Gen.AdamwEvenIdeal.Value
public import proofs.«01_k».proof.Proof.Gen.AdamwEvenRefIdeal.Run
public import proofs.«01_k».proof.Proof.Gen.AdamwEvenRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
noncomputable section

namespace Cert.Proof.AdamwEven

open Idealize.ShloMosaic Idealize.SL.Sem

theorem algebraic : Cert.algebraic_AdamwEvenIdeal_AdamwEvenRefIdeal := by
  pair_intro
  · run_from Cert.AdamwEvenIdeal.Value.run m g
  · run_from Cert.AdamwEvenRefIdeal.Value.run m' g'
    all_goals
      funext i
      rfl

theorem frame_p : Cert.quiescent_AdamwEven := fun m ρ _ => Cert.AdamwEven.Gen.frame m ρ
theorem frame_pi : Cert.quiescent_AdamwEvenIdeal := fun m ρ _ => Cert.AdamwEvenIdeal.Gen.frame m ρ
theorem frame_ri : Cert.quiescent_AdamwEvenRefIdeal := fun m ρ _ =>
  (θ_run Cert.AdamwEvenRefIdeal.defs _ _).mono (fun r h => ⟨fun c => (h c).2.2.2.2.2.2.2.2.2, sem_eq_zero_of_no_sems (by decide) r.2⟩)
    (Cert.AdamwEvenRefIdeal.Value.run (F := Ideal) m ρ)

end Cert.Proof.AdamwEven
end
-- ==== Proof.Calls.AdamwTaps.lean ====
/- The optimiser's update of some of the small weights. -/
module

public import proofs.«01_k».proof.Defs
public import proofs.«01_k».proof.Proof.Gen.AdamwTaps.Frame
public import proofs.«01_k».proof.Proof.Gen.AdamwTapsIdeal.Value
public import proofs.«01_k».proof.Proof.Gen.AdamwTapsRefIdeal.Run
public import proofs.«01_k».proof.Proof.Gen.AdamwTapsRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
noncomputable section

namespace Cert.Proof.AdamwTaps

open Idealize.ShloMosaic Idealize.SL.Sem

theorem algebraic : Cert.algebraic_AdamwTapsIdeal_AdamwTapsRefIdeal := by
  pair_intro
  · run_from Cert.AdamwTapsIdeal.Value.run m g
  · run_from Cert.AdamwTapsRefIdeal.Value.run m' g'
    all_goals
      funext i
      rfl

theorem frame_p : Cert.quiescent_AdamwTaps := fun m ρ _ => Cert.AdamwTaps.Gen.frame m ρ
theorem frame_pi : Cert.quiescent_AdamwTapsIdeal := fun m ρ _ => Cert.AdamwTapsIdeal.Gen.frame m ρ
theorem frame_ri : Cert.quiescent_AdamwTapsRefIdeal := fun m ρ _ =>
  (θ_run Cert.AdamwTapsRefIdeal.defs _ _).mono (fun r h => ⟨fun c => (h c).2.2.2.2.2.2.2.2.2, sem_eq_zero_of_no_sems (by decide) r.2⟩)
    (Cert.AdamwTapsRefIdeal.Value.run (F := Ideal) m ρ)

end Cert.Proof.AdamwTaps
end
-- ==== Proof.Calls.AdamwRest.lean ====
/- The optimiser's update of some of the small weights. -/
module

public import proofs.«01_k».proof.Defs
public import proofs.«01_k».proof.Proof.Gen.AdamwRest.Frame
public import proofs.«01_k».proof.Proof.Gen.AdamwRestIdeal.Value
public import proofs.«01_k».proof.Proof.Gen.AdamwRestRefIdeal.Run
public import proofs.«01_k».proof.Proof.Gen.AdamwRestRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
noncomputable section

namespace Cert.Proof.AdamwRest

open Idealize.ShloMosaic Idealize.SL.Sem

theorem algebraic : Cert.algebraic_AdamwRestIdeal_AdamwRestRefIdeal := by
  pair_intro
  · run_from Cert.AdamwRestIdeal.Value.run m g
  · run_from Cert.AdamwRestRefIdeal.Value.run m' g'
    all_goals
      funext i
      rfl

theorem frame_p : Cert.quiescent_AdamwRest := fun m ρ _ => Cert.AdamwRest.Gen.frame m ρ
theorem frame_pi : Cert.quiescent_AdamwRestIdeal := fun m ρ _ => Cert.AdamwRestIdeal.Gen.frame m ρ
theorem frame_ri : Cert.quiescent_AdamwRestRefIdeal := fun m ρ _ =>
  (θ_run Cert.AdamwRestRefIdeal.defs _ _).mono (fun r h => ⟨fun c => (h c).2.2.2.2.2.2.2.2.2, sem_eq_zero_of_no_sems (by decide) r.2⟩)
    (Cert.AdamwRestRefIdeal.Value.run (F := Ideal) m ρ)

end Cert.Proof.AdamwRest
end
-- ==== Proof.Calls.FinishShared.lean ====
/- What the optimiser's calls of the big weights share: the device number they are told, and the update's arithmetic. -/
module

public import proofs.«01_k».proof.Proof.Calls.Shared
public import Idealize.ShloMosaic.Lib.Pointwise

@[expose] public section

noncomputable section

namespace Cert.Step

open Idealize.ShloMosaic

/-- A word that the precondition admits is one of the eight device numbers. -/
theorem word_of_range (w : BitVec 32) (h : IntOp.andi (IntOp.cmpi .sge w 0#32) (IntOp.cmpi .sle w 7#32) = 1#1) :
    ∃ n : Fin 8, w = BitVec.ofNat 32 n.val := by
  have andi_one (a b : BitVec 1) : IntOp.andi a b = 1#1 ↔ a = 1#1 ∧ b = 1#1 := by revert a b; decide
  have ofBool_one (p : Bool) : (BitVec.ofBool p = 1#1) ↔ p = true := by cases p <;> decide
  rw [andi_one] at h
  simp only [ofBool_one, IntOp.cmpi, BitVec.sle, decide_eq_true_eq] at h
  obtain ⟨h0, h7⟩ := h
  have e0 : (0#32 : BitVec 32).toInt = 0 := by decide
  have e7 : (7#32 : BitVec 32).toInt = 7 := by decide
  rw [e0] at h0
  rw [e7] at h7
  have hw := w.isLt
  rw [BitVec.toInt_eq_toNat_cond] at h0 h7
  refine ⟨⟨w.toNat, ?_⟩, ?_⟩
  · split at h7 <;> omega
  · simp

/-- A block and the seven blocks received, added one after the other. -/
abbrev Acc (x : EReal) (f : Fin 7 → EReal) : EReal := x + f 0 + f 1 + f 2 + f 3 + f 4 + f 5 + f 6

theorem acc_eq (x : EReal) (f : Fin 7 → EReal) : Acc x f = x + ∑ k, f k := by
  rw [Fin.sum_univ_seven]
  simp only [add_assoc]

/-- The first moment after the step. -/
abbrev NewM (g m : EReal) : EReal := Ideal.ofBits .f32 1063675494#32 * m + Ideal.ofBits .f32 1036831949#32 * g
/-- The second moment after the step. -/
abbrev NewV (g v : EReal) : EReal := Ideal.ofBits .f32 1065336439#32 * v + Ideal.ofBits .f32 981668463#32 * (g * g)
/-- The change of the weight. -/
abbrev Delta (w g m v : EReal) : EReal :=
  Ideal.ofBits .f32 3129152111#32 *
    (Ideal.div (Ideal.div (NewM g m) (Ideal.ofBits .f32 1059503362#32))
        (Ideal.sqrt (Ideal.div (NewV g v) (Ideal.ofBits .f32 1008933580#32)) + Ideal.ofBits .f32 841731191#32) +
      Ideal.ofBits .f32 1008981770#32 * w)

/-- Two device numbers compared as words. -/
theorem same_word : ∀ k n : Fin 8, IntOp.cmpi CmpIPredicate.eq (BitVec.ofNat 32 k.val) (BitVec.ofNat 32 n.val) = if k = n then 1#1 else 0#1 := by
  decide

end Cert.Step
end
-- ==== Proof.Calls.FinishEvIn.lean ====
/- The optimiser's update of a sharded weight: the block of the gradient that this device keeps. -/
module

public import proofs.«01_k».proof.Defs
public import proofs.«01_k».proof.Proof.Gen.FinishEvIn.Frame
public import proofs.«01_k».proof.Proof.Gen.FinishEvInIdeal.Frame
public import proofs.«01_k».proof.Proof.Gen.FinishEvInRefIdeal.Run
public import proofs.«01_k».proof.Proof.Gen.FinishEvInRefIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.DynamicIndex
public import proofs.«01_k».proof.Proof.Calls.FinishShared

@[expose] public section

set_option maxRecDepth 16384
noncomputable section

namespace Cert.FinishEvIn.Hand

open Cert.FinishEvIn Cert.FinishEvIn.Gen Idealize.ShloMosaic Idealize.ShloMosaic.TcCoe Idealize.SL.Sem Cert.Step

/-- The table that names device `n`. -/
def pf (n : Fin 8) : pre0.Contents (Elt Bits) := fun | ⟨0, _⟩ => fun _ => BitVec.ofNat 32 n.val | ⟨_ + 1, h⟩ => absurd h (by simp)

theorem ok_all : ∀ n : Fin 8, ok0 (F := Bits) (pf n) := by decide

theorem ok (m : (ℓ : Loc nD τ sig) → Buf (Elt Bits) ℓ) (n : Fin 8)
    (h : ∀ x, m (((0 : Dev nD) : Thread nD τ).loc main_arg2) x = BitVec.ofNat 32 n.val) : Ok m := by
  have e : tbl m = pf n := by
    funext j x
    match j with
    | ⟨0, _⟩ => exact h x
  unfold Ok; rw [e]; exact ok_all n

end Cert.FinishEvIn.Hand

namespace Cert.FinishEvInIdeal.Hand

open Cert.FinishEvInIdeal Cert.FinishEvInIdeal.Gen Idealize.ShloMosaic Idealize.ShloMosaic.TcCoe Idealize.SL.Sem Cert.Step
open Idealize.ShloMosaic.Pipeline (Dat)

/-- The table that names device `n`. -/
def pf (n : Fin 8) : pre0.Contents (Elt Ideal) := fun | ⟨0, _⟩ => fun _ => BitVec.ofNat 32 n.val | ⟨_ + 1, h⟩ => absurd h (by simp)

theorem ok_all : ∀ n : Fin 8, ok0 (F := Ideal) (pf n) := by decide

section
variable (m : (ℓ : Loc nD τ sig) → Buf (Elt Ideal) ℓ) (n : Fin 8)
    (h : ∀ x, m (((0 : Dev nD) : Thread nD τ).loc main_arg2) x = BitVec.ofNat 32 n.val)
include h
theorem tbl_eq : tbl m = pf n := by
  funext j x
  match j with
  | ⟨0, _⟩ => exact h x
theorem ok : Ok m := by
  unfold Ok; rw [tbl_eq m n h]; exact ok_all n
end

theorem outG (c i) (a2 h2 a3 h3 a4 h4 a5 h5 a6 h6 a7 h7 a8 h8 a9 h9 a10 h10 hc x0 x1 x2 x3 x4 xt) (r : Fin 320) (b : Fin 1024) :
    out0_A_5 (F := Ideal) c i a2 h2 a3 h3 a4 h4 a5 h5 a6 h6 a7 h7 a8 h8 a9 h9 a10 h10 hc x0 x1 x2 x3 x4 xt (ix3 0 r b) =
      (Acc (x0 (ix2 r b)) fun k => x1 (ix3 k r b)) := by
  frame_open
  frame_out
  unfold_payloads
  pointwise
  first | done | rfl

theorem outD (c i) (a2 h2 a3 h3 a4 h4 a5 h5 a6 h6 a7 h7 a8 h8 a9 h9 a10 h10 hc x0 x1 x2 x3 x4 xt) (r : Fin 320) (b : Fin 1024) :
    out0_A_6 (F := Ideal) c i a2 h2 a3 h3 a4 h4 a5 h5 a6 h6 a7 h7 a8 h8 a9 h9 a10 h10 hc x0 x1 x2 x3 x4 xt (ix3 0 r b) =
      Delta (x2 (ix3 0 r b)) (Acc (x0 (ix2 r b)) fun k => x1 (ix3 k r b)) (x3 (ix3 0 r b)) (x4 (ix3 0 r b)) := by
  frame_open
  frame_out
  unfold_payloads
  pointwise
  first | done | rfl

theorem outM (c i) (a2 h2 a3 h3 a4 h4 a5 h5 a6 h6 a7 h7 a8 h8 a9 h9 a10 h10 hc x0 x1 x2 x3 x4 xt) (r : Fin 320) (b : Fin 1024) :
    out0_A_7 (F := Ideal) c i a2 h2 a3 h3 a4 h4 a5 h5 a6 h6 a7 h7 a8 h8 a9 h9 a10 h10 hc x0 x1 x2 x3 x4 xt (ix3 0 r b) =
      NewM (Acc (x0 (ix2 r b)) fun k => x1 (ix3 k r b)) (x3 (ix3 0 r b)) := by
  frame_open
  frame_out
  unfold_payloads
  pointwise
  first | done | rfl

theorem outV (c i) (a2 h2 a3 h3 a4 h4 a5 h5 a6 h6 a7 h7 a8 h8 a9 h9 a10 h10 hc x0 x1 x2 x3 x4 xt) (r : Fin 320) (b : Fin 1024) :
    out0_A_8 (F := Ideal) c i a2 h2 a3 h3 a4 h4 a5 h5 a6 h6 a7 h7 a8 h8 a9 h9 a10 h10 hc x0 x1 x2 x3 x4 xt (ix3 0 r b) =
      NewV (Acc (x0 (ix2 r b)) fun k => x1 (ix3 k r b)) (x4 (ix3 0 r b)) := by
  frame_open
  frame_out
  unfold_payloads
  pointwise
  first | done | rfl

variable (m : (ℓ : Loc nD τ sig) → Buf (Elt Ideal) ℓ) (hO : Ok m) (c : Dev nD)

abbrev aG : S2560x1024.Idx → EReal := m ((c.tc : Thread nD τ).loc main_arg0)
abbrev aR : S7x320x1024.Idx → EReal := m ((c.tc : Thread nD τ).loc main_arg1)
abbrev aW : S1x320x1024.Idx → EReal := m ((c.tc : Thread nD τ).loc main_arg3)
abbrev aM : S1x320x1024.Idx → EReal := m ((c.tc : Thread nD τ).loc main_arg4)
abbrev aV : S1x320x1024.Idx → EReal := m ((c.tc : Thread nD τ).loc main_arg5)

theorem tr0 : ∀ (n : Fin 8) (t : Fin grid0.N), cc0_transform_0 (F := Ideal) inb_S1_S1_0 numel1_S1 (pf n) (grid0.coords t) = ![n.val, 0] := by decide
theorem tr1 : ∀ t : Fin grid0.N, cc0_transform_1 (grid0.coords t) = ![0, 0, 0] := by decide
theorem tr2 : ∀ t : Fin grid0.N, cc0_transform_2 (grid0.coords t) = ![t.val, 0, 0] := by decide
theorem idx1 (t : Fin (cfgM m hO).N) : ((cfgM m hO).win 1).index t = ![0, 0, 0] := tr1 t
theorem idx2 (t : Fin (cfgM m hO).N) : ((cfgM m hO).win 2).index t = ![t.val, 0, 0] := tr2 t
theorem idx3 (t : Fin (cfgM m hO).N) : ((cfgM m hO).win 3).index t = ![t.val, 0, 0] := tr2 t
theorem idx4 (t : Fin (cfgM m hO).N) : ((cfgM m hO).win 4).index t = ![t.val, 0, 0] := tr2 t
theorem idx5 (t : Fin (cfgM m hO).N) : ((cfgM m hO).win 5).index t = ![t.val, 0, 0] := tr2 t
theorem idx6 (t : Fin (cfgM m hO).N) : ((cfgM m hO).win 6).index t = ![t.val, 0, 0] := tr2 t
theorem idx7 (t : Fin (cfgM m hO).N) : ((cfgM m hO).win 7).index t = ![t.val, 0, 0] := tr2 t
theorem idx8 (t : Fin (cfgM m hO).N) : ((cfgM m hO).win 8).index t = ![t.val, 0, 0] := tr2 t

theorem blkR (t : Fin (cfgM m hO).N) : iblk m hO c 1 t = aR m c := by
  funext y
  blk_ext [iblk, V, idx1 m hO t]
theorem blkW (t : Fin (cfgM m hO).N) (r : Fin 320) (b : Fin 1024) : iblk m hO c 2 t (ix3 0 r b) = aW m c (ix3 t r b) := by
  blk_ext [iblk, V, idx2 m hO t]
theorem blkM (t : Fin (cfgM m hO).N) (r : Fin 320) (b : Fin 1024) : iblk m hO c 3 t (ix3 0 r b) = aM m c (ix3 t r b) := by
  blk_ext [iblk, V, idx3 m hO t]
theorem blkV (t : Fin (cfgM m hO).N) (r : Fin 320) (b : Fin 1024) : iblk m hO c 4 t (ix3 0 r b) = aV m c (ix3 t r b) := by
  blk_ext [iblk, V, idx4 m hO t]

variable (n : Fin 8) (h : ∀ x, m (((0 : Dev nD) : Thread nD τ).loc main_arg2) x = BitVec.ofNat 32 n.val)

/-- Row `r` of the block of the gradient that device `n` keeps. -/
abbrev row (n : Fin 8) (r : Fin 320) : Fin 2560 := ⟨320 * n.val + r.val, by omega⟩

/-- The gradient summed over the devices. -/
abbrev Grad (r : Fin 320) (b : Fin 1024) : EReal := Acc (aG m c (ix2 (row n r) b)) fun k => aR m c (ix3 k r b)

include h in
theorem blkG (t : Fin (cfgM m hO).N) (r : Fin 320) (b : Fin 1024) : iblk m hO c 0 t (ix2 r b) = aG m c (ix2 (row n r) b) := by
  have e : ((cfgM m hO).win 0).index t = ![n.val, 0] := by
    have := tr0 n t
    rw [← tbl_eq m n h] at this
    exact this
  blk_ext [iblk, V, e]
  all_goals simp [Nat.mul_comm]

theorem flat (P : S1x320x1024.Idx → Prop) (H : ∀ r b, P (ix3 0 r b)) (y : S1x320x1024.Idx) : P y := by
  obtain ⟨z, r, b, rfl⟩ : ∃ (z : Fin 1) (r : Fin 320) (b : Fin 1024), y = ix3 z r b := ⟨y 0, y 1, y 2, eq_ix3 y⟩
  obtain rfl : z = 0 := Subsingleton.elim _ _
  exact H r b

theorem cov5 : ((cfg0 (F := Ideal) ⟨pf 0, ok_all 0⟩).win 5).Covers := by decide +kernel
theorem covm5 : ((cfgM m hO).win 5).Covers := cov5
include h in
theorem at5 (t : Fin (cfgM m hO).N) (r : Fin 320) (b : Fin 1024) : (outsAt0 m hO c t).1 (ix3 0 r b) =
    (fun y : S1x320x1024.Idx => Grad m c n (y 1) (y 2)) (ix3 0 r b) := by
  obtain rfl : t = t0_0 := fin_N0 t
  have hx := outG c (grid0.coords t0_0) (ms0_0 m hO t0_0) (hs0_0 m hO t0_0) (ms0_1 m hO t0_0) (hs0_1 m hO t0_0) (ms0_2 m hO t0_0) (hs0_2 m hO t0_0) (ms0_3 m hO t0_0) (hs0_3 m hO t0_0) (ms0_4 m hO t0_0) (hs0_4 m hO t0_0) (ms0_5 m hO t0_0) (hs0_5 m hO t0_0) (ms0_6 m hO t0_0) (hs0_6 m hO t0_0) (ms0_7 m hO t0_0) (hs0_7 m hO t0_0) (ms0_8 m hO t0_0) (hs0_8 m hO t0_0) (hcond0_0 t0_0) (iblk m hO c 0 t0_0) (iblk m hO c 1 t0_0) (iblk m hO c 2 t0_0) (iblk m hO c 3 t0_0) (iblk m hO c 4 t0_0) (tbl m 0) r b
  unfold outsAt0
  dsimp only
  refine hx.trans ?_
  show (Acc (iblk m hO c 0 t0_0 (ix2 r b)) fun k => iblk m hO c 1 t0_0 (ix3 k r b)) = _
  rw [blkG m hO c n h, blkR]
  rfl
theorem emb5 (t : Fin (cfgM m hO).N) (r : Fin 320) (b : Fin 1024) : (((cfgM m hO).win 5).blk t).view.emb (ix3 0 r b) = (ix3 0 r b : S1x320x1024.Idx) := by
  funext a
  apply Fin.ext
  fin_cases a
  all_goals blk_simp [idx5 m hO t]
  exact congrArg Fin.val (fin_N0 t)
abbrev resG : S1x320x1024.Idx → EReal := fun y => Grad m c n (y 1) (y 2)
include h in
theorem finalG : (dats m hO 0 c).arrAt 5 (cfgM m hO).N = resG m c n := by
  refine (dats m hO 0 c).arrAt_eq_of_covers 5 _ (covm5 m hO) fun t hf y => ?_
  blk_simp
  rw [after0_5]
  revert y
  refine flat _ fun r b => ?_
  rw [emb5]
  exact at5 m hO c n h t r b

theorem cov6 : ((cfg0 (F := Ideal) ⟨pf 0, ok_all 0⟩).win 6).Covers := by decide +kernel
theorem covm6 : ((cfgM m hO).win 6).Covers := cov6
include h in
theorem at6 (t : Fin (cfgM m hO).N) (r : Fin 320) (b : Fin 1024) : (outsAt0 m hO c t).2.1 (ix3 0 r b) =
    (fun y : S1x320x1024.Idx => Delta (aW m c y) (Grad m c n (y 1) (y 2)) (aM m c y) (aV m c y)) (ix3 0 r b) := by
  obtain rfl : t = t0_0 := fin_N0 t
  have hx := outD c (grid0.coords t0_0) (ms0_0 m hO t0_0) (hs0_0 m hO t0_0) (ms0_1 m hO t0_0) (hs0_1 m hO t0_0) (ms0_2 m hO t0_0) (hs0_2 m hO t0_0) (ms0_3 m hO t0_0) (hs0_3 m hO t0_0) (ms0_4 m hO t0_0) (hs0_4 m hO t0_0) (ms0_5 m hO t0_0) (hs0_5 m hO t0_0) (ms0_6 m hO t0_0) (hs0_6 m hO t0_0) (ms0_7 m hO t0_0) (hs0_7 m hO t0_0) (ms0_8 m hO t0_0) (hs0_8 m hO t0_0) (hcond0_0 t0_0) (iblk m hO c 0 t0_0) (iblk m hO c 1 t0_0) (iblk m hO c 2 t0_0) (iblk m hO c 3 t0_0) (iblk m hO c 4 t0_0) (tbl m 0) r b
  unfold outsAt0
  dsimp only
  refine hx.trans ?_
  show Delta (iblk m hO c 2 t0_0 (ix3 0 r b)) (Acc (iblk m hO c 0 t0_0 (ix2 r b)) fun k => iblk m hO c 1 t0_0 (ix3 k r b)) (iblk m hO c 3 t0_0 (ix3 0 r b)) (iblk m hO c 4 t0_0 (ix3 0 r b)) = _
  rw [blkG m hO c n h, blkR, blkW, blkM, blkV]
  rfl
theorem emb6 (t : Fin (cfgM m hO).N) (r : Fin 320) (b : Fin 1024) : (((cfgM m hO).win 6).blk t).view.emb (ix3 0 r b) = (ix3 0 r b : S1x320x1024.Idx) := by
  funext a
  apply Fin.ext
  fin_cases a
  all_goals blk_simp [idx6 m hO t]
  exact congrArg Fin.val (fin_N0 t)
abbrev resD : S1x320x1024.Idx → EReal := fun y => Delta (aW m c y) (Grad m c n (y 1) (y 2)) (aM m c y) (aV m c y)
include h in
theorem finalD : (dats m hO 0 c).arrAt 6 (cfgM m hO).N = resD m c n := by
  refine (dats m hO 0 c).arrAt_eq_of_covers 6 _ (covm6 m hO) fun t hf y => ?_
  blk_simp
  rw [after0_6]
  revert y
  refine flat _ fun r b => ?_
  rw [emb6]
  exact at6 m hO c n h t r b

theorem cov7 : ((cfg0 (F := Ideal) ⟨pf 0, ok_all 0⟩).win 7).Covers := by decide +kernel
theorem covm7 : ((cfgM m hO).win 7).Covers := cov7
include h in
theorem at7 (t : Fin (cfgM m hO).N) (r : Fin 320) (b : Fin 1024) : (outsAt0 m hO c t).2.2.1 (ix3 0 r b) =
    (fun y : S1x320x1024.Idx => NewM (Grad m c n (y 1) (y 2)) (aM m c y)) (ix3 0 r b) := by
  obtain rfl : t = t0_0 := fin_N0 t
  have hx := outM c (grid0.coords t0_0) (ms0_0 m hO t0_0) (hs0_0 m hO t0_0) (ms0_1 m hO t0_0) (hs0_1 m hO t0_0) (ms0_2 m hO t0_0) (hs0_2 m hO t0_0) (ms0_3 m hO t0_0) (hs0_3 m hO t0_0) (ms0_4 m hO t0_0) (hs0_4 m hO t0_0) (ms0_5 m hO t0_0) (hs0_5 m hO t0_0) (ms0_6 m hO t0_0) (hs0_6 m hO t0_0) (ms0_7 m hO t0_0) (hs0_7 m hO t0_0) (ms0_8 m hO t0_0) (hs0_8 m hO t0_0) (hcond0_0 t0_0) (iblk m hO c 0 t0_0) (iblk m hO c 1 t0_0) (iblk m hO c 2 t0_0) (iblk m hO c 3 t0_0) (iblk m hO c 4 t0_0) (tbl m 0) r b
  unfold outsAt0
  dsimp only
  refine hx.trans ?_
  show NewM (Acc (iblk m hO c 0 t0_0 (ix2 r b)) fun k => iblk m hO c 1 t0_0 (ix3 k r b)) (iblk m hO c 3 t0_0 (ix3 0 r b)) = _
  rw [blkG m hO c n h, blkR, blkM]
  rfl
theorem emb7 (t : Fin (cfgM m hO).N) (r : Fin 320) (b : Fin 1024) : (((cfgM m hO).win 7).blk t).view.emb (ix3 0 r b) = (ix3 0 r b : S1x320x1024.Idx) := by
  funext a
  apply Fin.ext
  fin_cases a
  all_goals blk_simp [idx7 m hO t]
  exact congrArg Fin.val (fin_N0 t)
abbrev resM : S1x320x1024.Idx → EReal := fun y => NewM (Grad m c n (y 1) (y 2)) (aM m c y)
include h in
theorem finalM : (dats m hO 0 c).arrAt 7 (cfgM m hO).N = resM m c n := by
  refine (dats m hO 0 c).arrAt_eq_of_covers 7 _ (covm7 m hO) fun t hf y => ?_
  blk_simp
  rw [after0_7]
  revert y
  refine flat _ fun r b => ?_
  rw [emb7]
  exact at7 m hO c n h t r b

theorem cov8 : ((cfg0 (F := Ideal) ⟨pf 0, ok_all 0⟩).win 8).Covers := by decide +kernel
theorem covm8 : ((cfgM m hO).win 8).Covers := cov8
include h in
theorem at8 (t : Fin (cfgM m hO).N) (r : Fin 320) (b : Fin 1024) : (outsAt0 m hO c t).2.2.2 (ix3 0 r b) =
    (fun y : S1x320x1024.Idx => NewV (Grad m c n (y 1) (y 2)) (aV m c y)) (ix3 0 r b) := by
  obtain rfl : t = t0_0 := fin_N0 t
  have hx := outV c (grid0.coords t0_0) (ms0_0 m hO t0_0) (hs0_0 m hO t0_0) (ms0_1 m hO t0_0) (hs0_1 m hO t0_0) (ms0_2 m hO t0_0) (hs0_2 m hO t0_0) (ms0_3 m hO t0_0) (hs0_3 m hO t0_0) (ms0_4 m hO t0_0) (hs0_4 m hO t0_0) (ms0_5 m hO t0_0) (hs0_5 m hO t0_0) (ms0_6 m hO t0_0) (hs0_6 m hO t0_0) (ms0_7 m hO t0_0) (hs0_7 m hO t0_0) (ms0_8 m hO t0_0) (hs0_8 m hO t0_0) (hcond0_0 t0_0) (iblk m hO c 0 t0_0) (iblk m hO c 1 t0_0) (iblk m hO c 2 t0_0) (iblk m hO c 3 t0_0) (iblk m hO c 4 t0_0) (tbl m 0) r b
  unfold outsAt0
  dsimp only
  refine hx.trans ?_
  show NewV (Acc (iblk m hO c 0 t0_0 (ix2 r b)) fun k => iblk m hO c 1 t0_0 (ix3 k r b)) (iblk m hO c 4 t0_0 (ix3 0 r b)) = _
  rw [blkG m hO c n h, blkR, blkV]
  rfl
theorem emb8 (t : Fin (cfgM m hO).N) (r : Fin 320) (b : Fin 1024) : (((cfgM m hO).win 8).blk t).view.emb (ix3 0 r b) = (ix3 0 r b : S1x320x1024.Idx) := by
  funext a
  apply Fin.ext
  fin_cases a
  all_goals blk_simp [idx8 m hO t]
  exact congrArg Fin.val (fin_N0 t)
abbrev resV : S1x320x1024.Idx → EReal := fun y => NewV (Grad m c n (y 1) (y 2)) (aV m c y)
include h in
theorem finalV : (dats m hO 0 c).arrAt 8 (cfgM m hO).N = resV m c n := by
  refine (dats m hO 0 c).arrAt_eq_of_covers 8 _ (covm8 m hO) fun t hf y => ?_
  blk_simp
  rw [after0_8]
  revert y
  refine flat _ fun r b => ?_
  rw [emb8]
  exact at8 m hO c n h t r b

include h hO in
/-- The run: the four results, and the arguments unchanged. -/
theorem run (g : Dev nD → PrngReg) : θ_run defs (onTc (τ := τ) (main (F := Ideal))) ⟨m, fun _ => 0, g⟩ (fun r => ∀ c : Dev nD,
      r.2.mem ((c.tc : Thread nD τ).loc main_v0_0) = resG m c n
      ∧ r.2.mem ((c.tc : Thread nD τ).loc main_v0_1) = resD m c n
      ∧ r.2.mem ((c.tc : Thread nD τ).loc main_v0_2) = resM m c n
      ∧ r.2.mem ((c.tc : Thread nD τ).loc main_v0_3) = resV m c n
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hh c => ⟨((hh.2 c).1 5).trans (finalG m hO c n h), ((hh.2 c).1 6).trans (finalD m hO c n h),
      ((hh.2 c).1 7).trans (finalM m hO c n h), ((hh.2 c).1 8).trans (finalV m hO c n h), hh.1 c⟩)
    (θ_run_and (unchanged m g hO) (run_main m g hO))

end Cert.FinishEvInIdeal.Hand

namespace Cert.FinishEvInRefIdeal.Hand

open Cert.FinishEvInRefIdeal Cert.FinishEvInRefIdeal.Gen Cert.FinishEvInRefIdeal.Read Idealize.ShloMosaic Idealize.ShloMosaic.TcCoe Idealize.SL.Sem Cert.Step
open Cert.FinishEvInIdeal.Hand (row)

variable (x0 : (⟨S2560x1024, .bf16⟩ : BufTy).Contents (Elt Ideal)) (x1 : (⟨S7x320x1024, .bf16⟩ : BufTy).Contents (Elt Ideal)) (x2 : (⟨S1, .i32⟩ : BufTy).Contents (Elt Ideal))
  (x3 x4 x5 : (⟨S1x320x1024, .f32⟩ : BufTy).Contents (Elt Ideal)) (n : Fin 8) (h : ∀ x, x2 x = BitVec.ofNat 32 n.val) (r : Fin 320) (b : Fin 1024)

include h in
theorem v6_at (k : Fin 8) : val_main_v6 x0 x2 (ix3 k r b) = if k = n then x0 (ix2 (row k r) b) else 0 := by
  have e2 : x2 = fun _ => BitVec.ofNat 32 n.val := funext h
  subst e2
  have e : val_main_v6 x0 (fun _ => BitVec.ofNat 32 n.val) (ix3 k r b) = Scalar.select (IntOp.cmpi CmpIPredicate.eq (BitVec.ofNat 32 k.val)
      (BitVec.ofNat 32 n.val)) (x0 (ix2 ⟨k.val * 320 + r.val, by omega⟩ b)) (0 : EReal) := by
    unfold val_main_v6 val_main_call0_v1 val_main_v1 val_main_call0_v2 val_main_call0_v0 val_main_v0 val_main_v5 val_main_v4 val_main_v2 val_main_v3 val_main_cst
    unfold id
    pointwise
  rw [e, same_word k n]
  by_cases hk : k = n
  · rw [if_pos hk, if_pos hk]
    exact congrArg (fun a => x0 (ix2 a b)) (Fin.ext (by simp [Nat.mul_comm]))
  · rw [if_neg hk, if_neg hk]
    rfl
include h in
theorem v7_at : val_main_v7 x0 x2 (ix2 r b) = x0 (ix2 (row n r) b) := by
  have e : val_main_v7 x0 x2 (ix2 r b) = ∑ k, val_main_v6 x0 x2 (ix3 k r b) := by
    unfold val_main_v7 val_main_cst_0
    pointwise
  rw [e, Finset.sum_congr rfl fun k _ => v6_at x0 x2 n h r b k]
  exact (Finset.sum_ite_eq' Finset.univ n fun k => x0 (ix2 (row k r) b)).trans (if_pos (Finset.mem_univ n))
theorem v9_at : val_main_v9 x1 (ix2 r b) = ∑ k, x1 (ix3 k r b) := by
  unfold val_main_v9 val_main_cst_1 val_main_v8
  pointwise
include h in
theorem v11_at : val_main_v11 x0 x1 x2 (ix3 0 r b) = Acc (x0 (ix2 (row n r) b)) fun k => x1 (ix3 k r b) := by
  rw [acc_eq, ← v7_at x0 x2 n h r b, ← v9_at]
  unfold val_main_v11 val_main_v10
  generalize val_main_v7 x0 x2 = f
  generalize val_main_v9 x1 = g
  pointwise
theorem v16_at (y : S1x320x1024.Idx) : val_main_v16 x0 x1 x2 x4 y = NewM (val_main_v11 x0 x1 x2 y) (x4 y) := by rfl
theorem v22_at (y : S1x320x1024.Idx) : val_main_v22 x0 x1 x2 x5 y = NewV (val_main_v11 x0 x1 x2 y) (x5 y) := by rfl
theorem v35_at (y : S1x320x1024.Idx) : val_main_v35 x0 x1 x2 x3 x4 x5 y = Delta (x3 y) (val_main_v11 x0 x1 x2 y) (x4 y) (x5 y) := by rfl

end Cert.FinishEvInRefIdeal.Hand

namespace Cert.Proof.FinishEvIn

open Idealize.ShloMosaic Idealize.SL.Sem

instance preFacts : Cert.Pre_own_block_ev_in.Facts := ⟨by decide⟩

theorem pre_word (x : (⟨1, ![1]⟩ : Shape).Idx → BitVec 32) (h : ∀ i, IntOp.andi (IntOp.cmpi .sge (x i) 0#32) (IntOp.cmpi .sle (x i) 7#32) = 1#1) :
    ∃ n : Fin 8, ∀ i, x i = BitVec.ofNat 32 n.val := by
  obtain ⟨n, hn⟩ := Cert.Step.word_of_range _ (h (ix1 0))
  exact ⟨n, fun i => ((congrArg x (eq_ix1 i)).trans (congrArg (fun a : Fin 1 => x (ix1 a)) (Subsingleton.elim _ _))).trans hn⟩

theorem word (m : (ℓ : Loc Cert.FinishEvIn.nD Cert.FinishEvIn.τ Cert.FinishEvIn.sig) → Buf (Elt Bits) ℓ) (h : Cert.Pre_FinishEvIn m) :
    ∃ n : Fin 8, ∀ i, m (((0 : Dev Cert.FinishEvIn.nD).tc : Thread Cert.FinishEvIn.nD Cert.FinishEvIn.τ).loc Cert.FinishEvIn.main_arg2) i = BitVec.ofNat 32 n.val :=
  pre_word _ fun i => congrFun (h 0) i
theorem word_ideal (m : (ℓ : Loc Cert.FinishEvInIdeal.nD Cert.FinishEvInIdeal.τ Cert.FinishEvInIdeal.sig) → Buf (Elt Ideal) ℓ) (h : Cert.Pre_FinishEvInIdeal m) :
    ∃ n : Fin 8, ∀ i, m (((0 : Dev Cert.FinishEvInIdeal.nD).tc : Thread Cert.FinishEvInIdeal.nD Cert.FinishEvInIdeal.τ).loc Cert.FinishEvInIdeal.main_arg2) i = BitVec.ofNat 32 n.val :=
  pre_word _ fun i => congrFun (h 0) i

theorem algebraic : Cert.algebraic_FinishEvInIdeal_FinishEvInRefIdeal := by
  intro m g m' g' hpre hagree
  obtain ⟨n, hn⟩ := word_ideal m hpre
  have hO := Cert.FinishEvInIdeal.Hand.ok m n hn
  refine ⟨fun c => Cert.FinishEvInIdeal.Hand.resG m c n, fun c => Cert.FinishEvInIdeal.Hand.resD m c n, fun c => Cert.FinishEvInIdeal.Hand.resM m c n,
    fun c => Cert.FinishEvInIdeal.Hand.resV m c n, Cert.FinishEvInIdeal.Hand.run m hO n hn g, ?_⟩
  refine (θ_run _ _ _).mono (fun r h c => ?_) (Cert.FinishEvInRefIdeal.Value.run m' g')
  obtain ⟨e0, e1, e2, e3, e4, e5⟩ := hagree c
  obtain rfl : c = 0 := Subsingleton.elim _ _
  refine ⟨(h 0).1.trans ?_, (h 0).2.1.trans ?_, (h 0).2.2.1.trans ?_, (h 0).2.2.2.1.trans ?_, (h 0).2.2.2.2⟩
  · rw [Cert.FinishEvInRefIdeal.Read.val_main_v11_eq, e0, e1, e2]
    exact funext (Cert.FinishEvInIdeal.Hand.flat _ fun r b => Cert.FinishEvInRefIdeal.Hand.v11_at _ _ _ n hn r b)
  · rw [Cert.FinishEvInRefIdeal.Read.val_main_v35_eq, e0, e1, e2, e3, e4, e5]
    refine funext (Cert.FinishEvInIdeal.Hand.flat _ fun r b => ?_)
    rw [Cert.FinishEvInRefIdeal.Hand.v35_at, Cert.FinishEvInRefIdeal.Hand.v11_at _ _ _ n hn r b]
    rfl
  · rw [Cert.FinishEvInRefIdeal.Read.val_main_v16_eq, e0, e1, e2, e4]
    refine funext (Cert.FinishEvInIdeal.Hand.flat _ fun r b => ?_)
    rw [Cert.FinishEvInRefIdeal.Hand.v16_at, Cert.FinishEvInRefIdeal.Hand.v11_at _ _ _ n hn r b]
    rfl
  · rw [Cert.FinishEvInRefIdeal.Read.val_main_v22_eq, e0, e1, e2, e5]
    refine funext (Cert.FinishEvInIdeal.Hand.flat _ fun r b => ?_)
    rw [Cert.FinishEvInRefIdeal.Hand.v22_at, Cert.FinishEvInRefIdeal.Hand.v11_at _ _ _ n hn r b]
    rfl

theorem frame_p : Cert.quiescent_FinishEvIn := fun m ρ h =>
  Cert.FinishEvIn.Gen.frame m ρ ((word m h).elim fun n hn => Cert.FinishEvIn.Hand.ok m n hn)
theorem frame_pi : Cert.quiescent_FinishEvInIdeal := fun m ρ h =>
  Cert.FinishEvInIdeal.Gen.frame m ρ ((word_ideal m h).elim fun n hn => Cert.FinishEvInIdeal.Hand.ok m n hn)
theorem frame_ri : Cert.quiescent_FinishEvInRefIdeal := fun m ρ _ =>
  (θ_run Cert.FinishEvInRefIdeal.defs _ _).mono (fun r h => ⟨fun c => (h c).2.2.2.2, sem_eq_zero_of_no_sems (by decide) r.2⟩)
    (Cert.FinishEvInRefIdeal.Value.run (F := Ideal) m ρ)
theorem frame_ri_pre : Cert.quiescent_FinishEvInRefIdeal_pre_own_block_ev_in := fun m ρ _ => frame_ri m ρ trivial

end Cert.Proof.FinishEvIn
end
-- ==== Proof.Calls.FinishOdIn.lean ====
/- The optimiser's update of a sharded weight: the block of the gradient that this device keeps. -/
module

public import proofs.«01_k».proof.Defs
public import proofs.«01_k».proof.Proof.Gen.FinishOdIn.Frame
public import proofs.«01_k».proof.Proof.Gen.FinishOdInIdeal.Frame
public import proofs.«01_k».proof.Proof.Gen.FinishOdInRefIdeal.Run
public import proofs.«01_k».proof.Proof.Gen.FinishOdInRefIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.DynamicIndex
public import proofs.«01_k».proof.Proof.Calls.FinishShared

@[expose] public section

set_option maxRecDepth 16384
noncomputable section

namespace Cert.FinishOdIn.Hand

open Cert.FinishOdIn Cert.FinishOdIn.Gen Idealize.ShloMosaic Idealize.ShloMosaic.TcCoe Idealize.SL.Sem Cert.Step

/-- The table that names device `n`. -/
def pf (n : Fin 8) : pre0.Contents (Elt Bits) := fun | ⟨0, _⟩ => fun _ => BitVec.ofNat 32 n.val | ⟨_ + 1, h⟩ => absurd h (by simp)

theorem ok_all : ∀ n : Fin 8, ok0 (F := Bits) (pf n) := by decide

theorem ok (m : (ℓ : Loc nD τ sig) → Buf (Elt Bits) ℓ) (n : Fin 8)
    (h : ∀ x, m (((0 : Dev nD) : Thread nD τ).loc main_arg2) x = BitVec.ofNat 32 n.val) : Ok m := by
  have e : tbl m = pf n := by
    funext j x
    match j with
    | ⟨0, _⟩ => exact h x
  unfold Ok; rw [e]; exact ok_all n

end Cert.FinishOdIn.Hand

namespace Cert.FinishOdInIdeal.Hand

open Cert.FinishOdInIdeal Cert.FinishOdInIdeal.Gen Idealize.ShloMosaic Idealize.ShloMosaic.TcCoe Idealize.SL.Sem Cert.Step
open Idealize.ShloMosaic.Pipeline (Dat)

/-- The table that names device `n`. -/
def pf (n : Fin 8) : pre0.Contents (Elt Ideal) := fun | ⟨0, _⟩ => fun _ => BitVec.ofNat 32 n.val | ⟨_ + 1, h⟩ => absurd h (by simp)

theorem ok_all : ∀ n : Fin 8, ok0 (F := Ideal) (pf n) := by decide

section
variable (m : (ℓ : Loc nD τ sig) → Buf (Elt Ideal) ℓ) (n : Fin 8)
    (h : ∀ x, m (((0 : Dev nD) : Thread nD τ).loc main_arg2) x = BitVec.ofNat 32 n.val)
include h
theorem tbl_eq : tbl m = pf n := by
  funext j x
  match j with
  | ⟨0, _⟩ => exact h x
theorem ok : Ok m := by
  unfold Ok; rw [tbl_eq m n h]; exact ok_all n
end

theorem outG (c i) (a2 h2 a3 h3 a4 h4 a5 h5 a6 h6 a7 h7 a8 h8 a9 h9 a10 h10 hc x0 x1 x2 x3 x4 xt) (r : Fin 256) (b : Fin 1024) :
    out0_A_5 (F := Ideal) c i a2 h2 a3 h3 a4 h4 a5 h5 a6 h6 a7 h7 a8 h8 a9 h9 a10 h10 hc x0 x1 x2 x3 x4 xt (ix3 0 r b) =
      (Acc (x0 (ix2 r b)) fun k => x1 (ix3 k r b)) := by
  frame_open
  frame_out
  unfold_payloads
  pointwise
  first | done | rfl

theorem outD (c i) (a2 h2 a3 h3 a4 h4 a5 h5 a6 h6 a7 h7 a8 h8 a9 h9 a10 h10 hc x0 x1 x2 x3 x4 xt) (r : Fin 256) (b : Fin 1024) :
    out0_A_6 (F := Ideal) c i a2 h2 a3 h3 a4 h4 a5 h5 a6 h6 a7 h7 a8 h8 a9 h9 a10 h10 hc x0 x1 x2 x3 x4 xt (ix3 0 r b) =
      Delta (x2 (ix3 0 r b)) (Acc (x0 (ix2 r b)) fun k => x1 (ix3 k r b)) (x3 (ix3 0 r b)) (x4 (ix3 0 r b)) := by
  frame_open
  frame_out
  unfold_payloads
  pointwise
  first | done | rfl

theorem outM (c i) (a2 h2 a3 h3 a4 h4 a5 h5 a6 h6 a7 h7 a8 h8 a9 h9 a10 h10 hc x0 x1 x2 x3 x4 xt) (r : Fin 256) (b : Fin 1024) :
    out0_A_7 (F := Ideal) c i a2 h2 a3 h3 a4 h4 a5 h5 a6 h6 a7 h7 a8 h8 a9 h9 a10 h10 hc x0 x1 x2 x3 x4 xt (ix3 0 r b) =
      NewM (Acc (x0 (ix2 r b)) fun k => x1 (ix3 k r b)) (x3 (ix3 0 r b)) := by
  frame_open
  frame_out
  unfold_payloads
  pointwise
  first | done | rfl

theorem outV (c i) (a2 h2 a3 h3 a4 h4 a5 h5 a6 h6 a7 h7 a8 h8 a9 h9 a10 h10 hc x0 x1 x2 x3 x4 xt) (r : Fin 256) (b : Fin 1024) :
    out0_A_8 (F := Ideal) c i a2 h2 a3 h3 a4 h4 a5 h5 a6 h6 a7 h7 a8 h8 a9 h9 a10 h10 hc x0 x1 x2 x3 x4 xt (ix3 0 r b) =
      NewV (Acc (x0 (ix2 r b)) fun k => x1 (ix3 k r b)) (x4 (ix3 0 r b)) := by
  frame_open
  frame_out
  unfold_payloads
  pointwise
  first | done | rfl

variable (m : (ℓ : Loc nD τ sig) → Buf (Elt Ideal) ℓ) (hO : Ok m) (c : Dev nD)

abbrev aG : S2048x1024.Idx → EReal := m ((c.tc : Thread nD τ).loc main_arg0)
abbrev aR : S7x256x1024.Idx → EReal := m ((c.tc : Thread nD τ).loc main_arg1)
abbrev aW : S1x256x1024.Idx → EReal := m ((c.tc : Thread nD τ).loc main_arg3)
abbrev aM : S1x256x1024.Idx → EReal := m ((c.tc : Thread nD τ).loc main_arg4)
abbrev aV : S1x256x1024.Idx → EReal := m ((c.tc : Thread nD τ).loc main_arg5)

theorem tr0 : ∀ (n : Fin 8) (t : Fin grid0.N), cc0_transform_0 (F := Ideal) inb_S1_S1_0 numel1_S1 (pf n) (grid0.coords t) = ![n.val, 0] := by decide
theorem tr1 : ∀ t : Fin grid0.N, cc0_transform_1 (grid0.coords t) = ![0, 0, 0] := by decide
theorem tr2 : ∀ t : Fin grid0.N, cc0_transform_2 (grid0.coords t) = ![t.val, 0, 0] := by decide
theorem idx1 (t : Fin (cfgM m hO).N) : ((cfgM m hO).win 1).index t = ![0, 0, 0] := tr1 t
theorem idx2 (t : Fin (cfgM m hO).N) : ((cfgM m hO).win 2).index t = ![t.val, 0, 0] := tr2 t
theorem idx3 (t : Fin (cfgM m hO).N) : ((cfgM m hO).win 3).index t = ![t.val, 0, 0] := tr2 t
theorem idx4 (t : Fin (cfgM m hO).N) : ((cfgM m hO).win 4).index t = ![t.val, 0, 0] := tr2 t
theorem idx5 (t : Fin (cfgM m hO).N) : ((cfgM m hO).win 5).index t = ![t.val, 0, 0] := tr2 t
theorem idx6 (t : Fin (cfgM m hO).N) : ((cfgM m hO).win 6).index t = ![t.val, 0, 0] := tr2 t
theorem idx7 (t : Fin (cfgM m hO).N) : ((cfgM m hO).win 7).index t = ![t.val, 0, 0] := tr2 t
theorem idx8 (t : Fin (cfgM m hO).N) : ((cfgM m hO).win 8).index t = ![t.val, 0, 0] := tr2 t

theorem blkR (t : Fin (cfgM m hO).N) : iblk m hO c 1 t = aR m c := by
  funext y
  blk_ext [iblk, V, idx1 m hO t]
theorem blkW (t : Fin (cfgM m hO).N) (r : Fin 256) (b : Fin 1024) : iblk m hO c 2 t (ix3 0 r b) = aW m c (ix3 t r b) := by
  blk_ext [iblk, V, idx2 m hO t]
theorem blkM (t : Fin (cfgM m hO).N) (r : Fin 256) (b : Fin 1024) : iblk m hO c 3 t (ix3 0 r b) = aM m c (ix3 t r b) := by
  blk_ext [iblk, V, idx3 m hO t]
theorem blkV (t : Fin (cfgM m hO).N) (r : Fin 256) (b : Fin 1024) : iblk m hO c 4 t (ix3 0 r b) = aV m c (ix3 t r b) := by
  blk_ext [iblk, V, idx4 m hO t]

variable (n : Fin 8) (h : ∀ x, m (((0 : Dev nD) : Thread nD τ).loc main_arg2) x = BitVec.ofNat 32 n.val)

/-- Row `r` of the block of the gradient that device `n` keeps. -/
abbrev row (n : Fin 8) (r : Fin 256) : Fin 2048 := ⟨256 * n.val + r.val, by omega⟩

/-- The gradient summed over the devices. -/
abbrev Grad (r : Fin 256) (b : Fin 1024) : EReal := Acc (aG m c (ix2 (row n r) b)) fun k => aR m c (ix3 k r b)

include h in
theorem blkG (t : Fin (cfgM m hO).N) (r : Fin 256) (b : Fin 1024) : iblk m hO c 0 t (ix2 r b) = aG m c (ix2 (row n r) b) := by
  have e : ((cfgM m hO).win 0).index t = ![n.val, 0] := by
    have := tr0 n t
    rw [← tbl_eq m n h] at this
    exact this
  blk_ext [iblk, V, e]
  all_goals simp [Nat.mul_comm]

theorem flat (P : S1x256x1024.Idx → Prop) (H : ∀ r b, P (ix3 0 r b)) (y : S1x256x1024.Idx) : P y := by
  obtain ⟨z, r, b, rfl⟩ : ∃ (z : Fin 1) (r : Fin 256) (b : Fin 1024), y = ix3 z r b := ⟨y 0, y 1, y 2, eq_ix3 y⟩
  obtain rfl : z = 0 := Subsingleton.elim _ _
  exact H r b

theorem cov5 : ((cfg0 (F := Ideal) ⟨pf 0, ok_all 0⟩).win 5).Covers := by decide +kernel
theorem covm5 : ((cfgM m hO).win 5).Covers := cov5
include h in
theorem at5 (t : Fin (cfgM m hO).N) (r : Fin 256) (b : Fin 1024) : (outsAt0 m hO c t).1 (ix3 0 r b) =
    (fun y : S1x256x1024.Idx => Grad m c n (y 1) (y 2)) (ix3 0 r b) := by
  obtain rfl : t = t0_0 := fin_N0 t
  have hx := outG c (grid0.coords t0_0) (ms0_0 m hO t0_0) (hs0_0 m hO t0_0) (ms0_1 m hO t0_0) (hs0_1 m hO t0_0) (ms0_2 m hO t0_0) (hs0_2 m hO t0_0) (ms0_3 m hO t0_0) (hs0_3 m hO t0_0) (ms0_4 m hO t0_0) (hs0_4 m hO t0_0) (ms0_5 m hO t0_0) (hs0_5 m hO t0_0) (ms0_6 m hO t0_0) (hs0_6 m hO t0_0) (ms0_7 m hO t0_0) (hs0_7 m hO t0_0) (ms0_8 m hO t0_0) (hs0_8 m hO t0_0) (hcond0_0 t0_0) (iblk m hO c 0 t0_0) (iblk m hO c 1 t0_0) (iblk m hO c 2 t0_0) (iblk m hO c 3 t0_0) (iblk m hO c 4 t0_0) (tbl m 0) r b
  unfold outsAt0
  dsimp only
  refine hx.trans ?_
  show (Acc (iblk m hO c 0 t0_0 (ix2 r b)) fun k => iblk m hO c 1 t0_0 (ix3 k r b)) = _
  rw [blkG m hO c n h, blkR]
  rfl
theorem emb5 (t : Fin (cfgM m hO).N) (r : Fin 256) (b : Fin 1024) : (((cfgM m hO).win 5).blk t).view.emb (ix3 0 r b) = (ix3 0 r b : S1x256x1024.Idx) := by
  funext a
  apply Fin.ext
  fin_cases a
  all_goals blk_simp [idx5 m hO t]
  exact congrArg Fin.val (fin_N0 t)
abbrev resG : S1x256x1024.Idx → EReal := fun y => Grad m c n (y 1) (y 2)
include h in
theorem finalG : (dats m hO 0 c).arrAt 5 (cfgM m hO).N = resG m c n := by
  refine (dats m hO 0 c).arrAt_eq_of_covers 5 _ (covm5 m hO) fun t hf y => ?_
  blk_simp
  rw [after0_5]
  revert y
  refine flat _ fun r b => ?_
  rw [emb5]
  exact at5 m hO c n h t r b

theorem cov6 : ((cfg0 (F := Ideal) ⟨pf 0, ok_all 0⟩).win 6).Covers := by decide +kernel
theorem covm6 : ((cfgM m hO).win 6).Covers := cov6
include h in
theorem at6 (t : Fin (cfgM m hO).N) (r : Fin 256) (b : Fin 1024) : (outsAt0 m hO c t).2.1 (ix3 0 r b) =
    (fun y : S1x256x1024.Idx => Delta (aW m c y) (Grad m c n (y 1) (y 2)) (aM m c y) (aV m c y)) (ix3 0 r b) := by
  obtain rfl : t = t0_0 := fin_N0 t
  have hx := outD c (grid0.coords t0_0) (ms0_0 m hO t0_0) (hs0_0 m hO t0_0) (ms0_1 m hO t0_0) (hs0_1 m hO t0_0) (ms0_2 m hO t0_0) (hs0_2 m hO t0_0) (ms0_3 m hO t0_0) (hs0_3 m hO t0_0) (ms0_4 m hO t0_0) (hs0_4 m hO t0_0) (ms0_5 m hO t0_0) (hs0_5 m hO t0_0) (ms0_6 m hO t0_0) (hs0_6 m hO t0_0) (ms0_7 m hO t0_0) (hs0_7 m hO t0_0) (ms0_8 m hO t0_0) (hs0_8 m hO t0_0) (hcond0_0 t0_0) (iblk m hO c 0 t0_0) (iblk m hO c 1 t0_0) (iblk m hO c 2 t0_0) (iblk m hO c 3 t0_0) (iblk m hO c 4 t0_0) (tbl m 0) r b
  unfold outsAt0
  dsimp only
  refine hx.trans ?_
  show Delta (iblk m hO c 2 t0_0 (ix3 0 r b)) (Acc (iblk m hO c 0 t0_0 (ix2 r b)) fun k => iblk m hO c 1 t0_0 (ix3 k r b)) (iblk m hO c 3 t0_0 (ix3 0 r b)) (iblk m hO c 4 t0_0 (ix3 0 r b)) = _
  rw [blkG m hO c n h, blkR, blkW, blkM, blkV]
  rfl
theorem emb6 (t : Fin (cfgM m hO).N) (r : Fin 256) (b : Fin 1024) : (((cfgM m hO).win 6).blk t).view.emb (ix3 0 r b) = (ix3 0 r b : S1x256x1024.Idx) := by
  funext a
  apply Fin.ext
  fin_cases a
  all_goals blk_simp [idx6 m hO t]
  exact congrArg Fin.val (fin_N0 t)
abbrev resD : S1x256x1024.Idx → EReal := fun y => Delta (aW m c y) (Grad m c n (y 1) (y 2)) (aM m c y) (aV m c y)
include h in
theorem finalD : (dats m hO 0 c).arrAt 6 (cfgM m hO).N = resD m c n := by
  refine (dats m hO 0 c).arrAt_eq_of_covers 6 _ (covm6 m hO) fun t hf y => ?_
  blk_simp
  rw [after0_6]
  revert y
  refine flat _ fun r b => ?_
  rw [emb6]
  exact at6 m hO c n h t r b

theorem cov7 : ((cfg0 (F := Ideal) ⟨pf 0, ok_all 0⟩).win 7).Covers := by decide +kernel
theorem covm7 : ((cfgM m hO).win 7).Covers := cov7
include h in
theorem at7 (t : Fin (cfgM m hO).N) (r : Fin 256) (b : Fin 1024) : (outsAt0 m hO c t).2.2.1 (ix3 0 r b) =
    (fun y : S1x256x1024.Idx => NewM (Grad m c n (y 1) (y 2)) (aM m c y)) (ix3 0 r b) := by
  obtain rfl : t = t0_0 := fin_N0 t
  have hx := outM c (grid0.coords t0_0) (ms0_0 m hO t0_0) (hs0_0 m hO t0_0) (ms0_1 m hO t0_0) (hs0_1 m hO t0_0) (ms0_2 m hO t0_0) (hs0_2 m hO t0_0) (ms0_3 m hO t0_0) (hs0_3 m hO t0_0) (ms0_4 m hO t0_0) (hs0_4 m hO t0_0) (ms0_5 m hO t0_0) (hs0_5 m hO t0_0) (ms0_6 m hO t0_0) (hs0_6 m hO t0_0) (ms0_7 m hO t0_0) (hs0_7 m hO t0_0) (ms0_8 m hO t0_0) (hs0_8 m hO t0_0) (hcond0_0 t0_0) (iblk m hO c 0 t0_0) (iblk m hO c 1 t0_0) (iblk m hO c 2 t0_0) (iblk m hO c 3 t0_0) (iblk m hO c 4 t0_0) (tbl m 0) r b
  unfold outsAt0
  dsimp only
  refine hx.trans ?_
  show NewM (Acc (iblk m hO c 0 t0_0 (ix2 r b)) fun k => iblk m hO c 1 t0_0 (ix3 k r b)) (iblk m hO c 3 t0_0 (ix3 0 r b)) = _
  rw [blkG m hO c n h, blkR, blkM]
  rfl
theorem emb7 (t : Fin (cfgM m hO).N) (r : Fin 256) (b : Fin 1024) : (((cfgM m hO).win 7).blk t).view.emb (ix3 0 r b) = (ix3 0 r b : S1x256x1024.Idx) := by
  funext a
  apply Fin.ext
  fin_cases a
  all_goals blk_simp [idx7 m hO t]
  exact congrArg Fin.val (fin_N0 t)
abbrev resM : S1x256x1024.Idx → EReal := fun y => NewM (Grad m c n (y 1) (y 2)) (aM m c y)
include h in
theorem finalM : (dats m hO 0 c).arrAt 7 (cfgM m hO).N = resM m c n := by
  refine (dats m hO 0 c).arrAt_eq_of_covers 7 _ (covm7 m hO) fun t hf y => ?_
  blk_simp
  rw [after0_7]
  revert y
  refine flat _ fun r b => ?_
  rw [emb7]
  exact at7 m hO c n h t r b

theorem cov8 : ((cfg0 (F := Ideal) ⟨pf 0, ok_all 0⟩).win 8).Covers := by decide +kernel
theorem covm8 : ((cfgM m hO).win 8).Covers := cov8
include h in
theorem at8 (t : Fin (cfgM m hO).N) (r : Fin 256) (b : Fin 1024) : (outsAt0 m hO c t).2.2.2 (ix3 0 r b) =
    (fun y : S1x256x1024.Idx => NewV (Grad m c n (y 1) (y 2)) (aV m c y)) (ix3 0 r b) := by
  obtain rfl : t = t0_0 := fin_N0 t
  have hx := outV c (grid0.coords t0_0) (ms0_0 m hO t0_0) (hs0_0 m hO t0_0) (ms0_1 m hO t0_0) (hs0_1 m hO t0_0) (ms0_2 m hO t0_0) (hs0_2 m hO t0_0) (ms0_3 m hO t0_0) (hs0_3 m hO t0_0) (ms0_4 m hO t0_0) (hs0_4 m hO t0_0) (ms0_5 m hO t0_0) (hs0_5 m hO t0_0) (ms0_6 m hO t0_0) (hs0_6 m hO t0_0) (ms0_7 m hO t0_0) (hs0_7 m hO t0_0) (ms0_8 m hO t0_0) (hs0_8 m hO t0_0) (hcond0_0 t0_0) (iblk m hO c 0 t0_0) (iblk m hO c 1 t0_0) (iblk m hO c 2 t0_0) (iblk m hO c 3 t0_0) (iblk m hO c 4 t0_0) (tbl m 0) r b
  unfold outsAt0
  dsimp only
  refine hx.trans ?_
  show NewV (Acc (iblk m hO c 0 t0_0 (ix2 r b)) fun k => iblk m hO c 1 t0_0 (ix3 k r b)) (iblk m hO c 4 t0_0 (ix3 0 r b)) = _
  rw [blkG m hO c n h, blkR, blkV]
  rfl
theorem emb8 (t : Fin (cfgM m hO).N) (r : Fin 256) (b : Fin 1024) : (((cfgM m hO).win 8).blk t).view.emb (ix3 0 r b) = (ix3 0 r b : S1x256x1024.Idx) := by
  funext a
  apply Fin.ext
  fin_cases a
  all_goals blk_simp [idx8 m hO t]
  exact congrArg Fin.val (fin_N0 t)
abbrev resV : S1x256x1024.Idx → EReal := fun y => NewV (Grad m c n (y 1) (y 2)) (aV m c y)
include h in
theorem finalV : (dats m hO 0 c).arrAt 8 (cfgM m hO).N = resV m c n := by
  refine (dats m hO 0 c).arrAt_eq_of_covers 8 _ (covm8 m hO) fun t hf y => ?_
  blk_simp
  rw [after0_8]
  revert y
  refine flat _ fun r b => ?_
  rw [emb8]
  exact at8 m hO c n h t r b

include h hO in
/-- The run: the four results, and the arguments unchanged. -/
theorem run (g : Dev nD → PrngReg) : θ_run defs (onTc (τ := τ) (main (F := Ideal))) ⟨m, fun _ => 0, g⟩ (fun r => ∀ c : Dev nD,
      r.2.mem ((c.tc : Thread nD τ).loc main_v0_0) = resG m c n
      ∧ r.2.mem ((c.tc : Thread nD τ).loc main_v0_1) = resD m c n
      ∧ r.2.mem ((c.tc : Thread nD τ).loc main_v0_2) = resM m c n
      ∧ r.2.mem ((c.tc : Thread nD τ).loc main_v0_3) = resV m c n
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hh c => ⟨((hh.2 c).1 5).trans (finalG m hO c n h), ((hh.2 c).1 6).trans (finalD m hO c n h),
      ((hh.2 c).1 7).trans (finalM m hO c n h), ((hh.2 c).1 8).trans (finalV m hO c n h), hh.1 c⟩)
    (θ_run_and (unchanged m g hO) (run_main m g hO))

end Cert.FinishOdInIdeal.Hand

namespace Cert.FinishOdInRefIdeal.Hand

open Cert.FinishOdInRefIdeal Cert.FinishOdInRefIdeal.Gen Cert.FinishOdInRefIdeal.Read Idealize.ShloMosaic Idealize.ShloMosaic.TcCoe Idealize.SL.Sem Cert.Step
open Cert.FinishOdInIdeal.Hand (row)

variable (x0 : (⟨S2048x1024, .bf16⟩ : BufTy).Contents (Elt Ideal)) (x1 : (⟨S7x256x1024, .bf16⟩ : BufTy).Contents (Elt Ideal)) (x2 : (⟨S1, .i32⟩ : BufTy).Contents (Elt Ideal))
  (x3 x4 x5 : (⟨S1x256x1024, .f32⟩ : BufTy).Contents (Elt Ideal)) (n : Fin 8) (h : ∀ x, x2 x = BitVec.ofNat 32 n.val) (r : Fin 256) (b : Fin 1024)

include h in
theorem v6_at (k : Fin 8) : val_main_v6 x0 x2 (ix3 k r b) = if k = n then x0 (ix2 (row k r) b) else 0 := by
  have e2 : x2 = fun _ => BitVec.ofNat 32 n.val := funext h
  subst e2
  have e : val_main_v6 x0 (fun _ => BitVec.ofNat 32 n.val) (ix3 k r b) = Scalar.select (IntOp.cmpi CmpIPredicate.eq (BitVec.ofNat 32 k.val)
      (BitVec.ofNat 32 n.val)) (x0 (ix2 ⟨k.val * 256 + r.val, by omega⟩ b)) (0 : EReal) := by
    unfold val_main_v6 val_main_call0_v1 val_main_v1 val_main_call0_v2 val_main_call0_v0 val_main_v0 val_main_v5 val_main_v4 val_main_v2 val_main_v3 val_main_cst
    unfold id
    pointwise
  rw [e, same_word k n]
  by_cases hk : k = n
  · rw [if_pos hk, if_pos hk]
    exact congrArg (fun a => x0 (ix2 a b)) (Fin.ext (by simp [Nat.mul_comm]))
  · rw [if_neg hk, if_neg hk]
    rfl
include h in
theorem v7_at : val_main_v7 x0 x2 (ix2 r b) = x0 (ix2 (row n r) b) := by
  have e : val_main_v7 x0 x2 (ix2 r b) = ∑ k, val_main_v6 x0 x2 (ix3 k r b) := by
    unfold val_main_v7 val_main_cst_0
    pointwise
  rw [e, Finset.sum_congr rfl fun k _ => v6_at x0 x2 n h r b k]
  exact (Finset.sum_ite_eq' Finset.univ n fun k => x0 (ix2 (row k r) b)).trans (if_pos (Finset.mem_univ n))
theorem v9_at : val_main_v9 x1 (ix2 r b) = ∑ k, x1 (ix3 k r b) := by
  unfold val_main_v9 val_main_cst_1 val_main_v8
  pointwise
include h in
theorem v11_at : val_main_v11 x0 x1 x2 (ix3 0 r b) = Acc (x0 (ix2 (row n r) b)) fun k => x1 (ix3 k r b) := by
  rw [acc_eq, ← v7_at x0 x2 n h r b, ← v9_at]
  unfold val_main_v11 val_main_v10
  generalize val_main_v7 x0 x2 = f
  generalize val_main_v9 x1 = g
  pointwise
theorem v16_at (y : S1x256x1024.Idx) : val_main_v16 x0 x1 x2 x4 y = NewM (val_main_v11 x0 x1 x2 y) (x4 y) := by rfl
theorem v22_at (y : S1x256x1024.Idx) : val_main_v22 x0 x1 x2 x5 y = NewV (val_main_v11 x0 x1 x2 y) (x5 y) := by rfl
theorem v35_at (y : S1x256x1024.Idx) : val_main_v35 x0 x1 x2 x3 x4 x5 y = Delta (x3 y) (val_main_v11 x0 x1 x2 y) (x4 y) (x5 y) := by rfl

end Cert.FinishOdInRefIdeal.Hand

namespace Cert.Proof.FinishOdIn

open Idealize.ShloMosaic Idealize.SL.Sem

instance preFacts : Cert.Pre_own_block_od_in.Facts := ⟨by decide⟩

theorem pre_word (x : (⟨1, ![1]⟩ : Shape).Idx → BitVec 32) (h : ∀ i, IntOp.andi (IntOp.cmpi .sge (x i) 0#32) (IntOp.cmpi .sle (x i) 7#32) = 1#1) :
    ∃ n : Fin 8, ∀ i, x i = BitVec.ofNat 32 n.val := by
  obtain ⟨n, hn⟩ := Cert.Step.word_of_range _ (h (ix1 0))
  exact ⟨n, fun i => ((congrArg x (eq_ix1 i)).trans (congrArg (fun a : Fin 1 => x (ix1 a)) (Subsingleton.elim _ _))).trans hn⟩

theorem word (m : (ℓ : Loc Cert.FinishOdIn.nD Cert.FinishOdIn.τ Cert.FinishOdIn.sig) → Buf (Elt Bits) ℓ) (h : Cert.Pre_FinishOdIn m) :
    ∃ n : Fin 8, ∀ i, m (((0 : Dev Cert.FinishOdIn.nD).tc : Thread Cert.FinishOdIn.nD Cert.FinishOdIn.τ).loc Cert.FinishOdIn.main_arg2) i = BitVec.ofNat 32 n.val :=
  pre_word _ fun i => congrFun (h 0) i
theorem word_ideal (m : (ℓ : Loc Cert.FinishOdInIdeal.nD Cert.FinishOdInIdeal.τ Cert.FinishOdInIdeal.sig) → Buf (Elt Ideal) ℓ) (h : Cert.Pre_FinishOdInIdeal m) :
    ∃ n : Fin 8, ∀ i, m (((0 : Dev Cert.FinishOdInIdeal.nD).tc : Thread Cert.FinishOdInIdeal.nD Cert.FinishOdInIdeal.τ).loc Cert.FinishOdInIdeal.main_arg2) i = BitVec.ofNat 32 n.val :=
  pre_word _ fun i => congrFun (h 0) i

theorem algebraic : Cert.algebraic_FinishOdInIdeal_FinishOdInRefIdeal := by
  intro m g m' g' hpre hagree
  obtain ⟨n, hn⟩ := word_ideal m hpre
  have hO := Cert.FinishOdInIdeal.Hand.ok m n hn
  refine ⟨fun c => Cert.FinishOdInIdeal.Hand.resG m c n, fun c => Cert.FinishOdInIdeal.Hand.resD m c n, fun c => Cert.FinishOdInIdeal.Hand.resM m c n,
    fun c => Cert.FinishOdInIdeal.Hand.resV m c n, Cert.FinishOdInIdeal.Hand.run m hO n hn g, ?_⟩
  refine (θ_run _ _ _).mono (fun r h c => ?_) (Cert.FinishOdInRefIdeal.Value.run m' g')
  obtain ⟨e0, e1, e2, e3, e4, e5⟩ := hagree c
  obtain rfl : c = 0 := Subsingleton.elim _ _
  refine ⟨(h 0).1.trans ?_, (h 0).2.1.trans ?_, (h 0).2.2.1.trans ?_, (h 0).2.2.2.1.trans ?_, (h 0).2.2.2.2⟩
  · rw [Cert.FinishOdInRefIdeal.Read.val_main_v11_eq, e0, e1, e2]
    exact funext (Cert.FinishOdInIdeal.Hand.flat _ fun r b => Cert.FinishOdInRefIdeal.Hand.v11_at _ _ _ n hn r b)
  · rw [Cert.FinishOdInRefIdeal.Read.val_main_v35_eq, e0, e1, e2, e3, e4, e5]
    refine funext (Cert.FinishOdInIdeal.Hand.flat _ fun r b => ?_)
    rw [Cert.FinishOdInRefIdeal.Hand.v35_at, Cert.FinishOdInRefIdeal.Hand.v11_at _ _ _ n hn r b]
    rfl
  · rw [Cert.FinishOdInRefIdeal.Read.val_main_v16_eq, e0, e1, e2, e4]
    refine funext (Cert.FinishOdInIdeal.Hand.flat _ fun r b => ?_)
    rw [Cert.FinishOdInRefIdeal.Hand.v16_at, Cert.FinishOdInRefIdeal.Hand.v11_at _ _ _ n hn r b]
    rfl
  · rw [Cert.FinishOdInRefIdeal.Read.val_main_v22_eq, e0, e1, e2, e5]
    refine funext (Cert.FinishOdInIdeal.Hand.flat _ fun r b => ?_)
    rw [Cert.FinishOdInRefIdeal.Hand.v22_at, Cert.FinishOdInRefIdeal.Hand.v11_at _ _ _ n hn r b]
    rfl

theorem frame_p : Cert.quiescent_FinishOdIn := fun m ρ h =>
  Cert.FinishOdIn.Gen.frame m ρ ((word m h).elim fun n hn => Cert.FinishOdIn.Hand.ok m n hn)
theorem frame_pi : Cert.quiescent_FinishOdInIdeal := fun m ρ h =>
  Cert.FinishOdInIdeal.Gen.frame m ρ ((word_ideal m h).elim fun n hn => Cert.FinishOdInIdeal.Hand.ok m n hn)
theorem frame_ri : Cert.quiescent_FinishOdInRefIdeal := fun m ρ _ =>
  (θ_run Cert.FinishOdInRefIdeal.defs _ _).mono (fun r h => ⟨fun c => (h c).2.2.2.2, sem_eq_zero_of_no_sems (by decide) r.2⟩)
    (Cert.FinishOdInRefIdeal.Value.run (F := Ideal) m ρ)
theorem frame_ri_pre : Cert.quiescent_FinishOdInRefIdeal_pre_own_block_od_in := fun m ρ _ => frame_ri m ρ trivial

end Cert.Proof.FinishOdIn
end
-- ==== Proof.Calls.FinishOut.lean ====
/- The optimiser's update of a sharded weight: the block of the gradient that this device keeps. -/
module

public import proofs.«01_k».proof.Defs
public import proofs.«01_k».proof.Proof.Gen.FinishOut.Frame
public import proofs.«01_k».proof.Proof.Gen.FinishOutIdeal.Frame
public import proofs.«01_k».proof.Proof.Gen.FinishOutRefIdeal.Run
public import proofs.«01_k».proof.Proof.Gen.FinishOutRefIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.DynamicIndex
public import proofs.«01_k».proof.Proof.Calls.FinishShared

@[expose] public section

set_option maxRecDepth 16384
noncomputable section

namespace Cert.FinishOut.Hand

open Cert.FinishOut Cert.FinishOut.Gen Idealize.ShloMosaic Idealize.ShloMosaic.TcCoe Idealize.SL.Sem Cert.Step

/-- The table that names device `n`. -/
def pf (n : Fin 8) : pre0.Contents (Elt Bits) := fun | ⟨0, _⟩ => fun _ => BitVec.ofNat 32 n.val | ⟨_ + 1, h⟩ => absurd h (by simp)

theorem ok_all : ∀ n : Fin 8, ok0 (F := Bits) (pf n) := by decide

theorem ok (m : (ℓ : Loc nD τ sig) → Buf (Elt Bits) ℓ) (n : Fin 8)
    (h : ∀ x, m (((0 : Dev nD) : Thread nD τ).loc main_arg2) x = BitVec.ofNat 32 n.val) : Ok m := by
  have e : tbl m = pf n := by
    funext j x
    match j with
    | ⟨0, _⟩ => exact h x
  unfold Ok; rw [e]; exact ok_all n

end Cert.FinishOut.Hand

namespace Cert.FinishOutIdeal.Hand

open Cert.FinishOutIdeal Cert.FinishOutIdeal.Gen Idealize.ShloMosaic Idealize.ShloMosaic.TcCoe Idealize.SL.Sem Cert.Step
open Idealize.ShloMosaic.Pipeline (Dat)

/-- The table that names device `n`. -/
def pf (n : Fin 8) : pre0.Contents (Elt Ideal) := fun | ⟨0, _⟩ => fun _ => BitVec.ofNat 32 n.val | ⟨_ + 1, h⟩ => absurd h (by simp)

theorem ok_all : ∀ n : Fin 8, ok0 (F := Ideal) (pf n) := by decide

section
variable (m : (ℓ : Loc nD τ sig) → Buf (Elt Ideal) ℓ) (n : Fin 8)
    (h : ∀ x, m (((0 : Dev nD) : Thread nD τ).loc main_arg2) x = BitVec.ofNat 32 n.val)
include h
theorem tbl_eq : tbl m = pf n := by
  funext j x
  match j with
  | ⟨0, _⟩ => exact h x
theorem ok : Ok m := by
  unfold Ok; rw [tbl_eq m n h]; exact ok_all n
end

theorem outG (c i) (a2 h2 a3 h3 a4 h4 a5 h5 a6 h6 a7 h7 a8 h8 a9 h9 a10 h10 hc x0 x1 x2 x3 x4 xt) (r : Fin 128) (b : Fin 1024) :
    out0_A_5 (F := Ideal) c i a2 h2 a3 h3 a4 h4 a5 h5 a6 h6 a7 h7 a8 h8 a9 h9 a10 h10 hc x0 x1 x2 x3 x4 xt (ix3 0 r b) =
      (Acc (x0 (ix2 r b)) fun k => x1 (ix3 k r b)) := by
  frame_open
  frame_out
  unfold_payloads
  pointwise
  first | done | rfl

theorem outD (c i) (a2 h2 a3 h3 a4 h4 a5 h5 a6 h6 a7 h7 a8 h8 a9 h9 a10 h10 hc x0 x1 x2 x3 x4 xt) (r : Fin 128) (b : Fin 1024) :
    out0_A_6 (F := Ideal) c i a2 h2 a3 h3 a4 h4 a5 h5 a6 h6 a7 h7 a8 h8 a9 h9 a10 h10 hc x0 x1 x2 x3 x4 xt (ix3 0 r b) =
      Delta (x2 (ix3 0 r b)) (Acc (x0 (ix2 r b)) fun k => x1 (ix3 k r b)) (x3 (ix3 0 r b)) (x4 (ix3 0 r b)) := by
  frame_open
  frame_out
  unfold_payloads
  pointwise
  first | done | rfl

theorem outM (c i) (a2 h2 a3 h3 a4 h4 a5 h5 a6 h6 a7 h7 a8 h8 a9 h9 a10 h10 hc x0 x1 x2 x3 x4 xt) (r : Fin 128) (b : Fin 1024) :
    out0_A_7 (F := Ideal) c i a2 h2 a3 h3 a4 h4 a5 h5 a6 h6 a7 h7 a8 h8 a9 h9 a10 h10 hc x0 x1 x2 x3 x4 xt (ix3 0 r b) =
      NewM (Acc (x0 (ix2 r b)) fun k => x1 (ix3 k r b)) (x3 (ix3 0 r b)) := by
  frame_open
  frame_out
  unfold_payloads
  pointwise
  first | done | rfl

theorem outV (c i) (a2 h2 a3 h3 a4 h4 a5 h5 a6 h6 a7 h7 a8 h8 a9 h9 a10 h10 hc x0 x1 x2 x3 x4 xt) (r : Fin 128) (b : Fin 1024) :
    out0_A_8 (F := Ideal) c i a2 h2 a3 h3 a4 h4 a5 h5 a6 h6 a7 h7 a8 h8 a9 h9 a10 h10 hc x0 x1 x2 x3 x4 xt (ix3 0 r b) =
      NewV (Acc (x0 (ix2 r b)) fun k => x1 (ix3 k r b)) (x4 (ix3 0 r b)) := by
  frame_open
  frame_out
  unfold_payloads
  pointwise
  first | done | rfl

variable (m : (ℓ : Loc nD τ sig) → Buf (Elt Ideal) ℓ) (hO : Ok m) (c : Dev nD)

abbrev aG : S1024x1024.Idx → EReal := m ((c.tc : Thread nD τ).loc main_arg0)
abbrev aR : S7x128x1024.Idx → EReal := m ((c.tc : Thread nD τ).loc main_arg1)
abbrev aW : S1x128x1024.Idx → EReal := m ((c.tc : Thread nD τ).loc main_arg3)
abbrev aM : S1x128x1024.Idx → EReal := m ((c.tc : Thread nD τ).loc main_arg4)
abbrev aV : S1x128x1024.Idx → EReal := m ((c.tc : Thread nD τ).loc main_arg5)

theorem tr0 : ∀ (n : Fin 8) (t : Fin grid0.N), cc0_transform_0 (F := Ideal) inb_S1_S1_0 numel1_S1 (pf n) (grid0.coords t) = ![n.val, 0] := by decide
theorem tr1 : ∀ t : Fin grid0.N, cc0_transform_1 (grid0.coords t) = ![0, 0, 0] := by decide
theorem tr2 : ∀ t : Fin grid0.N, cc0_transform_2 (grid0.coords t) = ![t.val, 0, 0] := by decide
theorem idx1 (t : Fin (cfgM m hO).N) : ((cfgM m hO).win 1).index t = ![0, 0, 0] := tr1 t
theorem idx2 (t : Fin (cfgM m hO).N) : ((cfgM m hO).win 2).index t = ![t.val, 0, 0] := tr2 t
theorem idx3 (t : Fin (cfgM m hO).N) : ((cfgM m hO).win 3).index t = ![t.val, 0, 0] := tr2 t
theorem idx4 (t : Fin (cfgM m hO).N) : ((cfgM m hO).win 4).index t = ![t.val, 0, 0] := tr2 t
theorem idx5 (t : Fin (cfgM m hO).N) : ((cfgM m hO).win 5).index t = ![t.val, 0, 0] := tr2 t
theorem idx6 (t : Fin (cfgM m hO).N) : ((cfgM m hO).win 6).index t = ![t.val, 0, 0] := tr2 t
theorem idx7 (t : Fin (cfgM m hO).N) : ((cfgM m hO).win 7).index t = ![t.val, 0, 0] := tr2 t
theorem idx8 (t : Fin (cfgM m hO).N) : ((cfgM m hO).win 8).index t = ![t.val, 0, 0] := tr2 t

theorem blkR (t : Fin (cfgM m hO).N) : iblk m hO c 1 t = aR m c := by
  funext y
  blk_ext [iblk, V, idx1 m hO t]
theorem blkW (t : Fin (cfgM m hO).N) (r : Fin 128) (b : Fin 1024) : iblk m hO c 2 t (ix3 0 r b) = aW m c (ix3 t r b) := by
  blk_ext [iblk, V, idx2 m hO t]
theorem blkM (t : Fin (cfgM m hO).N) (r : Fin 128) (b : Fin 1024) : iblk m hO c 3 t (ix3 0 r b) = aM m c (ix3 t r b) := by
  blk_ext [iblk, V, idx3 m hO t]
theorem blkV (t : Fin (cfgM m hO).N) (r : Fin 128) (b : Fin 1024) : iblk m hO c 4 t (ix3 0 r b) = aV m c (ix3 t r b) := by
  blk_ext [iblk, V, idx4 m hO t]

variable (n : Fin 8) (h : ∀ x, m (((0 : Dev nD) : Thread nD τ).loc main_arg2) x = BitVec.ofNat 32 n.val)

/-- Row `r` of the block of the gradient that device `n` keeps. -/
abbrev row (n : Fin 8) (r : Fin 128) : Fin 1024 := ⟨128 * n.val + r.val, by omega⟩

/-- The gradient summed over the devices. -/
abbrev Grad (r : Fin 128) (b : Fin 1024) : EReal := Acc (aG m c (ix2 (row n r) b)) fun k => aR m c (ix3 k r b)

include h in
theorem blkG (t : Fin (cfgM m hO).N) (r : Fin 128) (b : Fin 1024) : iblk m hO c 0 t (ix2 r b) = aG m c (ix2 (row n r) b) := by
  have e : ((cfgM m hO).win 0).index t = ![n.val, 0] := by
    have := tr0 n t
    rw [← tbl_eq m n h] at this
    exact this
  blk_ext [iblk, V, e]
  all_goals simp [Nat.mul_comm]

theorem flat (P : S1x128x1024.Idx → Prop) (H : ∀ r b, P (ix3 0 r b)) (y : S1x128x1024.Idx) : P y := by
  obtain ⟨z, r, b, rfl⟩ : ∃ (z : Fin 1) (r : Fin 128) (b : Fin 1024), y = ix3 z r b := ⟨y 0, y 1, y 2, eq_ix3 y⟩
  obtain rfl : z = 0 := Subsingleton.elim _ _
  exact H r b

theorem cov5 : ((cfg0 (F := Ideal) ⟨pf 0, ok_all 0⟩).win 5).Covers := by decide +kernel
theorem covm5 : ((cfgM m hO).win 5).Covers := cov5
include h in
theorem at5 (t : Fin (cfgM m hO).N) (r : Fin 128) (b : Fin 1024) : (outsAt0 m hO c t).1 (ix3 0 r b) =
    (fun y : S1x128x1024.Idx => Grad m c n (y 1) (y 2)) (ix3 0 r b) := by
  obtain rfl : t = t0_0 := fin_N0 t
  have hx := outG c (grid0.coords t0_0) (ms0_0 m hO t0_0) (hs0_0 m hO t0_0) (ms0_1 m hO t0_0) (hs0_1 m hO t0_0) (ms0_2 m hO t0_0) (hs0_2 m hO t0_0) (ms0_3 m hO t0_0) (hs0_3 m hO t0_0) (ms0_4 m hO t0_0) (hs0_4 m hO t0_0) (ms0_5 m hO t0_0) (hs0_5 m hO t0_0) (ms0_6 m hO t0_0) (hs0_6 m hO t0_0) (ms0_7 m hO t0_0) (hs0_7 m hO t0_0) (ms0_8 m hO t0_0) (hs0_8 m hO t0_0) (hcond0_0 t0_0) (iblk m hO c 0 t0_0) (iblk m hO c 1 t0_0) (iblk m hO c 2 t0_0) (iblk m hO c 3 t0_0) (iblk m hO c 4 t0_0) (tbl m 0) r b
  unfold outsAt0
  dsimp only
  refine hx.trans ?_
  show (Acc (iblk m hO c 0 t0_0 (ix2 r b)) fun k => iblk m hO c 1 t0_0 (ix3 k r b)) = _
  rw [blkG m hO c n h, blkR]
  rfl
theorem emb5 (t : Fin (cfgM m hO).N) (r : Fin 128) (b : Fin 1024) : (((cfgM m hO).win 5).blk t).view.emb (ix3 0 r b) = (ix3 0 r b : S1x128x1024.Idx) := by
  funext a
  apply Fin.ext
  fin_cases a
  all_goals blk_simp [idx5 m hO t]
  exact congrArg Fin.val (fin_N0 t)
abbrev resG : S1x128x1024.Idx → EReal := fun y => Grad m c n (y 1) (y 2)
include h in
theorem finalG : (dats m hO 0 c).arrAt 5 (cfgM m hO).N = resG m c n := by
  refine (dats m hO 0 c).arrAt_eq_of_covers 5 _ (covm5 m hO) fun t hf y => ?_
  blk_simp
  rw [after0_5]
  revert y
  refine flat _ fun r b => ?_
  rw [emb5]
  exact at5 m hO c n h t r b

theorem cov6 : ((cfg0 (F := Ideal) ⟨pf 0, ok_all 0⟩).win 6).Covers := by decide +kernel
theorem covm6 : ((cfgM m hO).win 6).Covers := cov6
include h in
theorem at6 (t : Fin (cfgM m hO).N) (r : Fin 128) (b : Fin 1024) : (outsAt0 m hO c t).2.1 (ix3 0 r b) =
    (fun y : S1x128x1024.Idx => Delta (aW m c y) (Grad m c n (y 1) (y 2)) (aM m c y) (aV m c y)) (ix3 0 r b) := by
  obtain rfl : t = t0_0 := fin_N0 t
  have hx := outD c (grid0.coords t0_0) (ms0_0 m hO t0_0) (hs0_0 m hO t0_0) (ms0_1 m hO t0_0) (hs0_1 m hO t0_0) (ms0_2 m hO t0_0) (hs0_2 m hO t0_0) (ms0_3 m hO t0_0) (hs0_3 m hO t0_0) (ms0_4 m hO t0_0) (hs0_4 m hO t0_0) (ms0_5 m hO t0_0) (hs0_5 m hO t0_0) (ms0_6 m hO t0_0) (hs0_6 m hO t0_0) (ms0_7 m hO t0_0) (hs0_7 m hO t0_0) (ms0_8 m hO t0_0) (hs0_8 m hO t0_0) (hcond0_0 t0_0) (iblk m hO c 0 t0_0) (iblk m hO c 1 t0_0) (iblk m hO c 2 t0_0) (iblk m hO c 3 t0_0) (iblk m hO c 4 t0_0) (tbl m 0) r b
  unfold outsAt0
  dsimp only
  refine hx.trans ?_
  show Delta (iblk m hO c 2 t0_0 (ix3 0 r b)) (Acc (iblk m hO c 0 t0_0 (ix2 r b)) fun k => iblk m hO c 1 t0_0 (ix3 k r b)) (iblk m hO c 3 t0_0 (ix3 0 r b)) (iblk m hO c 4 t0_0 (ix3 0 r b)) = _
  rw [blkG m hO c n h, blkR, blkW, blkM, blkV]
  rfl
theorem emb6 (t : Fin (cfgM m hO).N) (r : Fin 128) (b : Fin 1024) : (((cfgM m hO).win 6).blk t).view.emb (ix3 0 r b) = (ix3 0 r b : S1x128x1024.Idx) := by
  funext a
  apply Fin.ext
  fin_cases a
  all_goals blk_simp [idx6 m hO t]
  exact congrArg Fin.val (fin_N0 t)
abbrev resD : S1x128x1024.Idx → EReal := fun y => Delta (aW m c y) (Grad m c n (y 1) (y 2)) (aM m c y) (aV m c y)
include h in
theorem finalD : (dats m hO 0 c).arrAt 6 (cfgM m hO).N = resD m c n := by
  refine (dats m hO 0 c).arrAt_eq_of_covers 6 _ (covm6 m hO) fun t hf y => ?_
  blk_simp
  rw [after0_6]
  revert y
  refine flat _ fun r b => ?_
  rw [emb6]
  exact at6 m hO c n h t r b

theorem cov7 : ((cfg0 (F := Ideal) ⟨pf 0, ok_all 0⟩).win 7).Covers := by decide +kernel
theorem covm7 : ((cfgM m hO).win 7).Covers := cov7
include h in
theorem at7 (t : Fin (cfgM m hO).N) (r : Fin 128) (b : Fin 1024) : (outsAt0 m hO c t).2.2.1 (ix3 0 r b) =
    (fun y : S1x128x1024.Idx => NewM (Grad m c n (y 1) (y 2)) (aM m c y)) (ix3 0 r b) := by
  obtain rfl : t = t0_0 := fin_N0 t
  have hx := outM c (grid0.coords t0_0) (ms0_0 m hO t0_0) (hs0_0 m hO t0_0) (ms0_1 m hO t0_0) (hs0_1 m hO t0_0) (ms0_2 m hO t0_0) (hs0_2 m hO t0_0) (ms0_3 m hO t0_0) (hs0_3 m hO t0_0) (ms0_4 m hO t0_0) (hs0_4 m hO t0_0) (ms0_5 m hO t0_0) (hs0_5 m hO t0_0) (ms0_6 m hO t0_0) (hs0_6 m hO t0_0) (ms0_7 m hO t0_0) (hs0_7 m hO t0_0) (ms0_8 m hO t0_0) (hs0_8 m hO t0_0) (hcond0_0 t0_0) (iblk m hO c 0 t0_0) (iblk m hO c 1 t0_0) (iblk m hO c 2 t0_0) (iblk m hO c 3 t0_0) (iblk m hO c 4 t0_0) (tbl m 0) r b
  unfold outsAt0
  dsimp only
  refine hx.trans ?_
  show NewM (Acc (iblk m hO c 0 t0_0 (ix2 r b)) fun k => iblk m hO c 1 t0_0 (ix3 k r b)) (iblk m hO c 3 t0_0 (ix3 0 r b)) = _
  rw [blkG m hO c n h, blkR, blkM]
  rfl
theorem emb7 (t : Fin (cfgM m hO).N) (r : Fin 128) (b : Fin 1024) : (((cfgM m hO).win 7).blk t).view.emb (ix3 0 r b) = (ix3 0 r b : S1x128x1024.Idx) := by
  funext a
  apply Fin.ext
  fin_cases a
  all_goals blk_simp [idx7 m hO t]
  exact congrArg Fin.val (fin_N0 t)
abbrev resM : S1x128x1024.Idx → EReal := fun y => NewM (Grad m c n (y 1) (y 2)) (aM m c y)
include h in
theorem finalM : (dats m hO 0 c).arrAt 7 (cfgM m hO).N = resM m c n := by
  refine (dats m hO 0 c).arrAt_eq_of_covers 7 _ (covm7 m hO) fun t hf y => ?_
  blk_simp
  rw [after0_7]
  revert y
  refine flat _ fun r b => ?_
  rw [emb7]
  exact at7 m hO c n h t r b

theorem cov8 : ((cfg0 (F := Ideal) ⟨pf 0, ok_all 0⟩).win 8).Covers := by decide +kernel
theorem covm8 : ((cfgM m hO).win 8).Covers := cov8
include h in
theorem at8 (t : Fin (cfgM m hO).N) (r : Fin 128) (b : Fin 1024) : (outsAt0 m hO c t).2.2.2 (ix3 0 r b) =
    (fun y : S1x128x1024.Idx => NewV (Grad m c n (y 1) (y 2)) (aV m c y)) (ix3 0 r b) := by
  obtain rfl : t = t0_0 := fin_N0 t
  have hx := outV c (grid0.coords t0_0) (ms0_0 m hO t0_0) (hs0_0 m hO t0_0) (ms0_1 m hO t0_0) (hs0_1 m hO t0_0) (ms0_2 m hO t0_0) (hs0_2 m hO t0_0) (ms0_3 m hO t0_0) (hs0_3 m hO t0_0) (ms0_4 m hO t0_0) (hs0_4 m hO t0_0) (ms0_5 m hO t0_0) (hs0_5 m hO t0_0) (ms0_6 m hO t0_0) (hs0_6 m hO t0_0) (ms0_7 m hO t0_0) (hs0_7 m hO t0_0) (ms0_8 m hO t0_0) (hs0_8 m hO t0_0) (hcond0_0 t0_0) (iblk m hO c 0 t0_0) (iblk m hO c 1 t0_0) (iblk m hO c 2 t0_0) (iblk m hO c 3 t0_0) (iblk m hO c 4 t0_0) (tbl m 0) r b
  unfold outsAt0
  dsimp only
  refine hx.trans ?_
  show NewV (Acc (iblk m hO c 0 t0_0 (ix2 r b)) fun k => iblk m hO c 1 t0_0 (ix3 k r b)) (iblk m hO c 4 t0_0 (ix3 0 r b)) = _
  rw [blkG m hO c n h, blkR, blkV]
  rfl
theorem emb8 (t : Fin (cfgM m hO).N) (r : Fin 128) (b : Fin 1024) : (((cfgM m hO).win 8).blk t).view.emb (ix3 0 r b) = (ix3 0 r b : S1x128x1024.Idx) := by
  funext a
  apply Fin.ext
  fin_cases a
  all_goals blk_simp [idx8 m hO t]
  exact congrArg Fin.val (fin_N0 t)
abbrev resV : S1x128x1024.Idx → EReal := fun y => NewV (Grad m c n (y 1) (y 2)) (aV m c y)
include h in
theorem finalV : (dats m hO 0 c).arrAt 8 (cfgM m hO).N = resV m c n := by
  refine (dats m hO 0 c).arrAt_eq_of_covers 8 _ (covm8 m hO) fun t hf y => ?_
  blk_simp
  rw [after0_8]
  revert y
  refine flat _ fun r b => ?_
  rw [emb8]
  exact at8 m hO c n h t r b

include h hO in
/-- The run: the four results, and the arguments unchanged. -/
theorem run (g : Dev nD → PrngReg) : θ_run defs (onTc (τ := τ) (main (F := Ideal))) ⟨m, fun _ => 0, g⟩ (fun r => ∀ c : Dev nD,
      r.2.mem ((c.tc : Thread nD τ).loc main_v0_0) = resG m c n
      ∧ r.2.mem ((c.tc : Thread nD τ).loc main_v0_1) = resD m c n
      ∧ r.2.mem ((c.tc : Thread nD τ).loc main_v0_2) = resM m c n
      ∧ r.2.mem ((c.tc : Thread nD τ).loc main_v0_3) = resV m c n
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r hh c => ⟨((hh.2 c).1 5).trans (finalG m hO c n h), ((hh.2 c).1 6).trans (finalD m hO c n h),
      ((hh.2 c).1 7).trans (finalM m hO c n h), ((hh.2 c).1 8).trans (finalV m hO c n h), hh.1 c⟩)
    (θ_run_and (unchanged m g hO) (run_main m g hO))

end Cert.FinishOutIdeal.Hand

namespace Cert.FinishOutRefIdeal.Hand

open Cert.FinishOutRefIdeal Cert.FinishOutRefIdeal.Gen Cert.FinishOutRefIdeal.Read Idealize.ShloMosaic Idealize.ShloMosaic.TcCoe Idealize.SL.Sem Cert.Step
open Cert.FinishOutIdeal.Hand (row)

variable (x0 : (⟨S1024x1024, .bf16⟩ : BufTy).Contents (Elt Ideal)) (x1 : (⟨S7x128x1024, .bf16⟩ : BufTy).Contents (Elt Ideal)) (x2 : (⟨S1, .i32⟩ : BufTy).Contents (Elt Ideal))
  (x3 x4 x5 : (⟨S1x128x1024, .f32⟩ : BufTy).Contents (Elt Ideal)) (n : Fin 8) (h : ∀ x, x2 x = BitVec.ofNat 32 n.val) (r : Fin 128) (b : Fin 1024)

include h in
theorem v6_at (k : Fin 8) : val_main_v6 x0 x2 (ix3 k r b) = if k = n then x0 (ix2 (row k r) b) else 0 := by
  have e2 : x2 = fun _ => BitVec.ofNat 32 n.val := funext h
  subst e2
  have e : val_main_v6 x0 (fun _ => BitVec.ofNat 32 n.val) (ix3 k r b) = Scalar.select (IntOp.cmpi CmpIPredicate.eq (BitVec.ofNat 32 k.val)
      (BitVec.ofNat 32 n.val)) (x0 (ix2 ⟨k.val * 128 + r.val, by omega⟩ b)) (0 : EReal) := by
    unfold val_main_v6 val_main_call0_v1 val_main_v1 val_main_call0_v2 val_main_call0_v0 val_main_v0 val_main_v5 val_main_v4 val_main_v2 val_main_v3 val_main_cst
    unfold id
    pointwise
  rw [e, same_word k n]
  by_cases hk : k = n
  · rw [if_pos hk, if_pos hk]
    exact congrArg (fun a => x0 (ix2 a b)) (Fin.ext (by simp [Nat.mul_comm]))
  · rw [if_neg hk, if_neg hk]
    rfl
include h in
theorem v7_at : val_main_v7 x0 x2 (ix2 r b) = x0 (ix2 (row n r) b) := by
  have e : val_main_v7 x0 x2 (ix2 r b) = ∑ k, val_main_v6 x0 x2 (ix3 k r b) := by
    unfold val_main_v7 val_main_cst_0
    pointwise
  rw [e, Finset.sum_congr rfl fun k _ => v6_at x0 x2 n h r b k]
  exact (Finset.sum_ite_eq' Finset.univ n fun k => x0 (ix2 (row k r) b)).trans (if_pos (Finset.mem_univ n))
theorem v9_at : val_main_v9 x1 (ix2 r b) = ∑ k, x1 (ix3 k r b) := by
  unfold val_main_v9 val_main_cst_1 val_main_v8
  pointwise
include h in
theorem v11_at : val_main_v11 x0 x1 x2 (ix3 0 r b) = Acc (x0 (ix2 (row n r) b)) fun k => x1 (ix3 k r b) := by
  rw [acc_eq, ← v7_at x0 x2 n h r b, ← v9_at]
  unfold val_main_v11 val_main_v10
  generalize val_main_v7 x0 x2 = f
  generalize val_main_v9 x1 = g
  pointwise
theorem v16_at (y : S1x128x1024.Idx) : val_main_v16 x0 x1 x2 x4 y = NewM (val_main_v11 x0 x1 x2 y) (x4 y) := by rfl
theorem v22_at (y : S1x128x1024.Idx) : val_main_v22 x0 x1 x2 x5 y = NewV (val_main_v11 x0 x1 x2 y) (x5 y) := by rfl
theorem v35_at (y : S1x128x1024.Idx) : val_main_v35 x0 x1 x2 x3 x4 x5 y = Delta (x3 y) (val_main_v11 x0 x1 x2 y) (x4 y) (x5 y) := by rfl

end Cert.FinishOutRefIdeal.Hand

namespace Cert.Proof.FinishOut

open Idealize.ShloMosaic Idealize.SL.Sem

instance preFacts : Cert.Pre_own_block_out.Facts := ⟨by decide⟩

theorem pre_word (x : (⟨1, ![1]⟩ : Shape).Idx → BitVec 32) (h : ∀ i, IntOp.andi (IntOp.cmpi .sge (x i) 0#32) (IntOp.cmpi .sle (x i) 7#32) = 1#1) :
    ∃ n : Fin 8, ∀ i, x i = BitVec.ofNat 32 n.val := by
  obtain ⟨n, hn⟩ := Cert.Step.word_of_range _ (h (ix1 0))
  exact ⟨n, fun i => ((congrArg x (eq_ix1 i)).trans (congrArg (fun a : Fin 1 => x (ix1 a)) (Subsingleton.elim _ _))).trans hn⟩

theorem word (m : (ℓ : Loc Cert.FinishOut.nD Cert.FinishOut.τ Cert.FinishOut.sig) → Buf (Elt Bits) ℓ) (h : Cert.Pre_FinishOut m) :
    ∃ n : Fin 8, ∀ i, m (((0 : Dev Cert.FinishOut.nD).tc : Thread Cert.FinishOut.nD Cert.FinishOut.τ).loc Cert.FinishOut.main_arg2) i = BitVec.ofNat 32 n.val :=
  pre_word _ fun i => congrFun (h 0) i
theorem word_ideal (m : (ℓ : Loc Cert.FinishOutIdeal.nD Cert.FinishOutIdeal.τ Cert.FinishOutIdeal.sig) → Buf (Elt Ideal) ℓ) (h : Cert.Pre_FinishOutIdeal m) :
    ∃ n : Fin 8, ∀ i, m (((0 : Dev Cert.FinishOutIdeal.nD).tc : Thread Cert.FinishOutIdeal.nD Cert.FinishOutIdeal.τ).loc Cert.FinishOutIdeal.main_arg2) i = BitVec.ofNat 32 n.val :=
  pre_word _ fun i => congrFun (h 0) i

theorem algebraic : Cert.algebraic_FinishOutIdeal_FinishOutRefIdeal := by
  intro m g m' g' hpre hagree
  obtain ⟨n, hn⟩ := word_ideal m hpre
  have hO := Cert.FinishOutIdeal.Hand.ok m n hn
  refine ⟨fun c => Cert.FinishOutIdeal.Hand.resG m c n, fun c => Cert.FinishOutIdeal.Hand.resD m c n, fun c => Cert.FinishOutIdeal.Hand.resM m c n,
    fun c => Cert.FinishOutIdeal.Hand.resV m c n, Cert.FinishOutIdeal.Hand.run m hO n hn g, ?_⟩
  refine (θ_run _ _ _).mono (fun r h c => ?_) (Cert.FinishOutRefIdeal.Value.run m' g')
  obtain ⟨e0, e1, e2, e3, e4, e5⟩ := hagree c
  obtain rfl : c = 0 := Subsingleton.elim _ _
  refine ⟨(h 0).1.trans ?_, (h 0).2.1.trans ?_, (h 0).2.2.1.trans ?_, (h 0).2.2.2.1.trans ?_, (h 0).2.2.2.2⟩
  · rw [Cert.FinishOutRefIdeal.Read.val_main_v11_eq, e0, e1, e2]
    exact funext (Cert.FinishOutIdeal.Hand.flat _ fun r b => Cert.FinishOutRefIdeal.Hand.v11_at _ _ _ n hn r b)
  · rw [Cert.FinishOutRefIdeal.Read.val_main_v35_eq, e0, e1, e2, e3, e4, e5]
    refine funext (Cert.FinishOutIdeal.Hand.flat _ fun r b => ?_)
    rw [Cert.FinishOutRefIdeal.Hand.v35_at, Cert.FinishOutRefIdeal.Hand.v11_at _ _ _ n hn r b]
    rfl
  · rw [Cert.FinishOutRefIdeal.Read.val_main_v16_eq, e0, e1, e2, e4]
    refine funext (Cert.FinishOutIdeal.Hand.flat _ fun r b => ?_)
    rw [Cert.FinishOutRefIdeal.Hand.v16_at, Cert.FinishOutRefIdeal.Hand.v11_at _ _ _ n hn r b]
    rfl
  · rw [Cert.FinishOutRefIdeal.Read.val_main_v22_eq, e0, e1, e2, e5]
    refine funext (Cert.FinishOutIdeal.Hand.flat _ fun r b => ?_)
    rw [Cert.FinishOutRefIdeal.Hand.v22_at, Cert.FinishOutRefIdeal.Hand.v11_at _ _ _ n hn r b]
    rfl

theorem frame_p : Cert.quiescent_FinishOut := fun m ρ h =>
  Cert.FinishOut.Gen.frame m ρ ((word m h).elim fun n hn => Cert.FinishOut.Hand.ok m n hn)
theorem frame_pi : Cert.quiescent_FinishOutIdeal := fun m ρ h =>
  Cert.FinishOutIdeal.Gen.frame m ρ ((word_ideal m h).elim fun n hn => Cert.FinishOutIdeal.Hand.ok m n hn)
theorem frame_ri : Cert.quiescent_FinishOutRefIdeal := fun m ρ _ =>
  (θ_run Cert.FinishOutRefIdeal.defs _ _).mono (fun r h => ⟨fun c => (h c).2.2.2.2, sem_eq_zero_of_no_sems (by decide) r.2⟩)
    (Cert.FinishOutRefIdeal.Value.run (F := Ideal) m ρ)
theorem frame_ri_pre : Cert.quiescent_FinishOutRefIdeal_pre_own_block_out := fun m ρ _ => frame_ri m ρ trivial

end Cert.Proof.FinishOut
end
-- ==== Proof.Calls.FinishXa.lean ====
/- The optimiser's update of a sharded weight: the block of the gradient that this device keeps. -/
module

public import proofs.«01_k».proof.Defs
public import proofs.«01_k».proof.Proof.Gen.FinishXa.Frame
public import proofs.«01_k».proof.Proof.Gen.FinishXaIdeal.Frame
public import proofs.«01_k».proof.Proof.Gen.FinishXaRefIdeal.Run
public import proofs.«01_k».proof.Proof.Gen.FinishXaRefIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.DynamicIndex
public import proofs.«01_k».proof.Proof.Calls.FinishShared

@[expose] public section

set_option maxRecDepth 16384
noncomputable section

namespace Cert.FinishXa.Hand

open Cert.FinishXa Cert.FinishXa.Gen Idealize.ShloMosaic Idealize.ShloMosaic.TcCoe Idealize.SL.Sem Cert.Step

/-- The table that names device `n`. -/
def pf (n : Fin 8) : pre0.Contents (Elt Bits) := fun | ⟨0, _⟩ => fun _ => BitVec.ofNat 32 n.val | ⟨_ + 1, h⟩ => absurd h (by simp)

theorem ok_all : ∀ n : Fin 8, ok0 (F := Bits) (pf n) := by decide

theorem ok (m : (ℓ : Loc nD τ sig) → Buf (Elt Bits) ℓ) (n : Fin 8)
    (h : ∀ x, m (((0 : Dev nD) : Thread nD τ).loc main_arg4) x = BitVec.ofNat 32 n.val) : Ok m := by
  have e : tbl m = pf n := by
    funext j x
    match j with
    | ⟨0, _⟩ => exact h x
  unfold Ok; rw [e]; exact ok_all n

end Cert.FinishXa.Hand

namespace Cert.FinishXaIdeal.Hand

open Cert.FinishXaIdeal Cert.FinishXaIdeal.Gen Idealize.ShloMosaic Idealize.ShloMosaic.TcCoe Idealize.SL.Sem Cert.Step
open Idealize.ShloMosaic.Pipeline (Dat)

/-- The table that names device `n`. -/
def pf (n : Fin 8) : pre0.Contents (Elt Ideal) := fun | ⟨0, _⟩ => fun _ => BitVec.ofNat 32 n.val | ⟨_ + 1, h⟩ => absurd h (by simp)

theorem ok_all : ∀ n : Fin 8, ok0 (F := Ideal) (pf n) := by decide

section
variable (m : (ℓ : Loc nD τ sig) → Buf (Elt Ideal) ℓ) (n : Fin 8)
    (h : ∀ x, m (((0 : Dev nD) : Thread nD τ).loc main_arg4) x = BitVec.ofNat 32 n.val)
include h
theorem tbl_eq : tbl m = pf n := by
  funext j x
  match j with
  | ⟨0, _⟩ => exact h x
theorem ok : Ok m := by
  unfold Ok; rw [tbl_eq m n h]; exact ok_all n
end

theorem outGA (c i) (a2 h2 a3 h3 a4 h4 a5 h5 a6 h6 a7 h7 a8 h8 a9 h9 a10 h10 a11 h11 a12 h12 hc0 hc1 x0 x1 x2 x3 x4 x5 x6 xt) (r : Fin 128) (b : Fin 1024) :
    out0_A_7 (F := Ideal) c i a2 h2 a3 h3 a4 h4 a5 h5 a6 h6 a7 h7 a8 h8 a9 h9 a10 h10 a11 h11 a12 h12 hc0 hc1 x0 x1 x2 x3 x4 x5 x6 xt (ix3 0 r b) =
      (Acc (x0 (ix2 r b)) fun k => x1 (ix3 k r b)) := by
  frame_open
  frame_out
  unfold_payloads
  pointwise
  first | done | rfl

theorem outDA (c i) (a2 h2 a3 h3 a4 h4 a5 h5 a6 h6 a7 h7 a8 h8 a9 h9 a10 h10 a11 h11 a12 h12 hc0 hc1 x0 x1 x2 x3 x4 x5 x6 xt) (r : Fin 128) (b : Fin 1024) :
    out0_A_8 (F := Ideal) c i a2 h2 a3 h3 a4 h4 a5 h5 a6 h6 a7 h7 a8 h8 a9 h9 a10 h10 a11 h11 a12 h12 hc0 hc1 x0 x1 x2 x3 x4 x5 x6 xt (ix3 0 r b) =
      Delta (x4 (ix3 0 r b)) (Acc (x0 (ix2 r b)) fun k => x1 (ix3 k r b)) (x5 (ix3 0 r b)) (x6 (ix3 0 r b)) := by
  frame_open
  frame_out
  unfold_payloads
  pointwise
  first | done | rfl

theorem outMA (c i) (a2 h2 a3 h3 a4 h4 a5 h5 a6 h6 a7 h7 a8 h8 a9 h9 a10 h10 a11 h11 a12 h12 hc0 hc1 x0 x1 x2 x3 x4 x5 x6 xt) (r : Fin 128) (b : Fin 1024) :
    out0_A_9 (F := Ideal) c i a2 h2 a3 h3 a4 h4 a5 h5 a6 h6 a7 h7 a8 h8 a9 h9 a10 h10 a11 h11 a12 h12 hc0 hc1 x0 x1 x2 x3 x4 x5 x6 xt (ix3 0 r b) =
      NewM (Acc (x0 (ix2 r b)) fun k => x1 (ix3 k r b)) (x5 (ix3 0 r b)) := by
  frame_open
  frame_out
  unfold_payloads
  pointwise
  first | done | rfl

theorem outVA (c i) (a2 h2 a3 h3 a4 h4 a5 h5 a6 h6 a7 h7 a8 h8 a9 h9 a10 h10 a11 h11 a12 h12 hc0 hc1 x0 x1 x2 x3 x4 x5 x6 xt) (r : Fin 128) (b : Fin 1024) :
    out0_A_10 (F := Ideal) c i a2 h2 a3 h3 a4 h4 a5 h5 a6 h6 a7 h7 a8 h8 a9 h9 a10 h10 a11 h11 a12 h12 hc0 hc1 x0 x1 x2 x3 x4 x5 x6 xt (ix3 0 r b) =
      NewV (Acc (x0 (ix2 r b)) fun k => x1 (ix3 k r b)) (x6 (ix3 0 r b)) := by
  frame_open
  frame_out
  unfold_payloads
  pointwise
  first | done | rfl

theorem outGB (c i) (a2 h2 a3 h3 a4 h4 a5 h5 a6 h6 a7 h7 a8 h8 a9 h9 a10 h10 a11 h11 a12 h12 hc0 hc1 x0 x1 x2 x3 x4 x5 x6 xt) (r : Fin 128) (b : Fin 1024) :
    out0_B_7 (F := Ideal) c i a2 h2 a3 h3 a4 h4 a5 h5 a6 h6 a7 h7 a8 h8 a9 h9 a10 h10 a11 h11 a12 h12 hc0 hc1 x0 x1 x2 x3 x4 x5 x6 xt (ix3 0 r b) =
      (Acc (x2 (ix2 r b)) fun k => x3 (ix3 k r b)) := by
  frame_open
  frame_out
  unfold_payloads
  pointwise
  first | done | rfl

theorem outDB (c i) (a2 h2 a3 h3 a4 h4 a5 h5 a6 h6 a7 h7 a8 h8 a9 h9 a10 h10 a11 h11 a12 h12 hc0 hc1 x0 x1 x2 x3 x4 x5 x6 xt) (r : Fin 128) (b : Fin 1024) :
    out0_B_8 (F := Ideal) c i a2 h2 a3 h3 a4 h4 a5 h5 a6 h6 a7 h7 a8 h8 a9 h9 a10 h10 a11 h11 a12 h12 hc0 hc1 x0 x1 x2 x3 x4 x5 x6 xt (ix3 0 r b) =
      Delta (x4 (ix3 0 r b)) (Acc (x2 (ix2 r b)) fun k => x3 (ix3 k r b)) (x5 (ix3 0 r b)) (x6 (ix3 0 r b)) := by
  frame_open
  frame_out
  unfold_payloads
  pointwise
  first | done | rfl

theorem outMB (c i) (a2 h2 a3 h3 a4 h4 a5 h5 a6 h6 a7 h7 a8 h8 a9 h9 a10 h10 a11 h11 a12 h12 hc0 hc1 x0 x1 x2 x3 x4 x5 x6 xt) (r : Fin 128) (b : Fin 1024) :
    out0_B_9 (F := Ideal) c i a2 h2 a3 h3 a4 h4 a5 h5 a6 h6 a7 h7 a8 h8 a9 h9 a10 h10 a11 h11 a12 h12 hc0 hc1 x0 x1 x2 x3 x4 x5 x6 xt (ix3 0 r b) =
      NewM (Acc (x2 (ix2 r b)) fun k => x3 (ix3 k r b)) (x5 (ix3 0 r b)) := by
  frame_open
  frame_out
  unfold_payloads
  pointwise
  first | done | rfl

theorem outVB (c i) (a2 h2 a3 h3 a4 h4 a5 h5 a6 h6 a7 h7 a8 h8 a9 h9 a10 h10 a11 h11 a12 h12 hc0 hc1 x0 x1 x2 x3 x4 x5 x6 xt) (r : Fin 128) (b : Fin 1024) :
    out0_B_10 (F := Ideal) c i a2 h2 a3 h3 a4 h4 a5 h5 a6 h6 a7 h7 a8 h8 a9 h9 a10 h10 a11 h11 a12 h12 hc0 hc1 x0 x1 x2 x3 x4 x5 x6 xt (ix3 0 r b) =
      NewV (Acc (x2 (ix2 r b)) fun k => x3 (ix3 k r b)) (x6 (ix3 0 r b)) := by
  frame_open
  frame_out
  unfold_payloads
  pointwise
  first | done | rfl

variable (m : (ℓ : Loc nD τ sig) → Buf (Elt Ideal) ℓ) (hO : Ok m) (c : Dev nD)

abbrev aG0 : S1024x1024.Idx → EReal := m ((c.tc : Thread nD τ).loc main_arg0)
abbrev aR0 : S7x128x1024.Idx → EReal := m ((c.tc : Thread nD τ).loc main_arg1)
abbrev aG1 : S1024x1024.Idx → EReal := m ((c.tc : Thread nD τ).loc main_arg2)
abbrev aR1 : S7x128x1024.Idx → EReal := m ((c.tc : Thread nD τ).loc main_arg3)
abbrev aW : S2x128x1024.Idx → EReal := m ((c.tc : Thread nD τ).loc main_arg5)
abbrev aM : S2x128x1024.Idx → EReal := m ((c.tc : Thread nD τ).loc main_arg6)
abbrev aV : S2x128x1024.Idx → EReal := m ((c.tc : Thread nD τ).loc main_arg7)

theorem tr0 : ∀ (n : Fin 8) (t : Fin grid0.N), cc0_transform_0 (F := Ideal) inb_S1_S1_0 numel1_S1 (pf n) (grid0.coords t) = ![n.val, 0] := by decide
theorem tr1 : ∀ t : Fin grid0.N, cc0_transform_1 (grid0.coords t) = ![0, 0, 0] := by decide
theorem tr2 : ∀ (n : Fin 8) (t : Fin grid0.N), cc0_transform_2 (F := Ideal) inb_S1_S1_0 numel1_S1 (pf n) (grid0.coords t) = ![n.val, 0] := by decide
theorem tr4 : ∀ t : Fin grid0.N, cc0_transform_4 (grid0.coords t) = ![t.val, 0, 0] := by decide
theorem idx1 (t : Fin (cfgM m hO).N) : ((cfgM m hO).win 1).index t = ![0, 0, 0] := tr1 t
theorem idx3 (t : Fin (cfgM m hO).N) : ((cfgM m hO).win 3).index t = ![0, 0, 0] := tr1 t
theorem idx4 (t : Fin (cfgM m hO).N) : ((cfgM m hO).win 4).index t = ![t.val, 0, 0] := tr4 t
theorem idx5 (t : Fin (cfgM m hO).N) : ((cfgM m hO).win 5).index t = ![t.val, 0, 0] := tr4 t
theorem idx6 (t : Fin (cfgM m hO).N) : ((cfgM m hO).win 6).index t = ![t.val, 0, 0] := tr4 t
theorem idx7 (t : Fin (cfgM m hO).N) : ((cfgM m hO).win 7).index t = ![t.val, 0, 0] := tr4 t
theorem idx8 (t : Fin (cfgM m hO).N) : ((cfgM m hO).win 8).index t = ![t.val, 0, 0] := tr4 t
theorem idx9 (t : Fin (cfgM m hO).N) : ((cfgM m hO).win 9).index t = ![t.val, 0, 0] := tr4 t
theorem idx10 (t : Fin (cfgM m hO).N) : ((cfgM m hO).win 10).index t = ![t.val, 0, 0] := tr4 t

theorem blk1 (t : Fin (cfgM m hO).N) : iblk m hO c 1 t = aR0 m c := by
  funext y
  blk_ext [iblk, V, idx1 m hO t]
theorem blk3 (t : Fin (cfgM m hO).N) : iblk m hO c 3 t = aR1 m c := by
  funext y
  blk_ext [iblk, V, idx3 m hO t]
theorem blk4 (t : Fin (cfgM m hO).N) (r : Fin 128) (b : Fin 1024) : iblk m hO c 4 t (ix3 0 r b) = aW m c (ix3 t r b) := by
  blk_ext [iblk, V, idx4 m hO t]
theorem blk5 (t : Fin (cfgM m hO).N) (r : Fin 128) (b : Fin 1024) : iblk m hO c 5 t (ix3 0 r b) = aM m c (ix3 t r b) := by
  blk_ext [iblk, V, idx5 m hO t]
theorem blk6 (t : Fin (cfgM m hO).N) (r : Fin 128) (b : Fin 1024) : iblk m hO c 6 t (ix3 0 r b) = aV m c (ix3 t r b) := by
  blk_ext [iblk, V, idx6 m hO t]

variable (n : Fin 8) (h : ∀ x, m (((0 : Dev nD) : Thread nD τ).loc main_arg4) x = BitVec.ofNat 32 n.val)

/-- Row `r` of the block of the gradient that device `n` keeps. -/
abbrev row (n : Fin 8) (r : Fin 128) : Fin 1024 := ⟨128 * n.val + r.val, by omega⟩

/-- The gradients of the two layers summed over the devices. -/
abbrev Grad : Fin 2 → Fin 128 → Fin 1024 → EReal := ![fun r b => Acc (aG0 m c (ix2 (row n r) b)) fun k => aR0 m c (ix3 k r b),
  fun r b => Acc (aG1 m c (ix2 (row n r) b)) fun k => aR1 m c (ix3 k r b)]

include h in
theorem blk0 (t : Fin (cfgM m hO).N) (r : Fin 128) (b : Fin 1024) : iblk m hO c 0 t (ix2 r b) = aG0 m c (ix2 (row n r) b) := by
  have e : ((cfgM m hO).win 0).index t = ![n.val, 0] := by
    have := tr0 n t
    rw [← tbl_eq m n h] at this
    exact this
  blk_ext [iblk, V, e]
  all_goals simp [Nat.mul_comm]
include h in
theorem blk2 (t : Fin (cfgM m hO).N) (r : Fin 128) (b : Fin 1024) : iblk m hO c 2 t (ix2 r b) = aG1 m c (ix2 (row n r) b) := by
  have e : ((cfgM m hO).win 2).index t = ![n.val, 0] := by
    have := tr2 n t
    rw [← tbl_eq m n h] at this
    exact this
  blk_ext [iblk, V, e]
  all_goals simp [Nat.mul_comm]

theorem flat (P : S1x128x1024.Idx → Prop) (H : ∀ r b, P (ix3 0 r b)) (y : S1x128x1024.Idx) : P y := by
  obtain ⟨z, r, b, rfl⟩ : ∃ (z : Fin 1) (r : Fin 128) (b : Fin 1024), y = ix3 z r b := ⟨y 0, y 1, y 2, eq_ix3 y⟩
  obtain rfl : z = 0 := Subsingleton.elim _ _
  exact H r b
theorem flat2 (P : S2x128x1024.Idx → Prop) (H : ∀ z r b, P (ix3 z r b)) (y : S2x128x1024.Idx) : P y := by
  obtain ⟨z, r, b, rfl⟩ : ∃ (z : Fin 2) (r : Fin 128) (b : Fin 1024), y = ix3 z r b := ⟨y 0, y 1, y 2, eq_ix3 y⟩
  exact H z r b

abbrev resG : S2x128x1024.Idx → EReal := fun y => Grad m c n (y 0) (y 1) (y 2)
theorem cov7 : ((cfg0 (F := Ideal) ⟨pf 0, ok_all 0⟩).win 7).Covers := by decide +kernel
theorem covm7 : ((cfgM m hO).win 7).Covers := cov7
include h in
theorem at7 (t : Fin (cfgM m hO).N) (r : Fin 128) (b : Fin 1024) : (outsAt0 m hO c t.val t.isLt).1 (ix3 0 r b) = resG m c n (ix3 t r b) := by
  rcases fin_N0 t with ht | ht
  · have h0 : t.val % 2 = 0 := by rw [ht]; rfl
    have h1 : ¬ t.val % 2 = 1 := by omega
    have hx := outGA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0) r b
    rw [outsAt0_A m hO c t h0 h1]
    dsimp only
    refine hx.trans ?_
    show (Acc (iblk m hO c 0 t (ix2 r b)) fun k => iblk m hO c 1 t (ix3 k r b)) = _
    rw [blk0 m hO c n h, blk1]
    subst ht
    rfl
  · have h1 : t.val % 2 = 1 := by rw [ht]; rfl
    have h0 : ¬ t.val % 2 = 0 := by omega
    have hx := outGB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) r b
    rw [outsAt0_B m hO c t h0 h1]
    dsimp only
    refine hx.trans ?_
    show (Acc (iblk m hO c 2 t (ix2 r b)) fun k => iblk m hO c 3 t (ix3 k r b)) = _
    rw [blk2 m hO c n h, blk3]
    subst ht
    rfl
theorem emb7 (t : Fin (cfgM m hO).N) (r : Fin 128) (b : Fin 1024) : (((cfgM m hO).win 7).blk t).view.emb (ix3 0 r b) = (ix3 t r b : S2x128x1024.Idx) := by
  funext a
  apply Fin.ext
  fin_cases a
  all_goals blk_simp [idx7 m hO t]
  all_goals rfl
include h in
theorem finalG : (dats m hO 0 c).arrAt 7 (cfgM m hO).N = resG m c n := by
  refine (dats m hO 0 c).arrAt_eq_of_covers 7 _ (covm7 m hO) fun t hf y => ?_
  blk_simp
  rw [after0_7]
  revert y
  refine flat _ fun r b => ?_
  rw [emb7]
  exact at7 m hO c n h t r b

abbrev resD : S2x128x1024.Idx → EReal := fun y => Delta (aW m c y) (Grad m c n (y 0) (y 1) (y 2)) (aM m c y) (aV m c y)
theorem cov8 : ((cfg0 (F := Ideal) ⟨pf 0, ok_all 0⟩).win 8).Covers := by decide +kernel
theorem covm8 : ((cfgM m hO).win 8).Covers := cov8
include h in
theorem at8 (t : Fin (cfgM m hO).N) (r : Fin 128) (b : Fin 1024) : (outsAt0 m hO c t.val t.isLt).2.1 (ix3 0 r b) = resD m c n (ix3 t r b) := by
  rcases fin_N0 t with ht | ht
  · have h0 : t.val % 2 = 0 := by rw [ht]; rfl
    have h1 : ¬ t.val % 2 = 1 := by omega
    have hx := outDA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0) r b
    rw [outsAt0_A m hO c t h0 h1]
    dsimp only
    refine hx.trans ?_
    show Delta (iblk m hO c 4 t (ix3 0 r b)) (Acc (iblk m hO c 0 t (ix2 r b)) fun k => iblk m hO c 1 t (ix3 k r b)) (iblk m hO c 5 t (ix3 0 r b)) (iblk m hO c 6 t (ix3 0 r b)) = _
    rw [blk0 m hO c n h, blk1, blk4, blk5, blk6]
    subst ht
    rfl
  · have h1 : t.val % 2 = 1 := by rw [ht]; rfl
    have h0 : ¬ t.val % 2 = 0 := by omega
    have hx := outDB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) r b
    rw [outsAt0_B m hO c t h0 h1]
    dsimp only
    refine hx.trans ?_
    show Delta (iblk m hO c 4 t (ix3 0 r b)) (Acc (iblk m hO c 2 t (ix2 r b)) fun k => iblk m hO c 3 t (ix3 k r b)) (iblk m hO c 5 t (ix3 0 r b)) (iblk m hO c 6 t (ix3 0 r b)) = _
    rw [blk2 m hO c n h, blk3, blk4, blk5, blk6]
    subst ht
    rfl
theorem emb8 (t : Fin (cfgM m hO).N) (r : Fin 128) (b : Fin 1024) : (((cfgM m hO).win 8).blk t).view.emb (ix3 0 r b) = (ix3 t r b : S2x128x1024.Idx) := by
  funext a
  apply Fin.ext
  fin_cases a
  all_goals blk_simp [idx8 m hO t]
  all_goals rfl
include h in
theorem finalD : (dats m hO 0 c).arrAt 8 (cfgM m hO).N = resD m c n := by
  refine (dats m hO 0 c).arrAt_eq_of_covers 8 _ (covm8 m hO) fun t hf y => ?_
  blk_simp
  rw [after0_8]
  revert y
  refine flat _ fun r b => ?_
  rw [emb8]
  exact at8 m hO c n h t r b

abbrev resM : S2x128x1024.Idx → EReal := fun y => NewM (Grad m c n (y 0) (y 1) (y 2)) (aM m c y)
theorem cov9 : ((cfg0 (F := Ideal) ⟨pf 0, ok_all 0⟩).win 9).Covers := by decide +kernel
theorem covm9 : ((cfgM m hO).win 9).Covers := cov9
include h in
theorem at9 (t : Fin (cfgM m hO).N) (r : Fin 128) (b : Fin 1024) : (outsAt0 m hO c t.val t.isLt).2.2.1 (ix3 0 r b) = resM m c n (ix3 t r b) := by
  rcases fin_N0 t with ht | ht
  · have h0 : t.val % 2 = 0 := by rw [ht]; rfl
    have h1 : ¬ t.val % 2 = 1 := by omega
    have hx := outMA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0) r b
    rw [outsAt0_A m hO c t h0 h1]
    dsimp only
    refine hx.trans ?_
    show NewM (Acc (iblk m hO c 0 t (ix2 r b)) fun k => iblk m hO c 1 t (ix3 k r b)) (iblk m hO c 5 t (ix3 0 r b)) = _
    rw [blk0 m hO c n h, blk1, blk5]
    subst ht
    rfl
  · have h1 : t.val % 2 = 1 := by rw [ht]; rfl
    have h0 : ¬ t.val % 2 = 0 := by omega
    have hx := outMB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) r b
    rw [outsAt0_B m hO c t h0 h1]
    dsimp only
    refine hx.trans ?_
    show NewM (Acc (iblk m hO c 2 t (ix2 r b)) fun k => iblk m hO c 3 t (ix3 k r b)) (iblk m hO c 5 t (ix3 0 r b)) = _
    rw [blk2 m hO c n h, blk3, blk5]
    subst ht
    rfl
theorem emb9 (t : Fin (cfgM m hO).N) (r : Fin 128) (b : Fin 1024) : (((cfgM m hO).win 9).blk t).view.emb (ix3 0 r b) = (ix3 t r b : S2x128x1024.Idx) := by
  funext a
  apply Fin.ext
  fin_cases a
  all_goals blk_simp [idx9 m hO t]
  all_goals rfl
include h in
theorem finalM : (dats m hO 0 c).arrAt 9 (cfgM m hO).N = resM m c n := by
  refine (dats m hO 0 c).arrAt_eq_of_covers 9 _ (covm9 m hO) fun t hf y => ?_
  blk_simp
  rw [after0_9]
  revert y
  refine flat _ fun r b => ?_
  rw [emb9]
  exact at9 m hO c n h t r b

abbrev resV : S2x128x1024.Idx → EReal := fun y => NewV (Grad m c n (y 0) (y 1) (y 2)) (aV m c y)
theorem cov10 : ((cfg0 (F := Ideal) ⟨pf 0, ok_all 0⟩).win 10).Covers := by decide +kernel
theorem covm10 : ((cfgM m hO).win 10).Covers := cov10
include h in
theorem at10 (t : Fin (cfgM m hO).N) (r : Fin 128) (b : Fin 1024) : (outsAt0 m hO c t.val t.isLt).2.2.2 (ix3 0 r b) = resV m c n (ix3 t r b) := by
  rcases fin_N0 t with ht | ht
  · have h0 : t.val % 2 = 0 := by rw [ht]; rfl
    have h1 : ¬ t.val % 2 = 1 := by omega
    have hx := outVA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0) r b
    rw [outsAt0_A m hO c t h0 h1]
    dsimp only
    refine hx.trans ?_
    show NewV (Acc (iblk m hO c 0 t (ix2 r b)) fun k => iblk m hO c 1 t (ix3 k r b)) (iblk m hO c 6 t (ix3 0 r b)) = _
    rw [blk0 m hO c n h, blk1, blk6]
    subst ht
    rfl
  · have h1 : t.val % 2 = 1 := by rw [ht]; rfl
    have h0 : ¬ t.val % 2 = 0 := by omega
    have hx := outVB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) r b
    rw [outsAt0_B m hO c t h0 h1]
    dsimp only
    refine hx.trans ?_
    show NewV (Acc (iblk m hO c 2 t (ix2 r b)) fun k => iblk m hO c 3 t (ix3 k r b)) (iblk m hO c 6 t (ix3 0 r b)) = _
    rw [blk2 m hO c n h, blk3, blk6]
    subst ht
    rfl
theorem emb10 (t : Fin (cfgM m hO).N) (r : Fin 128) (b : Fin 1024) : (((cfgM m hO).win 10).blk t).view.emb (ix3 0 r b) = (ix3 t r b : S2x128x1024.Idx) := by
  funext a
  apply Fin.ext
  fin_cases a
  all_goals blk_simp [idx10 m hO t]
  all_goals rfl
include h in
theorem finalV : (dats m hO 0 c).arrAt 10 (cfgM m hO).N = resV m c n := by
  refine (dats m hO 0 c).arrAt_eq_of_covers 10 _ (covm10 m hO) fun t hf y => ?_
  blk_simp
  rw [after0_10]
  revert y
  refine flat _ fun r b => ?_
  rw [emb10]
  exact at10 m hO c n h t r b

include h hO in
/-- The run: the four results, and the arguments unchanged. -/
theorem run (g : Dev nD → PrngReg) : θ_run defs (onTc (τ := τ) (main (F := Ideal))) ⟨m, fun _ => 0, g⟩ (fun r => ∀ c : Dev nD,
      r.2.mem ((c.tc : Thread nD τ).loc main_v0_0) = resG m c n
      ∧ r.2.mem ((c.tc : Thread nD τ).loc main_v0_1) = resD m c n
      ∧ r.2.mem ((c.tc : Thread nD τ).loc main_v0_2) = resM m c n
      ∧ r.2.mem ((c.tc : Thread nD τ).loc main_v0_3) = resV m c n
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r hh c => ⟨((hh.2 c).1 7).trans (finalG m hO c n h), ((hh.2 c).1 8).trans (finalD m hO c n h),
      ((hh.2 c).1 9).trans (finalM m hO c n h), ((hh.2 c).1 10).trans (finalV m hO c n h), hh.1 c⟩)
    (θ_run_and (unchanged m g hO) (run_main m g hO))

end Cert.FinishXaIdeal.Hand

namespace Cert.FinishXaRefIdeal.Hand

open Cert.FinishXaRefIdeal Cert.FinishXaRefIdeal.Gen Cert.FinishXaRefIdeal.Read Idealize.ShloMosaic Idealize.ShloMosaic.TcCoe Idealize.SL.Sem Cert.Step
open Cert.FinishXaIdeal.Hand (row)

variable (x0 : (⟨S1024x1024, .bf16⟩ : BufTy).Contents (Elt Ideal)) (x1 : (⟨S7x128x1024, .bf16⟩ : BufTy).Contents (Elt Ideal))
  (x2 : (⟨S1024x1024, .bf16⟩ : BufTy).Contents (Elt Ideal)) (x3 : (⟨S7x128x1024, .bf16⟩ : BufTy).Contents (Elt Ideal)) (x4 : (⟨S1, .i32⟩ : BufTy).Contents (Elt Ideal))
  (x5 x6 x7 : (⟨S2x128x1024, .f32⟩ : BufTy).Contents (Elt Ideal)) (n : Fin 8) (h : ∀ x, x4 x = BitVec.ofNat 32 n.val) (r : Fin 128) (b : Fin 1024)

include h in
theorem v6_at (k : Fin 8) : val_main_v6 x0 x4 (ix3 k r b) = if k = n then x0 (ix2 (row k r) b) else 0 := by
  have e2 : x4 = fun _ => BitVec.ofNat 32 n.val := funext h
  subst e2
  have e : val_main_v6 x0 (fun _ => BitVec.ofNat 32 n.val) (ix3 k r b) = Scalar.select (IntOp.cmpi CmpIPredicate.eq (BitVec.ofNat 32 k.val)
      (BitVec.ofNat 32 n.val)) (x0 (ix2 ⟨k.val * 128 + r.val, by omega⟩ b)) (0 : EReal) := by
    unfold val_main_v6 val_main_call0_v1 val_main_v1 val_main_call0_v2 val_main_call0_v0 val_main_v0 val_main_v5 val_main_v4 val_main_v2 val_main_v3 val_main_cst
    unfold id
    pointwise
  rw [e, same_word k n]
  by_cases hk : k = n
  · rw [if_pos hk, if_pos hk]
    exact congrArg (fun a => x0 (ix2 a b)) (Fin.ext (by simp [Nat.mul_comm]))
  · rw [if_neg hk, if_neg hk]
    rfl
include h in
theorem v7_at : val_main_v7 x0 x4 (ix2 r b) = x0 (ix2 (row n r) b) := by
  have e : val_main_v7 x0 x4 (ix2 r b) = ∑ k, val_main_v6 x0 x4 (ix3 k r b) := by
    unfold val_main_v7 val_main_cst_0
    pointwise
  rw [e, Finset.sum_congr rfl fun k _ => v6_at x0 x4 n h r b k]
  exact (Finset.sum_ite_eq' Finset.univ n fun k => x0 (ix2 (row k r) b)).trans (if_pos (Finset.mem_univ n))
theorem v9_at : val_main_v9 x1 (ix2 r b) = ∑ k, x1 (ix3 k r b) := by
  unfold val_main_v9 val_main_cst_1 val_main_v8
  pointwise
include h in
theorem v10_at : val_main_v10 x0 x1 x4 (ix2 r b) = Acc (x0 (ix2 (row n r) b)) fun k => x1 (ix3 k r b) := by
  rw [acc_eq, ← v7_at x0 x4 n h r b, ← v9_at]
  unfold val_main_v10
  generalize val_main_v7 x0 x4 = f
  generalize val_main_v9 x1 = g
  pointwise
include h in
theorem v17_at (k : Fin 8) : val_main_v17 x2 x4 (ix3 k r b) = if k = n then x2 (ix2 (row k r) b) else 0 := by
  have e2 : x4 = fun _ => BitVec.ofNat 32 n.val := funext h
  subst e2
  have e : val_main_v17 x2 (fun _ => BitVec.ofNat 32 n.val) (ix3 k r b) = Scalar.select (IntOp.cmpi CmpIPredicate.eq (BitVec.ofNat 32 k.val)
      (BitVec.ofNat 32 n.val)) (x2 (ix2 ⟨k.val * 128 + r.val, by omega⟩ b)) (0 : EReal) := by
    unfold val_main_v17 val_main_call1_v1 val_main_v12 val_main_call1_v2 val_main_call1_v0 val_main_v11 val_main_v16 val_main_v15 val_main_v13 val_main_v14 val_main_cst_2
    unfold id
    pointwise
  rw [e, same_word k n]
  by_cases hk : k = n
  · rw [if_pos hk, if_pos hk]
    exact congrArg (fun a => x2 (ix2 a b)) (Fin.ext (by simp [Nat.mul_comm]))
  · rw [if_neg hk, if_neg hk]
    rfl
include h in
theorem v18_at : val_main_v18 x2 x4 (ix2 r b) = x2 (ix2 (row n r) b) := by
  have e : val_main_v18 x2 x4 (ix2 r b) = ∑ k, val_main_v17 x2 x4 (ix3 k r b) := by
    unfold val_main_v18 val_main_cst_3
    pointwise
  rw [e, Finset.sum_congr rfl fun k _ => v17_at x2 x4 n h r b k]
  exact (Finset.sum_ite_eq' Finset.univ n fun k => x2 (ix2 (row k r) b)).trans (if_pos (Finset.mem_univ n))
theorem v20_at : val_main_v20 x3 (ix2 r b) = ∑ k, x3 (ix3 k r b) := by
  unfold val_main_v20 val_main_cst_4 val_main_v19
  pointwise
include h in
theorem v21_at : val_main_v21 x2 x3 x4 (ix2 r b) = Acc (x2 (ix2 (row n r) b)) fun k => x3 (ix3 k r b) := by
  rw [acc_eq, ← v18_at x2 x4 n h r b, ← v20_at]
  unfold val_main_v21
  generalize val_main_v18 x2 x4 = f
  generalize val_main_v20 x3 = g
  pointwise
theorem v24_first : val_main_v24 x0 x1 x2 x3 x4 (ix3 0 r b) = val_main_v10 x0 x1 x4 (ix2 r b) := by
  unfold val_main_v24 val_main_v22 val_main_v23
  generalize val_main_v10 x0 x1 x4 = f
  generalize val_main_v21 x2 x3 x4 = g
  pointwise
theorem v24_second : val_main_v24 x0 x1 x2 x3 x4 (ix3 1 r b) = val_main_v21 x2 x3 x4 (ix2 r b) := by
  unfold val_main_v24 val_main_v22 val_main_v23
  generalize val_main_v10 x0 x1 x4 = f
  generalize val_main_v21 x2 x3 x4 = g
  pointwise
include h in
theorem v24_at (z : Fin 2) : val_main_v24 x0 x1 x2 x3 x4 (ix3 z r b) = (![fun r b => Acc (x0 (ix2 (row n r) b)) fun k => x1 (ix3 k r b),
    fun r b => Acc (x2 (ix2 (row n r) b)) fun k => x3 (ix3 k r b)] : Fin 2 → Fin 128 → Fin 1024 → EReal) z r b := by
  fin_cases z
  · exact (v24_first x0 x1 x2 x3 x4 r b).trans (v10_at x0 x1 x4 n h r b)
  · exact (v24_second x0 x1 x2 x3 x4 r b).trans (v21_at x2 x3 x4 n h r b)
theorem v29_at (y : S2x128x1024.Idx) : val_main_v29 x0 x1 x2 x3 x4 x6 y = NewM (val_main_v24 x0 x1 x2 x3 x4 y) (x6 y) := by rfl
theorem v35_at (y : S2x128x1024.Idx) : val_main_v35 x0 x1 x2 x3 x4 x7 y = NewV (val_main_v24 x0 x1 x2 x3 x4 y) (x7 y) := by rfl
theorem v48_at (y : S2x128x1024.Idx) : val_main_v48 x0 x1 x2 x3 x4 x5 x6 x7 y = Delta (x5 y) (val_main_v24 x0 x1 x2 x3 x4 y) (x6 y) (x7 y) := by rfl

end Cert.FinishXaRefIdeal.Hand

namespace Cert.Proof.FinishXa

open Idealize.ShloMosaic Idealize.SL.Sem

instance preFacts : Cert.Pre_own_block_xa.Facts := ⟨by decide⟩

theorem pre_word (x : (⟨1, ![1]⟩ : Shape).Idx → BitVec 32) (h : ∀ i, IntOp.andi (IntOp.cmpi .sge (x i) 0#32) (IntOp.cmpi .sle (x i) 7#32) = 1#1) :
    ∃ n : Fin 8, ∀ i, x i = BitVec.ofNat 32 n.val := by
  obtain ⟨n, hn⟩ := Cert.Step.word_of_range _ (h (ix1 0))
  exact ⟨n, fun i => ((congrArg x (eq_ix1 i)).trans (congrArg (fun a : Fin 1 => x (ix1 a)) (Subsingleton.elim _ _))).trans hn⟩

theorem word (m : (ℓ : Loc Cert.FinishXa.nD Cert.FinishXa.τ Cert.FinishXa.sig) → Buf (Elt Bits) ℓ) (h : Cert.Pre_FinishXa m) :
    ∃ n : Fin 8, ∀ i, m (((0 : Dev Cert.FinishXa.nD).tc : Thread Cert.FinishXa.nD Cert.FinishXa.τ).loc Cert.FinishXa.main_arg4) i = BitVec.ofNat 32 n.val :=
  pre_word _ fun i => congrFun (h 0) i
theorem word_ideal (m : (ℓ : Loc Cert.FinishXaIdeal.nD Cert.FinishXaIdeal.τ Cert.FinishXaIdeal.sig) → Buf (Elt Ideal) ℓ) (h : Cert.Pre_FinishXaIdeal m) :
    ∃ n : Fin 8, ∀ i, m (((0 : Dev Cert.FinishXaIdeal.nD).tc : Thread Cert.FinishXaIdeal.nD Cert.FinishXaIdeal.τ).loc Cert.FinishXaIdeal.main_arg4) i = BitVec.ofNat 32 n.val :=
  pre_word _ fun i => congrFun (h 0) i

theorem algebraic : Cert.algebraic_FinishXaIdeal_FinishXaRefIdeal := by
  intro m g m' g' hpre hagree
  obtain ⟨n, hn⟩ := word_ideal m hpre
  have hO := Cert.FinishXaIdeal.Hand.ok m n hn
  refine ⟨fun c => Cert.FinishXaIdeal.Hand.resG m c n, fun c => Cert.FinishXaIdeal.Hand.resD m c n, fun c => Cert.FinishXaIdeal.Hand.resM m c n,
    fun c => Cert.FinishXaIdeal.Hand.resV m c n, Cert.FinishXaIdeal.Hand.run m hO n hn g, ?_⟩
  refine (θ_run _ _ _).mono (fun r h c => ?_) (Cert.FinishXaRefIdeal.Value.run m' g')
  obtain ⟨e0, e1, e2, e3, e4, e5, e6, e7⟩ := hagree c
  obtain rfl : c = 0 := Subsingleton.elim _ _
  refine ⟨(h 0).1.trans ?_, (h 0).2.1.trans ?_, (h 0).2.2.1.trans ?_, (h 0).2.2.2.1.trans ?_, (h 0).2.2.2.2⟩
  · rw [Cert.FinishXaRefIdeal.Read.val_main_v24_eq, e0, e1, e2, e3, e4]
    exact funext (Cert.FinishXaIdeal.Hand.flat2 _ fun z r b => Cert.FinishXaRefIdeal.Hand.v24_at _ _ _ _ _ n hn r b z)
  · rw [Cert.FinishXaRefIdeal.Read.val_main_v48_eq, e0, e1, e2, e3, e4, e5, e6, e7]
    refine funext (Cert.FinishXaIdeal.Hand.flat2 _ fun z r b => ?_)
    rw [Cert.FinishXaRefIdeal.Hand.v48_at, Cert.FinishXaRefIdeal.Hand.v24_at _ _ _ _ _ n hn r b z]
    rfl
  · rw [Cert.FinishXaRefIdeal.Read.val_main_v29_eq, e0, e1, e2, e3, e4, e6]
    refine funext (Cert.FinishXaIdeal.Hand.flat2 _ fun z r b => ?_)
    rw [Cert.FinishXaRefIdeal.Hand.v29_at, Cert.FinishXaRefIdeal.Hand.v24_at _ _ _ _ _ n hn r b z]
    rfl
  · rw [Cert.FinishXaRefIdeal.Read.val_main_v35_eq, e0, e1, e2, e3, e4, e7]
    refine funext (Cert.FinishXaIdeal.Hand.flat2 _ fun z r b => ?_)
    rw [Cert.FinishXaRefIdeal.Hand.v35_at, Cert.FinishXaRefIdeal.Hand.v24_at _ _ _ _ _ n hn r b z]
    rfl

theorem frame_p : Cert.quiescent_FinishXa := fun m ρ h =>
  Cert.FinishXa.Gen.frame m ρ ((word m h).elim fun n hn => Cert.FinishXa.Hand.ok m n hn)
theorem frame_pi : Cert.quiescent_FinishXaIdeal := fun m ρ h =>
  Cert.FinishXaIdeal.Gen.frame m ρ ((word_ideal m h).elim fun n hn => Cert.FinishXaIdeal.Hand.ok m n hn)
theorem frame_ri : Cert.quiescent_FinishXaRefIdeal := fun m ρ _ =>
  (θ_run Cert.FinishXaRefIdeal.defs _ _).mono (fun r h => ⟨fun c => (h c).2.2.2.2, sem_eq_zero_of_no_sems (by decide) r.2⟩)
    (Cert.FinishXaRefIdeal.Value.run (F := Ideal) m ρ)
theorem frame_ri_pre : Cert.quiescent_FinishXaRefIdeal_pre_own_block_xa := fun m ρ _ => frame_ri m ρ trivial

end Cert.Proof.FinishXa
end
-- ==== Proof.Calls.FinishFfn.lean ====
/- The optimiser's update of a sharded weight: the block of the gradient that this device keeps. -/
module

public import proofs.«01_k».proof.Defs
public import proofs.«01_k».proof.Proof.Gen.FinishFfn.Frame
public import proofs.«01_k».proof.Proof.Gen.FinishFfnIdeal.Frame
public import proofs.«01_k».proof.Proof.Gen.FinishFfnRefIdeal.Run
public import proofs.«01_k».proof.Proof.Gen.FinishFfnRefIdeal.Read
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.DynamicIndex
public import proofs.«01_k».proof.Proof.Calls.FinishShared

@[expose] public section

set_option maxRecDepth 16384
noncomputable section

namespace Cert.FinishFfn.Hand

open Cert.FinishFfn Cert.FinishFfn.Gen Idealize.ShloMosaic Idealize.ShloMosaic.TcCoe Idealize.SL.Sem Cert.Step

/-- The table that names device `n`. -/
def pf (n : Fin 8) : pre0.Contents (Elt Bits) := fun | ⟨0, _⟩ => fun _ => BitVec.ofNat 32 n.val | ⟨_ + 1, h⟩ => absurd h (by simp)

theorem ok_all : ∀ n : Fin 8, ok0 (F := Bits) (pf n) := by decide

theorem ok (m : (ℓ : Loc nD τ sig) → Buf (Elt Bits) ℓ) (n : Fin 8)
    (h : ∀ x, m (((0 : Dev nD) : Thread nD τ).loc main_arg4) x = BitVec.ofNat 32 n.val) : Ok m := by
  have e : tbl m = pf n := by
    funext j x
    match j with
    | ⟨0, _⟩ => exact h x
  unfold Ok; rw [e]; exact ok_all n

end Cert.FinishFfn.Hand

namespace Cert.FinishFfnIdeal.Hand

open Cert.FinishFfnIdeal Cert.FinishFfnIdeal.Gen Idealize.ShloMosaic Idealize.ShloMosaic.TcCoe Idealize.SL.Sem Cert.Step
open Idealize.ShloMosaic.Pipeline (Dat)

/-- The table that names device `n`. -/
def pf (n : Fin 8) : pre0.Contents (Elt Ideal) := fun | ⟨0, _⟩ => fun _ => BitVec.ofNat 32 n.val | ⟨_ + 1, h⟩ => absurd h (by simp)

theorem ok_all : ∀ n : Fin 8, ok0 (F := Ideal) (pf n) := by decide

section
variable (m : (ℓ : Loc nD τ sig) → Buf (Elt Ideal) ℓ) (n : Fin 8)
    (h : ∀ x, m (((0 : Dev nD) : Thread nD τ).loc main_arg4) x = BitVec.ofNat 32 n.val)
include h
theorem tbl_eq : tbl m = pf n := by
  funext j x
  match j with
  | ⟨0, _⟩ => exact h x
theorem ok : Ok m := by
  unfold Ok; rw [tbl_eq m n h]; exact ok_all n
end

theorem outGA (c i) (a2 h2 a3 h3 a4 h4 a5 h5 a6 h6 a7 h7 a8 h8 a9 h9 a10 h10 a11 h11 a12 h12 hc0 hc1 x0 x1 x2 x3 x4 x5 x6 xt) (r : Fin 352) (b : Fin 1024) :
    out0_A_7 (F := Ideal) c i a2 h2 a3 h3 a4 h4 a5 h5 a6 h6 a7 h7 a8 h8 a9 h9 a10 h10 a11 h11 a12 h12 hc0 hc1 x0 x1 x2 x3 x4 x5 x6 xt (ix3 0 r b) =
      (Acc (x0 (ix2 r b)) fun k => x1 (ix3 k r b)) := by
  frame_open
  frame_out
  unfold_payloads
  pointwise
  first | done | rfl

theorem outDA (c i) (a2 h2 a3 h3 a4 h4 a5 h5 a6 h6 a7 h7 a8 h8 a9 h9 a10 h10 a11 h11 a12 h12 hc0 hc1 x0 x1 x2 x3 x4 x5 x6 xt) (r : Fin 352) (b : Fin 1024) :
    out0_A_8 (F := Ideal) c i a2 h2 a3 h3 a4 h4 a5 h5 a6 h6 a7 h7 a8 h8 a9 h9 a10 h10 a11 h11 a12 h12 hc0 hc1 x0 x1 x2 x3 x4 x5 x6 xt (ix3 0 r b) =
      Delta (x4 (ix3 0 r b)) (Acc (x0 (ix2 r b)) fun k => x1 (ix3 k r b)) (x5 (ix3 0 r b)) (x6 (ix3 0 r b)) := by
  frame_open
  frame_out
  unfold_payloads
  pointwise
  first | done | rfl

theorem outMA (c i) (a2 h2 a3 h3 a4 h4 a5 h5 a6 h6 a7 h7 a8 h8 a9 h9 a10 h10 a11 h11 a12 h12 hc0 hc1 x0 x1 x2 x3 x4 x5 x6 xt) (r : Fin 352) (b : Fin 1024) :
    out0_A_9 (F := Ideal) c i a2 h2 a3 h3 a4 h4 a5 h5 a6 h6 a7 h7 a8 h8 a9 h9 a10 h10 a11 h11 a12 h12 hc0 hc1 x0 x1 x2 x3 x4 x5 x6 xt (ix3 0 r b) =
      NewM (Acc (x0 (ix2 r b)) fun k => x1 (ix3 k r b)) (x5 (ix3 0 r b)) := by
  frame_open
  frame_out
  unfold_payloads
  pointwise
  first | done | rfl

theorem outVA (c i) (a2 h2 a3 h3 a4 h4 a5 h5 a6 h6 a7 h7 a8 h8 a9 h9 a10 h10 a11 h11 a12 h12 hc0 hc1 x0 x1 x2 x3 x4 x5 x6 xt) (r : Fin 352) (b : Fin 1024) :
    out0_A_10 (F := Ideal) c i a2 h2 a3 h3 a4 h4 a5 h5 a6 h6 a7 h7 a8 h8 a9 h9 a10 h10 a11 h11 a12 h12 hc0 hc1 x0 x1 x2 x3 x4 x5 x6 xt (ix3 0 r b) =
      NewV (Acc (x0 (ix2 r b)) fun k => x1 (ix3 k r b)) (x6 (ix3 0 r b)) := by
  frame_open
  frame_out
  unfold_payloads
  pointwise
  first | done | rfl

theorem outGB (c i) (a2 h2 a3 h3 a4 h4 a5 h5 a6 h6 a7 h7 a8 h8 a9 h9 a10 h10 a11 h11 a12 h12 hc0 hc1 x0 x1 x2 x3 x4 x5 x6 xt) (r : Fin 352) (b : Fin 1024) :
    out0_B_7 (F := Ideal) c i a2 h2 a3 h3 a4 h4 a5 h5 a6 h6 a7 h7 a8 h8 a9 h9 a10 h10 a11 h11 a12 h12 hc0 hc1 x0 x1 x2 x3 x4 x5 x6 xt (ix3 0 r b) =
      (Acc (x2 (ix2 r b)) fun k => x3 (ix3 k r b)) := by
  frame_open
  frame_out
  unfold_payloads
  pointwise
  first | done | rfl

theorem outDB (c i) (a2 h2 a3 h3 a4 h4 a5 h5 a6 h6 a7 h7 a8 h8 a9 h9 a10 h10 a11 h11 a12 h12 hc0 hc1 x0 x1 x2 x3 x4 x5 x6 xt) (r : Fin 352) (b : Fin 1024) :
    out0_B_8 (F := Ideal) c i a2 h2 a3 h3 a4 h4 a5 h5 a6 h6 a7 h7 a8 h8 a9 h9 a10 h10 a11 h11 a12 h12 hc0 hc1 x0 x1 x2 x3 x4 x5 x6 xt (ix3 0 r b) =
      Delta (x4 (ix3 0 r b)) (Acc (x2 (ix2 r b)) fun k => x3 (ix3 k r b)) (x5 (ix3 0 r b)) (x6 (ix3 0 r b)) := by
  frame_open
  frame_out
  unfold_payloads
  pointwise
  first | done | rfl

theorem outMB (c i) (a2 h2 a3 h3 a4 h4 a5 h5 a6 h6 a7 h7 a8 h8 a9 h9 a10 h10 a11 h11 a12 h12 hc0 hc1 x0 x1 x2 x3 x4 x5 x6 xt) (r : Fin 352) (b : Fin 1024) :
    out0_B_9 (F := Ideal) c i a2 h2 a3 h3 a4 h4 a5 h5 a6 h6 a7 h7 a8 h8 a9 h9 a10 h10 a11 h11 a12 h12 hc0 hc1 x0 x1 x2 x3 x4 x5 x6 xt (ix3 0 r b) =
      NewM (Acc (x2 (ix2 r b)) fun k => x3 (ix3 k r b)) (x5 (ix3 0 r b)) := by
  frame_open
  frame_out
  unfold_payloads
  pointwise
  first | done | rfl

theorem outVB (c i) (a2 h2 a3 h3 a4 h4 a5 h5 a6 h6 a7 h7 a8 h8 a9 h9 a10 h10 a11 h11 a12 h12 hc0 hc1 x0 x1 x2 x3 x4 x5 x6 xt) (r : Fin 352) (b : Fin 1024) :
    out0_B_10 (F := Ideal) c i a2 h2 a3 h3 a4 h4 a5 h5 a6 h6 a7 h7 a8 h8 a9 h9 a10 h10 a11 h11 a12 h12 hc0 hc1 x0 x1 x2 x3 x4 x5 x6 xt (ix3 0 r b) =
      NewV (Acc (x2 (ix2 r b)) fun k => x3 (ix3 k r b)) (x6 (ix3 0 r b)) := by
  frame_open
  frame_out
  unfold_payloads
  pointwise
  first | done | rfl

variable (m : (ℓ : Loc nD τ sig) → Buf (Elt Ideal) ℓ) (hO : Ok m) (c : Dev nD)

abbrev aG0 : S2816x1024.Idx → EReal := m ((c.tc : Thread nD τ).loc main_arg0)
abbrev aR0 : S7x352x1024.Idx → EReal := m ((c.tc : Thread nD τ).loc main_arg1)
abbrev aG1 : S2816x1024.Idx → EReal := m ((c.tc : Thread nD τ).loc main_arg2)
abbrev aR1 : S7x352x1024.Idx → EReal := m ((c.tc : Thread nD τ).loc main_arg3)
abbrev aW : S2x352x1024.Idx → EReal := m ((c.tc : Thread nD τ).loc main_arg5)
abbrev aM : S2x352x1024.Idx → EReal := m ((c.tc : Thread nD τ).loc main_arg6)
abbrev aV : S2x352x1024.Idx → EReal := m ((c.tc : Thread nD τ).loc main_arg7)

theorem tr0 : ∀ (n : Fin 8) (t : Fin grid0.N), cc0_transform_0 (F := Ideal) inb_S1_S1_0 numel1_S1 (pf n) (grid0.coords t) = ![n.val, 0] := by decide
theorem tr1 : ∀ t : Fin grid0.N, cc0_transform_1 (grid0.coords t) = ![0, 0, 0] := by decide
theorem tr2 : ∀ (n : Fin 8) (t : Fin grid0.N), cc0_transform_2 (F := Ideal) inb_S1_S1_0 numel1_S1 (pf n) (grid0.coords t) = ![n.val, 0] := by decide
theorem tr4 : ∀ t : Fin grid0.N, cc0_transform_4 (grid0.coords t) = ![t.val, 0, 0] := by decide
theorem idx1 (t : Fin (cfgM m hO).N) : ((cfgM m hO).win 1).index t = ![0, 0, 0] := tr1 t
theorem idx3 (t : Fin (cfgM m hO).N) : ((cfgM m hO).win 3).index t = ![0, 0, 0] := tr1 t
theorem idx4 (t : Fin (cfgM m hO).N) : ((cfgM m hO).win 4).index t = ![t.val, 0, 0] := tr4 t
theorem idx5 (t : Fin (cfgM m hO).N) : ((cfgM m hO).win 5).index t = ![t.val, 0, 0] := tr4 t
theorem idx6 (t : Fin (cfgM m hO).N) : ((cfgM m hO).win 6).index t = ![t.val, 0, 0] := tr4 t
theorem idx7 (t : Fin (cfgM m hO).N) : ((cfgM m hO).win 7).index t = ![t.val, 0, 0] := tr4 t
theorem idx8 (t : Fin (cfgM m hO).N) : ((cfgM m hO).win 8).index t = ![t.val, 0, 0] := tr4 t
theorem idx9 (t : Fin (cfgM m hO).N) : ((cfgM m hO).win 9).index t = ![t.val, 0, 0] := tr4 t
theorem idx10 (t : Fin (cfgM m hO).N) : ((cfgM m hO).win 10).index t = ![t.val, 0, 0] := tr4 t

theorem blk1 (t : Fin (cfgM m hO).N) : iblk m hO c 1 t = aR0 m c := by
  funext y
  blk_ext [iblk, V, idx1 m hO t]
theorem blk3 (t : Fin (cfgM m hO).N) : iblk m hO c 3 t = aR1 m c := by
  funext y
  blk_ext [iblk, V, idx3 m hO t]
theorem blk4 (t : Fin (cfgM m hO).N) (r : Fin 352) (b : Fin 1024) : iblk m hO c 4 t (ix3 0 r b) = aW m c (ix3 t r b) := by
  blk_ext [iblk, V, idx4 m hO t]
theorem blk5 (t : Fin (cfgM m hO).N) (r : Fin 352) (b : Fin 1024) : iblk m hO c 5 t (ix3 0 r b) = aM m c (ix3 t r b) := by
  blk_ext [iblk, V, idx5 m hO t]
theorem blk6 (t : Fin (cfgM m hO).N) (r : Fin 352) (b : Fin 1024) : iblk m hO c 6 t (ix3 0 r b) = aV m c (ix3 t r b) := by
  blk_ext [iblk, V, idx6 m hO t]

variable (n : Fin 8) (h : ∀ x, m (((0 : Dev nD) : Thread nD τ).loc main_arg4) x = BitVec.ofNat 32 n.val)

/-- Row `r` of the block of the gradient that device `n` keeps. -/
abbrev row (n : Fin 8) (r : Fin 352) : Fin 2816 := ⟨352 * n.val + r.val, by omega⟩

/-- The gradients of the two layers summed over the devices. -/
abbrev Grad : Fin 2 → Fin 352 → Fin 1024 → EReal := ![fun r b => Acc (aG0 m c (ix2 (row n r) b)) fun k => aR0 m c (ix3 k r b),
  fun r b => Acc (aG1 m c (ix2 (row n r) b)) fun k => aR1 m c (ix3 k r b)]

include h in
theorem blk0 (t : Fin (cfgM m hO).N) (r : Fin 352) (b : Fin 1024) : iblk m hO c 0 t (ix2 r b) = aG0 m c (ix2 (row n r) b) := by
  have e : ((cfgM m hO).win 0).index t = ![n.val, 0] := by
    have := tr0 n t
    rw [← tbl_eq m n h] at this
    exact this
  blk_ext [iblk, V, e]
  all_goals simp [Nat.mul_comm]
include h in
theorem blk2 (t : Fin (cfgM m hO).N) (r : Fin 352) (b : Fin 1024) : iblk m hO c 2 t (ix2 r b) = aG1 m c (ix2 (row n r) b) := by
  have e : ((cfgM m hO).win 2).index t = ![n.val, 0] := by
    have := tr2 n t
    rw [← tbl_eq m n h] at this
    exact this
  blk_ext [iblk, V, e]
  all_goals simp [Nat.mul_comm]

theorem flat (P : S1x352x1024.Idx → Prop) (H : ∀ r b, P (ix3 0 r b)) (y : S1x352x1024.Idx) : P y := by
  obtain ⟨z, r, b, rfl⟩ : ∃ (z : Fin 1) (r : Fin 352) (b : Fin 1024), y = ix3 z r b := ⟨y 0, y 1, y 2, eq_ix3 y⟩
  obtain rfl : z = 0 := Subsingleton.elim _ _
  exact H r b
theorem flat2 (P : S2x352x1024.Idx → Prop) (H : ∀ z r b, P (ix3 z r b)) (y : S2x352x1024.Idx) : P y := by
  obtain ⟨z, r, b, rfl⟩ : ∃ (z : Fin 2) (r : Fin 352) (b : Fin 1024), y = ix3 z r b := ⟨y 0, y 1, y 2, eq_ix3 y⟩
  exact H z r b

abbrev resG : S2x352x1024.Idx → EReal := fun y => Grad m c n (y 0) (y 1) (y 2)
theorem cov7 : ((cfg0 (F := Ideal) ⟨pf 0, ok_all 0⟩).win 7).Covers := by decide +kernel
theorem covm7 : ((cfgM m hO).win 7).Covers := cov7
include h in
theorem at7 (t : Fin (cfgM m hO).N) (r : Fin 352) (b : Fin 1024) : (outsAt0 m hO c t.val t.isLt).1 (ix3 0 r b) = resG m c n (ix3 t r b) := by
  rcases fin_N0 t with ht | ht
  · have h0 : t.val % 2 = 0 := by rw [ht]; rfl
    have h1 : ¬ t.val % 2 = 1 := by omega
    have hx := outGA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0) r b
    rw [outsAt0_A m hO c t h0 h1]
    dsimp only
    refine hx.trans ?_
    show (Acc (iblk m hO c 0 t (ix2 r b)) fun k => iblk m hO c 1 t (ix3 k r b)) = _
    rw [blk0 m hO c n h, blk1]
    subst ht
    rfl
  · have h1 : t.val % 2 = 1 := by rw [ht]; rfl
    have h0 : ¬ t.val % 2 = 0 := by omega
    have hx := outGB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) r b
    rw [outsAt0_B m hO c t h0 h1]
    dsimp only
    refine hx.trans ?_
    show (Acc (iblk m hO c 2 t (ix2 r b)) fun k => iblk m hO c 3 t (ix3 k r b)) = _
    rw [blk2 m hO c n h, blk3]
    subst ht
    rfl
theorem emb7 (t : Fin (cfgM m hO).N) (r : Fin 352) (b : Fin 1024) : (((cfgM m hO).win 7).blk t).view.emb (ix3 0 r b) = (ix3 t r b : S2x352x1024.Idx) := by
  funext a
  apply Fin.ext
  fin_cases a
  all_goals blk_simp [idx7 m hO t]
  all_goals rfl
include h in
theorem finalG : (dats m hO 0 c).arrAt 7 (cfgM m hO).N = resG m c n := by
  refine (dats m hO 0 c).arrAt_eq_of_covers 7 _ (covm7 m hO) fun t hf y => ?_
  blk_simp
  rw [after0_7]
  revert y
  refine flat _ fun r b => ?_
  rw [emb7]
  exact at7 m hO c n h t r b

abbrev resD : S2x352x1024.Idx → EReal := fun y => Delta (aW m c y) (Grad m c n (y 0) (y 1) (y 2)) (aM m c y) (aV m c y)
theorem cov8 : ((cfg0 (F := Ideal) ⟨pf 0, ok_all 0⟩).win 8).Covers := by decide +kernel
theorem covm8 : ((cfgM m hO).win 8).Covers := cov8
include h in
theorem at8 (t : Fin (cfgM m hO).N) (r : Fin 352) (b : Fin 1024) : (outsAt0 m hO c t.val t.isLt).2.1 (ix3 0 r b) = resD m c n (ix3 t r b) := by
  rcases fin_N0 t with ht | ht
  · have h0 : t.val % 2 = 0 := by rw [ht]; rfl
    have h1 : ¬ t.val % 2 = 1 := by omega
    have hx := outDA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0) r b
    rw [outsAt0_A m hO c t h0 h1]
    dsimp only
    refine hx.trans ?_
    show Delta (iblk m hO c 4 t (ix3 0 r b)) (Acc (iblk m hO c 0 t (ix2 r b)) fun k => iblk m hO c 1 t (ix3 k r b)) (iblk m hO c 5 t (ix3 0 r b)) (iblk m hO c 6 t (ix3 0 r b)) = _
    rw [blk0 m hO c n h, blk1, blk4, blk5, blk6]
    subst ht
    rfl
  · have h1 : t.val % 2 = 1 := by rw [ht]; rfl
    have h0 : ¬ t.val % 2 = 0 := by omega
    have hx := outDB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) r b
    rw [outsAt0_B m hO c t h0 h1]
    dsimp only
    refine hx.trans ?_
    show Delta (iblk m hO c 4 t (ix3 0 r b)) (Acc (iblk m hO c 2 t (ix2 r b)) fun k => iblk m hO c 3 t (ix3 k r b)) (iblk m hO c 5 t (ix3 0 r b)) (iblk m hO c 6 t (ix3 0 r b)) = _
    rw [blk2 m hO c n h, blk3, blk4, blk5, blk6]
    subst ht
    rfl
theorem emb8 (t : Fin (cfgM m hO).N) (r : Fin 352) (b : Fin 1024) : (((cfgM m hO).win 8).blk t).view.emb (ix3 0 r b) = (ix3 t r b : S2x352x1024.Idx) := by
  funext a
  apply Fin.ext
  fin_cases a
  all_goals blk_simp [idx8 m hO t]
  all_goals rfl
include h in
theorem finalD : (dats m hO 0 c).arrAt 8 (cfgM m hO).N = resD m c n := by
  refine (dats m hO 0 c).arrAt_eq_of_covers 8 _ (covm8 m hO) fun t hf y => ?_
  blk_simp
  rw [after0_8]
  revert y
  refine flat _ fun r b => ?_
  rw [emb8]
  exact at8 m hO c n h t r b

abbrev resM : S2x352x1024.Idx → EReal := fun y => NewM (Grad m c n (y 0) (y 1) (y 2)) (aM m c y)
theorem cov9 : ((cfg0 (F := Ideal) ⟨pf 0, ok_all 0⟩).win 9).Covers := by decide +kernel
theorem covm9 : ((cfgM m hO).win 9).Covers := cov9
include h in
theorem at9 (t : Fin (cfgM m hO).N) (r : Fin 352) (b : Fin 1024) : (outsAt0 m hO c t.val t.isLt).2.2.1 (ix3 0 r b) = resM m c n (ix3 t r b) := by
  rcases fin_N0 t with ht | ht
  · have h0 : t.val % 2 = 0 := by rw [ht]; rfl
    have h1 : ¬ t.val % 2 = 1 := by omega
    have hx := outMA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0) r b
    rw [outsAt0_A m hO c t h0 h1]
    dsimp only
    refine hx.trans ?_
    show NewM (Acc (iblk m hO c 0 t (ix2 r b)) fun k => iblk m hO c 1 t (ix3 k r b)) (iblk m hO c 5 t (ix3 0 r b)) = _
    rw [blk0 m hO c n h, blk1, blk5]
    subst ht
    rfl
  · have h1 : t.val % 2 = 1 := by rw [ht]; rfl
    have h0 : ¬ t.val % 2 = 0 := by omega
    have hx := outMB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) r b
    rw [outsAt0_B m hO c t h0 h1]
    dsimp only
    refine hx.trans ?_
    show NewM (Acc (iblk m hO c 2 t (ix2 r b)) fun k => iblk m hO c 3 t (ix3 k r b)) (iblk m hO c 5 t (ix3 0 r b)) = _
    rw [blk2 m hO c n h, blk3, blk5]
    subst ht
    rfl
theorem emb9 (t : Fin (cfgM m hO).N) (r : Fin 352) (b : Fin 1024) : (((cfgM m hO).win 9).blk t).view.emb (ix3 0 r b) = (ix3 t r b : S2x352x1024.Idx) := by
  funext a
  apply Fin.ext
  fin_cases a
  all_goals blk_simp [idx9 m hO t]
  all_goals rfl
include h in
theorem finalM : (dats m hO 0 c).arrAt 9 (cfgM m hO).N = resM m c n := by
  refine (dats m hO 0 c).arrAt_eq_of_covers 9 _ (covm9 m hO) fun t hf y => ?_
  blk_simp
  rw [after0_9]
  revert y
  refine flat _ fun r b => ?_
  rw [emb9]
  exact at9 m hO c n h t r b

abbrev resV : S2x352x1024.Idx → EReal := fun y => NewV (Grad m c n (y 0) (y 1) (y 2)) (aV m c y)
theorem cov10 : ((cfg0 (F := Ideal) ⟨pf 0, ok_all 0⟩).win 10).Covers := by decide +kernel
theorem covm10 : ((cfgM m hO).win 10).Covers := cov10
include h in
theorem at10 (t : Fin (cfgM m hO).N) (r : Fin 352) (b : Fin 1024) : (outsAt0 m hO c t.val t.isLt).2.2.2 (ix3 0 r b) = resV m c n (ix3 t r b) := by
  rcases fin_N0 t with ht | ht
  · have h0 : t.val % 2 = 0 := by rw [ht]; rfl
    have h1 : ¬ t.val % 2 = 1 := by omega
    have hx := outVA c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (tbl m 0) r b
    rw [outsAt0_A m hO c t h0 h1]
    dsimp only
    refine hx.trans ?_
    show NewV (Acc (iblk m hO c 0 t (ix2 r b)) fun k => iblk m hO c 1 t (ix3 k r b)) (iblk m hO c 6 t (ix3 0 r b)) = _
    rw [blk0 m hO c n h, blk1, blk6]
    subst ht
    rfl
  · have h1 : t.val % 2 = 1 := by rw [ht]; rfl
    have h0 : ¬ t.val % 2 = 0 := by omega
    have hx := outVB c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (tbl m 0) r b
    rw [outsAt0_B m hO c t h0 h1]
    dsimp only
    refine hx.trans ?_
    show NewV (Acc (iblk m hO c 2 t (ix2 r b)) fun k => iblk m hO c 3 t (ix3 k r b)) (iblk m hO c 6 t (ix3 0 r b)) = _
    rw [blk2 m hO c n h, blk3, blk6]
    subst ht
    rfl
theorem emb10 (t : Fin (cfgM m hO).N) (r : Fin 352) (b : Fin 1024) : (((cfgM m hO).win 10).blk t).view.emb (ix3 0 r b) = (ix3 t r b : S2x352x1024.Idx) := by
  funext a
  apply Fin.ext
  fin_cases a
  all_goals blk_simp [idx10 m hO t]
  all_goals rfl
include h in
theorem finalV : (dats m hO 0 c).arrAt 10 (cfgM m hO).N = resV m c n := by
  refine (dats m hO 0 c).arrAt_eq_of_covers 10 _ (covm10 m hO) fun t hf y => ?_
  blk_simp
  rw [after0_10]
  revert y
  refine flat _ fun r b => ?_
  rw [emb10]
  exact at10 m hO c n h t r b

include h hO in
/-- The run: the four results, and the arguments unchanged. -/
theorem run (g : Dev nD → PrngReg) : θ_run defs (onTc (τ := τ) (main (F := Ideal))) ⟨m, fun _ => 0, g⟩ (fun r => ∀ c : Dev nD,
      r.2.mem ((c.tc : Thread nD τ).loc main_v0_0) = resG m c n
      ∧ r.2.mem ((c.tc : Thread nD τ).loc main_v0_1) = resD m c n
      ∧ r.2.mem ((c.tc : Thread nD τ).loc main_v0_2) = resM m c n
      ∧ r.2.mem ((c.tc : Thread nD τ).loc main_v0_3) = resV m c n
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r hh c => ⟨((hh.2 c).1 7).trans (finalG m hO c n h), ((hh.2 c).1 8).trans (finalD m hO c n h),
      ((hh.2 c).1 9).trans (finalM m hO c n h), ((hh.2 c).1 10).trans (finalV m hO c n h), hh.1 c⟩)
    (θ_run_and (unchanged m g hO) (run_main m g hO))

end Cert.FinishFfnIdeal.Hand

namespace Cert.FinishFfnRefIdeal.Hand

open Cert.FinishFfnRefIdeal Cert.FinishFfnRefIdeal.Gen Cert.FinishFfnRefIdeal.Read Idealize.ShloMosaic Idealize.ShloMosaic.TcCoe Idealize.SL.Sem Cert.Step
open Cert.FinishFfnIdeal.Hand (row)

variable (x0 : (⟨S2816x1024, .bf16⟩ : BufTy).Contents (Elt Ideal)) (x1 : (⟨S7x352x1024, .bf16⟩ : BufTy).Contents (Elt Ideal))
  (x2 : (⟨S2816x1024, .bf16⟩ : BufTy).Contents (Elt Ideal)) (x3 : (⟨S7x352x1024, .bf16⟩ : BufTy).Contents (Elt Ideal)) (x4 : (⟨S1, .i32⟩ : BufTy).Contents (Elt Ideal))
  (x5 x6 x7 : (⟨S2x352x1024, .f32⟩ : BufTy).Contents (Elt Ideal)) (n : Fin 8) (h : ∀ x, x4 x = BitVec.ofNat 32 n.val) (r : Fin 352) (b : Fin 1024)

include h in
theorem v6_at (k : Fin 8) : val_main_v6 x0 x4 (ix3 k r b) = if k = n then x0 (ix2 (row k r) b) else 0 := by
  have e2 : x4 = fun _ => BitVec.ofNat 32 n.val := funext h
  subst e2
  have e : val_main_v6 x0 (fun _ => BitVec.ofNat 32 n.val) (ix3 k r b) = Scalar.select (IntOp.cmpi CmpIPredicate.eq (BitVec.ofNat 32 k.val)
      (BitVec.ofNat 32 n.val)) (x0 (ix2 ⟨k.val * 352 + r.val, by omega⟩ b)) (0 : EReal) := by
    unfold val_main_v6 val_main_call0_v1 val_main_v1 val_main_call0_v2 val_main_call0_v0 val_main_v0 val_main_v5 val_main_v4 val_main_v2 val_main_v3 val_main_cst
    unfold id
    pointwise
  rw [e, same_word k n]
  by_cases hk : k = n
  · rw [if_pos hk, if_pos hk]
    exact congrArg (fun a => x0 (ix2 a b)) (Fin.ext (by simp [Nat.mul_comm]))
  · rw [if_neg hk, if_neg hk]
    rfl
include h in
theorem v7_at : val_main_v7 x0 x4 (ix2 r b) = x0 (ix2 (row n r) b) := by
  have e : val_main_v7 x0 x4 (ix2 r b) = ∑ k, val_main_v6 x0 x4 (ix3 k r b) := by
    unfold val_main_v7 val_main_cst_0
    pointwise
  rw [e, Finset.sum_congr rfl fun k _ => v6_at x0 x4 n h r b k]
  exact (Finset.sum_ite_eq' Finset.univ n fun k => x0 (ix2 (row k r) b)).trans (if_pos (Finset.mem_univ n))
theorem v9_at : val_main_v9 x1 (ix2 r b) = ∑ k, x1 (ix3 k r b) := by
  unfold val_main_v9 val_main_cst_1 val_main_v8
  pointwise
include h in
theorem v10_at : val_main_v10 x0 x1 x4 (ix2 r b) = Acc (x0 (ix2 (row n r) b)) fun k => x1 (ix3 k r b) := by
  rw [acc_eq, ← v7_at x0 x4 n h r b, ← v9_at]
  unfold val_main_v10
  generalize val_main_v7 x0 x4 = f
  generalize val_main_v9 x1 = g
  pointwise
include h in
theorem v17_at (k : Fin 8) : val_main_v17 x2 x4 (ix3 k r b) = if k = n then x2 (ix2 (row k r) b) else 0 := by
  have e2 : x4 = fun _ => BitVec.ofNat 32 n.val := funext h
  subst e2
  have e : val_main_v17 x2 (fun _ => BitVec.ofNat 32 n.val) (ix3 k r b) = Scalar.select (IntOp.cmpi CmpIPredicate.eq (BitVec.ofNat 32 k.val)
      (BitVec.ofNat 32 n.val)) (x2 (ix2 ⟨k.val * 352 + r.val, by omega⟩ b)) (0 : EReal) := by
    unfold val_main_v17 val_main_call1_v1 val_main_v12 val_main_call1_v2 val_main_call1_v0 val_main_v11 val_main_v16 val_main_v15 val_main_v13 val_main_v14 val_main_cst_2
    unfold id
    pointwise
  rw [e, same_word k n]
  by_cases hk : k = n
  · rw [if_pos hk, if_pos hk]
    exact congrArg (fun a => x2 (ix2 a b)) (Fin.ext (by simp [Nat.mul_comm]))
  · rw [if_neg hk, if_neg hk]
    rfl
include h in
theorem v18_at : val_main_v18 x2 x4 (ix2 r b) = x2 (ix2 (row n r) b) := by
  have e : val_main_v18 x2 x4 (ix2 r b) = ∑ k, val_main_v17 x2 x4 (ix3 k r b) := by
    unfold val_main_v18 val_main_cst_3
    pointwise
  rw [e, Finset.sum_congr rfl fun k _ => v17_at x2 x4 n h r b k]
  exact (Finset.sum_ite_eq' Finset.univ n fun k => x2 (ix2 (row k r) b)).trans (if_pos (Finset.mem_univ n))
theorem v20_at : val_main_v20 x3 (ix2 r b) = ∑ k, x3 (ix3 k r b) := by
  unfold val_main_v20 val_main_cst_4 val_main_v19
  pointwise
include h in
theorem v21_at : val_main_v21 x2 x3 x4 (ix2 r b) = Acc (x2 (ix2 (row n r) b)) fun k => x3 (ix3 k r b) := by
  rw [acc_eq, ← v18_at x2 x4 n h r b, ← v20_at]
  unfold val_main_v21
  generalize val_main_v18 x2 x4 = f
  generalize val_main_v20 x3 = g
  pointwise
theorem v24_first : val_main_v24 x0 x1 x2 x3 x4 (ix3 0 r b) = val_main_v10 x0 x1 x4 (ix2 r b) := by
  unfold val_main_v24 val_main_v22 val_main_v23
  generalize val_main_v10 x0 x1 x4 = f
  generalize val_main_v21 x2 x3 x4 = g
  pointwise
theorem v24_second : val_main_v24 x0 x1 x2 x3 x4 (ix3 1 r b) = val_main_v21 x2 x3 x4 (ix2 r b) := by
  unfold val_main_v24 val_main_v22 val_main_v23
  generalize val_main_v10 x0 x1 x4 = f
  generalize val_main_v21 x2 x3 x4 = g
  pointwise
include h in
theorem v24_at (z : Fin 2) : val_main_v24 x0 x1 x2 x3 x4 (ix3 z r b) = (![fun r b => Acc (x0 (ix2 (row n r) b)) fun k => x1 (ix3 k r b),
    fun r b => Acc (x2 (ix2 (row n r) b)) fun k => x3 (ix3 k r b)] : Fin 2 → Fin 352 → Fin 1024 → EReal) z r b := by
  fin_cases z
  · exact (v24_first x0 x1 x2 x3 x4 r b).trans (v10_at x0 x1 x4 n h r b)
  · exact (v24_second x0 x1 x2 x3 x4 r b).trans (v21_at x2 x3 x4 n h r b)
theorem v29_at (y : S2x352x1024.Idx) : val_main_v29 x0 x1 x2 x3 x4 x6 y = NewM (val_main_v24 x0 x1 x2 x3 x4 y) (x6 y) := by rfl
theorem v35_at (y : S2x352x1024.Idx) : val_main_v35 x0 x1 x2 x3 x4 x7 y = NewV (val_main_v24 x0 x1 x2 x3 x4 y) (x7 y) := by rfl
theorem v48_at (y : S2x352x1024.Idx) : val_main_v48 x0 x1 x2 x3 x4 x5 x6 x7 y = Delta (x5 y) (val_main_v24 x0 x1 x2 x3 x4 y) (x6 y) (x7 y) := by rfl

end Cert.FinishFfnRefIdeal.Hand

namespace Cert.Proof.FinishFfn

open Idealize.ShloMosaic Idealize.SL.Sem

instance preFacts : Cert.Pre_own_block_ffn.Facts := ⟨by decide⟩

theorem pre_word (x : (⟨1, ![1]⟩ : Shape).Idx → BitVec 32) (h : ∀ i, IntOp.andi (IntOp.cmpi .sge (x i) 0#32) (IntOp.cmpi .sle (x i) 7#32) = 1#1) :
    ∃ n : Fin 8, ∀ i, x i = BitVec.ofNat 32 n.val := by
  obtain ⟨n, hn⟩ := Cert.Step.word_of_range _ (h (ix1 0))
  exact ⟨n, fun i => ((congrArg x (eq_ix1 i)).trans (congrArg (fun a : Fin 1 => x (ix1 a)) (Subsingleton.elim _ _))).trans hn⟩

theorem word (m : (ℓ : Loc Cert.FinishFfn.nD Cert.FinishFfn.τ Cert.FinishFfn.sig) → Buf (Elt Bits) ℓ) (h : Cert.Pre_FinishFfn m) :
    ∃ n : Fin 8, ∀ i, m (((0 : Dev Cert.FinishFfn.nD).tc : Thread Cert.FinishFfn.nD Cert.FinishFfn.τ).loc Cert.FinishFfn.main_arg4) i = BitVec.ofNat 32 n.val :=
  pre_word _ fun i => congrFun (h 0) i
theorem word_ideal (m : (ℓ : Loc Cert.FinishFfnIdeal.nD Cert.FinishFfnIdeal.τ Cert.FinishFfnIdeal.sig) → Buf (Elt Ideal) ℓ) (h : Cert.Pre_FinishFfnIdeal m) :
    ∃ n : Fin 8, ∀ i, m (((0 : Dev Cert.FinishFfnIdeal.nD).tc : Thread Cert.FinishFfnIdeal.nD Cert.FinishFfnIdeal.τ).loc Cert.FinishFfnIdeal.main_arg4) i = BitVec.ofNat 32 n.val :=
  pre_word _ fun i => congrFun (h 0) i

theorem algebraic : Cert.algebraic_FinishFfnIdeal_FinishFfnRefIdeal := by
  intro m g m' g' hpre hagree
  obtain ⟨n, hn⟩ := word_ideal m hpre
  have hO := Cert.FinishFfnIdeal.Hand.ok m n hn
  refine ⟨fun c => Cert.FinishFfnIdeal.Hand.resG m c n, fun c => Cert.FinishFfnIdeal.Hand.resD m c n, fun c => Cert.FinishFfnIdeal.Hand.resM m c n,
    fun c => Cert.FinishFfnIdeal.Hand.resV m c n, Cert.FinishFfnIdeal.Hand.run m hO n hn g, ?_⟩
  refine (θ_run _ _ _).mono (fun r h c => ?_) (Cert.FinishFfnRefIdeal.Value.run m' g')
  obtain ⟨e0, e1, e2, e3, e4, e5, e6, e7⟩ := hagree c
  obtain rfl : c = 0 := Subsingleton.elim _ _
  refine ⟨(h 0).1.trans ?_, (h 0).2.1.trans ?_, (h 0).2.2.1.trans ?_, (h 0).2.2.2.1.trans ?_, (h 0).2.2.2.2⟩
  · rw [Cert.FinishFfnRefIdeal.Read.val_main_v24_eq, e0, e1, e2, e3, e4]
    exact funext (Cert.FinishFfnIdeal.Hand.flat2 _ fun z r b => Cert.FinishFfnRefIdeal.Hand.v24_at _ _ _ _ _ n hn r b z)
  · rw [Cert.FinishFfnRefIdeal.Read.val_main_v48_eq, e0, e1, e2, e3, e4, e5, e6, e7]
    refine funext (Cert.FinishFfnIdeal.Hand.flat2 _ fun z r b => ?_)
    rw [Cert.FinishFfnRefIdeal.Hand.v48_at, Cert.FinishFfnRefIdeal.Hand.v24_at _ _ _ _ _ n hn r b z]
    rfl
  · rw [Cert.FinishFfnRefIdeal.Read.val_main_v29_eq, e0, e1, e2, e3, e4, e6]
    refine funext (Cert.FinishFfnIdeal.Hand.flat2 _ fun z r b => ?_)
    rw [Cert.FinishFfnRefIdeal.Hand.v29_at, Cert.FinishFfnRefIdeal.Hand.v24_at _ _ _ _ _ n hn r b z]
    rfl
  · rw [Cert.FinishFfnRefIdeal.Read.val_main_v35_eq, e0, e1, e2, e3, e4, e7]
    refine funext (Cert.FinishFfnIdeal.Hand.flat2 _ fun z r b => ?_)
    rw [Cert.FinishFfnRefIdeal.Hand.v35_at, Cert.FinishFfnRefIdeal.Hand.v24_at _ _ _ _ _ n hn r b z]
    rfl

theorem frame_p : Cert.quiescent_FinishFfn := fun m ρ h =>
  Cert.FinishFfn.Gen.frame m ρ ((word m h).elim fun n hn => Cert.FinishFfn.Hand.ok m n hn)
theorem frame_pi : Cert.quiescent_FinishFfnIdeal := fun m ρ h =>
  Cert.FinishFfnIdeal.Gen.frame m ρ ((word_ideal m h).elim fun n hn => Cert.FinishFfnIdeal.Hand.ok m n hn)
theorem frame_ri : Cert.quiescent_FinishFfnRefIdeal := fun m ρ _ =>
  (θ_run Cert.FinishFfnRefIdeal.defs _ _).mono (fun r h => ⟨fun c => (h c).2.2.2.2, sem_eq_zero_of_no_sems (by decide) r.2⟩)
    (Cert.FinishFfnRefIdeal.Value.run (F := Ideal) m ρ)
theorem frame_ri_pre : Cert.quiescent_FinishFfnRefIdeal_pre_own_block_ffn := fun m ρ _ => frame_ri m ρ trivial

end Cert.Proof.FinishFfn
end
-- ==== Proof.Calls.RmsFwd.lean ====
/- The first norm: each grid point's rows, and the reference's. -/
module

public import proofs.«01_k».proof.Defs
public import proofs.«01_k».proof.Proof.Gen.RmsFwd.Frame
public import proofs.«01_k».proof.Proof.Gen.RmsFwdIdeal.Value
public import proofs.«01_k».proof.Proof.Gen.RmsFwdRefIdeal.Run
public import proofs.«01_k».proof.Proof.Gen.RmsFwdRefIdeal.Read
public import proofs.«01_k».proof.Proof.Calls.Rms
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
noncomputable section

namespace Cert.RmsFwdIdeal.Hand

open Cert.RmsFwdIdeal Cert.RmsFwdIdeal.Gen Idealize.ShloMosaic Idealize.ShloMosaic.TcCoe Idealize.SL.Sem Cert.Step
open Idealize.ShloMosaic.Pipeline (Dat)

/-- One row, normalised and scaled. -/
abbrev NR {n : ℕ} (x : (⟨2, ![n, 1024]⟩ : Shape).Idx → EReal) (g : S1x1024.Idx → EReal) (r : Fin n) (j : Fin 1024) : EReal :=
  (x (ix2 r j) * rin (Row x r)) * g (ix2 0 j)

theorem pay_at (x : Vec Ideal S2048x1024 .f32) (g : Vec Ideal S1x1024 .f32) (r : Fin 2048) (j : Fin 1024) :
    k0_pay1 x g (ix2 r j) = NR x g r j := by
  unfold_payloads
  pointwise
  first | done | rfl

theorem out_at (x : Vec Ideal S2048x1024 .f32) (g : Vec Ideal S1x1024 .f32) (r : Fin 2048) (j : Fin 1024) :
    out0_2 x g (ix2 r j) = NR x g r j := by
  frame_out
  exact pay_at x g r j

variable (m : (ℓ : Loc nD τ sig) → Buf (Elt Ideal) ℓ) (c : Dev nD)

abbrev aX : S8192x1024.Idx → EReal := m ((c.tc : Thread nD τ).loc main_arg0)
abbrev aG : S1x1024.Idx → EReal := m ((c.tc : Thread nD τ).loc main_arg1)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

theorem blkX (t : Fin cfg0.N) (r : Fin 2048) (b : Fin 1024) (R : Fin 8192) (hR : (R : ℕ) = 2048 * (t.val) + r.val) :
    iblk m c 0 t (ix2 r b) = aX m c (ix2 R b) := by
  blk_ext [iblk, V, idx0 t]
  all_goals simp [hR]

theorem blkG (t : Fin cfg0.N) (b : Fin 1024) : iblk m c 1 t (ix2 0 b) = aG m c (ix2 0 b) := by
  blk_ext [iblk, V, idx1 t]

theorem block (t : Fin cfg0.N) (r : Fin 2048) (b : Fin 1024) (R : Fin 8192) (B : Fin 1024) (hR : (R : ℕ) = 2048 * (t.val) + r.val)
    (hB : B = b) : out0_2 (iblk m c 0 t) (iblk m c 1 t) (ix2 r b) = NR (aX m c) (aG m c) R B := by
  subst hB
  rw [out_at]
  have e : Row (n := 2048) (iblk m c 0 t) r = Row (aX m c) R := funext fun k => blkX m c t r k R hR
  unfold NR
  rw [e, blkX m c t r B R hR, blkG m c t B]

theorem final : (dats m 0 c).arrAt 2 cfg0.N = fun y : S8192x1024.Idx => NR (aX m c) (aG m c) (y 0) (y 1) := by
  refine (dats m 0 c).arrAt_eq_of_covers 2 _ (by decide +kernel) fun t hf y => ?_
  blk_simp
  rw [after0_2]
  obtain ⟨r, b, rfl⟩ : ∃ (r : Fin 2048) (b : Fin 1024), y = ix2 r b := ⟨y 0, y 1, eq_ix2 y⟩
  have e0 : ((win0_2.blk t).view.emb (ix2 r b) 0 : ℕ) = 2048 * (t.val) + r.val := by
    blk_simp [idx2 t]
    omega
  have e1 : ((win0_2.blk t).view.emb (ix2 r b) 1 : ℕ) = b.val := by
    blk_simp [idx2 t]
    try omega
  exact block m c t r b _ _ e0 (Fin.ext e1)

end Cert.RmsFwdIdeal.Hand

namespace Cert.RmsFwdRefIdeal.Hand

open Cert.RmsFwdRefIdeal Cert.RmsFwdRefIdeal.Gen Cert.RmsFwdRefIdeal.Read Idealize.ShloMosaic Idealize.ShloMosaic.TcCoe Idealize.SL.Sem Cert.Step
open Cert.RmsFwdIdeal.Hand (NR)

theorem rin_at (x : (⟨S8192x1024, .f32⟩ : BufTy).Contents (Elt Ideal)) (r : Fin 8192) : val_main_v7 x (ix2 r 0) = rin (Row x r) := by
  unfold val_main_v7 val_main_v6 val_main_v5 val_main_v4 val_main_v3 val_main_v2 val_main_v1 val_main_v0 val_main_cst_1 val_main_cst_0 val_main_cst
  pointwise
  first | done | rfl

theorem n_at (x : (⟨S8192x1024, .f32⟩ : BufTy).Contents (Elt Ideal)) (g : (⟨S1x1024, .f32⟩ : BufTy).Contents (Elt Ideal)) (r : Fin 8192)
    (j : Fin 1024) : val_main_v12 x g (ix2 r j) = NR x g r j := by
  unfold NR
  rw [← rin_at]
  unfold val_main_v12 val_main_v11 val_main_v10 val_main_v9 val_main_v8
  generalize val_main_v7 x = f
  pointwise

end Cert.RmsFwdRefIdeal.Hand

namespace Cert.Proof.RmsFwd

open Idealize.ShloMosaic Idealize.SL.Sem

theorem algebraic : Cert.algebraic_RmsFwdIdeal_RmsFwdRefIdeal := by
  pair_intro
  · run_from Cert.RmsFwdIdeal.Value.run_blocks m g
  · refine (θ_run _ _ _).mono (fun r h c => ?_) (Cert.RmsFwdRefIdeal.Value.run m' g')
    obtain ⟨e0, e1⟩ := hagree c
    refine ⟨(h c).1.trans ?_, (h c).2⟩
    · rw [Cert.RmsFwdRefIdeal.Read.val_main_v12_eq, e0, e1, Cert.RmsFwdIdeal.Hand.final m c]
      funext y
      obtain ⟨r, b, rfl⟩ : ∃ (r : Fin 8192) (b : Fin 1024), y = ix2 r b := ⟨y 0, y 1, eq_ix2 y⟩
      exact Cert.RmsFwdRefIdeal.Hand.n_at _ _ r b

theorem frame_p : Cert.quiescent_RmsFwd := fun m ρ _ => Cert.RmsFwd.Gen.frame m ρ
theorem frame_pi : Cert.quiescent_RmsFwdIdeal := fun m ρ _ => Cert.RmsFwdIdeal.Gen.frame m ρ
theorem frame_ri : Cert.quiescent_RmsFwdRefIdeal := fun m ρ _ =>
  (θ_run Cert.RmsFwdRefIdeal.defs _ _).mono (fun r h => ⟨fun c => (h c).2, sem_eq_zero_of_no_sems (by decide) r.2⟩)
    (Cert.RmsFwdRefIdeal.Value.run (F := Ideal) m ρ)

end Cert.Proof.RmsFwd
end
-- ==== Proof.Calls.MemKv.lean ====
/- The memory's norm, keys and values: the kernel's arrays and the reference's. -/
module

public import proofs.«01_k».proof.Defs
public import proofs.«01_k».proof.Proof.Gen.MemKv.Frame
public import proofs.«01_k».proof.Proof.Gen.MemKvIdeal.Value
public import proofs.«01_k».proof.Proof.Gen.MemKvRefIdeal.Run
public import proofs.«01_k».proof.Proof.Gen.MemKvRefIdeal.Read
public import proofs.«01_k».proof.Proof.Calls.Rms
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
noncomputable section

namespace Cert.MemKvIdeal.Hand

open Cert.MemKvIdeal Cert.MemKvIdeal.Gen Cert.MemKvIdeal.Value Idealize.ShloMosaic Idealize.ShloMosaic.TcCoe Idealize.SL.Sem Cert.Step

/-- The normalised memory. -/
abbrev NM (x : S256x1024.Idx → EReal) (g : S1x1024.Idx → EReal) (r : Fin 256) (j : Fin 1024) : EReal :=
  (x (ix2 r j) * rin (Row x r)) * g (ix2 0 j)

theorem n_at (x : Vec Ideal S256x1024 .f32) (g : Vec Ideal S1x1024 .f32) (r : Fin 256) (j : Fin 1024) :
    k0_pay1 x g (ix2 r j) = NM x g r j := by
  unfold_payloads
  pointwise
  first | done | rfl

theorem k_at (x : Vec Ideal S256x1024 .f32) (g : Vec Ideal S1x1024 .f32) (w : Vec Ideal S1024x1024 .bf16) (r : Fin 256) (j : Fin 1024) :
    k0_pay2 x g w (ix2 r j) = ∑ k : Fin 1024, (NM x g r k * w (ix2 k j) : EReal) := by
  have e : ∀ k, NM x g r k = k0_pay1 x g (ix2 r k) := fun k => (n_at x g r k).symm
  simp only [e]
  unfold k0_pay2
  generalize k0_pay1 x g = f
  pointwise

theorem v_at (x : Vec Ideal S256x1024 .f32) (g : Vec Ideal S1x1024 .f32) (w : Vec Ideal S1024x1024 .bf16) (r : Fin 256) (j : Fin 1024) :
    k0_pay3 x g w (ix2 r j) = ∑ k : Fin 1024, (NM x g r k * w (ix2 k j) : EReal) := by
  have e : ∀ k, NM x g r k = k0_pay1 x g (ix2 r k) := fun k => (n_at x g r k).symm
  simp only [e]
  unfold k0_pay3
  generalize k0_pay1 x g = f
  pointwise

end Cert.MemKvIdeal.Hand

namespace Cert.MemKvRefIdeal.Hand

open Cert.MemKvRefIdeal Cert.MemKvRefIdeal.Gen Cert.MemKvRefIdeal.Read Idealize.ShloMosaic Idealize.ShloMosaic.TcCoe Idealize.SL.Sem Cert.Step
open Cert.MemKvIdeal.Hand (NM)

theorem rin_at (x : (⟨S256x1024, .f32⟩ : BufTy).Contents (Elt Ideal)) (r : Fin 256) : val_main_v9 x (ix2 r 0) = rin (Row x r) := by
  unfold val_main_v9 val_main_v8 val_main_v7 val_main_v6 val_main_v5 val_main_v4 val_main_v3 val_main_v2 val_main_cst_1 val_main_cst_0 val_main_cst
  pointwise
  first | done | rfl

theorem n_at (x : (⟨S256x1024, .f32⟩ : BufTy).Contents (Elt Ideal)) (g : (⟨S1x1024, .f32⟩ : BufTy).Contents (Elt Ideal)) (r : Fin 256) (j : Fin 1024) : val_main_v13 x g (ix2 r j) = NM x g r j := by
  unfold NM
  rw [← rin_at]
  unfold val_main_v13 val_main_v12 val_main_v11 val_main_v10
  generalize val_main_v9 x = f
  pointwise

theorem n_out (x : (⟨S256x1024, .f32⟩ : BufTy).Contents (Elt Ideal)) (g : (⟨S1x1024, .f32⟩ : BufTy).Contents (Elt Ideal)) (r : Fin 256) (j : Fin 1024) : val_main_v14 x g (ix2 r j) = NM x g r j := by
  rw [← n_at]
  unfold val_main_v14
  pointwise

theorem k_at (x : (⟨S256x1024, .f32⟩ : BufTy).Contents (Elt Ideal)) (g : (⟨S1x1024, .f32⟩ : BufTy).Contents (Elt Ideal)) (w : (⟨S1024x1024, .bf16⟩ : BufTy).Contents (Elt Ideal)) (r : Fin 256) (j : Fin 1024) :
    val_main_v16 x g w (ix2 r j) = ∑ k : Fin 1024, (NM x g r k * w (ix2 k j) : EReal) := by
  have e : ∀ k, NM x g r k = val_main_v13 x g (ix2 r k) := fun k => (n_at x g r k).symm
  simp only [e]
  unfold val_main_v16 val_main_v15 val_main_v0
  generalize val_main_v13 x g = f
  pointwise

theorem v_at (x : (⟨S256x1024, .f32⟩ : BufTy).Contents (Elt Ideal)) (g : (⟨S1x1024, .f32⟩ : BufTy).Contents (Elt Ideal)) (w : (⟨S1024x1024, .bf16⟩ : BufTy).Contents (Elt Ideal)) (r : Fin 256) (j : Fin 1024) :
    val_main_v18 x g w (ix2 r j) = ∑ k : Fin 1024, (NM x g r k * w (ix2 k j) : EReal) := by
  have e : ∀ k, NM x g r k = val_main_v13 x g (ix2 r k) := fun k => (n_at x g r k).symm
  simp only [e]
  unfold val_main_v18 val_main_v17 val_main_v1
  generalize val_main_v13 x g = f
  pointwise

end Cert.MemKvRefIdeal.Hand

namespace Cert.Proof.MemKv

open Idealize.ShloMosaic Idealize.SL.Sem

theorem algebraic : Cert.algebraic_MemKvIdeal_MemKvRefIdeal := by
  pair_intro
  · run_from Cert.MemKvIdeal.Value.run m g
  · refine (θ_run _ _ _).mono (fun r h c => ?_) (Cert.MemKvRefIdeal.Value.run m' g')
    obtain ⟨e0, e1, e2, e3⟩ := hagree c
    refine ⟨(h c).1.trans ?_, (h c).2.1.trans ?_, (h c).2.2.1.trans ?_, (h c).2.2.2⟩
    · rw [Cert.MemKvRefIdeal.Read.val_main_v14_eq, e0, e1]
      funext y
      obtain ⟨r, b, rfl⟩ : ∃ (r : Fin 256) (b : Fin 1024), y = ix2 r b := ⟨y 0, y 1, eq_ix2 y⟩
      exact (Cert.MemKvRefIdeal.Hand.n_out _ _ r b).trans (Cert.MemKvIdeal.Hand.n_at _ _ r b).symm
    · rw [Cert.MemKvRefIdeal.Read.val_main_v16_eq, e0, e1, e2]
      funext y
      obtain ⟨r, b, rfl⟩ : ∃ (r : Fin 256) (b : Fin 1024), y = ix2 r b := ⟨y 0, y 1, eq_ix2 y⟩
      exact (Cert.MemKvRefIdeal.Hand.k_at _ _ _ r b).trans (Cert.MemKvIdeal.Hand.k_at _ _ _ r b).symm
    · rw [Cert.MemKvRefIdeal.Read.val_main_v18_eq, e0, e1, e3]
      funext y
      obtain ⟨r, b, rfl⟩ : ∃ (r : Fin 256) (b : Fin 1024), y = ix2 r b := ⟨y 0, y 1, eq_ix2 y⟩
      exact (Cert.MemKvRefIdeal.Hand.v_at _ _ _ r b).trans (Cert.MemKvIdeal.Hand.v_at _ _ _ r b).symm

theorem frame_p : Cert.quiescent_MemKv := fun m ρ _ => Cert.MemKv.Gen.frame m ρ
theorem frame_pi : Cert.quiescent_MemKvIdeal := fun m ρ _ => Cert.MemKvIdeal.Gen.frame m ρ
theorem frame_ri : Cert.quiescent_MemKvRefIdeal := fun m ρ _ =>
  (θ_run Cert.MemKvRefIdeal.defs _ _).mono (fun r h => ⟨fun c => (h c).2.2.2, sem_eq_zero_of_no_sems (by decide) r.2⟩)
    (Cert.MemKvRefIdeal.Value.run (F := Ideal) m ρ)

end Cert.Proof.MemKv
end
-- ==== Proof.Calls.MemBwd.lean ====
/- The gradients of the memory's key and value weights and of its scale. -/
module

public import proofs.«01_k».proof.Defs
public import proofs.«01_k».proof.Proof.Gen.MemBwd.Frame
public import proofs.«01_k».proof.Proof.Gen.MemBwdIdeal.Value
public import proofs.«01_k».proof.Proof.Gen.MemBwdRefIdeal.Run
public import proofs.«01_k».proof.Proof.Gen.MemBwdRefIdeal.Read
public import proofs.«01_k».proof.Proof.Calls.Rms
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
noncomputable section

namespace Cert.MemBwdIdeal.Hand

open Cert.MemBwdIdeal Cert.MemBwdIdeal.Gen Cert.MemBwdIdeal.Value Idealize.ShloMosaic Idealize.ShloMosaic.TcCoe Idealize.SL.Sem Cert.Step

/-- The gradient of the normalised memory. -/
abbrev DN (a b : S256x1024.Idx → EReal) (v w : S1024x1024.Idx → EReal) (r : Fin 256) (j : Fin 1024) : EReal :=
  ∑ k : Fin 1024, (a (ix2 r k) * v (ix2 j k) : EReal) + ∑ k : Fin 1024, (b (ix2 r k) * w (ix2 j k) : EReal)

variable (a b x : Vec Ideal S256x1024 .f32) (n : Vec Ideal S256x1024 .bf16) (v w : Vec Ideal S1024x1024 .bf16) (i j : Fin 1024)

theorem k_at : k0_pay3 a n (ix2 i j) = ∑ k : Fin 256, (n (ix2 k i) * a (ix2 k j) : EReal) := by
  unfold_payloads
  pointwise
theorem v_at : k0_pay4 b n (ix2 i j) = ∑ k : Fin 256, (n (ix2 k i) * b (ix2 k j) : EReal) := by
  unfold_payloads
  pointwise
theorem g_at : k0_pay5 a b v w x (ix2 0 j) = ∑ r : Fin 256, (DN a b v w r j * (x (ix2 r j) * rin (Row x r)) : EReal) := by
  unfold_payloads
  pointwise
  first | done | rfl

end Cert.MemBwdIdeal.Hand

namespace Cert.MemBwdRefIdeal.Hand

open Cert.MemBwdRefIdeal Cert.MemBwdRefIdeal.Gen Cert.MemBwdRefIdeal.Read Idealize.ShloMosaic Idealize.ShloMosaic.TcCoe Idealize.SL.Sem Cert.Step
open Cert.MemBwdIdeal.Hand (DN)

variable (a b x : (⟨S256x1024, .f32⟩ : BufTy).Contents (Elt Ideal)) (n : (⟨S256x1024, .bf16⟩ : BufTy).Contents (Elt Ideal))
  (v w : (⟨S1024x1024, .bf16⟩ : BufTy).Contents (Elt Ideal)) (i j : Fin 1024) (r : Fin 256)

theorem k_at : val_main_v9 a n (ix2 i j) = ∑ k : Fin 256, (n (ix2 k i) * a (ix2 k j) : EReal) := by
  unfold val_main_v9 val_main_v8 val_main_v7 val_main_v0
  pointwise
  exact Finset.sum_congr rfl fun _ _ => mul_comm _ _
theorem v_at : val_main_v10 b n (ix2 i j) = ∑ k : Fin 256, (n (ix2 k i) * b (ix2 k j) : EReal) := by
  unfold val_main_v10 val_main_v6 val_main_v5 val_main_v0
  pointwise
  exact Finset.sum_congr rfl fun _ _ => mul_comm _ _
theorem rin_at : val_main_v18 x (ix2 r 0) = rin (Row x r) := by
  unfold val_main_v18 val_main_v17 val_main_v16 val_main_v15 val_main_v14 val_main_v13 val_main_v12 val_main_v11 val_main_cst_1 val_main_cst_0 val_main_cst
  pointwise
  first | done | rfl
theorem x_at : val_main_v20 x (ix2 r j) = x (ix2 r j) * rin (Row x r) := by
  rw [← rin_at]
  unfold val_main_v20 val_main_v19
  generalize val_main_v18 x = f
  pointwise
theorem dn_at : val_main_v27 a b v w (ix2 r j) = DN a b v w r j := by
  unfold val_main_v27 val_main_v26 val_main_v25 val_main_v2 val_main_v1
  pointwise
  exact add_comm _ _
theorem g_at : val_main_v30 a b x v w (ix2 0 j) = ∑ r : Fin 256, (DN a b v w r j * (x (ix2 r j) * rin (Row x r)) : EReal) := by
  have e : ∀ r : Fin 256, DN a b v w r j * (x (ix2 r j) * rin (Row x r)) = val_main_v27 a b v w (ix2 r j) * val_main_v20 x (ix2 r j) := fun r => by
    rw [dn_at, x_at]
  rw [Finset.sum_congr rfl fun r _ => e r]
  unfold val_main_v30 val_main_v29 val_main_v28 val_main_cst_2
  generalize val_main_v20 x = f
  generalize val_main_v27 a b v w = f2
  pointwise
  exact Finset.sum_congr rfl fun _ _ => mul_comm _ _

end Cert.MemBwdRefIdeal.Hand

namespace Cert.Proof.MemBwd

open Idealize.ShloMosaic Idealize.SL.Sem

theorem algebraic : Cert.algebraic_MemBwdIdeal_MemBwdRefIdeal := by
  pair_intro
  · run_from Cert.MemBwdIdeal.Value.run m g
  · refine (θ_run _ _ _).mono (fun r h c => ?_) (Cert.MemBwdRefIdeal.Value.run m' g')
    obtain ⟨e0, e1, e2, e3, e4, e5, e6⟩ := hagree c
    refine ⟨(h c).1.trans ?_, (h c).2.1.trans ?_, (h c).2.2.1.trans ?_, (h c).2.2.2⟩
    · rw [Cert.MemBwdRefIdeal.Read.val_main_v9_eq, e0, e3]
      funext y
      obtain ⟨r, b, rfl⟩ : ∃ r b : Fin 1024, y = ix2 r b := ⟨y 0, y 1, eq_ix2 y⟩
      exact (Cert.MemBwdRefIdeal.Hand.k_at _ _ r b).trans (Cert.MemBwdIdeal.Hand.k_at _ _ r b).symm
    · rw [Cert.MemBwdRefIdeal.Read.val_main_v10_eq, e1, e3]
      funext y
      obtain ⟨r, b, rfl⟩ : ∃ r b : Fin 1024, y = ix2 r b := ⟨y 0, y 1, eq_ix2 y⟩
      exact (Cert.MemBwdRefIdeal.Hand.v_at _ _ r b).trans (Cert.MemBwdIdeal.Hand.v_at _ _ r b).symm
    · rw [Cert.MemBwdRefIdeal.Read.val_main_v30_eq, e0, e1, e2, e5, e6]
      funext y
      obtain ⟨z, b, rfl⟩ : ∃ (z : Fin 1) (b : Fin 1024), y = ix2 z b := ⟨y 0, y 1, eq_ix2 y⟩
      obtain rfl : z = 0 := Subsingleton.elim _ _
      exact (Cert.MemBwdRefIdeal.Hand.g_at _ _ _ _ _ b).trans (Cert.MemBwdIdeal.Hand.g_at _ _ _ _ _ b).symm

theorem frame_p : Cert.quiescent_MemBwd := fun m ρ _ => Cert.MemBwd.Gen.frame m ρ
theorem frame_pi : Cert.quiescent_MemBwdIdeal := fun m ρ _ => Cert.MemBwdIdeal.Gen.frame m ρ
theorem frame_ri : Cert.quiescent_MemBwdRefIdeal := fun m ρ _ =>
  (θ_run Cert.MemBwdRefIdeal.defs _ _).mono (fun r h => ⟨fun c => (h c).2.2.2, sem_eq_zero_of_no_sems (by decide) r.2⟩)
    (Cert.MemBwdRefIdeal.Value.run (F := Ideal) m ρ)

end Cert.Proof.MemBwd
end
-- ==== Proof.Calls.AttnFwd.lean ====
/- The attention forward: each grid point's rows, a head at a time, and the reference's. -/
module

public import proofs.«01_k».proof.Defs
public import proofs.«01_k».proof.Proof.Gen.AttnFwd.Frame
public import proofs.«01_k».proof.Proof.Gen.AttnFwdIdeal.Value
public import proofs.«01_k».proof.Proof.Gen.AttnFwdRefIdeal.Run
public import proofs.«01_k».proof.Proof.Gen.AttnFwdRefIdeal.Read
public import proofs.«01_k».proof.Proof.Attn.Point
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
noncomputable section

namespace Cert.AttnFwdIdeal.Hand

open Cert.AttnFwdIdeal Cert.AttnFwdIdeal.Gen Idealize.ShloMosaic Idealize.ShloMosaic.TcCoe Idealize.SL.Sem Cert.Attn
open Idealize.ShloMosaic.Pipeline (Dat)
open Cert.AttnBwdIdeal.Hand (sv ld_sv col_split)

/-- One head's weighted sum of the values. -/
abbrev AO {n : ℕ} (q : (⟨2, ![n, 1024]⟩ : Shape).Idx → EReal) (k v : (⟨2, ![256, 1024]⟩ : Shape).Idx → EReal) (h : Fin 4) (r : Fin n)
    (b : Fin 256) : EReal := ∑ j : Fin 256, soft (score (slab q h r) (slab k h)) j * slab v h j b

section payloads
variable (q : Vec Ideal S2048x256 .bf16) (k v : Vec Ideal S256x256 .bf16) (r : Fin 2048) (b : Fin 256)

/-- A block's weights. -/
abbrev pP (j : Fin 256) : EReal := soft (score (fun x => q (ix2 r x)) (fun j x => k (ix2 j x))) j

theorem o0 : k0_pay2 q k v (ix2 r b) = ∑ j, pP q k r j * v (ix2 j b) := by
  unfold_payloads; pointwise; rfl
theorem o1 : k0_pay4 (k0_pay3 q k) v (ix2 r b) = ∑ j, pP q k r j * v (ix2 j b) := by
  unfold_payloads; pointwise; rfl
theorem o2 : k0_pay5 q k v (ix2 r b) = ∑ j, pP q k r j * v (ix2 j b) := by
  unfold_payloads; pointwise; rfl
theorem o3 : k0_pay1 (k0_pay6 q k) (k0_pay7 q k) v (ix2 r b) = ∑ j, pP q k r j * v (ix2 j b) := by
  unfold_payloads; pointwise; rfl
end payloads

variable (x0 : Vec Ideal S2048x1024 .bf16) (x1 x2 : Vec Ideal S256x1024 .bf16)

theorem piece (h : Fin 4) (w : Vec Ideal S2048x256 .bf16) (x : S2048x256.Idx) (y : S2048x1024.Idx)
    (hw : ∀ r b, w (ix2 r b) = ∑ j, pP (sv .bf16 x0 h) (sv .bf16 x1 h) r j * sv .bf16 x2 h (ix2 j b))
    (e0 : (y 0 : ℕ) = x 0) (e1 : (y 1 : ℕ) = 256 * h.val + (x 1 : ℕ)) : w x = AO x0 x1 x2 (hd (y 1)) (y 0) (lo (y 1)) := by
  obtain ⟨r, b, rfl⟩ : ∃ (r : Fin 2048) (b : Fin 256), x = ix2 r b := ⟨x 0, x 1, eq_ix2 x⟩
  obtain ⟨a1, a2⟩ := col_split (y 1) h b e1
  rw [a1, a2, (Fin.ext e0 : y 0 = r), hw]
  rfl

theorem out_at (y : S2048x1024.Idx) : out0_3 x0 x1 x2 y = AO x0 x1 x2 (hd (y 1)) (y 0) (lo (y 1)) := by
  frame_out
  simp only [ld_sv _ 3 768 rfl, ld_sv _ 2 512 rfl, ld_sv _ 1 256 rfl, ld_sv _ 0 0 rfl]
  canon_tiles x h
  · exact piece x0 x1 x2 3 _ x y (fun r b => o3 _ _ _ r b) h0 h1
  · exact piece x0 x1 x2 2 _ x y (fun r b => o2 _ _ _ r b) h0 h1
  · exact piece x0 x1 x2 1 _ x y (fun r b => o1 _ _ _ r b) h0 h1
  · exact piece x0 x1 x2 0 _ x y (fun r b => o0 _ _ _ r b) h0 (by simpa using h1)

variable (m : (ℓ : Loc nD τ sig) → Buf (Elt Ideal) ℓ) (c : Dev nD)

abbrev aQ : S8192x1024.Idx → EReal := m ((c.tc : Thread nD τ).loc main_arg0)
abbrev aK : S256x1024.Idx → EReal := m ((c.tc : Thread nD τ).loc main_arg1)
abbrev aV : S256x1024.Idx → EReal := m ((c.tc : Thread nD τ).loc main_arg2)

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![t.val, 0] := by decide +kernel

theorem blkQ (t : Fin cfg0.N) (r : Fin 2048) (b : Fin 1024) (R : Fin 8192) (hR : (R : ℕ) = 2048 * (t.val) + r.val) :
    iblk m c 0 t (ix2 r b) = aQ m c (ix2 R b) := by
  blk_ext [iblk, V, idx0 t]
  all_goals simp [hR]

theorem blkK (t : Fin cfg0.N) (r : Fin 256) (b : Fin 1024) : iblk m c 1 t (ix2 r b) = aK m c (ix2 r b) := by
  blk_ext [iblk, V, idx1 t]
  all_goals simp

theorem blkV (t : Fin cfg0.N) (r : Fin 256) (b : Fin 1024) : iblk m c 2 t (ix2 r b) = aV m c (ix2 r b) := by
  blk_ext [iblk, V, idx2 t]
  all_goals simp

theorem block (t : Fin cfg0.N) (r : Fin 2048) (b : Fin 1024) (R : Fin 8192) (B : Fin 1024) (hR : (R : ℕ) = 2048 * (t.val) + r.val)
    (hB : B = b) : out0_3 (iblk m c 0 t) (iblk m c 1 t) (iblk m c 2 t) (ix2 r b) = AO (aQ m c) (aK m c) (aV m c) (hd B) R (lo B) := by
  subst hB
  refine (out_at _ _ _ _).trans ?_
  show AO (iblk m c 0 t) (iblk m c 1 t) (iblk m c 2 t) (hd B) r (lo B) = _
  have eq : slab (n := 2048) (iblk m c 0 t) (hd B) r = slab (aQ m c) (hd B) R := funext fun d => blkQ m c t r _ R hR
  have ek : slab (n := 256) (iblk m c 1 t) (hd B) = slab (aK m c) (hd B) := funext fun j => funext fun d => blkK m c t j _
  have ev : slab (n := 256) (iblk m c 2 t) (hd B) = slab (aV m c) (hd B) := funext fun j => funext fun d => blkV m c t j _
  unfold AO
  rw [eq, ek, ev]

theorem final : (dats m 0 c).arrAt 3 cfg0.N = fun y : S8192x1024.Idx => AO (aQ m c) (aK m c) (aV m c) (hd (y 1)) (y 0) (lo (y 1)) := by
  refine (dats m 0 c).arrAt_eq_of_covers 3 _ (by decide +kernel) fun t hf y => ?_
  blk_simp
  rw [after0_3]
  obtain ⟨r, b, rfl⟩ : ∃ (r : Fin 2048) (b : Fin 1024), y = ix2 r b := ⟨y 0, y 1, eq_ix2 y⟩
  have e0 : ((win0_3.blk t).view.emb (ix2 r b) 0 : ℕ) = 2048 * (t.val) + r.val := by
    blk_simp [idx3 t]
    omega
  have e1 : ((win0_3.blk t).view.emb (ix2 r b) 1 : ℕ) = b.val := by
    blk_simp [idx3 t]
    try omega
  exact block m c t r b _ _ e0 (Fin.ext e1)

end Cert.AttnFwdIdeal.Hand

namespace Cert.AttnFwdRefIdeal.Hand

open Cert.AttnFwdRefIdeal Cert.AttnFwdRefIdeal.Gen Cert.AttnFwdRefIdeal.Read Idealize.ShloMosaic Idealize.ShloMosaic.TcCoe Idealize.SL.Sem Cert.Attn
open Cert.AttnFwdIdeal.Hand (AO)

variable (x0 : (⟨S8192x1024, .bf16⟩ : BufTy).Contents (Elt Ideal)) (x1 x2 : (⟨S256x1024, .bf16⟩ : BufTy).Contents (Elt Ideal)) (h : Fin 4) (r : Fin 8192) (j b : Fin 256)

theorem flat_col (h : Fin 4) (b : Fin 256) (hb : h.val * 256 + b.val < 1024) : (⟨h.val * 256 + b.val, hb⟩ : Fin 1024) = col h b :=
  Fin.ext (by simp only [col]; omega)

theorem v3_at : val_main_v3 x0 (ix3 r h b) = slab x0 h r b := by
  unfold val_main_v3 val_main_v0; pointwise; rw [flat_col]; rfl
theorem v4_at : val_main_v4 x1 (ix3 j h b) = slab x1 h j b := by
  unfold val_main_v4 val_main_v1; pointwise; rw [flat_col]; rfl
theorem v5_at : val_main_v5 x2 (ix3 j h b) = slab x2 h j b := by
  unfold val_main_v5 val_main_v2; pointwise; rw [flat_col]; rfl
theorem v8_at : val_main_v8 x0 x1 (ix3 h r j) = score (slab x0 h r) (slab x1 h) j := by
  unfold val_main_v8 val_main_v6 val_main_v7 val_main_cst
  pointwise
  simp only [v3_at, v4_at]
  rfl
theorem v9_at : val_main_v9 x0 x1 (ix2 h r) = top (score (slab x0 h r) (slab x1 h)) := by
  have hr : S4x8192x256.Reduces [2] S4x8192 := by decide
  have e : ∀ f : S4x8192x256.Idx → Ideal .f32, Host.reduce FloatOps.maximumf f (val_main_cst_0 (F := Ideal)) reducesTo_S4x8192x256_S4x8192_d2 h_S_ (ix2 h r)
      = Finset.fold max (Ideal.ofBits FTy.f32 4286578688#32) (fun x : Fin 256 => f (ix3 h r x)) Finset.univ := by
    intro f
    rw [Host.reduce_eq_fold_single (α := Ideal .f32) FloatOps.maximumf f _ _ hr]
    have e1 : (f ∘ hr.lift (ix2 h r)) = fun x : Fin 256 => f (ix3 h r x) := by
      funext x
      refine congrArg f ?_
      funext a
      match a with
      | ⟨0, _⟩ => rfl
      | ⟨1, _⟩ => rfl
      | ⟨2, _⟩ => rfl
    rw [e1]
    rfl
  rw [val_main_v9, e]
  simp only [v8_at]
  rfl
theorem v11_at : val_main_v11 x0 x1 (ix2 h r) = top (score (slab x0 h r) (slab x1 h)) := by
  rw [val_main_v11_apply, v9_at]
  exact max_eq_right ((Finset.le_fold_max _).mpr (Or.inl le_rfl))
theorem v13_at : val_main_v13 x0 x1 (ix3 h r j) = val_main_v11 x0 x1 (ix2 h r) := by
  unfold val_main_v13 val_main_v12
  generalize val_main_v11 x0 x1 = f
  pointwise
theorem v15_at : val_main_v15 x0 x1 (ix3 h r j) = Ideal.exp (score (slab x0 h r) (slab x1 h) j - top (score (slab x0 h r) (slab x1 h))) := by
  have e : val_main_v15 x0 x1 (ix3 h r j) = Ideal.exp (val_main_v8 x0 x1 (ix3 h r j) - val_main_v13 x0 x1 (ix3 h r j)) := by
    unfold val_main_v15 val_main_v14
    generalize val_main_v8 x0 x1 = f
    generalize val_main_v13 x0 x1 = g
    pointwise
  rw [e, v13_at, v8_at, v11_at]
theorem v17_at : val_main_v17 x0 x1 (ix3 h r 0) = ∑ x, val_main_v15 x0 x1 (ix3 h r x) := by
  unfold val_main_v17 val_main_v16 val_main_cst_2
  generalize val_main_v15 x0 x1 = f
  pointwise
theorem v19_at : val_main_v19 x0 x1 (ix3 h r j) = soft (score (slab x0 h r) (slab x1 h)) j := by
  have e : val_main_v19 x0 x1 (ix3 h r j) = Ideal.div (val_main_v15 x0 x1 (ix3 h r j)) (val_main_v17 x0 x1 (ix3 h r 0)) := by
    unfold val_main_v19 val_main_v18
    generalize val_main_v15 x0 x1 = f
    generalize val_main_v17 x0 x1 = g
    pointwise
  rw [e, v17_at]
  simp only [v15_at]
  rfl
theorem v23_at (y : Fin 1024) : val_main_v23 x0 x1 x2 (ix2 r y) = AO x0 x1 x2 (hd y) r (lo y) := by
  have e : val_main_v23 x0 x1 x2 (ix2 r y) = ∑ x, val_main_v5 x2 (ix3 x (hd y) (lo y)) * val_main_v19 x0 x1 (ix3 (hd y) r x) := by
    unfold val_main_v23 val_main_v22 val_main_v21 val_main_v20
    generalize val_main_v5 x2 = f
    generalize val_main_v19 x0 x1 = g
    pointwise
    rfl
  rw [e]
  simp only [v19_at, v5_at]
  exact Finset.sum_congr rfl fun _ _ => mul_comm _ _

end Cert.AttnFwdRefIdeal.Hand

namespace Cert.Proof.AttnFwd

open Idealize.ShloMosaic Idealize.SL.Sem

theorem algebraic : Cert.algebraic_AttnFwdIdeal_AttnFwdRefIdeal := by
  pair_intro
  · run_from Cert.AttnFwdIdeal.Value.run_blocks m g
  · refine (θ_run _ _ _).mono (fun r h c => ?_) (Cert.AttnFwdRefIdeal.Value.run m' g')
    obtain ⟨e0, e1, e2⟩ := hagree c
    refine ⟨(h c).1.trans ?_, (h c).2⟩
    · rw [Cert.AttnFwdRefIdeal.Read.val_main_v23_eq, e0, e1, e2, Cert.AttnFwdIdeal.Hand.final m c]
      funext y
      obtain ⟨r, b, rfl⟩ : ∃ (r : Fin 8192) (b : Fin 1024), y = ix2 r b := ⟨y 0, y 1, eq_ix2 y⟩
      exact Cert.AttnFwdRefIdeal.Hand.v23_at _ _ _ r b

theorem frame_p : Cert.quiescent_AttnFwd := fun m ρ _ => Cert.AttnFwd.Gen.frame m ρ
theorem frame_pi : Cert.quiescent_AttnFwdIdeal := fun m ρ _ => Cert.AttnFwdIdeal.Gen.frame m ρ
theorem frame_ri : Cert.quiescent_AttnFwdRefIdeal := fun m ρ _ =>
  (θ_run Cert.AttnFwdRefIdeal.defs _ _).mono (fun r h => ⟨fun c => (h c).2, sem_eq_zero_of_no_sems (by decide) r.2⟩)
    (Cert.AttnFwdRefIdeal.Value.run (F := Ideal) m ρ)

end Cert.Proof.AttnFwd
end
-- ==== Proof.Calls.SumSlots.lean ====
/- The sum of the eight devices' rows of small gradients. -/
module

public import proofs.«01_k».proof.Defs
public import proofs.«01_k».proof.Proof.Gen.SumSlots.Frame
public import proofs.«01_k».proof.Proof.Gen.SumSlotsIdeal.Value
public import proofs.«01_k».proof.Proof.Gen.SumSlotsRefIdeal.Run
public import proofs.«01_k».proof.Proof.Gen.SumSlotsRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
noncomputable section

namespace Cert.SumSlotsIdeal.Hand

open Cert.SumSlotsIdeal Cert.SumSlotsIdeal.Gen Cert.SumSlotsIdeal.Value Idealize.ShloMosaic Idealize.ShloMosaic.TcCoe Idealize.SL.Sem

theorem sum_at (x : Vec Ideal S8x160x1024 .f32) (r : Fin 160) (b : Fin 1024) :
    G1 x (ix2 r b) = ∑ k : Fin 8, (x (ix3 k r b) : EReal) := by
  rw [Fin.sum_univ_eight]
  unfold G1
  unfold_payloads
  pointwise
  done

end Cert.SumSlotsIdeal.Hand

namespace Cert.SumSlotsRefIdeal.Hand

open Cert.SumSlotsRefIdeal Cert.SumSlotsRefIdeal.Gen Cert.SumSlotsRefIdeal.Read Idealize.ShloMosaic Idealize.ShloMosaic.TcCoe Idealize.SL.Sem

theorem ref_at (x : (⟨S8x160x1024, .f32⟩ : BufTy).Contents (Elt Ideal)) (r : Fin 160) (b : Fin 1024) :
    val_main_v0 x (ix2 r b) = ∑ k : Fin 8, (x (ix3 k r b) : EReal) := by
  unfold val_main_v0 val_main_cst
  pointwise

end Cert.SumSlotsRefIdeal.Hand

namespace Cert.Proof.SumSlots

open Idealize.ShloMosaic Idealize.SL.Sem

theorem algebraic : Cert.algebraic_SumSlotsIdeal_SumSlotsRefIdeal := by
  pair_intro
  · run_from Cert.SumSlotsIdeal.Value.run m g
  · refine (θ_run _ _ _).mono (fun r h c => ?_) (Cert.SumSlotsRefIdeal.Value.run m' g')
    have e0 := hagree c
    refine ⟨(h c).1.trans ?_, (h c).2⟩
    · rw [Cert.SumSlotsRefIdeal.Read.val_main_v0_eq, e0]
      funext y
      obtain ⟨r, b, rfl⟩ : ∃ (r : Fin 160) (b : Fin 1024), y = ix2 r b := ⟨y 0, y 1, eq_ix2 y⟩
      exact (Cert.SumSlotsRefIdeal.Hand.ref_at _ r b).trans (Cert.SumSlotsIdeal.Hand.sum_at _ r b).symm

theorem frame_p : Cert.quiescent_SumSlots := fun m ρ _ => Cert.SumSlots.Gen.frame m ρ
theorem frame_pi : Cert.quiescent_SumSlotsIdeal := fun m ρ _ => Cert.SumSlotsIdeal.Gen.frame m ρ
theorem frame_ri : Cert.quiescent_SumSlotsRefIdeal := fun m ρ _ =>
  (θ_run Cert.SumSlotsRefIdeal.defs _ _).mono (fun r h => ⟨fun c => (h c).2, sem_eq_zero_of_no_sems (by decide) r.2⟩)
    (Cert.SumSlotsRefIdeal.Value.run (F := Ideal) m ρ)

end Cert.Proof.SumSlots
end
-- ==== Proof.Calls.GroupSum.lean ====
/- The sums over each group of 128 columns. -/
module

public import proofs.«01_k».proof.Defs
public import proofs.«01_k».proof.Proof.Gen.GroupSum.Frame
public import proofs.«01_k».proof.Proof.Gen.GroupSumIdeal.Value
public import proofs.«01_k».proof.Proof.Gen.GroupSumRefIdeal.Run
public import proofs.«01_k».proof.Proof.Gen.GroupSumRefIdeal.Read
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384
noncomputable section

namespace Cert.GroupSumIdeal.Hand

open Cert.GroupSumIdeal Cert.GroupSumIdeal.Gen Cert.GroupSumIdeal.Value Idealize.ShloMosaic Idealize.ShloMosaic.TcCoe Idealize.SL.Sem

/-- The column at place `k` of group `g`. -/
def gcol (g : Fin 8) (k : Fin 128) : Fin 1024 := ⟨128 * g.val + k.val, by have := g.isLt; have := k.isLt; omega⟩

/-- One group's columns. -/
abbrev gp (X : Vec Ideal S128x1024 .f32) (g : Fin 8) : Vec Ideal S128x128 .f32 := fun i => X (ix2 (i 0) (gcol g (i 1)))

/-- The sum over one group. -/
abbrev GS (X : S128x1024.Idx → EReal) (r : Fin 128) (g : Fin 8) : EReal := ∑ k : Fin 128, X (ix2 r (gcol g k))

theorem ld_gp (X : Vec Ideal S128x1024 .f32) (g : Fin 8) (o : ℕ) (ho : o = 128 * g.val)
    (inb : ∀ a, (![0, o] : Fin 2 → ℕ) a + (![128, 128] : Fin 2 → ℕ) a ≤ S128x1024.size a) :
    View.ld X (Rect.unit (s := S128x1024) ![0, o] ![128, 128] inb) = gp X g := by
  subst ho
  funext i
  show X _ = X _
  congr 1
  funext a
  refine Fin.ext ?_
  match a with
  | ⟨0, _⟩ => simp
  | ⟨1, _⟩ => simp [gcol]

section payloads
variable (q : Vec Ideal S128x128 .f32) (r : Fin 128)
theorem p3 : k0_pay3 q (ix2 r 0) = ∑ k : Fin 128, (q (ix2 r k) : EReal) := by
  unfold_payloads; pointwise
theorem p4 : k0_pay4 q (ix2 r 0) = ∑ k : Fin 128, (q (ix2 r k) : EReal) := by
  unfold_payloads; pointwise
theorem p5 : k0_pay5 q (ix2 r 0) = ∑ k : Fin 128, (q (ix2 r k) : EReal) := by
  unfold_payloads; pointwise
theorem p6 : k0_pay6 q (ix2 r 0) = ∑ k : Fin 128, (q (ix2 r k) : EReal) := by
  unfold_payloads; pointwise
theorem p7 : k0_pay7 q (ix2 r 0) = ∑ k : Fin 128, (q (ix2 r k) : EReal) := by
  unfold_payloads; pointwise
theorem p8 : k0_pay8 q (ix2 r 0) = ∑ k : Fin 128, (q (ix2 r k) : EReal) := by
  unfold_payloads; pointwise
theorem p1 : k0_pay1 q (ix2 r 0) = ∑ k : Fin 128, (q (ix2 r k) : EReal) := by
  unfold_payloads; pointwise
theorem p2 : k0_pay2 q (ix2 r 0) = ∑ k : Fin 128, (q (ix2 r k) : EReal) := by
  unfold_payloads; pointwise
end payloads

theorem piece (X : Vec Ideal S128x1024 .f32) (g : Fin 8) (w : Vec Ideal S128x1 .f32) (x : S128x1.Idx) (y : S128x8.Idx)
    (hw : ∀ r : Fin 128, w (ix2 r 0) = ∑ k : Fin 128, (gp X g (ix2 r k) : EReal))
    (e0 : (y 0 : ℕ) = x 0) (e1 : (y 1 : ℕ) = g.val + (x 1 : ℕ)) : w x = GS X (y 0) (y 1) := by
  obtain ⟨r, z, rfl⟩ : ∃ (r : Fin 128) (z : Fin 1), x = ix2 r z := ⟨x 0, x 1, eq_ix2 x⟩
  obtain rfl : z = 0 := Subsingleton.elim _ _
  have a1 : y 1 = g := Fin.ext (e1.trans (Nat.add_zero _))
  rw [a1, (Fin.ext e0 : y 0 = r), hw]
  rfl

theorem sum_at (X : Vec Ideal S128x1024 .f32) (y : S128x8.Idx) : G1 X y = GS X (y 0) (y 1) := by
  unfold G1
  simp only [ld_gp _ 7 896 rfl, ld_gp _ 6 768 rfl, ld_gp _ 5 640 rfl, ld_gp _ 4 512 rfl, ld_gp _ 3 384 rfl, ld_gp _ 2 256 rfl, ld_gp _ 1 128 rfl, ld_gp _ 0 0 rfl]
  canon_tiles x h
  · exact piece X 7 _ x y (fun r => p2 _ r) h0 h1
  · exact piece X 6 _ x y (fun r => p1 _ r) h0 h1
  · exact piece X 5 _ x y (fun r => p8 _ r) h0 h1
  · exact piece X 4 _ x y (fun r => p7 _ r) h0 h1
  · exact piece X 3 _ x y (fun r => p6 _ r) h0 h1
  · exact piece X 2 _ x y (fun r => p5 _ r) h0 h1
  · exact piece X 1 _ x y (fun r => p4 _ r) h0 h1
  · exact piece X 0 _ x y (fun r => p3 _ r) h0 (by simpa using h1)

end Cert.GroupSumIdeal.Hand

namespace Cert.GroupSumRefIdeal.Hand

open Cert.GroupSumRefIdeal Cert.GroupSumRefIdeal.Gen Cert.GroupSumRefIdeal.Read Idealize.ShloMosaic Idealize.ShloMosaic.TcCoe Idealize.SL.Sem
open Cert.GroupSumIdeal.Hand (GS gcol)

theorem flat (g : Fin 8) (k : Fin 128) (hb : g.val * 128 + k.val < 1024) : (⟨g.val * 128 + k.val, hb⟩ : Fin 1024) = gcol g k :=
  Fin.ext (by simp only [gcol]; omega)

theorem v5_at (x : (⟨S128x1024, .f32⟩ : BufTy).Contents (Elt Ideal)) (r : Fin 128) (g : Fin 8) : val_main_v5 x (ix2 r g) = GS x r g := by
  unfold val_main_v5 val_main_v4 val_main_cst_0
  pointwise
  simp only [flat]

theorem v7_at (x : (⟨S128x1024, .f32⟩ : BufTy).Contents (Elt Ideal)) (r : Fin 128) (g : Fin 8) : val_main_v7 x (ix2 r g) = GS x r g := by
  rw [← v5_at]
  unfold val_main_v7 val_main_v6 val_main_cst_1
  generalize val_main_v5 x = f
  pointwise
  first | done | simp only [Finset.univ_unique, Finset.sum_singleton]

end Cert.GroupSumRefIdeal.Hand

namespace Cert.Proof.GroupSum

open Idealize.ShloMosaic Idealize.SL.Sem

theorem algebraic : Cert.algebraic_GroupSumIdeal_GroupSumRefIdeal := by
  pair_intro
  · run_from Cert.GroupSumIdeal.Value.run m g
  · refine (θ_run _ _ _).mono (fun r h c => ?_) (Cert.GroupSumRefIdeal.Value.run m' g')
    have e0 := hagree c
    refine ⟨(h c).1.trans ?_, (h c).2⟩
    · rw [Cert.GroupSumRefIdeal.Read.val_main_v7_eq, e0]
      funext y
      obtain ⟨r, b, rfl⟩ : ∃ (r : Fin 128) (b : Fin 8), y = ix2 r b := ⟨y 0, y 1, eq_ix2 y⟩
      exact (Cert.GroupSumRefIdeal.Hand.v7_at _ r b).trans (Cert.GroupSumIdeal.Hand.sum_at _ (ix2 r b)).symm

theorem frame_p : Cert.quiescent_GroupSum := fun m ρ _ => Cert.GroupSum.Gen.frame m ρ
theorem frame_pi : Cert.quiescent_GroupSumIdeal := fun m ρ _ => Cert.GroupSumIdeal.Gen.frame m ρ
theorem frame_ri : Cert.quiescent_GroupSumRefIdeal := fun m ρ _ =>
  (θ_run Cert.GroupSumRefIdeal.defs _ _).mono (fun r h => ⟨fun c => (h c).2, sem_eq_zero_of_no_sems (by decide) r.2⟩)
    (Cert.GroupSumRefIdeal.Value.run (F := Ideal) m ρ)

end Cert.Proof.GroupSum
end
-- ==== Proof.lean ====
module

public import proofs.«01_k».proof.Proof.Gen.SumSlots.Frame
public import proofs.«01_k».proof.Proof.Gen.SumSlotsIdeal.Frame
public import proofs.«01_k».proof.Proof.Gen.SumSlotsIdeal.Value
public import proofs.«01_k».proof.Proof.Gen.SumSlotsRefIdeal.Run
public import proofs.«01_k».proof.Proof.Gen.SumSlotsRefIdeal.Read
public import proofs.«01_k».proof.Proof.Gen.GroupSum.Frame
public import proofs.«01_k».proof.Proof.Gen.GroupSumIdeal.Frame
public import proofs.«01_k».proof.Proof.Gen.GroupSumIdeal.Value
public import proofs.«01_k».proof.Proof.Gen.GroupSumRefIdeal.Run
public import proofs.«01_k».proof.Proof.Gen.GroupSumRefIdeal.Read
public import proofs.«01_k».proof.Proof.Gen.RmsFwd.Frame
public import proofs.«01_k».proof.Proof.Gen.RmsFwdIdeal.Frame
public import proofs.«01_k».proof.Proof.Gen.RmsFwdIdeal.Value
public import proofs.«01_k».proof.Proof.Gen.RmsFwdRefIdeal.Run
public import proofs.«01_k».proof.Proof.Gen.RmsFwdRefIdeal.Read
public import proofs.«01_k».proof.Proof.Gen.MemKv.Frame
public import proofs.«01_k».proof.Proof.Gen.MemKvIdeal.Frame
public import proofs.«01_k».proof.Proof.Gen.MemKvIdeal.Value
public import proofs.«01_k».proof.Proof.Gen.MemKvRefIdeal.Run
public import proofs.«01_k».proof.Proof.Gen.MemKvRefIdeal.Read
public import proofs.«01_k».proof.Proof.Gen.MemBwd.Frame
public import proofs.«01_k».proof.Proof.Gen.MemBwdIdeal.Frame
public import proofs.«01_k».proof.Proof.Gen.MemBwdIdeal.Value
public import proofs.«01_k».proof.Proof.Gen.MemBwdRefIdeal.Run
public import proofs.«01_k».proof.Proof.Gen.MemBwdRefIdeal.Read
public import proofs.«01_k».proof.Proof.Gen.AttnFwd.Frame
public import proofs.«01_k».proof.Proof.Gen.AttnFwdIdeal.Frame
public import proofs.«01_k».proof.Proof.Gen.AttnFwdIdeal.Value
public import proofs.«01_k».proof.Proof.Gen.AttnFwdRefIdeal.Run
public import proofs.«01_k».proof.Proof.Gen.AttnFwdRefIdeal.Read
public import proofs.«01_k».proof.Proof.Gen.AdamwNorms.Frame
public import proofs.«01_k».proof.Proof.Gen.AdamwNormsIdeal.Frame
public import proofs.«01_k».proof.Proof.Gen.AdamwNormsIdeal.Value
public import proofs.«01_k».proof.Proof.Gen.AdamwNormsRefIdeal.Run
public import proofs.«01_k».proof.Proof.Gen.AdamwNormsRefIdeal.Read
public import proofs.«01_k».proof.Proof.Gen.AdamwMixed.Frame
public import proofs.«01_k».proof.Proof.Gen.AdamwMixedIdeal.Frame
public import proofs.«01_k».proof.Proof.Gen.AdamwMixedIdeal.Value
public import proofs.«01_k».proof.Proof.Gen.AdamwMixedRefIdeal.Run
public import proofs.«01_k».proof.Proof.Gen.AdamwMixedRefIdeal.Read
public import proofs.«01_k».proof.Proof.Gen.AdamwEven.Frame
public import proofs.«01_k».proof.Proof.Gen.AdamwEvenIdeal.Frame
public import proofs.«01_k».proof.Proof.Gen.AdamwEvenIdeal.Value
public import proofs.«01_k».proof.Proof.Gen.AdamwEvenRefIdeal.Run
public import proofs.«01_k».proof.Proof.Gen.AdamwEvenRefIdeal.Read
public import proofs.«01_k».proof.Proof.Gen.AdamwTaps.Frame
public import proofs.«01_k».proof.Proof.Gen.AdamwTapsIdeal.Frame
public import proofs.«01_k».proof.Proof.Gen.AdamwTapsIdeal.Value
public import proofs.«01_k».proof.Proof.Gen.AdamwTapsRefIdeal.Run
public import proofs.«01_k».proof.Proof.Gen.AdamwTapsRefIdeal.Read
public import proofs.«01_k».proof.Proof.Gen.AdamwRest.Frame
public import proofs.«01_k».proof.Proof.Gen.AdamwRestIdeal.Frame
public import proofs.«01_k».proof.Proof.Gen.AdamwRestIdeal.Value
public import proofs.«01_k».proof.Proof.Gen.AdamwRestRefIdeal.Run
public import proofs.«01_k».proof.Proof.Gen.AdamwRestRefIdeal.Read
public import proofs.«01_k».proof.Proof.Gen.FfnLoss.Frame
public import proofs.«01_k».proof.Proof.Gen.FfnLossIdeal.Frame
public import proofs.«01_k».proof.Proof.Gen.FfnLossIdeal.Value
public import proofs.«01_k».proof.Proof.Gen.FfnLossRefIdeal.Run
public import proofs.«01_k».proof.Proof.Gen.FfnLossRefIdeal.Read
public import proofs.«01_k».proof.Proof.Gen.FfnDn.Frame
public import proofs.«01_k».proof.Proof.Gen.FfnDnIdeal.Frame
public import proofs.«01_k».proof.Proof.Gen.FfnDnIdeal.Value
public import proofs.«01_k».proof.Proof.Gen.FfnDnRefIdeal.Run
public import proofs.«01_k».proof.Proof.Gen.FfnDnRefIdeal.Read
public import proofs.«01_k».proof.Proof.Gen.OdDn.Frame
public import proofs.«01_k».proof.Proof.Gen.OdDnIdeal.Frame
public import proofs.«01_k».proof.Proof.Gen.OdDnIdeal.Value
public import proofs.«01_k».proof.Proof.Gen.OdDnRefIdeal.Run
public import proofs.«01_k».proof.Proof.Gen.OdDnRefIdeal.Read
public import proofs.«01_k».proof.Proof.Gen.EvDn.Frame
public import proofs.«01_k».proof.Proof.Gen.EvDnIdeal.Frame
public import proofs.«01_k».proof.Proof.Gen.EvDnIdeal.Value
public import proofs.«01_k».proof.Proof.Gen.EvDnRefIdeal.Run
public import proofs.«01_k».proof.Proof.Gen.EvDnRefIdeal.Read
public import proofs.«01_k».proof.Proof.Gen.XaDnq.Frame
public import proofs.«01_k».proof.Proof.Gen.XaDnqIdeal.Frame
public import proofs.«01_k».proof.Proof.Gen.XaDnqIdeal.Value
public import proofs.«01_k».proof.Proof.Gen.XaDnqRefIdeal.Run
public import proofs.«01_k».proof.Proof.Gen.XaDnqRefIdeal.Read
public import proofs.«01_k».proof.Proof.Gen.FfnDown.Frame
public import proofs.«01_k».proof.Proof.Gen.FfnDownIdeal.Frame
public import proofs.«01_k».proof.Proof.Gen.FfnDownIdeal.Value
public import proofs.«01_k».proof.Proof.Gen.FfnDownRefIdeal.Run
public import proofs.«01_k».proof.Proof.Gen.FfnDownRefIdeal.Read
public import proofs.«01_k».proof.Proof.Gen.XaO.Frame
public import proofs.«01_k».proof.Proof.Gen.XaOIdeal.Frame
public import proofs.«01_k».proof.Proof.Gen.XaOIdeal.Value
public import proofs.«01_k».proof.Proof.Gen.XaORefIdeal.Run
public import proofs.«01_k».proof.Proof.Gen.XaORefIdeal.Read
public import proofs.«01_k».proof.Defs
public import proofs.«01_k».proof.Proof.Gen.AttnBwd.Frame
public import proofs.«01_k».proof.Proof.Gen.AttnBwdIdeal.Value
public import proofs.«01_k».proof.Proof.Gen.AttnBwdRefIdeal.Run
public import proofs.«01_k».proof.Proof.Gen.AttnBwdRefIdeal.Read
public import proofs.«01_k».proof.Proof.Gen.FfnDhid.Frame
public import proofs.«01_k».proof.Proof.Gen.FfnDhidIdeal.Value
public import proofs.«01_k».proof.Proof.Gen.FfnDhidRefIdeal.Run
public import proofs.«01_k».proof.Proof.Gen.FfnDhidRefIdeal.Read
public import proofs.«01_k».proof.Proof.Gen.FfnDwd.Frame
public import proofs.«01_k».proof.Proof.Gen.FfnDwdIdeal.Value
public import proofs.«01_k».proof.Proof.Gen.FfnDwdRefIdeal.Run
public import proofs.«01_k».proof.Proof.Gen.FfnDwdRefIdeal.Read
public import proofs.«01_k».proof.Proof.Gen.FfnDwg.Frame
public import proofs.«01_k».proof.Proof.Gen.FfnDwgIdeal.Value
public import proofs.«01_k».proof.Proof.Gen.FfnDwgRefIdeal.Run
public import proofs.«01_k».proof.Proof.Gen.FfnDwgRefIdeal.Read
public import proofs.«01_k».proof.Proof.Gen.XaDwo.Frame
public import proofs.«01_k».proof.Proof.Gen.XaDwoIdeal.Value
public import proofs.«01_k».proof.Proof.Gen.XaDwoRefIdeal.Run
public import proofs.«01_k».proof.Proof.Gen.XaDwoRefIdeal.Read
public import proofs.«01_k».proof.Proof.Gen.XaDwq.Frame
public import proofs.«01_k».proof.Proof.Gen.XaDwqIdeal.Value
public import proofs.«01_k».proof.Proof.Gen.XaDwqRefIdeal.Run
public import proofs.«01_k».proof.Proof.Gen.XaDwqRefIdeal.Read
public import proofs.«01_k».proof.Proof.Gen.OdDwin.Frame
public import proofs.«01_k».proof.Proof.Gen.OdDwinIdeal.Value
public import proofs.«01_k».proof.Proof.Gen.OdDwinRefIdeal.Run
public import proofs.«01_k».proof.Proof.Gen.OdDwinRefIdeal.Read
public import proofs.«01_k».proof.Proof.Gen.EvDwin.Frame
public import proofs.«01_k».proof.Proof.Gen.EvDwinIdeal.Value
public import proofs.«01_k».proof.Proof.Gen.EvDwinRefIdeal.Run
public import proofs.«01_k».proof.Proof.Gen.EvDwinRefIdeal.Read
public import proofs.«01_k».proof.Proof.Gen.XaDo.Frame
public import proofs.«01_k».proof.Proof.Gen.XaDoIdeal.Value
public import proofs.«01_k».proof.Proof.Gen.XaDoRefIdeal.Run
public import proofs.«01_k».proof.Proof.Gen.XaDoRefIdeal.Read
public import proofs.«01_k».proof.Proof.Gen.XaQ.Frame
public import proofs.«01_k».proof.Proof.Gen.XaQIdeal.Value
public import proofs.«01_k».proof.Proof.Gen.XaQRefIdeal.Run
public import proofs.«01_k».proof.Proof.Gen.XaQRefIdeal.Read
public import proofs.«01_k».proof.Proof.Gen.EvIn.Frame
public import proofs.«01_k».proof.Proof.Gen.EvInIdeal.Value
public import proofs.«01_k».proof.Proof.Gen.EvInRefIdeal.Run
public import proofs.«01_k».proof.Proof.Gen.EvInRefIdeal.Read
public import proofs.«01_k».proof.Proof.Gen.OdIn.Frame
public import proofs.«01_k».proof.Proof.Gen.OdInIdeal.Value
public import proofs.«01_k».proof.Proof.Gen.OdInRefIdeal.Run
public import proofs.«01_k».proof.Proof.Gen.OdInRefIdeal.Read
public import proofs.«01_k».proof.Proof.Gen.FfnUp.Frame
public import proofs.«01_k».proof.Proof.Gen.FfnUpIdeal.Value
public import proofs.«01_k».proof.Proof.Gen.FfnUpRefIdeal.Run
public import proofs.«01_k».proof.Proof.Gen.FfnUpRefIdeal.Read
public import Idealize.ShloMosaic.Adequacy
public import Idealize.ShloMosaic.Init
public import proofs.«01_k».proof.Proof.Gen.FinishEvIn.Frame
public import proofs.«01_k».proof.Proof.Gen.FinishEvInIdeal.Frame
public import proofs.«01_k».proof.Proof.Gen.FinishEvInRefIdeal.Run
public import proofs.«01_k».proof.Proof.Gen.FinishEvInRefIdeal.Read
public import proofs.«01_k».proof.Proof.Gen.FinishOdIn.Frame
public import proofs.«01_k».proof.Proof.Gen.FinishOdInIdeal.Frame
public import proofs.«01_k».proof.Proof.Gen.FinishOdInRefIdeal.Run
public import proofs.«01_k».proof.Proof.Gen.FinishOdInRefIdeal.Read
public import proofs.«01_k».proof.Proof.Gen.FinishOut.Frame
public import proofs.«01_k».proof.Proof.Gen.FinishOutIdeal.Frame
public import proofs.«01_k».proof.Proof.Gen.FinishOutRefIdeal.Run
public import proofs.«01_k».proof.Proof.Gen.FinishOutRefIdeal.Read
public import proofs.«01_k».proof.Proof.Gen.FinishXa.Frame
public import proofs.«01_k».proof.Proof.Gen.FinishXaIdeal.Frame
public import proofs.«01_k».proof.Proof.Gen.FinishXaRefIdeal.Run
public import proofs.«01_k».proof.Proof.Gen.FinishXaRefIdeal.Read
public import proofs.«01_k».proof.Proof.Gen.FinishFfn.Frame
public import proofs.«01_k».proof.Proof.Gen.FinishFfnIdeal.Frame
public import proofs.«01_k».proof.Proof.Gen.FinishFfnRefIdeal.Run
public import proofs.«01_k».proof.Proof.Gen.FinishFfnRefIdeal.Read
public import proofs.«01_k».proof.Proof.Attn.Claim
public import proofs.«01_k».proof.Proof.Calls.FfnDhid
public import proofs.«01_k».proof.Proof.Calls.FfnDn
public import proofs.«01_k».proof.Proof.Calls.OdDn
public import proofs.«01_k».proof.Proof.Calls.EvDn
public import proofs.«01_k».proof.Proof.Calls.XaDnq
public import proofs.«01_k».proof.Proof.Calls.FfnDwd
public import proofs.«01_k».proof.Proof.Calls.FfnDwg
public import proofs.«01_k».proof.Proof.Calls.XaDwo
public import proofs.«01_k».proof.Proof.Calls.XaDwq
public import proofs.«01_k».proof.Proof.Calls.OdDwin
public import proofs.«01_k».proof.Proof.Calls.EvDwin
public import proofs.«01_k».proof.Proof.Calls.XaDo
public import proofs.«01_k».proof.Proof.Calls.XaQ
public import proofs.«01_k».proof.Proof.Calls.EvIn
public import proofs.«01_k».proof.Proof.Calls.OdIn
public import proofs.«01_k».proof.Proof.Calls.FfnUp
public import proofs.«01_k».proof.Proof.Calls.FfnDown
public import proofs.«01_k».proof.Proof.Calls.XaO
public import proofs.«01_k».proof.Proof.Calls.FfnLoss
public import proofs.«01_k».proof.Proof.Calls.AdamwNorms
public import proofs.«01_k».proof.Proof.Calls.AdamwMixed
public import proofs.«01_k».proof.Proof.Calls.AdamwEven
public import proofs.«01_k».proof.Proof.Calls.AdamwTaps
public import proofs.«01_k».proof.Proof.Calls.AdamwRest
public import proofs.«01_k».proof.Proof.Calls.FinishEvIn
public import proofs.«01_k».proof.Proof.Calls.FinishOdIn
public import proofs.«01_k».proof.Proof.Calls.FinishOut
public import proofs.«01_k».proof.Proof.Calls.FinishXa
public import proofs.«01_k».proof.Proof.Calls.FinishFfn
public import proofs.«01_k».proof.Proof.Calls.RmsFwd
public import proofs.«01_k».proof.Proof.Calls.MemKv
public import proofs.«01_k».proof.Proof.Calls.MemBwd
public import proofs.«01_k».proof.Proof.Calls.AttnFwd
public import proofs.«01_k».proof.Proof.Calls.SumSlots
public import proofs.«01_k».proof.Proof.Calls.GroupSum

@[expose] public section

noncomputable section

namespace Cert.Proof

open Idealize.ShloMosaic Idealize.SL.Sem

theorem claim : Cert.Claim := ⟨
  Cert.AttnBwd.Gen.facts, Cert.AttnBwdIdeal.Gen.facts, Cert.AttnBwdRefIdeal.Gen.facts, Cert.FfnDhid.Gen.facts,
  Cert.FfnDhidIdeal.Gen.facts, Cert.FfnDhidRefIdeal.Gen.facts, Cert.FfnDn.Gen.facts, Cert.FfnDnIdeal.Gen.facts,
  Cert.FfnDnRefIdeal.Gen.facts, Cert.OdDn.Gen.facts, Cert.OdDnIdeal.Gen.facts, Cert.OdDnRefIdeal.Gen.facts,
  Cert.EvDn.Gen.facts, Cert.EvDnIdeal.Gen.facts, Cert.EvDnRefIdeal.Gen.facts, Cert.XaDnq.Gen.facts,
  Cert.XaDnqIdeal.Gen.facts, Cert.XaDnqRefIdeal.Gen.facts, Cert.FfnDwd.Gen.facts, Cert.FfnDwdIdeal.Gen.facts,
  Cert.FfnDwdRefIdeal.Gen.facts, Cert.FfnDwg.Gen.facts, Cert.FfnDwgIdeal.Gen.facts, Cert.FfnDwgRefIdeal.Gen.facts,
  Cert.XaDwo.Gen.facts, Cert.XaDwoIdeal.Gen.facts, Cert.XaDwoRefIdeal.Gen.facts, Cert.XaDwq.Gen.facts,
  Cert.XaDwqIdeal.Gen.facts, Cert.XaDwqRefIdeal.Gen.facts, Cert.OdDwin.Gen.facts, Cert.OdDwinIdeal.Gen.facts,
  Cert.OdDwinRefIdeal.Gen.facts, Cert.EvDwin.Gen.facts, Cert.EvDwinIdeal.Gen.facts, Cert.EvDwinRefIdeal.Gen.facts,
  Cert.XaDo.Gen.facts, Cert.XaDoIdeal.Gen.facts, Cert.XaDoRefIdeal.Gen.facts, Cert.XaQ.Gen.facts,
  Cert.XaQIdeal.Gen.facts, Cert.XaQRefIdeal.Gen.facts, Cert.EvIn.Gen.facts, Cert.EvInIdeal.Gen.facts,
  Cert.EvInRefIdeal.Gen.facts, Cert.OdIn.Gen.facts, Cert.OdInIdeal.Gen.facts, Cert.OdInRefIdeal.Gen.facts,
  Cert.FfnUp.Gen.facts, Cert.FfnUpIdeal.Gen.facts, Cert.FfnUpRefIdeal.Gen.facts, Cert.FfnDown.Gen.facts,
  Cert.FfnDownIdeal.Gen.facts, Cert.FfnDownRefIdeal.Gen.facts, Cert.XaO.Gen.facts, Cert.XaOIdeal.Gen.facts,
  Cert.XaORefIdeal.Gen.facts, Cert.FfnLoss.Gen.facts, Cert.FfnLossIdeal.Gen.facts, Cert.FfnLossRefIdeal.Gen.facts,
  Cert.AdamwNorms.Gen.facts, Cert.AdamwNormsIdeal.Gen.facts, Cert.AdamwNormsRefIdeal.Gen.facts,
  Cert.AdamwMixed.Gen.facts, Cert.AdamwMixedIdeal.Gen.facts, Cert.AdamwMixedRefIdeal.Gen.facts,
  Cert.AdamwEven.Gen.facts, Cert.AdamwEvenIdeal.Gen.facts, Cert.AdamwEvenRefIdeal.Gen.facts, Cert.AdamwTaps.Gen.facts,
  Cert.AdamwTapsIdeal.Gen.facts, Cert.AdamwTapsRefIdeal.Gen.facts, Cert.AdamwRest.Gen.facts,
  Cert.AdamwRestIdeal.Gen.facts, Cert.AdamwRestRefIdeal.Gen.facts, Cert.FinishEvIn.Gen.facts,
  Cert.FinishEvInIdeal.Gen.facts, Cert.FinishEvInRefIdeal.Gen.facts, Cert.FinishOdIn.Gen.facts,
  Cert.FinishOdInIdeal.Gen.facts, Cert.FinishOdInRefIdeal.Gen.facts, Cert.FinishOut.Gen.facts,
  Cert.FinishOutIdeal.Gen.facts, Cert.FinishOutRefIdeal.Gen.facts, Cert.FinishXa.Gen.facts,
  Cert.FinishXaIdeal.Gen.facts, Cert.FinishXaRefIdeal.Gen.facts, Cert.FinishFfn.Gen.facts,
  Cert.FinishFfnIdeal.Gen.facts, Cert.FinishFfnRefIdeal.Gen.facts, Cert.RmsFwd.Gen.facts, Cert.RmsFwdIdeal.Gen.facts,
  Cert.RmsFwdRefIdeal.Gen.facts, Cert.MemKv.Gen.facts, Cert.MemKvIdeal.Gen.facts, Cert.MemKvRefIdeal.Gen.facts,
  Cert.MemBwd.Gen.facts, Cert.MemBwdIdeal.Gen.facts, Cert.MemBwdRefIdeal.Gen.facts, Cert.AttnFwd.Gen.facts,
  Cert.AttnFwdIdeal.Gen.facts, Cert.AttnFwdRefIdeal.Gen.facts, Cert.SumSlots.Gen.facts, Cert.SumSlotsIdeal.Gen.facts,
  Cert.SumSlotsRefIdeal.Gen.facts, Cert.GroupSum.Gen.facts, Cert.GroupSumIdeal.Gen.facts,
  Cert.GroupSumRefIdeal.Gen.facts, Attn.preFacts, FfnDhid.preFacts, FinishEvIn.preFacts, FinishOdIn.preFacts,
  FinishOut.preFacts, FinishXa.preFacts, FinishFfn.preFacts, Attn.frame_p, Attn.frame_pi, Attn.frame_pi_pre,
  Attn.frame_ri, Attn.frame_ri_pre, FfnDhid.frame_p, FfnDhid.frame_pi, FfnDhid.frame_pi_pre, FfnDhid.frame_ri,
  FfnDhid.frame_ri_pre, FfnDn.frame_p, FfnDn.frame_pi, FfnDn.frame_ri, OdDn.frame_p, OdDn.frame_pi, OdDn.frame_ri,
  EvDn.frame_p, EvDn.frame_pi, EvDn.frame_ri, XaDnq.frame_p, XaDnq.frame_pi, XaDnq.frame_ri, FfnDwd.frame_p,
  FfnDwd.frame_pi, FfnDwd.frame_ri, FfnDwg.frame_p, FfnDwg.frame_pi, FfnDwg.frame_ri, XaDwo.frame_p, XaDwo.frame_pi,
  XaDwo.frame_ri, XaDwq.frame_p, XaDwq.frame_pi, XaDwq.frame_ri, OdDwin.frame_p, OdDwin.frame_pi, OdDwin.frame_ri,
  EvDwin.frame_p, EvDwin.frame_pi, EvDwin.frame_ri, XaDo.frame_p, XaDo.frame_pi, XaDo.frame_ri, XaQ.frame_p,
  XaQ.frame_pi, XaQ.frame_ri, EvIn.frame_p, EvIn.frame_pi, EvIn.frame_ri, OdIn.frame_p, OdIn.frame_pi, OdIn.frame_ri,
  FfnUp.frame_p, FfnUp.frame_pi, FfnUp.frame_ri, FfnDown.frame_p, FfnDown.frame_pi, FfnDown.frame_ri, XaO.frame_p,
  XaO.frame_pi, XaO.frame_ri, FfnLoss.frame_p, FfnLoss.frame_pi, FfnLoss.frame_ri, AdamwNorms.frame_p,
  AdamwNorms.frame_pi, AdamwNorms.frame_ri, AdamwMixed.frame_p, AdamwMixed.frame_pi, AdamwMixed.frame_ri,
  AdamwEven.frame_p, AdamwEven.frame_pi, AdamwEven.frame_ri, AdamwTaps.frame_p, AdamwTaps.frame_pi, AdamwTaps.frame_ri,
  AdamwRest.frame_p, AdamwRest.frame_pi, AdamwRest.frame_ri, FinishEvIn.frame_p, FinishEvIn.frame_pi,
  FinishEvIn.frame_ri, FinishEvIn.frame_ri_pre, FinishOdIn.frame_p, FinishOdIn.frame_pi, FinishOdIn.frame_ri,
  FinishOdIn.frame_ri_pre, FinishOut.frame_p, FinishOut.frame_pi, FinishOut.frame_ri, FinishOut.frame_ri_pre,
  FinishXa.frame_p, FinishXa.frame_pi, FinishXa.frame_ri, FinishXa.frame_ri_pre, FinishFfn.frame_p, FinishFfn.frame_pi,
  FinishFfn.frame_ri, FinishFfn.frame_ri_pre, RmsFwd.frame_p, RmsFwd.frame_pi, RmsFwd.frame_ri, MemKv.frame_p,
  MemKv.frame_pi, MemKv.frame_ri, MemBwd.frame_p, MemBwd.frame_pi, MemBwd.frame_ri, AttnFwd.frame_p, AttnFwd.frame_pi,
  AttnFwd.frame_ri, SumSlots.frame_p, SumSlots.frame_pi, SumSlots.frame_ri, GroupSum.frame_p, GroupSum.frame_pi,
  GroupSum.frame_ri, trivial, Attn.algebraic, trivial, FfnDhid.algebraic, trivial, FfnDn.algebraic, trivial,
  OdDn.algebraic, trivial, EvDn.algebraic, trivial, XaDnq.algebraic, trivial, FfnDwd.algebraic, trivial,
  FfnDwg.algebraic, trivial, XaDwo.algebraic, trivial, XaDwq.algebraic, trivial, OdDwin.algebraic, trivial,
  EvDwin.algebraic, trivial, XaDo.algebraic, trivial, XaQ.algebraic, trivial, EvIn.algebraic, trivial, OdIn.algebraic,
  trivial, FfnUp.algebraic, trivial, FfnDown.algebraic, trivial, XaO.algebraic, trivial, FfnLoss.algebraic, trivial,
  AdamwNorms.algebraic, trivial, AdamwMixed.algebraic, trivial, AdamwEven.algebraic, trivial, AdamwTaps.algebraic,
  trivial, AdamwRest.algebraic, trivial, FinishEvIn.algebraic, trivial, FinishOdIn.algebraic, trivial,
  FinishOut.algebraic, trivial, FinishXa.algebraic, trivial, FinishFfn.algebraic, trivial, RmsFwd.algebraic, trivial,
  MemKv.algebraic, trivial, MemBwd.algebraic, trivial, AttnFwd.algebraic, trivial, SumSlots.algebraic, trivial,
  GroupSum.algebraic⟩

end Cert.Proof

end
